-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_forward [hPre_finite_forward : Cert.Pre_finite_forward.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 = (fun _ => 1#1)
    ∧ (Cert.Pre_finite_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.1 = (fun _ => 1#1)
    ∧ (Cert.Pre_finite_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.1 = (fun _ => 1#1)
    ∧ (Cert.Pre_finite_forward.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_forward [hPre_finite_forward : Cert.Pre_finite_forward.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).1 = (fun _ => 1#1)
    ∧ (Cert.Pre_finite_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.1 = (fun _ => 1#1)
    ∧ (Cert.Pre_finite_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.1 = (fun _ => 1#1)
    ∧ (Cert.Pre_finite_forward.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite_forward [hKernel14Ideal : Cert.Kernel14Ideal.Facts] [hPre_finite_forward : Cert.Pre_finite_forward.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_forward m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite_forward [hReference14Ideal : Cert.Reference14Ideal.Facts] [hPre_finite_forward : Cert.Pre_finite_forward.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_forward m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v151) = v3 c
          ∧ r.2.mem ((c.tc : Thread Cert.ReferenceIdeal.nD Cert.ReferenceIdeal.τ).loc Cert.ReferenceIdeal.main_v152) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  IdealRules.named_const.Statement Cert.Kernel14Ideal.κ "mask" .f32 0xF149F2CA#32 ⊥

def algebraic_Kernel14Ideal_Reference14Ideal_pre_finite_forward [hKernel14Ideal : Cert.Kernel14Ideal.Facts] [hReference14Ideal : Cert.Reference14Ideal.Facts] [hPre_finite_forward : Cert.Pre_finite_forward.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_forward m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v47) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v12_0)) (v1 : (c : Dev Cert.Kernel15Ideal.nD) → Buf (Elt Ideal) ((c.tc : Thread Cert.Kernel15Ideal.nD Cert.Kernel15Ideal.τ).loc Cert.Kernel15Ideal.main_v12_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v12_0) = v0 c
          ∧ r.2.mem ((c.tc : Thread Cert.Kernel15Ideal.nD Cert.Kernel15Ideal.τ).loc Cert.Kernel15Ideal.main_v12_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_v12) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v39) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v37) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v30) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v8)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v8) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v11) = v0 c
          ∧ r.2.mem ((c.tc : Thread Cert.Reference20Ideal.nD Cert.Reference20Ideal.τ).loc Cert.Reference20Ideal.main_v12) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v35) = v0 c
          ∧ r.2.mem ((c.tc : Thread Cert.Reference21Ideal.nD Cert.Reference21Ideal.τ).loc Cert.Reference21Ideal.main_v36) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v39) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v37) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v30) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite_forward : Cert.Pre_finite_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_forward (hKernel14Ideal := hKernel14Ideal) (hPre_finite_forward := hPre_finite_forward)
    ∧ quiescent_Reference14Ideal (hReference14Ideal := hReference14Ideal)
    ∧ quiescent_Reference14Ideal_pre_finite_forward (hReference14Ideal := hReference14Ideal) (hPre_finite_forward := hPre_finite_forward)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_forward (hKernel14Ideal := hKernel14Ideal) (hReference14Ideal := hReference14Ideal) (hPre_finite_forward := hPre_finite_forward)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S1x4352x4x128 : Shape := ⟨4, ![1, 4352, 4, 128]⟩
abbrev S1x4352x4x64 : Shape := ⟨4, ![1, 4352, 4, 64]⟩
abbrev S1x4352x64 : Shape := ⟨3, ![1, 4352, 64]⟩
abbrev S_ : Shape := ⟨0, ![]⟩

class Facts : Prop where
  bcast_S_S1x4352x4x128 : S_.BroadcastsInDim S1x4352x4x128 (![] : Fin 0 → Fin S1x4352x4x128.rank)
  bcast_S_S1x4352x4x64 : S_.BroadcastsInDim S1x4352x4x64 (![] : Fin 0 → Fin S1x4352x4x64.rank)
  bcast_S_S1x4352x64 : S_.BroadcastsInDim S1x4352x64 (![] : Fin 0 → Fin S1x4352x64.rank)

variable [Facts]

def fn {F : FTy → Type} [FloatOps F] (main_arg0 : FVec F S1x4352x4x128 .f32) (main_arg1 : FVec F S1x4352x4x64 .f32) (main_arg2 : FVec F S1x4352x4x128 .f32) (main_arg3 : FVec F S1x4352x64 .f32) (main_arg4 : FVec F S1x4352x4x128 .f32) (main_arg5 : FVec F S1x4352x4x128 .f32) : IVec S1x4352x4x128 1 × IVec S1x4352x4x64 1 × IVec S1x4352x4x128 1 × IVec S1x4352x64 1 :=
  let main_v0 : FVec F S1x4352x4x128 .f32 := Host.absf main_arg0
  let main_cst : FVec F S_ .f32 := constant S_ .f32 0x7F800000#32
  let main_v1 : FVec F S1x4352x4x128 .f32 := broadcastInDim S1x4352x4x128 ![] bcast_S_S1x4352x4x128 main_cst
  let main_v2 : IVec S1x4352x4x128 1 := cmpf .olt main_v0 main_v1
  let main_v3 : FVec F S1x4352x4x64 .f32 := Host.absf main_arg1
  let main_cst_0 : FVec F S_ .f32 := constant S_ .f32 0x7F800000#32
  let main_v4 : FVec F S1x4352x4x64 .f32 := broadcastInDim S1x4352x4x64 ![] bcast_S_S1x4352x4x64 main_cst_0
  let main_v5 : IVec S1x4352x4x64 1 := cmpf .olt main_v3 main_v4
  let main_v6 : FVec F S1x4352x4x128 .f32 := Host.absf main_arg2
  let main_cst_1 : FVec F S_ .f32 := constant S_ .f32 0x7F800000#32
  let main_v7 : FVec F S1x4352x4x128 .f32 := broadcastInDim S1x4352x4x128 ![] bcast_S_S1x4352x4x128 main_cst_1
  let main_v8 : IVec S1x4352x4x128 1 := cmpf .olt main_v6 main_v7
  let main_v9 : FVec F S1x4352x64 .f32 := Host.absf main_arg3
  let main_cst_2 : FVec F S_ .f32 := constant S_ .f32 0x7F800000#32
  let main_v10 : FVec F S1x4352x64 .f32 := broadcastInDim S1x4352x64 ![] bcast_S_S1x4352x64 main_cst_2
  let main_v11 : IVec S1x4352x64 1 := cmpf .olt main_v9 main_v10
  (main_v2, main_v5, main_v8, main_v11)
-- ==== Pre_finite_forward.lean ====
abbrev S1x4352x4x128 : Shape := ⟨4, ![1, 4352, 4, 128]⟩
abbrev S1x4352x4x64 : Shape := ⟨4, ![1, 4352, 4, 64]⟩
abbrev S1x4352x64 : Shape := ⟨3, ![1, 4352, 64]⟩
abbrev S_ : Shape := ⟨0, ![]⟩

class Facts : Prop where
  bcast_S_S1x4352x4x128 : S_.BroadcastsInDim S1x4352x4x128 (![] : Fin 0 → Fin S1x4352x4x128.rank)
  bcast_S_S1x4352x4x64 : S_.BroadcastsInDim S1x4352x4x64 (![] : Fin 0 → Fin S1x4352x4x64.rank)
  bcast_S_S1x4352x64 : S_.BroadcastsInDim S1x4352x64 (![] : Fin 0 → Fin S1x4352x64.rank)

variable [Facts]

def fn {F : FTy → Type} [FloatOps F] (main_arg0 : FVec F S1x4352x4x128 .f32) (main_arg1 : FVec F S1x4352x4x64 .f32) (main_arg2 : FVec F S1x4352x4x128 .f32) (main_arg3 : FVec F S1x4352x64 .f32) (main_arg4 : FVec F S1x4352x4x128 .f32) : IVec S1x4352x4x128 1 × IVec S1x4352x4x64 1 × IVec S1x4352x4x128 1 × IVec S1x4352x64 1 :=
  let main_v0 : FVec F S1x4352x4x128 .f32 := Host.absf main_arg0
  let main_cst : FVec F S_ .f32 := constant S_ .f32 0x7F800000#32
  let main_v1 : FVec F S1x4352x4x128 .f32 := broadcastInDim S1x4352x4x128 ![] bcast_S_S1x4352x4x128 main_cst
  let main_v2 : IVec S1x4352x4x128 1 := cmpf .olt main_v0 main_v1
  let main_v3 : FVec F S1x4352x4x64 .f32 := Host.absf main_arg1
  let main_cst_0 : FVec F S_ .f32 := constant S_ .f32 0x7F800000#32
  let main_v4 : FVec F S1x4352x4x64 .f32 := broadcastInDim S1x4352x4x64 ![] bcast_S_S1x4352x4x64 main_cst_0
  let main_v5 : IVec S1x4352x4x64 1 := cmpf .olt main_v3 main_v4
  let main_v6 : FVec F S1x4352x4x128 .f32 := Host.absf main_arg2
  let main_cst_1 : FVec F S_ .f32 := constant S_ .f32 0x7F800000#32
  let main_v7 : FVec F S1x4352x4x128 .f32 := broadcastInDim S1x4352x4x128 ![] bcast_S_S1x4352x4x128 main_cst_1
  let main_v8 : IVec S1x4352x4x128 1 := cmpf .olt main_v6 main_v7
  let main_v9 : FVec F S1x4352x64 .f32 := Host.absf main_arg3
  let main_cst_2 : FVec F S_ .f32 := constant S_ .f32 0x7F800000#32
  let main_v10 : FVec F S1x4352x64 .f32 := broadcastInDim S1x4352x64 ![] bcast_S_S1x4352x64 main_cst_2
  let main_v11 : IVec S1x4352x64 1 := cmpf .olt main_v9 main_v10
  (main_v2, main_v5, main_v8, main_v11)
-- ==== Kernel.lean ====
abbrev S1x4352x4x128 : Shape := ⟨4, ![1, 4352, 4, 128]⟩
abbrev S1x4352x4x64 : Shape := ⟨4, ![1, 4352, 4, 64]⟩
abbrev S1x4352x64 : Shape := ⟨3, ![1, 4352, 64]⟩
abbrev S4352x512 : Shape := ⟨2, ![4352, 512]⟩
abbrev S_ : Shape := ⟨0, ![]⟩
abbrev S1x4352x128 : Shape := ⟨3, ![1, 4352, 128]⟩
abbrev S4352x128 : Shape := ⟨2, ![4352, 128]⟩
abbrev S256x128 : Shape := ⟨2, ![256, 128]⟩
abbrev S256x4352 : Shape := ⟨2, ![256, 4352]⟩
abbrev S1x4352 : Shape := ⟨2, ![1, 4352]⟩
abbrev S256 : Shape := ⟨1, ![256]⟩
abbrev S256x1 : Shape := ⟨2, ![256, 1]⟩

abbrev nBuf : Space → Nat
  | .hbm => 23
  | .vmem => 20
  | .smem => 0
  | _ => 0

abbrev bufTy : (tb : Table) → Fin (tcTables nBuf tb) → BufTy
  | .hbm, ⟨0, _⟩ => ⟨S1x4352x4x128, .f32⟩
  | .hbm, ⟨1, _⟩ => ⟨S1x4352x4x64, .f32⟩
  | .hbm, ⟨2, _⟩ => ⟨S1x4352x4x128, .f32⟩
  | .hbm, ⟨3, _⟩ => ⟨S1x4352x64, .f32⟩
  | .hbm, ⟨4, _⟩ => ⟨S1x4352x4x128, .f32⟩
  | .hbm, ⟨5, _⟩ => ⟨S1x4352x4x128, .f32⟩
  | .hbm, ⟨6, _⟩ => ⟨S4352x512, .f32⟩
  | .hbm, ⟨7, _⟩ => ⟨S_, .i32⟩
  | .hbm, ⟨8, _⟩ => ⟨S_, .f32⟩
  | .hbm, ⟨9, _⟩ => ⟨S1x4352x4x128, .f32⟩
  | .hbm, ⟨10, _⟩ => ⟨S4352x512, .f32⟩
  | .hbm, ⟨11, _⟩ => ⟨S4352x512, .f32⟩
  | .hbm, ⟨12, _⟩ => ⟨S_, .i32⟩
  | .hbm, ⟨13, _⟩ => ⟨S_, .f32⟩
  | .hbm, ⟨14, _⟩ => ⟨S1x4352x128, .f32⟩
  | .hbm, ⟨15, _⟩ => ⟨S4352x128, .f32⟩
  | .hbm, ⟨16, _⟩ => ⟨S4352x512, .f32⟩
  | .hbm, ⟨17, _⟩ => ⟨S4352x512, .f32⟩
  | .hbm, ⟨18, _⟩ => ⟨S4352x512, .f32⟩
  | .hbm, ⟨19, _⟩ => ⟨S4352x512, .f32⟩
  | .hbm, ⟨20, _⟩ => ⟨S4352x512, .f32⟩
  | .hbm, ⟨21, _⟩ => ⟨S4352x128, .f32⟩
  | .hbm, ⟨22, _⟩ => ⟨S4352x512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S4352x128, .f32⟩
  | .local _ .vmem, ⟨5, _⟩ => ⟨S4352x128, .f32⟩
  | .local _ .vmem, ⟨6, _⟩ => ⟨S4352x128, .f32⟩
  | .local _ .vmem, ⟨7, _⟩ => ⟨S4352x128, .f32⟩
  | .local _ .vmem, ⟨8, _⟩ => ⟨S4352x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S4352x128, .f32⟩
  | .local _ .vmem, ⟨16, _⟩ => ⟨S4352x128, .f32⟩
  | .local _ .vmem, ⟨17, _⟩ => ⟨S4352x128, .f32⟩
  | .local _ .vmem, ⟨18, _⟩ => ⟨S4352x128, .f32⟩
  | .local _ .vmem, ⟨19, _⟩ => ⟨S4352x128, .f32⟩
  | _, _ => ⟨S1x4352x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4352x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4352x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4352x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S4352x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4352x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S1x4352x4x128 : Shape := ⟨4, ![1, 4352, 4, 128]⟩
abbrev S1x4352x4x64 : Shape := ⟨4, ![1, 4352, 4, 64]⟩
abbrev S1x4352x64 : Shape := ⟨3, ![1, 4352, 64]⟩
abbrev S1x4096x4x128 : Shape := ⟨4, ![1, 4096, 4, 128]⟩
abbrev S1x4096x4x64 : Shape := ⟨4, ![1, 4096, 4, 64]⟩
abbrev S1x4x4096x4352 : Shape := ⟨4, ![1, 4, 4096, 4352]⟩
abbrev S1x4352x4096x4 : Shape := ⟨4, ![1, 4352, 4096, 4]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x256x4x128 : Shape := ⟨4, ![1, 256, 4, 128]⟩
abbrev S1x256x4x64 : Shape := ⟨4, ![1, 256, 4, 64]⟩
abbrev S1x256x64 : Shape := ⟨3, ![1, 256, 64]⟩
abbrev S1x4x256x256 : Shape := ⟨4, ![1, 4, 256, 256]⟩
abbrev S1x256x256x4 : Shape := ⟨4, ![1, 256, 256, 4]⟩
abbrev S1x4x256 : Shape := ⟨3, ![1, 4, 256]⟩
abbrev S1x4x256x1 : Shape := ⟨4, ![1, 4, 256, 1]⟩
abbrev S1x4x128x256 : Shape := ⟨4, ![1, 4, 128, 256]⟩
abbrev S4x256 : Shape := ⟨2, ![4, 256]⟩
abbrev S1x4x256x128 : Shape := ⟨4, ![1, 4, 256, 128]⟩
abbrev S1x4x128x4352 : Shape := ⟨4, ![1, 4, 128, 4352]⟩
abbrev S4x4096 : Shape := ⟨2, ![4, 4096]⟩
abbrev S1x4x4352x128 : Shape := ⟨4, ![1, 4, 4352, 128]⟩
abbrev S1x4x4096x128 : Shape := ⟨4, ![1, 4, 4096, 128]⟩
abbrev S4352x512 : Shape := ⟨2, ![4352, 512]⟩
abbrev S1x4352x128 : Shape := ⟨3, ![1, 4352, 128]⟩
abbrev S4352x128 : Shape := ⟨2, ![4352, 128]⟩

abbrev nBuf : Space → Nat
  | .hbm => 198
  | .vmem => 0
  | .smem => 0
  | _ => 0

abbrev hbmTy0_0 (i : Nat) : BufTy := match i % 128 with
  | 0 => ⟨S1x4352x4x128, .f32⟩
  | 1 => ⟨S1x4352x4x64, .f32⟩
  | 2 => ⟨S1x4352x4x128, .f32⟩
  | 3 => ⟨S1x4352x64, .f32⟩
  | 4 => ⟨S1x4352x4x128, .f32⟩
  | 5 => ⟨S1x4352x4x128, .f32⟩
  | 6 => ⟨S1x4096x4x128, .f32⟩
  | 7 => ⟨S1x4096x4x64, .f32⟩
  | 8 => ⟨S1x4x4096x4352, .f32⟩
  | 9 => ⟨S1x4352x4096x4, .f32⟩
  | 10 => ⟨S1x4x4096x4352, .f32⟩
  | 11 => ⟨S1x4x4096x4352, .f32⟩
  | 12 => ⟨S_, .f32⟩
  | 13 => ⟨S1x4x4096x4352, .f32⟩
  | 14 => ⟨S1x4x4096x4352, .f32⟩
  | 15 => ⟨S_, .f32⟩
  | 16 => ⟨S1x4x4096, .f32⟩
  | 17 => ⟨S1x4x4096x1, .f32⟩
  | 18 => ⟨S1x4x4096x4352, .f32⟩
  | 19 => ⟨S1x4x4096x4352, .i1⟩
  | 20 => ⟨S1x4x4096x4352, .f32⟩
  | 21 => ⟨S_, .f32⟩
  | 22 => ⟨S1x4x4096, .f32⟩
  | 23 => ⟨S_, .f32⟩
  | 24 => ⟨S1x4x4096, .f32⟩
  | 25 => ⟨S1x4x4096, .f32⟩
  | 26 => ⟨S_, .f32⟩
  | 27 => ⟨S1x4x4096, .f32⟩
  | 28 => ⟨S1x4x4096, .i1⟩
  | 29 => ⟨S_, .f32⟩
  | 30 => ⟨S1x4x4096, .f32⟩
  | 31 => ⟨S1x4x4096, .i1⟩
  | 32 => ⟨S_, .f32⟩
  | 33 => ⟨S1x4x4096, .f32⟩
  | 34 => ⟨S_, .f32⟩
  | 35 => ⟨S1x4x4096, .f32⟩
  | 36 => ⟨S_, .f32⟩
  | 37 => ⟨S1x4x4096, .f32⟩
  | 38 => ⟨S1x4x4096, .f32⟩
  | 39 => ⟨S1x4x4096, .f32⟩
  | 40 => ⟨S1x4x4096x1, .f32⟩
  | 41 => ⟨S1x4x4096x4352, .f32⟩
  | 42 => ⟨S1x4x4096x4352, .f32⟩
  | 43 => ⟨S1x4x4096x4352, .f32⟩
  | 44 => ⟨S_, .f32⟩
  | 45 => ⟨S1x4x4096, .f32⟩
  | 46 => ⟨S1x4x4096x1, .f32⟩
  | 47 => ⟨S1x4x4096x4352, .f32⟩
  | 48 => ⟨S1x4x4096x4352, .f32⟩
  | 49 => ⟨S1x4x4096x1, .f32⟩
  | 50 => ⟨S_, .f32⟩
  | 51 => ⟨S1x4x4096x1, .f32⟩
  | 52 => ⟨S1x4x4096x1, .f32⟩
  | 53 => ⟨S1x4x128x4096, .f32⟩
  | 54 => ⟨S1x4096x4x128, .f32⟩
  | 55 => ⟨S1x256x4x128, .f32⟩
  | 56 => ⟨S1x256x4x64, .f32⟩
  | 57 => ⟨S1x256x4x128, .f32⟩
  | 58 => ⟨S1x256x64, .f32⟩
  | 59 => ⟨S1x256x4x128, .f32⟩
  | 60 => ⟨S1x4x256x256, .f32⟩
  | 61 => ⟨S1x256x256x4, .f32⟩
  | 62 => ⟨S1x4x256x256, .f32⟩
  | 63 => ⟨S1x4x256x256, .f32⟩
  | 64 => ⟨S_, .f32⟩
  | 65 => ⟨S1x4x256x256, .f32⟩
  | 66 => ⟨S1x4x256x256, .f32⟩
  | 67 => ⟨S_, .f32⟩
  | 68 => ⟨S1x4x256, .f32⟩
  | 69 => ⟨S1x4x256x1, .f32⟩
  | 70 => ⟨S1x4x256x256, .f32⟩
  | 71 => ⟨S1x4x256x256, .i1⟩
  | 72 => ⟨S1x4x256x256, .f32⟩
  | 73 => ⟨S_, .f32⟩
  | 74 => ⟨S1x4x256, .f32⟩
  | 75 => ⟨S_, .f32⟩
  | 76 => ⟨S1x4x256, .f32⟩
  | 77 => ⟨S1x4x256, .f32⟩
  | 78 => ⟨S_, .f32⟩
  | 79 => ⟨S1x4x256, .f32⟩
  | 80 => ⟨S1x4x256, .i1⟩
  | 81 => ⟨S_, .f32⟩
  | 82 => ⟨S1x4x256, .f32⟩
  | 83 => ⟨S1x4x256, .i1⟩
  | 84 => ⟨S_, .f32⟩
  | 85 => ⟨S1x4x256, .f32⟩
  | 86 => ⟨S_, .f32⟩
  | 87 => ⟨S1x4x256, .f32⟩
  | 88 => ⟨S_, .f32⟩
  | 89 => ⟨S1x4x256, .f32⟩
  | 90 => ⟨S1x4x256, .f32⟩
  | 91 => ⟨S1x4x256, .f32⟩
  | 92 => ⟨S1x4x256x1, .f32⟩
  | 93 => ⟨S1x4x256x256, .f32⟩
  | 94 => ⟨S1x4x256x256, .f32⟩
  | 95 => ⟨S1x4x256x256, .f32⟩
  | 96 => ⟨S_, .f32⟩
  | 97 => ⟨S1x4x256, .f32⟩
  | 98 => ⟨S1x4x256x1, .f32⟩
  | 99 => ⟨S1x4x256x256, .f32⟩
  | 100 => ⟨S1x4x256x256, .f32⟩
  | 101 => ⟨S1x4x256x1, .f32⟩
  | 102 => ⟨S_, .f32⟩
  | 103 => ⟨S1x4x256x1, .f32⟩
  | 104 => ⟨S1x4x256x1, .f32⟩
  | 105 => ⟨S1x4x128x256, .f32⟩
  | 106 => ⟨S1x256x4x128, .f32⟩
  | 107 => ⟨S1x4352x4x128, .f32⟩
  | 108 => ⟨S1x256x4x128, .f32⟩
  | 109 => ⟨S1x4096x4x128, .f32⟩
  | 110 => ⟨S1x4x128x256, .f32⟩
  | 111 => ⟨S1x4x256x256, .f32⟩
  | 112 => ⟨S1x4x128x256, .f32⟩
  | 113 => ⟨S1x256x4x128, .f32⟩
  | 114 => ⟨S1x4x256x256, .f32⟩
  | 115 => ⟨S1x4x256x256, .f32⟩
  | 116 => ⟨S1x4x256x256, .f32⟩
  | 117 => ⟨S_, .f32⟩
  | 118 => ⟨S1x4x256, .f32⟩
  | 119 => ⟨S1x4x256x1, .f32⟩
  | 120 => ⟨S1x4x256x1, .f32⟩
  | 121 => ⟨S1x4x256x256, .f32⟩
  | 122 => ⟨S1x4x256x256, .f32⟩
  | 123 => ⟨S_, .f32⟩
  | 124 => ⟨S4x256, .f32⟩
  | 125 => ⟨S1x4x256, .f32⟩
  | 126 => ⟨S1x4x256x256, .f32⟩
  | 127 => ⟨S1x4x256x256, .f32⟩
  | _ => ⟨S1x4352x4x128, .f32⟩

abbrev hbmTy0_1 (i : Nat) : BufTy := match i % 128 with
  | 0 => ⟨S1x4x256x256, .f32⟩
  | 1 => ⟨S_, .f32⟩
  | 2 => ⟨S1x4x256x256, .f32⟩
  | 3 => ⟨S1x4x256x256, .f32⟩
  | 4 => ⟨S1x256x256x4, .f32⟩
  | 5 => ⟨S1x256x4x64, .f32⟩
  | 6 => ⟨S1x256x64, .f32⟩
  | 7 => ⟨S1x4x256x128, .f32⟩
  | 8 => ⟨S1x256x4x128, .f32⟩
  | 9 => ⟨S1x4x256x128, .f32⟩
  | 10 => ⟨S1x256x4x128, .f32⟩
  | 11 => ⟨S_, .f32⟩
  | 12 => ⟨S1x4352x4x128, .f32⟩
  | 13 => ⟨S_, .f32⟩
  | 14 => ⟨S1x4352x64, .f32⟩
  | 15 => ⟨S_, .f32⟩
  | 16 => ⟨S1x4352x4x128, .f32⟩
  | 17 => ⟨S_, .f32⟩
  | 18 => ⟨S1x4352x4x64, .f32⟩
  | 19 => ⟨S_, .f32⟩
  | 20 => ⟨S1x4352x4x128, .f32⟩
  | 21 => ⟨S1x4x128x4096, .f32⟩
  | 22 => ⟨S1x4x4096x4352, .f32⟩
  | 23 => ⟨S1x4x128x4352, .f32⟩
  | 24 => ⟨S1x4352x4x128, .f32⟩
  | 25 => ⟨S1x4352x4x128, .f32⟩
  | 26 => ⟨S1x4x4096x4352, .f32⟩
  | 27 => ⟨S1x4x4096x4352, .f32⟩
  | 28 => ⟨S1x4x4096x4352, .f32⟩
  | 29 => ⟨S_, .f32⟩
  | 30 => ⟨S1x4x4096, .f32⟩
  | 31 => ⟨S1x4x4096x1, .f32⟩
  | 32 => ⟨S1x4x4096x1, .f32⟩
  | 33 => ⟨S1x4x4096x4352, .f32⟩
  | 34 => ⟨S1x4x4096x4352, .f32⟩
  | 35 => ⟨S_, .f32⟩
  | 36 => ⟨S4x4096, .f32⟩
  | 37 => ⟨S1x4x4096, .f32⟩
  | 38 => ⟨S1x4x4096x4352, .f32⟩
  | 39 => ⟨S1x4x4096x4352, .f32⟩
  | 40 => ⟨S1x4x4096x4352, .f32⟩
  | 41 => ⟨S_, .f32⟩
  | 42 => ⟨S1x4x4096x4352, .f32⟩
  | 43 => ⟨S1x4x4096x4352, .f32⟩
  | 44 => ⟨S1x4352x4096x4, .f32⟩
  | 45 => ⟨S1x4096x4x64, .f32⟩
  | 46 => ⟨S1x4352x64, .f32⟩
  | 47 => ⟨S1x4352x64, .f32⟩
  | 48 => ⟨S1x4x4352x128, .f32⟩
  | 49 => ⟨S1x4352x4x128, .f32⟩
  | 50 => ⟨S1x4352x4x128, .f32⟩
  | 51 => ⟨S1x4x4096x128, .f32⟩
  | 52 => ⟨S1x4096x4x128, .f32⟩
  | 53 => ⟨S_, .f32⟩
  | 54 => ⟨S1x4352x4x64, .f32⟩
  | 55 => ⟨S1x4352x4x64, .f32⟩
  | 56 => ⟨S_, .f32⟩
  | 57 => ⟨S1x4352x4x128, .f32⟩
  | 58 => ⟨S1x4352x4x128, .f32⟩
  | 59 => ⟨S4352x512, .f32⟩
  | 60 => ⟨S_, .i32⟩
  | 61 => ⟨S_, .f32⟩
  | 62 => ⟨S1x4352x4x128, .f32⟩
  | 63 => ⟨S4352x512, .f32⟩
  | 64 => ⟨S4352x512, .f32⟩
  | 65 => ⟨S_, .i32⟩
  | 66 => ⟨S_, .f32⟩
  | 67 => ⟨S1x4352x128, .f32⟩
  | 68 => ⟨S4352x128, .f32⟩
  | 69 => ⟨S4352x512, .f32⟩
  | _ => ⟨S1x4352x4x128, .f32⟩

abbrev hbmTy (i : Nat) : BufTy := match i / 128 with
  | 0 => hbmTy0_0 i
  | 1 => hbmTy0_1 i
  | _ => ⟨S1x4352x4x128, .f32⟩

abbrev bufTy : (tb : Table) → Fin (tcTables nBuf tb) → BufTy
  | .hbm, ⟨i, _⟩ => hbmTy i
  | _, _ => ⟨S1x4352x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_20 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_21 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_22 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_23 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_24 : Ref sig .tc := ⟨.hbm, 139, rfl⟩
abbrev main_v108 : Ref sig .tc := ⟨.hbm, 140, rfl⟩
abbrev main_cst_25 : Ref sig .tc := ⟨.hbm, 141, rfl⟩
abbrev main_v109 : Ref sig .tc := ⟨.hbm, 142, rfl⟩
abbrev main_cst_26 : Ref sig .tc := ⟨.hbm, 143, rfl⟩
abbrev main_v110 : Ref sig .tc := ⟨.hbm, 144, rfl⟩
abbrev main_cst_27 : Ref sig .tc := ⟨.hbm, 145, rfl⟩
abbrev main_v111 : Ref sig .tc := ⟨.hbm, 146, rfl⟩
abbrev main_cst_28 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_29 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_30 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_31 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_32 : Ref sig .tc := ⟨.hbm, 181, rfl⟩
abbrev main_v142 : Ref sig .tc := ⟨.hbm, 182, rfl⟩
abbrev main_v143 : Ref sig .tc := ⟨.hbm, 183, rfl⟩
abbrev main_cst_33 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_c : Ref sig .tc := ⟨.hbm, 188, rfl⟩
abbrev main_call0_v0 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_c_34 : Ref sig .tc := ⟨.hbm, 193, rfl⟩
abbrev main_call1_v0 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩

abbrev nD : Nat := 1
abbrev τ : Topo := Topo.v7x

variable {F : FTy → Type} [FloatOps F]
-- ==== Kernel2.lean ====
abbrev S4352x2048 : Shape := ⟨2, ![4352, 2048]⟩
abbrev S2048x5632 : Shape := ⟨2, ![2048, 5632]⟩
abbrev S4352x5632 : Shape := ⟨2, ![4352, 5632]⟩
abbrev S4352x8x704 : Shape := ⟨3, ![4352, 8, 704]⟩
abbrev S8x4352x704 : Shape := ⟨3, ![8, 4352, 704]⟩
abbrev S2048x8x704 : Shape := ⟨3, ![2048, 8, 704]⟩
abbrev S8x2048x704 : Shape := ⟨3, ![8, 2048, 704]⟩
abbrev S8x1x2048x704 : Shape := ⟨4, ![8, 1, 2048, 704]⟩
abbrev S1x1088x704 : Shape := ⟨3, ![1, 1088, 704]⟩
abbrev S1x1x1024x704 : Shape := ⟨4, ![1, 1, 1024, 704]⟩
abbrev S1088x1024 : Shape := ⟨2, ![1088, 1024]⟩
abbrev S1088x704 : Shape := ⟨2, ![1088, 704]⟩
abbrev S1024x704 : Shape := ⟨2, ![1024, 704]⟩

abbrev nBuf : Space → Nat
  | .hbm => 11
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x5632, .bf16⟩
  | .hbm, ⟨4, _⟩ => ⟨S4352x8x704, .bf16⟩
  | .hbm, ⟨5, _⟩ => ⟨S8x4352x704, .bf16⟩
  | .hbm, ⟨6, _⟩ => ⟨S2048x5632, .bf16⟩
  | .hbm, ⟨7, _⟩ => ⟨S2048x8x704, .bf16⟩
  | .hbm, ⟨8, _⟩ => ⟨S8x2048x704, .bf16⟩
  | .hbm, ⟨9, _⟩ => ⟨S8x1x2048x704, .bf16⟩
  | .hbm, ⟨10, _⟩ => ⟨S4352x2048, .bf16⟩
  | .local _ .vmem, ⟨0, _⟩ => ⟨S1x1088x704, .bf16⟩
  | .local _ .vmem, ⟨1, _⟩ => ⟨S1x1088x704, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1088x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4352x2048 : Shape := ⟨2, ![4352, 2048]⟩
abbrev S2048x5632 : Shape := ⟨2, ![2048, 5632]⟩
abbrev S4352x5632 : Shape := ⟨2, ![4352, 5632]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x5632, .f32⟩
  | .hbm, ⟨4, _⟩ => ⟨S5632x2048, .f32⟩
  | .hbm, ⟨5, _⟩ => ⟨S2048x5632, .f32⟩
  | .hbm, ⟨6, _⟩ => ⟨S4352x2048, .f32⟩
  | .hbm, ⟨7, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4352x2048 : Shape := ⟨2, ![4352, 2048]⟩
abbrev S2048x5632 : Shape := ⟨2, ![2048, 5632]⟩
abbrev S4352x5632 : Shape := ⟨2, ![4352, 5632]⟩
abbrev S4352x8x704 : Shape := ⟨3, ![4352, 8, 704]⟩
abbrev S8x4352x704 : Shape := ⟨3, ![8, 4352, 704]⟩
abbrev S8x2048x704 : Shape := ⟨3, ![8, 2048, 704]⟩
abbrev S1088x2048 : Shape := ⟨2, ![1088, 2048]⟩
abbrev S1x1088x704 : Shape := ⟨3, ![1, 1088, 704]⟩
abbrev S1x2048x704 : Shape := ⟨3, ![1, 2048, 704]⟩
abbrev S2048x704 : Shape := ⟨2, ![2048, 704]⟩
abbrev S1088x704 : Shape := ⟨2, ![1088, 704]⟩

abbrev nBuf : Space → Nat
  | .hbm => 8
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x2048, .bf16⟩
  | .hbm, ⟨4, _⟩ => ⟨S4352x5632, .bf16⟩
  | .hbm, ⟨5, _⟩ => ⟨S4352x8x704, .bf16⟩
  | .hbm, ⟨6, _⟩ => ⟨S8x4352x704, .bf16⟩
  | .hbm, ⟨7, _⟩ => ⟨S8x2048x704, .bf16⟩
  | .local _ .vmem, ⟨0, _⟩ => ⟨S1088x2048, .bf16⟩
  | .local _ .vmem, ⟨1, _⟩ => ⟨S1088x2048, .bf16⟩
  | .local _ .vmem, ⟨2, _⟩ => ⟨S1x1088x704, .bf16⟩
  | .local _ .vmem, ⟨3, _⟩ => ⟨S1x1088x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S2048x704, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1088x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x2048 : Shape := ⟨2, ![4352, 2048]⟩
abbrev S2048x5632 : Shape := ⟨2, ![2048, 5632]⟩
abbrev S4352x5632 : Shape := ⟨2, ![4352, 5632]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x5632, .f32⟩
  | .hbm, ⟨4, _⟩ => ⟨S5632x2048, .f32⟩
  | .hbm, ⟨5, _⟩ => ⟨S2048x5632, .f32⟩
  | .hbm, ⟨6, _⟩ => ⟨S4352x2048, .f32⟩
  | .hbm, ⟨7, _⟩ => ⟨S2048x5632, .bf16⟩
  | .hbm, ⟨8, _⟩ => ⟨S2048x8x704, .bf16⟩
  | .hbm, ⟨9, _⟩ => ⟨S8x2048x704, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4352x5632 : Shape := ⟨2, ![4352, 5632]⟩
abbrev S5632x2048 : Shape := ⟨2, ![5632, 2048]⟩
abbrev S4352x2048 : Shape := ⟨2, ![4352, 2048]⟩
abbrev S8x1x704x2048 : Shape := ⟨4, ![8, 1, 704, 2048]⟩
abbrev S8x4352x704 : Shape := ⟨3, ![8, 4352, 704]⟩
abbrev S1088x2048 : Shape := ⟨2, ![1088, 2048]⟩
abbrev S1x1x704x2048 : Shape := ⟨4, ![1, 1, 704, 2048]⟩
abbrev S1x1088x704 : Shape := ⟨3, ![1, 1088, 704]⟩
abbrev S704x2048 : Shape := ⟨2, ![704, 2048]⟩
abbrev S1088x704 : Shape := ⟨2, ![1088, 704]⟩

abbrev nBuf : Space → Nat
  | .hbm => 7
  | .vmem => 6
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | .hbm, ⟨3, _⟩ => ⟨S4352x2048, .bf16⟩
  | .hbm, ⟨4, _⟩ => ⟨S5632x2048, .bf16⟩
  | .hbm, ⟨5, _⟩ => ⟨S8x1x704x2048, .bf16⟩
  | .hbm, ⟨6, _⟩ => ⟨S8x4352x704, .bf16⟩
  | .local _ .vmem, ⟨0, _⟩ => ⟨S1088x2048, .bf16⟩
  | .local _ .vmem, ⟨1, _⟩ => ⟨S1088x2048, .bf16⟩
  | .local _ .vmem, ⟨2, _⟩ => ⟨S1x1x704x2048, .bf16⟩
  | .local _ .vmem, ⟨3, _⟩ => ⟨S1x1x704x2048, .bf16⟩
  | .local _ .vmem, ⟨4, _⟩ => ⟨S1x1088x704, .bf16⟩
  | .local _ .vmem, ⟨5, _⟩ => ⟨S1x1088x704, .bf16⟩
  | _, _ => ⟨S4352x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1088x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4352x5632 : Shape := ⟨2, ![4352, 5632]⟩
abbrev S5632x2048 : Shape := ⟨2, ![5632, 2048]⟩
abbrev S4352x2048 : Shape := ⟨2, ![4352, 2048]⟩
abbrev S2048x5632 : Shape := ⟨2, ![2048, 5632]⟩
abbrev S4352x8x704 : Shape := ⟨3, ![4352, 8, 704]⟩
abbrev S8x4352x704 : Shape := ⟨3, ![8, 4352, 704]⟩

abbrev nBuf : Space → Nat
  | .hbm => 10
  | .vmem => 0
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | .hbm, ⟨3, _⟩ => ⟨S4352x2048, .f32⟩
  | .hbm, ⟨4, _⟩ => ⟨S2048x5632, .f32⟩
  | .hbm, ⟨5, _⟩ => ⟨S5632x2048, .f32⟩
  | .hbm, ⟨6, _⟩ => ⟨S4352x5632, .f32⟩
  | .hbm, ⟨7, _⟩ => ⟨S4352x5632, .bf16⟩
  | .hbm, ⟨8, _⟩ => ⟨S4352x8x704, .bf16⟩
  | .hbm, ⟨9, _⟩ => ⟨S8x4352x704, .bf16⟩
  | _, _ => ⟨S4352x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4352x5632 : Shape := ⟨2, ![4352, 5632]⟩
abbrev S5632x2048 : Shape := ⟨2, ![5632, 2048]⟩
abbrev S4352x2048 : Shape := ⟨2, ![4352, 2048]⟩
abbrev S4352x8x704 : Shape := ⟨3, ![4352, 8, 704]⟩
abbrev S8x4352x704 : Shape := ⟨3, ![8, 4352, 704]⟩
abbrev S8x704x2048 : Shape := ⟨3, ![8, 704, 2048]⟩
abbrev S1x1088x704 : Shape := ⟨3, ![1, 1088, 704]⟩
abbrev S1088x2048 : Shape := ⟨2, ![1088, 2048]⟩
abbrev S1x704x2048 : Shape := ⟨3, ![1, 704, 2048]⟩
abbrev S704x2048 : Shape := ⟨2, ![704, 2048]⟩
abbrev S1088x704 : Shape := ⟨2, ![1088, 704]⟩

abbrev nBuf : Space → Nat
  | .hbm => 8
  | .vmem => 7
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | .hbm, ⟨3, _⟩ => ⟨S4352x5632, .bf16⟩
  | .hbm, ⟨4, _⟩ => ⟨S4352x8x704, .bf16⟩
  | .hbm, ⟨5, _⟩ => ⟨S8x4352x704, .bf16⟩
  | .hbm, ⟨6, _⟩ => ⟨S4352x2048, .bf16⟩
  | .hbm, ⟨7, _⟩ => ⟨S8x704x2048, .bf16⟩
  | .local _ .vmem, ⟨0, _⟩ => ⟨S1x1088x704, .bf16⟩
  | .local _ .vmem, ⟨1, _⟩ => ⟨S1x1088x704, .bf16⟩
  | .local _ .vmem, ⟨2, _⟩ => ⟨S1088x2048, .bf16⟩
  | .local _ .vmem, ⟨3, _⟩ => ⟨S1088x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S4352x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1088x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x5632 : Shape := ⟨2, ![4352, 5632]⟩
abbrev S5632x2048 : Shape := ⟨2, ![5632, 2048]⟩
abbrev S4352x2048 : Shape := ⟨2, ![4352, 2048]⟩
abbrev S2048x5632 : Shape := ⟨2, ![2048, 5632]⟩
abbrev S8x704x2048 : Shape := ⟨3, ![8, 704, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | .hbm, ⟨3, _⟩ => ⟨S4352x2048, .f32⟩
  | .hbm, ⟨4, _⟩ => ⟨S2048x5632, .f32⟩
  | .hbm, ⟨5, _⟩ => ⟨S5632x2048, .f32⟩
  | .hbm, ⟨6, _⟩ => ⟨S4352x5632, .f32⟩
  | .hbm, ⟨7, _⟩ => ⟨S5632x2048, .bf16⟩
  | .hbm, ⟨8, _⟩ => ⟨S8x704x2048, .bf16⟩
  | _, _ => ⟨S4352x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4352x2048 : Shape := ⟨2, ![4352, 2048]⟩
abbrev S2048x5216 : Shape := ⟨2, ![2048, 5216]⟩
abbrev S4352x5216 : Shape := ⟨2, ![4352, 5216]⟩
abbrev S4352x2080 : Shape := ⟨2, ![4352, 2080]⟩
abbrev S_ : Shape := ⟨0, ![]⟩
abbrev S4352x96 : Shape := ⟨2, ![4352, 96]⟩
abbrev S4352x3136 : Shape := ⟨2, ![4352, 3136]⟩
abbrev S4352x64 : Shape := ⟨2, ![4352, 64]⟩
abbrev S4352x5376 : Shape := ⟨2, ![4352, 5376]⟩
abbrev S2048x2080 : Shape := ⟨2, ![2048, 2080]⟩
abbrev S2048x96 : Shape := ⟨2, ![2048, 96]⟩
abbrev S2048x3136 : Shape := ⟨2, ![2048, 3136]⟩
abbrev S2048x64 : Shape := ⟨2, ![2048, 64]⟩
abbrev S2048x5376 : Shape := ⟨2, ![2048, 5376]⟩
abbrev S1088x896 : Shape := ⟨2, ![1088, 896]⟩
abbrev S2048x896 : Shape := ⟨2, ![2048, 896]⟩
abbrev S1088x2048 : Shape := ⟨2, ![1088, 2048]⟩

abbrev nBuf : Space → Nat
  | .hbm => 19
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S2048x5216, .f32⟩
  | .hbm, ⟨2, _⟩ => ⟨S4352x5216, .f32⟩
  | .hbm, ⟨3, _⟩ => ⟨S4352x2080, .f32⟩
  | .hbm, ⟨4, _⟩ => ⟨S_, .f32⟩
  | .hbm, ⟨5, _⟩ => ⟨S4352x96, .f32⟩
  | .hbm, ⟨6, _⟩ => ⟨S4352x3136, .f32⟩
  | .hbm, ⟨7, _⟩ => ⟨S_, .f32⟩
  | .hbm, ⟨8, _⟩ => ⟨S4352x64, .f32⟩
  | .hbm, ⟨9, _⟩ => ⟨S4352x5376, .f32⟩
  | .hbm, ⟨10, _⟩ => ⟨S2048x5216, .bf16⟩
  | .hbm, ⟨11, _⟩ => ⟨S2048x2080, .bf16⟩
  | .hbm, ⟨12, _⟩ => ⟨S_, .bf16⟩
  | .hbm, ⟨13, _⟩ => ⟨S2048x96, .bf16⟩
  | .hbm, ⟨14, _⟩ => ⟨S2048x3136, .bf16⟩
  | .hbm, ⟨15, _⟩ => ⟨S_, .bf16⟩
  | .hbm, ⟨16, _⟩ => ⟨S2048x64, .bf16⟩
  | .hbm, ⟨17, _⟩ => ⟨S2048x5376, .bf16⟩
  | .hbm, ⟨18, _⟩ => ⟨S4352x2048, .bf16⟩
  | .local _ .vmem, ⟨0, _⟩ => ⟨S1088x896, .f32⟩
  | .local _ .vmem, ⟨1, _⟩ => ⟨S1088x896, .f32⟩
  | .local _ .vmem, ⟨2, _⟩ => ⟨S2048x896, .bf16⟩
  | .local _ .vmem, ⟨3, _⟩ => ⟨S2048x896, .bf16⟩
  | .local _ .vmem, ⟨4, _⟩ => ⟨S1088x2048, .bf16⟩
  | .local _ .vmem, ⟨5, _⟩ => ⟨S1088x2048, .bf16⟩
  | .local _ .vmem, ⟨6, _⟩ => ⟨S1088x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond3 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x2048 : Shape := ⟨2, ![4352, 2048]⟩
abbrev S2048x5216 : Shape := ⟨2, ![2048, 5216]⟩
abbrev S4352x5216 : Shape := ⟨2, ![4352, 5216]⟩
abbrev S5216x2048 : Shape := ⟨2, ![5216, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x5216, .f32⟩
  | .hbm, ⟨2, _⟩ => ⟨S4352x5216, .f32⟩
  | .hbm, ⟨3, _⟩ => ⟨S4352x5216, .f32⟩
  | .hbm, ⟨4, _⟩ => ⟨S5216x2048, .f32⟩
  | .hbm, ⟨5, _⟩ => ⟨S2048x5216, .f32⟩
  | .hbm, ⟨6, _⟩ => ⟨S4352x2048, .f32⟩
  | .hbm, ⟨7, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4352x2048 : Shape := ⟨2, ![4352, 2048]⟩
abbrev S2048x5216 : Shape := ⟨2, ![2048, 5216]⟩
abbrev S4352x5216 : Shape := ⟨2, ![4352, 5216]⟩
abbrev S4352x2080 : Shape := ⟨2, ![4352, 2080]⟩
abbrev S_ : Shape := ⟨0, ![]⟩
abbrev S4352x96 : Shape := ⟨2, ![4352, 96]⟩
abbrev S4352x3136 : Shape := ⟨2, ![4352, 3136]⟩
abbrev S4352x64 : Shape := ⟨2, ![4352, 64]⟩
abbrev S4352x5376 : Shape := ⟨2, ![4352, 5376]⟩
abbrev S2048x5376 : Shape := ⟨2, ![2048, 5376]⟩
abbrev S1088x2048 : Shape := ⟨2, ![1088, 2048]⟩
abbrev S1088x768 : Shape := ⟨2, ![1088, 768]⟩
abbrev S2048x768 : Shape := ⟨2, ![2048, 768]⟩

abbrev nBuf : Space → Nat
  | .hbm => 12
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S2048x5216, .f32⟩
  | .hbm, ⟨2, _⟩ => ⟨S4352x5216, .f32⟩
  | .hbm, ⟨3, _⟩ => ⟨S4352x2048, .bf16⟩
  | .hbm, ⟨4, _⟩ => ⟨S4352x2080, .f32⟩
  | .hbm, ⟨5, _⟩ => ⟨S_, .f32⟩
  | .hbm, ⟨6, _⟩ => ⟨S4352x96, .f32⟩
  | .hbm, ⟨7, _⟩ => ⟨S4352x3136, .f32⟩
  | .hbm, ⟨8, _⟩ => ⟨S_, .f32⟩
  | .hbm, ⟨9, _⟩ => ⟨S4352x64, .f32⟩
  | .hbm, ⟨10, _⟩ => ⟨S4352x5376, .f32⟩
  | .hbm, ⟨11, _⟩ => ⟨S2048x5376, .bf16⟩
  | .local _ .vmem, ⟨0, _⟩ => ⟨S1088x2048, .bf16⟩
  | .local _ .vmem, ⟨1, _⟩ => ⟨S1088x2048, .bf16⟩
  | .local _ .vmem, ⟨2, _⟩ => ⟨S1088x768, .f32⟩
  | .local _ .vmem, ⟨3, _⟩ => ⟨S1088x768, .f32⟩
  | .local _ .vmem, ⟨4, _⟩ => ⟨S2048x768, .bf16⟩
  | .local _ .vmem, ⟨5, _⟩ => ⟨S2048x768, .bf16⟩
  | .local _ .vmem, ⟨6, _⟩ => ⟨S2048x768, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x2048 : Shape := ⟨2, ![4352, 2048]⟩
abbrev S2048x5216 : Shape := ⟨2, ![2048, 5216]⟩
abbrev S4352x5216 : Shape := ⟨2, ![4352, 5216]⟩
abbrev S5216x2048 : Shape := ⟨2, ![5216, 2048]⟩
abbrev S2048x2080 : Shape := ⟨2, ![2048, 2080]⟩
abbrev S_ : Shape := ⟨0, ![]⟩
abbrev S2048x2176 : Shape := ⟨2, ![2048, 2176]⟩
abbrev S2048x3136 : Shape := ⟨2, ![2048, 3136]⟩
abbrev S2048x3200 : Shape := ⟨2, ![2048, 3200]⟩
abbrev S2048x5376 : Shape := ⟨2, ![2048, 5376]⟩

abbrev nBuf : Space → Nat
  | .hbm => 17
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x5216, .f32⟩
  | .hbm, ⟨2, _⟩ => ⟨S4352x5216, .f32⟩
  | .hbm, ⟨3, _⟩ => ⟨S4352x5216, .f32⟩
  | .hbm, ⟨4, _⟩ => ⟨S5216x2048, .f32⟩
  | .hbm, ⟨5, _⟩ => ⟨S2048x5216, .f32⟩
  | .hbm, ⟨6, _⟩ => ⟨S4352x2048, .f32⟩
  | .hbm, ⟨7, _⟩ => ⟨S2048x2080, .f32⟩
  | .hbm, ⟨8, _⟩ => ⟨S_, .i32⟩
  | .hbm, ⟨9, _⟩ => ⟨S_, .f32⟩
  | .hbm, ⟨10, _⟩ => ⟨S2048x2176, .f32⟩
  | .hbm, ⟨11, _⟩ => ⟨S2048x3136, .f32⟩
  | .hbm, ⟨12, _⟩ => ⟨S_, .i32⟩
  | .hbm, ⟨13, _⟩ => ⟨S_, .f32⟩
  | .hbm, ⟨14, _⟩ => ⟨S2048x3200, .f32⟩
  | .hbm, ⟨15, _⟩ => ⟨S2048x5376, .f32⟩
  | .hbm, ⟨16, _⟩ => ⟨S2048x5376, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel8.lean ====
abbrev S4352x2048 : Shape := ⟨2, ![4352, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S8x1x2048x704 : Shape := ⟨4, ![8, 1, 2048, 704]⟩
abbrev S8x4352x704 : Shape := ⟨3, ![8, 4352, 704]⟩
abbrev S1088x2048 : Shape := ⟨2, ![1088, 2048]⟩
abbrev S1x1x2048x704 : Shape := ⟨4, ![1, 1, 2048, 704]⟩
abbrev S1x1088x704 : Shape := ⟨3, ![1, 1088, 704]⟩
abbrev S2048x704 : Shape := ⟨2, ![2048, 704]⟩
abbrev S1088x704 : Shape := ⟨2, ![1088, 704]⟩

abbrev nBuf : Space → Nat
  | .hbm => 8
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x2048, .bf16⟩
  | .hbm, ⟨3, _⟩ => ⟨S2048x5632, .bf16⟩
  | .hbm, ⟨4, _⟩ => ⟨S2048x8x704, .bf16⟩
  | .hbm, ⟨5, _⟩ => ⟨S8x2048x704, .bf16⟩
  | .hbm, ⟨6, _⟩ => ⟨S8x1x2048x704, .bf16⟩
  | .hbm, ⟨7, _⟩ => ⟨S8x4352x704, .bf16⟩
  | .local _ .vmem, ⟨0, _⟩ => ⟨S1088x2048, .bf16⟩
  | .local _ .vmem, ⟨1, _⟩ => ⟨S1088x2048, .bf16⟩
  | .local _ .vmem, ⟨2, _⟩ => ⟨S1x1x2048x704, .bf16⟩
  | .local _ .vmem, ⟨3, _⟩ => ⟨S1x1x2048x704, .bf16⟩
  | .local _ .vmem, ⟨4, _⟩ => ⟨S1x1088x704, .bf16⟩
  | .local _ .vmem, ⟨5, _⟩ => ⟨S1x1088x704, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1088x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4352x2048 : Shape := ⟨2, ![4352, 2048]⟩
abbrev S2048x5632 : Shape := ⟨2, ![2048, 5632]⟩
abbrev S4352x5632 : Shape := ⟨2, ![4352, 5632]⟩
abbrev S4352x8x704 : Shape := ⟨3, ![4352, 8, 704]⟩
abbrev S8x4352x704 : Shape := ⟨3, ![8, 4352, 704]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x5632, .bf16⟩
  | .hbm, ⟨4, _⟩ => ⟨S4352x8x704, .bf16⟩
  | .hbm, ⟨5, _⟩ => ⟨S8x4352x704, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4352x5632 : Shape := ⟨2, ![4352, 5632]⟩
abbrev S5632x2048 : Shape := ⟨2, ![5632, 2048]⟩
abbrev S4352x8x704 : Shape := ⟨3, ![4352, 8, 704]⟩
abbrev S8x4352x704 : Shape := ⟨3, ![8, 4352, 704]⟩
abbrev S8x1x704x2048 : Shape := ⟨4, ![8, 1, 704, 2048]⟩
abbrev S4352x2048 : Shape := ⟨2, ![4352, 2048]⟩
abbrev S1x1088x704 : Shape := ⟨3, ![1, 1088, 704]⟩
abbrev S1x1x704x1024 : Shape := ⟨4, ![1, 1, 704, 1024]⟩
abbrev S1088x1024 : Shape := ⟨2, ![1088, 1024]⟩
abbrev S1088x704 : Shape := ⟨2, ![1088, 704]⟩
abbrev S704x1024 : Shape := ⟨2, ![704, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x5632, .bf16⟩
  | .hbm, ⟨3, _⟩ => ⟨S4352x8x704, .bf16⟩
  | .hbm, ⟨4, _⟩ => ⟨S8x4352x704, .bf16⟩
  | .hbm, ⟨5, _⟩ => ⟨S5632x2048, .bf16⟩
  | .hbm, ⟨6, _⟩ => ⟨S8x1x704x2048, .bf16⟩
  | .hbm, ⟨7, _⟩ => ⟨S4352x2048, .f32⟩
  | .local _ .vmem, ⟨0, _⟩ => ⟨S1x1088x704, .bf16⟩
  | .local _ .vmem, ⟨1, _⟩ => ⟨S1x1088x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1088x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x5632 : Shape := ⟨2, ![4352, 5632]⟩
abbrev S5632x2048 : Shape := ⟨2, ![5632, 2048]⟩
abbrev S4352x2048 : Shape := ⟨2, ![4352, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | _, _ => ⟨S4352x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S4352x2048 : Shape := ⟨2, ![4352, 2048]⟩
abbrev S2048x5216 : Shape := ⟨2, ![2048, 5216]⟩
abbrev S2048x2080 : Shape := ⟨2, ![2048, 2080]⟩
abbrev S_ : Shape := ⟨0, ![]⟩
abbrev S2048x96 : Shape := ⟨2, ![2048, 96]⟩
abbrev S2048x3136 : Shape := ⟨2, ![2048, 3136]⟩
abbrev S2048x64 : Shape := ⟨2, ![2048, 64]⟩
abbrev S2048x5376 : Shape := ⟨2, ![2048, 5376]⟩
abbrev S4352x5376 : Shape := ⟨2, ![4352, 5376]⟩
abbrev S1088x2048 : Shape := ⟨2, ![1088, 2048]⟩
abbrev S2048x768 : Shape := ⟨2, ![2048, 768]⟩
abbrev S1088x768 : Shape := ⟨2, ![1088, 768]⟩

abbrev nBuf : Space → Nat
  | .hbm => 12
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S2048x5216, .f32⟩
  | .hbm, ⟨2, _⟩ => ⟨S4352x2048, .bf16⟩
  | .hbm, ⟨3, _⟩ => ⟨S2048x5216, .bf16⟩
  | .hbm, ⟨4, _⟩ => ⟨S2048x2080, .bf16⟩
  | .hbm, ⟨5, _⟩ => ⟨S_, .bf16⟩
  | .hbm, ⟨6, _⟩ => ⟨S2048x96, .bf16⟩
  | .hbm, ⟨7, _⟩ => ⟨S2048x3136, .bf16⟩
  | .hbm, ⟨8, _⟩ => ⟨S_, .bf16⟩
  | .hbm, ⟨9, _⟩ => ⟨S2048x64, .bf16⟩
  | .hbm, ⟨10, _⟩ => ⟨S2048x5376, .bf16⟩
  | .hbm, ⟨11, _⟩ => ⟨S4352x5376, .f32⟩
  | .local _ .vmem, ⟨0, _⟩ => ⟨S1088x2048, .bf16⟩
  | .local _ .vmem, ⟨1, _⟩ => ⟨S1088x2048, .bf16⟩
  | .local _ .vmem, ⟨2, _⟩ => ⟨S2048x768, .bf16⟩
  | .local _ .vmem, ⟨3, _⟩ => ⟨S2048x768, .bf16⟩
  | .local _ .vmem, ⟨4, _⟩ => ⟨S1088x768, .f32⟩
  | .local _ .vmem, ⟨5, _⟩ => ⟨S1088x768, .f32⟩
  | .local _ .vmem, ⟨6, _⟩ => ⟨S1088x768, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x2048 : Shape := ⟨2, ![4352, 2048]⟩
abbrev S2048x5216 : Shape := ⟨2, ![2048, 5216]⟩
abbrev S4352x5216 : Shape := ⟨2, ![4352, 5216]⟩
abbrev S4352x2080 : Shape := ⟨2, ![4352, 2080]⟩
abbrev S_ : Shape := ⟨0, ![]⟩
abbrev S4352x2176 : Shape := ⟨2, ![4352, 2176]⟩
abbrev S4352x3136 : Shape := ⟨2, ![4352, 3136]⟩
abbrev S4352x3200 : Shape := ⟨2, ![4352, 3200]⟩
abbrev S4352x5376 : Shape := ⟨2, ![4352, 5376]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x5216, .f32⟩
  | .hbm, ⟨2, _⟩ => ⟨S4352x5216, .f32⟩
  | .hbm, ⟨3, _⟩ => ⟨S4352x2080, .f32⟩
  | .hbm, ⟨4, _⟩ => ⟨S_, .i32⟩
  | .hbm, ⟨5, _⟩ => ⟨S_, .f32⟩
  | .hbm, ⟨6, _⟩ => ⟨S4352x2176, .f32⟩
  | .hbm, ⟨7, _⟩ => ⟨S4352x3136, .f32⟩
  | .hbm, ⟨8, _⟩ => ⟨S_, .i32⟩
  | .hbm, ⟨9, _⟩ => ⟨S_, .f32⟩
  | .hbm, ⟨10, _⟩ => ⟨S4352x3200, .f32⟩
  | .hbm, ⟨11, _⟩ => ⟨S4352x5376, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel11.lean ====
abbrev S4352x2048 : Shape := ⟨2, ![4352, 2048]⟩
abbrev S2048x2048 : Shape := ⟨2, ![2048, 2048]⟩
abbrev S8x1x256x2048 : Shape := ⟨4, ![8, 1, 256, 2048]⟩
abbrev S1088x2048 : Shape := ⟨2, ![1088, 2048]⟩
abbrev S8x1x256x1024 : Shape := ⟨4, ![8, 1, 256, 1024]⟩
abbrev S1088x1024 : Shape := ⟨2, ![1088, 1024]⟩
abbrev S8x256x1024 : Shape := ⟨3, ![8, 256, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .bf16⟩
  | .hbm, ⟨3, _⟩ => ⟨S2048x2048, .bf16⟩
  | .hbm, ⟨4, _⟩ => ⟨S8x1x256x2048, .bf16⟩
  | .hbm, ⟨5, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S8x1x256x1024, .bf16⟩
  | .local _ .vmem, ⟨3, _⟩ => ⟨S8x1x256x1024, .bf16⟩
  | .local _ .vmem, ⟨4, _⟩ => ⟨S1088x1024, .f32⟩
  | .local _ .vmem, ⟨5, _⟩ => ⟨S1088x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4352x2048 : Shape := ⟨2, ![4352, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S4352x2048 : Shape := ⟨2, ![4352, 2048]⟩
abbrev S2048x2048 : Shape := ⟨2, ![2048, 2048]⟩
abbrev S8x1x256x2048 : Shape := ⟨4, ![8, 1, 256, 2048]⟩
abbrev S1088x2048 : Shape := ⟨2, ![1088, 2048]⟩
abbrev S8x256x2048 : Shape := ⟨3, ![8, 256, 2048]⟩

abbrev nBuf : Space → Nat
  | .hbm => 7
  | .vmem => 5
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .bf16⟩
  | .hbm, ⟨4, _⟩ => ⟨S2048x2048, .bf16⟩
  | .hbm, ⟨5, _⟩ => ⟨S8x1x256x2048, .bf16⟩
  | .hbm, ⟨6, _⟩ => ⟨S4352x2048, .bf16⟩
  | .local _ .vmem, ⟨0, _⟩ => ⟨S1088x2048, .bf16⟩
  | .local _ .vmem, ⟨1, _⟩ => ⟨S1088x2048, .bf16⟩
  | .local _ .vmem, ⟨2, _⟩ => ⟨S8x1x256x2048, .bf16⟩
  | .local _ .vmem, ⟨3, _⟩ => ⟨S1088x2048, .bf16⟩
  | .local _ .vmem, ⟨4, _⟩ => ⟨S1088x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1088x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4352x2048 : Shape := ⟨2, ![4352, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .f32⟩
  | .hbm, ⟨4, _⟩ => ⟨S2048x2048, .f32⟩
  | .hbm, ⟨5, _⟩ => ⟨S2048x2048, .f32⟩
  | .hbm, ⟨6, _⟩ => ⟨S4352x2048, .f32⟩
  | .hbm, ⟨7, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4352x2048 : Shape := ⟨2, ![4352, 2048]⟩
abbrev S2048x2048 : Shape := ⟨2, ![2048, 2048]⟩
abbrev S8x256x2048 : Shape := ⟨3, ![8, 256, 2048]⟩
abbrev S1088x2048 : Shape := ⟨2, ![1088, 2048]⟩
abbrev S1088x1024 : Shape := ⟨2, ![1088, 1024]⟩
abbrev S8x256x1024 : Shape := ⟨3, ![8, 256, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .bf16⟩
  | .hbm, ⟨4, _⟩ => ⟨S4352x2048, .bf16⟩
  | .hbm, ⟨5, _⟩ => ⟨S8x256x2048, .bf16⟩
  | .local _ .vmem, ⟨0, _⟩ => ⟨S1088x2048, .bf16⟩
  | .local _ .vmem, ⟨1, _⟩ => ⟨S1088x2048, .bf16⟩
  | .local _ .vmem, ⟨2, _⟩ => ⟨S1088x1024, .bf16⟩
  | .local _ .vmem, ⟨3, _⟩ => ⟨S1088x1024, .bf16⟩
  | .local _ .vmem, ⟨4, _⟩ => ⟨S8x256x1024, .bf16⟩
  | .local _ .vmem, ⟨5, _⟩ => ⟨S8x256x1024, .bf16⟩
  | .local _ .vmem, ⟨6, _⟩ => ⟨S2048x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S4352x2048 : Shape := ⟨2, ![4352, 2048]⟩
abbrev S2048x2048 : Shape := ⟨2, ![2048, 2048]⟩
abbrev S8x256x2048 : Shape := ⟨3, ![8, 256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .f32⟩
  | .hbm, ⟨4, _⟩ => ⟨S2048x2048, .f32⟩
  | .hbm, ⟨5, _⟩ => ⟨S2048x2048, .f32⟩
  | .hbm, ⟨6, _⟩ => ⟨S4352x2048, .f32⟩
  | .hbm, ⟨7, _⟩ => ⟨S2048x2048, .bf16⟩
  | .hbm, ⟨8, _⟩ => ⟨S8x256x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S1x4352x4x128 : Shape := ⟨4, ![1, 4352, 4, 128]⟩
abbrev S1x4352x4x64 : Shape := ⟨4, ![1, 4352, 4, 64]⟩
abbrev S1x4352x64 : Shape := ⟨3, ![1, 4352, 64]⟩
abbrev S4352x512 : Shape := ⟨2, ![4352, 512]⟩
abbrev S_ : Shape := ⟨0, ![]⟩
abbrev S1x4352x128 : Shape := ⟨3, ![1, 4352, 128]⟩
abbrev S4352x128 : Shape := ⟨2, ![4352, 128]⟩
abbrev S256x128 : Shape := ⟨2, ![256, 128]⟩
abbrev S256x4352 : Shape := ⟨2, ![256, 4352]⟩
abbrev S1x4352 : Shape := ⟨2, ![1, 4352]⟩
abbrev S256 : Shape := ⟨1, ![256]⟩
abbrev S256x1 : Shape := ⟨2, ![256, 1]⟩

abbrev nBuf : Space → Nat
  | .hbm => 17
  | .vmem => 11
  | .smem => 0
  | _ => 0

abbrev bufTy : (tb : Table) → Fin (tcTables nBuf tb) → BufTy
  | .hbm, ⟨0, _⟩ => ⟨S1x4352x4x128, .f32⟩
  | .hbm, ⟨1, _⟩ => ⟨S1x4352x4x64, .f32⟩
  | .hbm, ⟨2, _⟩ => ⟨S1x4352x4x128, .f32⟩
  | .hbm, ⟨3, _⟩ => ⟨S1x4352x64, .f32⟩
  | .hbm, ⟨4, _⟩ => ⟨S1x4352x4x128, .f32⟩
  | .hbm, ⟨5, _⟩ => ⟨S4352x512, .f32⟩
  | .hbm, ⟨6, _⟩ => ⟨S_, .i32⟩
  | .hbm, ⟨7, _⟩ => ⟨S_, .f32⟩
  | .hbm, ⟨8, _⟩ => ⟨S1x4352x4x128, .f32⟩
  | .hbm, ⟨9, _⟩ => ⟨S4352x512, .f32⟩
  | .hbm, ⟨10, _⟩ => ⟨S4352x512, .f32⟩
  | .hbm, ⟨11, _⟩ => ⟨S_, .i32⟩
  | .hbm, ⟨12, _⟩ => ⟨S_, .f32⟩
  | .hbm, ⟨13, _⟩ => ⟨S1x4352x128, .f32⟩
  | .hbm, ⟨14, _⟩ => ⟨S4352x128, .f32⟩
  | .hbm, ⟨15, _⟩ => ⟨S4352x512, .f32⟩
  | .hbm, ⟨16, _⟩ => ⟨S4352x512, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S4352x128, .f32⟩
  | .local _ .vmem, ⟨5, _⟩ => ⟨S4352x128, .f32⟩
  | .local _ .vmem, ⟨6, _⟩ => ⟨S4352x128, .f32⟩
  | .local _ .vmem, ⟨7, _⟩ => ⟨S4352x128, .f32⟩
  | .local _ .vmem, ⟨8, _⟩ => ⟨S4352x128, .f32⟩
  | .local _ .vmem, ⟨9, _⟩ => ⟨S256x128, .bf16⟩
  | .local _ .vmem, ⟨10, _⟩ => ⟨S256x128, .bf16⟩
  | _, _ => ⟨S1x4352x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4352x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4352x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel14Ideal.lean ====
variable {F : FTy → Type} [FloatOps F] [Named F]
def κ : String → Option EReal := fun
  | "mask" => some ⊥
  | _ => none
-- ==== Reference14Ideal.lean ====
abbrev S1x4352x4x128 : Shape := ⟨4, ![1, 4352, 4, 128]⟩
abbrev S1x4352x4x64 : Shape := ⟨4, ![1, 4352, 4, 64]⟩
abbrev S1x4352x64 : Shape := ⟨3, ![1, 4352, 64]⟩
abbrev S1x4096x4x128 : Shape := ⟨4, ![1, 4096, 4, 128]⟩
abbrev S1x4096x4x64 : Shape := ⟨4, ![1, 4096, 4, 64]⟩
abbrev S1x4x4096x4352 : Shape := ⟨4, ![1, 4, 4096, 4352]⟩
abbrev S1x4352x4096x4 : Shape := ⟨4, ![1, 4352, 4096, 4]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x256x4x128 : Shape := ⟨4, ![1, 256, 4, 128]⟩
abbrev S1x256x4x64 : Shape := ⟨4, ![1, 256, 4, 64]⟩
abbrev S1x256x64 : Shape := ⟨3, ![1, 256, 64]⟩
abbrev S1x4x256x256 : Shape := ⟨4, ![1, 4, 256, 256]⟩
abbrev S1x256x256x4 : Shape := ⟨4, ![1, 256, 256, 4]⟩
abbrev S1x4x256 : Shape := ⟨3, ![1, 4, 256]⟩
abbrev S1x4x256x1 : Shape := ⟨4, ![1, 4, 256, 1]⟩
abbrev S1x4x128x256 : Shape := ⟨4, ![1, 4, 128, 256]⟩
abbrev S4352x512 : Shape := ⟨2, ![4352, 512]⟩

abbrev nBuf : Space → Nat
  | .hbm => 61
  | .vmem => 0
  | .smem => 0
  | _ => 0

abbrev bufTy : (tb : Table) → Fin (tcTables nBuf tb) → BufTy
  | .hbm, ⟨0, _⟩ => ⟨S1x4352x4x128, .f32⟩
  | .hbm, ⟨1, _⟩ => ⟨S1x4352x4x64, .f32⟩
  | .hbm, ⟨2, _⟩ => ⟨S1x4352x4x128, .f32⟩
  | .hbm, ⟨3, _⟩ => ⟨S1x4352x64, .f32⟩
  | .hbm, ⟨4, _⟩ => ⟨S1x4352x4x128, .f32⟩
  | .hbm, ⟨5, _⟩ => ⟨S1x4096x4x128, .f32⟩
  | .hbm, ⟨6, _⟩ => ⟨S1x4096x4x64, .f32⟩
  | .hbm, ⟨7, _⟩ => ⟨S1x4x4096x4352, .f32⟩
  | .hbm, ⟨8, _⟩ => ⟨S1x4352x4096x4, .f32⟩
  | .hbm, ⟨9, _⟩ => ⟨S1x4x4096x4352, .f32⟩
  | .hbm, ⟨10, _⟩ => ⟨S1x4x4096x4352, .f32⟩
  | .hbm, ⟨11, _⟩ => ⟨S_, .f32⟩
  | .hbm, ⟨12, _⟩ => ⟨S1x4x4096x4352, .f32⟩
  | .hbm, ⟨13, _⟩ => ⟨S1x4x4096x4352, .f32⟩
  | .hbm, ⟨14, _⟩ => ⟨S_, .f32⟩
  | .hbm, ⟨15, _⟩ => ⟨S1x4x4096, .f32⟩
  | .hbm, ⟨16, _⟩ => ⟨S_, .f32⟩
  | .hbm, ⟨17, _⟩ => ⟨S1x4x4096, .f32⟩
  | .hbm, ⟨18, _⟩ => ⟨S1x4x4096, .f32⟩
  | .hbm, ⟨19, _⟩ => ⟨S1x4x4096x1, .f32⟩
  | .hbm, ⟨20, _⟩ => ⟨S1x4x4096x4352, .f32⟩
  | .hbm, ⟨21, _⟩ => ⟨S1x4x4096x4352, .f32⟩
  | .hbm, ⟨22, _⟩ => ⟨S1x4x4096x4352, .f32⟩
  | .hbm, ⟨23, _⟩ => ⟨S_, .f32⟩
  | .hbm, ⟨24, _⟩ => ⟨S1x4x4096, .f32⟩
  | .hbm, ⟨25, _⟩ => ⟨S1x4x4096x1, .f32⟩
  | .hbm, ⟨26, _⟩ => ⟨S1x4x4096x4352, .f32⟩
  | .hbm, ⟨27, _⟩ => ⟨S1x4x4096x4352, .f32⟩
  | .hbm, ⟨28, _⟩ => ⟨S1x4x128x4096, .f32⟩
  | .hbm, ⟨29, _⟩ => ⟨S1x4096x4x128, .f32⟩
  | .hbm, ⟨30, _⟩ => ⟨S1x256x4x128, .f32⟩
  | .hbm, ⟨31, _⟩ => ⟨S1x256x4x64, .f32⟩
  | .hbm, ⟨32, _⟩ => ⟨S1x256x4x128, .f32⟩
  | .hbm, ⟨33, _⟩ => ⟨S1x256x64, .f32⟩
  | .hbm, ⟨34, _⟩ => ⟨S1x256x4x128, .f32⟩
  | .hbm, ⟨35, _⟩ => ⟨S1x4x256x256, .f32⟩
  | .hbm, ⟨36, _⟩ => ⟨S1x256x256x4, .f32⟩
  | .hbm, ⟨37, _⟩ => ⟨S1x4x256x256, .f32⟩
  | .hbm, ⟨38, _⟩ => ⟨S1x4x256x256, .f32⟩
  | .hbm, ⟨39, _⟩ => ⟨S_, .f32⟩
  | .hbm, ⟨40, _⟩ => ⟨S1x4x256x256, .f32⟩
  | .hbm, ⟨41, _⟩ => ⟨S1x4x256x256, .f32⟩
  | .hbm, ⟨42, _⟩ => ⟨S_, .f32⟩
  | .hbm, ⟨43, _⟩ => ⟨S1x4x256, .f32⟩
  | .hbm, ⟨44, _⟩ => ⟨S_, .f32⟩
  | .hbm, ⟨45, _⟩ => ⟨S1x4x256, .f32⟩
  | .hbm, ⟨46, _⟩ => ⟨S1x4x256, .f32⟩
  | .hbm, ⟨47, _⟩ => ⟨S1x4x256x1, .f32⟩
  | .hbm, ⟨48, _⟩ => ⟨S1x4x256x256, .f32⟩
  | .hbm, ⟨49, _⟩ => ⟨S1x4x256x256, .f32⟩
  | .hbm, ⟨50, _⟩ => ⟨S1x4x256x256, .f32⟩
  | .hbm, ⟨51, _⟩ => ⟨S_, .f32⟩
  | .hbm, ⟨52, _⟩ => ⟨S1x4x256, .f32⟩
  | .hbm, ⟨53, _⟩ => ⟨S1x4x256x1, .f32⟩
  | .hbm, ⟨54, _⟩ => ⟨S1x4x256x256, .f32⟩
  | .hbm, ⟨55, _⟩ => ⟨S1x4x256x256, .f32⟩
  | .hbm, ⟨56, _⟩ => ⟨S1x4x128x256, .f32⟩
  | .hbm, ⟨57, _⟩ => ⟨S1x256x4x128, .f32⟩
  | .hbm, ⟨58, _⟩ => ⟨S1x4352x4x128, .f32⟩
  | .hbm, ⟨59, _⟩ => ⟨S4352x512, .f32⟩
  | .hbm, ⟨60, _⟩ => ⟨S4352x512, .bf16⟩
  | _, _ => ⟨S1x4352x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel15.lean ====
abbrev S4352x5632 : Shape := ⟨2, ![4352, 5632]⟩
abbrev S4352x8x704 : Shape := ⟨3, ![4352, 8, 704]⟩
abbrev S8x4352x704 : Shape := ⟨3, ![8, 4352, 704]⟩
abbrev S34816x704 : Shape := ⟨2, ![34816, 704]⟩
abbrev S544x704 : Shape := ⟨2, ![544, 704]⟩

abbrev nBuf : Space → Nat
  | .hbm => 17
  | .vmem => 10
  | .smem => 0
  | _ => 0

abbrev bufTy : (tb : Table) → Fin (tcTables nBuf tb) → BufTy
  | .hbm, ⟨0, _⟩ => ⟨S4352x5632, .f32⟩
  | .hbm, ⟨1, _⟩ => ⟨S4352x5632, .f32⟩
  | .hbm, ⟨2, _⟩ => ⟨S4352x5632, .f32⟩
  | .hbm, ⟨3, _⟩ => ⟨S4352x5632, .bf16⟩
  | .hbm, ⟨4, _⟩ => ⟨S4352x8x704, .bf16⟩
  | .hbm, ⟨5, _⟩ => ⟨S8x4352x704, .bf16⟩
  | .hbm, ⟨6, _⟩ => ⟨S34816x704, .bf16⟩
  | .hbm, ⟨7, _⟩ => ⟨S4352x5632, .bf16⟩
  | .hbm, ⟨8, _⟩ => ⟨S4352x8x704, .bf16⟩
  | .hbm, ⟨9, _⟩ => ⟨S8x4352x704, .bf16⟩
  | .hbm, ⟨10, _⟩ => ⟨S34816x704, .bf16⟩
  | .hbm, ⟨11, _⟩ => ⟨S4352x5632, .bf16⟩
  | .hbm, ⟨12, _⟩ => ⟨S4352x8x704, .bf16⟩
  | .hbm, ⟨13, _⟩ => ⟨S8x4352x704, .bf16⟩
  | .hbm, ⟨14, _⟩ => ⟨S34816x704, .bf16⟩
  | .hbm, ⟨15, _⟩ => ⟨S34816x704, .bf16⟩
  | .hbm, ⟨16, _⟩ => ⟨S34816x704, .bf16⟩
  | .local _ .vmem, ⟨0, _⟩ => ⟨S544x704, .bf16⟩
  | .local _ .vmem, ⟨1, _⟩ => ⟨S544x704, .bf16⟩
  | .local _ .vmem, ⟨2, _⟩ => ⟨S544x704, .bf16⟩
  | .local _ .vmem, ⟨3, _⟩ => ⟨S544x704, .bf16⟩
  | .local _ .vmem, ⟨4, _⟩ => ⟨S544x704, .bf16⟩
  | .local _ .vmem, ⟨5, _⟩ => ⟨S544x704, .bf16⟩
  | .local _ .vmem, ⟨6, _⟩ => ⟨S544x704, .bf16⟩
  | .local _ .vmem, ⟨7, _⟩ => ⟨S544x704, .bf16⟩
  | .local _ .vmem, ⟨8, _⟩ => ⟨S544x704, .bf16⟩
  | .local _ .vmem, ⟨9, _⟩ => ⟨S544x704, .bf16⟩
  | _, _ => ⟨S4352x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S544x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S544x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference15Ideal.lean ====
abbrev S4352x5632 : Shape := ⟨2, ![4352, 5632]⟩
abbrev S_ : Shape := ⟨0, ![]⟩
abbrev S4352x8x704 : Shape := ⟨3, ![4352, 8, 704]⟩
abbrev S8x4352x704 : Shape := ⟨3, ![8, 4352, 704]⟩
abbrev S34816x704 : Shape := ⟨2, ![34816, 704]⟩

abbrev nBuf : Space → Nat
  | .hbm => 31
  | .vmem => 0
  | .smem => 0
  | _ => 0

abbrev bufTy : (tb : Table) → Fin (tcTables nBuf tb) → BufTy
  | .hbm, ⟨0, _⟩ => ⟨S4352x5632, .f32⟩
  | .hbm, ⟨1, _⟩ => ⟨S4352x5632, .f32⟩
  | .hbm, ⟨2, _⟩ => ⟨S4352x5632, .f32⟩
  | .hbm, ⟨3, _⟩ => ⟨S4352x5632, .f32⟩
  | .hbm, ⟨4, _⟩ => ⟨S4352x5632, .f32⟩
  | .hbm, ⟨5, _⟩ => ⟨S_, .f32⟩
  | .hbm, ⟨6, _⟩ => ⟨S4352x5632, .f32⟩
  | .hbm, ⟨7, _⟩ => ⟨S4352x5632, .f32⟩
  | .hbm, ⟨8, _⟩ => ⟨S_, .f32⟩
  | .hbm, ⟨9, _⟩ => ⟨S4352x5632, .f32⟩
  | .hbm, ⟨10, _⟩ => ⟨S4352x5632, .f32⟩
  | .hbm, ⟨11, _⟩ => ⟨S_, .f32⟩
  | .hbm, ⟨12, _⟩ => ⟨S4352x5632, .f32⟩
  | .hbm, ⟨13, _⟩ => ⟨S4352x5632, .f32⟩
  | .hbm, ⟨14, _⟩ => ⟨S4352x5632, .f32⟩
  | .hbm, ⟨15, _⟩ => ⟨S4352x5632, .f32⟩
  | .hbm, ⟨16, _⟩ => ⟨S4352x5632, .f32⟩
  | .hbm, ⟨17, _⟩ => ⟨S4352x5632, .f32⟩
  | .hbm, ⟨18, _⟩ => ⟨S4352x5632, .f32⟩
  | .hbm, ⟨19, _⟩ => ⟨S4352x5632, .f32⟩
  | .hbm, ⟨20, _⟩ => ⟨S4352x5632, .f32⟩
  | .hbm, ⟨21, _⟩ => ⟨S4352x5632, .f32⟩
  | .hbm, ⟨22, _⟩ => ⟨S4352x5632, .f32⟩
  | .hbm, ⟨23, _⟩ => ⟨S4352x5632, .bf16⟩
  | .hbm, ⟨24, _⟩ => ⟨S4352x8x704, .bf16⟩
  | .hbm, ⟨25, _⟩ => ⟨S8x4352x704, .bf16⟩
  | .hbm, ⟨26, _⟩ => ⟨S34816x704, .bf16⟩
  | .hbm, ⟨27, _⟩ => ⟨S4352x5632, .bf16⟩
  | .hbm, ⟨28, _⟩ => ⟨S4352x8x704, .bf16⟩
  | .hbm, ⟨29, _⟩ => ⟨S8x4352x704, .bf16⟩
  | .hbm, ⟨30, _⟩ => ⟨S34816x704, .bf16⟩
  | _, _ => ⟨S4352x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Kernel16.lean ====
abbrev S4352x512 : Shape := ⟨2, ![4352, 512]⟩
abbrev S31x512 : Shape := ⟨2, ![31, 512]⟩
abbrev S256x128 : Shape := ⟨2, ![256, 128]⟩
abbrev S31x128 : Shape := ⟨2, ![31, 128]⟩
abbrev S16x128 : Shape := ⟨2, ![16, 128]⟩
abbrev S288x128 : Shape := ⟨2, ![288, 128]⟩
abbrev S1x128 : Shape := ⟨2, ![1, 128]⟩

abbrev nBuf : Space → Nat
  | .hbm => 4
  | .vmem => 10
  | .smem => 0
  | _ => 0

abbrev bufTy : (tb : Table) → Fin (tcTables nBuf tb) → BufTy
  | .hbm, ⟨0, _⟩ => ⟨S4352x512, .f32⟩
  | .hbm, ⟨1, _⟩ => ⟨S31x512, .f32⟩
  | .hbm, ⟨2, _⟩ => ⟨S4352x512, .f32⟩
  | .hbm, ⟨3, _⟩ => ⟨S4352x512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S31x128, .f32⟩
  | .local _ .vmem, ⟨7, _⟩ => ⟨S31x128, .f32⟩
  | .local _ .vmem, ⟨8, _⟩ => ⟨S256x128, .f32⟩
  | .local _ .vmem, ⟨9, _⟩ => ⟨S256x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.minsi v0 c16_i32
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S4352x512 : Shape := ⟨2, ![4352, 512]⟩
abbrev S31x512 : Shape := ⟨2, ![31, 512]⟩
abbrev S4352 : Shape := ⟨1, ![4352]⟩
abbrev S31 : Shape := ⟨1, ![31]⟩
abbrev S4352x1x1 : Shape := ⟨3, ![4352, 1, 1]⟩
abbrev S_ : Shape := ⟨0, ![]⟩
abbrev S1x1x4352 : Shape := ⟨3, ![1, 1, 4352]⟩
abbrev S4352x1x4352 : Shape := ⟨3, ![4352, 1, 4352]⟩
abbrev S31x1 : Shape := ⟨2, ![31, 1]⟩
abbrev S1x31x1 : Shape := ⟨3, ![1, 31, 1]⟩
abbrev S4352x31x1 : Shape := ⟨3, ![4352, 31, 1]⟩
abbrev S4352x31x4352 : Shape := ⟨3, ![4352, 31, 4352]⟩
abbrev S4352x31x512 : Shape := ⟨3, ![4352, 31, 512]⟩
abbrev S1x31x512 : Shape := ⟨3, ![1, 31, 512]⟩
abbrev S512x4352 : Shape := ⟨2, ![512, 4352]⟩

abbrev nBuf : Space → Nat
  | .hbm => 53
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S31x512, .f32⟩
  | .hbm, ⟨2, _⟩ => ⟨S4352x512, .f32⟩
  | .hbm, ⟨3, _⟩ => ⟨S4352, .i32⟩
  | .hbm, ⟨4, _⟩ => ⟨S31, .i32⟩
  | .hbm, ⟨5, _⟩ => ⟨S4352x1x1, .i32⟩
  | .hbm, ⟨6, _⟩ => ⟨S_, .i32⟩
  | .hbm, ⟨7, _⟩ => ⟨S4352x1x1, .i32⟩
  | .hbm, ⟨8, _⟩ => ⟨S4352x1x1, .i1⟩
  | .hbm, ⟨9, _⟩ => ⟨S_, .i32⟩
  | .hbm, ⟨10, _⟩ => ⟨S4352, .i32⟩
  | .hbm, ⟨11, _⟩ => ⟨S4352, .i1⟩
  | .hbm, ⟨12, _⟩ => ⟨S1x1x4352, .i1⟩
  | .hbm, ⟨13, _⟩ => ⟨S4352x1x4352, .i1⟩
  | .hbm, ⟨14, _⟩ => ⟨S4352x1x4352, .i1⟩
  | .hbm, ⟨15, _⟩ => ⟨S4352x1x4352, .i1⟩
  | .hbm, ⟨16, _⟩ => ⟨S4352x1x1, .i32⟩
  | .hbm, ⟨17, _⟩ => ⟨S31x1, .i32⟩
  | .hbm, ⟨18, _⟩ => ⟨S1x31x1, .i32⟩
  | .hbm, ⟨19, _⟩ => ⟨S4352x31x1, .i32⟩
  | .hbm, ⟨20, _⟩ => ⟨S4352x31x1, .i32⟩
  | .hbm, ⟨21, _⟩ => ⟨S4352x31x1, .i32⟩
  | .hbm, ⟨22, _⟩ => ⟨S_, .i32⟩
  | .hbm, ⟨23, _⟩ => ⟨S4352, .i32⟩
  | .hbm, ⟨24, _⟩ => ⟨S4352, .i32⟩
  | .hbm, ⟨25, _⟩ => ⟨S1x1x4352, .i32⟩
  | .hbm, ⟨26, _⟩ => ⟨S4352x31x4352, .i32⟩
  | .hbm, ⟨27, _⟩ => ⟨S4352x31x4352, .i32⟩
  | .hbm, ⟨28, _⟩ => ⟨S4352x31x4352, .i1⟩
  | .hbm, ⟨29, _⟩ => ⟨S4352x31x4352, .i1⟩
  | .hbm, ⟨30, _⟩ => ⟨S4352x31x4352, .i1⟩
  | .hbm, ⟨31, _⟩ => ⟨S_, .f32⟩
  | .hbm, ⟨32, _⟩ => ⟨S_, .f32⟩
  | .hbm, ⟨33, _⟩ => ⟨S4352x31x4352, .f32⟩
  | .hbm, ⟨34, _⟩ => ⟨S4352x31x4352, .f32⟩
  | .hbm, ⟨35, _⟩ => ⟨S4352x31x4352, .f32⟩
  | .hbm, ⟨36, _⟩ => ⟨S4352x31x512, .f32⟩
  | .hbm, ⟨37, _⟩ => ⟨S1x31x512, .f32⟩
  | .hbm, ⟨38, _⟩ => ⟨S4352x31x512, .f32⟩
  | .hbm, ⟨39, _⟩ => ⟨S4352x31x512, .f32⟩
  | .hbm, ⟨40, _⟩ => ⟨S_, .f32⟩
  | .hbm, ⟨41, _⟩ => ⟨S4352x512, .f32⟩
  | .hbm, ⟨42, _⟩ => ⟨S4352x31x512, .f32⟩
  | .hbm, ⟨43, _⟩ => ⟨S4352x31x512, .f32⟩
  | .hbm, ⟨44, _⟩ => ⟨S_, .f32⟩
  | .hbm, ⟨45, _⟩ => ⟨S31x512, .f32⟩
  | .hbm, ⟨46, _⟩ => ⟨S1x31x512, .f32⟩
  | .hbm, ⟨47, _⟩ => ⟨S4352x31x512, .f32⟩
  | .hbm, ⟨48, _⟩ => ⟨S4352x31x512, .f32⟩
  | .hbm, ⟨49, _⟩ => ⟨S_, .f32⟩
  | .hbm, ⟨50, _⟩ => ⟨S31x512, .f32⟩
  | .hbm, ⟨51, _⟩ => ⟨S512x4352, .f32⟩
  | .hbm, ⟨52, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel17.lean ====
abbrev S4352x512 : Shape := ⟨2, ![4352, 512]⟩
abbrev S31x512 : Shape := ⟨2, ![31, 512]⟩
abbrev S256x128 : Shape := ⟨2, ![256, 128]⟩
abbrev S31x128 : Shape := ⟨2, ![31, 128]⟩
abbrev S16x128 : Shape := ⟨2, ![16, 128]⟩
abbrev S288x128 : Shape := ⟨2, ![288, 128]⟩
abbrev S1x128 : Shape := ⟨2, ![1, 128]⟩
abbrev S128 : Shape := ⟨1, ![128]⟩

abbrev nBuf : Space → Nat
  | .hbm => 4
  | .vmem => 10
  | .smem => 0
  | _ => 0

abbrev bufTy : (tb : Table) → Fin (tcTables nBuf tb) → BufTy
  | .hbm, ⟨0, _⟩ => ⟨S4352x512, .f32⟩
  | .hbm, ⟨1, _⟩ => ⟨S31x512, .f32⟩
  | .hbm, ⟨2, _⟩ => ⟨S4352x512, .f32⟩
  | .hbm, ⟨3, _⟩ => ⟨S31x512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S31x128, .f32⟩
  | .local _ .vmem, ⟨9, _⟩ => ⟨S31x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.minsi v0 c16_i32
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S31x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference17Ideal.lean ====
abbrev S4352x512 : Shape := ⟨2, ![4352, 512]⟩
abbrev S31x512 : Shape := ⟨2, ![31, 512]⟩
abbrev S4352 : Shape := ⟨1, ![4352]⟩
abbrev S31 : Shape := ⟨1, ![31]⟩
abbrev S4352x1x1 : Shape := ⟨3, ![4352, 1, 1]⟩
abbrev S_ : Shape := ⟨0, ![]⟩
abbrev S1x1x4352 : Shape := ⟨3, ![1, 1, 4352]⟩
abbrev S4352x1x4352 : Shape := ⟨3, ![4352, 1, 4352]⟩
abbrev S31x1 : Shape := ⟨2, ![31, 1]⟩
abbrev S1x31x1 : Shape := ⟨3, ![1, 31, 1]⟩
abbrev S4352x31x1 : Shape := ⟨3, ![4352, 31, 1]⟩
abbrev S4352x31x4352 : Shape := ⟨3, ![4352, 31, 4352]⟩
abbrev S4352x31x512 : Shape := ⟨3, ![4352, 31, 512]⟩
abbrev S1x31x512 : Shape := ⟨3, ![1, 31, 512]⟩
abbrev S512x4352 : Shape := ⟨2, ![512, 4352]⟩

abbrev nBuf : Space → Nat
  | .hbm => 53
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S31x512, .f32⟩
  | .hbm, ⟨2, _⟩ => ⟨S4352x512, .f32⟩
  | .hbm, ⟨3, _⟩ => ⟨S4352, .i32⟩
  | .hbm, ⟨4, _⟩ => ⟨S31, .i32⟩
  | .hbm, ⟨5, _⟩ => ⟨S4352x1x1, .i32⟩
  | .hbm, ⟨6, _⟩ => ⟨S_, .i32⟩
  | .hbm, ⟨7, _⟩ => ⟨S4352x1x1, .i32⟩
  | .hbm, ⟨8, _⟩ => ⟨S4352x1x1, .i1⟩
  | .hbm, ⟨9, _⟩ => ⟨S_, .i32⟩
  | .hbm, ⟨10, _⟩ => ⟨S4352, .i32⟩
  | .hbm, ⟨11, _⟩ => ⟨S4352, .i1⟩
  | .hbm, ⟨12, _⟩ => ⟨S1x1x4352, .i1⟩
  | .hbm, ⟨13, _⟩ => ⟨S4352x1x4352, .i1⟩
  | .hbm, ⟨14, _⟩ => ⟨S4352x1x4352, .i1⟩
  | .hbm, ⟨15, _⟩ => ⟨S4352x1x4352, .i1⟩
  | .hbm, ⟨16, _⟩ => ⟨S4352x1x1, .i32⟩
  | .hbm, ⟨17, _⟩ => ⟨S31x1, .i32⟩
  | .hbm, ⟨18, _⟩ => ⟨S1x31x1, .i32⟩
  | .hbm, ⟨19, _⟩ => ⟨S4352x31x1, .i32⟩
  | .hbm, ⟨20, _⟩ => ⟨S4352x31x1, .i32⟩
  | .hbm, ⟨21, _⟩ => ⟨S4352x31x1, .i32⟩
  | .hbm, ⟨22, _⟩ => ⟨S_, .i32⟩
  | .hbm, ⟨23, _⟩ => ⟨S4352, .i32⟩
  | .hbm, ⟨24, _⟩ => ⟨S4352, .i32⟩
  | .hbm, ⟨25, _⟩ => ⟨S1x1x4352, .i32⟩
  | .hbm, ⟨26, _⟩ => ⟨S4352x31x4352, .i32⟩
  | .hbm, ⟨27, _⟩ => ⟨S4352x31x4352, .i32⟩
  | .hbm, ⟨28, _⟩ => ⟨S4352x31x4352, .i1⟩
  | .hbm, ⟨29, _⟩ => ⟨S4352x31x4352, .i1⟩
  | .hbm, ⟨30, _⟩ => ⟨S4352x31x4352, .i1⟩
  | .hbm, ⟨31, _⟩ => ⟨S_, .f32⟩
  | .hbm, ⟨32, _⟩ => ⟨S_, .f32⟩
  | .hbm, ⟨33, _⟩ => ⟨S4352x31x4352, .f32⟩
  | .hbm, ⟨34, _⟩ => ⟨S4352x31x4352, .f32⟩
  | .hbm, ⟨35, _⟩ => ⟨S4352x31x4352, .f32⟩
  | .hbm, ⟨36, _⟩ => ⟨S4352x31x512, .f32⟩
  | .hbm, ⟨37, _⟩ => ⟨S1x31x512, .f32⟩
  | .hbm, ⟨38, _⟩ => ⟨S4352x31x512, .f32⟩
  | .hbm, ⟨39, _⟩ => ⟨S4352x31x512, .f32⟩
  | .hbm, ⟨40, _⟩ => ⟨S_, .f32⟩
  | .hbm, ⟨41, _⟩ => ⟨S4352x512, .f32⟩
  | .hbm, ⟨42, _⟩ => ⟨S4352x31x512, .f32⟩
  | .hbm, ⟨43, _⟩ => ⟨S4352x31x512, .f32⟩
  | .hbm, ⟨44, _⟩ => ⟨S_, .f32⟩
  | .hbm, ⟨45, _⟩ => ⟨S31x512, .f32⟩
  | .hbm, ⟨46, _⟩ => ⟨S1x31x512, .f32⟩
  | .hbm, ⟨47, _⟩ => ⟨S4352x31x512, .f32⟩
  | .hbm, ⟨48, _⟩ => ⟨S4352x31x512, .f32⟩
  | .hbm, ⟨49, _⟩ => ⟨S_, .f32⟩
  | .hbm, ⟨50, _⟩ => ⟨S31x512, .f32⟩
  | .hbm, ⟨51, _⟩ => ⟨S512x4352, .f32⟩
  | .hbm, ⟨52, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel18.lean ====
abbrev S4352x512 : Shape := ⟨2, ![4352, 512]⟩
abbrev S31x512 : Shape := ⟨2, ![31, 512]⟩
abbrev S256x128 : Shape := ⟨2, ![256, 128]⟩
abbrev S31x128 : Shape := ⟨2, ![31, 128]⟩
abbrev S16x128 : Shape := ⟨2, ![16, 128]⟩
abbrev S288x128 : Shape := ⟨2, ![288, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4352x512, .f32⟩
  | .hbm, ⟨1, _⟩ => ⟨S31x512, .f32⟩
  | .hbm, ⟨2, _⟩ => ⟨S4352x512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S31x128, .f32⟩
  | .local _ .vmem, ⟨7, _⟩ => ⟨S31x128, .f32⟩
  | .local _ .vmem, ⟨8, _⟩ => ⟨S256x128, .f32⟩
  | .local _ .vmem, ⟨9, _⟩ => ⟨S256x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.minsi v0 c16_i32
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference18Ideal.lean ====
abbrev S4352x512 : Shape := ⟨2, ![4352, 512]⟩
abbrev S31x512 : Shape := ⟨2, ![31, 512]⟩
abbrev S4352 : Shape := ⟨1, ![4352]⟩
abbrev S31 : Shape := ⟨1, ![31]⟩
abbrev S4352x1x1 : Shape := ⟨3, ![4352, 1, 1]⟩
abbrev S_ : Shape := ⟨0, ![]⟩
abbrev S1x1x4352 : Shape := ⟨3, ![1, 1, 4352]⟩
abbrev S4352x1x4352 : Shape := ⟨3, ![4352, 1, 4352]⟩
abbrev S31x1 : Shape := ⟨2, ![31, 1]⟩
abbrev S1x31x1 : Shape := ⟨3, ![1, 31, 1]⟩
abbrev S4352x31x1 : Shape := ⟨3, ![4352, 31, 1]⟩
abbrev S4352x31x4352 : Shape := ⟨3, ![4352, 31, 4352]⟩
abbrev S4352x31x512 : Shape := ⟨3, ![4352, 31, 512]⟩
abbrev S1x31x512 : Shape := ⟨3, ![1, 31, 512]⟩

abbrev nBuf : Space → Nat
  | .hbm => 41
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S31x512, .f32⟩
  | .hbm, ⟨2, _⟩ => ⟨S4352, .i32⟩
  | .hbm, ⟨3, _⟩ => ⟨S31, .i32⟩
  | .hbm, ⟨4, _⟩ => ⟨S4352x1x1, .i32⟩
  | .hbm, ⟨5, _⟩ => ⟨S_, .i32⟩
  | .hbm, ⟨6, _⟩ => ⟨S4352x1x1, .i32⟩
  | .hbm, ⟨7, _⟩ => ⟨S4352x1x1, .i1⟩
  | .hbm, ⟨8, _⟩ => ⟨S_, .i32⟩
  | .hbm, ⟨9, _⟩ => ⟨S4352, .i32⟩
  | .hbm, ⟨10, _⟩ => ⟨S4352, .i1⟩
  | .hbm, ⟨11, _⟩ => ⟨S1x1x4352, .i1⟩
  | .hbm, ⟨12, _⟩ => ⟨S4352x1x4352, .i1⟩
  | .hbm, ⟨13, _⟩ => ⟨S4352x1x4352, .i1⟩
  | .hbm, ⟨14, _⟩ => ⟨S4352x1x4352, .i1⟩
  | .hbm, ⟨15, _⟩ => ⟨S4352x1x1, .i32⟩
  | .hbm, ⟨16, _⟩ => ⟨S31x1, .i32⟩
  | .hbm, ⟨17, _⟩ => ⟨S1x31x1, .i32⟩
  | .hbm, ⟨18, _⟩ => ⟨S4352x31x1, .i32⟩
  | .hbm, ⟨19, _⟩ => ⟨S4352x31x1, .i32⟩
  | .hbm, ⟨20, _⟩ => ⟨S4352x31x1, .i32⟩
  | .hbm, ⟨21, _⟩ => ⟨S_, .i32⟩
  | .hbm, ⟨22, _⟩ => ⟨S4352, .i32⟩
  | .hbm, ⟨23, _⟩ => ⟨S4352, .i32⟩
  | .hbm, ⟨24, _⟩ => ⟨S1x1x4352, .i32⟩
  | .hbm, ⟨25, _⟩ => ⟨S4352x31x4352, .i32⟩
  | .hbm, ⟨26, _⟩ => ⟨S4352x31x4352, .i32⟩
  | .hbm, ⟨27, _⟩ => ⟨S4352x31x4352, .i1⟩
  | .hbm, ⟨28, _⟩ => ⟨S4352x31x4352, .i1⟩
  | .hbm, ⟨29, _⟩ => ⟨S4352x31x4352, .i1⟩
  | .hbm, ⟨30, _⟩ => ⟨S_, .f32⟩
  | .hbm, ⟨31, _⟩ => ⟨S_, .f32⟩
  | .hbm, ⟨32, _⟩ => ⟨S4352x31x4352, .f32⟩
  | .hbm, ⟨33, _⟩ => ⟨S4352x31x4352, .f32⟩
  | .hbm, ⟨34, _⟩ => ⟨S4352x31x4352, .f32⟩
  | .hbm, ⟨35, _⟩ => ⟨S4352x31x512, .f32⟩
  | .hbm, ⟨36, _⟩ => ⟨S1x31x512, .f32⟩
  | .hbm, ⟨37, _⟩ => ⟨S4352x31x512, .f32⟩
  | .hbm, ⟨38, _⟩ => ⟨S4352x31x512, .f32⟩
  | .hbm, ⟨39, _⟩ => ⟨S_, .f32⟩
  | .hbm, ⟨40, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel19.lean ====
abbrev S4352x5632 : Shape := ⟨2, ![4352, 5632]⟩
abbrev S4352x8x704 : Shape := ⟨3, ![4352, 8, 704]⟩
abbrev S8x4352x704 : Shape := ⟨3, ![8, 4352, 704]⟩
abbrev S34816x704 : Shape := ⟨2, ![34816, 704]⟩
abbrev S544x704 : Shape := ⟨2, ![544, 704]⟩

abbrev nBuf : Space → Nat
  | .hbm => 11
  | .vmem => 6
  | .smem => 0
  | _ => 0

abbrev bufTy : (tb : Table) → Fin (tcTables nBuf tb) → BufTy
  | .hbm, ⟨0, _⟩ => ⟨S4352x5632, .f32⟩
  | .hbm, ⟨1, _⟩ => ⟨S4352x5632, .f32⟩
  | .hbm, ⟨2, _⟩ => ⟨S4352x5632, .bf16⟩
  | .hbm, ⟨3, _⟩ => ⟨S4352x8x704, .bf16⟩
  | .hbm, ⟨4, _⟩ => ⟨S8x4352x704, .bf16⟩
  | .hbm, ⟨5, _⟩ => ⟨S34816x704, .bf16⟩
  | .hbm, ⟨6, _⟩ => ⟨S4352x5632, .bf16⟩
  | .hbm, ⟨7, _⟩ => ⟨S4352x8x704, .bf16⟩
  | .hbm, ⟨8, _⟩ => ⟨S8x4352x704, .bf16⟩
  | .hbm, ⟨9, _⟩ => ⟨S34816x704, .bf16⟩
  | .hbm, ⟨10, _⟩ => ⟨S34816x704, .bf16⟩
  | .local _ .vmem, ⟨0, _⟩ => ⟨S544x704, .bf16⟩
  | .local _ .vmem, ⟨1, _⟩ => ⟨S544x704, .bf16⟩
  | .local _ .vmem, ⟨2, _⟩ => ⟨S544x704, .bf16⟩
  | .local _ .vmem, ⟨3, _⟩ => ⟨S544x704, .bf16⟩
  | .local _ .vmem, ⟨4, _⟩ => ⟨S544x704, .bf16⟩
  | .local _ .vmem, ⟨5, _⟩ => ⟨S544x704, .bf16⟩
  | _, _ => ⟨S4352x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S544x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4352x5632 : Shape := ⟨2, ![4352, 5632]⟩
abbrev S_ : Shape := ⟨0, ![]⟩
abbrev S4352x8x704 : Shape := ⟨3, ![4352, 8, 704]⟩
abbrev S8x4352x704 : Shape := ⟨3, ![8, 4352, 704]⟩
abbrev S34816x704 : Shape := ⟨2, ![34816, 704]⟩

abbrev nBuf : Space → Nat
  | .hbm => 16
  | .vmem => 0
  | .smem => 0
  | _ => 0

abbrev bufTy : (tb : Table) → Fin (tcTables nBuf tb) → BufTy
  | .hbm, ⟨0, _⟩ => ⟨S4352x5632, .f32⟩
  | .hbm, ⟨1, _⟩ => ⟨S4352x5632, .f32⟩
  | .hbm, ⟨2, _⟩ => ⟨S4352x5632, .f32⟩
  | .hbm, ⟨3, _⟩ => ⟨S4352x5632, .f32⟩
  | .hbm, ⟨4, _⟩ => ⟨S_, .f32⟩
  | .hbm, ⟨5, _⟩ => ⟨S4352x5632, .f32⟩
  | .hbm, ⟨6, _⟩ => ⟨S4352x5632, .f32⟩
  | .hbm, ⟨7, _⟩ => ⟨S_, .f32⟩
  | .hbm, ⟨8, _⟩ => ⟨S4352x5632, .f32⟩
  | .hbm, ⟨9, _⟩ => ⟨S4352x5632, .f32⟩
  | .hbm, ⟨10, _⟩ => ⟨S4352x5632, .f32⟩
  | .hbm, ⟨11, _⟩ => ⟨S4352x5632, .f32⟩
  | .hbm, ⟨12, _⟩ => ⟨S4352x5632, .bf16⟩
  | .hbm, ⟨13, _⟩ => ⟨S4352x8x704, .bf16⟩
  | .hbm, ⟨14, _⟩ => ⟨S8x4352x704, .bf16⟩
  | .hbm, ⟨15, _⟩ => ⟨S34816x704, .bf16⟩
  | _, _ => ⟨S4352x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Kernel20.lean ====
abbrev S4352x512 : Shape := ⟨2, ![4352, 512]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x512, .f32⟩
  | .hbm, ⟨3, _⟩ => ⟨S4352x512, .f32⟩
  | .hbm, ⟨4, _⟩ => ⟨S4352x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference20Ideal.lean ====
abbrev S4352x512 : Shape := ⟨2, ![4352, 512]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x512, .f32⟩
  | .hbm, ⟨3, _⟩ => ⟨S4352x512, .f32⟩
  | .hbm, ⟨4, _⟩ => ⟨S4352x512, .f32⟩
  | .hbm, ⟨5, _⟩ => ⟨S_, .f32⟩
  | .hbm, ⟨6, _⟩ => ⟨S4352x512, .f32⟩
  | .hbm, ⟨7, _⟩ => ⟨S4352x512, .f32⟩
  | .hbm, ⟨8, _⟩ => ⟨S_, .f32⟩
  | .hbm, ⟨9, _⟩ => ⟨S4352x512, .f32⟩
  | .hbm, ⟨10, _⟩ => ⟨S4352x512, .f32⟩
  | .hbm, ⟨11, _⟩ => ⟨S_, .f32⟩
  | .hbm, ⟨12, _⟩ => ⟨S4352x512, .f32⟩
  | .hbm, ⟨13, _⟩ => ⟨S4352x512, .f32⟩
  | .hbm, ⟨14, _⟩ => ⟨S4352x512, .f32⟩
  | .hbm, ⟨15, _⟩ => ⟨S4352x512, .f32⟩
  | .hbm, ⟨16, _⟩ => ⟨S4352x512, .f32⟩
  | .hbm, ⟨17, _⟩ => ⟨S4352x512, .f32⟩
  | .hbm, ⟨18, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel21.lean ====
abbrev S4352x384 : Shape := ⟨2, ![4352, 384]⟩
abbrev S384 : Shape := ⟨1, ![384]⟩
abbrev S1x1x384 : Shape := ⟨3, ![1, 1, 384]⟩
abbrev S256x384 : Shape := ⟨2, ![256, 384]⟩
abbrev S1x384 : Shape := ⟨2, ![1, 384]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4352x384, .f32⟩
  | .hbm, ⟨1, _⟩ => ⟨S384, .f32⟩
  | .hbm, ⟨2, _⟩ => ⟨S4352x384, .f32⟩
  | .hbm, ⟨3, _⟩ => ⟨S1x1x384, .f32⟩
  | .hbm, ⟨4, _⟩ => ⟨S4352x384, .f32⟩
  | .hbm, ⟨5, _⟩ => ⟨S1x1x384, .f32⟩
  | .local _ .vmem, ⟨0, _⟩ => ⟨S256x384, .f32⟩
  | .local _ .vmem, ⟨1, _⟩ => ⟨S256x384, .f32⟩
  | .local _ .vmem, ⟨2, _⟩ => ⟨S1x1x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S1x1x384, .f32⟩
  | _, _ => ⟨S4352x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![17, 1], ![false, false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let arg1 : BitVec 32 := BitVec.ofNat 32 (i 1).val
  let c0_i32_15 : BitVec 32 := 0#32
  let v39 : BitVec 1 := Scalar.cmpi .eq arg1 c0_i32_15
  let v40 : BitVec 1 := Scalar.andi v38 v39
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let arg1 : BitVec 32 := BitVec.ofNat 32 (i 1).val
  let c0_i32_15 : BitVec 32 := 0#32
  let v39 : BitVec 1 := Scalar.cmpi .eq arg1 c0_i32_15
  let v40 : BitVec 1 := Scalar.andi v38 v39
  let v_true : BitVec 1 := 1#1
  let v43 : BitVec 1 := Scalar.xori v40 v_true
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference21Ideal.lean ====
abbrev S4352x384 : Shape := ⟨2, ![4352, 384]⟩
abbrev S384 : Shape := ⟨1, ![384]⟩
abbrev S_ : Shape := ⟨0, ![]⟩
abbrev S4352 : Shape := ⟨1, ![4352]⟩
abbrev S4352x1 : Shape := ⟨2, ![4352, 1]⟩
abbrev S1x384 : Shape := ⟨2, ![1, 384]⟩
abbrev S1x1x384 : Shape := ⟨3, ![1, 1, 384]⟩

abbrev nBuf : Space → Nat
  | .hbm => 49
  | .vmem => 0
  | .smem => 0
  | _ => 0

abbrev bufTy : (tb : Table) → Fin (tcTables nBuf tb) → BufTy
  | .hbm, ⟨0, _⟩ => ⟨S4352x384, .f32⟩
  | .hbm, ⟨1, _⟩ => ⟨S384, .f32⟩
  | .hbm, ⟨2, _⟩ => ⟨S4352x384, .f32⟩
  | .hbm, ⟨3, _⟩ => ⟨S4352x384, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x384, .f32⟩
  | .hbm, ⟨19, _⟩ => ⟨S4352x384, .f32⟩
  | .hbm, ⟨20, _⟩ => ⟨S1x384, .f32⟩
  | .hbm, ⟨21, _⟩ => ⟨S4352x384, .f32⟩
  | .hbm, ⟨22, _⟩ => ⟨S4352x384, .f32⟩
  | .hbm, ⟨23, _⟩ => ⟨S4352x384, .f32⟩
  | .hbm, ⟨24, _⟩ => ⟨S_, .f32⟩
  | .hbm, ⟨25, _⟩ => ⟨S384, .f32⟩
  | .hbm, ⟨26, _⟩ => ⟨S1x384, .f32⟩
  | .hbm, ⟨27, _⟩ => ⟨S4352x384, .f32⟩
  | .hbm, ⟨28, _⟩ => ⟨S4352x384, .f32⟩
  | .hbm, ⟨29, _⟩ => ⟨S_, .f32⟩
  | .hbm, ⟨30, _⟩ => ⟨S384, .f32⟩
  | .hbm, ⟨31, _⟩ => ⟨S4352x384, .f32⟩
  | .hbm, ⟨32, _⟩ => ⟨S_, .f32⟩
  | .hbm, ⟨33, _⟩ => ⟨S4352, .f32⟩
  | .hbm, ⟨34, _⟩ => ⟨S4352x1, .f32⟩
  | .hbm, ⟨35, _⟩ => ⟨S4352x384, .f32⟩
  | .hbm, ⟨36, _⟩ => ⟨S4352x384, .f32⟩
  | .hbm, ⟨37, _⟩ => ⟨S4352x1, .f32⟩
  | .hbm, ⟨38, _⟩ => ⟨S_, .f32⟩
  | .hbm, ⟨39, _⟩ => ⟨S4352x1, .f32⟩
  | .hbm, ⟨40, _⟩ => ⟨S4352x1, .f32⟩
  | .hbm, ⟨41, _⟩ => ⟨S_, .f32⟩
  | .hbm, ⟨42, _⟩ => ⟨S4352, .f32⟩
  | .hbm, ⟨43, _⟩ => ⟨S4352x384, .f32⟩
  | .hbm, ⟨44, _⟩ => ⟨S4352x384, .f32⟩
  | .hbm, ⟨45, _⟩ => ⟨S4352x384, .f32⟩
  | .hbm, ⟨46, _⟩ => ⟨S4352x384, .f32⟩
  | .hbm, ⟨47, _⟩ => ⟨S4352x384, .f32⟩
  | .hbm, ⟨48, _⟩ => ⟨S1x1x384, .f32⟩
  | _, _ => ⟨S4352x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel22.lean ====
abbrev S4352x512 : Shape := ⟨2, ![4352, 512]⟩
abbrev S3x512 : Shape := ⟨2, ![3, 512]⟩
abbrev S256x128 : Shape := ⟨2, ![256, 128]⟩
abbrev S3x128 : Shape := ⟨2, ![3, 128]⟩
abbrev S16x128 : Shape := ⟨2, ![16, 128]⟩
abbrev S288x128 : Shape := ⟨2, ![288, 128]⟩
abbrev S1x128 : Shape := ⟨2, ![1, 128]⟩

abbrev nBuf : Space → Nat
  | .hbm => 4
  | .vmem => 10
  | .smem => 0
  | _ => 0

abbrev bufTy : (tb : Table) → Fin (tcTables nBuf tb) → BufTy
  | .hbm, ⟨0, _⟩ => ⟨S4352x512, .f32⟩
  | .hbm, ⟨1, _⟩ => ⟨S3x512, .f32⟩
  | .hbm, ⟨2, _⟩ => ⟨S4352x512, .f32⟩
  | .hbm, ⟨3, _⟩ => ⟨S4352x512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S3x128, .f32⟩
  | .local _ .vmem, ⟨7, _⟩ => ⟨S3x128, .f32⟩
  | .local _ .vmem, ⟨8, _⟩ => ⟨S256x128, .f32⟩
  | .local _ .vmem, ⟨9, _⟩ => ⟨S256x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.minsi v0 c16_i32
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference22Ideal.lean ====
abbrev S4352x512 : Shape := ⟨2, ![4352, 512]⟩
abbrev S3x512 : Shape := ⟨2, ![3, 512]⟩
abbrev S4352 : Shape := ⟨1, ![4352]⟩
abbrev S3 : Shape := ⟨1, ![3]⟩
abbrev S4352x1x1 : Shape := ⟨3, ![4352, 1, 1]⟩
abbrev S_ : Shape := ⟨0, ![]⟩
abbrev S1x1x4352 : Shape := ⟨3, ![1, 1, 4352]⟩
abbrev S4352x1x4352 : Shape := ⟨3, ![4352, 1, 4352]⟩
abbrev S3x1 : Shape := ⟨2, ![3, 1]⟩
abbrev S1x3x1 : Shape := ⟨3, ![1, 3, 1]⟩
abbrev S4352x3x1 : Shape := ⟨3, ![4352, 3, 1]⟩
abbrev S4352x3x4352 : Shape := ⟨3, ![4352, 3, 4352]⟩
abbrev S4352x3x512 : Shape := ⟨3, ![4352, 3, 512]⟩
abbrev S1x3x512 : Shape := ⟨3, ![1, 3, 512]⟩
abbrev S512x4352 : Shape := ⟨2, ![512, 4352]⟩

abbrev nBuf : Space → Nat
  | .hbm => 53
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S3x512, .f32⟩
  | .hbm, ⟨2, _⟩ => ⟨S4352x512, .f32⟩
  | .hbm, ⟨3, _⟩ => ⟨S4352, .i32⟩
  | .hbm, ⟨4, _⟩ => ⟨S3, .i32⟩
  | .hbm, ⟨5, _⟩ => ⟨S4352x1x1, .i32⟩
  | .hbm, ⟨6, _⟩ => ⟨S_, .i32⟩
  | .hbm, ⟨7, _⟩ => ⟨S4352x1x1, .i32⟩
  | .hbm, ⟨8, _⟩ => ⟨S4352x1x1, .i1⟩
  | .hbm, ⟨9, _⟩ => ⟨S_, .i32⟩
  | .hbm, ⟨10, _⟩ => ⟨S4352, .i32⟩
  | .hbm, ⟨11, _⟩ => ⟨S4352, .i1⟩
  | .hbm, ⟨12, _⟩ => ⟨S1x1x4352, .i1⟩
  | .hbm, ⟨13, _⟩ => ⟨S4352x1x4352, .i1⟩
  | .hbm, ⟨14, _⟩ => ⟨S4352x1x4352, .i1⟩
  | .hbm, ⟨15, _⟩ => ⟨S4352x1x4352, .i1⟩
  | .hbm, ⟨16, _⟩ => ⟨S4352x1x1, .i32⟩
  | .hbm, ⟨17, _⟩ => ⟨S3x1, .i32⟩
  | .hbm, ⟨18, _⟩ => ⟨S1x3x1, .i32⟩
  | .hbm, ⟨19, _⟩ => ⟨S4352x3x1, .i32⟩
  | .hbm, ⟨20, _⟩ => ⟨S4352x3x1, .i32⟩
  | .hbm, ⟨21, _⟩ => ⟨S4352x3x1, .i32⟩
  | .hbm, ⟨22, _⟩ => ⟨S_, .i32⟩
  | .hbm, ⟨23, _⟩ => ⟨S4352, .i32⟩
  | .hbm, ⟨24, _⟩ => ⟨S4352, .i32⟩
  | .hbm, ⟨25, _⟩ => ⟨S1x1x4352, .i32⟩
  | .hbm, ⟨26, _⟩ => ⟨S4352x3x4352, .i32⟩
  | .hbm, ⟨27, _⟩ => ⟨S4352x3x4352, .i32⟩
  | .hbm, ⟨28, _⟩ => ⟨S4352x3x4352, .i1⟩
  | .hbm, ⟨29, _⟩ => ⟨S4352x3x4352, .i1⟩
  | .hbm, ⟨30, _⟩ => ⟨S4352x3x4352, .i1⟩
  | .hbm, ⟨31, _⟩ => ⟨S_, .f32⟩
  | .hbm, ⟨32, _⟩ => ⟨S_, .f32⟩
  | .hbm, ⟨33, _⟩ => ⟨S4352x3x4352, .f32⟩
  | .hbm, ⟨34, _⟩ => ⟨S4352x3x4352, .f32⟩
  | .hbm, ⟨35, _⟩ => ⟨S4352x3x4352, .f32⟩
  | .hbm, ⟨36, _⟩ => ⟨S4352x3x512, .f32⟩
  | .hbm, ⟨37, _⟩ => ⟨S1x3x512, .f32⟩
  | .hbm, ⟨38, _⟩ => ⟨S4352x3x512, .f32⟩
  | .hbm, ⟨39, _⟩ => ⟨S4352x3x512, .f32⟩
  | .hbm, ⟨40, _⟩ => ⟨S_, .f32⟩
  | .hbm, ⟨41, _⟩ => ⟨S4352x512, .f32⟩
  | .hbm, ⟨42, _⟩ => ⟨S4352x3x512, .f32⟩
  | .hbm, ⟨43, _⟩ => ⟨S4352x3x512, .f32⟩
  | .hbm, ⟨44, _⟩ => ⟨S_, .f32⟩
  | .hbm, ⟨45, _⟩ => ⟨S3x512, .f32⟩
  | .hbm, ⟨46, _⟩ => ⟨S1x3x512, .f32⟩
  | .hbm, ⟨47, _⟩ => ⟨S4352x3x512, .f32⟩
  | .hbm, ⟨48, _⟩ => ⟨S4352x3x512, .f32⟩
  | .hbm, ⟨49, _⟩ => ⟨S_, .f32⟩
  | .hbm, ⟨50, _⟩ => ⟨S3x512, .f32⟩
  | .hbm, ⟨51, _⟩ => ⟨S512x4352, .f32⟩
  | .hbm, ⟨52, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel23.lean ====
abbrev S4352x512 : Shape := ⟨2, ![4352, 512]⟩
abbrev S3x512 : Shape := ⟨2, ![3, 512]⟩
abbrev S256x128 : Shape := ⟨2, ![256, 128]⟩
abbrev S3x128 : Shape := ⟨2, ![3, 128]⟩
abbrev S16x128 : Shape := ⟨2, ![16, 128]⟩
abbrev S288x128 : Shape := ⟨2, ![288, 128]⟩
abbrev S1x128 : Shape := ⟨2, ![1, 128]⟩
abbrev S128 : Shape := ⟨1, ![128]⟩

abbrev nBuf : Space → Nat
  | .hbm => 4
  | .vmem => 10
  | .smem => 0
  | _ => 0

abbrev bufTy : (tb : Table) → Fin (tcTables nBuf tb) → BufTy
  | .hbm, ⟨0, _⟩ => ⟨S4352x512, .f32⟩
  | .hbm, ⟨1, _⟩ => ⟨S3x512, .f32⟩
  | .hbm, ⟨2, _⟩ => ⟨S4352x512, .f32⟩
  | .hbm, ⟨3, _⟩ => ⟨S3x512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S3x128, .f32⟩
  | .local _ .vmem, ⟨9, _⟩ => ⟨S3x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.minsi v0 c16_i32
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference23Ideal.lean ====
abbrev S4352x512 : Shape := ⟨2, ![4352, 512]⟩
abbrev S3x512 : Shape := ⟨2, ![3, 512]⟩
abbrev S4352 : Shape := ⟨1, ![4352]⟩
abbrev S3 : Shape := ⟨1, ![3]⟩
abbrev S4352x1x1 : Shape := ⟨3, ![4352, 1, 1]⟩
abbrev S_ : Shape := ⟨0, ![]⟩
abbrev S1x1x4352 : Shape := ⟨3, ![1, 1, 4352]⟩
abbrev S4352x1x4352 : Shape := ⟨3, ![4352, 1, 4352]⟩
abbrev S3x1 : Shape := ⟨2, ![3, 1]⟩
abbrev S1x3x1 : Shape := ⟨3, ![1, 3, 1]⟩
abbrev S4352x3x1 : Shape := ⟨3, ![4352, 3, 1]⟩
abbrev S4352x3x4352 : Shape := ⟨3, ![4352, 3, 4352]⟩
abbrev S4352x3x512 : Shape := ⟨3, ![4352, 3, 512]⟩
abbrev S1x3x512 : Shape := ⟨3, ![1, 3, 512]⟩
abbrev S512x4352 : Shape := ⟨2, ![512, 4352]⟩

abbrev nBuf : Space → Nat
  | .hbm => 53
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S3x512, .f32⟩
  | .hbm, ⟨2, _⟩ => ⟨S4352x512, .f32⟩
  | .hbm, ⟨3, _⟩ => ⟨S4352, .i32⟩
  | .hbm, ⟨4, _⟩ => ⟨S3, .i32⟩
  | .hbm, ⟨5, _⟩ => ⟨S4352x1x1, .i32⟩
  | .hbm, ⟨6, _⟩ => ⟨S_, .i32⟩
  | .hbm, ⟨7, _⟩ => ⟨S4352x1x1, .i32⟩
  | .hbm, ⟨8, _⟩ => ⟨S4352x1x1, .i1⟩
  | .hbm, ⟨9, _⟩ => ⟨S_, .i32⟩
  | .hbm, ⟨10, _⟩ => ⟨S4352, .i32⟩
  | .hbm, ⟨11, _⟩ => ⟨S4352, .i1⟩
  | .hbm, ⟨12, _⟩ => ⟨S1x1x4352, .i1⟩
  | .hbm, ⟨13, _⟩ => ⟨S4352x1x4352, .i1⟩
  | .hbm, ⟨14, _⟩ => ⟨S4352x1x4352, .i1⟩
  | .hbm, ⟨15, _⟩ => ⟨S4352x1x4352, .i1⟩
  | .hbm, ⟨16, _⟩ => ⟨S4352x1x1, .i32⟩
  | .hbm, ⟨17, _⟩ => ⟨S3x1, .i32⟩
  | .hbm, ⟨18, _⟩ => ⟨S1x3x1, .i32⟩
  | .hbm, ⟨19, _⟩ => ⟨S4352x3x1, .i32⟩
  | .hbm, ⟨20, _⟩ => ⟨S4352x3x1, .i32⟩
  | .hbm, ⟨21, _⟩ => ⟨S4352x3x1, .i32⟩
  | .hbm, ⟨22, _⟩ => ⟨S_, .i32⟩
  | .hbm, ⟨23, _⟩ => ⟨S4352, .i32⟩
  | .hbm, ⟨24, _⟩ => ⟨S4352, .i32⟩
  | .hbm, ⟨25, _⟩ => ⟨S1x1x4352, .i32⟩
  | .hbm, ⟨26, _⟩ => ⟨S4352x3x4352, .i32⟩
  | .hbm, ⟨27, _⟩ => ⟨S4352x3x4352, .i32⟩
  | .hbm, ⟨28, _⟩ => ⟨S4352x3x4352, .i1⟩
  | .hbm, ⟨29, _⟩ => ⟨S4352x3x4352, .i1⟩
  | .hbm, ⟨30, _⟩ => ⟨S4352x3x4352, .i1⟩
  | .hbm, ⟨31, _⟩ => ⟨S_, .f32⟩
  | .hbm, ⟨32, _⟩ => ⟨S_, .f32⟩
  | .hbm, ⟨33, _⟩ => ⟨S4352x3x4352, .f32⟩
  | .hbm, ⟨34, _⟩ => ⟨S4352x3x4352, .f32⟩
  | .hbm, ⟨35, _⟩ => ⟨S4352x3x4352, .f32⟩
  | .hbm, ⟨36, _⟩ => ⟨S4352x3x512, .f32⟩
  | .hbm, ⟨37, _⟩ => ⟨S1x3x512, .f32⟩
  | .hbm, ⟨38, _⟩ => ⟨S4352x3x512, .f32⟩
  | .hbm, ⟨39, _⟩ => ⟨S4352x3x512, .f32⟩
  | .hbm, ⟨40, _⟩ => ⟨S_, .f32⟩
  | .hbm, ⟨41, _⟩ => ⟨S4352x512, .f32⟩
  | .hbm, ⟨42, _⟩ => ⟨S4352x3x512, .f32⟩
  | .hbm, ⟨43, _⟩ => ⟨S4352x3x512, .f32⟩
  | .hbm, ⟨44, _⟩ => ⟨S_, .f32⟩
  | .hbm, ⟨45, _⟩ => ⟨S3x512, .f32⟩
  | .hbm, ⟨46, _⟩ => ⟨S1x3x512, .f32⟩
  | .hbm, ⟨47, _⟩ => ⟨S4352x3x512, .f32⟩
  | .hbm, ⟨48, _⟩ => ⟨S4352x3x512, .f32⟩
  | .hbm, ⟨49, _⟩ => ⟨S_, .f32⟩
  | .hbm, ⟨50, _⟩ => ⟨S3x512, .f32⟩
  | .hbm, ⟨51, _⟩ => ⟨S512x4352, .f32⟩
  | .hbm, ⟨52, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel24.lean ====
abbrev S4352x512 : Shape := ⟨2, ![4352, 512]⟩
abbrev S3x512 : Shape := ⟨2, ![3, 512]⟩
abbrev S256x128 : Shape := ⟨2, ![256, 128]⟩
abbrev S3x128 : Shape := ⟨2, ![3, 128]⟩
abbrev S16x128 : Shape := ⟨2, ![16, 128]⟩
abbrev S288x128 : Shape := ⟨2, ![288, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4352x512, .f32⟩
  | .hbm, ⟨1, _⟩ => ⟨S3x512, .f32⟩
  | .hbm, ⟨2, _⟩ => ⟨S4352x512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S3x128, .f32⟩
  | .local _ .vmem, ⟨7, _⟩ => ⟨S3x128, .f32⟩
  | .local _ .vmem, ⟨8, _⟩ => ⟨S256x128, .f32⟩
  | .local _ .vmem, ⟨9, _⟩ => ⟨S256x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.minsi v0 c16_i32
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference24Ideal.lean ====
abbrev S4352x512 : Shape := ⟨2, ![4352, 512]⟩
abbrev S3x512 : Shape := ⟨2, ![3, 512]⟩
abbrev S4352 : Shape := ⟨1, ![4352]⟩
abbrev S3 : Shape := ⟨1, ![3]⟩
abbrev S4352x1x1 : Shape := ⟨3, ![4352, 1, 1]⟩
abbrev S_ : Shape := ⟨0, ![]⟩
abbrev S1x1x4352 : Shape := ⟨3, ![1, 1, 4352]⟩
abbrev S4352x1x4352 : Shape := ⟨3, ![4352, 1, 4352]⟩
abbrev S3x1 : Shape := ⟨2, ![3, 1]⟩
abbrev S1x3x1 : Shape := ⟨3, ![1, 3, 1]⟩
abbrev S4352x3x1 : Shape := ⟨3, ![4352, 3, 1]⟩
abbrev S4352x3x4352 : Shape := ⟨3, ![4352, 3, 4352]⟩
abbrev S4352x3x512 : Shape := ⟨3, ![4352, 3, 512]⟩
abbrev S1x3x512 : Shape := ⟨3, ![1, 3, 512]⟩

abbrev nBuf : Space → Nat
  | .hbm => 41
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S3x512, .f32⟩
  | .hbm, ⟨2, _⟩ => ⟨S4352, .i32⟩
  | .hbm, ⟨3, _⟩ => ⟨S3, .i32⟩
  | .hbm, ⟨4, _⟩ => ⟨S4352x1x1, .i32⟩
  | .hbm, ⟨5, _⟩ => ⟨S_, .i32⟩
  | .hbm, ⟨6, _⟩ => ⟨S4352x1x1, .i32⟩
  | .hbm, ⟨7, _⟩ => ⟨S4352x1x1, .i1⟩
  | .hbm, ⟨8, _⟩ => ⟨S_, .i32⟩
  | .hbm, ⟨9, _⟩ => ⟨S4352, .i32⟩
  | .hbm, ⟨10, _⟩ => ⟨S4352, .i1⟩
  | .hbm, ⟨11, _⟩ => ⟨S1x1x4352, .i1⟩
  | .hbm, ⟨12, _⟩ => ⟨S4352x1x4352, .i1⟩
  | .hbm, ⟨13, _⟩ => ⟨S4352x1x4352, .i1⟩
  | .hbm, ⟨14, _⟩ => ⟨S4352x1x4352, .i1⟩
  | .hbm, ⟨15, _⟩ => ⟨S4352x1x1, .i32⟩
  | .hbm, ⟨16, _⟩ => ⟨S3x1, .i32⟩
  | .hbm, ⟨17, _⟩ => ⟨S1x3x1, .i32⟩
  | .hbm, ⟨18, _⟩ => ⟨S4352x3x1, .i32⟩
  | .hbm, ⟨19, _⟩ => ⟨S4352x3x1, .i32⟩
  | .hbm, ⟨20, _⟩ => ⟨S4352x3x1, .i32⟩
  | .hbm, ⟨21, _⟩ => ⟨S_, .i32⟩
  | .hbm, ⟨22, _⟩ => ⟨S4352, .i32⟩
  | .hbm, ⟨23, _⟩ => ⟨S4352, .i32⟩
  | .hbm, ⟨24, _⟩ => ⟨S1x1x4352, .i32⟩
  | .hbm, ⟨25, _⟩ => ⟨S4352x3x4352, .i32⟩
  | .hbm, ⟨26, _⟩ => ⟨S4352x3x4352, .i32⟩
  | .hbm, ⟨27, _⟩ => ⟨S4352x3x4352, .i1⟩
  | .hbm, ⟨28, _⟩ => ⟨S4352x3x4352, .i1⟩
  | .hbm, ⟨29, _⟩ => ⟨S4352x3x4352, .i1⟩
  | .hbm, ⟨30, _⟩ => ⟨S_, .f32⟩
  | .hbm, ⟨31, _⟩ => ⟨S_, .f32⟩
  | .hbm, ⟨32, _⟩ => ⟨S4352x3x4352, .f32⟩
  | .hbm, ⟨33, _⟩ => ⟨S4352x3x4352, .f32⟩
  | .hbm, ⟨34, _⟩ => ⟨S4352x3x4352, .f32⟩
  | .hbm, ⟨35, _⟩ => ⟨S4352x3x512, .f32⟩
  | .hbm, ⟨36, _⟩ => ⟨S1x3x512, .f32⟩
  | .hbm, ⟨37, _⟩ => ⟨S4352x3x512, .f32⟩
  | .hbm, ⟨38, _⟩ => ⟨S4352x3x512, .f32⟩
  | .hbm, ⟨39, _⟩ => ⟨S_, .f32⟩
  | .hbm, ⟨40, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Body.lean ====
/- What one grid point of the attention-gradient kernel leaves in each of its five output blocks, as terms of the six
   input blocks and, where the case adds to what the point before left, of that. -/
module

public import proofs.«01_k».proof.Proof.Gen.KernelIdeal.Value
public import Idealize.ShloMosaic.Lib.Pipeline.Value

@[expose] public section

set_option maxRecDepth 16384

noncomputable section

namespace AttGrad

open Cert.KernelIdeal Cert.KernelIdeal.Gen Idealize.ShloMosaic Idealize.ShloMosaic.TcCoe Idealize.SL.Sem

variable {F : FTy → Type} [FloatOps F] [Named F]

/-! ## The values of a tile -/

section Tile
variable (i : grid0.Coords) (x0 x1 x5 : Vec F S256x128 .f32) (x2 x3 x4 : Vec F S4352x128 .f32)

/-- The scores of the tile's 256 queries against all keys. -/
def tScore : FVec F S256x4352 .f32 := k0_pay10 i x0 x1 x2 x3
/-- Their softmax. -/
def tProb : FVec F S256x4352 .f32 := k0_pay12 (tScore i x0 x1 x2 x3) (k0_pay11 i x0 x1 x2 x3)
/-- The gradient with respect to the scores. -/
def tGrad : FVec F S256x4352 .bf16 := k0_pay13 (k0_pay8 x4) (k0_pay9 x5) (tScore i x0 x1 x2 x3) (k0_pay11 i x0 x1 x2 x3)
/-- The gradient of the tile's queries. -/
def tQ : FVec F S256x128 .f32 := k0_pay14 (k0_pay6 x2) (k0_pay8 x4) (k0_pay9 x5) (tScore i x0 x1 x2 x3) (k0_pay11 i x0 x1 x2 x3)
/-- The gradient of the tile's rotary queries. -/
def tQr : FVec F S256x128 .f32 := k0_pay15 (k0_pay7 x3) (k0_pay8 x4) (k0_pay9 x5) (tScore i x0 x1 x2 x3) (k0_pay11 i x0 x1 x2 x3)
/-- The keys' gradient `acc` with the tile's part added. -/
def tK (acc : Vec F S4352x128 .f32) : FVec F S4352x128 .f32 :=
  k0_pay1 (k0_pay4 x0) (tGrad i x0 x1 x5 x2 x3 x4) (k0_pay19 acc) (constant S4352x128 .f32 0x00000000#32)
/-- The rotary keys' gradient `acc` with the tile's part added. -/
def tKr (acc : Vec F S4352x128 .f32) : FVec F S4352x128 .f32 := k0_pay2 (k0_pay5 x1) (tGrad i x0 x1 x5 x2 x3 x4) acc
/-- The values' gradient `acc` with the tile's part added. -/
def tV (acc : Vec F S4352x128 .f32) : FVec F S4352x128 .f32 := k0_pay3 (k0_pay9 x5) (tProb i x0 x1 x2 x3) acc

end Tile

theorem starts_zero : (![0, 0] : Fin 2 → Nat) = fun _ => 0 := funext fun a => by fin_cases a <;> rfl

section Read
variable (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S4352x128 .f32) (harg4 : arg4.IsWhole) (arg5 : Memref sig .tc .vmem S4352x128 .f32) (harg5 : arg5.IsWhole) (arg6 : Memref sig .tc .vmem S4352x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S4352x128 .f32) (harg10 : arg10.IsWhole) (arg11 : Memref sig .tc .vmem S4352x128 .f32) (harg11 : arg11.IsWhole) (arg12 : Memref sig .tc .vmem S4352x128 .f32) (harg12 : arg12.IsWhole)
  (x0 x1 : Vec F S256x128 .f32) (x2 x3 x4 : Vec F S4352x128 .f32) (x5 : Vec F S256x128 .f32)

/-! ## First point of all -/

theorem out_A_6 (hc0 : cond0_0 i) (hc1 : cond0_1 i) :
    out0_A_6 c i arg2 harg2 arg3 harg3 arg4 harg4 arg5 harg5 arg6 harg6 arg7 harg7 arg8 harg8 arg9 harg9 arg10 harg10 arg11 harg11 arg12 harg12 hc0 hc1 x0 x1 x2 x3 x4 x5  = tQ i x0 x1 x5 x2 x3 x4 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 hc1 x0 x1 x2 x3 x4 x5 )]
  unfold kernelRun0_A
  dsimp only
  sl_unfold_words
  rw [View.canon_unit_zero starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_A_7 (hc0 : cond0_0 i) (hc1 : cond0_1 i) :
    out0_A_7 c i arg2 harg2 arg3 harg3 arg4 harg4 arg5 harg5 arg6 harg6 arg7 harg7 arg8 harg8 arg9 harg9 arg10 harg10 arg11 harg11 arg12 harg12 hc0 hc1 x0 x1 x2 x3 x4 x5  = tQr i x0 x1 x5 x2 x3 x4 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 hc1 x0 x1 x2 x3 x4 x5 )]
  unfold kernelRun0_A
  dsimp only
  sl_unfold_words
  rw [View.canon_unit_zero starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_A_8 (hc0 : cond0_0 i) (hc1 : cond0_1 i) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5  = tK i x0 x1 x5 x2 x3 x4 (k0_pay16 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 )]
  unfold kernelRun0_A
  dsimp only
  sl_unfold_words
  rw [View.canon_cons_unit_zero (S := S4352x128) starts_zero, View.readCov_unit_zero (S := S4352x128) _ starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_A_9 (hc0 : cond0_0 i) (hc1 : cond0_1 i) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5  = tKr i x0 x1 x5 x2 x3 x4 (k0_pay18 (F := F)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 x0 x1 x2 x3 x4 x5 )]
  unfold kernelRun0_A
  dsimp only
  sl_unfold_words
  rw [View.canon_cons_unit_zero (S := S4352x128) starts_zero, View.readCov_unit_zero (S := S4352x128) _ starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_A_10 (hc0 : cond0_0 i) (hc1 : cond0_1 i) :
    out0_A_10 c i arg2 harg2 arg3 harg3 arg4 harg4 arg5 harg5 arg6 harg6 arg7 harg7 arg8 harg8 arg9 harg9 arg10 harg10 arg11 harg11 arg12 harg12 hc0 hc1 x0 x1 x2 x3 x4 x5  = tV i x0 x1 x5 x2 x3 (k0_pay17 (F := F)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 hc1 x0 x1 x2 x3 x4 x5 )]
  unfold kernelRun0_A
  dsimp only
  sl_unfold_words
  rw [View.canon_cons_unit_zero (S := S4352x128) starts_zero, View.readCov_unit_zero (S := S4352x128) _ starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

/-! ## A point inside a head -/

theorem out_B_6 (hc0 : ¬cond0_0 i) (hc1 : ¬cond0_1 i) (xo8 xo9 xo10 : Vec F S4352x128 .f32) :
    out0_B_6 c i arg2 harg2 arg3 harg3 arg4 harg4 arg5 harg5 arg6 harg6 arg7 harg7 arg8 harg8 arg9 harg9 arg10 harg10 arg11 harg11 arg12 harg12 hc0 hc1 x0 x1 x2 x3 x4 x5 xo8 xo9 xo10 = tQ i x0 x1 x5 x2 x3 x4 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 hc1 x0 x1 x2 x3 x4 x5 xo8 xo9 xo10)]
  unfold kernelRun0_B
  dsimp only
  sl_unfold_words
  rw [View.canon_unit_zero starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_B_7 (hc0 : ¬cond0_0 i) (hc1 : ¬cond0_1 i) (xo8 xo9 xo10 : Vec F S4352x128 .f32) :
    out0_B_7 c i arg2 harg2 arg3 harg3 arg4 harg4 arg5 harg5 arg6 harg6 arg7 harg7 arg8 harg8 arg9 harg9 arg10 harg10 arg11 harg11 arg12 harg12 hc0 hc1 x0 x1 x2 x3 x4 x5 xo8 xo9 xo10 = tQr i x0 x1 x5 x2 x3 x4 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 hc1 x0 x1 x2 x3 x4 x5 xo8 xo9 xo10)]
  unfold kernelRun0_B
  dsimp only
  sl_unfold_words
  rw [View.canon_unit_zero starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_B_8 (hc0 : ¬cond0_0 i) (hc1 : ¬cond0_1 i) (xo8 xo9 xo10 : Vec F S4352x128 .f32) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 xo8 xo9 xo10 = tK i x0 x1 x5 x2 x3 x4 xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 xo8 xo9 xo10)]
  unfold kernelRun0_B
  dsimp only
  sl_unfold_words
  rw [View.canon_unit_zero starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_B_9 (hc0 : ¬cond0_0 i) (hc1 : ¬cond0_1 i) (xo8 xo9 xo10 : Vec F S4352x128 .f32) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 xo8 xo9 xo10 = tKr i x0 x1 x5 x2 x3 x4 xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 x0 x1 x2 x3 x4 x5 xo8 xo9 xo10)]
  unfold kernelRun0_B
  dsimp only
  sl_unfold_words
  rw [View.canon_unit_zero starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_B_10 (hc0 : ¬cond0_0 i) (hc1 : ¬cond0_1 i) (xo8 xo9 xo10 : Vec F S4352x128 .f32) :
    out0_B_10 c i arg2 harg2 arg3 harg3 arg4 harg4 arg5 harg5 arg6 harg6 arg7 harg7 arg8 harg8 arg9 harg9 arg10 harg10 arg11 harg11 arg12 harg12 hc0 hc1 x0 x1 x2 x3 x4 x5 xo8 xo9 xo10 = tV i x0 x1 x5 x2 x3 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 hc1 x0 x1 x2 x3 x4 x5 xo8 xo9 xo10)]
  unfold kernelRun0_B
  dsimp only
  sl_unfold_words
  rw [View.canon_unit_zero starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

/-! ## Another head's first point -/

theorem out_C_6 (hc0 : cond0_0 i) (hc1 : ¬cond0_1 i) (xo9 : Vec F S4352x128 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 x5 xo9 = tQ i x0 x1 x5 x2 x3 x4 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 x5 xo9)]
  unfold kernelRun0_C
  dsimp only
  sl_unfold_words
  rw [View.canon_unit_zero starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_C_7 (hc0 : cond0_0 i) (hc1 : ¬cond0_1 i) (xo9 : Vec F S4352x128 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 xo9 = tQr i x0 x1 x5 x2 x3 x4 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 xo9)]
  unfold kernelRun0_C
  dsimp only
  sl_unfold_words
  rw [View.canon_unit_zero starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_C_8 (hc0 : cond0_0 i) (hc1 : ¬cond0_1 i) (xo9 : Vec F S4352x128 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 xo9 = tK i x0 x1 x5 x2 x3 x4 (k0_pay16 (F := F)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 xo9)]
  unfold kernelRun0_C
  dsimp only
  sl_unfold_words
  rw [View.canon_cons_unit_zero (S := S4352x128) starts_zero, View.readCov_unit_zero (S := S4352x128) _ starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_C_9 (hc0 : cond0_0 i) (hc1 : ¬cond0_1 i) (xo9 : Vec F S4352x128 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 xo9 = tKr i x0 x1 x5 x2 x3 x4 xo9 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 xo9)]
  unfold kernelRun0_C
  dsimp only
  sl_unfold_words
  rw [View.canon_unit_zero starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

theorem out_C_10 (hc0 : cond0_0 i) (hc1 : ¬cond0_1 i) (xo9 : Vec F S4352x128 .f32) :
    out0_C_10 c i arg2 harg2 arg3 harg3 arg4 harg4 arg5 harg5 arg6 harg6 arg7 harg7 arg8 harg8 arg9 harg9 arg10 harg10 arg11 harg11 arg12 harg12 hc0 hc1 x0 x1 x2 x3 x4 x5 xo9 = tV i x0 x1 x5 x2 x3 (k0_pay17 (F := F)) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 hc0 hc1 x0 x1 x2 x3 x4 x5 xo9)]
  unfold kernelRun0_C
  dsimp only
  sl_unfold_words
  rw [View.canon_cons_unit_zero (S := S4352x128) starts_zero, View.readCov_unit_zero (S := S4352x128) _ starts_zero]
  simp only [View.readAt_eq_ld, harg2.read_unread, harg3.read_unread, harg4.read_unread, harg5.read_unread, harg6.read_unread, harg7.read_unread, harg10.read_unread, harg11.read_unread, harg12.read_unread, View.ld_unit_zero (S := S256x128) starts_zero, View.ld_unit_zero (S := S4352x128) starts_zero]
  rfl

end Read

end AttGrad

end
-- ==== Proof.Dots.lean ====
/- Matrix products over the extended reals read at an entry, in the form a kernel writes them into a zero block:
   rows by columns, rows by rows, and columns by columns (the last is the form of a gradient of weights). -/
module

public import Idealize.ShloMosaic.PureOps.Ideal.Laws
public import Idealize.ShloMosaic.Lib.MatmulPlain
public import Idealize.ShloMosaic.Lib.ValueIdx
public import Mathlib.Tactic.FinCases

@[expose] public section

noncomputable section

namespace AttGrad

open Idealize.ShloMosaic Idealize.ShloMosaic.ValueIdx

/-- The product that contracts the rows of both operands. -/
def rowsDims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem rows_rank (K M N : Nat) : (rowsDims K M N).contr.rank = 1 := rfl
theorem rows_size (K M N : Nat) : (rowsDims K M N).contr.size ⟨0, by rw [rows_rank]; exact Nat.one_pos⟩ = K := rfl

/-- Columns by columns: entry (r, c) sums over the rows. -/
theorem matmul_rows {K M N : ℕ} {φ₁ φ₂ : FTy} (prec : Option ContractPrecision) (lhs : FVec Ideal ⟨2, ![K, M]⟩ φ₁)
    (rhs : FVec Ideal ⟨2, ![K, N]⟩ φ₂) (acc : FVec Ideal ⟨2, ![M, N]⟩ .f32) (r : Fin M) (c : Fin N) :
    FloatOps.matmul (rowsDims K M N) prec lhs rhs acc (ix2 r c) = acc (ix2 r c) + ∑ k : Fin K, lhs (ix2 k r) * rhs (ix2 k c) := by
  rw [Ideal.matmul_apply, ← Equiv.sum_comp (contrEquiv1 _ K (rows_rank K M N) (rows_size K M N)).symm]
  refine congrArg (acc (ix2 r c) + ·) (Finset.sum_congr rfl fun k _ => ?_)
  have hk := contrEquiv1_symm_val _ K (rows_rank K M N) (rows_size K M N) k
  have el : (rowsDims K M N).lhsIdx (ix2 r c) ((contrEquiv1 _ K (rows_rank K M N) (rows_size K M N)).symm k) = ix2 k r := by
    funext a; apply Fin.ext
    match a with
    | ⟨0, _⟩ => exact hk
    | ⟨1, _⟩ => rfl
  have er : (rowsDims K M N).rhsIdx (ix2 r c) ((contrEquiv1 _ K (rows_rank K M N) (rows_size K M N)).symm k) = ix2 k c := by
    funext a; apply Fin.ext
    match a with
    | ⟨0, _⟩ => exact hk
    | ⟨1, _⟩ => rfl
  rw [el, er]

/-- Into a zero block: rows by columns. -/
theorem dot_nn {M K N : ℕ} {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_plain_apply, constant_apply, Ideal.ofBits_zero_f32, zero_add]

/-- Into a zero block: rows by rows. -/
theorem dot_nt {M K N : ℕ} {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_transposedRhs_apply, constant_apply, Ideal.ofBits_zero_f32, zero_add]

/-- Into a zero block: columns by columns. -/
theorem dot_tn {M K N : ℕ} {φ₁ φ₂ : FTy} (prec : Option ContractPrecision) (lhs : FVec Ideal ⟨2, ![K, M]⟩ φ₁)
    (rhs : FVec Ideal ⟨2, ![K, N]⟩ φ₂) (r : Fin M) (c : Fin N) :
    FloatOps.matmul (rowsDims K M N) prec lhs rhs (constant ⟨2, ![M, N]⟩ .f32 0x00000000#32) (ix2 r c)
      = ∑ k : Fin K, lhs (ix2 k r) * rhs (ix2 k c) := by
  rw [matmul_rows, constant_apply, Ideal.ofBits_zero_f32, zero_add]

end AttGrad

end
-- ==== Proof.SoftmaxGrad.lean ====
/- One row of the softmax and of its gradient over the extended reals. A row of scores has the weights `ex`, their sum
   `sm`, and the normalised row `prob`; the gradient of a row of probabilities `dp` is `grad`. Two spellings of each
   occur: the kernel multiplies by one over the sum, the reference divides by the sum and by its square. They agree on a
   row whose scores are real numbers. A row that is minus infinity outside a part of it is the row of that part. -/
module

public import Idealize.ShloMosaic.PureOps.Ideal.Laws

@[expose] public section

noncomputable section

namespace AttGrad

open Idealize.ShloMosaic

/-! ## Factors that distribute -/

/-- A factor that is neither negative nor plus infinity may be taken into a sum, from the left. -/
theorem mul_sum {ι : Type} (s : Finset ι) (f : ι → EReal) {c : EReal} (h : 0 ≤ c) (h' : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h h', ih]

/-- The same from the right. -/
theorem sum_mul {ι : Type} (s : Finset ι) (f : ι → EReal) {c : EReal} (h : 0 ≤ c) (h' : c ≠ ⊤) :
    (∑ i ∈ s, f i) * c = ∑ i ∈ s, f i * c := by
  rw [mul_comm, mul_sum s f h h']
  exact Finset.sum_congr rfl fun i _ => mul_comm _ _

/-- A sum of real numbers is a real number. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A value below plus infinity in absolute value is a real number. -/
theorem real_of_abs_lt {x : EReal} (h : max x (-x) < ⊤) : ∃ r : ℝ, x = (r : EReal) := by
  induction x with
  | bot => simp at h
  | top => simp at h
  | coe r => exact ⟨r, rfl⟩

/-! ## A row -/

section Row

variable {κ : Type} [Fintype κ]

/-- The largest score of the row. -/
def mx (s : κ → EReal) : EReal := Finset.univ.sup s
/-- The weight of entry `j`: the exponential of its distance to the largest. -/
def ex (s : κ → EReal) (j : κ) : EReal := Ideal.exp (s j - mx s)
/-- The sum of the weights. -/
def sm (s : κ → EReal) : EReal := ∑ k, ex s k
/-- The softmax, with one reciprocal for the row. -/
def prob (s : κ → EReal) (j : κ) : EReal := ex s j * Ideal.div 1 (sm s)
/-- The gradient with respect to the scores, from the gradient `dp` with respect to the softmax. -/
def grad (s dp : κ → EReal) (j : κ) : EReal := prob s j * (dp j - ∑ k, prob s k * dp k)
/-- The softmax with a division per entry. -/
def probQ (s : κ → EReal) (j : κ) : EReal := Ideal.div (ex s j) (sm s)
/-- The gradient as differentiation of that quotient writes it. -/
def gradQ (s dp : κ → EReal) (j : κ) : EReal :=
  (Ideal.div (dp j) (sm s) + -∑ k, dp k * Ideal.div 1 (sm s * sm s) * ex s k) * ex s j

variable [Nonempty κ]

/-- The largest of real scores is a real number. -/
theorem mx_real {s : κ → EReal} (h : ∀ j, ∃ r : ℝ, s j = (r : EReal)) : ∃ M : ℝ, mx s = (M : EReal) := by
  obtain ⟨j, _, hj⟩ := Finset.exists_mem_eq_sup Finset.univ Finset.univ_nonempty s
  obtain ⟨r, hr⟩ := h j
  exact ⟨r, by unfold mx; rw [hj, hr]⟩

/-- Of real scores, the sum of the weights is a positive real number. -/
theorem sm_real {s : κ → EReal} (h : ∀ j, ∃ r : ℝ, s j = (r : EReal)) : ∃ σ : ℝ, 0 < σ ∧ sm s = (σ : EReal) := by
  obtain ⟨M, hM⟩ := mx_real h
  choose r hr using h
  refine ⟨∑ j, Real.exp (r j - M), Finset.sum_pos (fun j _ => Real.exp_pos _) Finset.univ_nonempty, ?_⟩
  unfold sm ex
  rw [← sum_coe]
  refine Finset.sum_congr rfl fun j _ => ?_
  rw [hM, hr j, ← EReal.coe_sub, Ideal.exp_coe]

/-- Dividing the row by its sum is multiplying by the reciprocal. -/
theorem probQ_eq {s : κ → EReal} (h : ∀ j, ∃ r : ℝ, s j = (r : EReal)) (j : κ) : probQ s j = prob s j := by
  obtain ⟨σ, hσ, hs⟩ := sm_real h
  unfold probQ prob
  rw [hs, Ideal.div_coe hσ.ne', Ideal.div_coe hσ.ne', one_mul]

/-- The differentiated quotient is the gradient. -/
theorem gradQ_eq {s : κ → EReal} (dp : κ → EReal) (h : ∀ j, ∃ r : ℝ, s j = (r : EReal)) (j : κ) :
    gradQ s dp j = grad s dp j := by
  obtain ⟨σ, hσ, hs⟩ := sm_real h
  have hc0 : (0 : EReal) ≤ ((1 / σ : ℝ) : EReal) := EReal.coe_nonneg.mpr (one_div_pos.mpr hσ).le
  have hct : ((1 / σ : ℝ) : EReal) ≠ ⊤ := EReal.coe_ne_top _
  unfold gradQ grad prob
  rw [hs, ← EReal.coe_mul, Ideal.div_coe hσ.ne', Ideal.div_coe (mul_pos hσ hσ).ne', Ideal.div_coe hσ.ne', one_mul, one_mul]
  have e : ((1 / (σ * σ) : ℝ) : EReal) = ((1 / σ : ℝ) : EReal) * ((1 / σ : ℝ) : EReal) := by
    rw [← EReal.coe_mul]; congr 1; field_simp
  generalize ((1 / σ : ℝ) : EReal) = c at *
  rw [e]
  have hsum : ∑ k, dp k * (c * c) * ex s k = c * ∑ k, ex s k * c * dp k := by
    rw [mul_sum _ _ hc0 hct]
    exact Finset.sum_congr rfl fun k _ => by ac_rfl
  rw [hsum, sub_eq_add_neg, mul_assoc (ex s j), EReal.left_distrib_of_nonneg_of_ne_top hc0 hct, mul_neg, mul_comm (ex s j), mul_comm c (dp j)]

end Row

/-! ## A row with entries masked away -/

section Mask

variable {κ ι : Type} [Fintype κ] [Fintype ι] {e : κ → ι} {s : κ → EReal} {t : ι → EReal}

/-- Minus infinity does not count for the largest. -/
theorem mx_mask (hs : ∀ k, t (e k) = s k) (hm : ∀ j, j ∉ Set.range e → t j = ⊥) : mx t = mx s := by
  unfold mx
  refine le_antisymm (Finset.sup_le fun j _ => ?_) (Finset.sup_le fun k _ => ?_)
  · by_cases hj : j ∈ Set.range e
    · obtain ⟨k, rfl⟩ := hj
      rw [hs]
      exact Finset.le_sup (f := s) (Finset.mem_univ k)
    · rw [hm j hj]; exact bot_le
  · rw [← hs]
    exact Finset.le_sup (f := t) (Finset.mem_univ (e k))

/-- A kept entry has the weight it has in the part. -/
theorem ex_mask (hs : ∀ k, t (e k) = s k) (hm : ∀ j, j ∉ Set.range e → t j = ⊥) (k : κ) : ex t (e k) = ex s k := by
  unfold ex; rw [mx_mask hs hm, hs]

/-- A masked entry has weight zero. -/
theorem ex_out (hm : ∀ j, j ∉ Set.range e → t j = ⊥) {j : ι} (hj : j ∉ Set.range e) : ex t j = 0 := by
  unfold ex; rw [hm j hj, EReal.bot_sub, Ideal.exp_bot]

/-- So the two sums of weights agree. -/
theorem sm_mask (he : Function.Injective e) (hs : ∀ k, t (e k) = s k) (hm : ∀ j, j ∉ Set.range e → t j = ⊥) : sm t = sm s := by
  unfold sm
  exact (Fintype.sum_of_injective e he _ _ (fun j hj => ex_out hm hj) fun k => (ex_mask hs hm k).symm).symm

/-- The softmax of a kept entry. -/
theorem prob_mask (he : Function.Injective e) (hs : ∀ k, t (e k) = s k) (hm : ∀ j, j ∉ Set.range e → t j = ⊥) (k : κ) :
    prob t (e k) = prob s k := by
  unfold prob; rw [sm_mask he hs hm, ex_mask hs hm]

/-- The softmax of a masked entry. -/
theorem prob_out (hm : ∀ j, j ∉ Set.range e → t j = ⊥) {j : ι} (hj : j ∉ Set.range e) : prob t j = 0 := by
  unfold prob; rw [ex_out hm hj, zero_mul]

/-- The gradient at a kept entry. -/
theorem grad_mask (he : Function.Injective e) (hs : ∀ k, t (e k) = s k) (hm : ∀ j, j ∉ Set.range e → t j = ⊥) (dp : ι → EReal)
    (k : κ) : grad t dp (e k) = grad s (fun k => dp (e k)) k := by
  unfold grad
  rw [prob_mask he hs hm]
  congr 2
  exact (Fintype.sum_of_injective e he _ _ (fun j hj => by rw [prob_out hm hj, zero_mul]) fun k => by rw [prob_mask he hs hm]).symm

/-- The gradient at a masked entry. -/
theorem grad_out (hm : ∀ j, j ∉ Set.range e → t j = ⊥) (dp : ι → EReal) {j : ι} (hj : j ∉ Set.range e) : grad t dp j = 0 := by
  unfold grad; rw [prob_out hm hj, zero_mul]

end Mask

end AttGrad

end
-- ==== Proof.Tile.lean ====
/- The values of a tile over the extended reals, entry by entry. Row `r` of the tile has the scores `rowScore`, which the
   mask makes minus infinity outside the first 256 keys when the tile is the first of its head. -/
module

public import proofs.«01_k».proof.Proof.Body
public import proofs.«01_k».proof.Proof.Dots
public import proofs.«01_k».proof.Proof.SoftmaxGrad
public import Idealize.ShloMosaic.Lib.WordCmp

@[expose] public section

noncomputable section

namespace AttGrad

open Cert.KernelIdeal Cert.KernelIdeal.Gen Idealize.ShloMosaic Idealize.ShloMosaic.TcCoe Idealize.SL.Sem
open Idealize.ShloMosaic.ValueIdx

/-- The scale of the scores, one over the root of 192 as the programs write it. -/
def sc : EReal := Ideal.ofBits .f32 0x3D93CD3A#32

theorem sc_real : ∃ r : ℝ, 0 ≤ r ∧ sc = (r : EReal) := by
  unfold sc
  simp [Ideal.ofBits, Ideal.ieee, -EReal.coe_mul]

theorem sc_nonneg : 0 ≤ sc := by obtain ⟨r, h, e⟩ := sc_real; rw [e]; exact EReal.coe_nonneg.mpr h
theorem sc_ne_top : sc ≠ ⊤ := by obtain ⟨r, h, e⟩ := sc_real; rw [e]; exact EReal.coe_ne_top _

theorem one_word : Ideal.ofBits .f32 0x3F800000#32 = 1 := by
  simp [Ideal.ofBits, Ideal.ieee, -EReal.coe_mul]; norm_num
theorem bot_word : Ideal.ofBits .f32 0xFF800000#32 = ⊥ := by simp [Ideal.ofBits, Ideal.ieee]

section
variable (i : grid0.Coords) (x0 x1 x5 : Vec Ideal S256x128 .f32) (x2 x3 x4 : Vec Ideal S4352x128 .f32)

/-- The mask of the tile at key `j`. -/
def tileMask (j : Fin 4352) : EReal := if (i 1).val = 0 ∧ 256 ≤ j.val then ⊥ else 0
/-- The scores of query `r` of the tile. -/
def rowScore (r : Fin 256) (j : Fin 4352) : EReal :=
  (∑ d : Fin 128, x0 (ix2 r d) * sc * x2 (ix2 j d) + ∑ d : Fin 128, x1 (ix2 r d) * sc * x3 (ix2 j d)) + tileMask i j
/-- The gradient with respect to the softmax: the output's gradient against the values. -/
def rowDp (r : Fin 256) (j : Fin 4352) : EReal := ∑ d : Fin 128, x5 (ix2 r d) * x4 (ix2 j d)

/-- The scaled queries. -/
theorem scaled_apply (r : Fin 256) (d : Fin 128) : k0_pay4 x0 (ix2 r d) = x0 (ix2 r d) * sc := by
  unfold k0_pay4; rw [truncf_apply, mulf_apply, shapeCast_self, broadcast_apply]; rfl
/-- The scaled rotary queries. -/
theorem scaledr_apply (r : Fin 256) (d : Fin 128) : k0_pay5 x1 (ix2 r d) = x1 (ix2 r d) * sc := by
  unfold k0_pay5; rw [truncf_apply, mulf_apply, shapeCast_self, broadcast_apply]; rfl
theorem keys_eq : (k0_pay6 x2 : FVec Ideal S4352x128 .bf16) = x2 := by unfold k0_pay6; rw [shapeCast_self]; rfl
theorem keysr_eq : (k0_pay7 x3 : FVec Ideal S4352x128 .bf16) = x3 := by unfold k0_pay7; rw [shapeCast_self]; rfl
theorem vals_eq : (k0_pay8 x4 : FVec Ideal S4352x128 .bf16) = x4 := by unfold k0_pay8; rw [shapeCast_self]; rfl
theorem cot_eq : (k0_pay9 x5 : FVec Ideal S256x128 .bf16) = x5 := by unfold k0_pay9; rw [shapeCast_self]; rfl

/-- The mask as the kernel makes it. -/
theorem mask_apply (r : Fin 256) (j : Fin 4352) :
    broadcastTo S256x4352 (select (cmpi .slt (iota .tc S1x4352 32 [1] iota_S1x4352_d1_w32) (broadcast S1x4352 (Scalar.select (Scalar.cmpi .slt (BitVec.ofNat 32 (i 1).val) 1#32) 256#32 4352#32)))
      (broadcast S1x4352 (Scalar.ofBits (F := Ideal) .f32 0x00000000#32)) (broadcast S1x4352 (Named.named (F := Ideal) κ "mask" 0xF149F2CA#32)))
      broadcasts_S1x4352_S256x4352 (ix2 r j) = tileMask i j := by
  rw [broadcastTo_apply _ _ _ (ix2 (0 : Fin 1) j) (by
    intro a
    match a with
    | ⟨0, _⟩ => rfl
    | ⟨1, _⟩ => rfl)]
  rw [select_apply, broadcast_apply, broadcast_apply]
  have hi : (i 1).val < 17 := (i 1).isLt
  have hj := j.isLt
  have e : (cmpi .slt (iota .tc S1x4352 32 [1] iota_S1x4352_d1_w32) (broadcast S1x4352 (Scalar.select (Scalar.cmpi .slt (BitVec.ofNat 32 (i 1).val) 1#32) 256#32 4352#32))) (ix2 (0 : Fin 1) j)
      = IntOp.cmpi .slt (BitVec.ofNat 32 j.val) (Scalar.select (IntOp.cmpi .slt (BitVec.ofNat 32 (i 1).val) (BitVec.ofNat 32 1)) (BitVec.ofNat 32 256) (BitVec.ofNat 32 4352)) :=
    congrArg (IntOp.cmpi .slt · _) (iota_single_apply .tc S1x4352 32 1 iota_S1x4352_d1_w32 (ix2 (0 : Fin 1) j))
  rw [e, WordCmp.cmpi_slt_ofNat (by omega) (by omega)]
  unfold tileMask
  by_cases h0 : (i 1).val = 0
  · rw [show decide ((i 1).val < 1) = true from decide_eq_true (by omega)]
    show Scalar.select (IntOp.cmpi .slt (BitVec.ofNat 32 j.val) (BitVec.ofNat 32 256)) _ _ = _
    rw [WordCmp.cmpi_slt_ofNat (by omega) (by omega)]
    by_cases hk : j.val < 256
    · rw [decide_eq_true hk, if_neg (by omega)]; exact Ideal.ofBits_zero_f32
    · rw [decide_eq_false hk, if_pos ⟨h0, by omega⟩]; rfl
  · rw [show decide ((i 1).val < 1) = false from decide_eq_false (by omega)]
    show Scalar.select (IntOp.cmpi .slt (BitVec.ofNat 32 j.val) (BitVec.ofNat 32 4352)) _ _ = _
    rw [WordCmp.cmpi_slt_ofNat (by omega) (by omega), decide_eq_true hj, if_neg (fun h => h0 h.1)]
    exact Ideal.ofBits_zero_f32

/-- The scores of the tile. -/
theorem tScore_apply (r : Fin 256) (j : Fin 4352) : tScore i x0 x1 x2 x3 (ix2 r j) = rowScore i x0 x1 x2 x3 r j := by
  unfold tScore k0_pay10 rowScore
  rw [addf_apply, addf_apply, mask_apply]
  refine congrArg (· + tileMask i j) (congrArg₂ (· + ·) ?_ ?_)
  · refine (dot_nt none (k0_pay4 x0) (k0_pay6 x2) r j).trans ?_
    rw [keys_eq]
    exact Finset.sum_congr rfl fun d _ => by rw [scaled_apply]
  · refine (dot_nt none (k0_pay5 x1) (k0_pay7 x3) r j).trans ?_
    rw [keysr_eq]
    exact Finset.sum_congr rfl fun d _ => by rw [scaledr_apply]

/-- A row's value spread over the row. -/
theorem spread_apply (v : FVec Ideal S256 .f32) (r : Fin 256) (j : Fin 4352) :
    broadcastTo S256x4352 (shapeCast S256x1 v shapeCasts_S256_S256x1) broadcasts_S256x1_S256x4352 (ix2 r j) = v (ix1 r) := by
  rw [broadcastTo_apply _ _ _ (ix2 r (0 : Fin 1)) (by
    intro a
    match a with
    | ⟨0, _⟩ => rfl
    | ⟨1, _⟩ => rfl)]
  exact shapeCast_apply _ _ _ (ix1 r) (by rw [Shape.rowMajor_val_one, Shape.rowMajor_val_two]; show r.val = r.val * 1 + 0; omega)

/-- The row maxima. -/
theorem tMax_apply (r : Fin 256) : k0_pay11 i x0 x1 x2 x3 (ix1 r) = mx (rowScore i x0 x1 x2 x3 r) := by
  unfold k0_pay11 mx
  refine (Ideal.multiReduction_maximumf_single _ _ _ _ _ _).trans ?_
  rw [Ideal.ofBits_def, bot_word]
  refine congrArg (Finset.fold max ⊥ · Finset.univ) (funext fun j : Fin 4352 => ?_)
  refine Eq.trans ?_ (tScore_apply i x0 x1 x2 x3 r j)
  show tScore i x0 x1 x2 x3 _ = _
  congr 1
  funext a
  match a with
  | ⟨0, _⟩ => rfl
  | ⟨1, _⟩ => rfl

/-- The weights of the tile. -/
theorem tExp_apply (r : Fin 256) (j : Fin 4352) :
    exp (subf (tScore i x0 x1 x2 x3) (broadcastTo S256x4352 (shapeCast S256x1 (k0_pay11 i x0 x1 x2 x3) shapeCasts_S256_S256x1) broadcasts_S256x1_S256x4352)) (ix2 r j)
      = ex (rowScore i x0 x1 x2 x3 r) j := by
  show Ideal.exp (tScore i x0 x1 x2 x3 (ix2 r j) - broadcastTo S256x4352 _ _ (ix2 r j)) = _
  rw [spread_apply, tMax_apply, tScore_apply]
  rfl

/-- A sum over a row. -/
theorem rowSum_apply (v : FVec Ideal S256x4352 .f32) (r : Fin 256) :
    multiReduction .add [1] S256 v 0x00000000#32 reduces_S256x4352_S256 (.inl rfl) rfl (ix1 r) = ∑ j : Fin 4352, v (ix2 r j) := by
  refine (Ideal.multiReduction_add_single _ _ _ _ _ _).trans ?_
  refine Finset.sum_congr rfl fun j _ => congrArg v ?_
  funext a
  match a with
  | ⟨0, _⟩ => rfl
  | ⟨1, _⟩ => rfl

/-- The softmax of the tile. -/
theorem tProb_apply (r : Fin 256) (j : Fin 4352) : tProb i x0 x1 x2 x3 (ix2 r j) = prob (rowScore i x0 x1 x2 x3 r) j := by
  unfold tProb k0_pay12 prob
  rw [mulf_apply, tExp_apply]
  refine congrArg (ex (rowScore i x0 x1 x2 x3 r) j * ·) ?_
  rw [broadcastTo_apply _ _ _ (ix2 r (0 : Fin 1)) (by
    intro a
    match a with
    | ⟨0, _⟩ => rfl
    | ⟨1, _⟩ => rfl), divf_apply, broadcast_apply]
  refine congrArg₂ Ideal.div one_word ?_
  rw [shapeCast_apply _ _ _ (ix1 r) (by rw [Shape.rowMajor_val_one, Shape.rowMajor_val_two]; show r.val = r.val * 1 + 0; omega), rowSum_apply]
  exact Finset.sum_congr rfl fun k _ => tExp_apply i x0 x1 x2 x3 r k

/-- The gradient with respect to the softmax. -/
theorem tDp_apply (r : Fin 256) (j : Fin 4352) :
    matmul dot_S256x128_S4352x128_S256x4352_1_1_0_0_n_n none (k0_pay9 x5) (k0_pay8 x4) (constant S256x4352 .f32 0x00000000#32) (ix2 r j)
      = rowDp x5 x4 r j := by
  rw [vals_eq, cot_eq]
  exact dot_nt none (φ₁ := .bf16) (φ₂ := .bf16) x5 x4 r j

/-- The gradient with respect to the scores. -/
theorem tGrad_apply (r : Fin 256) (j : Fin 4352) :
    tGrad i x0 x1 x5 x2 x3 x4 (ix2 r j) = grad (rowScore i x0 x1 x2 x3 r) (rowDp x5 x4 r) j := by
  unfold tGrad k0_pay13 grad
  rw [truncf_apply, mulf_apply, subf_apply, spread_apply, rowSum_apply, tDp_apply]
  refine congrArg₂ (· * ·) (tProb_apply i x0 x1 x2 x3 r j) (congrArg (rowDp x5 x4 r j - ·) (Finset.sum_congr rfl fun k _ => ?_))
  rw [mulf_apply, tDp_apply]
  exact congrArg (· * rowDp x5 x4 r k) (tProb_apply i x0 x1 x2 x3 r k)

/-- The queries' gradient of the tile. -/
theorem tQ_apply (r : Fin 256) (d : Fin 128) : tQ i x0 x1 x5 x2 x3 x4 (ix2 r d)
    = (∑ j : Fin 4352, grad (rowScore i x0 x1 x2 x3 r) (rowDp x5 x4 r) j * x2 (ix2 j d)) * sc := by
  unfold tQ k0_pay14
  rw [mulf_apply, broadcast_apply]
  refine congrArg (· * sc) ((dot_nn none (tGrad i x0 x1 x5 x2 x3 x4) (k0_pay6 x2) r d).trans ?_)
  rw [keys_eq]
  exact Finset.sum_congr rfl fun j _ => by rw [tGrad_apply]

/-- The rotary queries' gradient of the tile. -/
theorem tQr_apply (r : Fin 256) (d : Fin 128) : tQr i x0 x1 x5 x2 x3 x4 (ix2 r d)
    = (∑ j : Fin 4352, grad (rowScore i x0 x1 x2 x3 r) (rowDp x5 x4 r) j * x3 (ix2 j d)) * sc := by
  unfold tQr k0_pay15
  rw [mulf_apply, broadcast_apply]
  refine congrArg (· * sc) ((dot_nn none (tGrad i x0 x1 x5 x2 x3 x4) (k0_pay7 x3) r d).trans ?_)
  rw [keysr_eq]
  exact Finset.sum_congr rfl fun j _ => by rw [tGrad_apply]

/-- The tile's part of the keys' gradient. -/
theorem tK_apply (acc : Vec Ideal S4352x128 .f32) (j : Fin 4352) (d : Fin 128) : tK i x0 x1 x5 x2 x3 x4 acc (ix2 j d)
    = acc (ix2 j d) + ∑ r : Fin 256, grad (rowScore i x0 x1 x2 x3 r) (rowDp x5 x4 r) j * (x0 (ix2 r d) * sc) := by
  unfold tK k0_pay1 k0_pay19
  rw [addf_apply, shapeCast_self]
  refine congrArg (acc (ix2 j d) + ·) ((dot_tn none (tGrad i x0 x1 x5 x2 x3 x4) (k0_pay4 x0) j d).trans ?_)
  exact Finset.sum_congr rfl fun r _ => by rw [tGrad_apply, scaled_apply]

/-- The tile's part of the rotary keys' gradient. -/
theorem tKr_apply (acc : Vec Ideal S4352x128 .f32) (j : Fin 4352) (d : Fin 128) : tKr i x0 x1 x5 x2 x3 x4 acc (ix2 j d)
    = acc (ix2 j d) + ∑ r : Fin 256, grad (rowScore i x0 x1 x2 x3 r) (rowDp x5 x4 r) j * (x1 (ix2 r d) * sc) := by
  unfold tKr k0_pay2
  rw [addf_apply, shapeCast_self]
  refine congrArg (acc (ix2 j d) + ·) ((dot_tn none (tGrad i x0 x1 x5 x2 x3 x4) (k0_pay5 x1) j d).trans ?_)
  exact Finset.sum_congr rfl fun r _ => by rw [tGrad_apply, scaledr_apply]

/-- The tile's part of the values' gradient. -/
theorem tV_apply (acc : Vec Ideal S4352x128 .f32) (j : Fin 4352) (d : Fin 128) : tV i x0 x1 x5 x2 x3 acc (ix2 j d)
    = acc (ix2 j d) + ∑ r : Fin 256, prob (rowScore i x0 x1 x2 x3 r) j * x5 (ix2 r d) := by
  unfold tV k0_pay3
  rw [addf_apply, shapeCast_self]
  refine congrArg (acc (ix2 j d) + ·) ((dot_tn none (φ₁ := .bf16) (tProb i x0 x1 x2 x3) (k0_pay9 x5) j d).trans ?_)
  rw [cot_eq]
  exact Finset.sum_congr rfl fun r _ => by rw [tProb_apply]

end

end AttGrad

end
-- ==== Proof.Model.lean ====
/- The attention's gradient in the order in which the kernel computes it, on plain functions: one score row per head and
   query, its softmax and the softmax's gradient, and the sums that the five results are. -/
module

public import proofs.«01_k».proof.Proof.Tile

@[expose] public section

noncomputable section

namespace AttGrad

open Finset

/-- The kernel's six operands by query or key, head and column; the rotary ones are padded to 128 columns. -/
structure Ops where
  q : Fin 4352 → Fin 4 → Fin 128 → EReal
  qr : Fin 4352 → Fin 4 → Fin 128 → EReal
  k : Fin 4352 → Fin 4 → Fin 128 → EReal
  kr : Fin 4352 → Fin 128 → EReal
  v : Fin 4352 → Fin 4 → Fin 128 → EReal
  g : Fin 4352 → Fin 4 → Fin 128 → EReal

namespace Ops
variable (a : Ops) (h : Fin 4)

/-- A context query (one of the first 256) sees the context keys only. -/
def msk (i j : Fin 4352) : EReal := if i.val < 256 ∧ 256 ≤ j.val then ⊥ else 0
/-- The score of key `j` for query `i`. -/
def score (i j : Fin 4352) : EReal :=
  (∑ d : Fin 128, a.q i h d * sc * a.k j h d + ∑ d : Fin 128, a.qr i h d * sc * a.kr j d) + msk i j
/-- The gradient with respect to the softmax. -/
def dp (i j : Fin 4352) : EReal := ∑ d : Fin 128, a.g i h d * a.v j h d
/-- The softmax. -/
def P (i j : Fin 4352) : EReal := prob (a.score h i) j
/-- The gradient with respect to the scores. -/
def G (i j : Fin 4352) : EReal := grad (a.score h i) (a.dp h i) j

/-- The queries' gradient. -/
def outQ (i : Fin 4352) (d : Fin 128) : EReal := (∑ j : Fin 4352, a.G h i j * a.k j h d) * sc
/-- The rotary queries' gradient. -/
def outQr (i : Fin 4352) (d : Fin 128) : EReal := (∑ j : Fin 4352, a.G h i j * a.kr j d) * sc
/-- What query `i` of head `h` gives to key `j`'s gradient. -/
def termK (j : Fin 4352) (d : Fin 128) (i : Fin 4352) : EReal := a.G h i j * (a.q i h d * sc)
/-- What it gives to the rotary key's gradient. -/
def termKr (j : Fin 4352) (d : Fin 128) (i : Fin 4352) : EReal := a.G h i j * (a.qr i h d * sc)
/-- What it gives to the value's gradient. -/
def termV (j : Fin 4352) (d : Fin 128) (i : Fin 4352) : EReal := a.P h i j * a.g i h d
end Ops

/-! ## Sums by tiles -/

/-- A function of the queries on all natural numbers, nothing outside. -/
def ext {n : ℕ} (f : Fin n → EReal) (i : ℕ) : EReal := if h : i < n then f ⟨i, h⟩ else 0

theorem ext_of {n : ℕ} (f : Fin n → EReal) (i : ℕ) (h : i < n) : ext f i = f ⟨i, h⟩ := dif_pos h

/-- Over the whole range it sums to the function's sum. -/
theorem sum_ext {n : ℕ} (f : Fin n → EReal) : ∑ i ∈ range n, ext f i = ∑ i : Fin n, f i := by
  rw [Finset.sum_range]
  exact Finset.sum_congr rfl fun i _ => ext_of f i.val i.isLt

/-- The sum over the first `s + 1` tiles of 256 queries is that over the first `s` and the tile's own. -/
theorem sum_tile (f : ℕ → EReal) (s : ℕ) :
    ∑ i ∈ range (256 * (s + 1)), f i = ∑ i ∈ range (256 * s), f i + ∑ r : Fin 256, f (256 * s + r.val) := by
  rw [show 256 * (s + 1) = 256 * s + 256 by ring, Finset.sum_range_add, Finset.sum_range (fun x => f (256 * s + x))]

end AttGrad
-- ==== Proof.Entry.lean ====
/- What the region finds in the kernel's six operand arrays, and so in the blocks of a grid point: the arguments, the rotary
   ones padded with zero columns, with the heads side by side. -/
module

public import proofs.«01_k».proof.Proof.Model
public import Idealize.ShloMosaic.Lib.StableHlo.Run
public import Idealize.ShloMosaic.Lib.KernelVsHost

@[expose] public section

set_option maxRecDepth 16384

noncomputable section

namespace AttGrad

open Cert.KernelIdeal Cert.KernelIdeal.Gen Idealize.ShloMosaic Idealize.ShloMosaic.TcCoe Idealize.SL.Sem
open Idealize.ShloMosaic.ValueIdx

/-- 64 columns followed by 64 zero ones. -/
def wide (f : Fin 64 → EReal) (d : Fin 128) : EReal := if h : d.val < 64 then f ⟨d.val, h⟩ else 0

/-- The operands made of the arguments. -/
def opsOf (qn : Vec Ideal S1x4352x4x128 .f32) (qr : Vec Ideal S1x4352x4x64 .f32) (kn : Vec Ideal S1x4352x4x128 .f32)
    (kr : Vec Ideal S1x4352x64 .f32) (v g : Vec Ideal S1x4352x4x128 .f32) : Ops where
  q i h d := qn (ix4 (0 : Fin 1) i h d)
  qr i h d := wide (fun r => qr (ix4 (0 : Fin 1) i h r)) d
  k i h d := kn (ix4 (0 : Fin 1) i h d)
  kr i d := wide (fun r => kr (ix3 (0 : Fin 1) i r)) d
  v i h d := v (ix4 (0 : Fin 1) i h d)
  g i h d := g (ix4 (0 : Fin 1) i h d)

/-- Column `d` of head `h` among all heads' columns. -/
def col (h : Fin 4) (d : Fin 128) : Fin 512 := ⟨128 * h.val + d.val, by omega⟩

/-- An array with the heads side by side, read. -/
theorem heads_apply {α : Type} (x : S1x4352x4x128.Idx → α) (w : S1x4352x4x128.ShapeCasts S4352x512) (i : Fin 4352) (h : Fin 4) (d : Fin 128) :
    shapeCast S4352x512 x w (ix2 i (col h d)) = x (ix4 (0 : Fin 1) i h d) :=
  shapeCast_apply x w _ _ (by
    rw [Shape.rowMajor_val_four, Shape.rowMajor_val_two]
    show ((0 * 4352 + i.val) * 4 + h.val) * 128 + d.val = i.val * 512 + (128 * h.val + d.val)
    ring)

/-- The zero of the padding. -/
theorem padZero (j : S_.Idx) : (sitofp (F := Ideal) .f32 (constantI S_ 32 0#32)) j = 0 := by
  rw [sitofp_apply]; show ((((0#32 : BitVec 32).toInt : ℝ)) : EReal) = 0; simp

theorem padHeads_apply (x : Vec Ideal S1x4352x4x64 .f32) (v : Vec Ideal S_ .f32) (w : S1x4352x4x64.Pads ![0, 0, 0, 0] ![0, 0, 0, 64] ![0, 0, 0, 0] S1x4352x4x128)
    (u : 0 < S_.numel) (hv : ∀ j, v j = 0) (i : Fin 4352) (h : Fin 4) (d : Fin 128) :
    pad S1x4352x4x128 ![0, 0, 0, 0] ![0, 0, 0, 64] ![0, 0, 0, 0] x v w u (ix4 (0 : Fin 1) i h d) = wide (fun r => x (ix4 (0 : Fin 1) i h r)) d := by
  unfold wide
  by_cases hd : d.val < 64
  · rw [dif_pos hd]
    refine pad_apply_of_inside _ _ _ _ _ _ _ _ _ fun a => ?_
    match a with
    | ⟨0, _⟩ => rfl
    | ⟨1, _⟩ => show i.val = 0 + i.val * (0 + 1); omega
    | ⟨2, _⟩ => show h.val = 0 + h.val * (0 + 1); omega
    | ⟨3, _⟩ => show d.val = 0 + d.val * (0 + 1); omega
  · rw [dif_neg hd, pad_apply_of_not_inside _ _ _ _ _ _ _ _ (3 : Fin 4) (by
      rintro ⟨_, _, h3⟩
      have h3' : (d.val - 0) / (0 + 1) < 64 := h3
      omega)]
    exact hv _

theorem padKeys_apply (x : Vec Ideal S1x4352x64 .f32) (v : Vec Ideal S_ .f32) (w : S1x4352x64.Pads ![0, 0, 0] ![0, 0, 64] ![0, 0, 0] S1x4352x128)
    (u : 0 < S_.numel) (hv : ∀ j, v j = 0) (i : Fin 4352) (d : Fin 128) :
    pad S1x4352x128 ![0, 0, 0] ![0, 0, 64] ![0, 0, 0] x v w u (ix3 (0 : Fin 1) i d) = wide (fun r => x (ix3 (0 : Fin 1) i r)) d := by
  unfold wide
  by_cases hd : d.val < 64
  · rw [dif_pos hd]
    refine pad_apply_of_inside _ _ _ _ _ _ _ _ _ fun a => ?_
    match a with
    | ⟨0, _⟩ => rfl
    | ⟨1, _⟩ => show i.val = 0 + i.val * (0 + 1); omega
    | ⟨2, _⟩ => show d.val = 0 + d.val * (0 + 1); omega
  · rw [dif_neg hd, pad_apply_of_not_inside _ _ _ _ _ _ _ _ (2 : Fin 3) (by
      rintro ⟨_, _, h3⟩
      have h3' : (d.val - 0) / (0 + 1) < 64 := h3
      omega)]
    exact hv _

variable (m : (ℓ : Loc nD τ sig) → Buf (Elt Ideal) ℓ) (c : Dev nD)

/-- The operands of core `c`. -/
def ops : Ops := opsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem V_v0 : V m c main_v0 = shapeCast S4352x512 (m ((c : Thread nD τ).loc main_arg0)) shapeCasts_S1x4352x4x128_S4352x512 := by
  unfold V
  simp only [hostOps0, hostOps0_1, hostOps0_2, hostOps0_3, hostOps0_4, List.flatten_cons, List.flatten_nil, List.append_nil, List.cons_append, List.nil_append]
  after_results_simp
  rfl
theorem V_v2 : V m c main_v2 = shapeCast S4352x512 (pad S1x4352x4x128 ![0, 0, 0, 0] ![0, 0, 0, 64] ![0, 0, 0, 0] (m ((c : Thread nD τ).loc main_arg1))
    (sitofp (F := Ideal) .f32 (constantI S_ 32 0#32)) pads_S1x4352x4x64_S1x4352x4x128_000_000_000_0640 h_S_) shapeCasts_S1x4352x4x128_S4352x512 := by
  unfold V
  simp only [hostOps0, hostOps0_1, hostOps0_2, hostOps0_3, hostOps0_4, List.flatten_cons, List.flatten_nil, List.append_nil, List.cons_append, List.nil_append]
  after_results_simp
  rfl
theorem V_v3 : V m c main_v3 = shapeCast S4352x512 (m ((c : Thread nD τ).loc main_arg2)) shapeCasts_S1x4352x4x128_S4352x512 := by
  unfold V
  simp only [hostOps0, hostOps0_1, hostOps0_2, hostOps0_3, hostOps0_4, List.flatten_cons, List.flatten_nil, List.append_nil, List.cons_append, List.nil_append]
  after_results_simp
  rfl
theorem V_v5 : V m c main_v5 = shapeCast S4352x128 (pad S1x4352x128 ![0, 0, 0] ![0, 0, 64] ![0, 0, 0] (m ((c : Thread nD τ).loc main_arg3))
    (sitofp (F := Ideal) .f32 (constantI S_ 32 0#32)) pads_S1x4352x64_S1x4352x128_000_000_0640 h_S_) shapeCasts_S1x4352x128_S4352x128 := by
  unfold V
  simp only [hostOps0, hostOps0_1, hostOps0_2, hostOps0_3, hostOps0_4, List.flatten_cons, List.flatten_nil, List.append_nil, List.cons_append, List.nil_append]
  after_results_simp
  rfl
theorem V_v6 : V m c main_v6 = shapeCast S4352x512 (m ((c : Thread nD τ).loc main_arg4)) shapeCasts_S1x4352x4x128_S4352x512 := by
  unfold V
  simp only [hostOps0, hostOps0_1, hostOps0_2, hostOps0_3, hostOps0_4, List.flatten_cons, List.flatten_nil, List.append_nil, List.cons_append, List.nil_append]
  after_results_simp
  rfl
theorem V_v7 : V m c main_v7 = shapeCast S4352x512 (m ((c : Thread nD τ).loc main_arg5)) shapeCasts_S1x4352x4x128_S4352x512 := by
  unfold V
  simp only [hostOps0, hostOps0_1, hostOps0_2, hostOps0_3, hostOps0_4, List.flatten_cons, List.flatten_nil, List.append_nil, List.cons_append, List.nil_append]
  after_results_simp
  rfl

variable (i : Fin 4352) (h : Fin 4) (d : Fin 128)

theorem q_apply : V m c main_v0 (ix2 i (col h d)) = (ops m c).q i h d := by rw [V_v0]; exact heads_apply _ _ i h d
theorem qr_apply : V m c main_v2 (ix2 i (col h d)) = (ops m c).qr i h d := by
  rw [V_v2]; exact (heads_apply _ _ i h d).trans (padHeads_apply _ _ _ _ padZero i h d)
theorem k_apply : V m c main_v3 (ix2 i (col h d)) = (ops m c).k i h d := by rw [V_v3]; exact heads_apply _ _ i h d
theorem kr_apply : V m c main_v5 (ix2 i d) = (ops m c).kr i d := by
  rw [V_v5]
  refine (shapeCast_apply _ _ _ (ix3 (0 : Fin 1) i d) ?_).trans (padKeys_apply _ _ _ _ padZero i d)
  rw [Shape.rowMajor_val_three, Shape.rowMajor_val_two]
  show (0 * 4352 + i.val) * 128 + d.val = i.val * 128 + d.val
  ring
theorem v_apply : V m c main_v6 (ix2 i (col h d)) = (ops m c).v i h d := by rw [V_v6]; exact heads_apply _ _ i h d
theorem g_apply : V m c main_v7 (ix2 i (col h d)) = (ops m c).g i h d := by rw [V_v7]; exact heads_apply _ _ i h d

/-! ## The blocks of a grid point -/

/-- The head of point `t`. -/
def hd (t : Fin cfg0.N) : Fin 4 := ⟨t.val / 17, by have := t.isLt; change t.val < 68 at this; omega⟩
/-- Row `r` of the tile of point `t`. -/
def row (t : Fin cfg0.N) (r : Fin 256) : Fin 4352 := ⟨256 * (t.val % 17) + r.val, by have := r.isLt; omega⟩

theorem index_rows : ∀ t : Fin cfg0.N, win0_0.index t = ![t.val % 17, t.val / 17] ∧ win0_1.index t = ![t.val % 17, t.val / 17]
    ∧ win0_5.index t = ![t.val % 17, t.val / 17] :=
  (by decide +kernel : ∀ t : Fin grid0.N, win0_0.index t = ![t.val % 17, t.val / 17] ∧ win0_1.index t = ![t.val % 17, t.val / 17]
    ∧ win0_5.index t = ![t.val % 17, t.val / 17])
theorem index_keys : ∀ t : Fin cfg0.N, win0_2.index t = ![0, t.val / 17] ∧ win0_3.index t = ![0, 0] ∧ win0_4.index t = ![0, t.val / 17] :=
  (by decide +kernel : ∀ t : Fin grid0.N, win0_2.index t = ![0, t.val / 17] ∧ win0_3.index t = ![0, 0] ∧ win0_4.index t = ![0, t.val / 17])
theorem coord1 : ∀ t : Fin cfg0.N, (grid0.coords t 1).val = t.val % 17 := (by decide +kernel : ∀ t : Fin grid0.N, (grid0.coords t 1).val = t.val % 17)

variable (t : Fin cfg0.N) (r : Fin 256)

theorem blk_q : (iblk m c 0 t : Vec Ideal S256x128 .f32) (ix2 r d) = (ops m c).q (row t r) (hd t) d := by
  unfold iblk
  rw [View.read_apply, ← q_apply]
  show V m c main_v0 _ = V m c main_v0 _
  congr 1
  funext a
  apply Fin.ext
  match a with
  | ⟨0, _⟩ => show win0_0.index t 0 * 256 + 1 * r.val = 256 * (t.val % 17) + r.val; rw [(index_rows t).1]; show t.val % 17 * 256 + 1 * r.val = _; ring
  | ⟨1, _⟩ => show win0_0.index t 1 * 128 + 1 * d.val = 128 * (t.val / 17) + d.val; rw [(index_rows t).1]; show t.val / 17 * 128 + 1 * d.val = _; ring
theorem blk_qr : (iblk m c 1 t : Vec Ideal S256x128 .f32) (ix2 r d) = (ops m c).qr (row t r) (hd t) d := by
  unfold iblk
  rw [View.read_apply, ← qr_apply]
  show V m c main_v2 _ = V m c main_v2 _
  congr 1
  funext a
  apply Fin.ext
  match a with
  | ⟨0, _⟩ => show win0_1.index t 0 * 256 + 1 * r.val = 256 * (t.val % 17) + r.val; rw [(index_rows t).2.1]; show t.val % 17 * 256 + 1 * r.val = _; ring
  | ⟨1, _⟩ => show win0_1.index t 1 * 128 + 1 * d.val = 128 * (t.val / 17) + d.val; rw [(index_rows t).2.1]; show t.val / 17 * 128 + 1 * d.val = _; ring
theorem blk_g : (iblk m c 5 t : Vec Ideal S256x128 .f32) (ix2 r d) = (ops m c).g (row t r) (hd t) d := by
  unfold iblk
  rw [View.read_apply, ← g_apply]
  show V m c main_v7 _ = V m c main_v7 _
  congr 1
  funext a
  apply Fin.ext
  match a with
  | ⟨0, _⟩ => show win0_5.index t 0 * 256 + 1 * r.val = 256 * (t.val % 17) + r.val; rw [(index_rows t).2.2]; show t.val % 17 * 256 + 1 * r.val = _; ring
  | ⟨1, _⟩ => show win0_5.index t 1 * 128 + 1 * d.val = 128 * (t.val / 17) + d.val; rw [(index_rows t).2.2]; show t.val / 17 * 128 + 1 * d.val = _; ring
theorem blk_k : (iblk m c 2 t : Vec Ideal S4352x128 .f32) (ix2 i d) = (ops m c).k i (hd t) d := by
  unfold iblk
  rw [View.read_apply, ← k_apply]
  show V m c main_v3 _ = V m c main_v3 _
  congr 1
  funext a
  apply Fin.ext
  match a with
  | ⟨0, _⟩ => show win0_2.index t 0 * 4352 + 1 * i.val = i.val; rw [(index_keys t).1]; show 0 * 4352 + 1 * i.val = _; ring
  | ⟨1, _⟩ => show win0_2.index t 1 * 128 + 1 * d.val = 128 * (t.val / 17) + d.val; rw [(index_keys t).1]; show t.val / 17 * 128 + 1 * d.val = _; ring
theorem blk_kr : (iblk m c 3 t : Vec Ideal S4352x128 .f32) (ix2 i d) = (ops m c).kr i d := by
  unfold iblk
  rw [View.read_apply, ← kr_apply]
  show V m c main_v5 _ = V m c main_v5 _
  congr 1
  funext a
  apply Fin.ext
  match a with
  | ⟨0, _⟩ => show win0_3.index t 0 * 4352 + 1 * i.val = i.val; rw [(index_keys t).2.1]; show 0 * 4352 + 1 * i.val = _; ring
  | ⟨1, _⟩ => show win0_3.index t 1 * 128 + 1 * d.val = d.val; rw [(index_keys t).2.1]; show 0 * 128 + 1 * d.val = _; ring
theorem blk_v : (iblk m c 4 t : Vec Ideal S4352x128 .f32) (ix2 i d) = (ops m c).v i (hd t) d := by
  unfold iblk
  rw [View.read_apply, ← v_apply]
  show V m c main_v6 _ = V m c main_v6 _
  congr 1
  funext a
  apply Fin.ext
  match a with
  | ⟨0, _⟩ => show win0_4.index t 0 * 4352 + 1 * i.val = i.val; rw [(index_keys t).2.2]; show 0 * 4352 + 1 * i.val = _; ring
  | ⟨1, _⟩ => show win0_4.index t 1 * 128 + 1 * d.val = 128 * (t.val / 17) + d.val; rw [(index_keys t).2.2]; show t.val / 17 * 128 + 1 * d.val = _; ring

end AttGrad
-- ==== Proof.FwdTile.lean ====
/- The forward attention: what a grid point leaves in its block of the output, entry by entry. The scores and their softmax are the
   ones of the gradient's tile. -/
module

public import proofs.«01_k».proof.Proof.Tile
public import proofs.«01_k».proof.Proof.Gen.Kernel14Ideal.Value

@[expose] public section

set_option maxRecDepth 16384

noncomputable section

namespace AttFwd

open Cert.Kernel14Ideal Cert.Kernel14Ideal.Gen Idealize.ShloMosaic Idealize.ShloMosaic.TcCoe Idealize.SL.Sem
open Idealize.ShloMosaic.ValueIdx AttGrad

variable (i : grid0.Coords) (x0 x1 : Vec Ideal S256x128 .f32) (x2 x3 x4 : Vec Ideal S4352x128 .f32)

/-- The weights of the tile. -/
theorem weights_apply (r : Fin 256) (j : Fin 4352) : k0_pay2 i x0 x1 x2 x3 (ix2 r j) = ex (rowScore i x0 x1 x2 x3 r) j :=
  tExp_apply i x0 x1 x2 x3 r j

/-- One over the sum of a row's weights. -/
theorem inverse_apply (r : Fin 256) (u : Fin 1) : k0_pay3 i x0 x1 x2 x3 (ix2 r u) = Ideal.div 1 (sm (rowScore i x0 x1 x2 x3 r)) := by
  unfold k0_pay3
  rw [divf_apply, broadcast_apply]
  refine congrArg₂ Ideal.div one_word ?_
  have hu := u.isLt
  rw [shapeCast_apply _ _ _ (ix1 r) (by rw [Shape.rowMajor_val_one, Shape.rowMajor_val_two]; show r.val = r.val * 1 + u.val; omega)]
  exact (rowSum_apply _ r).trans (Finset.sum_congr rfl fun k _ => weights_apply i x0 x1 x2 x3 r k)

/-- The softmax against the values. -/
theorem product_apply (r : Fin 256) (d : Fin 128) : k0_pay1 (k0_pay2 i x0 x1 x2 x3) (k0_pay3 i x0 x1 x2 x3) x4 (ix2 r d)
    = ∑ j : Fin 4352, prob (rowScore i x0 x1 x2 x3 r) j * x4 (ix2 j d) := by
  unfold k0_pay1
  rw [truncf_apply]
  refine (dot_nn none (φ₁ := .bf16) (φ₂ := .bf16) _ _ r d).trans (Finset.sum_congr rfl fun j _ => ?_)
  refine congrArg₂ (· * ·) ?_ (congrFun (shapeCast_self _ _) _)
  rw [truncf_apply, mulf_apply, weights_apply, broadcastTo_apply _ _ _ (ix2 r (0 : Fin 1)) (by
    intro a
    match a with
    | ⟨0, _⟩ => rfl
    | ⟨1, _⟩ => rfl), inverse_apply]
  rfl

/-- What the point leaves. -/
theorem block_value : out0_5 i x0 x1 x2 x3 x4 = k0_pay1 (k0_pay2 i x0 x1 x2 x3) (k0_pay3 i x0 x1 x2 x3) x4 := by
  unfold out0_5
  rw [View.canon_unit_zero starts_zero]
  simp only [View.ld_unit_zero (S := S256x128) starts_zero, View.ld_unit_zero (S := S4352x128) starts_zero]

end AttFwd

end
-- ==== Proof.FwdEntry.lean ====
/- The forward attention: what the region finds in the five operand arrays and in the blocks of a grid point. The layout is the
   gradient's, without the cotangent. -/
module

public import proofs.«01_k».proof.Proof.Entry
public import proofs.«01_k».proof.Proof.FwdTile

@[expose] public section

set_option maxRecDepth 16384

noncomputable section

namespace AttFwd

open Cert.Kernel14Ideal Cert.Kernel14Ideal.Gen Idealize.ShloMosaic Idealize.ShloMosaic.TcCoe Idealize.SL.Sem
open Idealize.ShloMosaic.ValueIdx AttGrad Finset

variable (m : (ℓ : Loc nD τ sig) → Buf (Elt Ideal) ℓ) (c : Dev nD)

/-- The operands of core `c`; the values stand for the cotangent, which is not used. -/
def ops : Ops := opsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg4))

theorem V_v0 : V m c main_v0 = shapeCast S4352x512 (m ((c : Thread nD τ).loc main_arg0)) shapeCasts_S1x4352x4x128_S4352x512 := by
  unfold V
  simp only [hostOps0, hostOps0_1, hostOps0_2, hostOps0_3, List.flatten_cons, List.flatten_nil, List.append_nil, List.cons_append, List.nil_append]
  after_results_simp
  rfl
theorem V_v2 : V m c main_v2 = shapeCast S4352x512 (pad S1x4352x4x128 ![0, 0, 0, 0] ![0, 0, 0, 64] ![0, 0, 0, 0] (m ((c : Thread nD τ).loc main_arg1))
    (sitofp (F := Ideal) .f32 (constantI S_ 32 0#32)) pads_S1x4352x4x64_S1x4352x4x128_000_000_000_0640 h_S_) shapeCasts_S1x4352x4x128_S4352x512 := by
  unfold V
  simp only [hostOps0, hostOps0_1, hostOps0_2, hostOps0_3, List.flatten_cons, List.flatten_nil, List.append_nil, List.cons_append, List.nil_append]
  after_results_simp
  rfl
theorem V_v3 : V m c main_v3 = shapeCast S4352x512 (m ((c : Thread nD τ).loc main_arg2)) shapeCasts_S1x4352x4x128_S4352x512 := by
  unfold V
  simp only [hostOps0, hostOps0_1, hostOps0_2, hostOps0_3, List.flatten_cons, List.flatten_nil, List.append_nil, List.cons_append, List.nil_append]
  after_results_simp
  rfl
theorem V_v5 : V m c main_v5 = shapeCast S4352x128 (pad S1x4352x128 ![0, 0, 0] ![0, 0, 64] ![0, 0, 0] (m ((c : Thread nD τ).loc main_arg3))
    (sitofp (F := Ideal) .f32 (constantI S_ 32 0#32)) pads_S1x4352x64_S1x4352x128_000_000_0640 h_S_) shapeCasts_S1x4352x128_S4352x128 := by
  unfold V
  simp only [hostOps0, hostOps0_1, hostOps0_2, hostOps0_3, List.flatten_cons, List.flatten_nil, List.append_nil, List.cons_append, List.nil_append]
  after_results_simp
  rfl
theorem V_v6 : V m c main_v6 = shapeCast S4352x512 (m ((c : Thread nD τ).loc main_arg4)) shapeCasts_S1x4352x4x128_S4352x512 := by
  unfold V
  simp only [hostOps0, hostOps0_1, hostOps0_2, hostOps0_3, List.flatten_cons, List.flatten_nil, List.append_nil, List.cons_append, List.nil_append]
  after_results_simp
  rfl
variable (i : Fin 4352) (h : Fin 4) (d : Fin 128)

theorem q_apply : V m c main_v0 (ix2 i (col h d)) = (ops m c).q i h d := by rw [V_v0]; exact heads_apply _ _ i h d
theorem qr_apply : V m c main_v2 (ix2 i (col h d)) = (ops m c).qr i h d := by
  rw [V_v2]; exact (heads_apply _ _ i h d).trans (padHeads_apply _ _ _ _ padZero i h d)
theorem k_apply : V m c main_v3 (ix2 i (col h d)) = (ops m c).k i h d := by rw [V_v3]; exact heads_apply _ _ i h d
theorem kr_apply : V m c main_v5 (ix2 i d) = (ops m c).kr i d := by
  rw [V_v5]
  refine (shapeCast_apply _ _ _ (ix3 (0 : Fin 1) i d) ?_).trans (padKeys_apply _ _ _ _ padZero i d)
  rw [Shape.rowMajor_val_three, Shape.rowMajor_val_two]
  show (0 * 4352 + i.val) * 128 + d.val = i.val * 128 + d.val
  ring
theorem v_apply : V m c main_v6 (ix2 i (col h d)) = (ops m c).v i h d := by rw [V_v6]; exact heads_apply _ _ i h d
/-! ## The blocks of a grid point -/

/-- The head of point `t`. -/
def hd (t : Fin cfg0.N) : Fin 4 := ⟨t.val / 17, by have := t.isLt; change t.val < 68 at this; omega⟩
/-- Row `r` of the tile of point `t`. -/
def row (t : Fin cfg0.N) (r : Fin 256) : Fin 4352 := ⟨256 * (t.val % 17) + r.val, by have := r.isLt; omega⟩

theorem index_rows : ∀ t : Fin cfg0.N, win0_0.index t = ![t.val % 17, t.val / 17] ∧ win0_1.index t = ![t.val % 17, t.val / 17] :=
  (by decide +kernel : ∀ t : Fin grid0.N, win0_0.index t = ![t.val % 17, t.val / 17] ∧ win0_1.index t = ![t.val % 17, t.val / 17])
theorem index_keys : ∀ t : Fin cfg0.N, win0_2.index t = ![0, t.val / 17] ∧ win0_3.index t = ![0, 0] ∧ win0_4.index t = ![0, t.val / 17] :=
  (by decide +kernel : ∀ t : Fin grid0.N, win0_2.index t = ![0, t.val / 17] ∧ win0_3.index t = ![0, 0] ∧ win0_4.index t = ![0, t.val / 17])
theorem coord1 : ∀ t : Fin cfg0.N, (grid0.coords t 1).val = t.val % 17 := (by decide +kernel : ∀ t : Fin grid0.N, (grid0.coords t 1).val = t.val % 17)

variable (t : Fin cfg0.N) (r : Fin 256)

theorem blk_q : (iblk m c 0 t : Vec Ideal S256x128 .f32) (ix2 r d) = (ops m c).q (row t r) (hd t) d := by
  unfold iblk
  rw [View.read_apply, ← q_apply]
  show V m c main_v0 _ = V m c main_v0 _
  congr 1
  funext a
  apply Fin.ext
  match a with
  | ⟨0, _⟩ => show win0_0.index t 0 * 256 + 1 * r.val = 256 * (t.val % 17) + r.val; rw [(index_rows t).1]; show t.val % 17 * 256 + 1 * r.val = _; ring
  | ⟨1, _⟩ => show win0_0.index t 1 * 128 + 1 * d.val = 128 * (t.val / 17) + d.val; rw [(index_rows t).1]; show t.val / 17 * 128 + 1 * d.val = _; ring
theorem blk_qr : (iblk m c 1 t : Vec Ideal S256x128 .f32) (ix2 r d) = (ops m c).qr (row t r) (hd t) d := by
  unfold iblk
  rw [View.read_apply, ← qr_apply]
  show V m c main_v2 _ = V m c main_v2 _
  congr 1
  funext a
  apply Fin.ext
  match a with
  | ⟨0, _⟩ => show win0_1.index t 0 * 256 + 1 * r.val = 256 * (t.val % 17) + r.val; rw [(index_rows t).2]; show t.val % 17 * 256 + 1 * r.val = _; ring
  | ⟨1, _⟩ => show win0_1.index t 1 * 128 + 1 * d.val = 128 * (t.val / 17) + d.val; rw [(index_rows t).2]; show t.val / 17 * 128 + 1 * d.val = _; ring
theorem blk_k : (iblk m c 2 t : Vec Ideal S4352x128 .f32) (ix2 i d) = (ops m c).k i (hd t) d := by
  unfold iblk
  rw [View.read_apply, ← k_apply]
  show V m c main_v3 _ = V m c main_v3 _
  congr 1
  funext a
  apply Fin.ext
  match a with
  | ⟨0, _⟩ => show win0_2.index t 0 * 4352 + 1 * i.val = i.val; rw [(index_keys t).1]; show 0 * 4352 + 1 * i.val = _; ring
  | ⟨1, _⟩ => show win0_2.index t 1 * 128 + 1 * d.val = 128 * (t.val / 17) + d.val; rw [(index_keys t).1]; show t.val / 17 * 128 + 1 * d.val = _; ring
theorem blk_kr : (iblk m c 3 t : Vec Ideal S4352x128 .f32) (ix2 i d) = (ops m c).kr i d := by
  unfold iblk
  rw [View.read_apply, ← kr_apply]
  show V m c main_v5 _ = V m c main_v5 _
  congr 1
  funext a
  apply Fin.ext
  match a with
  | ⟨0, _⟩ => show win0_3.index t 0 * 4352 + 1 * i.val = i.val; rw [(index_keys t).2.1]; show 0 * 4352 + 1 * i.val = _; ring
  | ⟨1, _⟩ => show win0_3.index t 1 * 128 + 1 * d.val = d.val; rw [(index_keys t).2.1]; show 0 * 128 + 1 * d.val = _; ring
theorem blk_v : (iblk m c 4 t : Vec Ideal S4352x128 .f32) (ix2 i d) = (ops m c).v i (hd t) d := by
  unfold iblk
  rw [View.read_apply, ← v_apply]
  show V m c main_v6 _ = V m c main_v6 _
  congr 1
  funext a
  apply Fin.ext
  match a with
  | ⟨0, _⟩ => show win0_4.index t 0 * 4352 + 1 * i.val = i.val; rw [(index_keys t).2.2]; show 0 * 4352 + 1 * i.val = _; ring
  | ⟨1, _⟩ => show win0_4.index t 1 * 128 + 1 * d.val = 128 * (t.val / 17) + d.val; rw [(index_keys t).2.2]; show t.val / 17 * 128 + 1 * d.val = _; ring

/-! ## The array after the run -/

theorem tile_score : rowScore (grid0.coords t) (iblk m c 0 t) (iblk m c 1 t) (iblk m c 2 t) (iblk m c 3 t) r = (ops m c).score (hd t) (row t r) := by
  funext j
  unfold rowScore Ops.score
  refine congrArg₂ (· + ·) (congrArg₂ (· + ·) (sum_congr rfl fun d _ => ?_) (sum_congr rfl fun d _ => ?_)) ?_
  · rw [blk_q, blk_k]
  · rw [blk_qr, blk_kr]
  · unfold tileMask Ops.msk
    have e := coord1 t
    have hr := r.isLt
    refine if_congr ?_ rfl rfl
    show (grid0.coords t 1).val = 0 ∧ 256 ≤ j.val ↔ 256 * (t.val % 17) + r.val < 256 ∧ 256 ≤ j.val
    omega

/-- The point's rows of the attention. -/
theorem tile_value : out0_5 (grid0.coords t) (iblk m c 0 t) (iblk m c 1 t) (iblk m c 2 t) (iblk m c 3 t) (iblk m c 4 t) (ix2 r d)
    = ∑ j : Fin 4352, (ops m c).P (hd t) (row t r) j * (ops m c).v j (hd t) d := by
  refine (congrFun (block_value _ _ _ _ _ _) _).trans ((product_apply _ _ _ _ _ _ r d).trans (sum_congr rfl fun j _ => ?_))
  rw [tile_score, blk_v]
  rfl

/-- The point of head `h` whose tile is number `s`. -/
def pt (h : Fin 4) (s : Fin 17) : Fin cfg0.N := ⟨17 * h.val + s.val, by show 17 * h.val + s.val < 68; omega⟩
theorem pt_mod (h : Fin 4) (s : Fin 17) : (pt h s).val % 17 = s.val := by show (17 * h.val + s.val) % 17 = s.val; omega
theorem pt_div (h : Fin 4) (s : Fin 17) : (pt h s).val / 17 = h.val := by show (17 * h.val + s.val) / 17 = h.val; omega

theorem index_out : ∀ t : Fin cfg0.N, win0_5.index t = ![t.val % 17, t.val / 17] :=
  (by decide +kernel : ∀ t : Fin grid0.N, win0_5.index t = ![t.val % 17, t.val / 17])

theorem emb5 : (((cfg0.win 5).blk t).view.emb (ix2 r d) : S4352x512.Idx) = ix2 (row t r) (col (hd t) d) := by
  funext a
  apply Fin.ext
  match a with
  | ⟨0, _⟩ => show win0_5.index t 0 * 256 + 1 * r.val = 256 * (t.val % 17) + r.val; rw [index_out t]; show t.val % 17 * 256 + 1 * r.val = _; ring
  | ⟨1, _⟩ => show win0_5.index t 1 * 128 + 1 * d.val = 128 * (t.val / 17) + d.val; rw [index_out t]; show t.val / 17 * 128 + 1 * d.val = _; ring

/-- The array the run leaves, at an entry. -/
theorem result_apply : ((dats m 0 c).arrAt 5 cfg0.N : Vec Ideal S4352x512 .bf16) (ix2 i (col h d)) = ∑ j : Fin 4352, (ops m c).P h i j * (ops m c).v j h d := by
  have hi := i.isLt
  have e1 : row (pt h ⟨i.val / 256, by omega⟩) ⟨i.val % 256, by omega⟩ = i := Fin.ext (by
    show 256 * ((pt h ⟨i.val / 256, _⟩).val % 17) + i.val % 256 = i.val
    rw [pt_mod]; show 256 * (i.val / 256) + i.val % 256 = i.val; omega)
  have e2 : hd (pt h ⟨i.val / 256, by omega⟩) = h := Fin.ext (pt_div _ _)
  have b := congrFun (Cert.Kernel14Ideal.Value.blocks5 m c (pt h ⟨i.val / 256, by omega⟩) (flush0_5 _)) (ix2 (⟨i.val % 256, by omega⟩ : Fin 256) d)
  rw [View.read_apply, Cert.Kernel14Ideal.Value.flushed5] at b
  have l := emb5 d (pt h ⟨i.val / 256, by omega⟩) ⟨i.val % 256, by omega⟩
  rw [e1, e2] at l
  rw [← l]
  refine b.trans ?_
  refine (tile_value m c d (pt h ⟨i.val / 256, by omega⟩) ⟨i.val % 256, by omega⟩).trans ?_
  rw [e1, e2]

end AttFwd
-- ==== Proof.RefSpec.lean ====
/- The reference's scores and what it differentiates, as plain functions of the arguments. -/
module

public import proofs.«01_k».proof.Proof.Gen.ReferenceIdeal.Read
public import proofs.«01_k».proof.Proof.Tile
public import Idealize.ShloMosaic.Lib.KernelVsHost

@[expose] public section

set_option maxRecDepth 16384

noncomputable section

namespace AttGrad

open Cert.ReferenceIdeal Cert.ReferenceIdeal.Gen Cert.ReferenceIdeal.Read Idealize.ShloMosaic Idealize.ShloMosaic.TcCoe Idealize.SL.Sem
open Idealize.ShloMosaic.ValueIdx Finset

variable (x0 : (⟨S1x4352x4x128, .f32⟩ : BufTy).Contents (Elt Ideal)) (x1 : (⟨S1x4352x4x64, .f32⟩ : BufTy).Contents (Elt Ideal))
  (x2 : (⟨S1x4352x4x128, .f32⟩ : BufTy).Contents (Elt Ideal)) (x3 : (⟨S1x4352x64, .f32⟩ : BufTy).Contents (Elt Ideal))
  (x4 x5 : (⟨S1x4352x4x128, .f32⟩ : BufTy).Contents (Elt Ideal))

/-- Query number `q` behind the context. -/
def lat (q : Fin 4096) : Fin 4352 := ⟨256 + q.val, by omega⟩
/-- Query or key number `k` of the context. -/
def ctx (k : Fin 256) : Fin 4352 := ⟨k.val, by omega⟩

/-- The scaled score of key `j` for query `i` of head `h`. -/
def raw (h : Fin 4) (i j : Fin 4352) : EReal :=
  (∑ d : Fin 128, x0 (ix4 (0 : Fin 1) i h d) * x2 (ix4 (0 : Fin 1) j h d)
    + ∑ r : Fin 64, x3 (ix3 (0 : Fin 1) j r) * x1 (ix4 (0 : Fin 1) i h r)) * sc
/-- The gradient with respect to the softmax. -/
def rdp (h : Fin 4) (i j : Fin 4352) : EReal :=
  ∑ d : Fin 128, x5 (ix4 (0 : Fin 1) i h d) * x4 (ix4 (0 : Fin 1) j h d)

/-- The scores of query `q` behind the context: over all keys. -/
def sL (h : Fin 4) (q : Fin 4096) (j : Fin 4352) : EReal := raw x0 x1 x2 x3 h (lat q) j
/-- The scores of context query `i`: over the context keys. -/
def sC (h : Fin 4) (i : Fin 256) (k : Fin 256) : EReal := raw x0 x1 x2 x3 h (ctx i) (ctx k)
def pL (h : Fin 4) (q : Fin 4096) (j : Fin 4352) : EReal := rdp x4 x5 h (lat q) j
def pC (h : Fin 4) (i : Fin 256) (k : Fin 256) : EReal := rdp x4 x5 h (ctx i) (ctx k)
/-- The gradients with respect to the products of queries and keys. -/
def dL (h : Fin 4) (q : Fin 4096) (j : Fin 4352) : EReal := gradQ (sL x0 x1 x2 x3 h q) (pL x4 x5 h q) j * sc
def dC (h : Fin 4) (i : Fin 256) (k : Fin 256) : EReal := gradQ (sC x0 x1 x2 x3 h i) (pC x4 x5 h i) k * sc

end AttGrad
-- ==== Proof.RefLat.lean ====
/- The reference's gradient for the queries behind the context: softmax over all keys. -/
module

public import proofs.«01_k».proof.Proof.RefSpec

@[expose] public section

set_option maxRecDepth 16384

noncomputable section

namespace AttGrad

open Cert.ReferenceIdeal Cert.ReferenceIdeal.Gen Cert.ReferenceIdeal.Read Idealize.ShloMosaic Idealize.ShloMosaic.TcCoe Idealize.SL.Sem
open Idealize.ShloMosaic.ValueIdx Finset

variable (x0 : (⟨S1x4352x4x128, .f32⟩ : BufTy).Contents (Elt Ideal)) (x1 : (⟨S1x4352x4x64, .f32⟩ : BufTy).Contents (Elt Ideal))
  (x2 : (⟨S1x4352x4x128, .f32⟩ : BufTy).Contents (Elt Ideal)) (x3 : (⟨S1x4352x64, .f32⟩ : BufTy).Contents (Elt Ideal))
  (x4 x5 : (⟨S1x4352x4x128, .f32⟩ : BufTy).Contents (Elt Ideal))

theorem scoresL (h : Fin 4) (q : Fin 4096) (j : Fin 4352) : val_main_v7 (F := Ideal) x0 x1 x2 x3 (ix4 (0 : Fin 1) h q j) = sL x0 x1 x2 x3 h q j := by
  rw [val_main_v7_apply, val_main_v5_apply, val_main_v4_apply, val_main_v2_apply, val_main_v3_apply, val_main_v6_apply]
  refine congrArg₂ (· * ·) (congrArg₂ (· + ·) (sum_congr rfl fun k _ => ?_) (sum_congr rfl fun k _ => ?_)) rfl
  · exact congrArg₂ (· * ·) ((val_main_v0_apply _ _).trans (congrArg x0 (funext fun a => Fin.ext (by match a with | ⟨0, _⟩ => rfl | ⟨1, _⟩ => rfl | ⟨2, _⟩ => rfl | ⟨3, _⟩ => rfl)))) (congrArg x2 (funext fun a => Fin.ext (by match a with | ⟨0, _⟩ => rfl | ⟨1, _⟩ => rfl | ⟨2, _⟩ => rfl | ⟨3, _⟩ => rfl)))
  · exact congrArg₂ (· * ·) (congrArg x3 (funext fun a => Fin.ext (by match a with | ⟨0, _⟩ => rfl | ⟨1, _⟩ => rfl | ⟨2, _⟩ => rfl))) ((val_main_v1_apply _ _).trans (congrArg x1 (funext fun a => Fin.ext (by match a with | ⟨0, _⟩ => rfl | ⟨1, _⟩ => rfl | ⟨2, _⟩ => rfl | ⟨3, _⟩ => rfl))))

theorem maxL (h : Fin 4) (q : Fin 4096) : val_main_v8 (F := Ideal) x0 x1 x2 x3 (ix3 (0 : Fin 1) h q) = mx (sL x0 x1 x2 x3 h q) := by
  unfold val_main_v8 val_main_cst_0 mx
  rw [hostReduce_maximumf_eq_multiReduction _ _ _ _ (by decide : S1x4x4096x4352.Reduces [3] S1x4x4096) (by decide) (by decide)]
  refine (Ideal.multiReduction_maximumf_single _ _ _ _ _ _).trans ?_
  rw [Ideal.ofBits_def, bot_word]
  refine congrArg (Finset.fold max ⊥ · Finset.univ) (funext fun j : Fin 4352 => ?_)
  refine Eq.trans ?_ (scoresL x0 x1 x2 x3 h q j)
  exact congrArg (val_main_v7 (F := Ideal) x0 x1 x2 x3) (funext fun a => Fin.ext (by match a with | ⟨0, _⟩ => rfl | ⟨1, _⟩ => rfl | ⟨2, _⟩ => rfl | ⟨3, _⟩ => rfl))

theorem expL (h : Fin 4) (q : Fin 4096) (j : Fin 4352) : val_main_v28 (F := Ideal) x0 x1 x2 x3 (ix4 (0 : Fin 1) h q j) = ex (sL x0 x1 x2 x3 h q) j := by
  rw [val_main_v28_apply, val_main_v27_apply, val_main_v26_apply, val_main_v25_apply, val_main_v15_apply, val_main_v14_apply, scoresL]
  have e : val_main_v8 (F := Ideal) x0 x1 x2 x3 (idx_main_v25 (idx_main_v26 (ix4 (0 : Fin 1) h q j))) = mx (sL x0 x1 x2 x3 h q) :=
    (congrArg (val_main_v8 (F := Ideal) x0 x1 x2 x3) (funext fun a => Fin.ext (by match a with | ⟨0, _⟩ => rfl | ⟨1, _⟩ => rfl | ⟨2, _⟩ => rfl))).trans (maxL x0 x1 x2 x3 h q)
  rw [e]
  have b : val_main_cst_2 (F := Ideal) (idx_main_v14 (idx_main_v25 (idx_main_v26 (ix4 (0 : Fin 1) h q j)))) = (⊥ : EReal) := bot_word
  rw [b]
  show Ideal.exp (_ - max ⊥ _) = _
  rw [max_bot_left]; rfl

theorem sumL (h : Fin 4) (q : Fin 4096) : val_main_v29 (F := Ideal) x0 x1 x2 x3 (ix3 (0 : Fin 1) h q) = sm (sL x0 x1 x2 x3 h q) := by
  rw [val_main_v29_apply]
  have z : val_main_cst_8 (F := Ideal) (Shape.Idx.first h_S_) = (0 : EReal) := Ideal.ofBits_zero_f32
  rw [z, zero_add]
  exact sum_congr rfl fun k _ => (congrArg (val_main_v28 (F := Ideal) x0 x1 x2 x3) (funext fun a => Fin.ext (by match a with | ⟨0, _⟩ => rfl | ⟨1, _⟩ => rfl | ⟨2, _⟩ => rfl | ⟨3, _⟩ => rfl))).trans (expL x0 x1 x2 x3 h q k)

theorem denL (h : Fin 4) (q : Fin 4096) (u : Fin 1) : val_main_v30 (F := Ideal) x0 x1 x2 x3 (ix4 (0 : Fin 1) h q u) = sm (sL x0 x1 x2 x3 h q) := by
  rw [val_main_v30_apply]
  exact (congrArg (val_main_v29 (F := Ideal) x0 x1 x2 x3) (funext fun a => Fin.ext (by match a with | ⟨0, _⟩ => rfl | ⟨1, _⟩ => rfl | ⟨2, _⟩ => rfl))).trans (sumL x0 x1 x2 x3 h q)

theorem softL (h : Fin 4) (q : Fin 4096) (j : Fin 4352) : val_main_v32 (F := Ideal) x0 x1 x2 x3 (ix4 (0 : Fin 1) h q j) = probQ (sL x0 x1 x2 x3 h q) j := by
  rw [val_main_v32_apply, val_main_v31_apply, expL]
  exact congrArg (Ideal.div _) ((congrArg (val_main_v30 (F := Ideal) x0 x1 x2 x3) (funext fun a => Fin.ext (by match a with | ⟨0, _⟩ => rfl | ⟨1, _⟩ => rfl | ⟨2, _⟩ => rfl | ⟨3, _⟩ => rfl))).trans (denL x0 x1 x2 x3 h q 0))

theorem dpL (h : Fin 4) (q : Fin 4096) (j : Fin 4352) : val_main_v114 (F := Ideal) x4 x5 (ix4 (0 : Fin 1) h q j) = pL x4 x5 h q j := by
  rw [val_main_v114_apply]
  show _ = ∑ d : Fin 128, x5 (ix4 (0 : Fin 1) (lat q) h d) * x4 (ix4 (0 : Fin 1) j h d)
  refine sum_congr rfl fun k _ => congrArg₂ (· * ·) ?_ (congrArg x4 (funext fun a => Fin.ext (by match a with | ⟨0, _⟩ => rfl | ⟨1, _⟩ => rfl | ⟨2, _⟩ => rfl | ⟨3, _⟩ => rfl)))
  rw [val_main_v113_apply]
  exact ((val_main_v81_apply _ _).trans (congrArg x5 (funext fun a => Fin.ext (by match a with | ⟨0, _⟩ => rfl | ⟨1, _⟩ => rfl | ⟨2, _⟩ => rfl | ⟨3, _⟩ => rfl))))

theorem invL (h : Fin 4) (q : Fin 4096) (j : Fin 4352) : val_main_v118 (F := Ideal) x0 x1 x2 x3 (ix4 (0 : Fin 1) h q j) = Ideal.div 1 (sm (sL x0 x1 x2 x3 h q) * sm (sL x0 x1 x2 x3 h q)) := by
  rw [val_main_v118_apply, val_main_v35_apply, val_main_v34_apply, val_main_v33_apply]
  have e : val_main_v30 (F := Ideal) x0 x1 x2 x3 (idx_main_v118 (ix4 (0 : Fin 1) h q j)) = sm (sL x0 x1 x2 x3 h q) :=
    (congrArg (val_main_v30 (F := Ideal) x0 x1 x2 x3) (funext fun a => Fin.ext (by match a with | ⟨0, _⟩ => rfl | ⟨1, _⟩ => rfl | ⟨2, _⟩ => rfl | ⟨3, _⟩ => rfl))).trans (denL x0 x1 x2 x3 h q 0)
  rw [e]
  exact congrArg (Ideal.div · _) one_word

theorem corrL (h : Fin 4) (q : Fin 4096) (u : Fin 1) : val_main_v123 (F := Ideal) x0 x1 x2 x3 x4 x5 (ix4 (0 : Fin 1) h q u)
    = -∑ k, pL x4 x5 h q k * Ideal.div 1 (sm (sL x0 x1 x2 x3 h q) * sm (sL x0 x1 x2 x3 h q)) * ex (sL x0 x1 x2 x3 h q) k := by
  rw [val_main_v123_apply, val_main_v122_apply, val_main_v121_apply]
  have z : val_main_cst_29 (F := Ideal) (Shape.Idx.first h_S_) = (0 : EReal) := Ideal.ofBits_zero_f32
  rw [z, zero_add]
  refine congrArg (fun y : EReal => -y) (sum_congr rfl fun k _ => ?_)
  refine (congrArg (val_main_v120 (F := Ideal) x0 x1 x2 x3 x4 x5) (?_ : _ = ix4 (0 : Fin 1) h q k)).trans ?_
  · funext a
    apply Fin.ext
    have hu := u.isLt
    match a with
    | ⟨0, _⟩ => rfl
    | ⟨1, _⟩ => show (((0 * 4 + h.val) * 4096 + q.val) * 1 + u.val) / 4096 % 4 = h.val; omega
    | ⟨2, _⟩ => show (((0 * 4 + h.val) * 4096 + q.val) * 1 + u.val) % 4096 = q.val; omega
    | ⟨3, _⟩ => rfl
  · rw [val_main_v120_apply, val_main_v119_apply, dpL, invL, expL]; rfl

/-- The sum over the two axes of size one is the one entry. -/
theorem unitL (h : Fin 4) (q : Fin 4096) : val_main_v126 (F := Ideal) x0 x1 x2 x3 x4 x5 (ix2 h q) = val_main_v123 (F := Ideal) x0 x1 x2 x3 x4 x5 (ix4 (0 : Fin 1) h q (0 : Fin 1)) := by
  unfold val_main_v126
  generalize val_main_v123 (F := Ideal) x0 x1 x2 x3 x4 x5 = y
  simp only [Host.reduceAdd, Ideal.hostReduceAdd_def]
  unfold Ideal.hostReduceAdd
  have z : val_main_cst_30 (F := Ideal) (Shape.Idx.first h_S_) = (0 : EReal) := Ideal.ofBits_zero_f32
  rw [z, zero_add]
  refine sum_eq_single_of_mem _ ?_ ?_
  · refine mem_filter.mpr ⟨mem_univ _, funext fun a => Fin.ext ?_⟩
    rw [Shape.ReducesTo.drop_apply_val]
    match a with
    | ⟨0, _⟩ => rfl
    | ⟨1, _⟩ => rfl
  · intro i hi hne
    refine absurd (funext fun a => Fin.ext ?_) hne
    have hd := (mem_filter.mp hi).2
    have h0 := congrArg Fin.val (congrFun hd 0)
    have h1 := congrArg Fin.val (congrFun hd 1)
    rw [Shape.ReducesTo.drop_apply_val] at h0 h1
    match a with
    | ⟨0, _⟩ => have := (i 0).isLt; change (i 0).val < 1 at this; show (i 0).val = 0; omega
    | ⟨1, _⟩ => exact h0
    | ⟨2, _⟩ => exact h1
    | ⟨3, _⟩ => have := (i 3).isLt; change (i 3).val < 1 at this; show (i 3).val = 0; omega

theorem gradsL (h : Fin 4) (q : Fin 4096) (j : Fin 4352) : val_main_v132 (F := Ideal) x0 x1 x2 x3 x4 x5 (ix4 (0 : Fin 1) h q j) = dL x0 x1 x2 x3 x4 x5 h q j := by
  rw [val_main_v132_apply, val_main_v131_apply, val_main_v130_apply, val_main_v129_apply, val_main_v128_apply, val_main_v127_apply, val_main_v125_apply, val_main_v124_apply, dpL, expL]
  have e : val_main_v30 (F := Ideal) x0 x1 x2 x3 (idx_main_v124 (ix4 (0 : Fin 1) h q j)) = sm (sL x0 x1 x2 x3 h q) :=
    (congrArg (val_main_v30 (F := Ideal) x0 x1 x2 x3) (funext fun a => Fin.ext (by match a with | ⟨0, _⟩ => rfl | ⟨1, _⟩ => rfl | ⟨2, _⟩ => rfl | ⟨3, _⟩ => rfl))).trans (denL x0 x1 x2 x3 h q 0)
  rw [e]
  have u : val_main_v126 (F := Ideal) x0 x1 x2 x3 x4 x5 (idx_main_v127 (idx_main_v128 (ix4 (0 : Fin 1) h q j)))
      = -∑ k, pL x4 x5 h q k * Ideal.div 1 (sm (sL x0 x1 x2 x3 h q) * sm (sL x0 x1 x2 x3 h q)) * ex (sL x0 x1 x2 x3 h q) k :=
    (congrArg (val_main_v126 (F := Ideal) x0 x1 x2 x3 x4 x5) (funext fun a => Fin.ext (by match a with | ⟨0, _⟩ => rfl | ⟨1, _⟩ => rfl))).trans ((unitL x0 x1 x2 x3 x4 x5 h q).trans (corrL x0 x1 x2 x3 x4 x5 h q 0))
  rw [u]
  rfl

/-! ## The products -/

theorem dvL (j : Fin 4352) (h : Fin 4) (d : Fin 128) : val_main_v116 (F := Ideal) x0 x1 x2 x3 x5 (ix4 (0 : Fin 1) j h d)
    = ∑ q : Fin 4096, x5 (ix4 (0 : Fin 1) (lat q) h d) * probQ (sL x0 x1 x2 x3 h q) j := by
  rw [val_main_v116_apply, val_main_v115_apply]
  refine sum_congr rfl fun q _ => congrArg₂ (· * ·) ?_ ?_
  · rw [val_main_v113_apply]
    exact ((val_main_v81_apply _ _).trans (congrArg x5 (funext fun a => Fin.ext (by match a with | ⟨0, _⟩ => rfl | ⟨1, _⟩ => rfl | ⟨2, _⟩ => rfl | ⟨3, _⟩ => rfl))))
  · exact (congrArg (val_main_v32 (F := Ideal) x0 x1 x2 x3) (funext fun a => Fin.ext (by match a with | ⟨0, _⟩ => rfl | ⟨1, _⟩ => rfl | ⟨2, _⟩ => rfl | ⟨3, _⟩ => rfl))).trans (softL x0 x1 x2 x3 h q j)

theorem flipL (j : Fin 4352) (q : Fin 4096) (h : Fin 4) : val_main_v133 (F := Ideal) x0 x1 x2 x3 x4 x5 (ix4 (0 : Fin 1) j q h) = dL x0 x1 x2 x3 x4 x5 h q j := by
  rw [val_main_v133_apply]
  exact (congrArg (val_main_v132 (F := Ideal) x0 x1 x2 x3 x4 x5) (funext fun a => Fin.ext (by match a with | ⟨0, _⟩ => rfl | ⟨1, _⟩ => rfl | ⟨2, _⟩ => rfl | ⟨3, _⟩ => rfl))).trans (gradsL x0 x1 x2 x3 x4 x5 h q j)

theorem dqrL (q : Fin 4096) (h : Fin 4) (r : Fin 64) : val_main_v134 (F := Ideal) x0 x1 x2 x3 x4 x5 (ix4 (0 : Fin 1) q h r)
    = ∑ j : Fin 4352, dL x0 x1 x2 x3 x4 x5 h q j * x3 (ix3 (0 : Fin 1) j r) := by
  rw [val_main_v134_apply]
  refine sum_congr rfl fun k _ => congrArg₂ (· * ·) ?_ (congrArg x3 (funext fun a => Fin.ext (by match a with | ⟨0, _⟩ => rfl | ⟨1, _⟩ => rfl | ⟨2, _⟩ => rfl)))
  exact (congrArg (val_main_v133 (F := Ideal) x0 x1 x2 x3 x4 x5) (funext fun a => Fin.ext (by match a with | ⟨0, _⟩ => rfl | ⟨1, _⟩ => rfl | ⟨2, _⟩ => rfl | ⟨3, _⟩ => rfl))).trans (flipL x0 x1 x2 x3 x4 x5 k q h)

theorem dkL (j : Fin 4352) (h : Fin 4) (d : Fin 128) : val_main_v138 (F := Ideal) x0 x1 x2 x3 x4 x5 (ix4 (0 : Fin 1) j h d)
    = ∑ q : Fin 4096, dL x0 x1 x2 x3 x4 x5 h q j * x0 (ix4 (0 : Fin 1) (lat q) h d) := by
  rw [val_main_v138_apply, val_main_v137_apply]
  refine sum_congr rfl fun k _ => congrArg₂ (· * ·) ?_ ((val_main_v0_apply _ _).trans (congrArg x0 (funext fun a => Fin.ext (by match a with | ⟨0, _⟩ => rfl | ⟨1, _⟩ => rfl | ⟨2, _⟩ => rfl | ⟨3, _⟩ => rfl))))
  exact (congrArg (val_main_v132 (F := Ideal) x0 x1 x2 x3 x4 x5) (funext fun a => Fin.ext (by match a with | ⟨0, _⟩ => rfl | ⟨1, _⟩ => rfl | ⟨2, _⟩ => rfl | ⟨3, _⟩ => rfl))).trans (gradsL x0 x1 x2 x3 x4 x5 h k j)

theorem dqL (q : Fin 4096) (h : Fin 4) (d : Fin 128) : val_main_v141 (F := Ideal) x0 x1 x2 x3 x4 x5 (ix4 (0 : Fin 1) q h d)
    = ∑ j : Fin 4352, dL x0 x1 x2 x3 x4 x5 h q j * x2 (ix4 (0 : Fin 1) j h d) := by
  rw [val_main_v141_apply, val_main_v140_apply]
  refine sum_congr rfl fun k _ => congrArg₂ (· * ·) ?_ (congrArg x2 (funext fun a => Fin.ext (by match a with | ⟨0, _⟩ => rfl | ⟨1, _⟩ => rfl | ⟨2, _⟩ => rfl | ⟨3, _⟩ => rfl)))
  exact (congrArg (val_main_v132 (F := Ideal) x0 x1 x2 x3 x4 x5) (funext fun a => Fin.ext (by match a with | ⟨0, _⟩ => rfl | ⟨1, _⟩ => rfl | ⟨2, _⟩ => rfl | ⟨3, _⟩ => rfl))).trans (gradsL x0 x1 x2 x3 x4 x5 h q k)

end AttGrad
-- ==== Proof.RefCtx.lean ====
/- The reference's gradient for the context queries: softmax over the context keys. -/
module

public import proofs.«01_k».proof.Proof.RefSpec

@[expose] public section

set_option maxRecDepth 16384

noncomputable section

namespace AttGrad

open Cert.ReferenceIdeal Cert.ReferenceIdeal.Gen Cert.ReferenceIdeal.Read Idealize.ShloMosaic Idealize.ShloMosaic.TcCoe Idealize.SL.Sem
open Idealize.ShloMosaic.ValueIdx Finset

variable (x0 : (⟨S1x4352x4x128, .f32⟩ : BufTy).Contents (Elt Ideal)) (x1 : (⟨S1x4352x4x64, .f32⟩ : BufTy).Contents (Elt Ideal))
  (x2 : (⟨S1x4352x4x128, .f32⟩ : BufTy).Contents (Elt Ideal)) (x3 : (⟨S1x4352x64, .f32⟩ : BufTy).Contents (Elt Ideal))
  (x4 x5 : (⟨S1x4352x4x128, .f32⟩ : BufTy).Contents (Elt Ideal))

theorem scoresC (h : Fin 4) (q : Fin 256) (j : Fin 256) : val_main_v48 (F := Ideal) x0 x1 x2 x3 (ix4 (0 : Fin 1) h q j) = sC x0 x1 x2 x3 h q j := by
  rw [val_main_v48_apply, val_main_v46_apply, val_main_v45_apply, val_main_v43_apply, val_main_v44_apply, val_main_v47_apply]
  refine congrArg₂ (· * ·) (congrArg₂ (· + ·) (sum_congr rfl fun k _ => ?_) (sum_congr rfl fun k _ => ?_)) rfl
  · exact congrArg₂ (· * ·) ((val_main_v38_apply _ _).trans (congrArg x0 (funext fun a => Fin.ext (by match a with | ⟨0, _⟩ => rfl | ⟨1, _⟩ => rfl | ⟨2, _⟩ => rfl | ⟨3, _⟩ => rfl)))) ((val_main_v40_apply _ _).trans (congrArg x2 (funext fun a => Fin.ext (by match a with | ⟨0, _⟩ => rfl | ⟨1, _⟩ => rfl | ⟨2, _⟩ => rfl | ⟨3, _⟩ => rfl))))
  · exact congrArg₂ (· * ·) ((val_main_v41_apply _ _).trans (congrArg x3 (funext fun a => Fin.ext (by match a with | ⟨0, _⟩ => rfl | ⟨1, _⟩ => rfl | ⟨2, _⟩ => rfl)))) ((val_main_v39_apply _ _).trans (congrArg x1 (funext fun a => Fin.ext (by match a with | ⟨0, _⟩ => rfl | ⟨1, _⟩ => rfl | ⟨2, _⟩ => rfl | ⟨3, _⟩ => rfl))))

theorem maxC (h : Fin 4) (q : Fin 256) : val_main_v49 (F := Ideal) x0 x1 x2 x3 (ix3 (0 : Fin 1) h q) = mx (sC x0 x1 x2 x3 h q) := by
  unfold val_main_v49 val_main_cst_11 mx
  rw [hostReduce_maximumf_eq_multiReduction _ _ _ _ (by decide : S1x4x256x256.Reduces [3] S1x4x256) (by decide) (by decide)]
  refine (Ideal.multiReduction_maximumf_single _ _ _ _ _ _).trans ?_
  rw [Ideal.ofBits_def, bot_word]
  refine congrArg (Finset.fold max ⊥ · Finset.univ) (funext fun j : Fin 256 => ?_)
  refine Eq.trans ?_ (scoresC x0 x1 x2 x3 h q j)
  exact congrArg (val_main_v48 (F := Ideal) x0 x1 x2 x3) (funext fun a => Fin.ext (by match a with | ⟨0, _⟩ => rfl | ⟨1, _⟩ => rfl | ⟨2, _⟩ => rfl | ⟨3, _⟩ => rfl))

theorem expC (h : Fin 4) (q : Fin 256) (j : Fin 256) : val_main_v69 (F := Ideal) x0 x1 x2 x3 (ix4 (0 : Fin 1) h q j) = ex (sC x0 x1 x2 x3 h q) j := by
  rw [val_main_v69_apply, val_main_v68_apply, val_main_v67_apply, val_main_v66_apply, val_main_v56_apply, val_main_v55_apply, scoresC]
  have e : val_main_v49 (F := Ideal) x0 x1 x2 x3 (idx_main_v66 (idx_main_v67 (ix4 (0 : Fin 1) h q j))) = mx (sC x0 x1 x2 x3 h q) :=
    (congrArg (val_main_v49 (F := Ideal) x0 x1 x2 x3) (funext fun a => Fin.ext (by match a with | ⟨0, _⟩ => rfl | ⟨1, _⟩ => rfl | ⟨2, _⟩ => rfl))).trans (maxC x0 x1 x2 x3 h q)
  rw [e]
  have b : val_main_cst_13 (F := Ideal) (idx_main_v55 (idx_main_v66 (idx_main_v67 (ix4 (0 : Fin 1) h q j)))) = (⊥ : EReal) := bot_word
  rw [b]
  show Ideal.exp (_ - max ⊥ _) = _
  rw [max_bot_left]; rfl

theorem sumC (h : Fin 4) (q : Fin 256) : val_main_v70 (F := Ideal) x0 x1 x2 x3 (ix3 (0 : Fin 1) h q) = sm (sC x0 x1 x2 x3 h q) := by
  rw [val_main_v70_apply]
  have z : val_main_cst_19 (F := Ideal) (Shape.Idx.first h_S_) = (0 : EReal) := Ideal.ofBits_zero_f32
  rw [z, zero_add]
  exact sum_congr rfl fun k _ => (congrArg (val_main_v69 (F := Ideal) x0 x1 x2 x3) (funext fun a => Fin.ext (by match a with | ⟨0, _⟩ => rfl | ⟨1, _⟩ => rfl | ⟨2, _⟩ => rfl | ⟨3, _⟩ => rfl))).trans (expC x0 x1 x2 x3 h q k)

theorem denC (h : Fin 4) (q : Fin 256) (u : Fin 1) : val_main_v71 (F := Ideal) x0 x1 x2 x3 (ix4 (0 : Fin 1) h q u) = sm (sC x0 x1 x2 x3 h q) := by
  rw [val_main_v71_apply]
  exact (congrArg (val_main_v70 (F := Ideal) x0 x1 x2 x3) (funext fun a => Fin.ext (by match a with | ⟨0, _⟩ => rfl | ⟨1, _⟩ => rfl | ⟨2, _⟩ => rfl))).trans (sumC x0 x1 x2 x3 h q)

theorem softC (h : Fin 4) (q : Fin 256) (j : Fin 256) : val_main_v73 (F := Ideal) x0 x1 x2 x3 (ix4 (0 : Fin 1) h q j) = probQ (sC x0 x1 x2 x3 h q) j := by
  rw [val_main_v73_apply, val_main_v72_apply, expC]
  exact congrArg (Ideal.div _) ((congrArg (val_main_v71 (F := Ideal) x0 x1 x2 x3) (funext fun a => Fin.ext (by match a with | ⟨0, _⟩ => rfl | ⟨1, _⟩ => rfl | ⟨2, _⟩ => rfl | ⟨3, _⟩ => rfl))).trans (denC x0 x1 x2 x3 h q 0))

theorem dpC (h : Fin 4) (q : Fin 256) (j : Fin 256) : val_main_v83 (F := Ideal) x4 x5 (ix4 (0 : Fin 1) h q j) = pC x4 x5 h q j := by
  rw [val_main_v83_apply]
  show _ = ∑ d : Fin 128, x5 (ix4 (0 : Fin 1) (ctx q) h d) * x4 (ix4 (0 : Fin 1) (ctx j) h d)
  refine sum_congr rfl fun k _ => congrArg₂ (· * ·) ?_ ((val_main_v42_apply _ _).trans (congrArg x4 (funext fun a => Fin.ext (by match a with | ⟨0, _⟩ => rfl | ⟨1, _⟩ => rfl | ⟨2, _⟩ => rfl | ⟨3, _⟩ => rfl))))
  rw [val_main_v82_apply]
  exact ((val_main_v80_apply _ _).trans (congrArg x5 (funext fun a => Fin.ext (by match a with | ⟨0, _⟩ => rfl | ⟨1, _⟩ => rfl | ⟨2, _⟩ => rfl | ⟨3, _⟩ => rfl))))

theorem invC (h : Fin 4) (q : Fin 256) (j : Fin 256) : val_main_v86 (F := Ideal) x0 x1 x2 x3 (ix4 (0 : Fin 1) h q j) = Ideal.div 1 (sm (sC x0 x1 x2 x3 h q) * sm (sC x0 x1 x2 x3 h q)) := by
  rw [val_main_v86_apply, val_main_v76_apply, val_main_v75_apply, val_main_v74_apply]
  have e : val_main_v71 (F := Ideal) x0 x1 x2 x3 (idx_main_v86 (ix4 (0 : Fin 1) h q j)) = sm (sC x0 x1 x2 x3 h q) :=
    (congrArg (val_main_v71 (F := Ideal) x0 x1 x2 x3) (funext fun a => Fin.ext (by match a with | ⟨0, _⟩ => rfl | ⟨1, _⟩ => rfl | ⟨2, _⟩ => rfl | ⟨3, _⟩ => rfl))).trans (denC x0 x1 x2 x3 h q 0)
  rw [e]
  exact congrArg (Ideal.div · _) one_word

theorem corrC (h : Fin 4) (q : Fin 256) (u : Fin 1) : val_main_v91 (F := Ideal) x0 x1 x2 x3 x4 x5 (ix4 (0 : Fin 1) h q u)
    = -∑ k, pC x4 x5 h q k * Ideal.div 1 (sm (sC x0 x1 x2 x3 h q) * sm (sC x0 x1 x2 x3 h q)) * ex (sC x0 x1 x2 x3 h q) k := by
  rw [val_main_v91_apply, val_main_v90_apply, val_main_v89_apply]
  have z : val_main_cst_21 (F := Ideal) (Shape.Idx.first h_S_) = (0 : EReal) := Ideal.ofBits_zero_f32
  rw [z, zero_add]
  refine congrArg (fun y : EReal => -y) (sum_congr rfl fun k _ => ?_)
  refine (congrArg (val_main_v88 (F := Ideal) x0 x1 x2 x3 x4 x5) (?_ : _ = ix4 (0 : Fin 1) h q k)).trans ?_
  · funext a
    apply Fin.ext
    have hu := u.isLt
    match a with
    | ⟨0, _⟩ => rfl
    | ⟨1, _⟩ => show (((0 * 4 + h.val) * 256 + q.val) * 1 + u.val) / 256 % 4 = h.val; omega
    | ⟨2, _⟩ => show (((0 * 4 + h.val) * 256 + q.val) * 1 + u.val) % 256 = q.val; omega
    | ⟨3, _⟩ => rfl
  · rw [val_main_v88_apply, val_main_v87_apply, dpC, invC, expC]; rfl

/-- The sum over the two axes of size one is the one entry. -/
theorem unitC (h : Fin 4) (q : Fin 256) : val_main_v94 (F := Ideal) x0 x1 x2 x3 x4 x5 (ix2 h q) = val_main_v91 (F := Ideal) x0 x1 x2 x3 x4 x5 (ix4 (0 : Fin 1) h q (0 : Fin 1)) := by
  unfold val_main_v94
  generalize val_main_v91 (F := Ideal) x0 x1 x2 x3 x4 x5 = y
  simp only [Host.reduceAdd, Ideal.hostReduceAdd_def]
  unfold Ideal.hostReduceAdd
  have z : val_main_cst_22 (F := Ideal) (Shape.Idx.first h_S_) = (0 : EReal) := Ideal.ofBits_zero_f32
  rw [z, zero_add]
  refine sum_eq_single_of_mem _ ?_ ?_
  · refine mem_filter.mpr ⟨mem_univ _, funext fun a => Fin.ext ?_⟩
    rw [Shape.ReducesTo.drop_apply_val]
    match a with
    | ⟨0, _⟩ => rfl
    | ⟨1, _⟩ => rfl
  · intro i hi hne
    refine absurd (funext fun a => Fin.ext ?_) hne
    have hd := (mem_filter.mp hi).2
    have h0 := congrArg Fin.val (congrFun hd 0)
    have h1 := congrArg Fin.val (congrFun hd 1)
    rw [Shape.ReducesTo.drop_apply_val] at h0 h1
    match a with
    | ⟨0, _⟩ => have := (i 0).isLt; change (i 0).val < 1 at this; show (i 0).val = 0; omega
    | ⟨1, _⟩ => exact h0
    | ⟨2, _⟩ => exact h1
    | ⟨3, _⟩ => have := (i 3).isLt; change (i 3).val < 1 at this; show (i 3).val = 0; omega

theorem gradsC (h : Fin 4) (q : Fin 256) (j : Fin 256) : val_main_v100 (F := Ideal) x0 x1 x2 x3 x4 x5 (ix4 (0 : Fin 1) h q j) = dC x0 x1 x2 x3 x4 x5 h q j := by
  rw [val_main_v100_apply, val_main_v99_apply, val_main_v98_apply, val_main_v97_apply, val_main_v96_apply, val_main_v95_apply, val_main_v93_apply, val_main_v92_apply, dpC, expC]
  have e : val_main_v71 (F := Ideal) x0 x1 x2 x3 (idx_main_v92 (ix4 (0 : Fin 1) h q j)) = sm (sC x0 x1 x2 x3 h q) :=
    (congrArg (val_main_v71 (F := Ideal) x0 x1 x2 x3) (funext fun a => Fin.ext (by match a with | ⟨0, _⟩ => rfl | ⟨1, _⟩ => rfl | ⟨2, _⟩ => rfl | ⟨3, _⟩ => rfl))).trans (denC x0 x1 x2 x3 h q 0)
  rw [e]
  have u : val_main_v94 (F := Ideal) x0 x1 x2 x3 x4 x5 (idx_main_v95 (idx_main_v96 (ix4 (0 : Fin 1) h q j)))
      = -∑ k, pC x4 x5 h q k * Ideal.div 1 (sm (sC x0 x1 x2 x3 h q) * sm (sC x0 x1 x2 x3 h q)) * ex (sC x0 x1 x2 x3 h q) k :=
    (congrArg (val_main_v94 (F := Ideal) x0 x1 x2 x3 x4 x5) (funext fun a => Fin.ext (by match a with | ⟨0, _⟩ => rfl | ⟨1, _⟩ => rfl))).trans ((unitC x0 x1 x2 x3 x4 x5 h q).trans (corrC x0 x1 x2 x3 x4 x5 h q 0))
  rw [u]
  rfl

/-! ## The products -/

theorem dvC (j : Fin 256) (h : Fin 4) (d : Fin 128) : val_main_v85 (F := Ideal) x0 x1 x2 x3 x5 (ix4 (0 : Fin 1) j h d)
    = ∑ q : Fin 256, x5 (ix4 (0 : Fin 1) (ctx q) h d) * probQ (sC x0 x1 x2 x3 h q) j := by
  rw [val_main_v85_apply, val_main_v84_apply]
  refine sum_congr rfl fun q _ => congrArg₂ (· * ·) ?_ ?_
  · rw [val_main_v82_apply]
    exact ((val_main_v80_apply _ _).trans (congrArg x5 (funext fun a => Fin.ext (by match a with | ⟨0, _⟩ => rfl | ⟨1, _⟩ => rfl | ⟨2, _⟩ => rfl | ⟨3, _⟩ => rfl))))
  · exact (congrArg (val_main_v73 (F := Ideal) x0 x1 x2 x3) (funext fun a => Fin.ext (by match a with | ⟨0, _⟩ => rfl | ⟨1, _⟩ => rfl | ⟨2, _⟩ => rfl | ⟨3, _⟩ => rfl))).trans (softC x0 x1 x2 x3 h q j)

theorem flipC (j : Fin 256) (q : Fin 256) (h : Fin 4) : val_main_v101 (F := Ideal) x0 x1 x2 x3 x4 x5 (ix4 (0 : Fin 1) j q h) = dC x0 x1 x2 x3 x4 x5 h q j := by
  rw [val_main_v101_apply]
  exact (congrArg (val_main_v100 (F := Ideal) x0 x1 x2 x3 x4 x5) (funext fun a => Fin.ext (by match a with | ⟨0, _⟩ => rfl | ⟨1, _⟩ => rfl | ⟨2, _⟩ => rfl | ⟨3, _⟩ => rfl))).trans (gradsC x0 x1 x2 x3 x4 x5 h q j)

theorem dqrC (q : Fin 256) (h : Fin 4) (r : Fin 64) : val_main_v102 (F := Ideal) x0 x1 x2 x3 x4 x5 (ix4 (0 : Fin 1) q h r)
    = ∑ j : Fin 256, dC x0 x1 x2 x3 x4 x5 h q j * x3 (ix3 (0 : Fin 1) (ctx j) r) := by
  rw [val_main_v102_apply]
  refine sum_congr rfl fun k _ => congrArg₂ (· * ·) ?_ ((val_main_v41_apply _ _).trans (congrArg x3 (funext fun a => Fin.ext (by match a with | ⟨0, _⟩ => rfl | ⟨1, _⟩ => rfl | ⟨2, _⟩ => rfl))))
  exact (congrArg (val_main_v101 (F := Ideal) x0 x1 x2 x3 x4 x5) (funext fun a => Fin.ext (by match a with | ⟨0, _⟩ => rfl | ⟨1, _⟩ => rfl | ⟨2, _⟩ => rfl | ⟨3, _⟩ => rfl))).trans (flipC x0 x1 x2 x3 x4 x5 k q h)

theorem dkC (j : Fin 256) (h : Fin 4) (d : Fin 128) : val_main_v105 (F := Ideal) x0 x1 x2 x3 x4 x5 (ix4 (0 : Fin 1) j h d)
    = ∑ q : Fin 256, dC x0 x1 x2 x3 x4 x5 h q j * x0 (ix4 (0 : Fin 1) (ctx q) h d) := by
  rw [val_main_v105_apply, val_main_v104_apply]
  refine sum_congr rfl fun k _ => congrArg₂ (· * ·) ?_ ((val_main_v38_apply _ _).trans (congrArg x0 (funext fun a => Fin.ext (by match a with | ⟨0, _⟩ => rfl | ⟨1, _⟩ => rfl | ⟨2, _⟩ => rfl | ⟨3, _⟩ => rfl))))
  exact (congrArg (val_main_v100 (F := Ideal) x0 x1 x2 x3 x4 x5) (funext fun a => Fin.ext (by match a with | ⟨0, _⟩ => rfl | ⟨1, _⟩ => rfl | ⟨2, _⟩ => rfl | ⟨3, _⟩ => rfl))).trans (gradsC x0 x1 x2 x3 x4 x5 h k j)

theorem dqC (q : Fin 256) (h : Fin 4) (d : Fin 128) : val_main_v107 (F := Ideal) x0 x1 x2 x3 x4 x5 (ix4 (0 : Fin 1) q h d)
    = ∑ j : Fin 256, dC x0 x1 x2 x3 x4 x5 h q j * x2 (ix4 (0 : Fin 1) (ctx j) h d) := by
  rw [val_main_v107_apply, val_main_v106_apply]
  refine sum_congr rfl fun k _ => congrArg₂ (· * ·) ?_ ((val_main_v40_apply _ _).trans (congrArg x2 (funext fun a => Fin.ext (by match a with | ⟨0, _⟩ => rfl | ⟨1, _⟩ => rfl | ⟨2, _⟩ => rfl | ⟨3, _⟩ => rfl))))
  exact (congrArg (val_main_v100 (F := Ideal) x0 x1 x2 x3 x4 x5) (funext fun a => Fin.ext (by match a with | ⟨0, _⟩ => rfl | ⟨1, _⟩ => rfl | ⟨2, _⟩ => rfl | ⟨3, _⟩ => rfl))).trans (gradsC x0 x1 x2 x3 x4 x5 h q k)

end AttGrad
-- ==== Proof.RefRope.lean ====
/- The reference's gradient for the rope keys, whose product sums over queries and heads. -/
module

public import proofs.«01_k».proof.Proof.RefLat
public import proofs.«01_k».proof.Proof.RefCtx
import Idealize.ShloMosaic.Lib.Pointwise.Contract

@[expose] public section

set_option maxRecDepth 16384

noncomputable section

namespace AttGrad

open Cert.ReferenceIdeal Cert.ReferenceIdeal.Gen Cert.ReferenceIdeal.Read Idealize.ShloMosaic Idealize.ShloMosaic.TcCoe Idealize.SL.Sem
open Finset

variable (x0 : (⟨S1x4352x4x128, .f32⟩ : BufTy).Contents (Elt Ideal)) (x1 : (⟨S1x4352x4x64, .f32⟩ : BufTy).Contents (Elt Ideal))
  (x2 : (⟨S1x4352x4x128, .f32⟩ : BufTy).Contents (Elt Ideal)) (x3 : (⟨S1x4352x64, .f32⟩ : BufTy).Contents (Elt Ideal))
  (x4 x5 : (⟨S1x4352x4x128, .f32⟩ : BufTy).Contents (Elt Ideal))

theorem dkrL (j : Fin 4352) (r : Fin 64) : val_main_v135 (F := Ideal) x0 x1 x2 x3 x4 x5 (ValueIdx.ix3 (0 : Fin 1) j r)
    = ∑ q : Fin 4096, ∑ h : Fin 4, dL x0 x1 x2 x3 x4 x5 h q j * x1 (ValueIdx.ix4 (0 : Fin 1) (lat q) h r) := by
  unfold val_main_v135
  simp only [Host.dotGeneral]
  rw [Ideal.dotGeneral_apply, DotDims.sum_contr₂ _ (a := (2 : Fin 4)) (b := (3 : Fin 4)) rfl (K₁ := 4096) (K₂ := 4) rfl rfl]
  refine sum_congr rfl fun q _ => sum_congr rfl fun h _ => congrArg₂ (· * ·) ?_ ?_
  · exact (congrArg (val_main_v133 (F := Ideal) x0 x1 x2 x3 x4 x5) (funext fun a => Fin.ext (by match a with | ⟨0, _⟩ => rfl | ⟨1, _⟩ => rfl | ⟨2, _⟩ => rfl | ⟨3, _⟩ => rfl))).trans (flipL x0 x1 x2 x3 x4 x5 j q h)
  · exact (congrArg (val_main_v1 (F := Ideal) x1) ((funext fun a => Fin.ext (by match a with | ⟨0, _⟩ => rfl | ⟨1, _⟩ => rfl | ⟨2, _⟩ => rfl | ⟨3, _⟩ => rfl)) : _ = ValueIdx.ix4 (0 : Fin 1) q h r)).trans ((val_main_v1_apply _ _).trans (congrArg x1 (funext fun a => Fin.ext (by match a with | ⟨0, _⟩ => rfl | ⟨1, _⟩ => rfl | ⟨2, _⟩ => rfl | ⟨3, _⟩ => rfl))))

theorem dkrC (j : Fin 256) (r : Fin 64) : val_main_v103 (F := Ideal) x0 x1 x2 x3 x4 x5 (ValueIdx.ix3 (0 : Fin 1) j r)
    = ∑ q : Fin 256, ∑ h : Fin 4, dC x0 x1 x2 x3 x4 x5 h q j * x1 (ValueIdx.ix4 (0 : Fin 1) (ctx q) h r) := by
  unfold val_main_v103
  simp only [Host.dotGeneral]
  rw [Ideal.dotGeneral_apply, DotDims.sum_contr₂ _ (a := (2 : Fin 4)) (b := (3 : Fin 4)) rfl (K₁ := 256) (K₂ := 4) rfl rfl]
  refine sum_congr rfl fun q _ => sum_congr rfl fun h _ => congrArg₂ (· * ·) ?_ ?_
  · exact (congrArg (val_main_v101 (F := Ideal) x0 x1 x2 x3 x4 x5) (funext fun a => Fin.ext (by match a with | ⟨0, _⟩ => rfl | ⟨1, _⟩ => rfl | ⟨2, _⟩ => rfl | ⟨3, _⟩ => rfl))).trans (flipC x0 x1 x2 x3 x4 x5 j q h)
  · exact (congrArg (val_main_v39 (F := Ideal) x1) ((funext fun a => Fin.ext (by match a with | ⟨0, _⟩ => rfl | ⟨1, _⟩ => rfl | ⟨2, _⟩ => rfl | ⟨3, _⟩ => rfl)) : _ = ValueIdx.ix4 (0 : Fin 1) q h r)).trans ((val_main_v39_apply _ _).trans (congrArg x1 (funext fun a => Fin.ext (by match a with | ⟨0, _⟩ => rfl | ⟨1, _⟩ => rfl | ⟨2, _⟩ => rfl | ⟨3, _⟩ => rfl))))

end AttGrad
-- ==== Proof.RefResults.lean ====
/- The reference's five results at an index: what the context queries give and what the queries behind the context give, each padded
   with zeros to all 4352 positions and added. -/
module

public import proofs.«01_k».proof.Proof.RefRope
public import proofs.«01_k».proof.Proof.Entry

@[expose] public section

set_option maxRecDepth 16384

noncomputable section

namespace AttGrad

open Cert.ReferenceIdeal Cert.ReferenceIdeal.Gen Cert.ReferenceIdeal.Read Idealize.ShloMosaic Idealize.ShloMosaic.TcCoe Idealize.SL.Sem
open Idealize.ShloMosaic.ValueIdx Finset

/-- The zero that pads. -/
theorem zeroWord (j : S_.Idx) : (constant (F := Ideal) S_ .f32 0x00000000#32) j = 0 := Ideal.ofBits_zero_f32

section
variable (v : Vec Ideal S_ .f32) (u : 0 < S_.numel)

theorem heads_low_ctx (x : Vec Ideal S1x256x4x128 .f32) (w : S1x256x4x128.Pads ![0, 0, 0, 0] ![0, 4096, 0, 0] ![0, 0, 0, 0] S1x4352x4x128) (k : Fin 256) (h : Fin 4) (d : Fin 128) :
    pad S1x4352x4x128 ![0, 0, 0, 0] ![0, 4096, 0, 0] ![0, 0, 0, 0] x v w u (ix4 (0 : Fin 1) (ctx k) h d) = x (ix4 (0 : Fin 1) k h d) := by
  refine pad_apply_of_inside _ _ _ _ _ _ _ _ _ fun a => ?_
  match a with
    | ⟨0, _⟩ => rfl
    | ⟨1, _⟩ => show k.val = 0 + k.val * (0 + 1); omega
    | ⟨2, _⟩ => show h.val = 0 + h.val * (0 + 1); omega
    | ⟨3, _⟩ => show d.val = 0 + d.val * (0 + 1); omega

theorem heads_low_lat (x : Vec Ideal S1x256x4x128 .f32) (w : S1x256x4x128.Pads ![0, 0, 0, 0] ![0, 4096, 0, 0] ![0, 0, 0, 0] S1x4352x4x128) (hv : ∀ j, v j = 0) (q : Fin 4096) (h : Fin 4) (d : Fin 128) :
    pad S1x4352x4x128 ![0, 0, 0, 0] ![0, 4096, 0, 0] ![0, 0, 0, 0] x v w u (ix4 (0 : Fin 1) (lat q) h d) = 0 := by
  rw [pad_apply_of_not_inside _ _ _ _ _ _ _ _ (1 : Fin 4) (by
      rintro ⟨_, _, h3⟩
      have h3' : (256 + q.val - 0) / (0 + 1) < 256 := h3
      omega)]
  exact hv _

theorem heads_high_lat (x : Vec Ideal S1x4096x4x128 .f32) (w : S1x4096x4x128.Pads ![0, 256, 0, 0] ![0, 0, 0, 0] ![0, 0, 0, 0] S1x4352x4x128) (q : Fin 4096) (h : Fin 4) (d : Fin 128) :
    pad S1x4352x4x128 ![0, 256, 0, 0] ![0, 0, 0, 0] ![0, 0, 0, 0] x v w u (ix4 (0 : Fin 1) (lat q) h d) = x (ix4 (0 : Fin 1) q h d) := by
  refine pad_apply_of_inside _ _ _ _ _ _ _ _ _ fun a => ?_
  match a with
    | ⟨0, _⟩ => rfl
    | ⟨1, _⟩ => show 256 + q.val = 256 + q.val * (0 + 1); omega
    | ⟨2, _⟩ => show h.val = 0 + h.val * (0 + 1); omega
    | ⟨3, _⟩ => show d.val = 0 + d.val * (0 + 1); omega

theorem heads_high_ctx (x : Vec Ideal S1x4096x4x128 .f32) (w : S1x4096x4x128.Pads ![0, 256, 0, 0] ![0, 0, 0, 0] ![0, 0, 0, 0] S1x4352x4x128) (hv : ∀ j, v j = 0) (k : Fin 256) (h : Fin 4) (d : Fin 128) :
    pad S1x4352x4x128 ![0, 256, 0, 0] ![0, 0, 0, 0] ![0, 0, 0, 0] x v w u (ix4 (0 : Fin 1) (ctx k) h d) = 0 := by
  rw [pad_apply_of_not_inside _ _ _ _ _ _ _ _ (1 : Fin 4) (by
      rintro ⟨h1, _, _⟩
      have h1' : 256 ≤ k.val := h1
      have := k.isLt
      omega)]
  exact hv _

end

section
variable (v : Vec Ideal S_ .f32) (u : 0 < S_.numel)

theorem rope_low_ctx (x : Vec Ideal S1x256x4x64 .f32) (w : S1x256x4x64.Pads ![0, 0, 0, 0] ![0, 4096, 0, 0] ![0, 0, 0, 0] S1x4352x4x64) (k : Fin 256) (h : Fin 4) (d : Fin 64) :
    pad S1x4352x4x64 ![0, 0, 0, 0] ![0, 4096, 0, 0] ![0, 0, 0, 0] x v w u (ix4 (0 : Fin 1) (ctx k) h d) = x (ix4 (0 : Fin 1) k h d) := by
  refine pad_apply_of_inside _ _ _ _ _ _ _ _ _ fun a => ?_
  match a with
    | ⟨0, _⟩ => rfl
    | ⟨1, _⟩ => show k.val = 0 + k.val * (0 + 1); omega
    | ⟨2, _⟩ => show h.val = 0 + h.val * (0 + 1); omega
    | ⟨3, _⟩ => show d.val = 0 + d.val * (0 + 1); omega

theorem rope_low_lat (x : Vec Ideal S1x256x4x64 .f32) (w : S1x256x4x64.Pads ![0, 0, 0, 0] ![0, 4096, 0, 0] ![0, 0, 0, 0] S1x4352x4x64) (hv : ∀ j, v j = 0) (q : Fin 4096) (h : Fin 4) (d : Fin 64) :
    pad S1x4352x4x64 ![0, 0, 0, 0] ![0, 4096, 0, 0] ![0, 0, 0, 0] x v w u (ix4 (0 : Fin 1) (lat q) h d) = 0 := by
  rw [pad_apply_of_not_inside _ _ _ _ _ _ _ _ (1 : Fin 4) (by
      rintro ⟨_, _, h3⟩
      have h3' : (256 + q.val - 0) / (0 + 1) < 256 := h3
      omega)]
  exact hv _

theorem rope_high_lat (x : Vec Ideal S1x4096x4x64 .f32) (w : S1x4096x4x64.Pads ![0, 256, 0, 0] ![0, 0, 0, 0] ![0, 0, 0, 0] S1x4352x4x64) (q : Fin 4096) (h : Fin 4) (d : Fin 64) :
    pad S1x4352x4x64 ![0, 256, 0, 0] ![0, 0, 0, 0] ![0, 0, 0, 0] x v w u (ix4 (0 : Fin 1) (lat q) h d) = x (ix4 (0 : Fin 1) q h d) := by
  refine pad_apply_of_inside _ _ _ _ _ _ _ _ _ fun a => ?_
  match a with
    | ⟨0, _⟩ => rfl
    | ⟨1, _⟩ => show 256 + q.val = 256 + q.val * (0 + 1); omega
    | ⟨2, _⟩ => show h.val = 0 + h.val * (0 + 1); omega
    | ⟨3, _⟩ => show d.val = 0 + d.val * (0 + 1); omega

theorem rope_high_ctx (x : Vec Ideal S1x4096x4x64 .f32) (w : S1x4096x4x64.Pads ![0, 256, 0, 0] ![0, 0, 0, 0] ![0, 0, 0, 0] S1x4352x4x64) (hv : ∀ j, v j = 0) (k : Fin 256) (h : Fin 4) (d : Fin 64) :
    pad S1x4352x4x64 ![0, 256, 0, 0] ![0, 0, 0, 0] ![0, 0, 0, 0] x v w u (ix4 (0 : Fin 1) (ctx k) h d) = 0 := by
  rw [pad_apply_of_not_inside _ _ _ _ _ _ _ _ (1 : Fin 4) (by
      rintro ⟨h1, _, _⟩
      have h1' : 256 ≤ k.val := h1
      have := k.isLt
      omega)]
  exact hv _

end

section
variable (v : Vec Ideal S_ .f32) (u : 0 < S_.numel)

theorem keys_low_ctx (x : Vec Ideal S1x256x64 .f32) (w : S1x256x64.Pads ![0, 0, 0] ![0, 4096, 0] ![0, 0, 0] S1x4352x64) (k : Fin 256) (d : Fin 64) :
    pad S1x4352x64 ![0, 0, 0] ![0, 4096, 0] ![0, 0, 0] x v w u (ix3 (0 : Fin 1) (ctx k) d) = x (ix3 (0 : Fin 1) k d) := by
  refine pad_apply_of_inside _ _ _ _ _ _ _ _ _ fun a => ?_
  match a with
    | ⟨0, _⟩ => rfl
    | ⟨1, _⟩ => show k.val = 0 + k.val * (0 + 1); omega
    | ⟨2, _⟩ => show d.val = 0 + d.val * (0 + 1); omega

theorem keys_low_lat (x : Vec Ideal S1x256x64 .f32) (w : S1x256x64.Pads ![0, 0, 0] ![0, 4096, 0] ![0, 0, 0] S1x4352x64) (hv : ∀ j, v j = 0) (q : Fin 4096) (d : Fin 64) :
    pad S1x4352x64 ![0, 0, 0] ![0, 4096, 0] ![0, 0, 0] x v w u (ix3 (0 : Fin 1) (lat q) d) = 0 := by
  rw [pad_apply_of_not_inside _ _ _ _ _ _ _ _ (1 : Fin 3) (by
      rintro ⟨_, _, h3⟩
      have h3' : (256 + q.val - 0) / (0 + 1) < 256 := h3
      omega)]
  exact hv _

end

variable (x0 : (⟨S1x4352x4x128, .f32⟩ : BufTy).Contents (Elt Ideal)) (x1 : (⟨S1x4352x4x64, .f32⟩ : BufTy).Contents (Elt Ideal))
  (x2 : (⟨S1x4352x4x128, .f32⟩ : BufTy).Contents (Elt Ideal)) (x3 : (⟨S1x4352x64, .f32⟩ : BufTy).Contents (Elt Ideal))
  (x4 x5 : (⟨S1x4352x4x128, .f32⟩ : BufTy).Contents (Elt Ideal))

theorem dqn_lat (q : Fin 4096) (h : Fin 4) (d : Fin 128) : val_main_v145 (F := Ideal) x0 x1 x2 x3 x4 x5 (ix4 (0 : Fin 1) (lat q) h d) = val_main_v141 (F := Ideal) x0 x1 x2 x3 x4 x5 (ix4 (0 : Fin 1) q h d) := by
  rw [val_main_v145_apply]
  unfold val_main_v112 val_main_v144
  exact (congrArg₂ (fun a b : EReal => a + b) (heads_low_lat _ _ _ _ zeroWord q h d) (heads_high_lat _ _ _ _ q h d)).trans (zero_add _)

theorem dqn_ctx (k : Fin 256) (h : Fin 4) (d : Fin 128) : val_main_v145 (F := Ideal) x0 x1 x2 x3 x4 x5 (ix4 (0 : Fin 1) (ctx k) h d) = val_main_v107 (F := Ideal) x0 x1 x2 x3 x4 x5 (ix4 (0 : Fin 1) k h d) := by
  rw [val_main_v145_apply]
  unfold val_main_v112 val_main_v144
  exact (congrArg₂ (fun a b : EReal => a + b) (heads_low_ctx _ _ _ _ k h d) (heads_high_ctx _ _ _ _ zeroWord k h d)).trans (add_zero _)

theorem dqrp_lat (q : Fin 4096) (h : Fin 4) (d : Fin 64) : val_main_v143 (F := Ideal) x0 x1 x2 x3 x4 x5 (ix4 (0 : Fin 1) (lat q) h d) = val_main_v134 (F := Ideal) x0 x1 x2 x3 x4 x5 (ix4 (0 : Fin 1) q h d) := by
  rw [val_main_v143_apply]
  unfold val_main_v111 val_main_v142
  exact (congrArg₂ (fun a b : EReal => a + b) (rope_low_lat _ _ _ _ zeroWord q h d) (rope_high_lat _ _ _ _ q h d)).trans (zero_add _)

theorem dqrp_ctx (k : Fin 256) (h : Fin 4) (d : Fin 64) : val_main_v143 (F := Ideal) x0 x1 x2 x3 x4 x5 (ix4 (0 : Fin 1) (ctx k) h d) = val_main_v102 (F := Ideal) x0 x1 x2 x3 x4 x5 (ix4 (0 : Fin 1) k h d) := by
  rw [val_main_v143_apply]
  unfold val_main_v111 val_main_v142
  exact (congrArg₂ (fun a b : EReal => a + b) (rope_low_ctx _ _ _ _ k h d) (rope_high_ctx _ _ _ _ zeroWord k h d)).trans (add_zero _)

theorem dkn_lat (q : Fin 4096) (h : Fin 4) (d : Fin 128) : val_main_v139 (F := Ideal) x0 x1 x2 x3 x4 x5 (ix4 (0 : Fin 1) (lat q) h d) = val_main_v138 (F := Ideal) x0 x1 x2 x3 x4 x5 (ix4 (0 : Fin 1) (lat q) h d) := by
  rw [val_main_v139_apply]
  unfold val_main_v110
  exact (congrArg (fun a : EReal => a + _) (heads_low_lat _ _ _ _ zeroWord q h d)).trans (zero_add _)

theorem dkn_ctx (k : Fin 256) (h : Fin 4) (d : Fin 128) : val_main_v139 (F := Ideal) x0 x1 x2 x3 x4 x5 (ix4 (0 : Fin 1) (ctx k) h d)
    = val_main_v105 (F := Ideal) x0 x1 x2 x3 x4 x5 (ix4 (0 : Fin 1) k h d) + val_main_v138 (F := Ideal) x0 x1 x2 x3 x4 x5 (ix4 (0 : Fin 1) (ctx k) h d) := by
  rw [val_main_v139_apply]
  unfold val_main_v110
  exact congrArg (fun a : EReal => a + _) (heads_low_ctx _ _ _ _ k h d)

theorem dkrp_lat (q : Fin 4096) (d : Fin 64) : val_main_v136 (F := Ideal) x0 x1 x2 x3 x4 x5 (ix3 (0 : Fin 1) (lat q) d) = val_main_v135 (F := Ideal) x0 x1 x2 x3 x4 x5 (ix3 (0 : Fin 1) (lat q) d) := by
  rw [val_main_v136_apply]
  unfold val_main_v109
  exact (congrArg (fun a : EReal => a + _) (keys_low_lat _ _ _ _ zeroWord q d)).trans (zero_add _)

theorem dkrp_ctx (k : Fin 256) (d : Fin 64) : val_main_v136 (F := Ideal) x0 x1 x2 x3 x4 x5 (ix3 (0 : Fin 1) (ctx k) d)
    = val_main_v103 (F := Ideal) x0 x1 x2 x3 x4 x5 (ix3 (0 : Fin 1) k d) + val_main_v135 (F := Ideal) x0 x1 x2 x3 x4 x5 (ix3 (0 : Fin 1) (ctx k) d) := by
  rw [val_main_v136_apply]
  unfold val_main_v109
  exact congrArg (fun a : EReal => a + _) (keys_low_ctx _ _ _ _ k d)

theorem dvv_lat (q : Fin 4096) (h : Fin 4) (d : Fin 128) : val_main_v117 (F := Ideal) x0 x1 x2 x3 x5 (ix4 (0 : Fin 1) (lat q) h d) = val_main_v116 (F := Ideal) x0 x1 x2 x3 x5 (ix4 (0 : Fin 1) (lat q) h d) := by
  rw [val_main_v117_apply]
  unfold val_main_v108
  exact (congrArg (fun a : EReal => a + _) (heads_low_lat _ _ _ _ zeroWord q h d)).trans (zero_add _)

theorem dvv_ctx (k : Fin 256) (h : Fin 4) (d : Fin 128) : val_main_v117 (F := Ideal) x0 x1 x2 x3 x5 (ix4 (0 : Fin 1) (ctx k) h d)
    = val_main_v85 (F := Ideal) x0 x1 x2 x3 x5 (ix4 (0 : Fin 1) k h d) + val_main_v116 (F := Ideal) x0 x1 x2 x3 x5 (ix4 (0 : Fin 1) (ctx k) h d) := by
  rw [val_main_v117_apply]
  unfold val_main_v108
  exact congrArg (fun a : EReal => a + _) (heads_low_ctx _ _ _ _ k h d)

/-! ## The arrays with the heads side by side -/

theorem flatQ (i : Fin 4352) (h : Fin 4) (d : Fin 128) : val_main_v146 (F := Ideal) x0 x1 x2 x3 x4 x5 (ix2 i (col h d)) = val_main_v145 (F := Ideal) x0 x1 x2 x3 x4 x5 (ix4 (0 : Fin 1) i h d) :=
  heads_apply _ _ i h d
theorem flatK (i : Fin 4352) (h : Fin 4) (d : Fin 128) : val_main_v149 (F := Ideal) x0 x1 x2 x3 x4 x5 (ix2 i (col h d)) = val_main_v139 (F := Ideal) x0 x1 x2 x3 x4 x5 (ix4 (0 : Fin 1) i h d) :=
  heads_apply _ _ i h d
theorem flatV (i : Fin 4352) (h : Fin 4) (d : Fin 128) : val_main_v152 (F := Ideal) x0 x1 x2 x3 x5 (ix2 i (col h d)) = val_main_v117 (F := Ideal) x0 x1 x2 x3 x5 (ix4 (0 : Fin 1) i h d) :=
  heads_apply _ _ i h d
theorem flatQr (i : Fin 4352) (h : Fin 4) (d : Fin 128) : val_main_v148 (F := Ideal) x0 x1 x2 x3 x4 x5 (ix2 i (col h d))
    = wide (fun r => val_main_v143 (F := Ideal) x0 x1 x2 x3 x4 x5 (ix4 (0 : Fin 1) i h r)) d :=
  (heads_apply _ _ i h d).trans (padHeads_apply _ _ _ _ padZero i h d)
theorem flatKr (i : Fin 4352) (d : Fin 128) : val_main_v151 (F := Ideal) x0 x1 x2 x3 x4 x5 (ix2 i d)
    = wide (fun r => val_main_v136 (F := Ideal) x0 x1 x2 x3 x4 x5 (ix3 (0 : Fin 1) i r)) d :=
  (shapeCast_apply _ _ _ (ix3 (0 : Fin 1) i d) (by
    rw [Shape.rowMajor_val_three, Shape.rowMajor_val_two]
    show (0 * 4352 + i.val) * 128 + d.val = i.val * 128 + d.val
    ring)).trans (padKeys_apply _ _ _ _ padZero i d)

end AttGrad
-- ==== Proof.Equation.lean ====
/- The kernel's and the reference's softmax and its gradient agree where the queries and keys are real numbers: the masked
   rows are the rows over the context keys, and the scale may be taken in or out of the sums. -/
module

public import proofs.«01_k».proof.Proof.RefResults

@[expose] public section

set_option maxRecDepth 16384

noncomputable section

namespace AttGrad

open Cert.ReferenceIdeal Cert.ReferenceIdeal.Gen Cert.ReferenceIdeal.Read Idealize.ShloMosaic Idealize.ShloMosaic.TcCoe Idealize.SL.Sem
open Idealize.ShloMosaic.ValueIdx Finset

/-! ## Sums over the positions and over the padded columns -/

theorem sum_split (f : Fin 4352 → EReal) : ∑ i, f i = ∑ k : Fin 256, f (ctx k) + ∑ q : Fin 4096, f (lat q) :=
  (Fin.sum_univ_add (a := 256) (b := 4096) f)

theorem ctx_inj : Function.Injective ctx := fun _ _ e => Fin.ext (Fin.mk.inj_iff.mp e)

theorem ctx_or_lat (i : Fin 4352) : (∃ k, i = ctx k) ∨ (∃ q, i = lat q) := by
  by_cases h : i.val < 256
  · exact Or.inl ⟨⟨i.val, h⟩, rfl⟩
  · exact Or.inr ⟨⟨i.val - 256, by omega⟩, Fin.ext (by show i.val = 256 + (i.val - 256); omega)⟩

theorem lat_out (q : Fin 4096) : lat q ∉ Set.range ctx := by
  rintro ⟨k, e⟩
  have := congrArg Fin.val e
  change k.val = 256 + q.val at this
  omega

theorem ge_of_out {j : Fin 4352} (hj : j ∉ Set.range ctx) : 256 ≤ j.val := by
  by_contra h
  exact hj ⟨⟨j.val, by omega⟩, rfl⟩

/-- A sum over the positions of what is zero outside the context. -/
theorem sum_ctx (f : Fin 4352 → EReal) (g : Fin 256 → EReal) (hz : ∀ j, j ∉ Set.range ctx → f j = 0) (hg : ∀ k, f (ctx k) = g k) :
    ∑ j, f j = ∑ k, g k :=
  (Fintype.sum_of_injective ctx ctx_inj g f hz fun k => (hg k).symm).symm

/-- A sum over the padded columns of what is zero in the padding. -/
theorem sum_wide (f : Fin 128 → EReal) (g : Fin 64 → EReal) (hz : ∀ d : Fin 128, ¬d.val < 64 → f d = 0)
    (hg : ∀ r : Fin 64, f ⟨r.val, by omega⟩ = g r) : ∑ d, f d = ∑ r, g r := by
  refine (Fintype.sum_of_injective (fun r : Fin 64 => (⟨r.val, by omega⟩ : Fin 128)) (fun _ _ e => Fin.ext (Fin.mk.inj_iff.mp e)) g f ?_
    fun r => (hg r).symm).symm
  intro d hd
  exact hz d fun h => hd ⟨⟨d.val, h⟩, rfl⟩

theorem wide_in (f : Fin 64 → EReal) (r : Fin 64) (h : r.val < 128) : wide f ⟨r.val, h⟩ = f r := dif_pos r.isLt
theorem wide_out (f : Fin 64 → EReal) {d : Fin 128} (h : ¬d.val < 64) : wide f d = 0 := dif_neg h

variable (x0 : (⟨S1x4352x4x128, .f32⟩ : BufTy).Contents (Elt Ideal)) (x1 : (⟨S1x4352x4x64, .f32⟩ : BufTy).Contents (Elt Ideal))
  (x2 : (⟨S1x4352x4x128, .f32⟩ : BufTy).Contents (Elt Ideal)) (x3 : (⟨S1x4352x64, .f32⟩ : BufTy).Contents (Elt Ideal))
  (x4 x5 : (⟨S1x4352x4x128, .f32⟩ : BufTy).Contents (Elt Ideal))

/-! ## The scores -/

/-- The queries and keys are real numbers. -/
structure Finite : Prop where
  q : ∀ j, ∃ r : ℝ, x0 j = (r : EReal)
  qr : ∀ j, ∃ r : ℝ, x1 j = (r : EReal)
  k : ∀ j, ∃ r : ℝ, x2 j = (r : EReal)
  kr : ∀ j, ∃ r : ℝ, x3 j = (r : EReal)

variable {x0 x1 x2 x3} in
theorem raw_real (H : Finite x0 x1 x2 x3) (h : Fin 4) (i j : Fin 4352) : ∃ r : ℝ, raw x0 x1 x2 x3 h i j = (r : EReal) := by
  obtain ⟨h0, h1, h2, h3⟩ := H
  choose f0 h0 using h0
  choose f1 h1 using h1
  choose f2 h2 using h2
  choose f3 h3 using h3
  obtain ⟨s, _, hs⟩ := sc_real
  refine ⟨(∑ d : Fin 128, f0 (ix4 (0 : Fin 1) i h d) * f2 (ix4 (0 : Fin 1) j h d)
    + ∑ r : Fin 64, f3 (ix3 (0 : Fin 1) j r) * f1 (ix4 (0 : Fin 1) i h r)) * s, ?_⟩
  unfold raw
  rw [hs, EReal.coe_mul, EReal.coe_add, ← sum_coe, ← sum_coe]
  congr 2
  · exact sum_congr rfl fun d _ => by rw [h0, h2, EReal.coe_mul]
  · exact sum_congr rfl fun d _ => by rw [h3, h1, EReal.coe_mul]

/-- The kernel's score is the reference's, plus the mask. -/
theorem score_raw (h : Fin 4) (i j : Fin 4352) : (opsOf x0 x1 x2 x3 x4 x5).score h i j = raw x0 x1 x2 x3 h i j + Ops.msk i j := by
  unfold Ops.score raw
  congr 1
  rw [mul_comm _ sc, EReal.left_distrib_of_nonneg_of_ne_top sc_nonneg sc_ne_top, mul_sum _ _ sc_nonneg sc_ne_top, mul_sum _ _ sc_nonneg sc_ne_top]
  congr 1
  · exact sum_congr rfl fun d _ => by
      show x0 (ix4 (0 : Fin 1) i h d) * sc * x2 (ix4 (0 : Fin 1) j h d) = _
      ac_rfl
  · refine sum_wide _ _ (fun d hd => ?_) fun r => ?_
    · have e : (opsOf x0 x1 x2 x3 x4 x5).kr j d = 0 := dif_neg hd
      rw [e, mul_zero]
    · have e : (opsOf x0 x1 x2 x3 x4 x5).kr j ⟨r.val, by omega⟩ = x3 (ix3 (0 : Fin 1) j r) := dif_pos r.isLt
      have e' : (opsOf x0 x1 x2 x3 x4 x5).qr i h ⟨r.val, by omega⟩ = x1 (ix4 (0 : Fin 1) i h r) := dif_pos r.isLt
      rw [e, e']
      ac_rfl

theorem score_lat (h : Fin 4) (q : Fin 4096) : (opsOf x0 x1 x2 x3 x4 x5).score h (lat q) = sL x0 x1 x2 x3 h q := by
  funext j
  rw [score_raw, Ops.msk, if_neg (by rintro ⟨h, _⟩; change 256 + q.val < 256 at h; omega), add_zero]
  rfl

theorem score_ctx (h : Fin 4) (i k : Fin 256) : (opsOf x0 x1 x2 x3 x4 x5).score h (ctx i) (ctx k) = sC x0 x1 x2 x3 h i k := by
  rw [score_raw, Ops.msk, if_neg (by rintro ⟨_, h⟩; change 256 ≤ k.val at h; omega), add_zero]
  rfl

theorem score_out (h : Fin 4) (i : Fin 256) (j : Fin 4352) (hj : j ∉ Set.range ctx) : (opsOf x0 x1 x2 x3 x4 x5).score h (ctx i) j = ⊥ := by
  rw [score_raw, Ops.msk, if_pos ⟨i.isLt, ge_of_out hj⟩, EReal.add_bot]

/-! ## The softmax and the gradient with respect to the scores -/

section
variable {x0 x1 x2 x3} (H : Finite x0 x1 x2 x3) (h : Fin 4)
include H

theorem P_lat (q : Fin 4096) (j : Fin 4352) : (opsOf x0 x1 x2 x3 x4 x5).P h (lat q) j = probQ (sL x0 x1 x2 x3 h q) j := by
  rw [probQ_eq (s := sL x0 x1 x2 x3 h q) (fun j => raw_real H h (lat q) j), Ops.P, score_lat]

theorem P_ctx (i k : Fin 256) : (opsOf x0 x1 x2 x3 x4 x5).P h (ctx i) (ctx k) = probQ (sC x0 x1 x2 x3 h i) k := by
  rw [probQ_eq (s := sC x0 x1 x2 x3 h i) (fun j => raw_real H h (ctx i) (ctx j)), Ops.P, prob_mask ctx_inj (score_ctx x0 x1 x2 x3 x4 x5 h i) (score_out x0 x1 x2 x3 x4 x5 h i)]

theorem G_lat (q : Fin 4096) (j : Fin 4352) : (opsOf x0 x1 x2 x3 x4 x5).G h (lat q) j * sc = dL x0 x1 x2 x3 x4 x5 h q j := by
  rw [dL, gradQ_eq (s := sL x0 x1 x2 x3 h q) _ (fun j => raw_real H h (lat q) j), Ops.G, score_lat]
  rfl

theorem G_ctx (i k : Fin 256) : (opsOf x0 x1 x2 x3 x4 x5).G h (ctx i) (ctx k) * sc = dC x0 x1 x2 x3 x4 x5 h i k := by
  rw [dC, gradQ_eq (s := sC x0 x1 x2 x3 h i) _ (fun j => raw_real H h (ctx i) (ctx j)), Ops.G, grad_mask ctx_inj (score_ctx x0 x1 x2 x3 x4 x5 h i) (score_out x0 x1 x2 x3 x4 x5 h i)]
  rfl
end

theorem P_out (h : Fin 4) (i : Fin 256) (j : Fin 4352) (hj : j ∉ Set.range ctx) : (opsOf x0 x1 x2 x3 x4 x5).P h (ctx i) j = 0 :=
  prob_out (score_out x0 x1 x2 x3 x4 x5 h i) hj
theorem G_out (h : Fin 4) (i : Fin 256) (j : Fin 4352) (hj : j ∉ Set.range ctx) : (opsOf x0 x1 x2 x3 x4 x5).G h (ctx i) j = 0 :=
  grad_out (score_out x0 x1 x2 x3 x4 x5 h i) _ hj

end AttGrad
-- ==== Proof.FwdRef.lean ====
/- The attention of the reference, read entry by entry: the softmax over all keys for the queries behind the context, over the
   context keys for the queries of the context, each against the values. -/
module

public import proofs.«01_k».proof.Proof.Gen.Reference14Ideal.Read
public import proofs.«01_k».proof.Proof.Equation

@[expose] public section

set_option maxRecDepth 16384

noncomputable section

namespace AttFwd

open Cert.Reference14Ideal Cert.Reference14Ideal.Gen Cert.Reference14Ideal.Read Idealize.ShloMosaic Idealize.ShloMosaic.TcCoe Idealize.SL.Sem
open Idealize.ShloMosaic.ValueIdx AttGrad Finset

variable (x0 : (⟨S1x4352x4x128, .f32⟩ : BufTy).Contents (Elt Ideal)) (x1 : (⟨S1x4352x4x64, .f32⟩ : BufTy).Contents (Elt Ideal))
  (x2 : (⟨S1x4352x4x128, .f32⟩ : BufTy).Contents (Elt Ideal)) (x3 : (⟨S1x4352x64, .f32⟩ : BufTy).Contents (Elt Ideal))
  (x4 : (⟨S1x4352x4x128, .f32⟩ : BufTy).Contents (Elt Ideal))

/-! ## The queries behind the context -/

theorem scoresL (h : Fin 4) (q : Fin 4096) (j : Fin 4352) : val_main_v7 (F := Ideal) x0 x1 x2 x3 (ix4 (0 : Fin 1) h q j) = sL x0 x1 x2 x3 h q j := by
  rw [val_main_v7_apply, val_main_v5_apply, val_main_v4_apply, val_main_v2_apply, val_main_v3_apply, val_main_v6_apply]
  refine congrArg₂ (· * ·) (congrArg₂ (· + ·) (sum_congr rfl fun k _ => ?_) (sum_congr rfl fun k _ => ?_)) rfl
  · exact congrArg₂ (· * ·) ((val_main_v0_apply _ _).trans (congrArg x0 (funext fun a => Fin.ext (by match a with | ⟨0, _⟩ => rfl | ⟨1, _⟩ => rfl | ⟨2, _⟩ => rfl | ⟨3, _⟩ => rfl)))) (congrArg x2 (funext fun a => Fin.ext (by match a with | ⟨0, _⟩ => rfl | ⟨1, _⟩ => rfl | ⟨2, _⟩ => rfl | ⟨3, _⟩ => rfl)))
  · exact congrArg₂ (· * ·) (congrArg x3 (funext fun a => Fin.ext (by match a with | ⟨0, _⟩ => rfl | ⟨1, _⟩ => rfl | ⟨2, _⟩ => rfl))) ((val_main_v1_apply _ _).trans (congrArg x1 (funext fun a => Fin.ext (by match a with | ⟨0, _⟩ => rfl | ⟨1, _⟩ => rfl | ⟨2, _⟩ => rfl | ⟨3, _⟩ => rfl))))

theorem maxL (h : Fin 4) (q : Fin 4096) : val_main_v8 (F := Ideal) x0 x1 x2 x3 (ix3 (0 : Fin 1) h q) = mx (sL x0 x1 x2 x3 h q) := by
  unfold val_main_v8 val_main_cst_0 mx
  rw [hostReduce_maximumf_eq_multiReduction _ _ _ _ (by decide : S1x4x4096x4352.Reduces [3] S1x4x4096) (by decide) (by decide)]
  refine (Ideal.multiReduction_maximumf_single _ _ _ _ _ _).trans ?_
  rw [Ideal.ofBits_def, bot_word]
  refine congrArg (Finset.fold max ⊥ · Finset.univ) (funext fun j : Fin 4352 => ?_)
  refine Eq.trans ?_ (scoresL x0 x1 x2 x3 h q j)
  exact congrArg (val_main_v7 (F := Ideal) x0 x1 x2 x3) (funext fun a => Fin.ext (by match a with | ⟨0, _⟩ => rfl | ⟨1, _⟩ => rfl | ⟨2, _⟩ => rfl | ⟨3, _⟩ => rfl))

theorem expL (h : Fin 4) (q : Fin 4096) (j : Fin 4352) : val_main_v14 (F := Ideal) x0 x1 x2 x3 (ix4 (0 : Fin 1) h q j) = ex (sL x0 x1 x2 x3 h q) j := by
  rw [val_main_v14_apply, val_main_v13_apply, val_main_v12_apply, val_main_v11_apply, val_main_v10_apply, val_main_v9_apply, scoresL]
  have e : val_main_v8 (F := Ideal) x0 x1 x2 x3 (idx_main_v11 (idx_main_v12 (ix4 (0 : Fin 1) h q j))) = mx (sL x0 x1 x2 x3 h q) :=
    (congrArg (val_main_v8 (F := Ideal) x0 x1 x2 x3) (funext fun a => Fin.ext (by match a with | ⟨0, _⟩ => rfl | ⟨1, _⟩ => rfl | ⟨2, _⟩ => rfl))).trans (maxL x0 x1 x2 x3 h q)
  rw [e]
  have b : val_main_cst_1 (F := Ideal) (idx_main_v9 (idx_main_v11 (idx_main_v12 (ix4 (0 : Fin 1) h q j)))) = (⊥ : EReal) := bot_word
  rw [b]
  show Ideal.exp (_ - max ⊥ _) = _
  rw [max_bot_left]; rfl

theorem sumL (h : Fin 4) (q : Fin 4096) : val_main_v15 (F := Ideal) x0 x1 x2 x3 (ix3 (0 : Fin 1) h q) = sm (sL x0 x1 x2 x3 h q) := by
  rw [val_main_v15_apply]
  have z : val_main_cst_2 (F := Ideal) (Shape.Idx.first h_S_) = (0 : EReal) := Ideal.ofBits_zero_f32
  rw [z, zero_add]
  exact sum_congr rfl fun k _ => (congrArg (val_main_v14 (F := Ideal) x0 x1 x2 x3) (funext fun a => Fin.ext (by match a with | ⟨0, _⟩ => rfl | ⟨1, _⟩ => rfl | ⟨2, _⟩ => rfl | ⟨3, _⟩ => rfl))).trans (expL x0 x1 x2 x3 h q k)

theorem denL (h : Fin 4) (q : Fin 4096) (u : Fin 1) : val_main_v16 (F := Ideal) x0 x1 x2 x3 (ix4 (0 : Fin 1) h q u) = sm (sL x0 x1 x2 x3 h q) := by
  rw [val_main_v16_apply]
  exact (congrArg (val_main_v15 (F := Ideal) x0 x1 x2 x3) (funext fun a => Fin.ext (by match a with | ⟨0, _⟩ => rfl | ⟨1, _⟩ => rfl | ⟨2, _⟩ => rfl))).trans (sumL x0 x1 x2 x3 h q)

theorem softL (h : Fin 4) (q : Fin 4096) (j : Fin 4352) : val_main_v18 (F := Ideal) x0 x1 x2 x3 (ix4 (0 : Fin 1) h q j) = probQ (sL x0 x1 x2 x3 h q) j := by
  rw [val_main_v18_apply, val_main_v17_apply, expL]
  exact congrArg (Ideal.div _) ((congrArg (val_main_v16 (F := Ideal) x0 x1 x2 x3) (funext fun a => Fin.ext (by match a with | ⟨0, _⟩ => rfl | ⟨1, _⟩ => rfl | ⟨2, _⟩ => rfl | ⟨3, _⟩ => rfl))).trans (denL x0 x1 x2 x3 h q 0))

theorem outL (q : Fin 4096) (h : Fin 4) (d : Fin 128) : val_main_v20 (F := Ideal) x0 x1 x2 x3 x4 (ix4 (0 : Fin 1) q h d)
    = ∑ j : Fin 4352, x4 (ix4 (0 : Fin 1) j h d) * probQ (sL x0 x1 x2 x3 h q) j := by
  rw [val_main_v20_apply, val_main_v19_apply]
  refine sum_congr rfl fun j _ => congrArg₂ (· * ·) (congrArg x4 (funext fun a => Fin.ext (by match a with | ⟨0, _⟩ => rfl | ⟨1, _⟩ => rfl | ⟨2, _⟩ => rfl | ⟨3, _⟩ => rfl))) ?_
  exact (congrArg (val_main_v18 (F := Ideal) x0 x1 x2 x3) (funext fun a => Fin.ext (by match a with | ⟨0, _⟩ => rfl | ⟨1, _⟩ => rfl | ⟨2, _⟩ => rfl | ⟨3, _⟩ => rfl))).trans (softL x0 x1 x2 x3 h q j)

/-! ## The queries of the context -/

theorem scoresC (h : Fin 4) (q : Fin 256) (j : Fin 256) : val_main_v31 (F := Ideal) x0 x1 x2 x3 (ix4 (0 : Fin 1) h q j) = sC x0 x1 x2 x3 h q j := by
  rw [val_main_v31_apply, val_main_v29_apply, val_main_v28_apply, val_main_v26_apply, val_main_v27_apply, val_main_v30_apply]
  refine congrArg₂ (· * ·) (congrArg₂ (· + ·) (sum_congr rfl fun k _ => ?_) (sum_congr rfl fun k _ => ?_)) rfl
  · exact congrArg₂ (· * ·) ((val_main_v21_apply _ _).trans (congrArg x0 (funext fun a => Fin.ext (by match a with | ⟨0, _⟩ => rfl | ⟨1, _⟩ => rfl | ⟨2, _⟩ => rfl | ⟨3, _⟩ => rfl)))) ((val_main_v23_apply _ _).trans (congrArg x2 (funext fun a => Fin.ext (by match a with | ⟨0, _⟩ => rfl | ⟨1, _⟩ => rfl | ⟨2, _⟩ => rfl | ⟨3, _⟩ => rfl))))
  · exact congrArg₂ (· * ·) ((val_main_v24_apply _ _).trans (congrArg x3 (funext fun a => Fin.ext (by match a with | ⟨0, _⟩ => rfl | ⟨1, _⟩ => rfl | ⟨2, _⟩ => rfl)))) ((val_main_v22_apply _ _).trans (congrArg x1 (funext fun a => Fin.ext (by match a with | ⟨0, _⟩ => rfl | ⟨1, _⟩ => rfl | ⟨2, _⟩ => rfl | ⟨3, _⟩ => rfl))))

theorem maxC (h : Fin 4) (q : Fin 256) : val_main_v32 (F := Ideal) x0 x1 x2 x3 (ix3 (0 : Fin 1) h q) = mx (sC x0 x1 x2 x3 h q) := by
  unfold val_main_v32 val_main_cst_4 mx
  rw [hostReduce_maximumf_eq_multiReduction _ _ _ _ (by decide : S1x4x256x256.Reduces [3] S1x4x256) (by decide) (by decide)]
  refine (Ideal.multiReduction_maximumf_single _ _ _ _ _ _).trans ?_
  rw [Ideal.ofBits_def, bot_word]
  refine congrArg (Finset.fold max ⊥ · Finset.univ) (funext fun j : Fin 256 => ?_)
  refine Eq.trans ?_ (scoresC x0 x1 x2 x3 h q j)
  exact congrArg (val_main_v31 (F := Ideal) x0 x1 x2 x3) (funext fun a => Fin.ext (by match a with | ⟨0, _⟩ => rfl | ⟨1, _⟩ => rfl | ⟨2, _⟩ => rfl | ⟨3, _⟩ => rfl))

theorem expC (h : Fin 4) (q : Fin 256) (j : Fin 256) : val_main_v38 (F := Ideal) x0 x1 x2 x3 (ix4 (0 : Fin 1) h q j) = ex (sC x0 x1 x2 x3 h q) j := by
  rw [val_main_v38_apply, val_main_v37_apply, val_main_v36_apply, val_main_v35_apply, val_main_v34_apply, val_main_v33_apply, scoresC]
  have e : val_main_v32 (F := Ideal) x0 x1 x2 x3 (idx_main_v35 (idx_main_v36 (ix4 (0 : Fin 1) h q j))) = mx (sC x0 x1 x2 x3 h q) :=
    (congrArg (val_main_v32 (F := Ideal) x0 x1 x2 x3) (funext fun a => Fin.ext (by match a with | ⟨0, _⟩ => rfl | ⟨1, _⟩ => rfl | ⟨2, _⟩ => rfl))).trans (maxC x0 x1 x2 x3 h q)
  rw [e]
  have b : val_main_cst_5 (F := Ideal) (idx_main_v33 (idx_main_v35 (idx_main_v36 (ix4 (0 : Fin 1) h q j)))) = (⊥ : EReal) := bot_word
  rw [b]
  show Ideal.exp (_ - max ⊥ _) = _
  rw [max_bot_left]; rfl

theorem sumC (h : Fin 4) (q : Fin 256) : val_main_v39 (F := Ideal) x0 x1 x2 x3 (ix3 (0 : Fin 1) h q) = sm (sC x0 x1 x2 x3 h q) := by
  rw [val_main_v39_apply]
  have z : val_main_cst_6 (F := Ideal) (Shape.Idx.first h_S_) = (0 : EReal) := Ideal.ofBits_zero_f32
  rw [z, zero_add]
  exact sum_congr rfl fun k _ => (congrArg (val_main_v38 (F := Ideal) x0 x1 x2 x3) (funext fun a => Fin.ext (by match a with | ⟨0, _⟩ => rfl | ⟨1, _⟩ => rfl | ⟨2, _⟩ => rfl | ⟨3, _⟩ => rfl))).trans (expC x0 x1 x2 x3 h q k)

theorem denC (h : Fin 4) (q : Fin 256) (u : Fin 1) : val_main_v40 (F := Ideal) x0 x1 x2 x3 (ix4 (0 : Fin 1) h q u) = sm (sC x0 x1 x2 x3 h q) := by
  rw [val_main_v40_apply]
  exact (congrArg (val_main_v39 (F := Ideal) x0 x1 x2 x3) (funext fun a => Fin.ext (by match a with | ⟨0, _⟩ => rfl | ⟨1, _⟩ => rfl | ⟨2, _⟩ => rfl))).trans (sumC x0 x1 x2 x3 h q)

theorem softC (h : Fin 4) (q : Fin 256) (j : Fin 256) : val_main_v42 (F := Ideal) x0 x1 x2 x3 (ix4 (0 : Fin 1) h q j) = probQ (sC x0 x1 x2 x3 h q) j := by
  rw [val_main_v42_apply, val_main_v41_apply, expC]
  exact congrArg (Ideal.div _) ((congrArg (val_main_v40 (F := Ideal) x0 x1 x2 x3) (funext fun a => Fin.ext (by match a with | ⟨0, _⟩ => rfl | ⟨1, _⟩ => rfl | ⟨2, _⟩ => rfl | ⟨3, _⟩ => rfl))).trans (denC x0 x1 x2 x3 h q 0))

theorem outC (q : Fin 256) (h : Fin 4) (d : Fin 128) : val_main_v44 (F := Ideal) x0 x1 x2 x3 x4 (ix4 (0 : Fin 1) q h d)
    = ∑ j : Fin 256, x4 (ix4 (0 : Fin 1) (ctx j) h d) * probQ (sC x0 x1 x2 x3 h q) j := by
  rw [val_main_v44_apply, val_main_v43_apply]
  refine sum_congr rfl fun j _ => congrArg₂ (· * ·) ((val_main_v25_apply _ _).trans (congrArg x4 (funext fun a => Fin.ext (by match a with | ⟨0, _⟩ => rfl | ⟨1, _⟩ => rfl | ⟨2, _⟩ => rfl | ⟨3, _⟩ => rfl)))) ?_
  exact (congrArg (val_main_v42 (F := Ideal) x0 x1 x2 x3) (funext fun a => Fin.ext (by match a with | ⟨0, _⟩ => rfl | ⟨1, _⟩ => rfl | ⟨2, _⟩ => rfl | ⟨3, _⟩ => rfl))).trans (softC x0 x1 x2 x3 h q j)

/-! ## Both together -/

theorem both_ctx (q : Fin 256) (h : Fin 4) (d : Fin 128) : val_main_v45 (F := Ideal) x0 x1 x2 x3 x4 (ix4 (0 : Fin 1) (ctx q) h d)
    = val_main_v44 (F := Ideal) x0 x1 x2 x3 x4 (ix4 (0 : Fin 1) q h d) := by
  unfold val_main_v45
  refine concatenate_apply_piece (t := S1x4352x4x128) (1 : Fin 4) [⟨S1x256x4x128, val_main_v44 (F := Ideal) x0 x1 x2 x3 x4⟩, ⟨S1x4096x4x128, val_main_v20 (F := Ideal) x0 x1 x2 x3 x4⟩] _ (ix4 (0 : Fin 1) (ctx q) h d) 0 (Nat.succ_pos _) S1x256x4x128 _ rfl rfl 0 rfl
    (ix4 (0 : Fin 1) q h d) (fun a => ?_) (Nat.zero_add _)
  match a with
  | ⟨0, _⟩ => exact fun _ => rfl
  | ⟨1, _⟩ => exact fun n => absurd rfl n
  | ⟨2, _⟩ => exact fun _ => rfl
  | ⟨3, _⟩ => exact fun _ => rfl

theorem both_lat (q : Fin 4096) (h : Fin 4) (d : Fin 128) : val_main_v45 (F := Ideal) x0 x1 x2 x3 x4 (ix4 (0 : Fin 1) (lat q) h d)
    = val_main_v20 (F := Ideal) x0 x1 x2 x3 x4 (ix4 (0 : Fin 1) q h d) := by
  unfold val_main_v45
  refine concatenate_apply_piece (t := S1x4352x4x128) (1 : Fin 4) [⟨S1x256x4x128, val_main_v44 (F := Ideal) x0 x1 x2 x3 x4⟩, ⟨S1x4096x4x128, val_main_v20 (F := Ideal) x0 x1 x2 x3 x4⟩] _ (ix4 (0 : Fin 1) (lat q) h d) 1 (Nat.succ_lt_succ (Nat.succ_pos _)) S1x4096x4x128 _ rfl rfl 256 rfl
    (ix4 (0 : Fin 1) q h d) (fun a => ?_) rfl
  match a with
  | ⟨0, _⟩ => exact fun _ => rfl
  | ⟨1, _⟩ => exact fun n => absurd rfl n
  | ⟨2, _⟩ => exact fun _ => rfl
  | ⟨3, _⟩ => exact fun _ => rfl

/-- The reference's result at an entry. -/
theorem flat (i : Fin 4352) (h : Fin 4) (d : Fin 128) : val_main_v47 (F := Ideal) x0 x1 x2 x3 x4 (ix2 i (col h d))
    = val_main_v45 (F := Ideal) x0 x1 x2 x3 x4 (ix4 (0 : Fin 1) i h d) := by
  rw [val_main_v47_apply]
  unfold val_main_v46
  exact heads_apply _ _ i h d

end AttFwd

end
-- ==== Proof.Precond.lean ====
/- The precondition read entry by entry: queries and keys are real numbers. -/
module

public import proofs.«01_k».proof.Defs
public import proofs.«01_k».proof.Proof.Equation

@[expose] public section

noncomputable section

namespace AttGrad

open Idealize.ShloMosaic Idealize.SL.Sem

/-- The side conditions of the precondition. -/
theorem preFacts : Cert.Pre_finite.Facts where
  bcast_S_S1x4352x4x128 := by decide
  bcast_S_S1x4352x4x64 := by decide
  bcast_S_S1x4352x64 := by decide

theorem top_word : Ideal.ofBits .f32 0x7F800000#32 = ⊤ := by simp [Ideal.ofBits, Ideal.ieee]

/-- An entry whose absolute value compares below plus infinity is a real number. -/
theorem real_of_lt {x y : EReal} (hy : y = ⊤) (h : Ideal.cmp .olt (max x (-x)) y = 1#1) : ∃ r : ℝ, x = (r : EReal) := by
  subst hy
  refine real_of_abs_lt (x := x) ?_
  by_contra hn
  simp [Ideal.cmp, hn] at h

variable (m : (ℓ : Loc Cert.KernelIdeal.nD Cert.KernelIdeal.τ Cert.KernelIdeal.sig) → Buf (Elt Ideal) ℓ)

theorem finite_of_pre (H : Cert.Pre_KernelIdeal_finite (hPre_finite := preFacts) m) (c : Dev Cert.KernelIdeal.nD) :
    Finite (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  obtain ⟨h0, h1, h2, h3⟩ := H c
  exact ⟨fun j => real_of_lt top_word (congrFun h0 j), fun j => real_of_lt top_word (congrFun h1 j),
    fun j => real_of_lt top_word (congrFun h2 j), fun j => real_of_lt top_word (congrFun h3 j)⟩

end AttGrad
-- ==== Proof.FwdResult.lean ====
/- The forward attention: the array the kernel leaves is the reference's where the queries and keys are real numbers. -/
module

public import proofs.«01_k».proof.Proof.FwdEntry
public import proofs.«01_k».proof.Proof.FwdRef
public import proofs.«01_k».proof.Proof.Precond

@[expose] public section

set_option maxRecDepth 16384

noncomputable section

namespace AttFwd

open Idealize.ShloMosaic Idealize.ShloMosaic.TcCoe Idealize.SL.Sem Idealize.ShloMosaic.ValueIdx AttGrad Finset
open Cert.Kernel14Ideal Cert.Kernel14Ideal.Gen

section
variable (x0 : (⟨S1x4352x4x128, .f32⟩ : BufTy).Contents (Elt Ideal)) (x1 : (⟨S1x4352x4x64, .f32⟩ : BufTy).Contents (Elt Ideal))
  (x2 : (⟨S1x4352x4x128, .f32⟩ : BufTy).Contents (Elt Ideal)) (x3 : (⟨S1x4352x64, .f32⟩ : BufTy).Contents (Elt Ideal))
  (x4 : (⟨S1x4352x4x128, .f32⟩ : BufTy).Contents (Elt Ideal))

/-- The kernel's sum over all keys is the reference's entry. -/
theorem sum_reference (H : Finite x0 x1 x2 x3) (i : Fin 4352) (h : Fin 4) (d : Fin 128) :
    ∑ j : Fin 4352, (opsOf x0 x1 x2 x3 x4 x4).P h i j * (opsOf x0 x1 x2 x3 x4 x4).v j h d
      = Cert.Reference14Ideal.Read.val_main_v47 (F := Ideal) x0 x1 x2 x3 x4 (ix2 i (col h d)) := by
  refine Eq.trans ?_ (flat x0 x1 x2 x3 x4 i h d).symm
  rcases ctx_or_lat i with ⟨k, rfl⟩ | ⟨q, rfl⟩
  · rw [both_ctx, outC]
    refine sum_ctx _ _ (fun j hj => ?_) fun j => ?_
    · rw [P_out x0 x1 x2 x3 x4 x4 h k j hj, zero_mul]
    · rw [P_ctx x4 x4 H h k j, mul_comm]
      rfl
  · rw [both_lat, outL]
    refine sum_congr rfl fun j _ => ?_
    rw [P_lat x4 x4 H h q j, mul_comm]
    rfl
end

/-- The side conditions of the precondition. -/
theorem preFacts : Cert.Pre_finite_forward.Facts where
  bcast_S_S1x4352x4x128 := by decide
  bcast_S_S1x4352x4x64 := by decide
  bcast_S_S1x4352x64 := by decide

variable (m : (ℓ : Loc nD τ sig) → Buf (Elt Ideal) ℓ) (c : Dev nD)

/-- The precondition makes the queries and keys real numbers. -/
theorem finite_of_pre (H : Cert.Pre_Kernel14Ideal_finite_forward (hPre_finite_forward := preFacts) m) :
    Finite (m ((c.tc : Thread nD τ).loc main_arg0)) (m ((c.tc : Thread nD τ).loc main_arg1))
      (m ((c.tc : Thread nD τ).loc main_arg2)) (m ((c.tc : Thread nD τ).loc main_arg3)) := by
  obtain ⟨h0, h1, h2, h3⟩ := H c
  exact ⟨fun j => real_of_lt top_word (congrFun h0 j), fun j => real_of_lt top_word (congrFun h1 j),
    fun j => real_of_lt top_word (congrFun h2 j), fun j => real_of_lt top_word (congrFun h3 j)⟩

/-- The array of the kernel is the reference's result. -/
theorem equation (H : Cert.Pre_Kernel14Ideal_finite_forward (hPre_finite_forward := preFacts) m) :
    (dats m 0 c).arrAt 5 cfg0.N = Cert.Reference14Ideal.Read.val_main_v47 (F := Ideal) (m ((c.tc : Thread nD τ).loc main_arg0))
      (m ((c.tc : Thread nD τ).loc main_arg1)) (m ((c.tc : Thread nD τ).loc main_arg2)) (m ((c.tc : Thread nD τ).loc main_arg3)) (m ((c.tc : Thread nD τ).loc main_arg4)) := by
  funext i
  have h1 : ((i : S4352x512.Idx) 1).val < 512 := ((i : S4352x512.Idx) 1).isLt
  have e : (i : S4352x512.Idx) = ix2 ((i : S4352x512.Idx) 0) (col ⟨((i : S4352x512.Idx) 1).val / 128, by omega⟩ ⟨((i : S4352x512.Idx) 1).val % 128, by omega⟩) := by
    funext a
    apply Fin.ext
    match a with
    | ⟨0, _⟩ => rfl
    | ⟨1, _⟩ => show ((i : S4352x512.Idx) 1).val = 128 * (((i : S4352x512.Idx) 1).val / 128) + ((i : S4352x512.Idx) 1).val % 128; omega
  rw [e]
  exact (result_apply m c _ _ _).trans (sum_reference _ _ _ _ _ (finite_of_pre m c H) _ _ _)

end AttFwd

end
-- ==== Proof.Sums.lean ====
/- A sum over the contracted axis taken tile by tile, and the slab layouts of the operands and results read at an entry. -/
module

public import proofs.«01_k».proof.Proof.Dots
public import Idealize.ShloMosaic.Lib.Pipeline.Value
public import Mathlib.Tactic.Ring
public import Mathlib.Algebra.BigOperators.Intervals

@[expose] public section

noncomputable section

namespace Products

open Idealize.ShloMosaic Idealize.ShloMosaic.ValueIdx

/-! ## Sums by tiles -/

/-- A function of the first `n` numbers on all of them, zero outside. -/
def extend {n : ℕ} (f : Fin n → EReal) (i : ℕ) : EReal := if h : i < n then f ⟨i, h⟩ else 0

theorem extend_of {n : ℕ} (f : Fin n → EReal) (i : ℕ) (h : i < n) : extend f i = f ⟨i, h⟩ := dif_pos h

/-- What tile number `s` of width `w` gives to the sum of `f`. -/
def tile {n : ℕ} (w : ℕ) (f : Fin n → EReal) (s : ℕ) : EReal := ∑ k : Fin w, extend f (w * s + k.val)

theorem tile_of {n w : ℕ} (f : Fin n → EReal) (s : ℕ) (h : ∀ k : Fin w, w * s + k.val < n) :
    tile w f s = ∑ k : Fin w, f ⟨w * s + k.val, h k⟩ :=
  Finset.sum_congr rfl fun k _ => extend_of f _ (h k)

/-- The tiles together make the whole sum. -/
theorem sum_tiles {n w : ℕ} (f : Fin n → EReal) (p : ℕ) (h : w * p = n) : ∑ s ∈ Finset.range p, tile w f s = ∑ k : Fin n, f k := by
  have step : ∀ q, ∑ s ∈ Finset.range q, tile w f s = ∑ i ∈ Finset.range (w * q), extend f i := by
    intro q
    induction q with
    | zero => simp
    | succ q ih =>
      rw [Finset.sum_range_succ, ih, Nat.mul_succ, Finset.sum_range_add, Finset.sum_range (fun x => extend f (w * q + x))]
      rfl
  rw [step, h, Finset.sum_range]
  exact Finset.sum_congr rfl fun i _ => extend_of f i.val i.isLt

/-- An accumulator that starts with the first tile and takes one more at each point ends with the whole sum. -/
theorem accumulated {n w p : ℕ} (f : Fin n → EReal) (acc : (s : ℕ) → s < p + 1 → EReal) (h : w * (p + 1) = n)
    (first : acc 0 (Nat.succ_pos p) = tile w f 0)
    (next : ∀ s (hs : s + 1 < p + 1), acc (s + 1) hs = acc s (Nat.lt_of_succ_lt hs) + tile w f (s + 1)) :
    acc p (Nat.lt_succ_self p) = ∑ k : Fin n, f k := by
  have all : ∀ s (hs : s < p + 1), acc s hs = ∑ j ∈ Finset.range (s + 1), tile w f j := by
    intro s
    induction s with
    | zero => intro _; rw [first]; simp
    | succ s ih => intro hs; rw [next s hs, ih, Finset.sum_range_succ (n := s + 1)]
  rw [all p (Nat.lt_succ_self p), sum_tiles f (p + 1) h]

/-! ## Layouts -/

section Layouts
variable {α : Type}

/-- A block with one leading axis of size one, without it. -/
theorem drop_one {a b : ℕ} (x : (⟨3, ![1, a, b]⟩ : Shape).Idx → α) (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_two, Shape.rowMajor_val_three]; show (0 * a + i.val) * b + j.val = i.val * b + j.val; ring)

/-- A block with two leading axes of size one, without them. -/
theorem drop_two {a b : ℕ} (x : (⟨4, ![1, 1, a, b]⟩ : Shape).Idx → α) (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_two, Shape.rowMajor_val_four]; show ((0 * 1 + 0) * a + i.val) * b + j.val = i.val * b + j.val; ring)

/-- A block under a leading axis of size one. -/
theorem add_one_axis {a b : ℕ} (x : (⟨2, ![a, b]⟩ : Shape).Idx → α) (h : (⟨2, ![a, b]⟩ : Shape).ShapeCasts ⟨3, ![1, a, b]⟩) (i : Fin a) (j : Fin b) :
    shapeCast ⟨3, ![1, a, b]⟩ x h (ix3 (0 : Fin 1) i j) = x (ix2 i j) :=
  shapeCast_apply x h _ _ (by
    rw [Shape.rowMajor_val_two, Shape.rowMajor_val_three]; show i.val * b + j.val = (0 * a + i.val) * b + j.val; ring)

/-- Number `k` of slab `e` of width `w`. -/
def inSlab {d w n : ℕ} (h : w * d = n) (e : Fin d) (k : Fin w) : Fin n :=
  ⟨w * e.val + k.val, by
    calc w * e.val + k.val < w * e.val + w := Nat.add_lt_add_left k.isLt _
      _ = w * (e.val + 1) := by ring
      _ ≤ w * d := Nat.mul_le_mul_left w e.isLt
      _ = n := h⟩

theorem slab_cases {d w n : ℕ} (h : w * d = n) (hw : 0 < w) (i : Fin n) : ∃ (e : Fin d) (k : Fin w), i = inSlab h e k := by
  have hi : i.val < w * d := by rw [h]; exact i.isLt
  refine ⟨⟨i.val / w, Nat.div_lt_of_lt_mul hi⟩, ⟨i.val % w, Nat.mod_lt _ hw⟩, Fin.ext ?_⟩
  exact (Nat.div_add_mod i.val w).symm

/-- Slabs of columns, the slab's number in front. -/
theorem column_slabs {a d w n : ℕ} (h : w * d = n) (x : (⟨2, ![a, n]⟩ : Shape).Idx → α) (h1 : (⟨2, ![a, n]⟩ : Shape).ShapeCasts ⟨3, ![a, d, w]⟩)
    (h2 : (⟨3, ![a, d, w]⟩ : Shape).Transposes [1, 0, 2] ⟨3, ![d, a, w]⟩) (e : Fin d) (i : Fin a) (k : Fin w) :
    transpose ⟨3, ![d, a, w]⟩ [1, 0, 2] (shapeCast ⟨3, ![a, d, w]⟩ x h1) h2 (ix3 e i k) = x (ix2 i (inSlab h e k)) := by
  rw [transpose_apply [1, 0, 2] _ h2 (ix3 e i k) (ix3 i e k) (fun b => match b with
    | ⟨0, _⟩ => rfl
    | ⟨1, _⟩ => rfl
    | ⟨2, _⟩ => rfl)]
  refine shapeCast_apply x h1 _ _ ?_
  rw [Shape.rowMajor_val_two, Shape.rowMajor_val_three]
  show i.val * n + (w * e.val + k.val) = (i.val * d + e.val) * w + k.val
  rw [← h]; ring

/-- The same under a further axis of size one. -/
theorem column_slabs_one {a d w : ℕ} (x : (⟨3, ![d, a, w]⟩ : Shape).Idx → α) (h : (⟨3, ![d, a, w]⟩ : Shape).BroadcastsInDim ⟨4, ![d, 1, a, w]⟩ ![0, 2, 3])
    (ha : a ≠ 1) (hd : d ≠ 1) (hw : w ≠ 1) (e : Fin d) (i : Fin a) (k : Fin w) :
    broadcastInDim ⟨4, ![d, 1, a, w]⟩ ![0, 2, 3] h x (ix4 e (0 : Fin 1) i k) = x (ix3 e i k) :=
  broadcastInDim_apply _ h x _ _ (fun b => match b with
    | ⟨0, _⟩ => (if_neg hd).symm
    | ⟨1, _⟩ => (if_neg ha).symm
    | ⟨2, _⟩ => (if_neg hw).symm)

/-- Slabs of rows under a further axis of size one, the slab's number in front. -/
theorem row_slabs_one {b d w n : ℕ} (h : w * d = n) (x : (⟨2, ![n, b]⟩ : Shape).Idx → α) (h1 : (⟨2, ![n, b]⟩ : Shape).ShapeCasts ⟨4, ![d, 1, w, b]⟩)
    (e : Fin d) (k : Fin w) (j : Fin b) : shapeCast ⟨4, ![d, 1, w, b]⟩ x h1 (ix4 e (0 : Fin 1) k j) = x (ix2 (inSlab h e k) j) := by
  refine shapeCast_apply x h1 _ _ ?_
  rw [Shape.rowMajor_val_two, Shape.rowMajor_val_four]
  show (w * e.val + k.val) * b + j.val = ((e.val * 1 + 0) * w + k.val) * b + j.val
  ring

/-- Slabs of rows put back under each other. -/
theorem row_slabs_back {b d w n : ℕ} (h : w * d = n) (x : (⟨4, ![d, 1, w, b]⟩ : Shape).Idx → α) (h1 : (⟨4, ![d, 1, w, b]⟩ : Shape).ShapeCasts ⟨2, ![n, b]⟩)
    (e : Fin d) (k : Fin w) (j : Fin b) : shapeCast ⟨2, ![n, b]⟩ x h1 (ix2 (inSlab h e k) j) = x (ix4 e (0 : Fin 1) k j) := by
  refine shapeCast_apply x h1 _ _ ?_
  rw [Shape.rowMajor_val_two, Shape.rowMajor_val_four]
  show ((e.val * 1 + 0) * w + k.val) * b + j.val = (w * e.val + k.val) * b + j.val
  ring

/-- Rows cut into slabs, the slab's number in front. -/
theorem row_slabs {b d w n : ℕ} (h : w * d = n) (x : (⟨2, ![n, b]⟩ : Shape).Idx → α) (h1 : (⟨2, ![n, b]⟩ : Shape).ShapeCasts ⟨3, ![d, w, b]⟩)
    (e : Fin d) (k : Fin w) (j : Fin b) : shapeCast ⟨3, ![d, w, b]⟩ x h1 (ix3 e k j) = x (ix2 (inSlab h e k) j) := by
  refine shapeCast_apply x h1 _ _ ?_
  rw [Shape.rowMajor_val_two, Shape.rowMajor_val_three]
  show (w * e.val + k.val) * b + j.val = (e.val * w + k.val) * b + j.val
  ring

/-- A block of slabs of rows, each under a further axis of size one, put back under each other. -/
theorem stacked_slabs {b d w n : ℕ} (h : w * d = n) (x : (⟨4, ![d, 1, w, b]⟩ : Shape).Idx → α) (h1 : (⟨4, ![d, 1, w, b]⟩ : Shape).ShapeCasts ⟨3, ![d, w, b]⟩)
    (h2 : (⟨3, ![d, w, b]⟩ : Shape).ShapeCasts ⟨2, ![n, b]⟩) (e : Fin d) (k : Fin w) (j : Fin b) :
    shapeCast ⟨2, ![n, b]⟩ (shapeCast ⟨3, ![d, w, b]⟩ x h1) h2 (ix2 (inSlab h e k) j) = x (ix4 e (0 : Fin 1) k j) := by
  refine (shapeCast_apply _ h2 (ix2 (inSlab h e k) j) (ix3 e k j) ?_).trans (shapeCast_apply x h1 (ix3 e k j) (ix4 e (0 : Fin 1) k j) ?_)
  · rw [Shape.rowMajor_val_two, Shape.rowMajor_val_three]
    show (e.val * w + k.val) * b + j.val = (w * e.val + k.val) * b + j.val
    ring
  · rw [Shape.rowMajor_val_three, Shape.rowMajor_val_four]
    show ((e.val * 1 + 0) * w + k.val) * b + j.val = (e.val * w + k.val) * b + j.val
    ring

end Layouts

/-- Every index is made of its coordinates. -/
theorem cases2 {a b : ℕ} (z : (⟨2, ![a, b]⟩ : Shape).Idx) : ∃ (x : Fin a) (y : Fin b), z = ix2 x y :=
  ⟨z 0, z 1, funext fun t => match t with | ⟨0, _⟩ => rfl | ⟨1, _⟩ => rfl⟩
theorem cases3 {a b d : ℕ} (z : (⟨3, ![a, b, d]⟩ : Shape).Idx) : ∃ (e : Fin a) (x : Fin b) (y : Fin d), z = ix3 e x y :=
  ⟨z 0, z 1, z 2, funext fun t => match t with | ⟨0, _⟩ => rfl | ⟨1, _⟩ => rfl | ⟨2, _⟩ => rfl⟩

theorem starts2 : (![0, 0] : Fin 2 → Nat) = fun _ => 0 := funext fun a => by fin_cases a <;> rfl
theorem starts3 : (![0, 0, 0] : Fin 3 → Nat) = fun _ => 0 := funext fun a => by fin_cases a <;> rfl
theorem starts4 : (![0, 0, 0, 0] : Fin 4 → Nat) = fun _ => 0 := funext fun a => by fin_cases a <;> rfl

end Products

end
-- ==== Proof.Gate15.lean ====
/- The gate's backward pass: entry by entry, the kernel's derivative of the gated product is the reference's. -/
module

public import proofs.«01_k».proof.Proof.Sums
public import proofs.«01_k».proof.Proof.Gen.Kernel15Ideal.Value
public import proofs.«01_k».proof.Proof.Gen.Reference15Ideal.Read
public import Idealize.ShloMosaic.Lib.StableHlo.Run
public import Idealize.ShloMosaic.Lib.KernelVsHost
public import Idealize.ShloMosaic.Lib.IdealHost

@[expose] public section

set_option maxRecDepth 16384

noncomputable section

namespace Gate

open Idealize.ShloMosaic Idealize.ShloMosaic.ValueIdx AttGrad

/-! ## The logistic function and its derivative -/

/-- The logistic function, and its derivative as the product with its complement. -/
def sigma (a : EReal) : EReal := Ideal.div 1 (1 + Ideal.exp (-a))
def slope (a : EReal) : EReal := sigma a * (1 - sigma a)

theorem one_add_top : (1 : EReal) + ⊤ = ⊤ := EReal.add_top_of_ne_bot (show (1 : EReal) ≠ ⊥ from EReal.coe_ne_bot 1)
theorem div_one_top : Ideal.div 1 ⊤ = 0 := by simp [Ideal.div]
theorem div_one_one : Ideal.div 1 1 = 1 := by
  rw [Ideal.div, if_neg one_ne_zero, one_mul, ← EReal.coe_one, ← EReal.coe_inv, inv_one]

/-- The derivative as the exponential over the square of the denominator, at the infinities too. -/
theorem slope_eq (a : EReal) : Ideal.div 1 ((1 + Ideal.exp (-a)) * (1 + Ideal.exp (-a))) * Ideal.exp (-a) = slope a := by
  unfold slope sigma
  induction a using EReal.rec with
  | bot =>
    rw [EReal.neg_bot, Ideal.exp_top, one_add_top, EReal.top_mul_top, div_one_top, zero_mul, zero_mul]
  | top =>
    rw [EReal.neg_top, Ideal.exp_bot, add_zero, one_mul, mul_zero, div_one_one, ← EReal.coe_one, ← EReal.coe_sub, ← EReal.coe_mul]
    norm_num
  | coe r =>
    have hp : (0 : ℝ) < Real.exp (-r) := Real.exp_pos _
    have hd : (1 + Real.exp (-r) : ℝ) ≠ 0 := by positivity
    have h : (1 : EReal) + Ideal.exp (-(r : EReal)) = ((1 + Real.exp (-r) : ℝ) : EReal) := by
      rw [← EReal.coe_neg, Ideal.exp_coe, ← EReal.coe_one, ← EReal.coe_add]
    rw [h, ← EReal.coe_mul, Ideal.div_coe hd, Ideal.div_coe (mul_ne_zero hd hd), one_mul, one_mul, ← EReal.coe_neg, Ideal.exp_coe, ← EReal.coe_one, ← EReal.coe_sub, ← EReal.coe_mul, ← EReal.coe_mul]
    congr 1
    field_simp
    ring

/-- The gradient of the gated value with respect to the gate's argument, as the kernel adds it up. -/
theorem gate_grad (a b g : EReal) :
    g * b * Ideal.div 1 (1 + Ideal.exp (0 - a)) + (0 - (0 - (a * (g * b)) * Ideal.div 1 ((1 + Ideal.exp (0 - a)) * (1 + Ideal.exp (0 - a))) * 1) * Ideal.exp (0 - a))
      = g * b * sigma a + a * (g * b) * slope a := by
  rw [zero_sub a, zero_sub, zero_sub, mul_one, EReal.neg_mul, neg_neg, mul_assoc (a * (g * b)), slope_eq]
  rfl

/-! ## The slabs -/

/-- A row of slab `e`. -/
abbrev row (e : Fin 8) (i : Fin 4352) : Fin 34816 := Products.inSlab (w := 4352) (d := 8) (n := 34816) rfl e i
/-- A column of slab `e`. -/
abbrev col (e : Fin 8) (k : Fin 704) : Fin 5632 := Products.inSlab (w := 704) (d := 8) (n := 5632) rfl e k

/-- Slabs of columns put under each other. -/
theorem slabs_apply {α : Type} (x : (⟨2, ![4352, 5632]⟩ : Shape).Idx → α) (h1 : (⟨2, ![4352, 5632]⟩ : Shape).ShapeCasts ⟨3, ![4352, 8, 704]⟩)
    (h2 : (⟨3, ![4352, 8, 704]⟩ : Shape).Transposes [1, 0, 2] ⟨3, ![8, 4352, 704]⟩) (h3 : (⟨3, ![8, 4352, 704]⟩ : Shape).ShapeCasts ⟨2, ![34816, 704]⟩)
    (e : Fin 8) (i : Fin 4352) (k : Fin 704) :
    shapeCast ⟨2, ![34816, 704]⟩ (transpose ⟨3, ![8, 4352, 704]⟩ [1, 0, 2] (shapeCast ⟨3, ![4352, 8, 704]⟩ x h1) h2) h3 (ix2 (row e i) k) = x (ix2 i (col e k)) := by
  refine (shapeCast_apply _ h3 _ (ix3 e i k) ?_).trans (Products.column_slabs (w := 704) (d := 8) rfl x h1 h2 e i k)
  rw [Shape.rowMajor_val_two, Shape.rowMajor_val_three]
  show (e.val * 4352 + i.val) * 704 + k.val = (4352 * e.val + i.val) * 704 + k.val
  ring

/-! ## The reference -/

section Ref
open Cert.Reference15Ideal Cert.Reference15Ideal.Read
variable (a b g : Vec Ideal S4352x5632 .f32)

theorem sigma_apply (j : S4352x5632.Idx) : val_main_v0_2 (F := Ideal) a j = sigma (a j) := by
  rw [val_main_v0_2_apply, val_main_call0_v4_apply, val_main_call0_cst_0_apply, val_main_call0_v3_apply, val_main_call0_v2_apply, val_main_call0_cst_apply, val_main_call0_v1_apply, val_main_call0_v0_apply]
  show Ideal.div (Ideal.ofBits .f32 0x3F800000#32) (Ideal.ofBits .f32 0x3F800000#32 + Ideal.exp (-(a j))) = sigma (a j)
  rw [Ideal.ofBits_one_f32]
  rfl

theorem slope_apply (j : S4352x5632.Idx) : val_main_v0_1 (F := Ideal) a j = slope (a j) := by
  rw [val_main_v0_1_apply, val_main_call0_v7_apply, val_main_call0_v6_apply, val_main_call0_cst_1_apply, sigma_apply]
  show sigma (a j) * (Ideal.ofBits .f32 0x3F800000#32 - sigma (a j)) = slope (a j)
  rw [Ideal.ofBits_one_f32]
  rfl

/-- The reference's two gradients, at an entry of a slab. -/
theorem reference_gate (e : Fin 8) (i : Fin 4352) (k : Fin 704) : val_main_v8 (F := Ideal) a b g (ix2 (row e i) k)
    = g (ix2 i (col e k)) * b (ix2 i (col e k)) * sigma (a (ix2 i (col e k))) + a (ix2 i (col e k)) * (g (ix2 i (col e k)) * b (ix2 i (col e k))) * slope (a (ix2 i (col e k))) := by
  unfold val_main_v8 val_main_v7 val_main_v6
  refine (slabs_apply _ _ _ _ e i k).trans ?_
  rw [val_main_v5_apply, val_main_v4_apply, val_main_call1_v1_apply, val_main_call1_v2_apply, val_main_call1_v0_apply, val_main_v3_apply, sigma_apply, slope_apply]
  rfl

theorem reference_value (e : Fin 8) (i : Fin 4352) (k : Fin 704) : val_main_v12 (F := Ideal) a g (ix2 (row e i) k)
    = a (ix2 i (col e k)) * sigma (a (ix2 i (col e k))) * g (ix2 i (col e k)) := by
  unfold val_main_v12 val_main_v11 val_main_v10
  refine (slabs_apply _ _ _ _ e i k).trans ?_
  rw [val_main_v9_apply, val_main_v2_apply, val_main_v0_0_apply, sigma_apply]
  rfl

end Ref

/-! ## The kernel -/

section Kernel
open Cert.Kernel15Ideal Cert.Kernel15Ideal.Gen Idealize.ShloMosaic.TcCoe Idealize.SL.Sem

theorem starts : (![0, 0] : Fin 2 → ℕ) = fun _ => 0 := by funext a; match a with
  | ⟨0, _⟩ => rfl
  | ⟨1, _⟩ => rfl

/-- The body's two blocks at an entry. -/
theorem block_gate (x0 x1 x2 : Vec Ideal S544x704 .bf16) (r : Fin 544) (k : Fin 704) : out0_3 x0 x1 x2 (ix2 r k)
    = x2 (ix2 r k) * x1 (ix2 r k) * sigma (x0 (ix2 r k)) + x0 (ix2 r k) * (x2 (ix2 r k) * x1 (ix2 r k)) * slope (x0 (ix2 r k)) := by
  unfold out0_3
  rw [View.canon_unit_zero starts, View.ld_unit_zero (S := S544x704) starts, View.ld_unit_zero (S := S544x704) starts, View.ld_unit_zero (S := S544x704) starts, Value.lay3_0_eq x2 x1 x0,
    shapeCast_self x0, shapeCast_self x1, shapeCast_self x2]
  refine Eq.trans ?_ (gate_grad _ _ _)
  rw [← Ideal.ofBits_one_f32, ← Ideal.ofBits_zero_f32]
  rfl

theorem block_value (x0 x1 x2 : Vec Ideal S544x704 .bf16) (r : Fin 544) (k : Fin 704) : out0_4 x0 x1 x2 (ix2 r k)
    = x0 (ix2 r k) * sigma (x0 (ix2 r k)) * x2 (ix2 r k) := by
  unfold out0_4
  rw [View.canon_unit_zero starts, View.ld_unit_zero (S := S544x704) starts, View.ld_unit_zero (S := S544x704) starts, Value.lay4_0_eq x0 x2, shapeCast_self x0, shapeCast_self x2]
  unfold sigma
  rw [← zero_sub (x0 (ix2 r k)), ← Ideal.ofBits_one_f32, ← Ideal.ofBits_zero_f32]
  rfl

/-! ## The blocks of a grid point -/

variable (m : (ℓ : Loc nD τ sig) → Buf (Elt Ideal) ℓ) (c : Dev nD)

/-- The gate's argument, the gated value and the cotangent. -/
abbrev gate : Vec Ideal S4352x5632 .f32 := m ((c : Thread nD τ).loc main_arg0)
abbrev gated : Vec Ideal S4352x5632 .f32 := m ((c : Thread nD τ).loc main_arg1)
abbrev ct : Vec Ideal S4352x5632 .f32 := m ((c : Thread nD τ).loc main_arg2)

/-- The three arrays as the launch finds them: the arguments in slabs. -/
theorem gate_array (e : Fin 8) (i : Fin 4352) (k : Fin 704) : V m c main_v3 (ix2 (row e i) k) = gate m c (ix2 i (col e k)) := by
  refine Eq.trans ?_ (slabs_apply (truncf (F := Ideal) (φ := .f32) .bf16 (gate m c) bitsLt_bf16_f32) shapeCasts_S4352x5632_S4352x8x704 transposes_S4352x8x704_S8x4352x704_1_0_2 shapeCasts_S8x4352x704_S34816x704 e i k)
  unfold V
  simp only [hostOps0, List.flatten_cons, List.flatten_nil, List.append_nil, List.cons_append, List.nil_append]
  after_results_simp
  rfl
theorem gated_array (e : Fin 8) (i : Fin 4352) (k : Fin 704) : V m c main_v7 (ix2 (row e i) k) = gated m c (ix2 i (col e k)) := by
  refine Eq.trans ?_ (slabs_apply (truncf (F := Ideal) (φ := .f32) .bf16 (gated m c) bitsLt_bf16_f32) shapeCasts_S4352x5632_S4352x8x704 transposes_S4352x8x704_S8x4352x704_1_0_2 shapeCasts_S8x4352x704_S34816x704 e i k)
  unfold V
  simp only [hostOps0, List.flatten_cons, List.flatten_nil, List.append_nil, List.cons_append, List.nil_append]
  after_results_simp
  rfl
theorem ct_array (e : Fin 8) (i : Fin 4352) (k : Fin 704) : V m c main_v11 (ix2 (row e i) k) = ct m c (ix2 i (col e k)) := by
  refine Eq.trans ?_ (slabs_apply (truncf (F := Ideal) (φ := .f32) .bf16 (ct m c) bitsLt_bf16_f32) shapeCasts_S4352x5632_S4352x8x704 transposes_S4352x8x704_S8x4352x704_1_0_2 shapeCasts_S8x4352x704_S34816x704 e i k)
  unfold V
  simp only [hostOps0, List.flatten_cons, List.flatten_nil, List.append_nil, List.cons_append, List.nil_append]
  after_results_simp
  rfl

/-- Tile `n` of slab `e`, and its rows. -/
def pt (e n : Fin 8) : Fin cfg0.N := ⟨8 * e.val + n.val, by show 8 * e.val + n.val < 64; omega⟩
abbrev tileRow (n : Fin 8) (r : Fin 544) : Fin 4352 := Products.inSlab (w := 544) (d := 8) (n := 4352) rfl n r

theorem index_at : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0])

variable (e n : Fin 8) (r : Fin 544) (k : Fin 704)

/-- Where a window's entry lies in its array. -/
theorem place (x : Fin 2) (f : Fin 2 → ℕ) (hf : f = ![(pt e n).val, 0]) :
    (match x with | ⟨0, _⟩ => f 0 * 544 + 1 * r.val | ⟨1, _⟩ => f 1 * 704 + 1 * k.val : ℕ) = ((ix2 (row e (tileRow n r)) k : S34816x704.Idx) x).val := by
  subst hf
  match x with
  | ⟨0, _⟩ => show (8 * e.val + n.val) * 544 + 1 * r.val = 4352 * e.val + (544 * n.val + r.val); ring
  | ⟨1, _⟩ => show 0 * 704 + 1 * k.val = k.val; ring

theorem gate_block : (iblk m c 0 (pt e n) : Vec Ideal S544x704 .bf16) (ix2 r k) = gate m c (ix2 (tileRow n r) (col e k)) := by
  unfold iblk
  rw [View.read_apply]
  refine Eq.trans ?_ (gate_array m c e (tileRow n r) k)
  show V m c main_v3 _ = V m c main_v3 _
  congr 1
  funext x
  apply Fin.ext
  refine Eq.trans ?_ (place e n r k x _ (index_at (pt e n)).1)
  match x with
  | ⟨0, _⟩ => rfl
  | ⟨1, _⟩ => rfl

theorem gated_block : (iblk m c 1 (pt e n) : Vec Ideal S544x704 .bf16) (ix2 r k) = gated m c (ix2 (tileRow n r) (col e k)) := by
  unfold iblk
  rw [View.read_apply]
  refine Eq.trans ?_ (gated_array m c e (tileRow n r) k)
  show V m c main_v7 _ = V m c main_v7 _
  congr 1
  funext x
  apply Fin.ext
  refine Eq.trans ?_ (place e n r k x _ (index_at (pt e n)).2.1)
  match x with
  | ⟨0, _⟩ => rfl
  | ⟨1, _⟩ => rfl

theorem ct_block : (iblk m c 2 (pt e n) : Vec Ideal S544x704 .bf16) (ix2 r k) = ct m c (ix2 (tileRow n r) (col e k)) := by
  unfold iblk
  rw [View.read_apply]
  refine Eq.trans ?_ (ct_array m c e (tileRow n r) k)
  show V m c main_v11 _ = V m c main_v11 _
  congr 1
  funext x
  apply Fin.ext
  refine Eq.trans ?_ (place e n r k x _ (index_at (pt e n)).2.2.1)
  match x with
  | ⟨0, _⟩ => rfl
  | ⟨1, _⟩ => rfl

theorem emb3 : ((cfg0.win 3).blk (pt e n)).view.emb (ix2 r k : S544x704.Idx) = (ix2 (row e (tileRow n r)) k : S34816x704.Idx) := by
  funext x
  apply Fin.ext
  refine Eq.trans ?_ (place e n r k x _ (index_at (pt e n)).2.2.2.1)
  match x with
  | ⟨0, _⟩ => rfl
  | ⟨1, _⟩ => rfl

theorem emb4 : ((cfg0.win 4).blk (pt e n)).view.emb (ix2 r k : S544x704.Idx) = (ix2 (row e (tileRow n r)) k : S34816x704.Idx) := by
  funext x
  apply Fin.ext
  refine Eq.trans ?_ (place e n r k x _ (index_at (pt e n)).2.2.2.2)
  match x with
  | ⟨0, _⟩ => rfl
  | ⟨1, _⟩ => rfl

/-! ## The results -/

/-- The gradient with respect to the gate's argument. -/
theorem equation_gate : ((dats m 0 c).arrAt 3 cfg0.N : Vec Ideal S34816x704 .bf16)
    = Cert.Reference15Ideal.Read.val_main_v8 (F := Ideal) (gate m c) (gated m c) (ct m c) := by
  funext z
  obtain ⟨x, k, rfl⟩ := Products.cases2 z
  obtain ⟨e, i, rfl⟩ := Products.slab_cases (w := 4352) (d := 8) (n := 34816) rfl (by decide) x
  obtain ⟨n, r, rfl⟩ := Products.slab_cases (w := 544) (d := 8) (n := 4352) rfl (by decide) i
  refine Eq.trans ?_ (reference_gate (gate m c) (gated m c) (ct m c) e (tileRow n r) k).symm
  have h := congrFun (Value.blocks3 m c (pt e n) (flush0_3 _)) (ix2 r k)
  rw [View.read_apply, Value.flushed3, emb3 e n r k] at h
  refine h.trans ((block_gate _ _ _ r k).trans ?_)
  rw [gate_block, gated_block, ct_block]

/-- The gradient with respect to the gated value. -/
theorem equation_value : ((dats m 0 c).arrAt 4 cfg0.N : Vec Ideal S34816x704 .bf16)
    = Cert.Reference15Ideal.Read.val_main_v12 (F := Ideal) (gate m c) (ct m c) := by
  funext z
  obtain ⟨x, k, rfl⟩ := Products.cases2 z
  obtain ⟨e, i, rfl⟩ := Products.slab_cases (w := 4352) (d := 8) (n := 34816) rfl (by decide) x
  obtain ⟨n, r, rfl⟩ := Products.slab_cases (w := 544) (d := 8) (n := 4352) rfl (by decide) i
  refine Eq.trans ?_ (reference_value (gate m c) (ct m c) e (tileRow n r) k).symm
  have h := congrFun (Value.blocks4 m c (pt e n) (flush0_4 _)) (ix2 r k)
  rw [View.read_apply, Value.flushed4, emb4 e n r k] at h
  refine h.trans ((block_value _ _ _ r k).trans ?_)
  rw [gate_block, ct_block]

end Kernel

end Gate

end
-- ==== Proof.ConvWindow.lean ====
/- The depthwise convolution: the entry a tap reads, and the window of a tile of rows with its neighbours' edges. -/
module

public import proofs.«01_k».proof.Proof.Sums
public import Idealize.ShloMosaic.Lib.KernelVsHost
public import Idealize.ShloMosaic.Lib.ValueLayout
public import Idealize.ShloMosaic.Lib.Pipeline.ValueKit.Tiles

@[expose] public section

set_option maxRecDepth 16384

noncomputable section

namespace Conv

open Idealize.ShloMosaic Idealize.ShloMosaic.ValueIdx AttGrad

/-! ## The entry a tap reads -/

/-- The entry `k − 15` rows after row `m`, zero outside the array and in the other group of rows. -/
def reach (f : Fin 4352 → EReal) (m k : ℕ) : EReal :=
  if h : 15 ≤ m + k ∧ m + k < 4367 ∧ (m + k < 271 ↔ m < 256) then f ⟨m + k - 15, by omega⟩ else 0

theorem reach_in (f : Fin 4352 → EReal) (m k : ℕ) (l : Fin 4352) (h : l.val + 15 = m + k) (g : l.val < 256 ↔ m < 256) :
    reach f m k = f l := by
  have := l.isLt
  unfold reach
  rw [dif_pos (by omega)]
  congr 1
  apply Fin.ext
  show m + k - 15 = l.val
  omega

theorem reach_out (f : Fin 4352 → EReal) (m k : ℕ) (h : ¬(15 ≤ m + k ∧ m + k < 4367 ∧ (m + k < 271 ↔ m < 256))) : reach f m k = 0 := dif_neg h

theorem reach_mul (f : Fin 4352 → EReal) (w : EReal) (m k : ℕ) : reach (fun l => f l * w) m k = reach f m k * w := by
  unfold reach
  split
  · rfl
  · rw [zero_mul]

/-- Row `l` reads row `m` through tap `k`. -/
def Reads (l k m : ℕ) : Prop := l + k = m + 15 ∧ (l < 256 ↔ m < 256)

instance (l k m : ℕ) : Decidable (Reads l k m) := by unfold Reads; infer_instance

/-- The sum over the rows read. -/
theorem sum_read (f : Fin 4352 → EReal) (l k : ℕ) :
    ∑ m : Fin 4352, (if Reads l k m.val then (1 : EReal) else 0) * f m = reach f l k := by
  by_cases h : 15 ≤ l + k ∧ l + k < 4367 ∧ (l + k < 271 ↔ l < 256)
  · have hlt : l + k - 15 < 4352 := by omega
    rw [Finset.sum_eq_single (⟨l + k - 15, hlt⟩ : Fin 4352), if_pos, one_mul, reach_in f l k ⟨l + k - 15, hlt⟩]
    · show l + k - 15 + 15 = l + k; omega
    · show l + k - 15 < 256 ↔ l < 256; omega
    · refine ⟨?_, ?_⟩
      · show l + k = l + k - 15 + 15; omega
      · show l < 256 ↔ l + k - 15 < 256; omega
    · intro m _ hm
      rw [if_neg, zero_mul]
      rintro ⟨e, _⟩
      exact hm (Fin.ext (by show m.val = l + k - 15; omega))
    · intro hm; exact absurd (Finset.mem_univ _) hm
  · rw [reach_out f l k h]
    refine Finset.sum_eq_zero fun m _ => ?_
    rw [if_neg, zero_mul]
    rintro ⟨e, g⟩
    have := m.isLt
    exact h (by omega)

/-- The sum over the rows that read: the taps the other way round. -/
theorem sum_readers (f : Fin 4352 → EReal) (m k : ℕ) (hk : k < 31) :
    ∑ l : Fin 4352, f l * (if Reads l.val k m then (1 : EReal) else 0) = reach f m (30 - k) := by
  rw [← sum_read f m (30 - k)]
  refine Finset.sum_congr rfl fun l _ => ?_
  rw [mul_comm]
  congr 1
  refine if_congr ?_ rfl rfl
  unfold Reads
  omega

/-! ## The window of a tile -/

/-- The rows of a neighbour at one edge of tile `n`, zero where the tile is the first or is number `z`. -/
def edge (z : BitVec 32) (n : ℕ) (v : Vec Ideal ⟨2, ![16, 128]⟩ .f32) : Vec Ideal ⟨2, ![16, 128]⟩ .f32 :=
  Scalar.select (Scalar.andi (Scalar.cmpi .ne (BitVec.ofNat 32 n) 0#32) (Scalar.cmpi .ne (BitVec.ofNat 32 n) z)) v
    (broadcast ⟨2, ![16, 128]⟩ (Scalar.ofBits (F := Ideal) .f32 0x00000000#32))

theorem edge_in (z n : ℕ) (v : Vec Ideal ⟨2, ![16, 128]⟩ .f32) (j : (⟨2, ![16, 128]⟩ : Shape).Idx) (hn : n < 17) (hz : z < 17) (h : n ≠ 0 ∧ n ≠ z) :
    edge (BitVec.ofNat 32 z) n v j = v j := by
  have e : Scalar.andi (Scalar.cmpi .ne (BitVec.ofNat 32 n) 0#32) (Scalar.cmpi .ne (BitVec.ofNat 32 n) (BitVec.ofNat 32 z)) = 1#1 :=
    (by decide : ∀ a b : Fin 17, a.val ≠ 0 ∧ a.val ≠ b.val → Scalar.andi (Scalar.cmpi .ne (BitVec.ofNat 32 a.val) 0#32) (Scalar.cmpi .ne (BitVec.ofNat 32 a.val) (BitVec.ofNat 32 b.val)) = 1#1)
      ⟨n, hn⟩ ⟨z, hz⟩ h
  unfold edge
  rw [e]
  rfl

theorem edge_out (z n : ℕ) (v : Vec Ideal ⟨2, ![16, 128]⟩ .f32) (j : (⟨2, ![16, 128]⟩ : Shape).Idx) (hn : n < 17) (hz : z < 17) (h : n = 0 ∨ n = z) :
    edge (BitVec.ofNat 32 z) n v j = 0 := by
  have e : Scalar.andi (Scalar.cmpi .ne (BitVec.ofNat 32 n) 0#32) (Scalar.cmpi .ne (BitVec.ofNat 32 n) (BitVec.ofNat 32 z)) = 0#1 :=
    (by decide : ∀ a b : Fin 17, a.val = 0 ∨ a.val = b.val → Scalar.andi (Scalar.cmpi .ne (BitVec.ofNat 32 a.val) 0#32) (Scalar.cmpi .ne (BitVec.ofNat 32 a.val) (BitVec.ofNat 32 b.val)) = 0#1)
      ⟨n, hn⟩ ⟨z, hz⟩ h
  unfold edge
  rw [e]
  exact Ideal.ofBits_zero_f32

theorem pieces : Shape.Concatenates ([⟨2, ![16, 128]⟩, ⟨2, ![256, 128]⟩, ⟨2, ![16, 128]⟩] : List Shape) ⟨2, ![288, 128]⟩ 0 := by decide

/-- The tile between the edges of its neighbours. -/
def window (n : ℕ) (before : Vec Ideal ⟨2, ![16, 128]⟩ .f32) (after : Vec Ideal ⟨2, ![16, 128]⟩ .f32) (here : Vec Ideal ⟨2, ![256, 128]⟩ .f32) :
    Vec Ideal ⟨2, ![288, 128]⟩ .f32 :=
  concatenate ⟨2, ![288, 128]⟩ 0 [⟨⟨2, ![16, 128]⟩, edge 1#32 n before⟩, ⟨⟨2, ![256, 128]⟩, here⟩, ⟨⟨2, ![16, 128]⟩, edge 16#32 n after⟩] pieces

section Window
variable (n : ℕ) (before after : Vec Ideal ⟨2, ![16, 128]⟩ .f32) (here : Vec Ideal ⟨2, ![256, 128]⟩ .f32) (c : Fin 128)

theorem window_before (q : Fin 288) (a : Fin 16) (h : q.val = a.val) : window n before after here (ix2 q c) = edge 1#32 n before (ix2 a c) := by
  unfold window
  exact concatenate_apply_piece (t := ⟨2, ![288, 128]⟩) (0 : Fin 2) [⟨⟨2, ![16, 128]⟩, edge 1#32 n before⟩, ⟨⟨2, ![256, 128]⟩, here⟩, ⟨⟨2, ![16, 128]⟩, edge 16#32 n after⟩] _ (ix2 q c)
    0 (by show 0 < 3; decide) ⟨2, ![16, 128]⟩ _ rfl rfl 0 rfl (ix2 a c)
    (fun b hb => by match b with
      | ⟨0, _⟩ => exact absurd rfl hb
      | ⟨1, _⟩ => rfl) (by show 0 + a.val = q.val; omega)

theorem window_here (q : Fin 288) (a : Fin 256) (h : q.val = 16 + a.val) : window n before after here (ix2 q c) = here (ix2 a c) := by
  unfold window
  exact concatenate_apply_piece (t := ⟨2, ![288, 128]⟩) (0 : Fin 2) [⟨⟨2, ![16, 128]⟩, edge 1#32 n before⟩, ⟨⟨2, ![256, 128]⟩, here⟩, ⟨⟨2, ![16, 128]⟩, edge 16#32 n after⟩] _ (ix2 q c)
    1 (by show 1 < 3; decide) ⟨2, ![256, 128]⟩ _ rfl rfl 16 rfl (ix2 a c)
    (fun b hb => by match b with
      | ⟨0, _⟩ => exact absurd rfl hb
      | ⟨1, _⟩ => rfl) (by show 16 + a.val = q.val; omega)

theorem window_after (q : Fin 288) (a : Fin 16) (h : q.val = 272 + a.val) : window n before after here (ix2 q c) = edge 16#32 n after (ix2 a c) := by
  unfold window
  exact concatenate_apply_piece (t := ⟨2, ![288, 128]⟩) (0 : Fin 2) [⟨⟨2, ![16, 128]⟩, edge 1#32 n before⟩, ⟨⟨2, ![256, 128]⟩, here⟩, ⟨⟨2, ![16, 128]⟩, edge 16#32 n after⟩] _ (ix2 q c)
    2 (by show 2 < 3; decide) ⟨2, ![16, 128]⟩ _ rfl rfl 272 rfl (ix2 a c)
    (fun b hb => by match b with
      | ⟨0, _⟩ => exact absurd rfl hb
      | ⟨1, _⟩ => rfl) (by show 272 + a.val = q.val; omega)

/-- Row `1 + k + r` of the window is what tap `k` reads at row `r` of tile `n`. -/
theorem window_reach (f : Fin 4352 → EReal) (hn : n < 17)
    (hb : 1 ≤ n → ∀ a : Fin 16, before (ix2 a c) = f ⟨256 * (n - 1) + 240 + a.val, by omega⟩)
    (hh : ∀ a : Fin 256, here (ix2 a c) = f ⟨256 * n + a.val, by omega⟩)
    (ha : ∀ h : n < 16, ∀ a : Fin 16, after (ix2 a c) = f ⟨256 * (n + 1) + a.val, by omega⟩)
    (r : Fin 256) (k : Fin 31) (q : Fin 288) (hq : q.val = r.val + k.val + 1) :
    window n before after here (ix2 q c) = reach f (256 * n + r.val) k.val := by
  have := r.isLt
  have := k.isLt
  by_cases h1 : q.val < 16
  · rw [window_before n before after here c q ⟨q.val, h1⟩ rfl]
    by_cases hz : n = 0 ∨ n = 1
    · rw [edge_out 1 n _ _ hn (by decide) hz, reach_out]
      omega
    · rw [edge_in 1 n _ _ hn (by decide) (by omega), hb (by omega)]
      refine (reach_in f _ _ _ ?_ ?_).symm
      · show 256 * (n - 1) + 240 + q.val + 15 = _; omega
      · show 256 * (n - 1) + 240 + q.val < 256 ↔ _; omega
  · by_cases h2 : q.val < 272
    · rw [window_here n before after here c q ⟨q.val - 16, by omega⟩ (by show q.val = 16 + (q.val - 16); omega), hh]
      refine (reach_in f _ _ _ ?_ ?_).symm
      · show 256 * n + (q.val - 16) + 15 = _; omega
      · show 256 * n + (q.val - 16) < 256 ↔ _; omega
    · have := q.isLt
      rw [window_after n before after here c q ⟨q.val - 272, by omega⟩ (by show q.val = 272 + (q.val - 272); omega)]
      by_cases hz : n = 0 ∨ n = 16
      · rw [edge_out 16 n _ _ hn (by decide) hz, reach_out]
        omega
      · rw [edge_in 16 n _ _ hn (by decide) (by omega), ha (by omega)]
        refine (reach_in f _ _ _ ?_ ?_).symm
        · show 256 * (n + 1) + (q.val - 272) + 15 = _; omega
        · show 256 * (n + 1) + (q.val - 272) < 256 ↔ _; omega

end Window

/-- The first rows of the window turned back by `s` are the rows from `288 − s` on. -/
theorem tap_apply {α : Type} (s : BitVec 32) (x : (⟨2, ![288, 128]⟩ : Shape).Idx → α) (h : (⟨2, ![288, 128]⟩ : Shape).Rotates 0 none)
    (hs : (⟨2, ![288, 128]⟩ : Shape).Slices ![0, 0] ⟨2, ![256, 128]⟩) (r : Fin 256) (c : Fin 128) :
    extractStridedSlice ⟨2, ![256, 128]⟩ ![0, 0] (dynamicRotate 0 s none x h) hs (ix2 r c)
      = x (ix2 (⟨(r.val + 288 - s.toNat % 288) % 288, Nat.mod_lt _ (by decide)⟩ : Fin 288) c) := by
  rw [extractStridedSlice_apply ![0, 0] _ hs (ix2 r c) (ix2 (⟨r.val, by omega⟩ : Fin 288) c) (by intro a; fin_cases a <;> simp [ix2])]
  refine dynamicRotate_apply 0 s x h _ _ fun b => ?_
  match b with
  | ⟨0, _⟩ => rfl
  | ⟨1, _⟩ => rfl

/-! ## The taps added up -/

/-- What tap number `o` adds at row `r`: the window's row times the weight, the weights read from the last. -/
def tapTerm (W : Vec Ideal ⟨2, ![288, 128]⟩ .f32) (w : Vec Ideal ⟨2, ![31, 128]⟩ .f32) (r : Fin 256) (c : Fin 128) (o : ℕ) : EReal :=
  W (ix2 (⟨(r.val + 1 + o) % 288, Nat.mod_lt _ (by decide)⟩ : Fin 288) c) * w (ix2 (⟨(30 - o) % 31, Nat.mod_lt _ (by decide)⟩ : Fin 31) c)

/-- One tap more. -/
theorem tap_step (W : Vec Ideal ⟨2, ![288, 128]⟩ .f32) (w : Vec Ideal ⟨2, ![31, 128]⟩ .f32) (r : Fin 256) (c : Fin 128) (o : ℕ) (ho : o < 31)
    (h : (⟨2, ![288, 128]⟩ : Shape).Rotates 0 none) (hs : (⟨2, ![288, 128]⟩ : Shape).Slices ![0, 0] ⟨2, ![256, 128]⟩)
    (hi : ∀ a, (![30 - o, 0] : Fin 2 → ℕ) a + (![1, 128] : Fin 2 → ℕ) a ≤ (⟨2, ![31, 128]⟩ : Shape).size a) (hb : (⟨2, ![1, 128]⟩ : Shape).Broadcasts ⟨2, ![256, 128]⟩)
    (acc : FVec Ideal ⟨2, ![256, 128]⟩ .f32) (H : acc (ix2 r c) = ∑ j ∈ Finset.range o, tapTerm W w r c j) :
    addf acc (mulf (extractStridedSlice ⟨2, ![256, 128]⟩ ![0, 0] (dynamicRotate 0 (BitVec.ofNat 32 (287 - o)) none W h) hs)
      (broadcastTo ⟨2, ![256, 128]⟩ (View.ld w (Rect.unit (s := ⟨2, ![31, 128]⟩) ![30 - o, 0] ![1, 128] hi)) hb)) (ix2 r c)
      = ∑ j ∈ Finset.range (o + 1), tapTerm W w r c j := by
  rw [Finset.sum_range_succ, ← H]
  refine congrArg (acc (ix2 r c) + ·) (congrArg₂ (fun (a : EReal) b => a * b) ?_ ?_)
  · rw [tap_apply]
    congr 2
    apply Fin.ext
    show (r.val + 288 - (287 - o) % 2 ^ 32 % 288) % 288 = (r.val + 1 + o) % 288
    have := r.isLt
    omega
  · rw [broadcastTo_1b_ab_apply]
    refine View.ld_unit_apply_of w _ _ hi _ _ fun a => ?_
    match a with
    | ⟨0, _⟩ => show (30 - o) % 31 = 30 - o + 0; omega
    | ⟨1, _⟩ => show c.val = 0 + c.val; omega

end Conv

end
-- ==== Proof.ConvRef.lean ====
/- The reference's gradient of the convolution with respect to its input, at an entry: a sum over the taps. -/
module

public import proofs.«01_k».proof.Proof.ConvWindow
public import proofs.«01_k».proof.Proof.Gen.Reference16Ideal.Read
public import Idealize.ShloMosaic.Lib.WordCmp
public import Idealize.ShloMosaic.Lib.IdealHost

@[expose] public section

set_option maxRecDepth 16384

noncomputable section

namespace Conv

open Idealize.ShloMosaic Idealize.ShloMosaic.ValueIdx AttGrad

/-- The comparisons of the row numbers. -/
theorem reads_word (l : Fin 4352) (k : Fin 31) (p : Fin 4352) :
    Scalar.select (IntOp.andi (IntOp.cmpi .eq (IntOp.addi (BitVec.ofNat 32 l.val) (BitVec.ofNat 32 k.val)) (IntOp.addi (BitVec.ofNat 32 p.val) 15#32))
        (IntOp.cmpi .eq (IntOp.cmpi .slt (BitVec.ofNat 32 l.val) 256#32) (IntOp.cmpi .slt (BitVec.ofNat 32 p.val) 256#32)))
      (Scalar.ofBits (F := Ideal) .f32 0x3F800000#32) (Scalar.ofBits (F := Ideal) .f32 0x00000000#32)
      = if Reads l.val k.val p.val then (1 : EReal) else 0 := by
  have hl := l.isLt
  have hk := k.isLt
  have hp := p.isLt
  have e1 : IntOp.addi (BitVec.ofNat 32 l.val) (BitVec.ofNat 32 k.val) = BitVec.ofNat 32 (l.val + k.val) := (BitVec.ofNat_add _ _).symm
  have e2 : IntOp.addi (BitVec.ofNat 32 p.val) 15#32 = BitVec.ofNat 32 (p.val + 15) := (BitVec.ofNat_add _ _).symm
  rw [e1, e2, WordCmp.cmpi_eq_ofNat (by omega) (by omega), WordCmp.cmpi_slt_ofNat (by omega) (by omega), WordCmp.cmpi_slt_ofNat (by omega) (by omega)]
  by_cases h1 : l.val + k.val = p.val + 15 <;> by_cases h2 : l.val < 256 <;> by_cases h3 : p.val < 256 <;>
    simp [Reads, h1, h2, h3, IntOp.cmpi, IntOp.andi, Scalar.select, Scalar.ofBits, Ideal.ofBits_one_f32]

/-! ## The gradient with respect to the input -/

namespace R16

open Cert.Reference16Ideal Cert.Reference16Ideal.Gen Cert.Reference16Ideal.Read

variable (x0 : (⟨S4352x512, .f32⟩ : BufTy).Contents (Elt Ideal)) (x1 : (⟨S31x512, .f32⟩ : BufTy).Contents (Elt Ideal)) (x2 : (⟨S4352x512, .f32⟩ : BufTy).Contents (Elt Ideal))

/-- The array that picks the rows read. -/
theorem picks (l : Fin 4352) (k : Fin 31) (p : Fin 4352) : val_main_v25 (F := Ideal) (ix3 l k p) = if Reads l.val k.val p.val then (1 : EReal) else 0 := by
  refine Eq.trans ?_ (reads_word l k p)
  rw [val_main_v25_apply, val_main_v24_apply, val_main_v22_apply, val_main_v23_apply, val_main_v20_apply, val_main_v21_apply, val_main_v16_apply,
    val_main_v19_apply, val_main_v18_apply, val_main_v17_apply, val_main_c_1_apply, val_main_v14_apply, val_main_v15_apply, val_main_v11_apply, val_main_v13_apply,
    val_main_v12_apply, val_main_v0_apply, val_main_v1_apply, val_main_v0_apply, val_main_v10_apply, val_main_v8_apply, val_main_v9_apply, val_main_v4_apply,
    val_main_v7_apply, val_main_v6_apply, val_main_v2_apply, val_main_v3_apply, val_main_v5_apply, val_main_c_apply, val_main_c_0_apply, val_main_v0_apply, val_main_v0_apply,
    val_main_call0_v0_apply, val_main_call0_v1_apply, val_main_cst_apply, val_main_cst_2_apply]

/-- The dimensions of the product over rows and taps. -/
abbrev D : DotDims S4352x31x512 S4352x31x4352 S512x4352 := dot_S4352x31x512_S4352x31x4352_S512x4352_01_01_2_2_n_n

/-- A contracted position is a row and a tap. -/
def position : D.contr.Idx ≃ Fin 4352 × Fin 31 where
  toFun q := (q ⟨0, by decide⟩, q ⟨1, by decide⟩)
  invFun p := fun a => match a with
    | ⟨0, _⟩ => p.1
    | ⟨1, _⟩ => p.2
  left_inv q := by
    funext a
    match a with
    | ⟨0, _⟩ => rfl
    | ⟨1, _⟩ => rfl
  right_inv p := rfl

theorem left_0 (i : S512x4352.Idx) (p : Fin 4352 × Fin 31) : (D.lhsIdx i (position.symm p) 0).val = p.1.val := by
  unfold DotDims.lhsIdx
  rw [dif_neg (show ¬(0 : Fin S4352x31x512.rank) ∈ D.lhsBatch by decide), dif_neg (show ¬(0 : Fin S4352x31x512.rank) ∈ D.lhsNonContracting by decide)]
  rfl

theorem left_1 (i : S512x4352.Idx) (p : Fin 4352 × Fin 31) : (D.lhsIdx i (position.symm p) 1).val = p.2.val := by
  unfold DotDims.lhsIdx
  rw [dif_neg (show ¬(1 : Fin S4352x31x512.rank) ∈ D.lhsBatch by decide), dif_neg (show ¬(1 : Fin S4352x31x512.rank) ∈ D.lhsNonContracting by decide)]
  rfl

theorem left_2 (i : S512x4352.Idx) (p : Fin 4352 × Fin 31) : (D.lhsIdx i (position.symm p) 2).val = (i 0).val := by
  unfold DotDims.lhsIdx
  rw [dif_neg (show ¬(2 : Fin S4352x31x512.rank) ∈ D.lhsBatch by decide), dif_pos (show (2 : Fin S4352x31x512.rank) ∈ D.lhsNonContracting by decide)]
  rfl

theorem left_index (i : S512x4352.Idx) (p : Fin 4352 × Fin 31) : D.lhsIdx i (position.symm p) = ix3 p.1 p.2 (i 0) :=
  funext fun a => Fin.ext (by
    match a with
    | ⟨0, _⟩ => exact left_0 i p
    | ⟨1, _⟩ => exact left_1 i p
    | ⟨2, _⟩ => exact left_2 i p)

theorem right_0 (i : S512x4352.Idx) (p : Fin 4352 × Fin 31) : (D.rhsIdx i (position.symm p) 0).val = p.1.val := by
  unfold DotDims.rhsIdx
  rw [dif_neg (show ¬(0 : Fin S4352x31x4352.rank) ∈ D.rhsBatch by decide), dif_neg (show ¬(0 : Fin S4352x31x4352.rank) ∈ D.rhsNonContracting by decide)]
  rfl

theorem right_1 (i : S512x4352.Idx) (p : Fin 4352 × Fin 31) : (D.rhsIdx i (position.symm p) 1).val = p.2.val := by
  unfold DotDims.rhsIdx
  rw [dif_neg (show ¬(1 : Fin S4352x31x4352.rank) ∈ D.rhsBatch by decide), dif_neg (show ¬(1 : Fin S4352x31x4352.rank) ∈ D.rhsNonContracting by decide)]
  rfl

theorem right_2 (i : S512x4352.Idx) (p : Fin 4352 × Fin 31) : (D.rhsIdx i (position.symm p) 2).val = (i 1).val := by
  unfold DotDims.rhsIdx
  rw [dif_neg (show ¬(2 : Fin S4352x31x4352.rank) ∈ D.rhsBatch by decide), dif_pos (show (2 : Fin S4352x31x4352.rank) ∈ D.rhsNonContracting by decide)]
  rfl

theorem right_index (i : S512x4352.Idx) (p : Fin 4352 × Fin 31) : D.rhsIdx i (position.symm p) = ix3 p.1 p.2 (i 1) :=
  funext fun a => Fin.ext (by
    match a with
    | ⟨0, _⟩ => exact right_0 i p
    | ⟨1, _⟩ => exact right_1 i p
    | ⟨2, _⟩ => exact right_2 i p)

/-- The product over rows and taps, at an entry. -/
theorem product_apply (c : Fin 512) (p : Fin 4352) :
    val_main_v38 (F := Ideal) x1 x2 (ix2 c p)
      = ∑ l : Fin 4352, ∑ k : Fin 31, val_main_v36 (F := Ideal) x1 x2 (ix3 l k c) * val_main_v25 (F := Ideal) (ix3 l k p) := by
  unfold val_main_v38
  generalize val_main_v36 (F := Ideal) x1 x2 = y0
  generalize val_main_v25 (F := Ideal) = y1
  simp only [Host.dotGeneral]
  rw [Ideal.dotGeneral_apply, ← Equiv.sum_comp position.symm, Fintype.sum_prod_type]
  refine Finset.sum_congr rfl fun l _ => Finset.sum_congr rfl fun k _ => ?_
  exact congrArg₂ (fun a b => y0 a * y1 b) (left_index (ix2 c p) (l, k)) (right_index (ix2 c p) (l, k))

/-- The factor of a row and a tap. -/
theorem factor_apply (l : Fin 4352) (k : Fin 31) (c : Fin 512) : val_main_v36 (F := Ideal) x1 x2 (ix3 l k c) = x2 (ix2 l c) * x1 (ix2 k c) := by
  rw [val_main_v36_apply, val_main_v31_apply, val_main_v35_apply, val_main_v27_apply]
  refine congrArg₂ (fun (a : EReal) b => a * b) (congrArg x2 ?_) (congrArg x1 ?_)
  · funext a; match a with
      | ⟨0, _⟩ => rfl
      | ⟨1, _⟩ => rfl
  · funext a; match a with
      | ⟨0, _⟩ => rfl
      | ⟨1, _⟩ => rfl

/-- The gradient at an entry: every tap's weight times the cotangent at the row that reads it. -/
theorem gradient_apply (p : Fin 4352) (c : Fin 512) :
    val_main_v39 (F := Ideal) x1 x2 (ix2 p c) = ∑ k : Fin 31, reach (fun l => x2 (ix2 l c)) p.val (30 - k.val) * x1 (ix2 k c) := by
  rw [val_main_v39_apply]
  refine Eq.trans (b := val_main_v38 (F := Ideal) x1 x2 (ix2 c p)) (congrArg _ (funext fun a => by match a with
    | ⟨0, _⟩ => rfl
    | ⟨1, _⟩ => rfl)) ?_
  rw [product_apply, Finset.sum_comm]
  refine Finset.sum_congr rfl fun k _ => ?_
  rw [← reach_mul, ← sum_readers _ _ _ k.isLt]
  exact Finset.sum_congr rfl fun l _ => congrArg₂ (fun (a : EReal) b => a * b) (factor_apply x1 x2 l k c) (picks l k p)

end R16

end Conv

end
-- ==== Proof.Conv16.lean ====
/- The convolution's gradient with respect to its input: every tile's sum over the taps is the reference's entry. -/
module

public import proofs.«01_k».proof.Proof.ConvRef
public import proofs.«01_k».proof.Proof.Gen.Kernel16Ideal.Value

@[expose] public section

set_option maxRecDepth 16384

noncomputable section

namespace Conv.K16

open Cert.Kernel16Ideal Cert.Kernel16Ideal.Gen Idealize.ShloMosaic Idealize.ShloMosaic.TcCoe Idealize.SL.Sem
open Idealize.ShloMosaic.ValueIdx AttGrad

theorem starts : (![0, 0] : Fin 2 → ℕ) = fun _ => 0 := by funext a; match a with
  | ⟨0, _⟩ => rfl
  | ⟨1, _⟩ => rfl

/-! ## The body -/

section Body
variable (i : grid0.Coords) (x0 x1 x2 : Vec Ideal S256x128 .f32) (x3 : Vec Ideal S31x128 .f32) (r : Fin 256) (c : Fin 128)

/-- The window the body makes of its three blocks. -/
def win : Vec Ideal S288x128 .f32 := k0_pay2 i (View.ld x0 r0_0) (View.ld x2 r0_1) (View.ld x1 r0_2)

theorem win_eq : win i x0 x1 x2 = window (i 1).val (View.ld x0 r0_0) (View.ld x2 r0_1) (View.ld x1 r0_2) := rfl

/-- The block a point leaves: the sum over the taps. -/
theorem block_apply : out0_4 i x0 x1 x2 x3 (ix2 r c) = ∑ o ∈ Finset.range 31, tapTerm (win i x0 x1 x2) x3 r c o := by
  unfold out0_4
  rw [View.canon_unit_zero starts]
  change k0_pay1 (F := Ideal) (win i x0 x1 x2) _ _ (ix2 r c) = _
  refine tap_step (win i x0 x1 x2) x3 r c 30 (by decide) _ _ _ _ _ ?_
  refine tap_step (win i x0 x1 x2) x3 r c 29 (by decide) _ _ _ _ _ ?_
  refine tap_step (win i x0 x1 x2) x3 r c 28 (by decide) _ _ _ _ _ ?_
  refine tap_step (win i x0 x1 x2) x3 r c 27 (by decide) _ _ _ _ _ ?_
  refine tap_step (win i x0 x1 x2) x3 r c 26 (by decide) _ _ _ _ _ ?_
  refine tap_step (win i x0 x1 x2) x3 r c 25 (by decide) _ _ _ _ _ ?_
  refine tap_step (win i x0 x1 x2) x3 r c 24 (by decide) _ _ _ _ _ ?_
  refine tap_step (win i x0 x1 x2) x3 r c 23 (by decide) rotates_S288x128_d0 slices_S288x128_o0_0_S256x128 _ broadcasts_S1x128_S256x128 _ ?_
  refine tap_step (win i x0 x1 x2) x3 r c 22 (by decide) _ _ _ _ _ ?_
  refine tap_step (win i x0 x1 x2) x3 r c 21 (by decide) _ _ _ _ _ ?_
  refine tap_step (win i x0 x1 x2) x3 r c 20 (by decide) _ _ _ _ _ ?_
  refine tap_step (win i x0 x1 x2) x3 r c 19 (by decide) _ _ _ _ _ ?_
  refine tap_step (win i x0 x1 x2) x3 r c 18 (by decide) _ _ _ _ _ ?_
  refine tap_step (win i x0 x1 x2) x3 r c 17 (by decide) _ _ _ _ _ ?_
  refine tap_step (win i x0 x1 x2) x3 r c 16 (by decide) rotates_S288x128_d0 slices_S288x128_o0_0_S256x128 _ broadcasts_S1x128_S256x128 _ ?_
  refine tap_step (win i x0 x1 x2) x3 r c 15 (by decide) _ _ _ _ _ ?_
  refine tap_step (win i x0 x1 x2) x3 r c 14 (by decide) _ _ _ _ _ ?_
  refine tap_step (win i x0 x1 x2) x3 r c 13 (by decide) _ _ _ _ _ ?_
  refine tap_step (win i x0 x1 x2) x3 r c 12 (by decide) _ _ _ _ _ ?_
  refine tap_step (win i x0 x1 x2) x3 r c 11 (by decide) _ _ _ _ _ ?_
  refine tap_step (win i x0 x1 x2) x3 r c 10 (by decide) _ _ _ _ _ ?_
  refine tap_step (win i x0 x1 x2) x3 r c 9 (by decide) _ _ _ _ _ ?_
  refine tap_step (win i x0 x1 x2) x3 r c 8 (by decide) _ _ _ _ _ ?_
  refine tap_step (win i x0 x1 x2) x3 r c 7 (by decide) _ _ _ _ _ ?_
  refine tap_step (win i x0 x1 x2) x3 r c 6 (by decide) _ _ _ _ _ ?_
  refine tap_step (win i x0 x1 x2) x3 r c 5 (by decide) _ _ _ _ _ ?_
  refine tap_step (win i x0 x1 x2) x3 r c 4 (by decide) _ _ _ _ _ ?_
  refine tap_step (win i x0 x1 x2) x3 r c 3 (by decide) rotates_S288x128_d0 slices_S288x128_o0_0_S256x128 _ broadcasts_S1x128_S256x128 _ ?_
  refine tap_step (win i x0 x1 x2) x3 r c 2 (by decide) _ _ _ _ _ ?_
  refine tap_step (win i x0 x1 x2) x3 r c 1 (by decide) _ _ _ _ _ ?_
  refine tap_step (win i x0 x1 x2) x3 r c 0 (by decide) _ _ _ _ _ ?_
  exact Ideal.ofBits_zero_f32

end Body

/-! ## The blocks of a grid point -/

variable (m : (ℓ : Loc nD τ sig) → Buf (Elt Ideal) ℓ) (c : Dev nD)

/-- The cotangent and the weights. -/
abbrev ct : Vec Ideal S4352x512 .f32 := m ((c : Thread nD τ).loc main_arg2)
abbrev weights : Vec Ideal S31x512 .f32 := m ((c : Thread nD τ).loc main_arg1)

/-- The point of lanes `b` and tile `n`. -/
def pt (b : Fin 4) (n : Fin 17) : Fin cfg0.N := ⟨17 * b.val + n.val, by show 17 * b.val + n.val < 68; omega⟩
theorem pt_mod (b : Fin 4) (n : Fin 17) : (pt b n).val % 17 = n.val := by show (17 * b.val + n.val) % 17 = n.val; omega
theorem pt_div (b : Fin 4) (n : Fin 17) : (pt b n).val / 17 = b.val := by show (17 * b.val + n.val) / 17 = b.val; omega
theorem coord (b : Fin 4) (n : Fin 17) : (grid0.coords (pt b n) 1).val = n.val :=
  ((by decide +kernel : ∀ t : Fin grid0.N, (grid0.coords t 1).val = t.val % 17) (pt b n)).trans (pt_mod b n)

/-- Lane `l` of lane block `b`. -/
def lane (b : Fin 4) (l : Fin 128) : Fin 512 := ⟨128 * b.val + l.val, by omega⟩

theorem index_near : ∀ t : Fin cfg0.N, win0_0.index t = ![t.val % 17 - 1, t.val / 17] ∧ win0_1.index t = ![t.val % 17, t.val / 17]
    ∧ win0_2.index t = ![min (t.val % 17 + 1) 16, t.val / 17] :=
  (by decide +kernel : ∀ t : Fin grid0.N, win0_0.index t = ![t.val % 17 - 1, t.val / 17] ∧ win0_1.index t = ![t.val % 17, t.val / 17]
    ∧ win0_2.index t = ![min (t.val % 17 + 1) 16, t.val / 17])
theorem index_else : ∀ t : Fin cfg0.N, win0_3.index t = ![0, t.val / 17] ∧ win0_4.index t = ![t.val % 17, t.val / 17] :=
  (by decide +kernel : ∀ t : Fin grid0.N, win0_3.index t = ![0, t.val / 17] ∧ win0_4.index t = ![t.val % 17, t.val / 17])

variable (b : Fin 4) (n : Fin 17) (l : Fin 128)

theorem before_block (h : 1 ≤ n.val) (a : Fin 256) : (iblk m c 0 (pt b n) : Vec Ideal S256x128 .f32) (ix2 a l)
    = ct m c (ix2 (⟨256 * (n.val - 1) + a.val, by omega⟩ : Fin 4352) (lane b l)) := by
  unfold iblk
  rw [View.read_apply]
  refine Eq.trans ?_ (congrFun (V_main_arg2 m c) _)
  show V m c main_arg2 _ = V m c main_arg2 _
  congr 1
  funext x
  apply Fin.ext
  match x with
  | ⟨0, _⟩ => show win0_0.index (pt b n) 0 * 256 + 1 * a.val = 256 * (n.val - 1) + a.val; rw [(index_near (pt b n)).1]; show ((pt b n).val % 17 - 1) * 256 + 1 * a.val = _; rw [pt_mod]; ring
  | ⟨1, _⟩ => show win0_0.index (pt b n) 1 * 128 + 1 * l.val = 128 * b.val + l.val; rw [(index_near (pt b n)).1]; show (pt b n).val / 17 * 128 + 1 * l.val = _; rw [pt_div]; ring

theorem here_block (a : Fin 256) : (iblk m c 1 (pt b n) : Vec Ideal S256x128 .f32) (ix2 a l)
    = ct m c (ix2 (⟨256 * n.val + a.val, by omega⟩ : Fin 4352) (lane b l)) := by
  unfold iblk
  rw [View.read_apply]
  refine Eq.trans ?_ (congrFun (V_main_arg2 m c) _)
  show V m c main_arg2 _ = V m c main_arg2 _
  congr 1
  funext x
  apply Fin.ext
  match x with
  | ⟨0, _⟩ => show win0_1.index (pt b n) 0 * 256 + 1 * a.val = 256 * n.val + a.val; rw [(index_near (pt b n)).2.1]; show (pt b n).val % 17 * 256 + 1 * a.val = _; rw [pt_mod]; ring
  | ⟨1, _⟩ => show win0_1.index (pt b n) 1 * 128 + 1 * l.val = 128 * b.val + l.val; rw [(index_near (pt b n)).2.1]; show (pt b n).val / 17 * 128 + 1 * l.val = _; rw [pt_div]; ring

theorem after_block (h : n.val < 16) (a : Fin 256) : (iblk m c 2 (pt b n) : Vec Ideal S256x128 .f32) (ix2 a l)
    = ct m c (ix2 (⟨256 * (n.val + 1) + a.val, by omega⟩ : Fin 4352) (lane b l)) := by
  unfold iblk
  rw [View.read_apply]
  refine Eq.trans ?_ (congrFun (V_main_arg2 m c) _)
  show V m c main_arg2 _ = V m c main_arg2 _
  congr 1
  funext x
  apply Fin.ext
  match x with
  | ⟨0, _⟩ => show win0_2.index (pt b n) 0 * 256 + 1 * a.val = 256 * (n.val + 1) + a.val; rw [(index_near (pt b n)).2.2]; show min ((pt b n).val % 17 + 1) 16 * 256 + 1 * a.val = _; rw [pt_mod, Nat.min_eq_left (by omega)]; ring
  | ⟨1, _⟩ => show win0_2.index (pt b n) 1 * 128 + 1 * l.val = 128 * b.val + l.val; rw [(index_near (pt b n)).2.2]; show (pt b n).val / 17 * 128 + 1 * l.val = _; rw [pt_div]; ring

theorem weights_block (k : Fin 31) : (iblk m c 3 (pt b n) : Vec Ideal S31x128 .f32) (ix2 k l) = weights m c (ix2 k (lane b l)) := by
  unfold iblk
  rw [View.read_apply]
  refine Eq.trans ?_ (congrFun (V_main_arg1 m c) _)
  show V m c main_arg1 _ = V m c main_arg1 _
  congr 1
  funext x
  apply Fin.ext
  match x with
  | ⟨0, _⟩ => show win0_3.index (pt b n) 0 * 31 + 1 * k.val = k.val; rw [(index_else (pt b n)).1]; show 0 * 31 + 1 * k.val = _; ring
  | ⟨1, _⟩ => show win0_3.index (pt b n) 1 * 128 + 1 * l.val = 128 * b.val + l.val; rw [(index_else (pt b n)).1]; show (pt b n).val / 17 * 128 + 1 * l.val = _; rw [pt_div]; ring

/-! ## The array after the run -/

/-- A row of the window is what a tap reads. -/
theorem win_reach (r : Fin 256) (k : Fin 31) (q : Fin 288) (hq : q.val = r.val + k.val + 1) :
    win (grid0.coords (pt b n)) (iblk m c 0 (pt b n)) (iblk m c 1 (pt b n)) (iblk m c 2 (pt b n)) (ix2 q l)
      = reach (fun p => ct m c (ix2 p (lane b l))) (256 * n.val + r.val) k.val := by
  rw [win_eq, coord]
  refine window_reach n.val _ _ _ l (fun p => ct m c (ix2 p (lane b l))) n.isLt (fun h a => ?_) (fun a => ?_) (fun h a => ?_) r k q hq
  · refine (View.ld_unit_apply_of (iblk m c 0 (pt b n) : Vec Ideal S256x128 .f32) _ _ _ _ (ix2 (⟨240 + a.val, by omega⟩ : Fin 256) l) fun x => ?_).trans ?_
    · match x with
      | ⟨0, _⟩ => rfl
      | ⟨1, _⟩ => show l.val = 0 + l.val; omega
    · refine (before_block m c b n l h _).trans (congrArg (fun p => ct m c (ix2 p (lane b l))) (Fin.ext ?_))
      show 256 * (n.val - 1) + (240 + a.val) = 256 * (n.val - 1) + 240 + a.val
      omega
  · rw [View.ld_unit_zero (S := S256x128) starts]
    exact here_block m c b n l a
  · refine (View.ld_unit_apply_of (iblk m c 2 (pt b n) : Vec Ideal S256x128 .f32) _ _ _ _ (ix2 (⟨a.val, by omega⟩ : Fin 256) l) fun x => ?_).trans ?_
    · match x with
      | ⟨0, _⟩ => show a.val = 0 + a.val; omega
      | ⟨1, _⟩ => show l.val = 0 + l.val; omega
    · exact after_block m c b n l h _

/-- The block of a point. -/
theorem tile_apply (r : Fin 256) :
    out0_4 (grid0.coords (pt b n)) (iblk m c 0 (pt b n)) (iblk m c 1 (pt b n)) (iblk m c 2 (pt b n)) (iblk m c 3 (pt b n)) (ix2 r l)
      = ∑ k : Fin 31, reach (fun p => ct m c (ix2 p (lane b l))) (256 * n.val + r.val) (30 - k.val) * weights m c (ix2 k (lane b l)) := by
  refine (block_apply _ _ _ _ _ r l).trans ?_
  rw [Finset.sum_range, ← Equiv.sum_comp Fin.revPerm]
  refine Finset.sum_congr rfl fun k _ => ?_
  have hk := k.isLt
  have hr := r.isLt
  have e : (Fin.revPerm k).val = 30 - k.val := by rw [Fin.revPerm_apply, Fin.val_rev]; omega
  unfold tapTerm
  refine congrArg₂ (fun (a : EReal) b => a * b) ?_ ?_
  · refine (win_reach m c b n l r (Fin.revPerm k) _ ?_).trans (by rw [e])
    show (r.val + 1 + (Fin.revPerm k).val) % 288 = r.val + (Fin.revPerm k).val + 1
    omega
  · refine (weights_block m c b n l _).trans (congrArg (fun k => weights m c (ix2 k (lane b l))) (Fin.ext ?_))
    show (30 - (Fin.revPerm k).val) % 31 = k.val
    omega

theorem emb4 (r : Fin 256) : (((cfg0.win 4).blk (pt b n)).view.emb (ix2 r l) : S4352x512.Idx) = ix2 (⟨256 * n.val + r.val, by omega⟩ : Fin 4352) (lane b l) := by
  funext a
  apply Fin.ext
  match a with
  | ⟨0, _⟩ => show win0_4.index (pt b n) 0 * 256 + 1 * r.val = 256 * n.val + r.val; rw [(index_else (pt b n)).2]; show (pt b n).val % 17 * 256 + 1 * r.val = _; rw [pt_mod]; ring
  | ⟨1, _⟩ => show win0_4.index (pt b n) 1 * 128 + 1 * l.val = 128 * b.val + l.val; rw [(index_else (pt b n)).2]; show (pt b n).val / 17 * 128 + 1 * l.val = _; rw [pt_div]; ring

/-- The array the run leaves, at an entry. -/
theorem result_apply (r : Fin 256) : ((dats m 0 c).arrAt 4 cfg0.N : Vec Ideal S4352x512 .f32) (ix2 (⟨256 * n.val + r.val, by omega⟩ : Fin 4352) (lane b l))
    = ∑ k : Fin 31, reach (fun p => ct m c (ix2 p (lane b l))) (256 * n.val + r.val) (30 - k.val) * weights m c (ix2 k (lane b l)) := by
  have e := congrFun (Cert.Kernel16Ideal.Value.blocks4 m c (pt b n) (flush0_4 _)) (ix2 r l)
  rw [View.read_apply, Cert.Kernel16Ideal.Value.flushed4] at e
  rw [← emb4 b n l r]
  exact e.trans (tile_apply m c b n l r)

/-- What the kernel leaves is what the reference computes. -/
theorem equation : ((dats m 0 c).arrAt 4 cfg0.N : Vec Ideal S4352x512 .f32)
    = Cert.Reference16Ideal.Read.val_main_v39 (F := Ideal) (m ((c : Thread nD τ).loc main_arg1)) (m ((c : Thread nD τ).loc main_arg2)) := by
  funext z
  obtain ⟨x, y, rfl⟩ := Products.cases2 z
  obtain ⟨n, r, rfl⟩ := Products.slab_cases (w := 256) (d := 17) (n := 4352) rfl (by decide) x
  obtain ⟨b, l, rfl⟩ := Products.slab_cases (w := 128) (d := 4) (n := 512) rfl (by decide) y
  refine (result_apply m c b n l r).trans ?_
  rw [Conv.R16.gradient_apply]
  rfl

end Conv.K16

end
-- ==== Proof.ConvRef17.lean ====
/- The reference's gradient of the convolution with respect to its weights, at an entry: a sum over the rows. -/
module

public import proofs.«01_k».proof.Proof.ConvRef
public import proofs.«01_k».proof.Proof.Gen.Reference17Ideal.Read

@[expose] public section

set_option maxRecDepth 16384

noncomputable section

namespace Conv

open Idealize.ShloMosaic Idealize.ShloMosaic.ValueIdx AttGrad

/-! ## The gradient with respect to the weights -/

namespace R17

open Cert.Reference17Ideal Cert.Reference17Ideal.Gen Cert.Reference17Ideal.Read

variable (x0 : (⟨S4352x512, .f32⟩ : BufTy).Contents (Elt Ideal)) (x2 : (⟨S4352x512, .f32⟩ : BufTy).Contents (Elt Ideal))

/-- The array that picks the rows read. -/
theorem picks (l : Fin 4352) (k : Fin 31) (p : Fin 4352) : val_main_v25 (F := Ideal) (ix3 l k p) = if Reads l.val k.val p.val then (1 : EReal) else 0 := by
  refine Eq.trans ?_ (reads_word l k p)
  rw [val_main_v25_apply, val_main_v24_apply, val_main_v22_apply, val_main_v23_apply, val_main_v20_apply, val_main_v21_apply, val_main_v16_apply,
    val_main_v19_apply, val_main_v18_apply, val_main_v17_apply, val_main_c_1_apply, val_main_v14_apply, val_main_v15_apply, val_main_v11_apply, val_main_v13_apply,
    val_main_v12_apply, val_main_v0_apply, val_main_v1_apply, val_main_v0_apply, val_main_v10_apply, val_main_v8_apply, val_main_v9_apply, val_main_v4_apply,
    val_main_v7_apply, val_main_v6_apply, val_main_v2_apply, val_main_v3_apply, val_main_v5_apply, val_main_c_apply, val_main_c_0_apply, val_main_v0_apply, val_main_v0_apply,
    val_main_call0_v0_apply, val_main_call0_v1_apply, val_main_cst_apply, val_main_cst_2_apply]

/-- The rows read by a row's taps. -/
theorem read_apply (l : Fin 4352) (k : Fin 31) (c : Fin 512) : val_main_v26 (F := Ideal) x0 (ix3 l k c) = reach (fun p => x0 (ix2 p c)) l.val k.val := by
  rw [val_main_v26_apply, ← sum_read]
  refine Finset.sum_congr rfl fun p _ => ?_
  rw [← picks]
  refine congrArg₂ (fun (a : EReal) b => a * b) (congrArg _ ?_) (congrArg x0 ?_)
  · funext a; match a with
      | ⟨0, _⟩ => rfl
      | ⟨1, _⟩ => rfl
      | ⟨2, _⟩ => rfl
  · funext a; match a with
      | ⟨0, _⟩ => rfl
      | ⟨1, _⟩ => rfl

/-- The gradient at an entry: the sum over the rows. -/
theorem gradient_apply (k : Fin 31) (c : Fin 512) :
    val_main_v37 (F := Ideal) x0 x2 (ix2 k c) = ∑ l : Fin 4352, reach (fun p => x0 (ix2 p c)) l.val k.val * x2 (ix2 l c) := by
  rw [val_main_v37_apply, Fin.sum_univ_one, val_main_v34_apply]
  have e : idx_main_v34 (idx_main_v37 (ix2 k c) (0 : Fin 1)) = ix2 k c := by
    have := k.isLt
    have := c.isLt
    funext a
    apply Fin.ext
    match a with
    | ⟨0, _⟩ => show ((0 * 31 + k.val) * 512 + c.val) / 512 = k.val; omega
    | ⟨1, _⟩ => show ((0 * 31 + k.val) * 512 + c.val) % 512 = c.val; omega
  rw [e, val_main_v33_apply, val_main_cst_4_apply, val_main_cst_5_apply]
  refine Eq.trans (b := (0 : EReal) + (0 + ∑ l : Fin 4352, val_main_v32 (F := Ideal) x0 x2 (idx_main_v33 (ix2 k c) l)))
    (congrArg₂ (fun (a b : EReal) => a + (b + _)) Ideal.ofBits_zero_f32 Ideal.ofBits_zero_f32) ?_
  rw [zero_add, zero_add]
  refine Finset.sum_congr rfl fun l _ => ?_
  rw [val_main_v32_apply, ← read_apply, val_main_v31_apply]
  refine congrArg₂ (fun (a : EReal) b => a * b) (congrArg _ ?_) (congrArg x2 ?_)
  · funext a; match a with
      | ⟨0, _⟩ => rfl
      | ⟨1, _⟩ => rfl
      | ⟨2, _⟩ => rfl
  · funext a; match a with
      | ⟨0, _⟩ => rfl
      | ⟨1, _⟩ => rfl

end R17

end Conv

end
-- ==== Proof.ConvRows.lean ====
/- The convolution's weight gradient: the rows a point adds to, and what it adds to each. -/
module

public import proofs.«01_k».proof.Proof.ConvWindow
public import Idealize.ShloMosaic.Lib.Pipeline.ReadBack

@[expose] public section

set_option maxRecDepth 16384

noncomputable section

namespace Conv

open Idealize.ShloMosaic Idealize.ShloMosaic.ValueIdx AttGrad

/-- What tap `k` gathers from a window and the cotangent's tile. -/
def gather (W : Vec Ideal ⟨2, ![288, 128]⟩ .f32) (dy : Vec Ideal ⟨2, ![256, 128]⟩ .f32) (k : ℕ) (l : Fin 128) : EReal :=
  ∑ r : Fin 256, W (ix2 (⟨(r.val + 1 + k) % 288, Nat.mod_lt _ (by decide)⟩ : Fin 288) l) * dy (ix2 r l)

/-- The rows with what each tap gathers added. -/
def gathered (acc : Vec Ideal ⟨2, ![31, 128]⟩ .f32) (W : Vec Ideal ⟨2, ![288, 128]⟩ .f32) (dy : Vec Ideal ⟨2, ![256, 128]⟩ .f32) :
    Vec Ideal ⟨2, ![31, 128]⟩ .f32 := fun y => acc y + gather W dy (y 0).val (y 1)

/-- A sum over the rows of a tile. -/
theorem column_sum (v : FVec Ideal ⟨2, ![256, 128]⟩ .f32) (h : (⟨2, ![256, 128]⟩ : Shape).Reduces [0] ⟨1, ![128]⟩) (l : Fin 128) :
    multiReduction .add [0] ⟨1, ![128]⟩ v 0x00000000#32 h (.inl rfl) rfl (ix1 l) = ∑ r : Fin 256, v (ix2 r l) := by
  refine (Ideal.multiReduction_add_single _ _ _ _ _ _).trans ?_
  refine Finset.sum_congr rfl fun r _ => congrArg v ?_
  funext a
  match a with
  | ⟨0, _⟩ => rfl
  | ⟨1, _⟩ => rfl

/-- The row a point stores for tap `k`. -/
theorem row_step (W : Vec Ideal ⟨2, ![288, 128]⟩ .f32) (dy : Vec Ideal ⟨2, ![256, 128]⟩ .f32) (k : ℕ) (hk : k < 31)
    (h : (⟨2, ![288, 128]⟩ : Shape).Rotates 0 none) (hs : (⟨2, ![288, 128]⟩ : Shape).Slices ![0, 0] ⟨2, ![256, 128]⟩)
    (hr : (⟨2, ![256, 128]⟩ : Shape).Reduces [0] ⟨1, ![128]⟩) (h1 : (⟨2, ![1, 128]⟩ : Shape).ShapeCasts ⟨2, ![1, 128]⟩)
    (h2 : (⟨1, ![128]⟩ : Shape).ShapeCasts ⟨2, ![1, 128]⟩) (row : FVec Ideal ⟨2, ![1, 128]⟩ .f32) (l : Fin 128) (v : EReal)
    (H : row (ix2 (0 : Fin 1) l) = v) :
    addf (shapeCast ⟨2, ![1, 128]⟩ row h1) (shapeCast ⟨2, ![1, 128]⟩ (multiReduction .add [0] ⟨1, ![128]⟩
      (mulf (extractStridedSlice ⟨2, ![256, 128]⟩ ![0, 0] (dynamicRotate 0 (BitVec.ofNat 32 (287 - k)) none W h) hs) dy) 0x00000000#32 hr (.inl rfl) rfl) h2)
      (ix2 (0 : Fin 1) l) = v + gather W dy k l := by
  rw [← H]
  refine congrArg₂ (fun (a : EReal) b => a + b) (congrFun (shapeCast_self row h1) _) ?_
  rw [shapeCast_apply _ _ _ (ix1 l) (by rw [Shape.rowMajor_val_one, Shape.rowMajor_val_two]; show l.val = 0 * 128 + l.val; omega), column_sum]
  refine Finset.sum_congr rfl fun r _ => congrArg (fun (a : EReal) => a * dy (ix2 r l)) ?_
  rw [tap_apply]
  congr 2
  apply Fin.ext
  show (r.val + 288 - (287 - k) % 2 ^ 32 % 288) % 288 = (r.val + 1 + k) % 288
  have := r.isLt
  omega

/-- The same, from other names of the window and the tile. -/
theorem row_from {W' W : Vec Ideal ⟨2, ![288, 128]⟩ .f32} {dy' dy : Vec Ideal ⟨2, ![256, 128]⟩ .f32} (eW : W' = W) (ed : dy' = dy) (k : ℕ) (hk : k < 31)
    (h : (⟨2, ![288, 128]⟩ : Shape).Rotates 0 none) (hs : (⟨2, ![288, 128]⟩ : Shape).Slices ![0, 0] ⟨2, ![256, 128]⟩)
    (hr : (⟨2, ![256, 128]⟩ : Shape).Reduces [0] ⟨1, ![128]⟩) (h1 : (⟨2, ![1, 128]⟩ : Shape).ShapeCasts ⟨2, ![1, 128]⟩)
    (h2 : (⟨1, ![128]⟩ : Shape).ShapeCasts ⟨2, ![1, 128]⟩) (row : FVec Ideal ⟨2, ![1, 128]⟩ .f32) (l : Fin 128) (v : EReal)
    (H : row (ix2 (0 : Fin 1) l) = v) :
    addf (shapeCast ⟨2, ![1, 128]⟩ row h1) (shapeCast ⟨2, ![1, 128]⟩ (multiReduction .add [0] ⟨1, ![128]⟩
      (mulf (extractStridedSlice ⟨2, ![256, 128]⟩ ![0, 0] (dynamicRotate 0 (BitVec.ofNat 32 (287 - k)) none W' h) hs) dy') 0x00000000#32 hr (.inl rfl) rfl) h2)
      (ix2 (0 : Fin 1) l) = v + gather W dy k l := by
  subst eW ed
  exact row_step W' dy' k hk h hs hr h1 h2 row l v H

/-- A stored row is what is read there; elsewhere the stores before it are. -/
theorem row_canon (acc : Vec Ideal ⟨2, ![31, 128]⟩ .f32) (W : Vec Ideal ⟨2, ![288, 128]⟩ .f32) (dy : Vec Ideal ⟨2, ![256, 128]⟩ .f32)
    (k : Fin 31) (l : Fin 128) (j : ℕ) (hj : j < 31)
    (hi : ∀ a, (![j, 0] : Fin 2 → ℕ) a + (![1, 128] : Fin 2 → ℕ) a ≤ (⟨2, ![31, 128]⟩ : Shape).size a)
    (pay : Vec Ideal ⟨2, ![1, 128]⟩ .f32) (L : List (View.Piece (Elt Ideal) ⟨2, ![31, 128]⟩ .f32))
    (H : pay (ix2 (0 : Fin 1) l) = acc (ix2 (⟨j, hj⟩ : Fin 31) l) + gather W dy j l)
    (rest : k.val ≠ j → View.canon L (ix2 k l) = gathered acc W dy (ix2 k l)) :
    View.canon ((⟨Rect.unit (s := ⟨2, ![31, 128]⟩) ![j, 0] ![1, 128] hi, pay⟩ : View.Piece (Elt Ideal) ⟨2, ![31, 128]⟩ .f32) :: L) (ix2 k l)
      = gathered acc W dy (ix2 k l) := by
  by_cases e : k.val = j
  · have p : (ix2 k l : (⟨2, ![31, 128]⟩ : Shape).Idx) = (Rect.unit (s := ⟨2, ![31, 128]⟩) ![j, 0] ![1, 128] hi).emb (ix2 (0 : Fin 1) l) := by
      funext a
      apply Fin.ext
      match a with
      | ⟨0, _⟩ => show k.val = j + 1 * 0; omega
      | ⟨1, _⟩ => show l.val = 0 + 1 * l.val; omega
    have hk : k = ⟨j, hj⟩ := Fin.ext e
    rw [p, View.canon_cons_emb, ← p]
    refine H.trans ?_
    subst hk
    rfl
  · rw [View.canon_cons_of_not_mem _ _ ?_]
    · exact rest e
    · intro hm
      obtain ⟨x, hx⟩ := (Rect.unit (s := ⟨2, ![31, 128]⟩) ![j, 0] ![1, 128] hi).exists_idx_of_mem hm
      have q := congrArg (fun z : (⟨2, ![31, 128]⟩ : Shape).Idx => (z 0).val) hx
      have q' : j + 1 * (x 0).val = k.val := q
      have b : (x 0).val < 1 := (x 0).isLt
      omega

/-- A row read back past the store of another. -/
theorem row_skip {sig : RefSig} {κ : Kind} {sp : Space} (v : View sig κ sp ⟨2, ![31, 128]⟩ .f32) (j j' : ℕ)
    (hi : ∀ a, (![j, 0] : Fin 2 → ℕ) a + (![1, 128] : Fin 2 → ℕ) a ≤ (⟨2, ![31, 128]⟩ : Shape).size a)
    (hi' : ∀ a, (![j', 0] : Fin 2 → ℕ) a + (![1, 128] : Fin 2 → ℕ) a ≤ (⟨2, ![31, 128]⟩ : Shape).size a)
    (pay : Vec Ideal ⟨2, ![1, 128]⟩ .f32) (L : List (View.Piece (Elt Ideal) ⟨2, ![31, 128]⟩ .f32)) (x : (⟨2, ![1, 128]⟩ : Shape).Idx) (u : EReal)
    (hd : LoadRect.disj (Rect.unit (s := ⟨2, ![31, 128]⟩) ![j', 0] ![1, 128] hi') (Rect.unit (s := ⟨2, ![31, 128]⟩) ![j, 0] ![1, 128] hi).toLoadRect = true)
    (H : v.readCov L (Rect.unit (s := ⟨2, ![31, 128]⟩) ![j, 0] ![1, 128] hi).toLoadRect x = u) :
    v.readCov ((⟨Rect.unit (s := ⟨2, ![31, 128]⟩) ![j', 0] ![1, 128] hi', pay⟩ : View.Piece (Elt Ideal) ⟨2, ![31, 128]⟩ .f32) :: L)
      (Rect.unit (s := ⟨2, ![31, 128]⟩) ![j, 0] ![1, 128] hi).toLoadRect x = u := by
  rw [View.readCov_skip _ _ _ _ _ hd]
  exact H

end Conv

end
-- ==== Proof.Conv17.lean ====
/- The convolution's gradient with respect to its weights: the tiles of rows add up to the reference's sum over the rows. -/
module

public import proofs.«01_k».proof.Proof.ConvRef17
public import proofs.«01_k».proof.Proof.ConvRows
public import proofs.«01_k».proof.Proof.Gen.Kernel17Ideal.Value

@[expose] public section

set_option maxRecDepth 16384

noncomputable section

namespace Conv.K17

open Cert.Kernel17Ideal Cert.Kernel17Ideal.Gen Idealize.ShloMosaic Idealize.ShloMosaic.TcCoe Idealize.SL.Sem
open Idealize.ShloMosaic.ValueIdx AttGrad

theorem starts : (![0, 0] : Fin 2 → ℕ) = fun _ => 0 := by funext a; match a with
  | ⟨0, _⟩ => rfl
  | ⟨1, _⟩ => rfl

/-! ## What a point leaves -/

section Point
variable (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S31x128 .f32) (harg6 : arg6.IsWhole)
  (x0 x1 x2 x3 : Vec Ideal S256x128 .f32)

/-- The window the body makes of its three blocks. -/
def win : Vec Ideal S288x128 .f32 :=
  k0_pay2 i (View.ld x0 (Rect.unit (s := S256x128) ![240, 0] S16x128.size inb_S256x128_S16x128_240_0)) (View.ld x2 (Rect.unit (s := S256x128) ![0, 0] S16x128.size inb_S256x128_S16x128_0_0)) x1

theorem win_eq : win i x0 x1 x2 = window (i 1).val (View.ld x0 (Rect.unit (s := S256x128) ![240, 0] S16x128.size inb_S256x128_S16x128_240_0))
    (View.ld x2 (Rect.unit (s := S256x128) ![0, 0] S16x128.size inb_S256x128_S16x128_0_0)) x1 := rfl

/-- A row of what the points before left, loaded. -/
theorem row_load (acc : Vec Ideal S31x128 .f32) (j : ℕ) (hj : j < 31)
    (hi : ∀ a, (![j, 0] : Fin 2 → ℕ) a + (![1, 128] : Fin 2 → ℕ) a ≤ S31x128.size a) (l : Fin 128) :
    (View.ld acc (Rect.unit (s := S31x128) ![j, 0] ![1, 128] hi) : Vec Ideal S1x128 .f32) (ix2 (0 : Fin 1) l) = acc (ix2 (⟨j, hj⟩ : Fin 31) l) :=
  View.ld_unit_apply_of acc _ _ hi _ _ fun a => by
    match a with
    | ⟨0, _⟩ => show j = j + 0; omega
    | ⟨1, _⟩ => show l.val = 0 + l.val; omega

/-- A later point adds what its taps gather. -/
theorem later_point (h0 : ¬cond0_0 i) (acc : Vec Ideal S31x128 .f32) :
    out0_B_4 c i arg2 harg2 arg3 harg3 arg4 harg4 arg5 harg5 arg6 harg6 h0 x0 x1 x2 x3 acc = gathered acc (win i x0 x1 x2) x3 := by
  unfold out0_B_4
  rw [View.read_writes_eq_canon _ _ _ (cover0_B_4 c i arg2 harg2 arg3 harg3 arg4 harg4 arg5 harg5 arg6 harg6 h0 x0 x1 x2 x3 acc)]
  unfold kernelRun0_B
  dsimp only
  sl_unfold_words
  simp only [View.readAt_eq_ld, harg2.read_unread, harg3.read_unread, harg4.read_unread, harg5.read_unread, harg6.read_unread, View.ld_unit_zero (S := S256x128) starts]
  funext y
  obtain ⟨k, l, rfl⟩ := Products.cases2 y
  refine row_canon acc (win i x0 x1 x2) x3 k l 30 (by decide) _ _ _ ?_ fun n30 => ?_
  · exact row_step (win i x0 x1 x2) x3 30 (by decide) _ _ _ _ _ _ l _ (row_load acc 30 (by decide) _ l)
  refine row_canon acc (win i x0 x1 x2) x3 k l 29 (by decide) _ _ _ ?_ fun n29 => ?_
  · exact row_step (win i x0 x1 x2) x3 29 (by decide) _ _ _ _ _ _ l _ (row_load acc 29 (by decide) _ l)
  refine row_canon acc (win i x0 x1 x2) x3 k l 28 (by decide) _ _ _ ?_ fun n28 => ?_
  · exact row_step (win i x0 x1 x2) x3 28 (by decide) _ _ _ _ _ _ l _ (row_load acc 28 (by decide) _ l)
  refine row_canon acc (win i x0 x1 x2) x3 k l 27 (by decide) _ _ _ ?_ fun n27 => ?_
  · exact row_step (win i x0 x1 x2) x3 27 (by decide) _ _ _ _ _ _ l _ (row_load acc 27 (by decide) _ l)
  refine row_canon acc (win i x0 x1 x2) x3 k l 26 (by decide) _ _ _ ?_ fun n26 => ?_
  · exact row_step (win i x0 x1 x2) x3 26 (by decide) _ _ _ _ _ _ l _ (row_load acc 26 (by decide) _ l)
  refine row_canon acc (win i x0 x1 x2) x3 k l 25 (by decide) _ _ _ ?_ fun n25 => ?_
  · exact row_step (win i x0 x1 x2) x3 25 (by decide) _ _ _ _ _ _ l _ (row_load acc 25 (by decide) _ l)
  refine row_canon acc (win i x0 x1 x2) x3 k l 24 (by decide) _ _ _ ?_ fun n24 => ?_
  · exact row_step (win i x0 x1 x2) x3 24 (by decide) _ _ _ _ _ _ l _ (row_load acc 24 (by decide) _ l)
  refine row_canon acc (win i x0 x1 x2) x3 k l 23 (by decide) _ _ _ ?_ fun n23 => ?_
  · exact row_step (win i x0 x1 x2) x3 23 (by decide) _ _ _ _ _ _ l _ (row_load acc 23 (by decide) _ l)
  refine row_canon acc (win i x0 x1 x2) x3 k l 22 (by decide) _ _ _ ?_ fun n22 => ?_
  · exact row_step (win i x0 x1 x2) x3 22 (by decide) _ _ _ _ _ _ l _ (row_load acc 22 (by decide) _ l)
  refine row_canon acc (win i x0 x1 x2) x3 k l 21 (by decide) _ _ _ ?_ fun n21 => ?_
  · exact row_step (win i x0 x1 x2) x3 21 (by decide) _ _ _ _ _ _ l _ (row_load acc 21 (by decide) _ l)
  refine row_canon acc (win i x0 x1 x2) x3 k l 20 (by decide) _ _ _ ?_ fun n20 => ?_
  · exact row_step (win i x0 x1 x2) x3 20 (by decide) _ _ _ _ _ _ l _ (row_load acc 20 (by decide) _ l)
  refine row_canon acc (win i x0 x1 x2) x3 k l 19 (by decide) _ _ _ ?_ fun n19 => ?_
  · exact row_step (win i x0 x1 x2) x3 19 (by decide) _ _ _ _ _ _ l _ (row_load acc 19 (by decide) _ l)
  refine row_canon acc (win i x0 x1 x2) x3 k l 18 (by decide) _ _ _ ?_ fun n18 => ?_
  · exact row_step (win i x0 x1 x2) x3 18 (by decide) _ _ _ _ _ _ l _ (row_load acc 18 (by decide) _ l)
  refine row_canon acc (win i x0 x1 x2) x3 k l 17 (by decide) _ _ _ ?_ fun n17 => ?_
  · exact row_step (win i x0 x1 x2) x3 17 (by decide) _ _ _ _ _ _ l _ (row_load acc 17 (by decide) _ l)
  refine row_canon acc (win i x0 x1 x2) x3 k l 16 (by decide) _ _ _ ?_ fun n16 => ?_
  · exact row_step (win i x0 x1 x2) x3 16 (by decide) rotates_S288x128_d0 slices_S288x128_o0_0_S256x128 reduces_S256x128_S128 shapeCasts_S1x128_S1x128 shapeCasts_S128_S1x128 _ l _ (row_load acc 16 (by decide) _ l)
  refine row_canon acc (win i x0 x1 x2) x3 k l 15 (by decide) _ _ _ ?_ fun n15 => ?_
  · exact row_step (win i x0 x1 x2) x3 15 (by decide) _ _ _ _ _ _ l _ (row_load acc 15 (by decide) _ l)
  refine row_canon acc (win i x0 x1 x2) x3 k l 14 (by decide) _ _ _ ?_ fun n14 => ?_
  · exact row_step (win i x0 x1 x2) x3 14 (by decide) _ _ _ _ _ _ l _ (row_load acc 14 (by decide) _ l)
  refine row_canon acc (win i x0 x1 x2) x3 k l 13 (by decide) _ _ _ ?_ fun n13 => ?_
  · exact row_step (win i x0 x1 x2) x3 13 (by decide) _ _ _ _ _ _ l _ (row_load acc 13 (by decide) _ l)
  refine row_canon acc (win i x0 x1 x2) x3 k l 12 (by decide) _ _ _ ?_ fun n12 => ?_
  · exact row_step (win i x0 x1 x2) x3 12 (by decide) _ _ _ _ _ _ l _ (row_load acc 12 (by decide) _ l)
  refine row_canon acc (win i x0 x1 x2) x3 k l 11 (by decide) _ _ _ ?_ fun n11 => ?_
  · exact row_step (win i x0 x1 x2) x3 11 (by decide) _ _ _ _ _ _ l _ (row_load acc 11 (by decide) _ l)
  refine row_canon acc (win i x0 x1 x2) x3 k l 10 (by decide) _ _ _ ?_ fun n10 => ?_
  · exact row_step (win i x0 x1 x2) x3 10 (by decide) _ _ _ _ _ _ l _ (row_load acc 10 (by decide) _ l)
  refine row_canon acc (win i x0 x1 x2) x3 k l 9 (by decide) _ _ _ ?_ fun n9 => ?_
  · exact row_step (win i x0 x1 x2) x3 9 (by decide) _ _ _ _ _ _ l _ (row_load acc 9 (by decide) _ l)
  refine row_canon acc (win i x0 x1 x2) x3 k l 8 (by decide) _ _ _ ?_ fun n8 => ?_
  · exact row_step (win i x0 x1 x2) x3 8 (by decide) _ _ _ _ _ _ l _ (row_load acc 8 (by decide) _ l)
  refine row_canon acc (win i x0 x1 x2) x3 k l 7 (by decide) _ _ _ ?_ fun n7 => ?_
  · exact row_step (win i x0 x1 x2) x3 7 (by decide) _ _ _ _ _ _ l _ (row_load acc 7 (by decide) _ l)
  refine row_canon acc (win i x0 x1 x2) x3 k l 6 (by decide) _ _ _ ?_ fun n6 => ?_
  · exact row_step (win i x0 x1 x2) x3 6 (by decide) _ _ _ _ _ _ l _ (row_load acc 6 (by decide) _ l)
  refine row_canon acc (win i x0 x1 x2) x3 k l 5 (by decide) _ _ _ ?_ fun n5 => ?_
  · exact row_step (win i x0 x1 x2) x3 5 (by decide) _ _ _ _ _ _ l _ (row_load acc 5 (by decide) _ l)
  refine row_canon acc (win i x0 x1 x2) x3 k l 4 (by decide) _ _ _ ?_ fun n4 => ?_
  · exact row_step (win i x0 x1 x2) x3 4 (by decide) _ _ _ _ _ _ l _ (row_load acc 4 (by decide) _ l)
  refine row_canon acc (win i x0 x1 x2) x3 k l 3 (by decide) _ _ _ ?_ fun n3 => ?_
  · exact row_step (win i x0 x1 x2) x3 3 (by decide) _ _ _ _ _ _ l _ (row_load acc 3 (by decide) _ l)
  refine row_canon acc (win i x0 x1 x2) x3 k l 2 (by decide) _ _ _ ?_ fun n2 => ?_
  · exact row_step (win i x0 x1 x2) x3 2 (by decide) _ _ _ _ _ _ l _ (row_load acc 2 (by decide) _ l)
  refine row_canon acc (win i x0 x1 x2) x3 k l 1 (by decide) _ _ _ ?_ fun n1 => ?_
  · exact row_step (win i x0 x1 x2) x3 1 (by decide) rotates_S288x128_d0 slices_S288x128_o0_0_S256x128 reduces_S256x128_S128 shapeCasts_S1x128_S1x128 shapeCasts_S128_S1x128 _ l _ (row_load acc 1 (by decide) _ l)
  refine row_canon acc (win i x0 x1 x2) x3 k l 0 (by decide) _ _ _ ?_ fun n0 => ?_
  · exact row_step (win i x0 x1 x2) x3 0 (by decide) _ _ _ _ _ _ l _ (row_load acc 0 (by decide) _ l)
  have := k.isLt
  omega

/-- The window, from the loads that make it. -/
theorem win_loads : k0_pay2 i (View.readAt (Elt Ideal) arg2.view (Rect.unit (s := S256x128) ![240, 0] S16x128.size inb_S256x128_S16x128_240_0).toLoadRect (harg2.unread x0))
    (View.readAt (Elt Ideal) arg4.view (Rect.unit (s := S256x128) ![0, 0] S16x128.size inb_S256x128_S16x128_0_0).toLoadRect (harg4.unread x2))
    (View.readAt (Elt Ideal) arg3.view (Rect.unit (s := S256x128) ![0, 0] S256x128.size inb_S256x128_S256x128_0_0).toLoadRect (harg3.unread x1)) = win i x0 x1 x2 := by
  simp only [View.readAt_eq_ld, harg2.read_unread, harg3.read_unread, harg4.read_unread, View.ld_unit_zero (S := S256x128) starts]
  rfl

/-- The cotangent's tile, loaded. -/
theorem tile_load : View.readAt (Elt Ideal) arg5.view (Rect.unit (s := S256x128) ![0, 0] S256x128.size inb_S256x128_S256x128_0_0).toLoadRect (harg5.unread x3) = x3 := by
  simp only [View.readAt_eq_ld, harg5.read_unread, View.ld_unit_zero (S := S256x128) starts]

/-- The rows whose sum is taken in two steps. -/
theorem row_27 {W' W : Vec Ideal S288x128 .f32} {dy' dy : Vec Ideal S256x128 .f32} (eW : W' = W) (ed : dy' = dy) (row : Vec Ideal S1x128 .f32) (l : Fin 128) (v : EReal)
    (H : row (ix2 (0 : Fin 1) l) = v) : k0_pay38 (F := Ideal) (k0_pay36 row) (k0_pay37 W' dy') (ix2 (0 : Fin 1) l) = v + gather W dy 27 l := by
  unfold k0_pay38 k0_pay36 k0_pay37
  exact row_from eW ed 27 (by decide) _ _ _ _ _ row l v H

theorem row_16 {W' W : Vec Ideal S288x128 .f32} {dy' dy : Vec Ideal S256x128 .f32} (eW : W' = W) (ed : dy' = dy) (row : Vec Ideal S1x128 .f32) (l : Fin 128) (v : EReal)
    (H : row (ix2 (0 : Fin 1) l) = v) : k0_pay25 (F := Ideal) dy' (k0_pay23 row) (k0_pay24 W') (ix2 (0 : Fin 1) l) = v + gather W dy 16 l := by
  unfold k0_pay25 k0_pay23 k0_pay24
  exact row_from eW ed 16 (by decide) _ _ _ _ _ row l v H

theorem row_12 {W' W : Vec Ideal S288x128 .f32} {dy' dy : Vec Ideal S256x128 .f32} (eW : W' = W) (ed : dy' = dy) (row : Vec Ideal S1x128 .f32) (l : Fin 128) (v : EReal)
    (H : row (ix2 (0 : Fin 1) l) = v) : k0_pay19 (F := Ideal) (k0_pay17 row) (k0_pay18 W' dy') (ix2 (0 : Fin 1) l) = v + gather W dy 12 l := by
  unfold k0_pay19 k0_pay17 k0_pay18
  exact row_from eW ed 12 (by decide) _ _ _ _ _ row l v H

theorem row_1 {v9 v12 : Vec Ideal S16x128 .f32} {v15 : Vec Ideal S256x128 .f32} {W : Vec Ideal S288x128 .f32} {dy' dy : Vec Ideal S256x128 .f32} (eW : k0_pay2 i v9 v12 v15 = W) (ed : dy' = dy)
    (row : Vec Ideal S1x128 .f32) (l : Fin 128) (v : EReal)
    (H : row (ix2 (0 : Fin 1) l) = v) : k0_pay6 (F := Ideal) dy' (k0_pay4 row) (k0_pay5 i v9 v12 v15) (ix2 (0 : Fin 1) l) = v + gather W dy 1 l := by
  unfold k0_pay6 k0_pay4 k0_pay5
  exact row_from eW ed 1 (by decide) _ _ _ _ _ row l v H

/-- The first point of a block gathers onto zeros. -/
theorem first_point (h0 : cond0_0 i) (k : Fin 31) (l : Fin 128) :
    out0_A_4 c i arg2 harg2 arg3 harg3 arg4 harg4 arg5 harg5 arg6 harg6 h0 x0 x1 x2 x3 (ix2 k l) = gathered (k0_pay1 (F := Ideal)) (win i x0 x1 x2) x3 (ix2 k l) := by
  unfold out0_A_4
  rw [View.read_writes_eq_canon _ _ _ (cover0_A_4 c i arg2 harg2 arg3 harg3 arg4 harg4 arg5 harg5 arg6 harg6 h0 x0 x1 x2 x3)]
  unfold kernelRun0_A
  dsimp only
  sl_unfold_words
  have eW := win_loads i arg2 harg2 arg3 harg3 arg4 harg4 x0 x1 x2
  have ed := tile_load arg5 harg5 x3
  refine row_canon (k0_pay1 (F := Ideal)) (win i x0 x1 x2) x3 k l 30 (by decide) _ _ _ ?_ fun n30 => ?_
  · refine row_from eW ed 30 (by decide) _ _ _ _ _ _ l _ ?_
    iterate 30 refine row_skip _ 30 _ _ _ _ _ _ _ (by decide) ?_
    rw [View.readCov_fill _ _ _ _ _ (fun a => by rw [starts])]
    exact row_load (k0_pay1 (F := Ideal)) 30 (by decide) _ l
  refine row_canon (k0_pay1 (F := Ideal)) (win i x0 x1 x2) x3 k l 29 (by decide) _ _ _ ?_ fun n29 => ?_
  · refine row_from eW ed 29 (by decide) _ _ _ _ _ _ l _ ?_
    iterate 29 refine row_skip _ 29 _ _ _ _ _ _ _ (by decide) ?_
    rw [View.readCov_fill _ _ _ _ _ (fun a => by rw [starts])]
    exact row_load (k0_pay1 (F := Ideal)) 29 (by decide) _ l
  refine row_canon (k0_pay1 (F := Ideal)) (win i x0 x1 x2) x3 k l 28 (by decide) _ _ _ ?_ fun n28 => ?_
  · refine row_from eW ed 28 (by decide) _ _ _ _ _ _ l _ ?_
    iterate 28 refine row_skip _ 28 _ _ _ _ _ _ _ (by decide) ?_
    rw [View.readCov_fill _ _ _ _ _ (fun a => by rw [starts])]
    exact row_load (k0_pay1 (F := Ideal)) 28 (by decide) _ l
  refine row_canon (k0_pay1 (F := Ideal)) (win i x0 x1 x2) x3 k l 27 (by decide) _ _ _ ?_ fun n27 => ?_
  · refine row_27 eW ed _ l _ ?_
    iterate 27 refine row_skip _ 27 _ _ _ _ _ _ _ (by decide) ?_
    rw [View.readCov_fill _ _ _ _ _ (fun a => by rw [starts])]
    exact row_load (k0_pay1 (F := Ideal)) 27 (by decide) _ l
  refine row_canon (k0_pay1 (F := Ideal)) (win i x0 x1 x2) x3 k l 26 (by decide) _ _ _ ?_ fun n26 => ?_
  · refine row_from eW ed 26 (by decide) _ _ _ _ _ _ l _ ?_
    iterate 26 refine row_skip _ 26 _ _ _ _ _ _ _ (by decide) ?_
    rw [View.readCov_fill _ _ _ _ _ (fun a => by rw [starts])]
    exact row_load (k0_pay1 (F := Ideal)) 26 (by decide) _ l
  refine row_canon (k0_pay1 (F := Ideal)) (win i x0 x1 x2) x3 k l 25 (by decide) _ _ _ ?_ fun n25 => ?_
  · refine row_from eW ed 25 (by decide) _ _ _ _ _ _ l _ ?_
    iterate 25 refine row_skip _ 25 _ _ _ _ _ _ _ (by decide) ?_
    rw [View.readCov_fill _ _ _ _ _ (fun a => by rw [starts])]
    exact row_load (k0_pay1 (F := Ideal)) 25 (by decide) _ l
  refine row_canon (k0_pay1 (F := Ideal)) (win i x0 x1 x2) x3 k l 24 (by decide) _ _ _ ?_ fun n24 => ?_
  · refine row_from eW ed 24 (by decide) _ _ _ _ _ _ l _ ?_
    iterate 24 refine row_skip _ 24 _ _ _ _ _ _ _ (by decide) ?_
    rw [View.readCov_fill _ _ _ _ _ (fun a => by rw [starts])]
    exact row_load (k0_pay1 (F := Ideal)) 24 (by decide) _ l
  refine row_canon (k0_pay1 (F := Ideal)) (win i x0 x1 x2) x3 k l 23 (by decide) _ _ _ ?_ fun n23 => ?_
  · refine row_from eW ed 23 (by decide) _ _ _ _ _ _ l _ ?_
    iterate 23 refine row_skip _ 23 _ _ _ _ _ _ _ (by decide) ?_
    rw [View.readCov_fill _ _ _ _ _ (fun a => by rw [starts])]
    exact row_load (k0_pay1 (F := Ideal)) 23 (by decide) _ l
  refine row_canon (k0_pay1 (F := Ideal)) (win i x0 x1 x2) x3 k l 22 (by decide) _ _ _ ?_ fun n22 => ?_
  · refine row_from eW ed 22 (by decide) _ _ _ _ _ _ l _ ?_
    iterate 22 refine row_skip _ 22 _ _ _ _ _ _ _ (by decide) ?_
    rw [View.readCov_fill _ _ _ _ _ (fun a => by rw [starts])]
    exact row_load (k0_pay1 (F := Ideal)) 22 (by decide) _ l
  refine row_canon (k0_pay1 (F := Ideal)) (win i x0 x1 x2) x3 k l 21 (by decide) _ _ _ ?_ fun n21 => ?_
  · refine row_from eW ed 21 (by decide) _ _ _ _ _ _ l _ ?_
    iterate 21 refine row_skip _ 21 _ _ _ _ _ _ _ (by decide) ?_
    rw [View.readCov_fill _ _ _ _ _ (fun a => by rw [starts])]
    exact row_load (k0_pay1 (F := Ideal)) 21 (by decide) _ l
  refine row_canon (k0_pay1 (F := Ideal)) (win i x0 x1 x2) x3 k l 20 (by decide) _ _ _ ?_ fun n20 => ?_
  · refine row_from eW ed 20 (by decide) _ _ _ _ _ _ l _ ?_
    iterate 20 refine row_skip _ 20 _ _ _ _ _ _ _ (by decide) ?_
    rw [View.readCov_fill _ _ _ _ _ (fun a => by rw [starts])]
    exact row_load (k0_pay1 (F := Ideal)) 20 (by decide) _ l
  refine row_canon (k0_pay1 (F := Ideal)) (win i x0 x1 x2) x3 k l 19 (by decide) _ _ _ ?_ fun n19 => ?_
  · refine row_from eW ed 19 (by decide) _ _ _ _ _ _ l _ ?_
    iterate 19 refine row_skip _ 19 _ _ _ _ _ _ _ (by decide) ?_
    rw [View.readCov_fill _ _ _ _ _ (fun a => by rw [starts])]
    exact row_load (k0_pay1 (F := Ideal)) 19 (by decide) _ l
  refine row_canon (k0_pay1 (F := Ideal)) (win i x0 x1 x2) x3 k l 18 (by decide) _ _ _ ?_ fun n18 => ?_
  · refine row_from eW ed 18 (by decide) _ _ _ _ _ _ l _ ?_
    iterate 18 refine row_skip _ 18 _ _ _ _ _ _ _ (by decide) ?_
    rw [View.readCov_fill _ _ _ _ _ (fun a => by rw [starts])]
    exact row_load (k0_pay1 (F := Ideal)) 18 (by decide) _ l
  refine row_canon (k0_pay1 (F := Ideal)) (win i x0 x1 x2) x3 k l 17 (by decide) _ _ _ ?_ fun n17 => ?_
  · refine row_from eW ed 17 (by decide) _ _ _ _ _ _ l _ ?_
    iterate 17 refine row_skip _ 17 _ _ _ _ _ _ _ (by decide) ?_
    rw [View.readCov_fill _ _ _ _ _ (fun a => by rw [starts])]
    exact row_load (k0_pay1 (F := Ideal)) 17 (by decide) _ l
  refine row_canon (k0_pay1 (F := Ideal)) (win i x0 x1 x2) x3 k l 16 (by decide) _ _ _ ?_ fun n16 => ?_
  · refine row_16 eW ed _ l _ ?_
    iterate 16 refine row_skip _ 16 _ _ _ _ _ _ _ (by decide) ?_
    rw [View.readCov_fill _ _ _ _ _ (fun a => by rw [starts])]
    exact row_load (k0_pay1 (F := Ideal)) 16 (by decide) _ l
  refine row_canon (k0_pay1 (F := Ideal)) (win i x0 x1 x2) x3 k l 15 (by decide) _ _ _ ?_ fun n15 => ?_
  · refine row_from eW ed 15 (by decide) _ _ _ _ _ _ l _ ?_
    iterate 15 refine row_skip _ 15 _ _ _ _ _ _ _ (by decide) ?_
    rw [View.readCov_fill _ _ _ _ _ (fun a => by rw [starts])]
    exact row_load (k0_pay1 (F := Ideal)) 15 (by decide) _ l
  refine row_canon (k0_pay1 (F := Ideal)) (win i x0 x1 x2) x3 k l 14 (by decide) _ _ _ ?_ fun n14 => ?_
  · refine row_from eW ed 14 (by decide) _ _ _ _ _ _ l _ ?_
    iterate 14 refine row_skip _ 14 _ _ _ _ _ _ _ (by decide) ?_
    rw [View.readCov_fill _ _ _ _ _ (fun a => by rw [starts])]
    exact row_load (k0_pay1 (F := Ideal)) 14 (by decide) _ l
  refine row_canon (k0_pay1 (F := Ideal)) (win i x0 x1 x2) x3 k l 13 (by decide) _ _ _ ?_ fun n13 => ?_
  · refine row_from eW ed 13 (by decide) _ _ _ _ _ _ l _ ?_
    iterate 13 refine row_skip _ 13 _ _ _ _ _ _ _ (by decide) ?_
    rw [View.readCov_fill _ _ _ _ _ (fun a => by rw [starts])]
    exact row_load (k0_pay1 (F := Ideal)) 13 (by decide) _ l
  refine row_canon (k0_pay1 (F := Ideal)) (win i x0 x1 x2) x3 k l 12 (by decide) _ _ _ ?_ fun n12 => ?_
  · refine row_12 eW ed _ l _ ?_
    iterate 12 refine row_skip _ 12 _ _ _ _ _ _ _ (by decide) ?_
    rw [View.readCov_fill _ _ _ _ _ (fun a => by rw [starts])]
    exact row_load (k0_pay1 (F := Ideal)) 12 (by decide) _ l
  refine row_canon (k0_pay1 (F := Ideal)) (win i x0 x1 x2) x3 k l 11 (by decide) _ _ _ ?_ fun n11 => ?_
  · refine row_from eW ed 11 (by decide) _ _ _ _ _ _ l _ ?_
    iterate 11 refine row_skip _ 11 _ _ _ _ _ _ _ (by decide) ?_
    rw [View.readCov_fill _ _ _ _ _ (fun a => by rw [starts])]
    exact row_load (k0_pay1 (F := Ideal)) 11 (by decide) _ l
  refine row_canon (k0_pay1 (F := Ideal)) (win i x0 x1 x2) x3 k l 10 (by decide) _ _ _ ?_ fun n10 => ?_
  · refine row_from eW ed 10 (by decide) _ _ _ _ _ _ l _ ?_
    iterate 10 refine row_skip _ 10 _ _ _ _ _ _ _ (by decide) ?_
    rw [View.readCov_fill _ _ _ _ _ (fun a => by rw [starts])]
    exact row_load (k0_pay1 (F := Ideal)) 10 (by decide) _ l
  refine row_canon (k0_pay1 (F := Ideal)) (win i x0 x1 x2) x3 k l 9 (by decide) _ _ _ ?_ fun n9 => ?_
  · refine row_from eW ed 9 (by decide) _ _ _ _ _ _ l _ ?_
    iterate 9 refine row_skip _ 9 _ _ _ _ _ _ _ (by decide) ?_
    rw [View.readCov_fill _ _ _ _ _ (fun a => by rw [starts])]
    exact row_load (k0_pay1 (F := Ideal)) 9 (by decide) _ l
  refine row_canon (k0_pay1 (F := Ideal)) (win i x0 x1 x2) x3 k l 8 (by decide) _ _ _ ?_ fun n8 => ?_
  · refine row_from eW ed 8 (by decide) _ _ _ _ _ _ l _ ?_
    iterate 8 refine row_skip _ 8 _ _ _ _ _ _ _ (by decide) ?_
    rw [View.readCov_fill _ _ _ _ _ (fun a => by rw [starts])]
    exact row_load (k0_pay1 (F := Ideal)) 8 (by decide) _ l
  refine row_canon (k0_pay1 (F := Ideal)) (win i x0 x1 x2) x3 k l 7 (by decide) _ _ _ ?_ fun n7 => ?_
  · refine row_from eW ed 7 (by decide) _ _ _ _ _ _ l _ ?_
    iterate 7 refine row_skip _ 7 _ _ _ _ _ _ _ (by decide) ?_
    rw [View.readCov_fill _ _ _ _ _ (fun a => by rw [starts])]
    exact row_load (k0_pay1 (F := Ideal)) 7 (by decide) _ l
  refine row_canon (k0_pay1 (F := Ideal)) (win i x0 x1 x2) x3 k l 6 (by decide) _ _ _ ?_ fun n6 => ?_
  · refine row_from eW ed 6 (by decide) _ _ _ _ _ _ l _ ?_
    iterate 6 refine row_skip _ 6 _ _ _ _ _ _ _ (by decide) ?_
    rw [View.readCov_fill _ _ _ _ _ (fun a => by rw [starts])]
    exact row_load (k0_pay1 (F := Ideal)) 6 (by decide) _ l
  refine row_canon (k0_pay1 (F := Ideal)) (win i x0 x1 x2) x3 k l 5 (by decide) _ _ _ ?_ fun n5 => ?_
  · refine row_from eW ed 5 (by decide) _ _ _ _ _ _ l _ ?_
    iterate 5 refine row_skip _ 5 _ _ _ _ _ _ _ (by decide) ?_
    rw [View.readCov_fill _ _ _ _ _ (fun a => by rw [starts])]
    exact row_load (k0_pay1 (F := Ideal)) 5 (by decide) _ l
  refine row_canon (k0_pay1 (F := Ideal)) (win i x0 x1 x2) x3 k l 4 (by decide) _ _ _ ?_ fun n4 => ?_
  · refine row_from eW ed 4 (by decide) _ _ _ _ _ _ l _ ?_
    iterate 4 refine row_skip _ 4 _ _ _ _ _ _ _ (by decide) ?_
    rw [View.readCov_fill _ _ _ _ _ (fun a => by rw [starts])]
    exact row_load (k0_pay1 (F := Ideal)) 4 (by decide) _ l
  refine row_canon (k0_pay1 (F := Ideal)) (win i x0 x1 x2) x3 k l 3 (by decide) _ _ _ ?_ fun n3 => ?_
  · refine row_from eW ed 3 (by decide) _ _ _ _ _ _ l _ ?_
    iterate 3 refine row_skip _ 3 _ _ _ _ _ _ _ (by decide) ?_
    rw [View.readCov_fill _ _ _ _ _ (fun a => by rw [starts])]
    exact row_load (k0_pay1 (F := Ideal)) 3 (by decide) _ l
  refine row_canon (k0_pay1 (F := Ideal)) (win i x0 x1 x2) x3 k l 2 (by decide) _ _ _ ?_ fun n2 => ?_
  · refine row_from eW ed 2 (by decide) _ _ _ _ _ _ l _ ?_
    iterate 2 refine row_skip _ 2 _ _ _ _ _ _ _ (by decide) ?_
    rw [View.readCov_fill _ _ _ _ _ (fun a => by rw [starts])]
    exact row_load (k0_pay1 (F := Ideal)) 2 (by decide) _ l
  refine row_canon (k0_pay1 (F := Ideal)) (win i x0 x1 x2) x3 k l 1 (by decide) _ _ _ ?_ fun n1 => ?_
  · refine row_1 i eW ed _ l _ ?_
    iterate 1 refine row_skip _ 1 _ _ _ _ _ _ _ (by decide) ?_
    rw [View.readCov_fill _ _ _ _ _ (fun a => by rw [starts])]
    exact row_load (k0_pay1 (F := Ideal)) 1 (by decide) _ l
  refine row_canon (k0_pay1 (F := Ideal)) (win i x0 x1 x2) x3 k l 0 (by decide) _ _ _ ?_ fun n0 => ?_
  · refine row_from eW ed 0 (by decide) _ _ _ _ _ _ l _ ?_
    iterate 0 refine row_skip _ 0 _ _ _ _ _ _ _ (by decide) ?_
    rw [View.readCov_fill _ _ _ _ _ (fun a => by rw [starts])]
    exact row_load (k0_pay1 (F := Ideal)) 0 (by decide) _ l
  have := k.isLt
  omega

end Point

/-! ## The blocks of a grid point -/

variable (m : (ℓ : Loc nD τ sig) → Buf (Elt Ideal) ℓ) (c : Dev nD)

/-- The input and the cotangent. -/
abbrev inp : Vec Ideal S4352x512 .f32 := m ((c : Thread nD τ).loc main_arg0)
abbrev ct : Vec Ideal S4352x512 .f32 := m ((c : Thread nD τ).loc main_arg2)

/-- The point of lanes `b` and tile `n`. -/
def pt (b : Fin 4) (n : Fin 17) : Fin cfg0.N := ⟨17 * b.val + n.val, by show 17 * b.val + n.val < 68; omega⟩
theorem pt_mod (b : Fin 4) (n : Fin 17) : (pt b n).val % 17 = n.val := by show (17 * b.val + n.val) % 17 = n.val; omega
theorem pt_div (b : Fin 4) (n : Fin 17) : (pt b n).val / 17 = b.val := by show (17 * b.val + n.val) / 17 = b.val; omega
theorem coord (b : Fin 4) (n : Fin 17) : (grid0.coords (pt b n) 1).val = n.val :=
  ((by decide +kernel : ∀ t : Fin grid0.N, (grid0.coords t 1).val = t.val % 17) (pt b n)).trans (pt_mod b n)

/-- Lane `l` of lane block `b`. -/
def lane (b : Fin 4) (l : Fin 128) : Fin 512 := ⟨128 * b.val + l.val, by omega⟩

theorem index_near : ∀ t : Fin cfg0.N, win0_0.index t = ![t.val % 17 - 1, t.val / 17] ∧ win0_1.index t = ![t.val % 17, t.val / 17]
    ∧ win0_2.index t = ![min (t.val % 17 + 1) 16, t.val / 17] :=
  (by decide +kernel : ∀ t : Fin grid0.N, win0_0.index t = ![t.val % 17 - 1, t.val / 17] ∧ win0_1.index t = ![t.val % 17, t.val / 17]
    ∧ win0_2.index t = ![min (t.val % 17 + 1) 16, t.val / 17])
theorem index_else : ∀ t : Fin cfg0.N, win0_3.index t = ![t.val % 17, t.val / 17] ∧ win0_4.index t = ![0, t.val / 17] :=
  (by decide +kernel : ∀ t : Fin grid0.N, win0_3.index t = ![t.val % 17, t.val / 17] ∧ win0_4.index t = ![0, t.val / 17])

variable (b : Fin 4) (n : Fin 17) (l : Fin 128)

theorem before_block (h : 1 ≤ n.val) (a : Fin 256) : (iblk m c 0 (pt b n) : Vec Ideal S256x128 .f32) (ix2 a l)
    = inp m c (ix2 (⟨256 * (n.val - 1) + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_0.index (pt b n) 0 * 256 + 1 * a.val = 256 * (n.val - 1) + a.val; rw [(index_near (pt b n)).1]; show ((pt b n).val % 17 - 1) * 256 + 1 * a.val = _; rw [pt_mod]; ring
  | ⟨1, _⟩ => show win0_0.index (pt b n) 1 * 128 + 1 * l.val = 128 * b.val + l.val; rw [(index_near (pt b n)).1]; show (pt b n).val / 17 * 128 + 1 * l.val = _; rw [pt_div]; ring

theorem here_block (a : Fin 256) : (iblk m c 1 (pt b n) : Vec Ideal S256x128 .f32) (ix2 a l)
    = inp m c (ix2 (⟨256 * n.val + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_1.index (pt b n) 0 * 256 + 1 * a.val = 256 * n.val + a.val; rw [(index_near (pt b n)).2.1]; show (pt b n).val % 17 * 256 + 1 * a.val = _; rw [pt_mod]; ring
  | ⟨1, _⟩ => show win0_1.index (pt b n) 1 * 128 + 1 * l.val = 128 * b.val + l.val; rw [(index_near (pt b n)).2.1]; show (pt b n).val / 17 * 128 + 1 * l.val = _; rw [pt_div]; ring

theorem after_block (h : n.val < 16) (a : Fin 256) : (iblk m c 2 (pt b n) : Vec Ideal S256x128 .f32) (ix2 a l)
    = inp m c (ix2 (⟨256 * (n.val + 1) + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_2.index (pt b n) 0 * 256 + 1 * a.val = 256 * (n.val + 1) + a.val; rw [(index_near (pt b n)).2.2]; show min ((pt b n).val % 17 + 1) 16 * 256 + 1 * a.val = _; rw [pt_mod, Nat.min_eq_left (by omega)]; ring
  | ⟨1, _⟩ => show win0_2.index (pt b n) 1 * 128 + 1 * l.val = 128 * b.val + l.val; rw [(index_near (pt b n)).2.2]; show (pt b n).val / 17 * 128 + 1 * l.val = _; rw [pt_div]; ring

theorem ct_block (a : Fin 256) : (iblk m c 3 (pt b n) : Vec Ideal S256x128 .f32) (ix2 a l)
    = ct m c (ix2 (⟨256 * n.val + a.val, by omega⟩ : Fin 4352) (lane b l)) := by
  unfold iblk
  rw [View.read_apply]
  refine Eq.trans ?_ (congrFun (V_main_arg2 m c) _)
  show V m c main_arg2 _ = V m c main_arg2 _
  congr 1
  funext x
  apply Fin.ext
  match x with
  | ⟨0, _⟩ => show win0_3.index (pt b n) 0 * 256 + 1 * a.val = 256 * n.val + a.val; rw [(index_else (pt b n)).1]; show (pt b n).val % 17 * 256 + 1 * a.val = _; rw [pt_mod]; ring
  | ⟨1, _⟩ => show win0_3.index (pt b n) 1 * 128 + 1 * l.val = 128 * b.val + l.val; rw [(index_else (pt b n)).1]; show (pt b n).val / 17 * 128 + 1 * l.val = _; rw [pt_div]; ring

/-! ## The sum over the tiles -/

/-- A row of the window is what a tap reads. -/
theorem win_reach (r : Fin 256) (k : Fin 31) (q : Fin 288) (hq : q.val = r.val + k.val + 1) :
    win (grid0.coords (pt b n)) (iblk m c 0 (pt b n)) (iblk m c 1 (pt b n)) (iblk m c 2 (pt b n)) (ix2 q l)
      = reach (fun p => inp m c (ix2 p (lane b l))) (256 * n.val + r.val) k.val := by
  rw [win_eq, coord]
  refine window_reach n.val _ _ _ l (fun p => inp m c (ix2 p (lane b l))) n.isLt (fun h a => ?_) (fun a => ?_) (fun h a => ?_) r k q hq
  · refine (View.ld_unit_apply_of (iblk m c 0 (pt b n) : Vec Ideal S256x128 .f32) _ _ _ _ (ix2 (⟨240 + a.val, by omega⟩ : Fin 256) l) fun x => ?_).trans ?_
    · match x with
      | ⟨0, _⟩ => rfl
      | ⟨1, _⟩ => show l.val = 0 + l.val; omega
    · refine (before_block m c b n l h _).trans (congrArg (fun p => inp m c (ix2 p (lane b l))) (Fin.ext ?_))
      show 256 * (n.val - 1) + (240 + a.val) = 256 * (n.val - 1) + 240 + a.val
      omega
  · exact here_block m c b n l a
  · refine (View.ld_unit_apply_of (iblk m c 2 (pt b n) : Vec Ideal S256x128 .f32) _ _ _ _ (ix2 (⟨a.val, by omega⟩ : Fin 256) l) fun x => ?_).trans ?_
    · match x with
      | ⟨0, _⟩ => show a.val = 0 + a.val; omega
      | ⟨1, _⟩ => show l.val = 0 + l.val; omega
    · exact after_block m c b n l h _

/-- The summands of the gradient's entry. -/
def term (k : Fin 31) (x : Fin 512) (p : Fin 4352) : EReal := reach (fun q => inp m c (ix2 q x)) p.val k.val * ct m c (ix2 p x)

/-- What a point's tap gathers is its tile of the sum. -/
theorem gather_apply (k : Fin 31) :
    gather (win (grid0.coords (pt b n)) (iblk m c 0 (pt b n)) (iblk m c 1 (pt b n)) (iblk m c 2 (pt b n))) (iblk m c 3 (pt b n)) k.val l
      = Products.tile 256 (term m c k (lane b l)) n.val := by
  rw [Products.tile_of _ _ (fun r : Fin 256 => by omega)]
  refine Finset.sum_congr rfl fun r _ => ?_
  have hk := k.isLt
  have hr := r.isLt
  refine congrArg₂ (fun (a : EReal) b => a * b) ?_ (ct_block m c b n l r)
  refine win_reach m c b n l r k _ ?_
  show (r.val + 1 + k.val) % 288 = r.val + k.val + 1
  omega

theorem same_state (n n' : ℕ) (h : n = n') (hn : n < cfg0.N) (hn' : n' < cfg0.N) : outsAt0 m c n hn = outsAt0 m c n' hn' := by subst h; rfl

theorem start_apply (k : Fin 31) :
    (outsAt0 m c (pt b 0).val (pt b 0).isLt : Vec Ideal S31x128 .f32) (ix2 k l) = Products.tile 256 (term m c k (lane b l)) 0 := by
  rw [outsAt0_A m c (pt b 0) (pt_mod b 0)]
  refine (first_point c (grid0.coords (pt b 0)) _ _ _ _ _ _ _ _ _ _ (iblk m c 0 (pt b 0)) (iblk m c 1 (pt b 0)) (iblk m c 2 (pt b 0)) (iblk m c 3 (pt b 0)) _ k l).trans ?_
  refine Eq.trans (b := (0 : EReal) + gather (win (grid0.coords (pt b 0)) (iblk m c 0 (pt b 0)) (iblk m c 1 (pt b 0)) (iblk m c 2 (pt b 0))) (iblk m c 3 (pt b 0)) k.val l)
    (congrArg (fun (a : EReal) => a + _) Ideal.ofBits_zero_f32) ?_
  rw [zero_add]
  exact gather_apply m c b 0 l k

theorem step_apply (k : Fin 31) (s : ℕ) (hs : s + 1 < 17) :
    (outsAt0 m c (pt b ⟨s + 1, hs⟩).val (pt b ⟨s + 1, hs⟩).isLt : Vec Ideal S31x128 .f32) (ix2 k l)
      = (outsAt0 m c (pt b ⟨s, Nat.lt_of_succ_lt hs⟩).val (pt b ⟨s, Nat.lt_of_succ_lt hs⟩).isLt : Vec Ideal S31x128 .f32) (ix2 k l)
        + Products.tile 256 (term m c k (lane b l)) (s + 1) := by
  rw [outsAt0_B m c (pt b ⟨s + 1, hs⟩) (by rw [pt_mod]; exact Nat.succ_ne_zero s), later_point,
    same_state m c ((pt b ⟨s + 1, hs⟩).val - 1) (pt b ⟨s, Nat.lt_of_succ_lt hs⟩).val rfl _ (pt b ⟨s, Nat.lt_of_succ_lt hs⟩).isLt]
  exact congrArg ((outsAt0 m c (pt b ⟨s, Nat.lt_of_succ_lt hs⟩).val (pt b ⟨s, Nat.lt_of_succ_lt hs⟩).isLt : Vec Ideal S31x128 .f32) (ix2 k l) + ·)
    (gather_apply m c b ⟨s + 1, hs⟩ l k)

/-- At the last tile the block holds the whole sum. -/
theorem total (k : Fin 31) :
    (outsAt0 m c (pt b 16).val (pt b 16).isLt : Vec Ideal S31x128 .f32) (ix2 k l) = ∑ p : Fin 4352, term m c k (lane b l) p :=
  Products.accumulated (w := 256) (p := 16) (term m c k (lane b l))
    (fun s hs => (outsAt0 m c (pt b ⟨s, hs⟩).val (pt b ⟨s, hs⟩).isLt : Vec Ideal S31x128 .f32) (ix2 k l)) rfl
    (start_apply m c b l k) (fun s hs => step_apply m c b l k s hs)

/-! ## The array after the run -/

theorem emb4 (k : Fin 31) : (((cfg0.win 4).blk (pt b n)).view.emb (ix2 k l) : S31x512.Idx) = ix2 k (lane b l) := by
  funext a
  apply Fin.ext
  match a with
  | ⟨0, _⟩ => show win0_4.index (pt b n) 0 * 31 + 1 * k.val = k.val; rw [(index_else (pt b n)).2]; show 0 * 31 + 1 * k.val = _; ring
  | ⟨1, _⟩ => show win0_4.index (pt b n) 1 * 128 + 1 * l.val = 128 * b.val + l.val; rw [(index_else (pt b n)).2]; show (pt b n).val / 17 * 128 + 1 * l.val = _; rw [pt_div]; ring

/-- Two write-backs meet no common entry: each is of other lanes. -/
theorem apart : ∀ t t' : Fin cfg0.N, (cfg0.win 4).flush t = true → (cfg0.win 4).flush t' = true → t ≠ t' →
    Disjoint ((cfg0.win 4).blk t).view.set ((cfg0.win 4).blk t').view.set := by
  intro t t' f f' hne
  refine (cfg0.win 4).disjoint_blk fun e => hne (Fin.ext ?_)
  have g := (flush0_4 t).mp f
  have g' := (flush0_4 t').mp f'
  have e' : win0_4.index t = win0_4.index t' := e
  rw [(index_else t).2, (index_else t').2] at e'
  have e1 : t.val / 17 = t'.val / 17 := congrFun e' 1
  omega

/-- The array the run leaves, at an entry. -/
theorem result_apply (k : Fin 31) : ((dats m 0 c).arrAt 4 cfg0.N : Vec Ideal S31x512 .f32) (ix2 k (lane b l))
    = ∑ p : Fin 4352, term m c k (lane b l) p := by
  have e := congrFun ((dats m 0 c).read_blk_arrAt_eq_flushed 4 apart cfg0.N (pt b 16) (pt b 16).isLt ((flush0_4 _).mpr (pt_mod b 16))) (ix2 k l)
  rw [View.read_apply, Cert.Kernel17Ideal.Value.flushed4] at e
  rw [← emb4 b 16 l k]
  exact e.trans (total m c b l k)

/-- What the kernel leaves is what the reference computes. -/
theorem equation : ((dats m 0 c).arrAt 4 cfg0.N : Vec Ideal S31x512 .f32)
    = Cert.Reference17Ideal.Read.val_main_v37 (F := Ideal) (m ((c : Thread nD τ).loc main_arg0)) (m ((c : Thread nD τ).loc main_arg2)) := by
  funext z
  obtain ⟨k, y, rfl⟩ := Products.cases2 z
  obtain ⟨b, l, rfl⟩ := Products.slab_cases (w := 128) (d := 4) (n := 512) rfl (by decide) y
  refine (result_apply m c b l k).trans ?_
  rw [Conv.R17.gradient_apply]
  rfl

end Conv.K17

end
-- ==== Proof.ConvRef18.lean ====
/- The reference's convolution at an entry: a sum over the taps. -/
module

public import proofs.«01_k».proof.Proof.ConvRef
public import proofs.«01_k».proof.Proof.Gen.Reference18Ideal.Read

@[expose] public section

set_option maxRecDepth 16384

noncomputable section

namespace Conv.R18

open Idealize.ShloMosaic Idealize.ShloMosaic.ValueIdx AttGrad
open Cert.Reference18Ideal Cert.Reference18Ideal.Gen Cert.Reference18Ideal.Read

variable (x0 : (⟨S4352x512, .f32⟩ : BufTy).Contents (Elt Ideal)) (x1 : (⟨S31x512, .f32⟩ : BufTy).Contents (Elt Ideal))

/-- The array that picks the rows read. -/
theorem picks (l : Fin 4352) (k : Fin 31) (p : Fin 4352) : val_main_v25 (F := Ideal) (ix3 l k p) = if Reads l.val k.val p.val then (1 : EReal) else 0 := by
  refine Eq.trans ?_ (reads_word l k p)
  rw [val_main_v25_apply, val_main_v24_apply, val_main_v22_apply, val_main_v23_apply, val_main_v20_apply, val_main_v21_apply, val_main_v16_apply,
    val_main_v19_apply, val_main_v18_apply, val_main_v17_apply, val_main_c_1_apply, val_main_v14_apply, val_main_v15_apply, val_main_v11_apply, val_main_v13_apply,
    val_main_v12_apply, val_main_v0_apply, val_main_v1_apply, val_main_v0_apply, val_main_v10_apply, val_main_v8_apply, val_main_v9_apply, val_main_v4_apply,
    val_main_v7_apply, val_main_v6_apply, val_main_v2_apply, val_main_v3_apply, val_main_v5_apply, val_main_c_apply, val_main_c_0_apply, val_main_v0_apply, val_main_v0_apply,
    val_main_call0_v0_apply, val_main_call0_v1_apply, val_main_cst_apply, val_main_cst_2_apply]

/-- The rows read by a row's taps. -/
theorem read_apply (l : Fin 4352) (k : Fin 31) (c : Fin 512) : val_main_v26 (F := Ideal) x0 (ix3 l k c) = reach (fun p => x0 (ix2 p c)) l.val k.val := by
  rw [val_main_v26_apply, ← sum_read]
  refine Finset.sum_congr rfl fun p _ => ?_
  rw [← picks]
  refine congrArg₂ (fun (a : EReal) b => a * b) (congrArg _ ?_) (congrArg x0 ?_)
  · funext a; match a with
      | ⟨0, _⟩ => rfl
      | ⟨1, _⟩ => rfl
      | ⟨2, _⟩ => rfl
  · funext a; match a with
      | ⟨0, _⟩ => rfl
      | ⟨1, _⟩ => rfl

/-- The convolution at an entry: what the taps read, each times its weight. -/
theorem convolution_apply (l : Fin 4352) (c : Fin 512) :
    val_main_v30 (F := Ideal) x0 x1 (ix2 l c) = ∑ k : Fin 31, reach (fun p => x0 (ix2 p c)) l.val k.val * x1 (ix2 k c) := by
  rw [val_main_v30_apply, val_main_cst_3_apply]
  refine Eq.trans (b := (0 : EReal) + ∑ k : Fin 31, val_main_v29 (F := Ideal) x0 x1 (idx_main_v30 (ix2 l c) k))
    (congrArg (fun a : EReal => a + _) Ideal.ofBits_zero_f32) ?_
  rw [zero_add]
  refine Finset.sum_congr rfl fun k _ => ?_
  rw [val_main_v29_apply, ← read_apply, val_main_v28_apply, val_main_v27_apply]
  refine congrArg₂ (fun (a : EReal) b => a * b) (congrArg _ ?_) (congrArg x1 ?_)
  · funext a; match a with
      | ⟨0, _⟩ => rfl
      | ⟨1, _⟩ => rfl
      | ⟨2, _⟩ => rfl
  · funext a; match a with
      | ⟨0, _⟩ => rfl
      | ⟨1, _⟩ => rfl

end Conv.R18

end
-- ==== Proof.Conv18.lean ====
/- The convolution's forward pass: every tile's sum over the taps is the reference's entry. -/
module

public import proofs.«01_k».proof.Proof.ConvRef18
public import proofs.«01_k».proof.Proof.Gen.Kernel18Ideal.Value

@[expose] public section

set_option maxRecDepth 16384

noncomputable section

namespace Conv.K18

open Cert.Kernel18Ideal Cert.Kernel18Ideal.Gen Idealize.ShloMosaic Idealize.ShloMosaic.TcCoe Idealize.SL.Sem
open Idealize.ShloMosaic.ValueIdx AttGrad

theorem starts : (![0, 0] : Fin 2 → ℕ) = fun _ => 0 := by funext a; match a with
  | ⟨0, _⟩ => rfl
  | ⟨1, _⟩ => rfl

/-! ## The taps added up, the weights read from the first -/

/-- What tap number `o` adds at row `r`: the window's row times the tap's weight. -/
def forwardTerm (W : Vec Ideal ⟨2, ![288, 128]⟩ .f32) (w : Vec Ideal ⟨2, ![31, 128]⟩ .f32) (r : Fin 256) (c : Fin 128) (o : ℕ) : EReal :=
  W (ix2 (⟨(r.val + 1 + o) % 288, Nat.mod_lt _ (by decide)⟩ : Fin 288) c) * w (ix2 (⟨o % 31, Nat.mod_lt _ (by decide)⟩ : Fin 31) c)

/-- One tap more. -/
theorem tap_forward (W : Vec Ideal ⟨2, ![288, 128]⟩ .f32) (w : Vec Ideal ⟨2, ![31, 128]⟩ .f32) (r : Fin 256) (c : Fin 128) (o : ℕ) (ho : o < 31)
    (h : (⟨2, ![288, 128]⟩ : Shape).Rotates 0 none) (hs : (⟨2, ![288, 128]⟩ : Shape).Slices ![0, 0] ⟨2, ![256, 128]⟩)
    (hi : ∀ a, (![o, 0] : Fin 2 → ℕ) a + (![1, 128] : Fin 2 → ℕ) a ≤ (⟨2, ![31, 128]⟩ : Shape).size a) (hb : (⟨2, ![1, 128]⟩ : Shape).Broadcasts ⟨2, ![256, 128]⟩)
    (acc : FVec Ideal ⟨2, ![256, 128]⟩ .f32) (H : acc (ix2 r c) = ∑ j ∈ Finset.range o, forwardTerm W w r c j) :
    addf acc (mulf (extractStridedSlice ⟨2, ![256, 128]⟩ ![0, 0] (dynamicRotate 0 (BitVec.ofNat 32 (287 - o)) none W h) hs)
      (broadcastTo ⟨2, ![256, 128]⟩ (View.ld w (Rect.unit (s := ⟨2, ![31, 128]⟩) ![o, 0] ![1, 128] hi)) hb)) (ix2 r c)
      = ∑ j ∈ Finset.range (o + 1), forwardTerm W w r c j := by
  rw [Finset.sum_range_succ, ← H]
  refine congrArg (acc (ix2 r c) + ·) (congrArg₂ (fun (a : EReal) b => a * b) ?_ ?_)
  · rw [tap_apply]
    congr 2
    apply Fin.ext
    show (r.val + 288 - (287 - o) % 2 ^ 32 % 288) % 288 = (r.val + 1 + o) % 288
    have := r.isLt
    omega
  · rw [broadcastTo_1b_ab_apply]
    refine View.ld_unit_apply_of w _ _ hi _ _ fun a => ?_
    match a with
    | ⟨0, _⟩ => show o % 31 = o + 0; omega
    | ⟨1, _⟩ => show c.val = 0 + c.val; omega

/-! ## The body -/

section Body
variable (i : grid0.Coords) (x0 x1 x2 : Vec Ideal S256x128 .f32) (x3 : Vec Ideal S31x128 .f32) (r : Fin 256) (c : Fin 128)

/-- The window the body makes of its three blocks. -/
def win : Vec Ideal S288x128 .f32 := k0_pay2 i (View.ld x0 r0_0) (View.ld x2 r0_1) (View.ld x1 r0_2)

theorem win_eq : win i x0 x1 x2 = window (i 1).val (View.ld x0 r0_0) (View.ld x2 r0_1) (View.ld x1 r0_2) := rfl

/-- The block a point leaves: the sum over the taps. -/
theorem block_apply : out0_4 i x0 x1 x2 x3 (ix2 r c) = ∑ o ∈ Finset.range 31, forwardTerm (win i x0 x1 x2) x3 r c o := by
  unfold out0_4
  rw [View.canon_unit_zero starts]
  change k0_pay1 (F := Ideal) (win i x0 x1 x2) _ _ (ix2 r c) = _
  refine tap_forward (win i x0 x1 x2) x3 r c 30 (by decide) _ _ _ _ _ ?_
  refine tap_forward (win i x0 x1 x2) x3 r c 29 (by decide) _ _ _ _ _ ?_
  refine tap_forward (win i x0 x1 x2) x3 r c 28 (by decide) _ _ _ _ _ ?_
  refine tap_forward (win i x0 x1 x2) x3 r c 27 (by decide) _ _ _ _ _ ?_
  refine tap_forward (win i x0 x1 x2) x3 r c 26 (by decide) _ _ _ _ _ ?_
  refine tap_forward (win i x0 x1 x2) x3 r c 25 (by decide) _ _ _ _ _ ?_
  refine tap_forward (win i x0 x1 x2) x3 r c 24 (by decide) _ _ _ _ _ ?_
  refine tap_forward (win i x0 x1 x2) x3 r c 23 (by decide) rotates_S288x128_d0 slices_S288x128_o0_0_S256x128 _ broadcasts_S1x128_S256x128 _ ?_
  refine tap_forward (win i x0 x1 x2) x3 r c 22 (by decide) _ _ _ _ _ ?_
  refine tap_forward (win i x0 x1 x2) x3 r c 21 (by decide) _ _ _ _ _ ?_
  refine tap_forward (win i x0 x1 x2) x3 r c 20 (by decide) _ _ _ _ _ ?_
  refine tap_forward (win i x0 x1 x2) x3 r c 19 (by decide) _ _ _ _ _ ?_
  refine tap_forward (win i x0 x1 x2) x3 r c 18 (by decide) _ _ _ _ _ ?_
  refine tap_forward (win i x0 x1 x2) x3 r c 17 (by decide) _ _ _ _ _ ?_
  refine tap_forward (win i x0 x1 x2) x3 r c 16 (by decide) rotates_S288x128_d0 slices_S288x128_o0_0_S256x128 _ broadcasts_S1x128_S256x128 _ ?_
  refine tap_forward (win i x0 x1 x2) x3 r c 15 (by decide) _ _ _ _ _ ?_
  refine tap_forward (win i x0 x1 x2) x3 r c 14 (by decide) _ _ _ _ _ ?_
  refine tap_forward (win i x0 x1 x2) x3 r c 13 (by decide) _ _ _ _ _ ?_
  refine tap_forward (win i x0 x1 x2) x3 r c 12 (by decide) _ _ _ _ _ ?_
  refine tap_forward (win i x0 x1 x2) x3 r c 11 (by decide) _ _ _ _ _ ?_
  refine tap_forward (win i x0 x1 x2) x3 r c 10 (by decide) _ _ _ _ _ ?_
  refine tap_forward (win i x0 x1 x2) x3 r c 9 (by decide) _ _ _ _ _ ?_
  refine tap_forward (win i x0 x1 x2) x3 r c 8 (by decide) _ _ _ _ _ ?_
  refine tap_forward (win i x0 x1 x2) x3 r c 7 (by decide) _ _ _ _ _ ?_
  refine tap_forward (win i x0 x1 x2) x3 r c 6 (by decide) _ _ _ _ _ ?_
  refine tap_forward (win i x0 x1 x2) x3 r c 5 (by decide) _ _ _ _ _ ?_
  refine tap_forward (win i x0 x1 x2) x3 r c 4 (by decide) _ _ _ _ _ ?_
  refine tap_forward (win i x0 x1 x2) x3 r c 3 (by decide) rotates_S288x128_d0 slices_S288x128_o0_0_S256x128 _ broadcasts_S1x128_S256x128 _ ?_
  refine tap_forward (win i x0 x1 x2) x3 r c 2 (by decide) _ _ _ _ _ ?_
  refine tap_forward (win i x0 x1 x2) x3 r c 1 (by decide) _ _ _ _ _ ?_
  refine tap_forward (win i x0 x1 x2) x3 r c 0 (by decide) _ _ _ _ _ ?_
  exact Ideal.ofBits_zero_f32

end Body

/-! ## The blocks of a grid point -/

variable (m : (ℓ : Loc nD τ sig) → Buf (Elt Ideal) ℓ) (c : Dev nD)

/-- The input and the weights. -/
abbrev input : Vec Ideal S4352x512 .f32 := m ((c : Thread nD τ).loc main_arg0)
abbrev weights : Vec Ideal S31x512 .f32 := m ((c : Thread nD τ).loc main_arg1)

/-- The point of lanes `b` and tile `n`. -/
def pt (b : Fin 4) (n : Fin 17) : Fin cfg0.N := ⟨17 * b.val + n.val, by show 17 * b.val + n.val < 68; omega⟩
theorem pt_mod (b : Fin 4) (n : Fin 17) : (pt b n).val % 17 = n.val := by show (17 * b.val + n.val) % 17 = n.val; omega
theorem pt_div (b : Fin 4) (n : Fin 17) : (pt b n).val / 17 = b.val := by show (17 * b.val + n.val) / 17 = b.val; omega
theorem coord (b : Fin 4) (n : Fin 17) : (grid0.coords (pt b n) 1).val = n.val :=
  ((by decide +kernel : ∀ t : Fin grid0.N, (grid0.coords t 1).val = t.val % 17) (pt b n)).trans (pt_mod b n)

/-- Lane `l` of lane block `b`. -/
def lane (b : Fin 4) (l : Fin 128) : Fin 512 := ⟨128 * b.val + l.val, by omega⟩

theorem index_near : ∀ t : Fin cfg0.N, win0_0.index t = ![t.val % 17 - 1, t.val / 17] ∧ win0_1.index t = ![t.val % 17, t.val / 17]
    ∧ win0_2.index t = ![min (t.val % 17 + 1) 16, t.val / 17] :=
  (by decide +kernel : ∀ t : Fin grid0.N, win0_0.index t = ![t.val % 17 - 1, t.val / 17] ∧ win0_1.index t = ![t.val % 17, t.val / 17]
    ∧ win0_2.index t = ![min (t.val % 17 + 1) 16, t.val / 17])
theorem index_else : ∀ t : Fin cfg0.N, win0_3.index t = ![0, t.val / 17] ∧ win0_4.index t = ![t.val % 17, t.val / 17] :=
  (by decide +kernel : ∀ t : Fin grid0.N, win0_3.index t = ![0, t.val / 17] ∧ win0_4.index t = ![t.val % 17, t.val / 17])

variable (b : Fin 4) (n : Fin 17) (l : Fin 128)

theorem before_block (h : 1 ≤ n.val) (a : Fin 256) : (iblk m c 0 (pt b n) : Vec Ideal S256x128 .f32) (ix2 a l)
    = input m c (ix2 (⟨256 * (n.val - 1) + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_0.index (pt b n) 0 * 256 + 1 * a.val = 256 * (n.val - 1) + a.val; rw [(index_near (pt b n)).1]; show ((pt b n).val % 17 - 1) * 256 + 1 * a.val = _; rw [pt_mod]; ring
  | ⟨1, _⟩ => show win0_0.index (pt b n) 1 * 128 + 1 * l.val = 128 * b.val + l.val; rw [(index_near (pt b n)).1]; show (pt b n).val / 17 * 128 + 1 * l.val = _; rw [pt_div]; ring

theorem here_block (a : Fin 256) : (iblk m c 1 (pt b n) : Vec Ideal S256x128 .f32) (ix2 a l)
    = input m c (ix2 (⟨256 * n.val + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_1.index (pt b n) 0 * 256 + 1 * a.val = 256 * n.val + a.val; rw [(index_near (pt b n)).2.1]; show (pt b n).val % 17 * 256 + 1 * a.val = _; rw [pt_mod]; ring
  | ⟨1, _⟩ => show win0_1.index (pt b n) 1 * 128 + 1 * l.val = 128 * b.val + l.val; rw [(index_near (pt b n)).2.1]; show (pt b n).val / 17 * 128 + 1 * l.val = _; rw [pt_div]; ring

theorem after_block (h : n.val < 16) (a : Fin 256) : (iblk m c 2 (pt b n) : Vec Ideal S256x128 .f32) (ix2 a l)
    = input m c (ix2 (⟨256 * (n.val + 1) + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_2.index (pt b n) 0 * 256 + 1 * a.val = 256 * (n.val + 1) + a.val; rw [(index_near (pt b n)).2.2]; show min ((pt b n).val % 17 + 1) 16 * 256 + 1 * a.val = _; rw [pt_mod, Nat.min_eq_left (by omega)]; ring
  | ⟨1, _⟩ => show win0_2.index (pt b n) 1 * 128 + 1 * l.val = 128 * b.val + l.val; rw [(index_near (pt b n)).2.2]; show (pt b n).val / 17 * 128 + 1 * l.val = _; rw [pt_div]; ring

theorem weights_block (k : Fin 31) : (iblk m c 3 (pt b n) : Vec Ideal S31x128 .f32) (ix2 k l) = weights m c (ix2 k (lane b l)) := by
  unfold iblk
  rw [View.read_apply]
  refine Eq.trans ?_ (congrFun (V_main_arg1 m c) _)
  show V m c main_arg1 _ = V m c main_arg1 _
  congr 1
  funext x
  apply Fin.ext
  match x with
  | ⟨0, _⟩ => show win0_3.index (pt b n) 0 * 31 + 1 * k.val = k.val; rw [(index_else (pt b n)).1]; show 0 * 31 + 1 * k.val = _; ring
  | ⟨1, _⟩ => show win0_3.index (pt b n) 1 * 128 + 1 * l.val = 128 * b.val + l.val; rw [(index_else (pt b n)).1]; show (pt b n).val / 17 * 128 + 1 * l.val = _; rw [pt_div]; ring

/-! ## The array after the run -/

/-- A row of the window is what a tap reads. -/
theorem win_reach (r : Fin 256) (k : Fin 31) (q : Fin 288) (hq : q.val = r.val + k.val + 1) :
    win (grid0.coords (pt b n)) (iblk m c 0 (pt b n)) (iblk m c 1 (pt b n)) (iblk m c 2 (pt b n)) (ix2 q l)
      = reach (fun p => input m c (ix2 p (lane b l))) (256 * n.val + r.val) k.val := by
  rw [win_eq, coord]
  refine window_reach n.val _ _ _ l (fun p => input m c (ix2 p (lane b l))) n.isLt (fun h a => ?_) (fun a => ?_) (fun h a => ?_) r k q hq
  · refine (View.ld_unit_apply_of (iblk m c 0 (pt b n) : Vec Ideal S256x128 .f32) _ _ _ _ (ix2 (⟨240 + a.val, by omega⟩ : Fin 256) l) fun x => ?_).trans ?_
    · match x with
      | ⟨0, _⟩ => rfl
      | ⟨1, _⟩ => show l.val = 0 + l.val; omega
    · refine (before_block m c b n l h _).trans (congrArg (fun p => input m c (ix2 p (lane b l))) (Fin.ext ?_))
      show 256 * (n.val - 1) + (240 + a.val) = 256 * (n.val - 1) + 240 + a.val
      omega
  · rw [View.ld_unit_zero (S := S256x128) starts]
    exact here_block m c b n l a
  · refine (View.ld_unit_apply_of (iblk m c 2 (pt b n) : Vec Ideal S256x128 .f32) _ _ _ _ (ix2 (⟨a.val, by omega⟩ : Fin 256) l) fun x => ?_).trans ?_
    · match x with
      | ⟨0, _⟩ => show a.val = 0 + a.val; omega
      | ⟨1, _⟩ => show l.val = 0 + l.val; omega
    · exact after_block m c b n l h _

/-- The block of a point. -/
theorem tile_apply (r : Fin 256) :
    out0_4 (grid0.coords (pt b n)) (iblk m c 0 (pt b n)) (iblk m c 1 (pt b n)) (iblk m c 2 (pt b n)) (iblk m c 3 (pt b n)) (ix2 r l)
      = ∑ k : Fin 31, reach (fun p => input m c (ix2 p (lane b l))) (256 * n.val + r.val) k.val * weights m c (ix2 k (lane b l)) := by
  refine (block_apply _ _ _ _ _ r l).trans ?_
  rw [Finset.sum_range]
  refine Finset.sum_congr rfl fun k _ => ?_
  have hk := k.isLt
  have hr := r.isLt
  unfold forwardTerm
  refine congrArg₂ (fun (a : EReal) b => a * b) (win_reach m c b n l r k _ ?_) ?_
  · show (r.val + 1 + k.val) % 288 = r.val + k.val + 1
    omega
  · refine (weights_block m c b n l _).trans (congrArg (fun k => weights m c (ix2 k (lane b l))) (Fin.ext ?_))
    show k.val % 31 = k.val
    omega

theorem emb4 (r : Fin 256) : (((cfg0.win 4).blk (pt b n)).view.emb (ix2 r l) : S4352x512.Idx) = ix2 (⟨256 * n.val + r.val, by omega⟩ : Fin 4352) (lane b l) := by
  funext a
  apply Fin.ext
  match a with
  | ⟨0, _⟩ => show win0_4.index (pt b n) 0 * 256 + 1 * r.val = 256 * n.val + r.val; rw [(index_else (pt b n)).2]; show (pt b n).val % 17 * 256 + 1 * r.val = _; rw [pt_mod]; ring
  | ⟨1, _⟩ => show win0_4.index (pt b n) 1 * 128 + 1 * l.val = 128 * b.val + l.val; rw [(index_else (pt b n)).2]; show (pt b n).val / 17 * 128 + 1 * l.val = _; rw [pt_div]; ring

/-- The array the run leaves, at an entry. -/
theorem result_apply (r : Fin 256) : ((dats m 0 c).arrAt 4 cfg0.N : Vec Ideal S4352x512 .f32) (ix2 (⟨256 * n.val + r.val, by omega⟩ : Fin 4352) (lane b l))
    = ∑ k : Fin 31, reach (fun p => input m c (ix2 p (lane b l))) (256 * n.val + r.val) k.val * weights m c (ix2 k (lane b l)) := by
  have e := congrFun (Cert.Kernel18Ideal.Value.blocks4 m c (pt b n) (flush0_4 _)) (ix2 r l)
  rw [View.read_apply, Cert.Kernel18Ideal.Value.flushed4] at e
  rw [← emb4 b n l r]
  exact e.trans (tile_apply m c b n l r)

/-- What the kernel leaves is what the reference computes. -/
theorem equation : ((dats m 0 c).arrAt 4 cfg0.N : Vec Ideal S4352x512 .f32)
    = Cert.Reference18Ideal.Read.val_main_v30 (F := Ideal) (m ((c : Thread nD τ).loc main_arg0)) (m ((c : Thread nD τ).loc main_arg1)) := by
  funext z
  obtain ⟨x, y, rfl⟩ := Products.cases2 z
  obtain ⟨n, r, rfl⟩ := Products.slab_cases (w := 256) (d := 17) (n := 4352) rfl (by decide) x
  obtain ⟨b, l, rfl⟩ := Products.slab_cases (w := 128) (d := 4) (n := 512) rfl (by decide) y
  refine (result_apply m c b n l r).trans ?_
  rw [Conv.R18.convolution_apply]
  rfl

end Conv.K18

end
-- ==== Proof.NormRef21.lean ====
/- The root-mean-square norm's gradients: their entries, and the reference's arrays in terms of them. -/
module

public import proofs.«01_k».proof.Proof.Sums
public import proofs.«01_k».proof.Proof.Gen.Reference21Ideal.Read
public import Idealize.ShloMosaic.Lib.KernelVsHost
public import Idealize.ShloMosaic.Lib.ValueLayout
public import Idealize.ShloMosaic.Lib.IdealHost

@[expose] public section

set_option maxRecDepth 16384

noncomputable section

namespace Norm

open Idealize.ShloMosaic Idealize.ShloMosaic.ValueIdx AttGrad

/-! ## The entries of the gradients -/

/-- The width of a row, the number added under the root, and minus a half. -/
def width : EReal := Ideal.ofBits .f32 0x43C00000#32
def tiny : EReal := Ideal.ofBits .f32 0x358637BD#32
def minusHalf : EReal := Ideal.ofBits .f32 0xBF000000#32

/-- The mean square of a row, with the small number added. -/
def meanSquare (f : Fin 384 → EReal) : EReal := Ideal.div (∑ k : Fin 384, f k * f k) width + tiny

/-- What the norm multiplies a row by. -/
def scale (f : Fin 384 → EReal) : EReal := Ideal.rsqrt (meanSquare f)

/-- How far the scale moves with the row, divided by the width. -/
def pull (f g d : Fin 384 → EReal) : EReal :=
  Ideal.div ((∑ k : Fin 384, f k * (d k * g k)) * (minusHalf * Ideal.div (scale f) (meanSquare f))) width

/-- The gradient with respect to an entry of the row. -/
def rowGrad (f g d : Fin 384 → EReal) (l : Fin 384) : EReal := d l * g l * scale f + f l * pull f g d + pull f g d * f l

/-! ## The reference -/

namespace R21

open Cert.Reference21Ideal Cert.Reference21Ideal.Gen Cert.Reference21Ideal.Read

variable (x0 : (⟨S4352x384, .f32⟩ : BufTy).Contents (Elt Ideal)) (x1 : (⟨S384, .f32⟩ : BufTy).Contents (Elt Ideal)) (x2 : (⟨S4352x384, .f32⟩ : BufTy).Contents (Elt Ideal))

/-- A row of an array, and the gains. -/
abbrev row (x : (⟨S4352x384, .f32⟩ : BufTy).Contents (Elt Ideal)) (p : Fin 4352) : Fin 384 → EReal := fun k => x (ix2 p k)
abbrev gains : Fin 384 → EReal := fun k => x1 (ix1 k)

theorem mean_apply (p : Fin 4352) (u : Fin 1) : val_main_v6 (F := Ideal) x0 (ix2 p u) = meanSquare (row x0 p) := by
  rw [val_main_v6_apply, val_main_v4_apply, val_main_v2_apply, val_main_v1_apply, val_main_v3_apply, val_main_v5_apply, val_main_cst_apply,
    val_main_cst_0_apply, val_main_cst_1_apply]
  refine congrArg (fun a : EReal => Ideal.div a width + tiny) ?_
  refine Eq.trans (b := (0 : EReal) + ∑ k : Fin 384, x0 (ix2 p k) * x0 (ix2 p k))
    (congrArg₂ (fun (a b : EReal) => a + b) Ideal.ofBits_zero_f32 (Finset.sum_congr rfl fun k _ => ?_)) (zero_add _)
  rw [val_main_v0_apply]
  refine congrArg (fun j => (x0 j * x0 j : EReal)) ?_
  funext a
  match a with
  | ⟨0, _⟩ => rfl
  | ⟨1, _⟩ => rfl

theorem scale_apply (p : Fin 4352) (u : Fin 1) : val_main_v7 (F := Ideal) x0 (ix2 p u) = scale (row x0 p) := by
  rw [val_main_v7_apply, mean_apply]
  rfl

/-- The cotangent times the gain. -/
theorem weighted_apply (p : Fin 4352) (k : Fin 384) : val_main_v20 (F := Ideal) x1 x2 (ix2 p k) = x2 (ix2 p k) * x1 (ix1 k) := by
  rw [val_main_v20_apply, val_main_v19_apply, val_main_v13_apply]
  refine congrArg (fun j => (x2 (ix2 p k) * x1 j : EReal)) ?_
  funext a
  match a with
  | ⟨0, _⟩ => rfl

theorem pull_apply (p : Fin 4352) (l : Fin 384) : val_main_v31 (F := Ideal) x0 x1 x2 (ix2 p l) = pull (row x0 p) (gains x1) (row x2 p) := by
  rw [val_main_v31_apply, val_main_v30_apply, Fin.sum_univ_one, val_main_cst_7_apply]
  refine Eq.trans (b := (0 : EReal) + pull (row x0 p) (gains x1) (row x2 p)) (congrArg₂ (fun (a b : EReal) => a + b) Ideal.ofBits_zero_f32 ?_) (zero_add _)
  have e : idx_main_v30 (idx_main_v31 (ix2 p l)) (0 : Fin 1) = ix2 p (0 : Fin 1) := by
    funext a
    match a with
    | ⟨0, _⟩ => rfl
    | ⟨1, _⟩ => rfl
  rw [e, val_main_v29_apply, val_main_v27_apply, val_main_v28_apply, val_main_cst_6_apply, val_main_v10_apply, val_main_v9_apply, val_main_cst_2_apply,
    val_main_v8_apply, scale_apply, mean_apply, val_main_v24_apply, val_main_v23_apply, val_main_cst_5_apply]
  refine congrArg (fun a : EReal => Ideal.div (a * (minusHalf * Ideal.div (scale (row x0 p)) (meanSquare (row x0 p)))) width) ?_
  refine Eq.trans (b := (0 : EReal) + ∑ k : Fin 384, x0 (ix2 p k) * (x2 (ix2 p k) * x1 (ix1 k)))
    (congrArg₂ (fun (a b : EReal) => a + b) Ideal.ofBits_zero_f32 (Finset.sum_congr rfl fun k _ => ?_)) (zero_add _)
  have e' : idx_main_v23 (idx_main_v24 (ix2 p (0 : Fin 1))) k = ix2 p k := by
    funext a
    apply Fin.ext
    match a with
    | ⟨0, _⟩ => show p.val * 1 + 0 = p.val; omega
    | ⟨1, _⟩ => rfl
  rw [e', val_main_v22_apply, weighted_apply]
  rfl

/-- The gradient with respect to the input, at an entry. -/
theorem input_apply (p : Fin 4352) (l : Fin 384) : val_main_v35 (F := Ideal) x0 x1 x2 (ix2 p l) = rowGrad (row x0 p) (gains x1) (row x2 p) l := by
  rw [val_main_v35_apply, val_main_v33_apply, val_main_v34_apply, val_main_v32_apply, pull_apply, val_main_v26_apply, weighted_apply, val_main_v25_apply]
  have e : idx_main_v25 (ix2 p l) = ix2 p (0 : Fin 1) := by
    funext a
    match a with
    | ⟨0, _⟩ => rfl
    | ⟨1, _⟩ => rfl
  rw [e, scale_apply]
  rfl

/-- What a row adds to the gradient of a gain. -/
def share (l : Fin 384) (p : Fin 4352) : EReal := x0 (ix2 p l) * scale (row x0 p) * x2 (ix2 p l)

/-- The gradient with respect to a gain: the sum over the rows. -/
theorem gain_apply (u v : Fin 1) (l : Fin 384) : val_main_v36 (F := Ideal) x0 x2 (ix3 u v l) = ∑ p : Fin 4352, share x0 x2 l p := by
  rw [val_main_v36_apply, val_main_v21_apply, Fin.sum_univ_one, val_main_cst_4_apply, val_main_v18_apply, val_main_v17_apply, val_main_cst_3_apply]
  refine Eq.trans (b := (0 : EReal) + (0 + ∑ p : Fin 4352, share x0 x2 l p))
    (congrArg₂ (fun (a b : EReal) => a + b) Ideal.ofBits_zero_f32 (congrArg₂ (fun (a b : EReal) => a + b) Ideal.ofBits_zero_f32
      (Finset.sum_congr rfl fun p _ => ?_))) (by rw [zero_add, zero_add])
  have e : idx_main_v17 (idx_main_v18 (idx_main_v21 (idx_main_v36 (ix3 u v l)) (0 : Fin 1))) p = ix2 p l := by
    have hu := u.isLt
    have hv := v.isLt
    funext a
    apply Fin.ext
    match a with
    | ⟨0, _⟩ => rfl
    | ⟨1, _⟩ => show 0 * 384 + ((u.val * 1 + v.val) * 384 + l.val) = l.val; omega
  rw [e, val_main_v16_apply, val_main_v12_apply, val_main_v11_apply]
  have e' : idx_main_v11 (ix2 p l) = ix2 p (0 : Fin 1) := by
    funext a
    match a with
    | ⟨0, _⟩ => rfl
    | ⟨1, _⟩ => rfl
  rw [e', scale_apply]
  rfl

end R21

end Norm

end
-- ==== Proof.Norm21.lean ====
/- The root-mean-square norm's gradients: each row's own, and the gains' as a sum over the tiles of rows. -/
module

public import proofs.«01_k».proof.Proof.NormRef21
public import proofs.«01_k».proof.Proof.Gen.Kernel21Ideal.Value
public import Idealize.ShloMosaic.Lib.StableHlo.Run

@[expose] public section

set_option maxRecDepth 16384

noncomputable section

namespace Norm

open Idealize.ShloMosaic Idealize.ShloMosaic.ValueIdx AttGrad

/-! ## Sums and copies along an axis -/

/-- The sums of the rows, as a column. -/
theorem row_sums {w : ℕ} (v : FVec Ideal ⟨2, ![256, w]⟩ .f32) (h : (⟨2, ![256, w]⟩ : Shape).Reduces [1] ⟨1, ![256]⟩)
    (h' : (⟨1, ![256]⟩ : Shape).ShapeCasts ⟨2, ![256, 1]⟩) (r : Fin 256) (u : Fin 1) :
    shapeCast ⟨2, ![256, 1]⟩ (multiReduction .add [1] ⟨1, ![256]⟩ v 0x00000000#32 h (.inl rfl) rfl) h' (ix2 r u) = ∑ k : Fin w, v (ix2 r k) := by
  have hu := u.isLt
  refine (shapeCast_apply _ h' (ix2 r u) (ix1 r) ?_).trans ?_
  · rw [Shape.rowMajor_val_two, Shape.rowMajor_val_one]
    show r.val = r.val * 1 + u.val
    omega
  · refine (Ideal.multiReduction_add_single _ _ _ _ _ _).trans ?_
    refine Finset.sum_congr rfl fun k _ => congrArg v ?_
    funext a
    match a with
    | ⟨0, _⟩ => rfl
    | ⟨1, _⟩ => rfl

/-- The sums of the columns, as a row. -/
theorem column_sums (v : FVec Ideal ⟨2, ![256, 384]⟩ .f32) (h : (⟨2, ![256, 384]⟩ : Shape).Reduces [0] ⟨1, ![384]⟩)
    (h' : (⟨1, ![384]⟩ : Shape).ShapeCasts ⟨2, ![1, 384]⟩) (l : Fin 384) :
    shapeCast ⟨2, ![1, 384]⟩ (multiReduction .add [0] ⟨1, ![384]⟩ v 0x00000000#32 h (.inl rfl) rfl) h' (ix2 (0 : Fin 1) l) = ∑ r : Fin 256, v (ix2 r l) := by
  refine (shapeCast_apply _ h' (ix2 (0 : Fin 1) l) (ix1 l) ?_).trans ?_
  · rw [Shape.rowMajor_val_two, Shape.rowMajor_val_one]
    show l.val = 0 * 384 + l.val
    omega
  · refine (Ideal.multiReduction_add_single _ _ _ _ _ _).trans ?_
    refine Finset.sum_congr rfl fun k _ => congrArg v ?_
    funext a
    match a with
    | ⟨0, _⟩ => rfl
    | ⟨1, _⟩ => rfl

/-- A column copied along the rows. -/
theorem column_copies (v : FVec Ideal ⟨2, ![256, 1]⟩ .f32) (h : (⟨2, ![256, 1]⟩ : Shape).Broadcasts ⟨2, ![256, 384]⟩) (r : Fin 256) (l : Fin 384) :
    broadcastTo ⟨2, ![256, 384]⟩ v h (ix2 r l) = v (ix2 r (0 : Fin 1)) :=
  broadcastTo_apply v h _ _ fun a => by
    match a with
    | ⟨0, _⟩ => rfl
    | ⟨1, _⟩ => rfl

namespace K21

open Cert.Kernel21Ideal Cert.Kernel21Ideal.Gen Idealize.ShloMosaic.TcCoe Idealize.SL.Sem

/-! ## What the body computes -/

section Body
variable (x0 : Vec Ideal S256x384 .f32) (x1 : Vec Ideal S1x1x384 .f32) (x2 : Vec Ideal S256x384 .f32)

/-- A row of a block, and the gains. -/
abbrev row (x : Vec Ideal S256x384 .f32) (r : Fin 256) : Fin 384 → EReal := fun k => x (ix2 r k)
abbrev gains : Fin 384 → EReal := fun k => x1 (ix3 (0 : Fin 1) (0 : Fin 1) k)

theorem mean_apply (r : Fin 256) (u : Fin 1) : k0_pay3 (F := Ideal) x0 (ix2 r u) = meanSquare (row x0 r) := by
  unfold k0_pay3
  refine congrArg (fun a : EReal => Ideal.div a width + tiny) ?_
  exact row_sums (mulf x0 x0) reduces_S256x384_S256 shapeCasts_S256_S256x1 r u

theorem scale_apply (r : Fin 256) (u : Fin 1) : k0_pay4 (F := Ideal) x0 (ix2 r u) = scale (row x0 r) :=
  congrArg Ideal.rsqrt (mean_apply x0 r u)

theorem scale_copies (r : Fin 256) (l : Fin 384) : broadcastTo S256x384 (k0_pay4 (F := Ideal) x0) broadcasts_S256x1_S256x384 (ix2 r l) = scale (row x0 r) :=
  (column_copies _ _ r l).trans (scale_apply x0 r 0)

theorem gain_copies (r : Fin 256) (l : Fin 384) :
    broadcastTo S256x384 (shapeCast S1x384 x1 shapeCasts_S1x1x384_S1x384) broadcasts_S1x384_S256x384 (ix2 r l) = gains x1 l :=
  (broadcastTo_1b_ab_apply _ _ r l).trans (Products.drop_one x1 shapeCasts_S1x1x384_S1x384 (0 : Fin 1) l)

/-- The cotangent times the gain. -/
theorem weighted_apply (r : Fin 256) (l : Fin 384) :
    (mulf x2 (broadcastTo S256x384 (shapeCast S1x384 x1 shapeCasts_S1x1x384_S1x384) broadcasts_S1x384_S256x384) : FVec Ideal S256x384 .f32) (ix2 r l) = x2 (ix2 r l) * gains x1 l :=
  congrArg (fun a : EReal => x2 (ix2 r l) * a) (gain_copies x1 r l)

/-- The block of the input's gradient. -/
theorem rows_apply (r : Fin 256) (l : Fin 384) : k0_pay6 (F := Ideal) x0 x1 x2 (ix2 r l) = rowGrad (row x0 r) (gains x1) (row x2 r) l := by
  unfold k0_pay6
  have e : ∀ v : FVec Ideal S256x1 .f32, v (ix2 r (0 : Fin 1)) = pull (row x0 r) (gains x1) (row x2 r) →
      broadcastTo S256x384 (shapeCast S256x1 (multiReduction .add [1] S256 v 0x00000000#32 reduces_S256x1_S256 (.inl rfl) rfl) shapeCasts_S256_S256x1)
        broadcasts_S256x1_S256x384 (ix2 r l) = pull (row x0 r) (gains x1) (row x2 r) := fun v hv => by
    refine (column_copies _ _ r l).trans ((row_sums v _ _ r 0).trans ?_)
    rw [Fin.sum_univ_one]
    exact hv
  have p : divf (mulf (shapeCast S256x1 (multiReduction .add [1] S256 (mulf x0 (mulf x2 (broadcastTo S256x384 (shapeCast S1x384 x1 shapeCasts_S1x1x384_S1x384) broadcasts_S1x384_S256x384)))
        0x00000000#32 reduces_S256x384_S256 (.inl rfl) rfl) shapeCasts_S256_S256x1)
      (mulf (broadcast S256x1 (Scalar.ofBits (F := Ideal) .f32 0xBF000000#32)) (divf (k0_pay4 x0) (k0_pay3 x0)))) (broadcast S256x1 (Scalar.ofBits (F := Ideal) .f32 0x43C00000#32)) (ix2 r (0 : Fin 1))
      = pull (row x0 r) (gains x1) (row x2 r) := by
    refine congrArg₂ (fun (a b : EReal) => Ideal.div (a * (minusHalf * b)) width) ?_ (congrArg₂ Ideal.div (scale_apply x0 r 0) (mean_apply x0 r 0))
    refine (row_sums _ reduces_S256x384_S256 shapeCasts_S256_S256x1 r 0).trans ?_
    exact Finset.sum_congr rfl fun k _ => congrArg (fun a : EReal => x0 (ix2 r k) * a) (weighted_apply x1 x2 r k)
  refine congrArg₂ (fun (a b : EReal) => a + b) (congrArg₂ (fun (a b : EReal) => a + b) ?_ ?_) ?_
  · exact congrArg₂ (fun (a b : EReal) => a * b) (weighted_apply x1 x2 r l) (scale_copies x0 r l)
  · exact congrArg (fun a : EReal => x0 (ix2 r l) * a) (e _ p)
  · exact congrArg (fun a : EReal => a * x0 (ix2 r l)) (e _ p)

/-- What a tile adds to the gradient of a gain. -/
theorem share_apply (l : Fin 384) : k0_pay5 (F := Ideal) x0 x2 (ix2 (0 : Fin 1) l) = ∑ r : Fin 256, x0 (ix2 r l) * scale (row x0 r) * x2 (ix2 r l) := by
  unfold k0_pay5
  refine (column_sums _ reduces_S256x384_S384 shapeCasts_S384_S1x384 l).trans ?_
  exact Finset.sum_congr rfl fun r _ => congrArg (fun a : EReal => x0 (ix2 r l) * a * x2 (ix2 r l)) (scale_copies x0 r l)

/-- What a later tile leaves: what was there and its own. -/
theorem added_apply (v : FVec Ideal S1x384 .f32) (acc : Vec Ideal S1x1x384 .f32) (l : Fin 384) :
    k0_pay2 (F := Ideal) v acc (ix3 (0 : Fin 1) (0 : Fin 1) l) = acc (ix3 (0 : Fin 1) (0 : Fin 1) l) + v (ix2 (0 : Fin 1) l) := by
  unfold k0_pay2
  refine (Products.add_one_axis _ shapeCasts_S1x384_S1x1x384 (0 : Fin 1) l).trans ?_
  exact congrArg (fun a : EReal => a + v (ix2 (0 : Fin 1) l)) (Products.drop_one acc shapeCasts_S1x1x384_S1x384 (0 : Fin 1) l)

end Body

/-! ## What a point leaves -/

section Point
variable (c : Dev nD) (i : grid0.Coords) (arg2 : Memref sig .tc .vmem S256x384 .f32) (harg2 : arg2.IsWhole) (arg3 : Memref sig .tc .vmem S1x1x384 .f32) (harg3 : arg3.IsWhole)
  (arg4 : Memref sig .tc .vmem S256x384 .f32) (harg4 : arg4.IsWhole) (arg5 : Memref sig .tc .vmem S256x384 .f32) (harg5 : arg5.IsWhole)
  (arg6 : Memref sig .tc .vmem S1x1x384 .f32) (harg6 : arg6.IsWhole)
  (x0 : Vec Ideal S256x384 .f32) (x1 : Vec Ideal S1x1x384 .f32) (x2 : Vec Ideal S256x384 .f32)

theorem first_rows (h0 : cond0_0 i) (h1 : ¬cond0_1 i) :
    out0_A_3 c i arg2 harg2 arg3 harg3 arg4 harg4 arg5 harg5 arg6 harg6 h0 h1 x0 x1 x2 = k0_pay6 x0 x1 x2 := by
  unfold out0_A_3
  rw [View.read_writes_eq_canon _ _ _ (cover0_A_3 c i arg2 harg2 arg3 harg3 arg4 harg4 arg5 harg5 arg6 harg6 h0 h1 x0 x1 x2)]
  unfold kernelRun0_A
  dsimp only
  sl_unfold_words
  simp only [View.readAt_eq_ld, harg2.read_unread, harg3.read_unread, harg4.read_unread, View.ld_unit_zero (S := S256x384) Products.starts2,
    View.ld_unit_zero (S := S1x1x384) Products.starts3]
  exact View.canon_unit_zero Products.starts2 _ _

theorem later_rows (h0 : ¬cond0_0 i) (h1 : cond0_1 i) (acc : Vec Ideal S1x1x384 .f32) :
    out0_B_3 c i arg2 harg2 arg3 harg3 arg4 harg4 arg5 harg5 arg6 harg6 h0 h1 x0 x1 x2 acc = k0_pay6 x0 x1 x2 := by
  unfold out0_B_3
  rw [View.read_writes_eq_canon _ _ _ (cover0_B_3 c i arg2 harg2 arg3 harg3 arg4 harg4 arg5 harg5 arg6 harg6 h0 h1 x0 x1 x2 acc)]
  unfold kernelRun0_B
  dsimp only
  sl_unfold_words
  simp only [View.readAt_eq_ld, harg2.read_unread, harg3.read_unread, harg4.read_unread, View.ld_unit_zero (S := S256x384) Products.starts2,
    View.ld_unit_zero (S := S1x1x384) Products.starts3]
  exact View.canon_unit_zero Products.starts2 _ _

theorem first_sum (h0 : cond0_0 i) (h1 : ¬cond0_1 i) :
    out0_A_4 c i arg2 harg2 arg3 harg3 arg4 harg4 arg5 harg5 arg6 harg6 h0 h1 x0 x1 x2 = k0_pay1 (k0_pay5 x0 x2) := by
  unfold out0_A_4
  rw [View.read_writes_eq_canon _ _ _ (cover0_A_4 c i arg2 harg2 arg3 harg3 arg4 harg4 arg5 harg5 arg6 harg6 h0 h1 x0 x1 x2)]
  unfold kernelRun0_A
  dsimp only
  sl_unfold_words
  simp only [View.readAt_eq_ld, harg2.read_unread, harg3.read_unread, harg4.read_unread, View.ld_unit_zero (S := S256x384) Products.starts2,
    View.ld_unit_zero (S := S1x1x384) Products.starts3]
  exact View.canon_unit_zero Products.starts3 _ _

theorem later_sum (h0 : ¬cond0_0 i) (h1 : cond0_1 i) (acc : Vec Ideal S1x1x384 .f32) :
    out0_B_4 c i arg2 harg2 arg3 harg3 arg4 harg4 arg5 harg5 arg6 harg6 h0 h1 x0 x1 x2 acc = k0_pay2 (k0_pay5 x0 x2) acc := by
  unfold out0_B_4
  rw [View.read_writes_eq_canon _ _ _ (cover0_B_4 c i arg2 harg2 arg3 harg3 arg4 harg4 arg5 harg5 arg6 harg6 h0 h1 x0 x1 x2 acc)]
  unfold kernelRun0_B
  dsimp only
  sl_unfold_words
  simp only [View.readAt_eq_ld, harg2.read_unread, harg3.read_unread, harg4.read_unread, harg6.read_unread, View.ld_unit_zero (S := S256x384) Products.starts2,
    View.ld_unit_zero (S := S1x1x384) Products.starts3]
  exact View.canon_unit_zero Products.starts3 _ _

end Point

/-! ## The blocks of a grid point -/

variable (m : (ℓ : Loc nD τ sig) → Buf (Elt Ideal) ℓ) (c : Dev nD)

/-- The input, the gains and the cotangent. -/
abbrev inp : Vec Ideal S4352x384 .f32 := m ((c : Thread nD τ).loc main_arg0)
abbrev gn : Vec Ideal S384 .f32 := m ((c : Thread nD τ).loc main_arg1)
abbrev ct : Vec Ideal S4352x384 .f32 := m ((c : Thread nD τ).loc main_arg2)

/-- The point of tile `n`. -/
def pt (n : Fin 17) : Fin cfg0.N := ⟨n.val, n.isLt⟩

/-- Row `r` of tile `n`. -/
def tileRow (n : Fin 17) (r : Fin 256) : Fin 4352 := ⟨256 * n.val + r.val, by omega⟩

theorem index_rows : ∀ t : Fin cfg0.N, win0_0.index t = ![t.val, 0] ∧ win0_2.index t = ![t.val, 0] ∧ win0_3.index t = ![t.val, 0] :=
  (by decide +kernel : ∀ t : Fin grid0.N, win0_0.index t = ![t.val, 0] ∧ win0_2.index t = ![t.val, 0] ∧ win0_3.index t = ![t.val, 0])
theorem index_gains : ∀ t : Fin cfg0.N, win0_1.index t = ![0, 0, 0] ∧ win0_4.index t = ![0, 0, 0] :=
  (by decide +kernel : ∀ t : Fin grid0.N, win0_1.index t = ![0, 0, 0] ∧ win0_4.index t = ![0, 0, 0])

theorem gains_array (l : Fin 384) : (V m c main_v0 : Vec Ideal S1x1x384 .f32) (ix3 (0 : Fin 1) (0 : Fin 1) l) = gn m c (ix1 l) := by
  have e : V m c main_v0 = shapeCast S1x1x384 (gn m c) shapeCasts_S384_S1x1x384 := by
    unfold V
    simp only [hostOps0, List.flatten_cons, List.flatten_nil, List.append_nil, List.cons_append, List.nil_append]
    after_results_simp
    rfl
  rw [e]
  refine shapeCast_apply _ shapeCasts_S384_S1x1x384 _ _ ?_
  rw [Shape.rowMajor_val_three, Shape.rowMajor_val_one]
  show l.val = (0 * 1 + 0) * 384 + l.val
  omega

variable (n : Fin 17)

theorem input_block (r : Fin 256) (l : Fin 384) : (iblk m c 0 (pt n) : Vec Ideal S256x384 .f32) (ix2 r l) = inp m c (ix2 (tileRow n r) l) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_0.index (pt n) 0 * 256 + 1 * r.val = 256 * n.val + r.val; rw [(index_rows (pt n)).1]; show n.val * 256 + 1 * r.val = _; ring
  | ⟨1, _⟩ => show win0_0.index (pt n) 1 * 384 + 1 * l.val = l.val; rw [(index_rows (pt n)).1]; show 0 * 384 + 1 * l.val = _; ring

theorem ct_block (r : Fin 256) (l : Fin 384) : (iblk m c 2 (pt n) : Vec Ideal S256x384 .f32) (ix2 r l) = ct m c (ix2 (tileRow n r) l) := by
  unfold iblk
  rw [View.read_apply]
  refine Eq.trans ?_ (congrFun (V_main_arg2 m c) _)
  show V m c main_arg2 _ = V m c main_arg2 _
  congr 1
  funext x
  apply Fin.ext
  match x with
  | ⟨0, _⟩ => show win0_2.index (pt n) 0 * 256 + 1 * r.val = 256 * n.val + r.val; rw [(index_rows (pt n)).2.1]; show n.val * 256 + 1 * r.val = _; ring
  | ⟨1, _⟩ => show win0_2.index (pt n) 1 * 384 + 1 * l.val = l.val; rw [(index_rows (pt n)).2.1]; show 0 * 384 + 1 * l.val = _; ring

theorem gains_block (l : Fin 384) : (iblk m c 1 (pt n) : Vec Ideal S1x1x384 .f32) (ix3 (0 : Fin 1) (0 : Fin 1) l) = gn m c (ix1 l) := by
  refine Eq.trans ?_ (gains_array m c l)
  unfold iblk
  rw [View.read_apply]
  show V m c main_v0 _ = V m c main_v0 _
  congr 1
  funext x
  apply Fin.ext
  match x with
  | ⟨0, _⟩ => show win0_1.index (pt n) 0 * 1 + 1 * 0 = 0; rw [(index_gains (pt n)).1]; rfl
  | ⟨1, _⟩ => show win0_1.index (pt n) 1 * 1 + 1 * 0 = 0; rw [(index_gains (pt n)).1]; rfl
  | ⟨2, _⟩ => show win0_1.index (pt n) 2 * 384 + 1 * l.val = l.val; rw [(index_gains (pt n)).1]; show 0 * 384 + 1 * l.val = _; ring

/-! ## The input's gradient -/

theorem rows_left (t : Fin cfg0.N) : (outsAt0 m c t.val t.isLt).1 = k0_pay6 (iblk m c 0 t) (iblk m c 1 t) (iblk m c 2 t) := by
  have ht : t.val < 17 := t.isLt
  by_cases h0 : t.val % 17 = 0
  · rw [outsAt0_A m c t h0 (by omega)]
    dsimp only
    rw [first_rows]
  · rw [outsAt0_B m c t h0 (by omega)]
    dsimp only
    rw [later_rows]

theorem emb3 (r : Fin 256) (l : Fin 384) : (((cfg0.win 3).blk (pt n)).view.emb (ix2 r l) : S4352x384.Idx) = ix2 (tileRow n r) l := by
  funext a
  apply Fin.ext
  match a with
  | ⟨0, _⟩ => show win0_3.index (pt n) 0 * 256 + 1 * r.val = 256 * n.val + r.val; rw [(index_rows (pt n)).2.2]; show n.val * 256 + 1 * r.val = _; ring
  | ⟨1, _⟩ => show win0_3.index (pt n) 1 * 384 + 1 * l.val = l.val; rw [(index_rows (pt n)).2.2]; show 0 * 384 + 1 * l.val = _; ring

theorem rows_result (r : Fin 256) (l : Fin 384) : ((dats m 0 c).arrAt 3 cfg0.N : Vec Ideal S4352x384 .f32) (ix2 (tileRow n r) l)
    = rowGrad (fun k => inp m c (ix2 (tileRow n r) k)) (fun k => gn m c (ix1 k)) (fun k => ct m c (ix2 (tileRow n r) k)) l := by
  have e := congrFun (Cert.Kernel21Ideal.Value.blocks3 m c (pt n) (flush0_3 (pt n))) (ix2 r l)
  rw [View.read_apply, Cert.Kernel21Ideal.Value.flushed3, rows_left] at e
  rw [← emb3 n r l]
  refine e.trans ((rows_apply (iblk m c 0 (pt n)) (iblk m c 1 (pt n)) (iblk m c 2 (pt n)) r l).trans ?_)
  rw [show row (iblk m c 0 (pt n)) r = fun k => inp m c (ix2 (tileRow n r) k) from funext fun k => input_block m c n r k,
    show gains (iblk m c 1 (pt n)) = fun k => gn m c (ix1 k) from funext fun k => gains_block m c n k,
    show row (iblk m c 2 (pt n)) r = fun k => ct m c (ix2 (tileRow n r) k) from funext fun k => ct_block m c n r k]

/-- The input's gradient is the reference's. -/
theorem rows_equation : ((dats m 0 c).arrAt 3 cfg0.N : Vec Ideal S4352x384 .f32)
    = Cert.Reference21Ideal.Read.val_main_v35 (F := Ideal) (m ((c : Thread nD τ).loc main_arg0)) (m ((c : Thread nD τ).loc main_arg1)) (m ((c : Thread nD τ).loc main_arg2)) := by
  funext z
  obtain ⟨x, l, rfl⟩ := Products.cases2 z
  obtain ⟨n, r, rfl⟩ := Products.slab_cases (w := 256) (d := 17) (n := 4352) rfl (by decide) x
  refine (rows_result m c n r l).trans ?_
  rw [Norm.R21.input_apply]
  rfl

/-! ## The gains' gradient -/

/-- What a row adds. -/
def term (l : Fin 384) (p : Fin 4352) : EReal := inp m c (ix2 p l) * scale (fun k => inp m c (ix2 p k)) * ct m c (ix2 p l)

theorem tile_apply (l : Fin 384) : k0_pay5 (F := Ideal) (iblk m c 0 (pt n)) (iblk m c 2 (pt n)) (ix2 (0 : Fin 1) l) = Products.tile 256 (term m c l) n.val := by
  rw [Products.tile_of _ _ (fun r : Fin 256 => by omega)]
  refine (share_apply (iblk m c 0 (pt n)) (iblk m c 2 (pt n)) l).trans ?_
  refine Finset.sum_congr rfl fun r _ => ?_
  refine congrArg₂ (fun (a b : EReal) => a * b) (congrArg₂ (fun (a b : EReal) => a * b) (input_block m c n r l) (congrArg scale ?_)) (ct_block m c n r l)
  exact funext fun k => input_block m c n r k

theorem same_state (n n' : ℕ) (h : n = n') (hn : n < cfg0.N) (hn' : n' < cfg0.N) : outsAt0 m c n hn = outsAt0 m c n' hn' := by subst h; rfl

theorem start_apply (l : Fin 384) :
    ((outsAt0 m c (pt 0).val (pt 0).isLt).2 : Vec Ideal S1x1x384 .f32) (ix3 (0 : Fin 1) (0 : Fin 1) l) = Products.tile 256 (term m c l) 0 := by
  rw [outsAt0_A m c (pt 0) rfl (by show ¬1 ≤ 0; omega)]
  dsimp only
  rw [first_sum]
  exact (Products.add_one_axis _ shapeCasts_S1x384_S1x1x384 (0 : Fin 1) l).trans (tile_apply m c 0 l)

theorem step_apply (l : Fin 384) (s : ℕ) (hs : s + 1 < 17) :
    ((outsAt0 m c (pt ⟨s + 1, hs⟩).val (pt ⟨s + 1, hs⟩).isLt).2 : Vec Ideal S1x1x384 .f32) (ix3 (0 : Fin 1) (0 : Fin 1) l)
      = ((outsAt0 m c (pt ⟨s, Nat.lt_of_succ_lt hs⟩).val (pt ⟨s, Nat.lt_of_succ_lt hs⟩).isLt).2 : Vec Ideal S1x1x384 .f32) (ix3 (0 : Fin 1) (0 : Fin 1) l)
        + Products.tile 256 (term m c l) (s + 1) := by
  rw [outsAt0_B m c (pt ⟨s + 1, hs⟩) (by show ¬(s + 1) % 17 = 0; omega) (by show 1 ≤ s + 1; omega),
    same_state m c ((pt ⟨s + 1, hs⟩).val - 1) (pt ⟨s, Nat.lt_of_succ_lt hs⟩).val rfl _ (pt ⟨s, Nat.lt_of_succ_lt hs⟩).isLt]
  dsimp only
  rw [later_sum]
  refine (added_apply _ _ l).trans ?_
  exact congrArg (fun a : EReal => _ + a) (tile_apply m c ⟨s + 1, hs⟩ l)

/-- At the last tile the block holds the whole sum. -/
theorem total (l : Fin 384) :
    ((outsAt0 m c (pt 16).val (pt 16).isLt).2 : Vec Ideal S1x1x384 .f32) (ix3 (0 : Fin 1) (0 : Fin 1) l) = ∑ p : Fin 4352, term m c l p :=
  Products.accumulated (w := 256) (p := 16) (term m c l)
    (fun s hs => ((outsAt0 m c (pt ⟨s, hs⟩).val (pt ⟨s, hs⟩).isLt).2 : Vec Ideal S1x1x384 .f32) (ix3 (0 : Fin 1) (0 : Fin 1) l)) rfl
    (start_apply m c l) (fun s hs => step_apply m c l s hs)

theorem emb4 (l : Fin 384) : (((cfg0.win 4).blk (pt n)).view.emb (ix3 (0 : Fin 1) (0 : Fin 1) l) : S1x1x384.Idx) = ix3 (0 : Fin 1) (0 : Fin 1) l := by
  funext a
  apply Fin.ext
  match a with
  | ⟨0, _⟩ => show win0_4.index (pt n) 0 * 1 + 1 * 0 = 0; rw [(index_gains (pt n)).2]; rfl
  | ⟨1, _⟩ => show win0_4.index (pt n) 1 * 1 + 1 * 0 = 0; rw [(index_gains (pt n)).2]; rfl
  | ⟨2, _⟩ => show win0_4.index (pt n) 2 * 384 + 1 * l.val = l.val; rw [(index_gains (pt n)).2]; show 0 * 384 + 1 * l.val = _; ring

/-- Only the last point writes back. -/
theorem apart : ∀ t t' : Fin cfg0.N, (cfg0.win 4).flush t = true → (cfg0.win 4).flush t' = true → t ≠ t' →
    Disjoint ((cfg0.win 4).blk t).view.set ((cfg0.win 4).blk t').view.set := by
  intro t t' f f' hne
  have g := (flush0_4 t).mp f
  have g' := (flush0_4 t').mp f'
  have h : t.val < 17 := t.isLt
  have h' : t'.val < 17 := t'.isLt
  exact absurd (Fin.ext (by omega)) hne

theorem sum_result (l : Fin 384) : ((dats m 0 c).arrAt 4 cfg0.N : Vec Ideal S1x1x384 .f32) (ix3 (0 : Fin 1) (0 : Fin 1) l) = ∑ p : Fin 4352, term m c l p := by
  have e := congrFun ((dats m 0 c).read_blk_arrAt_eq_flushed 4 apart cfg0.N (pt 16) (pt 16).isLt ((flush0_4 _).mpr rfl)) (ix3 (0 : Fin 1) (0 : Fin 1) l)
  rw [View.read_apply, Cert.Kernel21Ideal.Value.flushed4, emb4 16 l] at e
  exact e.trans (total m c l)

/-- The gains' gradient is the reference's. -/
theorem sum_equation : ((dats m 0 c).arrAt 4 cfg0.N : Vec Ideal S1x1x384 .f32)
    = Cert.Reference21Ideal.Read.val_main_v36 (F := Ideal) (m ((c : Thread nD τ).loc main_arg0)) (m ((c : Thread nD τ).loc main_arg2)) := by
  funext z
  obtain ⟨u, v, l, rfl⟩ := Products.cases3 z
  obtain rfl := Subsingleton.elim u 0
  obtain rfl := Subsingleton.elim v 0
  refine (sum_result m c l).trans ?_
  rw [Norm.R21.gain_apply]
  rfl

end K21

end Norm

end
-- ==== Proof.ConvShort.lean ====
/- The convolution of three taps: the comparisons of its row numbers, and one tap more of its sums. -/
module

public import proofs.«01_k».proof.Proof.ConvRef

@[expose] public section

set_option maxRecDepth 16384

noncomputable section

namespace Conv

open Idealize.ShloMosaic Idealize.ShloMosaic.ValueIdx AttGrad

/-- The comparisons of the row numbers: tap `k` of three reads what tap `14 + k` of thirty-one reads. -/
theorem reads_short_word (l : Fin 4352) (k : Fin 3) (p : Fin 4352) :
    Scalar.select (IntOp.andi (IntOp.cmpi .eq (IntOp.addi (BitVec.ofNat 32 l.val) (BitVec.ofNat 32 k.val)) (IntOp.addi (BitVec.ofNat 32 p.val) 1#32))
        (IntOp.cmpi .eq (IntOp.cmpi .slt (BitVec.ofNat 32 l.val) 256#32) (IntOp.cmpi .slt (BitVec.ofNat 32 p.val) 256#32)))
      (Scalar.ofBits (F := Ideal) .f32 0x3F800000#32) (Scalar.ofBits (F := Ideal) .f32 0x00000000#32)
      = if Reads l.val (14 + k.val) p.val then (1 : EReal) else 0 := by
  have hl := l.isLt
  have hk := k.isLt
  have hp := p.isLt
  have e1 : IntOp.addi (BitVec.ofNat 32 l.val) (BitVec.ofNat 32 k.val) = BitVec.ofNat 32 (l.val + k.val) := (BitVec.ofNat_add _ _).symm
  have e2 : IntOp.addi (BitVec.ofNat 32 p.val) 1#32 = BitVec.ofNat 32 (p.val + 1) := (BitVec.ofNat_add _ _).symm
  have e3 : (l.val + (14 + k.val) = p.val + 15) ↔ (l.val + k.val = p.val + 1) := by omega
  rw [e1, e2, WordCmp.cmpi_eq_ofNat (by omega) (by omega), WordCmp.cmpi_slt_ofNat (by omega) (by omega), WordCmp.cmpi_slt_ofNat (by omega) (by omega)]
  by_cases h1 : l.val + k.val = p.val + 1 <;> by_cases h2 : l.val < 256 <;> by_cases h3 : p.val < 256 <;>
    simp [Reads, e3, h1, h2, h3, IntOp.cmpi, IntOp.andi, Scalar.select, Scalar.ofBits, Ideal.ofBits_one_f32]

/-- What tap number `o` of three adds at row `r`, times the weight of row `k`. -/
def shortTerm (W : Vec Ideal ⟨2, ![288, 128]⟩ .f32) (w : Vec Ideal ⟨2, ![3, 128]⟩ .f32) (r : Fin 256) (c : Fin 128) (o k : ℕ) : EReal :=
  W (ix2 (⟨(r.val + 15 + o) % 288, Nat.mod_lt _ (by decide)⟩ : Fin 288) c) * w (ix2 (⟨k % 3, Nat.mod_lt _ (by decide)⟩ : Fin 3) c)

/-- One tap more. -/
theorem tap_short (W : Vec Ideal ⟨2, ![288, 128]⟩ .f32) (w : Vec Ideal ⟨2, ![3, 128]⟩ .f32) (r : Fin 256) (c : Fin 128) (o k : ℕ) (ho : o < 3) (hk : k < 3)
    (h : (⟨2, ![288, 128]⟩ : Shape).Rotates 0 none) (hs : (⟨2, ![288, 128]⟩ : Shape).Slices ![0, 0] ⟨2, ![256, 128]⟩)
    (hi : ∀ a, (![k, 0] : Fin 2 → ℕ) a + (![1, 128] : Fin 2 → ℕ) a ≤ (⟨2, ![3, 128]⟩ : Shape).size a) (hb : (⟨2, ![1, 128]⟩ : Shape).Broadcasts ⟨2, ![256, 128]⟩)
    (acc : FVec Ideal ⟨2, ![256, 128]⟩ .f32) (v : EReal) (H : acc (ix2 r c) = v) :
    addf acc (mulf (extractStridedSlice ⟨2, ![256, 128]⟩ ![0, 0] (dynamicRotate 0 (BitVec.ofNat 32 (273 - o)) none W h) hs)
      (broadcastTo ⟨2, ![256, 128]⟩ (View.ld w (Rect.unit (s := ⟨2, ![3, 128]⟩) ![k, 0] ![1, 128] hi)) hb)) (ix2 r c)
      = v + shortTerm W w r c o k := by
  rw [← H]
  refine congrArg (acc (ix2 r c) + ·) (congrArg₂ (fun (a : EReal) b => a * b) ?_ ?_)
  · rw [tap_apply]
    congr 2
    apply Fin.ext
    show (r.val + 288 - (273 - o) % 2 ^ 32 % 288) % 288 = (r.val + 15 + o) % 288
    have := r.isLt
    omega
  · rw [broadcastTo_1b_ab_apply]
    refine View.ld_unit_apply_of w _ _ hi _ _ fun a => ?_
    match a with
    | ⟨0, _⟩ => show k % 3 = k + 0; omega
    | ⟨1, _⟩ => show c.val = 0 + c.val; omega

end Conv

end
-- ==== Proof.ConvRef22.lean ====
/- The reference's gradient of the convolution of three taps with respect to its input, at an entry: a sum over the taps. -/
module

public import proofs.«01_k».proof.Proof.ConvShort
public import proofs.«01_k».proof.Proof.Gen.Reference22Ideal.Read

@[expose] public section

set_option maxRecDepth 16384

noncomputable section

namespace Conv

open Idealize.ShloMosaic Idealize.ShloMosaic.ValueIdx AttGrad

/-! ## The gradient with respect to the input -/

namespace R22

open Cert.Reference22Ideal Cert.Reference22Ideal.Gen Cert.Reference22Ideal.Read

variable (x0 : (⟨S4352x512, .f32⟩ : BufTy).Contents (Elt Ideal)) (x1 : (⟨S3x512, .f32⟩ : BufTy).Contents (Elt Ideal)) (x2 : (⟨S4352x512, .f32⟩ : BufTy).Contents (Elt Ideal))

/-- The array that picks the rows read. -/
theorem picks (l : Fin 4352) (k : Fin 3) (p : Fin 4352) : val_main_v25 (F := Ideal) (ix3 l k p) = if Reads l.val (14 + k.val) p.val then (1 : EReal) else 0 := by
  refine Eq.trans ?_ (reads_short_word l k p)
  rw [val_main_v25_apply, val_main_v24_apply, val_main_v22_apply, val_main_v23_apply, val_main_v20_apply, val_main_v21_apply, val_main_v16_apply,
    val_main_v19_apply, val_main_v18_apply, val_main_v17_apply, val_main_c_1_apply, val_main_v14_apply, val_main_v15_apply, val_main_v11_apply, val_main_v13_apply,
    val_main_v12_apply, val_main_v0_apply, val_main_v1_apply, val_main_v0_apply, val_main_v10_apply, val_main_v8_apply, val_main_v9_apply, val_main_v4_apply,
    val_main_v7_apply, val_main_v6_apply, val_main_v2_apply, val_main_v3_apply, val_main_v5_apply, val_main_c_apply, val_main_c_0_apply, val_main_v0_apply, val_main_v0_apply,
    val_main_call0_v0_apply, val_main_call0_v1_apply, val_main_cst_apply, val_main_cst_2_apply]

/-- The dimensions of the product over rows and taps. -/
abbrev D : DotDims S4352x3x512 S4352x3x4352 S512x4352 := dot_S4352x3x512_S4352x3x4352_S512x4352_01_01_2_2_n_n

/-- A contracted position is a row and a tap. -/
def position : D.contr.Idx ≃ Fin 4352 × Fin 3 where
  toFun q := (q ⟨0, by decide⟩, q ⟨1, by decide⟩)
  invFun p := fun a => match a with
    | ⟨0, _⟩ => p.1
    | ⟨1, _⟩ => p.2
  left_inv q := by
    funext a
    match a with
    | ⟨0, _⟩ => rfl
    | ⟨1, _⟩ => rfl
  right_inv p := rfl

theorem left_0 (i : S512x4352.Idx) (p : Fin 4352 × Fin 3) : (D.lhsIdx i (position.symm p) 0).val = p.1.val := by
  unfold DotDims.lhsIdx
  rw [dif_neg (show ¬(0 : Fin S4352x3x512.rank) ∈ D.lhsBatch by decide), dif_neg (show ¬(0 : Fin S4352x3x512.rank) ∈ D.lhsNonContracting by decide)]
  rfl

theorem left_1 (i : S512x4352.Idx) (p : Fin 4352 × Fin 3) : (D.lhsIdx i (position.symm p) 1).val = p.2.val := by
  unfold DotDims.lhsIdx
  rw [dif_neg (show ¬(1 : Fin S4352x3x512.rank) ∈ D.lhsBatch by decide), dif_neg (show ¬(1 : Fin S4352x3x512.rank) ∈ D.lhsNonContracting by decide)]
  rfl

theorem left_2 (i : S512x4352.Idx) (p : Fin 4352 × Fin 3) : (D.lhsIdx i (position.symm p) 2).val = (i 0).val := by
  unfold DotDims.lhsIdx
  rw [dif_neg (show ¬(2 : Fin S4352x3x512.rank) ∈ D.lhsBatch by decide), dif_pos (show (2 : Fin S4352x3x512.rank) ∈ D.lhsNonContracting by decide)]
  rfl

theorem left_index (i : S512x4352.Idx) (p : Fin 4352 × Fin 3) : D.lhsIdx i (position.symm p) = ix3 p.1 p.2 (i 0) :=
  funext fun a => Fin.ext (by
    match a with
    | ⟨0, _⟩ => exact left_0 i p
    | ⟨1, _⟩ => exact left_1 i p
    | ⟨2, _⟩ => exact left_2 i p)

theorem right_0 (i : S512x4352.Idx) (p : Fin 4352 × Fin 3) : (D.rhsIdx i (position.symm p) 0).val = p.1.val := by
  unfold DotDims.rhsIdx
  rw [dif_neg (show ¬(0 : Fin S4352x3x4352.rank) ∈ D.rhsBatch by decide), dif_neg (show ¬(0 : Fin S4352x3x4352.rank) ∈ D.rhsNonContracting by decide)]
  rfl

theorem right_1 (i : S512x4352.Idx) (p : Fin 4352 × Fin 3) : (D.rhsIdx i (position.symm p) 1).val = p.2.val := by
  unfold DotDims.rhsIdx
  rw [dif_neg (show ¬(1 : Fin S4352x3x4352.rank) ∈ D.rhsBatch by decide), dif_neg (show ¬(1 : Fin S4352x3x4352.rank) ∈ D.rhsNonContracting by decide)]
  rfl

theorem right_2 (i : S512x4352.Idx) (p : Fin 4352 × Fin 3) : (D.rhsIdx i (position.symm p) 2).val = (i 1).val := by
  unfold DotDims.rhsIdx
  rw [dif_neg (show ¬(2 : Fin S4352x3x4352.rank) ∈ D.rhsBatch by decide), dif_pos (show (2 : Fin S4352x3x4352.rank) ∈ D.rhsNonContracting by decide)]
  rfl

theorem right_index (i : S512x4352.Idx) (p : Fin 4352 × Fin 3) : D.rhsIdx i (position.symm p) = ix3 p.1 p.2 (i 1) :=
  funext fun a => Fin.ext (by
    match a with
    | ⟨0, _⟩ => exact right_0 i p
    | ⟨1, _⟩ => exact right_1 i p
    | ⟨2, _⟩ => exact right_2 i p)

/-- The product over rows and taps, at an entry. -/
theorem product_apply (c : Fin 512) (p : Fin 4352) :
    val_main_v38 (F := Ideal) x1 x2 (ix2 c p)
      = ∑ l : Fin 4352, ∑ k : Fin 3, val_main_v36 (F := Ideal) x1 x2 (ix3 l k c) * val_main_v25 (F := Ideal) (ix3 l k p) := by
  unfold val_main_v38
  generalize val_main_v36 (F := Ideal) x1 x2 = y0
  generalize val_main_v25 (F := Ideal) = y1
  simp only [Host.dotGeneral]
  rw [Ideal.dotGeneral_apply, ← Equiv.sum_comp position.symm, Fintype.sum_prod_type]
  refine Finset.sum_congr rfl fun l _ => Finset.sum_congr rfl fun k _ => ?_
  exact congrArg₂ (fun a b => y0 a * y1 b) (left_index (ix2 c p) (l, k)) (right_index (ix2 c p) (l, k))

/-- The factor of a row and a tap. -/
theorem factor_apply (l : Fin 4352) (k : Fin 3) (c : Fin 512) : val_main_v36 (F := Ideal) x1 x2 (ix3 l k c) = x2 (ix2 l c) * x1 (ix2 k c) := by
  rw [val_main_v36_apply, val_main_v31_apply, val_main_v35_apply, val_main_v27_apply]
  refine congrArg₂ (fun (a : EReal) b => a * b) (congrArg x2 ?_) (congrArg x1 ?_)
  · funext a; match a with
      | ⟨0, _⟩ => rfl
      | ⟨1, _⟩ => rfl
  · funext a; match a with
      | ⟨0, _⟩ => rfl
      | ⟨1, _⟩ => rfl

/-- The gradient at an entry: every tap's weight times the cotangent at the row that reads it. -/
theorem gradient_apply (p : Fin 4352) (c : Fin 512) :
    val_main_v39 (F := Ideal) x1 x2 (ix2 p c) = ∑ k : Fin 3, reach (fun l => x2 (ix2 l c)) p.val (16 - k.val) * x1 (ix2 k c) := by
  rw [val_main_v39_apply]
  refine Eq.trans (b := val_main_v38 (F := Ideal) x1 x2 (ix2 c p)) (congrArg _ (funext fun a => by match a with
    | ⟨0, _⟩ => rfl
    | ⟨1, _⟩ => rfl)) ?_
  rw [product_apply, Finset.sum_comm]
  refine Finset.sum_congr rfl fun k _ => ?_
  have hk := k.isLt
  rw [← reach_mul, show 16 - k.val = 30 - (14 + k.val) by omega, ← sum_readers _ _ (14 + k.val) (by omega)]
  exact Finset.sum_congr rfl fun l _ => congrArg₂ (fun (a : EReal) b => a * b) (factor_apply x1 x2 l k c) (picks l k p)

end R22

end Conv

end
-- ==== Proof.Conv22.lean ====
/- The three-tap convolution's gradient with respect to its input: every tile's sum over the taps is the reference's entry. -/
module

public import proofs.«01_k».proof.Proof.ConvRef22
public import proofs.«01_k».proof.Proof.Gen.Kernel22Ideal.Value

@[expose] public section

set_option maxRecDepth 16384

noncomputable section

namespace Conv.K22

open Cert.Kernel22Ideal Cert.Kernel22Ideal.Gen Idealize.ShloMosaic Idealize.ShloMosaic.TcCoe Idealize.SL.Sem
open Idealize.ShloMosaic.ValueIdx AttGrad

theorem starts : (![0, 0] : Fin 2 → ℕ) = fun _ => 0 := by funext a; match a with
  | ⟨0, _⟩ => rfl
  | ⟨1, _⟩ => rfl

/-! ## The body -/

section Body
variable (i : grid0.Coords) (x0 x1 x2 : Vec Ideal S256x128 .f32) (x3 : Vec Ideal S3x128 .f32) (r : Fin 256) (c : Fin 128)

/-- The window the body makes of its three blocks. -/
def win : Vec Ideal S288x128 .f32 := window (i 1).val (View.ld x0 r0_0) (View.ld x2 r0_1) (View.ld x1 r0_2)

theorem win_eq : win i x0 x1 x2 = window (i 1).val (View.ld x0 r0_0) (View.ld x2 r0_1) (View.ld x1 r0_2) := rfl

/-- The block a point leaves: the sum over the taps. -/
theorem block_apply : out0_4 i x0 x1 x2 x3 (ix2 r c)
    = 0 + shortTerm (win i x0 x1 x2) x3 r c 0 2 + shortTerm (win i x0 x1 x2) x3 r c 1 1 + shortTerm (win i x0 x1 x2) x3 r c 2 0 := by
  unfold out0_4
  rw [View.canon_unit_zero starts]
  refine tap_short (win i x0 x1 x2) x3 r c 2 0 (by decide) (by decide) _ _ _ _ _ _ ?_
  refine tap_short (win i x0 x1 x2) x3 r c 1 1 (by decide) (by decide) _ _ _ _ _ _ ?_
  refine tap_short (win i x0 x1 x2) x3 r c 0 2 (by decide) (by decide) _ _ _ _ _ _ ?_
  exact Ideal.ofBits_zero_f32

end Body

/-! ## The blocks of a grid point -/

variable (m : (ℓ : Loc nD τ sig) → Buf (Elt Ideal) ℓ) (c : Dev nD)

/-- The cotangent and the weights. -/
abbrev ct : Vec Ideal S4352x512 .f32 := m ((c : Thread nD τ).loc main_arg2)
abbrev weights : Vec Ideal S3x512 .f32 := m ((c : Thread nD τ).loc main_arg1)

/-- The point of lanes `b` and tile `n`. -/
def pt (b : Fin 4) (n : Fin 17) : Fin cfg0.N := ⟨17 * b.val + n.val, by show 17 * b.val + n.val < 68; omega⟩
theorem pt_mod (b : Fin 4) (n : Fin 17) : (pt b n).val % 17 = n.val := by show (17 * b.val + n.val) % 17 = n.val; omega
theorem pt_div (b : Fin 4) (n : Fin 17) : (pt b n).val / 17 = b.val := by show (17 * b.val + n.val) / 17 = b.val; omega
theorem coord (b : Fin 4) (n : Fin 17) : (grid0.coords (pt b n) 1).val = n.val :=
  ((by decide +kernel : ∀ t : Fin grid0.N, (grid0.coords t 1).val = t.val % 17) (pt b n)).trans (pt_mod b n)

/-- Lane `l` of lane block `b`. -/
def lane (b : Fin 4) (l : Fin 128) : Fin 512 := ⟨128 * b.val + l.val, by omega⟩

theorem index_near : ∀ t : Fin cfg0.N, win0_0.index t = ![t.val % 17 - 1, t.val / 17] ∧ win0_1.index t = ![t.val % 17, t.val / 17]
    ∧ win0_2.index t = ![min (t.val % 17 + 1) 16, t.val / 17] :=
  (by decide +kernel : ∀ t : Fin grid0.N, win0_0.index t = ![t.val % 17 - 1, t.val / 17] ∧ win0_1.index t = ![t.val % 17, t.val / 17]
    ∧ win0_2.index t = ![min (t.val % 17 + 1) 16, t.val / 17])
theorem index_else : ∀ t : Fin cfg0.N, win0_3.index t = ![0, t.val / 17] ∧ win0_4.index t = ![t.val % 17, t.val / 17] :=
  (by decide +kernel : ∀ t : Fin grid0.N, win0_3.index t = ![0, t.val / 17] ∧ win0_4.index t = ![t.val % 17, t.val / 17])

variable (b : Fin 4) (n : Fin 17) (l : Fin 128)

theorem before_block (h : 1 ≤ n.val) (a : Fin 256) : (iblk m c 0 (pt b n) : Vec Ideal S256x128 .f32) (ix2 a l)
    = ct m c (ix2 (⟨256 * (n.val - 1) + a.val, by omega⟩ : Fin 4352) (lane b l)) := by
  unfold iblk
  rw [View.read_apply]
  refine Eq.trans ?_ (congrFun (V_main_arg2 m c) _)
  show V m c main_arg2 _ = V m c main_arg2 _
  congr 1
  funext x
  apply Fin.ext
  match x with
  | ⟨0, _⟩ => show win0_0.index (pt b n) 0 * 256 + 1 * a.val = 256 * (n.val - 1) + a.val; rw [(index_near (pt b n)).1]; show ((pt b n).val % 17 - 1) * 256 + 1 * a.val = _; rw [pt_mod]; ring
  | ⟨1, _⟩ => show win0_0.index (pt b n) 1 * 128 + 1 * l.val = 128 * b.val + l.val; rw [(index_near (pt b n)).1]; show (pt b n).val / 17 * 128 + 1 * l.val = _; rw [pt_div]; ring

theorem here_block (a : Fin 256) : (iblk m c 1 (pt b n) : Vec Ideal S256x128 .f32) (ix2 a l)
    = ct m c (ix2 (⟨256 * n.val + a.val, by omega⟩ : Fin 4352) (lane b l)) := by
  unfold iblk
  rw [View.read_apply]
  refine Eq.trans ?_ (congrFun (V_main_arg2 m c) _)
  show V m c main_arg2 _ = V m c main_arg2 _
  congr 1
  funext x
  apply Fin.ext
  match x with
  | ⟨0, _⟩ => show win0_1.index (pt b n) 0 * 256 + 1 * a.val = 256 * n.val + a.val; rw [(index_near (pt b n)).2.1]; show (pt b n).val % 17 * 256 + 1 * a.val = _; rw [pt_mod]; ring
  | ⟨1, _⟩ => show win0_1.index (pt b n) 1 * 128 + 1 * l.val = 128 * b.val + l.val; rw [(index_near (pt b n)).2.1]; show (pt b n).val / 17 * 128 + 1 * l.val = _; rw [pt_div]; ring

theorem after_block (h : n.val < 16) (a : Fin 256) : (iblk m c 2 (pt b n) : Vec Ideal S256x128 .f32) (ix2 a l)
    = ct m c (ix2 (⟨256 * (n.val + 1) + a.val, by omega⟩ : Fin 4352) (lane b l)) := by
  unfold iblk
  rw [View.read_apply]
  refine Eq.trans ?_ (congrFun (V_main_arg2 m c) _)
  show V m c main_arg2 _ = V m c main_arg2 _
  congr 1
  funext x
  apply Fin.ext
  match x with
  | ⟨0, _⟩ => show win0_2.index (pt b n) 0 * 256 + 1 * a.val = 256 * (n.val + 1) + a.val; rw [(index_near (pt b n)).2.2]; show min ((pt b n).val % 17 + 1) 16 * 256 + 1 * a.val = _; rw [pt_mod, Nat.min_eq_left (by omega)]; ring
  | ⟨1, _⟩ => show win0_2.index (pt b n) 1 * 128 + 1 * l.val = 128 * b.val + l.val; rw [(index_near (pt b n)).2.2]; show (pt b n).val / 17 * 128 + 1 * l.val = _; rw [pt_div]; ring

theorem weights_block (k : Fin 3) : (iblk m c 3 (pt b n) : Vec Ideal S3x128 .f32) (ix2 k l) = weights m c (ix2 k (lane b l)) := by
  unfold iblk
  rw [View.read_apply]
  refine Eq.trans ?_ (congrFun (V_main_arg1 m c) _)
  show V m c main_arg1 _ = V m c main_arg1 _
  congr 1
  funext x
  apply Fin.ext
  match x with
  | ⟨0, _⟩ => show win0_3.index (pt b n) 0 * 3 + 1 * k.val = k.val; rw [(index_else (pt b n)).1]; show 0 * 3 + 1 * k.val = _; ring
  | ⟨1, _⟩ => show win0_3.index (pt b n) 1 * 128 + 1 * l.val = 128 * b.val + l.val; rw [(index_else (pt b n)).1]; show (pt b n).val / 17 * 128 + 1 * l.val = _; rw [pt_div]; ring

/-! ## The array after the run -/

/-- A row of the window is what a tap reads. -/
theorem win_reach (r : Fin 256) (k : Fin 3) (q : Fin 288) (hq : q.val = r.val + 15 + k.val) :
    win (grid0.coords (pt b n)) (iblk m c 0 (pt b n)) (iblk m c 1 (pt b n)) (iblk m c 2 (pt b n)) (ix2 q l)
      = reach (fun p => ct m c (ix2 p (lane b l))) (256 * n.val + r.val) (14 + k.val) := by
  rw [win_eq, coord]
  refine window_reach n.val _ _ _ l (fun p => ct m c (ix2 p (lane b l))) n.isLt (fun h a => ?_) (fun a => ?_) (fun h a => ?_) r (⟨14 + k.val, by omega⟩ : Fin 31) q (by rw [hq]; show r.val + 15 + k.val = r.val + (14 + k.val) + 1; omega)
  · refine (View.ld_unit_apply_of (iblk m c 0 (pt b n) : Vec Ideal S256x128 .f32) _ _ _ _ (ix2 (⟨240 + a.val, by omega⟩ : Fin 256) l) fun x => ?_).trans ?_
    · match x with
      | ⟨0, _⟩ => rfl
      | ⟨1, _⟩ => show l.val = 0 + l.val; omega
    · refine (before_block m c b n l h _).trans (congrArg (fun p => ct m c (ix2 p (lane b l))) (Fin.ext ?_))
      show 256 * (n.val - 1) + (240 + a.val) = 256 * (n.val - 1) + 240 + a.val
      omega
  · rw [View.ld_unit_zero (S := S256x128) starts]
    exact here_block m c b n l a
  · refine (View.ld_unit_apply_of (iblk m c 2 (pt b n) : Vec Ideal S256x128 .f32) _ _ _ _ (ix2 (⟨a.val, by omega⟩ : Fin 256) l) fun x => ?_).trans ?_
    · match x with
      | ⟨0, _⟩ => show a.val = 0 + a.val; omega
      | ⟨1, _⟩ => show l.val = 0 + l.val; omega
    · exact after_block m c b n l h _

/-- The block of a point. -/
theorem tile_apply (r : Fin 256) :
    out0_4 (grid0.coords (pt b n)) (iblk m c 0 (pt b n)) (iblk m c 1 (pt b n)) (iblk m c 2 (pt b n)) (iblk m c 3 (pt b n)) (ix2 r l)
      = ∑ k : Fin 3, reach (fun p => ct m c (ix2 p (lane b l))) (256 * n.val + r.val) (16 - k.val) * weights m c (ix2 k (lane b l)) := by
  refine (block_apply _ _ _ _ _ r l).trans ?_
  have hr := r.isLt
  rw [Fin.sum_univ_three, zero_add]
  rw [add_comm (shortTerm _ _ _ _ 0 2 + _), add_comm (shortTerm _ _ _ _ 0 2), ← add_assoc]
  refine congrArg₂ (fun (a : EReal) b => a + b) (congrArg₂ (fun (a : EReal) b => a + b) ?_ ?_) ?_
  · refine congrArg₂ (fun (a : EReal) b => a * b) (win_reach m c b n l r (2 : Fin 3) _ ?_) (weights_block m c b n l _)
    show (r.val + 15 + 2) % 288 = r.val + 15 + 2
    omega
  · refine congrArg₂ (fun (a : EReal) b => a * b) (win_reach m c b n l r (1 : Fin 3) _ ?_) (weights_block m c b n l _)
    show (r.val + 15 + 1) % 288 = r.val + 15 + 1
    omega
  · refine congrArg₂ (fun (a : EReal) b => a * b) (win_reach m c b n l r (0 : Fin 3) _ ?_) (weights_block m c b n l _)
    show (r.val + 15 + 0) % 288 = r.val + 15 + 0
    omega

theorem emb4 (r : Fin 256) : (((cfg0.win 4).blk (pt b n)).view.emb (ix2 r l) : S4352x512.Idx) = ix2 (⟨256 * n.val + r.val, by omega⟩ : Fin 4352) (lane b l) := by
  funext a
  apply Fin.ext
  match a with
  | ⟨0, _⟩ => show win0_4.index (pt b n) 0 * 256 + 1 * r.val = 256 * n.val + r.val; rw [(index_else (pt b n)).2]; show (pt b n).val % 17 * 256 + 1 * r.val = _; rw [pt_mod]; ring
  | ⟨1, _⟩ => show win0_4.index (pt b n) 1 * 128 + 1 * l.val = 128 * b.val + l.val; rw [(index_else (pt b n)).2]; show (pt b n).val / 17 * 128 + 1 * l.val = _; rw [pt_div]; ring

/-- The array the run leaves, at an entry. -/
theorem result_apply (r : Fin 256) : ((dats m 0 c).arrAt 4 cfg0.N : Vec Ideal S4352x512 .f32) (ix2 (⟨256 * n.val + r.val, by omega⟩ : Fin 4352) (lane b l))
    = ∑ k : Fin 3, reach (fun p => ct m c (ix2 p (lane b l))) (256 * n.val + r.val) (16 - k.val) * weights m c (ix2 k (lane b l)) := by
  have e := congrFun (Cert.Kernel22Ideal.Value.blocks4 m c (pt b n) (flush0_4 _)) (ix2 r l)
  rw [View.read_apply, Cert.Kernel22Ideal.Value.flushed4] at e
  rw [← emb4 b n l r]
  exact e.trans (tile_apply m c b n l r)

/-- What the kernel leaves is what the reference computes. -/
theorem equation : ((dats m 0 c).arrAt 4 cfg0.N : Vec Ideal S4352x512 .f32)
    = Cert.Reference22Ideal.Read.val_main_v39 (F := Ideal) (m ((c : Thread nD τ).loc main_arg1)) (m ((c : Thread nD τ).loc main_arg2)) := by
  funext z
  obtain ⟨x, y, rfl⟩ := Products.cases2 z
  obtain ⟨n, r, rfl⟩ := Products.slab_cases (w := 256) (d := 17) (n := 4352) rfl (by decide) x
  obtain ⟨b, l, rfl⟩ := Products.slab_cases (w := 128) (d := 4) (n := 512) rfl (by decide) y
  refine (result_apply m c b n l r).trans ?_
  rw [Conv.R22.gradient_apply]
  rfl

end Conv.K22

end
-- ==== Proof.ConvRef23.lean ====
/- The reference's gradient of the convolution of three taps with respect to its weights, at an entry: a sum over the rows. -/
module

public import proofs.«01_k».proof.Proof.ConvShort
public import proofs.«01_k».proof.Proof.Gen.Reference23Ideal.Read

@[expose] public section

set_option maxRecDepth 16384

noncomputable section

namespace Conv

open Idealize.ShloMosaic Idealize.ShloMosaic.ValueIdx AttGrad

/-! ## The gradient with respect to the weights -/

namespace R23

open Cert.Reference23Ideal Cert.Reference23Ideal.Gen Cert.Reference23Ideal.Read

variable (x0 : (⟨S4352x512, .f32⟩ : BufTy).Contents (Elt Ideal)) (x2 : (⟨S4352x512, .f32⟩ : BufTy).Contents (Elt Ideal))

/-- The array that picks the rows read. -/
theorem picks (l : Fin 4352) (k : Fin 3) (p : Fin 4352) : val_main_v25 (F := Ideal) (ix3 l k p) = if Reads l.val (14 + k.val) p.val then (1 : EReal) else 0 := by
  refine Eq.trans ?_ (reads_short_word l k p)
  rw [val_main_v25_apply, val_main_v24_apply, val_main_v22_apply, val_main_v23_apply, val_main_v20_apply, val_main_v21_apply, val_main_v16_apply,
    val_main_v19_apply, val_main_v18_apply, val_main_v17_apply, val_main_c_1_apply, val_main_v14_apply, val_main_v15_apply, val_main_v11_apply, val_main_v13_apply,
    val_main_v12_apply, val_main_v0_apply, val_main_v1_apply, val_main_v0_apply, val_main_v10_apply, val_main_v8_apply, val_main_v9_apply, val_main_v4_apply,
    val_main_v7_apply, val_main_v6_apply, val_main_v2_apply, val_main_v3_apply, val_main_v5_apply, val_main_c_apply, val_main_c_0_apply, val_main_v0_apply, val_main_v0_apply,
    val_main_call0_v0_apply, val_main_call0_v1_apply, val_main_cst_apply, val_main_cst_2_apply]

/-- The rows read by a row's taps. -/
theorem read_apply (l : Fin 4352) (k : Fin 3) (c : Fin 512) : val_main_v26 (F := Ideal) x0 (ix3 l k c) = reach (fun p => x0 (ix2 p c)) l.val (14 + k.val) := by
  rw [val_main_v26_apply, ← sum_read]
  refine Finset.sum_congr rfl fun p _ => ?_
  rw [← picks]
  refine congrArg₂ (fun (a : EReal) b => a * b) (congrArg _ ?_) (congrArg x0 ?_)
  · funext a; match a with
      | ⟨0, _⟩ => rfl
      | ⟨1, _⟩ => rfl
      | ⟨2, _⟩ => rfl
  · funext a; match a with
      | ⟨0, _⟩ => rfl
      | ⟨1, _⟩ => rfl

/-- The gradient at an entry: the sum over the rows. -/
theorem gradient_apply (k : Fin 3) (c : Fin 512) :
    val_main_v37 (F := Ideal) x0 x2 (ix2 k c) = ∑ l : Fin 4352, reach (fun p => x0 (ix2 p c)) l.val (14 + k.val) * x2 (ix2 l c) := by
  rw [val_main_v37_apply, Fin.sum_univ_one, val_main_v34_apply]
  have e : idx_main_v34 (idx_main_v37 (ix2 k c) (0 : Fin 1)) = ix2 k c := by
    have := k.isLt
    have := c.isLt
    funext a
    apply Fin.ext
    match a with
    | ⟨0, _⟩ => show ((0 * 3 + k.val) * 512 + c.val) / 512 = k.val; omega
    | ⟨1, _⟩ => show ((0 * 3 + k.val) * 512 + c.val) % 512 = c.val; omega
  rw [e, val_main_v33_apply, val_main_cst_4_apply, val_main_cst_5_apply]
  refine Eq.trans (b := (0 : EReal) + (0 + ∑ l : Fin 4352, val_main_v32 (F := Ideal) x0 x2 (idx_main_v33 (ix2 k c) l)))
    (congrArg₂ (fun (a b : EReal) => a + (b + _)) Ideal.ofBits_zero_f32 Ideal.ofBits_zero_f32) ?_
  rw [zero_add, zero_add]
  refine Finset.sum_congr rfl fun l _ => ?_
  rw [val_main_v32_apply, ← read_apply, val_main_v31_apply]
  refine congrArg₂ (fun (a : EReal) b => a * b) (congrArg _ ?_) (congrArg x2 ?_)
  · funext a; match a with
      | ⟨0, _⟩ => rfl
      | ⟨1, _⟩ => rfl
      | ⟨2, _⟩ => rfl
  · funext a; match a with
      | ⟨0, _⟩ => rfl
      | ⟨1, _⟩ => rfl

end R23

end Conv

end
-- ==== Proof.ConvRowsShort.lean ====
/- The weight gradient of the convolution of three taps: the rows a point adds to. -/
module

public import proofs.«01_k».proof.Proof.ConvRows

@[expose] public section

set_option maxRecDepth 16384

noncomputable section

namespace Conv

open Idealize.ShloMosaic Idealize.ShloMosaic.ValueIdx AttGrad

/-- The rows with what each of the three taps gathers added. -/
def gatheredShort (acc : Vec Ideal ⟨2, ![3, 128]⟩ .f32) (W : Vec Ideal ⟨2, ![288, 128]⟩ .f32) (dy : Vec Ideal ⟨2, ![256, 128]⟩ .f32) :
    Vec Ideal ⟨2, ![3, 128]⟩ .f32 := fun y => acc y + gather W dy (14 + (y 0).val) (y 1)

/-- A stored row is what is read there; elsewhere the stores before it are. -/
theorem row_canon_short (acc : Vec Ideal ⟨2, ![3, 128]⟩ .f32) (W : Vec Ideal ⟨2, ![288, 128]⟩ .f32) (dy : Vec Ideal ⟨2, ![256, 128]⟩ .f32)
    (k : Fin 3) (l : Fin 128) (j : ℕ) (hj : j < 3)
    (hi : ∀ a, (![j, 0] : Fin 2 → ℕ) a + (![1, 128] : Fin 2 → ℕ) a ≤ (⟨2, ![3, 128]⟩ : Shape).size a)
    (pay : Vec Ideal ⟨2, ![1, 128]⟩ .f32) (L : List (View.Piece (Elt Ideal) ⟨2, ![3, 128]⟩ .f32))
    (H : pay (ix2 (0 : Fin 1) l) = acc (ix2 (⟨j, hj⟩ : Fin 3) l) + gather W dy (14 + j) l)
    (rest : k.val ≠ j → View.canon L (ix2 k l) = gatheredShort acc W dy (ix2 k l)) :
    View.canon ((⟨Rect.unit (s := ⟨2, ![3, 128]⟩) ![j, 0] ![1, 128] hi, pay⟩ : View.Piece (Elt Ideal) ⟨2, ![3, 128]⟩ .f32) :: L) (ix2 k l)
      = gatheredShort acc W dy (ix2 k l) := by
  by_cases e : k.val = j
  · have p : (ix2 k l : (⟨2, ![3, 128]⟩ : Shape).Idx) = (Rect.unit (s := ⟨2, ![3, 128]⟩) ![j, 0] ![1, 128] hi).emb (ix2 (0 : Fin 1) l) := by
      funext a
      apply Fin.ext
      match a with
      | ⟨0, _⟩ => show k.val = j + 1 * 0; omega
      | ⟨1, _⟩ => show l.val = 0 + 1 * l.val; omega
    have hk : k = ⟨j, hj⟩ := Fin.ext e
    rw [p, View.canon_cons_emb, ← p]
    refine H.trans ?_
    subst hk
    rfl
  · rw [View.canon_cons_of_not_mem _ _ ?_]
    · exact rest e
    · intro hm
      obtain ⟨x, hx⟩ := (Rect.unit (s := ⟨2, ![3, 128]⟩) ![j, 0] ![1, 128] hi).exists_idx_of_mem hm
      have q := congrArg (fun z : (⟨2, ![3, 128]⟩ : Shape).Idx => (z 0).val) hx
      have q' : j + 1 * (x 0).val = k.val := q
      have b : (x 0).val < 1 := (x 0).isLt
      omega

/-- A row read back past the store of another. -/
theorem row_skip_short {sig : RefSig} {κ : Kind} {sp : Space} (v : View sig κ sp ⟨2, ![3, 128]⟩ .f32) (j j' : ℕ)
    (hi : ∀ a, (![j, 0] : Fin 2 → ℕ) a + (![1, 128] : Fin 2 → ℕ) a ≤ (⟨2, ![3, 128]⟩ : Shape).size a)
    (hi' : ∀ a, (![j', 0] : Fin 2 → ℕ) a + (![1, 128] : Fin 2 → ℕ) a ≤ (⟨2, ![3, 128]⟩ : Shape).size a)
    (pay : Vec Ideal ⟨2, ![1, 128]⟩ .f32) (L : List (View.Piece (Elt Ideal) ⟨2, ![3, 128]⟩ .f32)) (x : (⟨2, ![1, 128]⟩ : Shape).Idx) (u : EReal)
    (hd : LoadRect.disj (Rect.unit (s := ⟨2, ![3, 128]⟩) ![j', 0] ![1, 128] hi') (Rect.unit (s := ⟨2, ![3, 128]⟩) ![j, 0] ![1, 128] hi).toLoadRect = true)
    (H : v.readCov L (Rect.unit (s := ⟨2, ![3, 128]⟩) ![j, 0] ![1, 128] hi).toLoadRect x = u) :
    v.readCov ((⟨Rect.unit (s := ⟨2, ![3, 128]⟩) ![j', 0] ![1, 128] hi', pay⟩ : View.Piece (Elt Ideal) ⟨2, ![3, 128]⟩ .f32) :: L)
      (Rect.unit (s := ⟨2, ![3, 128]⟩) ![j, 0] ![1, 128] hi).toLoadRect x = u := by
  rw [View.readCov_skip _ _ _ _ _ hd]
  exact H

end Conv

end
-- ==== Proof.Conv23.lean ====
/- The three-tap convolution's gradient with respect to its weights: the tiles of rows add up to the reference's sum over the rows. -/
module

public import proofs.«01_k».proof.Proof.ConvRef23
public import proofs.«01_k».proof.Proof.ConvRowsShort
public import proofs.«01_k».proof.Proof.Gen.Kernel23Ideal.Value

@[expose] public section

set_option maxRecDepth 16384

noncomputable section

namespace Conv.K23

open Cert.Kernel23Ideal Cert.Kernel23Ideal.Gen Idealize.ShloMosaic Idealize.ShloMosaic.TcCoe Idealize.SL.Sem
open Idealize.ShloMosaic.ValueIdx AttGrad

theorem starts : (![0, 0] : Fin 2 → ℕ) = fun _ => 0 := by funext a; match a with
  | ⟨0, _⟩ => rfl
  | ⟨1, _⟩ => rfl

/-! ## What a point leaves -/

section Point
variable (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S3x128 .f32) (harg6 : arg6.IsWhole)
  (x0 x1 x2 x3 : Vec Ideal S256x128 .f32)

/-- The window the body makes of its three blocks. -/
def win : Vec Ideal S288x128 .f32 :=
  k0_pay4 i (View.ld x0 (Rect.unit (s := S256x128) ![240, 0] S16x128.size inb_S256x128_S16x128_240_0)) (View.ld x2 (Rect.unit (s := S256x128) ![0, 0] S16x128.size inb_S256x128_S16x128_0_0)) x1

theorem win_eq : win i x0 x1 x2 = window (i 1).val (View.ld x0 (Rect.unit (s := S256x128) ![240, 0] S16x128.size inb_S256x128_S16x128_240_0))
    (View.ld x2 (Rect.unit (s := S256x128) ![0, 0] S16x128.size inb_S256x128_S16x128_0_0)) x1 := rfl

/-- A row of what the points before left, loaded. -/
theorem row_load (acc : Vec Ideal S3x128 .f32) (j : ℕ) (hj : j < 3)
    (hi : ∀ a, (![j, 0] : Fin 2 → ℕ) a + (![1, 128] : Fin 2 → ℕ) a ≤ S3x128.size a) (l : Fin 128) :
    (View.ld acc (Rect.unit (s := S3x128) ![j, 0] ![1, 128] hi) : Vec Ideal S1x128 .f32) (ix2 (0 : Fin 1) l) = acc (ix2 (⟨j, hj⟩ : Fin 3) l) :=
  View.ld_unit_apply_of acc _ _ hi _ _ fun a => by
    match a with
    | ⟨0, _⟩ => show j = j + 0; omega
    | ⟨1, _⟩ => show l.val = 0 + l.val; omega

/-- A later point adds what its taps gather. -/
theorem later_point (h0 : ¬cond0_0 i) (acc : Vec Ideal S3x128 .f32) :
    out0_B_4 c i arg2 harg2 arg3 harg3 arg4 harg4 arg5 harg5 arg6 harg6 h0 x0 x1 x2 x3 acc = gatheredShort acc (win i x0 x1 x2) x3 := by
  unfold out0_B_4
  rw [View.read_writes_eq_canon _ _ _ (cover0_B_4 c i arg2 harg2 arg3 harg3 arg4 harg4 arg5 harg5 arg6 harg6 h0 x0 x1 x2 x3 acc)]
  unfold kernelRun0_B
  dsimp only
  sl_unfold_words
  simp only [View.readAt_eq_ld, harg2.read_unread, harg3.read_unread, harg4.read_unread, harg5.read_unread, harg6.read_unread, View.ld_unit_zero (S := S256x128) starts]
  funext y
  obtain ⟨k, l, rfl⟩ := Products.cases2 y
  refine row_canon_short acc (win i x0 x1 x2) x3 k l 2 (by decide) _ _ _ (row_step (win i x0 x1 x2) x3 (14 + 2) (by decide) _ _ _ _ _ _ l _ (row_load acc 2 (by decide) _ l)) fun n2 => ?_
  refine row_canon_short acc (win i x0 x1 x2) x3 k l 1 (by decide) _ _ _ (row_step (win i x0 x1 x2) x3 (14 + 1) (by decide) rotates_S288x128_d0 slices_S288x128_o0_0_S256x128 reduces_S256x128_S128 shapeCasts_S1x128_S1x128 shapeCasts_S128_S1x128 _ l _ (row_load acc 1 (by decide) _ l)) fun n1 => ?_
  refine row_canon_short acc (win i x0 x1 x2) x3 k l 0 (by decide) _ _ _ (row_step (win i x0 x1 x2) x3 (14 + 0) (by decide) _ _ _ _ _ _ l _ (row_load acc 0 (by decide) _ l)) fun n0 => ?_
  have := k.isLt
  omega

/-- The window, from the loads that make it. -/
theorem win_loads : k0_pay4 i (View.readAt (Elt Ideal) arg2.view (Rect.unit (s := S256x128) ![240, 0] S16x128.size inb_S256x128_S16x128_240_0).toLoadRect (harg2.unread x0))
    (View.readAt (Elt Ideal) arg4.view (Rect.unit (s := S256x128) ![0, 0] S16x128.size inb_S256x128_S16x128_0_0).toLoadRect (harg4.unread x2))
    (View.readAt (Elt Ideal) arg3.view (Rect.unit (s := S256x128) ![0, 0] S256x128.size inb_S256x128_S256x128_0_0).toLoadRect (harg3.unread x1)) = win i x0 x1 x2 := by
  simp only [View.readAt_eq_ld, harg2.read_unread, harg3.read_unread, harg4.read_unread, View.ld_unit_zero (S := S256x128) starts]
  rfl

/-- The cotangent's tile, loaded. -/
theorem tile_load : View.readAt (Elt Ideal) arg5.view (Rect.unit (s := S256x128) ![0, 0] S256x128.size inb_S256x128_S256x128_0_0).toLoadRect (harg5.unread x3) = x3 := by
  simp only [View.readAt_eq_ld, harg5.read_unread, View.ld_unit_zero (S := S256x128) starts]

/-- The row whose sum is taken in two steps. -/
theorem row_1 {v9 v12 : Vec Ideal S16x128 .f32} {v15 : Vec Ideal S256x128 .f32} {W : Vec Ideal S288x128 .f32} {dy' dy : Vec Ideal S256x128 .f32} (eW : k0_pay4 i v9 v12 v15 = W) (ed : dy' = dy)
    (row : Vec Ideal S1x128 .f32) (l : Fin 128) (v : EReal)
    (H : row (ix2 (0 : Fin 1) l) = v) : k0_pay1 (F := Ideal) dy' (k0_pay6 row) (k0_pay7 i v9 v12 v15) (ix2 (0 : Fin 1) l) = v + gather W dy (14 + 1) l := by
  unfold k0_pay1 k0_pay6 k0_pay7
  exact row_from eW ed (14 + 1) (by decide) _ _ _ _ _ row l v H

/-- The first point of a block gathers onto zeros. -/
theorem first_point (h0 : cond0_0 i) (k : Fin 3) (l : Fin 128) :
    out0_A_4 c i arg2 harg2 arg3 harg3 arg4 harg4 arg5 harg5 arg6 harg6 h0 x0 x1 x2 x3 (ix2 k l) = gatheredShort (k0_pay3 (F := Ideal)) (win i x0 x1 x2) x3 (ix2 k l) := by
  unfold out0_A_4
  rw [View.read_writes_eq_canon _ _ _ (cover0_A_4 c i arg2 harg2 arg3 harg3 arg4 harg4 arg5 harg5 arg6 harg6 h0 x0 x1 x2 x3)]
  unfold kernelRun0_A
  dsimp only
  sl_unfold_words
  have eW := win_loads i arg2 harg2 arg3 harg3 arg4 harg4 x0 x1 x2
  have ed := tile_load arg5 harg5 x3
  refine row_canon_short (k0_pay3 (F := Ideal)) (win i x0 x1 x2) x3 k l 2 (by decide) _ _ _ ?_ fun n2 => ?_
  · refine row_from eW ed (14 + 2) (by decide) _ _ _ _ _ _ l _ ?_
    iterate 2 refine row_skip_short _ 2 _ _ _ _ _ _ _ (by decide) ?_
    rw [View.readCov_fill _ _ _ _ _ (fun a => by rw [starts])]
    exact row_load (k0_pay3 (F := Ideal)) 2 (by decide) _ l
  refine row_canon_short (k0_pay3 (F := Ideal)) (win i x0 x1 x2) x3 k l 1 (by decide) _ _ _ ?_ fun n1 => ?_
  · refine row_1 i eW ed _ l _ ?_
    iterate 1 refine row_skip_short _ 1 _ _ _ _ _ _ _ (by decide) ?_
    rw [View.readCov_fill _ _ _ _ _ (fun a => by rw [starts])]
    exact row_load (k0_pay3 (F := Ideal)) 1 (by decide) _ l
  refine row_canon_short (k0_pay3 (F := Ideal)) (win i x0 x1 x2) x3 k l 0 (by decide) _ _ _ ?_ fun n0 => ?_
  · refine row_from eW ed (14 + 0) (by decide) _ _ _ _ _ _ l _ ?_
    rw [View.readCov_fill _ _ _ _ _ (fun a => by rw [starts])]
    exact row_load (k0_pay3 (F := Ideal)) 0 (by decide) _ l
  have := k.isLt
  omega

end Point

/-! ## The blocks of a grid point -/

variable (m : (ℓ : Loc nD τ sig) → Buf (Elt Ideal) ℓ) (c : Dev nD)

/-- The input and the cotangent. -/
abbrev inp : Vec Ideal S4352x512 .f32 := m ((c : Thread nD τ).loc main_arg0)
abbrev ct : Vec Ideal S4352x512 .f32 := m ((c : Thread nD τ).loc main_arg2)

/-- The point of lanes `b` and tile `n`. -/
def pt (b : Fin 4) (n : Fin 17) : Fin cfg0.N := ⟨17 * b.val + n.val, by show 17 * b.val + n.val < 68; omega⟩
theorem pt_mod (b : Fin 4) (n : Fin 17) : (pt b n).val % 17 = n.val := by show (17 * b.val + n.val) % 17 = n.val; omega
theorem pt_div (b : Fin 4) (n : Fin 17) : (pt b n).val / 17 = b.val := by show (17 * b.val + n.val) / 17 = b.val; omega
theorem coord (b : Fin 4) (n : Fin 17) : (grid0.coords (pt b n) 1).val = n.val :=
  ((by decide +kernel : ∀ t : Fin grid0.N, (grid0.coords t 1).val = t.val % 17) (pt b n)).trans (pt_mod b n)

/-- Lane `l` of lane block `b`. -/
def lane (b : Fin 4) (l : Fin 128) : Fin 512 := ⟨128 * b.val + l.val, by omega⟩

theorem index_near : ∀ t : Fin cfg0.N, win0_0.index t = ![t.val % 17 - 1, t.val / 17] ∧ win0_1.index t = ![t.val % 17, t.val / 17]
    ∧ win0_2.index t = ![min (t.val % 17 + 1) 16, t.val / 17] :=
  (by decide +kernel : ∀ t : Fin grid0.N, win0_0.index t = ![t.val % 17 - 1, t.val / 17] ∧ win0_1.index t = ![t.val % 17, t.val / 17]
    ∧ win0_2.index t = ![min (t.val % 17 + 1) 16, t.val / 17])
theorem index_else : ∀ t : Fin cfg0.N, win0_3.index t = ![t.val % 17, t.val / 17] ∧ win0_4.index t = ![0, t.val / 17] :=
  (by decide +kernel : ∀ t : Fin grid0.N, win0_3.index t = ![t.val % 17, t.val / 17] ∧ win0_4.index t = ![0, t.val / 17])

variable (b : Fin 4) (n : Fin 17) (l : Fin 128)

theorem before_block (h : 1 ≤ n.val) (a : Fin 256) : (iblk m c 0 (pt b n) : Vec Ideal S256x128 .f32) (ix2 a l)
    = inp m c (ix2 (⟨256 * (n.val - 1) + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_0.index (pt b n) 0 * 256 + 1 * a.val = 256 * (n.val - 1) + a.val; rw [(index_near (pt b n)).1]; show ((pt b n).val % 17 - 1) * 256 + 1 * a.val = _; rw [pt_mod]; ring
  | ⟨1, _⟩ => show win0_0.index (pt b n) 1 * 128 + 1 * l.val = 128 * b.val + l.val; rw [(index_near (pt b n)).1]; show (pt b n).val / 17 * 128 + 1 * l.val = _; rw [pt_div]; ring

theorem here_block (a : Fin 256) : (iblk m c 1 (pt b n) : Vec Ideal S256x128 .f32) (ix2 a l)
    = inp m c (ix2 (⟨256 * n.val + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_1.index (pt b n) 0 * 256 + 1 * a.val = 256 * n.val + a.val; rw [(index_near (pt b n)).2.1]; show (pt b n).val % 17 * 256 + 1 * a.val = _; rw [pt_mod]; ring
  | ⟨1, _⟩ => show win0_1.index (pt b n) 1 * 128 + 1 * l.val = 128 * b.val + l.val; rw [(index_near (pt b n)).2.1]; show (pt b n).val / 17 * 128 + 1 * l.val = _; rw [pt_div]; ring

theorem after_block (h : n.val < 16) (a : Fin 256) : (iblk m c 2 (pt b n) : Vec Ideal S256x128 .f32) (ix2 a l)
    = inp m c (ix2 (⟨256 * (n.val + 1) + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_2.index (pt b n) 0 * 256 + 1 * a.val = 256 * (n.val + 1) + a.val; rw [(index_near (pt b n)).2.2]; show min ((pt b n).val % 17 + 1) 16 * 256 + 1 * a.val = _; rw [pt_mod, Nat.min_eq_left (by omega)]; ring
  | ⟨1, _⟩ => show win0_2.index (pt b n) 1 * 128 + 1 * l.val = 128 * b.val + l.val; rw [(index_near (pt b n)).2.2]; show (pt b n).val / 17 * 128 + 1 * l.val = _; rw [pt_div]; ring

theorem ct_block (a : Fin 256) : (iblk m c 3 (pt b n) : Vec Ideal S256x128 .f32) (ix2 a l)
    = ct m c (ix2 (⟨256 * n.val + a.val, by omega⟩ : Fin 4352) (lane b l)) := by
  unfold iblk
  rw [View.read_apply]
  refine Eq.trans ?_ (congrFun (V_main_arg2 m c) _)
  show V m c main_arg2 _ = V m c main_arg2 _
  congr 1
  funext x
  apply Fin.ext
  match x with
  | ⟨0, _⟩ => show win0_3.index (pt b n) 0 * 256 + 1 * a.val = 256 * n.val + a.val; rw [(index_else (pt b n)).1]; show (pt b n).val % 17 * 256 + 1 * a.val = _; rw [pt_mod]; ring
  | ⟨1, _⟩ => show win0_3.index (pt b n) 1 * 128 + 1 * l.val = 128 * b.val + l.val; rw [(index_else (pt b n)).1]; show (pt b n).val / 17 * 128 + 1 * l.val = _; rw [pt_div]; ring

/-! ## The sum over the tiles -/

/-- A row of the window is what a tap reads. -/
theorem win_reach (r : Fin 256) (k : Fin 3) (q : Fin 288) (hq : q.val = r.val + 15 + k.val) :
    win (grid0.coords (pt b n)) (iblk m c 0 (pt b n)) (iblk m c 1 (pt b n)) (iblk m c 2 (pt b n)) (ix2 q l)
      = reach (fun p => inp m c (ix2 p (lane b l))) (256 * n.val + r.val) (14 + k.val) := by
  rw [win_eq, coord]
  refine window_reach n.val _ _ _ l (fun p => inp m c (ix2 p (lane b l))) n.isLt (fun h a => ?_) (fun a => ?_) (fun h a => ?_) r (⟨14 + k.val, by omega⟩ : Fin 31) q (by rw [hq]; show r.val + 15 + k.val = r.val + (14 + k.val) + 1; omega)
  · refine (View.ld_unit_apply_of (iblk m c 0 (pt b n) : Vec Ideal S256x128 .f32) _ _ _ _ (ix2 (⟨240 + a.val, by omega⟩ : Fin 256) l) fun x => ?_).trans ?_
    · match x with
      | ⟨0, _⟩ => rfl
      | ⟨1, _⟩ => show l.val = 0 + l.val; omega
    · refine (before_block m c b n l h _).trans (congrArg (fun p => inp m c (ix2 p (lane b l))) (Fin.ext ?_))
      show 256 * (n.val - 1) + (240 + a.val) = 256 * (n.val - 1) + 240 + a.val
      omega
  · exact here_block m c b n l a
  · refine (View.ld_unit_apply_of (iblk m c 2 (pt b n) : Vec Ideal S256x128 .f32) _ _ _ _ (ix2 (⟨a.val, by omega⟩ : Fin 256) l) fun x => ?_).trans ?_
    · match x with
      | ⟨0, _⟩ => show a.val = 0 + a.val; omega
      | ⟨1, _⟩ => show l.val = 0 + l.val; omega
    · exact after_block m c b n l h _

/-- The summands of the gradient's entry. -/
def term (k : Fin 3) (x : Fin 512) (p : Fin 4352) : EReal := reach (fun q => inp m c (ix2 q x)) p.val (14 + k.val) * ct m c (ix2 p x)

/-- What a point's tap gathers is its tile of the sum. -/
theorem gather_apply (k : Fin 3) :
    gather (win (grid0.coords (pt b n)) (iblk m c 0 (pt b n)) (iblk m c 1 (pt b n)) (iblk m c 2 (pt b n))) (iblk m c 3 (pt b n)) (14 + k.val) l
      = Products.tile 256 (term m c k (lane b l)) n.val := by
  rw [Products.tile_of _ _ (fun r : Fin 256 => by omega)]
  refine Finset.sum_congr rfl fun r _ => ?_
  have hk := k.isLt
  have hr := r.isLt
  refine congrArg₂ (fun (a : EReal) b => a * b) ?_ (ct_block m c b n l r)
  refine win_reach m c b n l r k _ ?_
  show (r.val + 1 + (14 + k.val)) % 288 = r.val + 15 + k.val
  omega

theorem same_state (n n' : ℕ) (h : n = n') (hn : n < cfg0.N) (hn' : n' < cfg0.N) : outsAt0 m c n hn = outsAt0 m c n' hn' := by subst h; rfl

theorem start_apply (k : Fin 3) :
    (outsAt0 m c (pt b 0).val (pt b 0).isLt : Vec Ideal S3x128 .f32) (ix2 k l) = Products.tile 256 (term m c k (lane b l)) 0 := by
  rw [outsAt0_A m c (pt b 0) (pt_mod b 0)]
  refine (first_point c (grid0.coords (pt b 0)) _ _ _ _ _ _ _ _ _ _ (iblk m c 0 (pt b 0)) (iblk m c 1 (pt b 0)) (iblk m c 2 (pt b 0)) (iblk m c 3 (pt b 0)) _ k l).trans ?_
  refine Eq.trans (b := (0 : EReal) + gather (win (grid0.coords (pt b 0)) (iblk m c 0 (pt b 0)) (iblk m c 1 (pt b 0)) (iblk m c 2 (pt b 0))) (iblk m c 3 (pt b 0)) (14 + k.val) l)
    (congrArg (fun (a : EReal) => a + _) Ideal.ofBits_zero_f32) ?_
  rw [zero_add]
  exact gather_apply m c b 0 l k

theorem step_apply (k : Fin 3) (s : ℕ) (hs : s + 1 < 17) :
    (outsAt0 m c (pt b ⟨s + 1, hs⟩).val (pt b ⟨s + 1, hs⟩).isLt : Vec Ideal S3x128 .f32) (ix2 k l)
      = (outsAt0 m c (pt b ⟨s, Nat.lt_of_succ_lt hs⟩).val (pt b ⟨s, Nat.lt_of_succ_lt hs⟩).isLt : Vec Ideal S3x128 .f32) (ix2 k l)
        + Products.tile 256 (term m c k (lane b l)) (s + 1) := by
  rw [outsAt0_B m c (pt b ⟨s + 1, hs⟩) (by rw [pt_mod]; exact Nat.succ_ne_zero s), later_point,
    same_state m c ((pt b ⟨s + 1, hs⟩).val - 1) (pt b ⟨s, Nat.lt_of_succ_lt hs⟩).val rfl _ (pt b ⟨s, Nat.lt_of_succ_lt hs⟩).isLt]
  exact congrArg ((outsAt0 m c (pt b ⟨s, Nat.lt_of_succ_lt hs⟩).val (pt b ⟨s, Nat.lt_of_succ_lt hs⟩).isLt : Vec Ideal S3x128 .f32) (ix2 k l) + ·)
    (gather_apply m c b ⟨s + 1, hs⟩ l k)

/-- At the last tile the block holds the whole sum. -/
theorem total (k : Fin 3) :
    (outsAt0 m c (pt b 16).val (pt b 16).isLt : Vec Ideal S3x128 .f32) (ix2 k l) = ∑ p : Fin 4352, term m c k (lane b l) p :=
  Products.accumulated (w := 256) (p := 16) (term m c k (lane b l))
    (fun s hs => (outsAt0 m c (pt b ⟨s, hs⟩).val (pt b ⟨s, hs⟩).isLt : Vec Ideal S3x128 .f32) (ix2 k l)) rfl
    (start_apply m c b l k) (fun s hs => step_apply m c b l k s hs)

/-! ## The array after the run -/

theorem emb4 (k : Fin 3) : (((cfg0.win 4).blk (pt b n)).view.emb (ix2 k l) : S3x512.Idx) = ix2 k (lane b l) := by
  funext a
  apply Fin.ext
  match a with
  | ⟨0, _⟩ => show win0_4.index (pt b n) 0 * 3 + 1 * k.val = k.val; rw [(index_else (pt b n)).2]; show 0 * 3 + 1 * k.val = _; ring
  | ⟨1, _⟩ => show win0_4.index (pt b n) 1 * 128 + 1 * l.val = 128 * b.val + l.val; rw [(index_else (pt b n)).2]; show (pt b n).val / 17 * 128 + 1 * l.val = _; rw [pt_div]; ring

/-- Two write-backs meet no common entry: each is of other lanes. -/
theorem apart : ∀ t t' : Fin cfg0.N, (cfg0.win 4).flush t = true → (cfg0.win 4).flush t' = true → t ≠ t' →
    Disjoint ((cfg0.win 4).blk t).view.set ((cfg0.win 4).blk t').view.set := by
  intro t t' f f' hne
  refine (cfg0.win 4).disjoint_blk fun e => hne (Fin.ext ?_)
  have g := (flush0_4 t).mp f
  have g' := (flush0_4 t').mp f'
  have e' : win0_4.index t = win0_4.index t' := e
  rw [(index_else t).2, (index_else t').2] at e'
  have e1 : t.val / 17 = t'.val / 17 := congrFun e' 1
  omega

/-- The array the run leaves, at an entry. -/
theorem result_apply (k : Fin 3) : ((dats m 0 c).arrAt 4 cfg0.N : Vec Ideal S3x512 .f32) (ix2 k (lane b l))
    = ∑ p : Fin 4352, term m c k (lane b l) p := by
  have e := congrFun ((dats m 0 c).read_blk_arrAt_eq_flushed 4 apart cfg0.N (pt b 16) (pt b 16).isLt ((flush0_4 _).mpr (pt_mod b 16))) (ix2 k l)
  rw [View.read_apply, Cert.Kernel23Ideal.Value.flushed4] at e
  rw [← emb4 b 16 l k]
  exact e.trans (total m c b l k)

/-- What the kernel leaves is what the reference computes. -/
theorem equation : ((dats m 0 c).arrAt 4 cfg0.N : Vec Ideal S3x512 .f32)
    = Cert.Reference23Ideal.Read.val_main_v37 (F := Ideal) (m ((c : Thread nD τ).loc main_arg0)) (m ((c : Thread nD τ).loc main_arg2)) := by
  funext z
  obtain ⟨k, y, rfl⟩ := Products.cases2 z
  obtain ⟨b, l, rfl⟩ := Products.slab_cases (w := 128) (d := 4) (n := 512) rfl (by decide) y
  refine (result_apply m c b l k).trans ?_
  rw [Conv.R23.gradient_apply]
  rfl

end Conv.K23

end
-- ==== Proof.ConvRef24.lean ====
/- The reference's convolution of three taps at an entry: a sum over the taps. -/
module

public import proofs.«01_k».proof.Proof.ConvShort
public import proofs.«01_k».proof.Proof.Gen.Reference24Ideal.Read

@[expose] public section

set_option maxRecDepth 16384

noncomputable section

namespace Conv.R24

open Idealize.ShloMosaic Idealize.ShloMosaic.ValueIdx AttGrad
open Cert.Reference24Ideal Cert.Reference24Ideal.Gen Cert.Reference24Ideal.Read

variable (x0 : (⟨S4352x512, .f32⟩ : BufTy).Contents (Elt Ideal)) (x1 : (⟨S3x512, .f32⟩ : BufTy).Contents (Elt Ideal))

/-- The array that picks the rows read. -/
theorem picks (l : Fin 4352) (k : Fin 3) (p : Fin 4352) : val_main_v25 (F := Ideal) (ix3 l k p) = if Reads l.val (14 + k.val) p.val then (1 : EReal) else 0 := by
  refine Eq.trans ?_ (reads_short_word l k p)
  rw [val_main_v25_apply, val_main_v24_apply, val_main_v22_apply, val_main_v23_apply, val_main_v20_apply, val_main_v21_apply, val_main_v16_apply,
    val_main_v19_apply, val_main_v18_apply, val_main_v17_apply, val_main_c_1_apply, val_main_v14_apply, val_main_v15_apply, val_main_v11_apply, val_main_v13_apply,
    val_main_v12_apply, val_main_v0_apply, val_main_v1_apply, val_main_v0_apply, val_main_v10_apply, val_main_v8_apply, val_main_v9_apply, val_main_v4_apply,
    val_main_v7_apply, val_main_v6_apply, val_main_v2_apply, val_main_v3_apply, val_main_v5_apply, val_main_c_apply, val_main_c_0_apply, val_main_v0_apply, val_main_v0_apply,
    val_main_call0_v0_apply, val_main_call0_v1_apply, val_main_cst_apply, val_main_cst_2_apply]

/-- The rows read by a row's taps. -/
theorem read_apply (l : Fin 4352) (k : Fin 3) (c : Fin 512) : val_main_v26 (F := Ideal) x0 (ix3 l k c) = reach (fun p => x0 (ix2 p c)) l.val (14 + k.val) := by
  rw [val_main_v26_apply, ← sum_read]
  refine Finset.sum_congr rfl fun p _ => ?_
  rw [← picks]
  refine congrArg₂ (fun (a : EReal) b => a * b) (congrArg _ ?_) (congrArg x0 ?_)
  · funext a; match a with
      | ⟨0, _⟩ => rfl
      | ⟨1, _⟩ => rfl
      | ⟨2, _⟩ => rfl
  · funext a; match a with
      | ⟨0, _⟩ => rfl
      | ⟨1, _⟩ => rfl

/-- The convolution at an entry: what the taps read, each times its weight. -/
theorem convolution_apply (l : Fin 4352) (c : Fin 512) :
    val_main_v30 (F := Ideal) x0 x1 (ix2 l c) = ∑ k : Fin 3, reach (fun p => x0 (ix2 p c)) l.val (14 + k.val) * x1 (ix2 k c) := by
  rw [val_main_v30_apply, val_main_cst_3_apply]
  refine Eq.trans (b := (0 : EReal) + ∑ k : Fin 3, val_main_v29 (F := Ideal) x0 x1 (idx_main_v30 (ix2 l c) k))
    (congrArg (fun a : EReal => a + _) Ideal.ofBits_zero_f32) ?_
  rw [zero_add]
  refine Finset.sum_congr rfl fun k _ => ?_
  rw [val_main_v29_apply, ← read_apply, val_main_v28_apply, val_main_v27_apply]
  refine congrArg₂ (fun (a : EReal) b => a * b) (congrArg _ ?_) (congrArg x1 ?_)
  · funext a; match a with
      | ⟨0, _⟩ => rfl
      | ⟨1, _⟩ => rfl
      | ⟨2, _⟩ => rfl
  · funext a; match a with
      | ⟨0, _⟩ => rfl
      | ⟨1, _⟩ => rfl

end Conv.R24

end
-- ==== Proof.Conv24.lean ====
/- The three-tap convolution's forward pass: every tile's sum over the taps is the reference's entry. -/
module

public import proofs.«01_k».proof.Proof.ConvRef24
public import proofs.«01_k».proof.Proof.Gen.Kernel24Ideal.Value

@[expose] public section

set_option maxRecDepth 16384

noncomputable section

namespace Conv.K24

open Cert.Kernel24Ideal Cert.Kernel24Ideal.Gen Idealize.ShloMosaic Idealize.ShloMosaic.TcCoe Idealize.SL.Sem
open Idealize.ShloMosaic.ValueIdx AttGrad

theorem starts : (![0, 0] : Fin 2 → ℕ) = fun _ => 0 := by funext a; match a with
  | ⟨0, _⟩ => rfl
  | ⟨1, _⟩ => rfl

/-! ## The body -/

section Body
variable (i : grid0.Coords) (x0 x1 x2 : Vec Ideal S256x128 .f32) (x3 : Vec Ideal S3x128 .f32) (r : Fin 256) (c : Fin 128)

/-- The window the body makes of its three blocks. -/
def win : Vec Ideal S288x128 .f32 := window (i 1).val (View.ld x0 r0_0) (View.ld x2 r0_1) (View.ld x1 r0_2)

theorem win_eq : win i x0 x1 x2 = window (i 1).val (View.ld x0 r0_0) (View.ld x2 r0_1) (View.ld x1 r0_2) := rfl

/-- The block a point leaves: the sum over the taps. -/
theorem block_apply : out0_4 i x0 x1 x2 x3 (ix2 r c)
    = 0 + shortTerm (win i x0 x1 x2) x3 r c 0 0 + shortTerm (win i x0 x1 x2) x3 r c 1 1 + shortTerm (win i x0 x1 x2) x3 r c 2 2 := by
  unfold out0_4
  rw [View.canon_unit_zero starts]
  refine tap_short (win i x0 x1 x2) x3 r c 2 2 (by decide) (by decide) _ _ _ _ _ _ ?_
  refine tap_short (win i x0 x1 x2) x3 r c 1 1 (by decide) (by decide) _ _ _ _ _ _ ?_
  refine tap_short (win i x0 x1 x2) x3 r c 0 0 (by decide) (by decide) _ _ _ _ _ _ ?_
  exact Ideal.ofBits_zero_f32

end Body

/-! ## The blocks of a grid point -/

variable (m : (ℓ : Loc nD τ sig) → Buf (Elt Ideal) ℓ) (c : Dev nD)

/-- The input and the weights. -/
abbrev input : Vec Ideal S4352x512 .f32 := m ((c : Thread nD τ).loc main_arg0)
abbrev weights : Vec Ideal S3x512 .f32 := m ((c : Thread nD τ).loc main_arg1)

/-- The point of lanes `b` and tile `n`. -/
def pt (b : Fin 4) (n : Fin 17) : Fin cfg0.N := ⟨17 * b.val + n.val, by show 17 * b.val + n.val < 68; omega⟩
theorem pt_mod (b : Fin 4) (n : Fin 17) : (pt b n).val % 17 = n.val := by show (17 * b.val + n.val) % 17 = n.val; omega
theorem pt_div (b : Fin 4) (n : Fin 17) : (pt b n).val / 17 = b.val := by show (17 * b.val + n.val) / 17 = b.val; omega
theorem coord (b : Fin 4) (n : Fin 17) : (grid0.coords (pt b n) 1).val = n.val :=
  ((by decide +kernel : ∀ t : Fin grid0.N, (grid0.coords t 1).val = t.val % 17) (pt b n)).trans (pt_mod b n)

/-- Lane `l` of lane block `b`. -/
def lane (b : Fin 4) (l : Fin 128) : Fin 512 := ⟨128 * b.val + l.val, by omega⟩

theorem index_near : ∀ t : Fin cfg0.N, win0_0.index t = ![t.val % 17 - 1, t.val / 17] ∧ win0_1.index t = ![t.val % 17, t.val / 17]
    ∧ win0_2.index t = ![min (t.val % 17 + 1) 16, t.val / 17] :=
  (by decide +kernel : ∀ t : Fin grid0.N, win0_0.index t = ![t.val % 17 - 1, t.val / 17] ∧ win0_1.index t = ![t.val % 17, t.val / 17]
    ∧ win0_2.index t = ![min (t.val % 17 + 1) 16, t.val / 17])
theorem index_else : ∀ t : Fin cfg0.N, win0_3.index t = ![0, t.val / 17] ∧ win0_4.index t = ![t.val % 17, t.val / 17] :=
  (by decide +kernel : ∀ t : Fin grid0.N, win0_3.index t = ![0, t.val / 17] ∧ win0_4.index t = ![t.val % 17, t.val / 17])

variable (b : Fin 4) (n : Fin 17) (l : Fin 128)

theorem before_block (h : 1 ≤ n.val) (a : Fin 256) : (iblk m c 0 (pt b n) : Vec Ideal S256x128 .f32) (ix2 a l)
    = input m c (ix2 (⟨256 * (n.val - 1) + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_0.index (pt b n) 0 * 256 + 1 * a.val = 256 * (n.val - 1) + a.val; rw [(index_near (pt b n)).1]; show ((pt b n).val % 17 - 1) * 256 + 1 * a.val = _; rw [pt_mod]; ring
  | ⟨1, _⟩ => show win0_0.index (pt b n) 1 * 128 + 1 * l.val = 128 * b.val + l.val; rw [(index_near (pt b n)).1]; show (pt b n).val / 17 * 128 + 1 * l.val = _; rw [pt_div]; ring

theorem here_block (a : Fin 256) : (iblk m c 1 (pt b n) : Vec Ideal S256x128 .f32) (ix2 a l)
    = input m c (ix2 (⟨256 * n.val + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_1.index (pt b n) 0 * 256 + 1 * a.val = 256 * n.val + a.val; rw [(index_near (pt b n)).2.1]; show (pt b n).val % 17 * 256 + 1 * a.val = _; rw [pt_mod]; ring
  | ⟨1, _⟩ => show win0_1.index (pt b n) 1 * 128 + 1 * l.val = 128 * b.val + l.val; rw [(index_near (pt b n)).2.1]; show (pt b n).val / 17 * 128 + 1 * l.val = _; rw [pt_div]; ring

theorem after_block (h : n.val < 16) (a : Fin 256) : (iblk m c 2 (pt b n) : Vec Ideal S256x128 .f32) (ix2 a l)
    = input m c (ix2 (⟨256 * (n.val + 1) + a.val, by omega⟩ : Fin 4352) (lane b l)) := by
  unfold iblk
  rw [View.read_apply]
  refine Eq.trans ?_ (congrFun (V_main_arg0 m c) _)
  show V m c main_arg0 _ = V m c main_arg0 _
  congr 1
  funext x
  apply Fin.ext
  match x with
  | ⟨0, _⟩ => show win0_2.index (pt b n) 0 * 256 + 1 * a.val = 256 * (n.val + 1) + a.val; rw [(index_near (pt b n)).2.2]; show min ((pt b n).val % 17 + 1) 16 * 256 + 1 * a.val = _; rw [pt_mod, Nat.min_eq_left (by omega)]; ring
  | ⟨1, _⟩ => show win0_2.index (pt b n) 1 * 128 + 1 * l.val = 128 * b.val + l.val; rw [(index_near (pt b n)).2.2]; show (pt b n).val / 17 * 128 + 1 * l.val = _; rw [pt_div]; ring

theorem weights_block (k : Fin 3) : (iblk m c 3 (pt b n) : Vec Ideal S3x128 .f32) (ix2 k l) = weights m c (ix2 k (lane b l)) := by
  unfold iblk
  rw [View.read_apply]
  refine Eq.trans ?_ (congrFun (V_main_arg1 m c) _)
  show V m c main_arg1 _ = V m c main_arg1 _
  congr 1
  funext x
  apply Fin.ext
  match x with
  | ⟨0, _⟩ => show win0_3.index (pt b n) 0 * 3 + 1 * k.val = k.val; rw [(index_else (pt b n)).1]; show 0 * 3 + 1 * k.val = _; ring
  | ⟨1, _⟩ => show win0_3.index (pt b n) 1 * 128 + 1 * l.val = 128 * b.val + l.val; rw [(index_else (pt b n)).1]; show (pt b n).val / 17 * 128 + 1 * l.val = _; rw [pt_div]; ring

/-! ## The array after the run -/

/-- A row of the window is what a tap reads. -/
theorem win_reach (r : Fin 256) (k : Fin 3) (q : Fin 288) (hq : q.val = r.val + 15 + k.val) :
    win (grid0.coords (pt b n)) (iblk m c 0 (pt b n)) (iblk m c 1 (pt b n)) (iblk m c 2 (pt b n)) (ix2 q l)
      = reach (fun p => input m c (ix2 p (lane b l))) (256 * n.val + r.val) (14 + k.val) := by
  rw [win_eq, coord]
  refine window_reach n.val _ _ _ l (fun p => input m c (ix2 p (lane b l))) n.isLt (fun h a => ?_) (fun a => ?_) (fun h a => ?_) r (⟨14 + k.val, by omega⟩ : Fin 31) q (by rw [hq]; show r.val + 15 + k.val = r.val + (14 + k.val) + 1; omega)
  · refine (View.ld_unit_apply_of (iblk m c 0 (pt b n) : Vec Ideal S256x128 .f32) _ _ _ _ (ix2 (⟨240 + a.val, by omega⟩ : Fin 256) l) fun x => ?_).trans ?_
    · match x with
      | ⟨0, _⟩ => rfl
      | ⟨1, _⟩ => show l.val = 0 + l.val; omega
    · refine (before_block m c b n l h _).trans (congrArg (fun p => input m c (ix2 p (lane b l))) (Fin.ext ?_))
      show 256 * (n.val - 1) + (240 + a.val) = 256 * (n.val - 1) + 240 + a.val
      omega
  · rw [View.ld_unit_zero (S := S256x128) starts]
    exact here_block m c b n l a
  · refine (View.ld_unit_apply_of (iblk m c 2 (pt b n) : Vec Ideal S256x128 .f32) _ _ _ _ (ix2 (⟨a.val, by omega⟩ : Fin 256) l) fun x => ?_).trans ?_
    · match x with
      | ⟨0, _⟩ => show a.val = 0 + a.val; omega
      | ⟨1, _⟩ => show l.val = 0 + l.val; omega
    · exact after_block m c b n l h _

/-- The block of a point. -/
theorem tile_apply (r : Fin 256) :
    out0_4 (grid0.coords (pt b n)) (iblk m c 0 (pt b n)) (iblk m c 1 (pt b n)) (iblk m c 2 (pt b n)) (iblk m c 3 (pt b n)) (ix2 r l)
      = ∑ k : Fin 3, reach (fun p => input m c (ix2 p (lane b l))) (256 * n.val + r.val) (14 + k.val) * weights m c (ix2 k (lane b l)) := by
  refine (block_apply _ _ _ _ _ r l).trans ?_
  have hr := r.isLt
  rw [Fin.sum_univ_three, zero_add]
  refine congrArg₂ (fun (a : EReal) b => a + b) (congrArg₂ (fun (a : EReal) b => a + b) ?_ ?_) ?_
  · refine congrArg₂ (fun (a : EReal) b => a * b) (win_reach m c b n l r (0 : Fin 3) _ ?_) (weights_block m c b n l _)
    show (r.val + 15 + 0) % 288 = r.val + 15 + 0
    omega
  · refine congrArg₂ (fun (a : EReal) b => a * b) (win_reach m c b n l r (1 : Fin 3) _ ?_) (weights_block m c b n l _)
    show (r.val + 15 + 1) % 288 = r.val + 15 + 1
    omega
  · refine congrArg₂ (fun (a : EReal) b => a * b) (win_reach m c b n l r (2 : Fin 3) _ ?_) (weights_block m c b n l _)
    show (r.val + 15 + 2) % 288 = r.val + 15 + 2
    omega

theorem emb4 (r : Fin 256) : (((cfg0.win 4).blk (pt b n)).view.emb (ix2 r l) : S4352x512.Idx) = ix2 (⟨256 * n.val + r.val, by omega⟩ : Fin 4352) (lane b l) := by
  funext a
  apply Fin.ext
  match a with
  | ⟨0, _⟩ => show win0_4.index (pt b n) 0 * 256 + 1 * r.val = 256 * n.val + r.val; rw [(index_else (pt b n)).2]; show (pt b n).val % 17 * 256 + 1 * r.val = _; rw [pt_mod]; ring
  | ⟨1, _⟩ => show win0_4.index (pt b n) 1 * 128 + 1 * l.val = 128 * b.val + l.val; rw [(index_else (pt b n)).2]; show (pt b n).val / 17 * 128 + 1 * l.val = _; rw [pt_div]; ring

/-- The array the run leaves, at an entry. -/
theorem result_apply (r : Fin 256) : ((dats m 0 c).arrAt 4 cfg0.N : Vec Ideal S4352x512 .f32) (ix2 (⟨256 * n.val + r.val, by omega⟩ : Fin 4352) (lane b l))
    = ∑ k : Fin 3, reach (fun p => input m c (ix2 p (lane b l))) (256 * n.val + r.val) (14 + k.val) * weights m c (ix2 k (lane b l)) := by
  have e := congrFun (Cert.Kernel24Ideal.Value.blocks4 m c (pt b n) (flush0_4 _)) (ix2 r l)
  rw [View.read_apply, Cert.Kernel24Ideal.Value.flushed4] at e
  rw [← emb4 b n l r]
  exact e.trans (tile_apply m c b n l r)

/-- What the kernel leaves is what the reference computes. -/
theorem equation : ((dats m 0 c).arrAt 4 cfg0.N : Vec Ideal S4352x512 .f32)
    = Cert.Reference24Ideal.Read.val_main_v30 (F := Ideal) (m ((c : Thread nD τ).loc main_arg0)) (m ((c : Thread nD τ).loc main_arg1)) := by
  funext z
  obtain ⟨x, y, rfl⟩ := Products.cases2 z
  obtain ⟨n, r, rfl⟩ := Products.slab_cases (w := 256) (d := 17) (n := 4352) rfl (by decide) x
  obtain ⟨b, l, rfl⟩ := Products.slab_cases (w := 128) (d := 4) (n := 512) rfl (by decide) y
  refine (result_apply m c b n l r).trans ?_
  rw [Conv.R24.convolution_apply]
  rfl

end Conv.K24

end
-- ==== Proof.Gate19.lean ====
/- The gate's forward pass: entry by entry, the kernel's gated product is the reference's. -/
module

public import proofs.«01_k».proof.Proof.Gate15
public import proofs.«01_k».proof.Proof.Gen.Kernel19Ideal.Value
public import proofs.«01_k».proof.Proof.Gen.Reference19Ideal.Read
public import Idealize.ShloMosaic.Lib.StableHlo.Run
public import Idealize.ShloMosaic.Lib.KernelVsHost
public import Idealize.ShloMosaic.Lib.IdealHost

@[expose] public section

set_option maxRecDepth 16384

noncomputable section

namespace Gate.F19

open Idealize.ShloMosaic Idealize.ShloMosaic.ValueIdx AttGrad Gate

/-! ## The reference -/

section Ref
open Cert.Reference19Ideal Cert.Reference19Ideal.Read
variable (a b : Vec Ideal S4352x5632 .f32)

theorem silu_apply (j : S4352x5632.Idx) : val_main_v0 (F := Ideal) a j = a j * sigma (a j) := by
  rw [val_main_v0_apply, val_main_call0_v5_apply, val_main_call0_v4_apply, val_main_call0_cst_0_apply, val_main_call0_v3_apply, val_main_call0_v2_apply, val_main_call0_cst_apply, val_main_call0_v1_apply, val_main_call0_v0_apply]
  show a j * Ideal.div (Ideal.ofBits .f32 0x3F800000#32) (Ideal.ofBits .f32 0x3F800000#32 + Ideal.exp (-(a j))) = a j * sigma (a j)
  rw [Ideal.ofBits_one_f32]
  rfl

/-- The reference's gated product, at an entry of a slab. -/
theorem reference_apply (e : Fin 8) (i : Fin 4352) (k : Fin 704) : val_main_v5 (F := Ideal) a b (ix2 (row e i) k)
    = a (ix2 i (col e k)) * sigma (a (ix2 i (col e k))) * b (ix2 i (col e k)) := by
  unfold val_main_v5 val_main_v4 val_main_v3
  refine (slabs_apply _ _ _ _ e i k).trans ?_
  rw [val_main_v2_apply, val_main_v1_apply, silu_apply]
  rfl

end Ref

/-! ## The kernel -/

section Kernel
open Cert.Kernel19Ideal Cert.Kernel19Ideal.Gen Idealize.ShloMosaic.TcCoe Idealize.SL.Sem

/-- The body's block at an entry. -/
theorem block_apply (x0 x1 : Vec Ideal S544x704 .bf16) (r : Fin 544) (k : Fin 704) : out0_2 x0 x1 (ix2 r k)
    = x0 (ix2 r k) * sigma (x0 (ix2 r k)) * x1 (ix2 r k) := by
  unfold out0_2
  rw [View.canon_unit_zero starts, View.ld_unit_zero (S := S544x704) starts, View.ld_unit_zero (S := S544x704) starts, Value.lay2_0_eq x0 x1, shapeCast_self x0, shapeCast_self x1]
  unfold sigma
  rw [← zero_sub (x0 (ix2 r k)), ← Ideal.ofBits_one_f32, ← Ideal.ofBits_zero_f32]
  rfl

/-! ## The blocks of a grid point -/

variable (m : (ℓ : Loc nD τ sig) → Buf (Elt Ideal) ℓ) (c : Dev nD)

/-- The gate's argument and the gated value. -/
abbrev gate : Vec Ideal S4352x5632 .f32 := m ((c : Thread nD τ).loc main_arg0)
abbrev gated : Vec Ideal S4352x5632 .f32 := m ((c : Thread nD τ).loc main_arg1)

/-- The two arrays as the launch finds them: the arguments in slabs. -/
theorem gate_array (e : Fin 8) (i : Fin 4352) (k : Fin 704) : V m c main_v3 (ix2 (row e i) k) = gate m c (ix2 i (col e k)) := by
  refine Eq.trans ?_ (slabs_apply (truncf (F := Ideal) (φ := .f32) .bf16 (gate m c) bitsLt_bf16_f32) shapeCasts_S4352x5632_S4352x8x704 transposes_S4352x8x704_S8x4352x704_1_0_2 shapeCasts_S8x4352x704_S34816x704 e i k)
  unfold V
  simp only [hostOps0, List.flatten_cons, List.flatten_nil, List.append_nil, List.cons_append, List.nil_append]
  after_results_simp
  rfl
theorem gated_array (e : Fin 8) (i : Fin 4352) (k : Fin 704) : V m c main_v7 (ix2 (row e i) k) = gated m c (ix2 i (col e k)) := by
  refine Eq.trans ?_ (slabs_apply (truncf (F := Ideal) (φ := .f32) .bf16 (gated m c) bitsLt_bf16_f32) shapeCasts_S4352x5632_S4352x8x704 transposes_S4352x8x704_S8x4352x704_1_0_2 shapeCasts_S8x4352x704_S34816x704 e i k)
  unfold V
  simp only [hostOps0, List.flatten_cons, List.flatten_nil, List.append_nil, List.cons_append, List.nil_append]
  after_results_simp
  rfl
/-- The point of tile `n` of slab `e`. -/
def pt (e n : Fin 8) : Fin cfg0.N := ⟨8 * e.val + n.val, by show 8 * e.val + n.val < 64; omega⟩
theorem index_at : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

variable (e n : Fin 8) (r : Fin 544) (k : Fin 704)

theorem gate_block : (iblk m c 0 (pt e n) : Vec Ideal S544x704 .bf16) (ix2 r k) = gate m c (ix2 (tileRow n r) (col e k)) := by
  unfold iblk
  rw [View.read_apply]
  refine Eq.trans ?_ (gate_array m c e (tileRow n r) k)
  show V m c main_v3 _ = V m c main_v3 _
  congr 1
  funext x
  apply Fin.ext
  refine Eq.trans ?_ (place e n r k x _ (index_at (pt e n)).1)
  match x with
  | ⟨0, _⟩ => rfl
  | ⟨1, _⟩ => rfl

theorem gated_block : (iblk m c 1 (pt e n) : Vec Ideal S544x704 .bf16) (ix2 r k) = gated m c (ix2 (tileRow n r) (col e k)) := by
  unfold iblk
  rw [View.read_apply]
  refine Eq.trans ?_ (gated_array m c e (tileRow n r) k)
  show V m c main_v7 _ = V m c main_v7 _
  congr 1
  funext x
  apply Fin.ext
  refine Eq.trans ?_ (place e n r k x _ (index_at (pt e n)).2.1)
  match x with
  | ⟨0, _⟩ => rfl
  | ⟨1, _⟩ => rfl

theorem emb2 : ((cfg0.win 2).blk (pt e n)).view.emb (ix2 r k : S544x704.Idx) = (ix2 (row e (tileRow n r)) k : S34816x704.Idx) := by
  funext x
  apply Fin.ext
  refine Eq.trans ?_ (place e n r k x _ (index_at (pt e n)).2.2)
  match x with
  | ⟨0, _⟩ => rfl
  | ⟨1, _⟩ => rfl

/-! ## The result -/

/-- The gated product. -/
theorem equation : ((dats m 0 c).arrAt 2 cfg0.N : Vec Ideal S34816x704 .bf16)
    = Cert.Reference19Ideal.Read.val_main_v5 (F := Ideal) (gate m c) (gated m c) := by
  funext z
  obtain ⟨x, k, rfl⟩ := Products.cases2 z
  obtain ⟨e, i, rfl⟩ := Products.slab_cases (w := 4352) (d := 8) (n := 34816) rfl (by decide) x
  obtain ⟨n, r, rfl⟩ := Products.slab_cases (w := 544) (d := 8) (n := 4352) rfl (by decide) i
  refine Eq.trans ?_ (reference_apply (gate m c) (gated m c) e (tileRow n r) k).symm
  have h := congrFun (Value.blocks2 m c (pt e n) (flush0_2 _)) (ix2 r k)
  rw [View.read_apply, Value.flushed2, emb2 e n r k] at h
  refine h.trans ((block_apply _ _ r k).trans ?_)
  rw [gate_block, gated_block]

end Kernel

end Gate.F19

end
-- ==== Proof.Glu20.lean ====
/- The gated linear unit's backward pass: both gradients, entry by entry, are the reference's. -/
module

public import proofs.«01_k».proof.Proof.Gate15
public import proofs.«01_k».proof.Proof.Gen.Kernel20Ideal.Value
public import proofs.«01_k».proof.Proof.Gen.Reference20Ideal.Read
public import Idealize.ShloMosaic.Lib.StableHlo.Run
public import Idealize.ShloMosaic.Lib.KernelVsHost
public import Idealize.ShloMosaic.Lib.IdealHost

@[expose] public section

set_option maxRecDepth 16384

noncomputable section

namespace Glu

open Idealize.ShloMosaic Idealize.ShloMosaic.ValueIdx Gate

/-- The gradient with respect to the gate, as the kernel computes it. -/
theorem slope_grad (a g : EReal) :
    0 - (0 - g * Ideal.div 1 ((1 + Ideal.exp (0 - a)) * (1 + Ideal.exp (0 - a))) * 1) * Ideal.exp (0 - a) = g * slope a := by
  rw [zero_sub a, zero_sub, zero_sub, mul_one, EReal.neg_mul, neg_neg, mul_assoc g, slope_eq]

section Ref
open Cert.Reference20Ideal Cert.Reference20Ideal.Read
variable (a b g : Vec Ideal S4352x512 .f32)

theorem sigma_apply (j : S4352x512.Idx) : val_main_v5 (F := Ideal) b j = sigma (b j) := by
  rw [val_main_v5_apply, val_main_v4_apply, val_main_cst_0_apply, val_main_v3_apply, val_main_v2_apply, val_main_cst_apply, val_main_v1_apply, val_main_v0_apply]
  show Ideal.div (Ideal.ofBits .f32 0x3F800000#32) (Ideal.ofBits .f32 0x3F800000#32 + Ideal.exp (-(b j))) = sigma (b j)
  rw [Ideal.ofBits_one_f32]
  rfl

theorem slope_apply (j : S4352x512.Idx) : val_main_v8 (F := Ideal) b j = slope (b j) := by
  rw [val_main_v8_apply, val_main_v7_apply, val_main_v6_apply, val_main_cst_1_apply, sigma_apply]
  show sigma (b j) * (Ideal.ofBits .f32 0x3F800000#32 - sigma (b j)) = slope (b j)
  rw [Ideal.ofBits_one_f32]
  rfl

theorem reference_value (j : S4352x512.Idx) : val_main_v11 (F := Ideal) b g j = g j * sigma (b j) := by
  rw [val_main_v11_apply, sigma_apply]
  rfl

theorem reference_gate (j : S4352x512.Idx) : val_main_v12 (F := Ideal) a b g j = a j * g j * slope (b j) := by
  rw [val_main_v12_apply, val_main_v10_apply, slope_apply]
  rfl

/-! ## The kernel's two arrays -/

/-- The gradient with respect to the gated value. -/
theorem equation_value : Cert.Kernel20Ideal.Value.G3 (F := Ideal) b g = val_main_v11 (F := Ideal) b g := by
  funext j
  rw [reference_value]
  unfold sigma
  rw [← zero_sub (b j), ← Ideal.ofBits_one_f32, ← Ideal.ofBits_zero_f32]
  rfl

/-- The gradient with respect to the gate. -/
theorem equation_gate : Cert.Kernel20Ideal.Value.G4 (F := Ideal) a b g = val_main_v12 (F := Ideal) a b g := by
  funext j
  rw [reference_gate, ← slope_grad, ← Ideal.ofBits_one_f32, ← Ideal.ofBits_zero_f32]
  rfl

end Ref

end Glu

end
-- ==== Proof.Prod2.lean ====
/- The input gradient of the feed-forward up projection: the cotangent times the weights transposed, over eight slabs of columns. -/
module

public import proofs.«01_k».proof.Proof.Sums
public import proofs.«01_k».proof.Proof.Gen.Kernel2Ideal.Value
public import proofs.«01_k».proof.Proof.Gen.Reference2Ideal.Read
public import Idealize.ShloMosaic.Lib.StableHlo.Run
public import Idealize.ShloMosaic.Lib.KernelVsHost

@[expose] public section

set_option maxRecDepth 16384

noncomputable section

namespace Products.K2

open Cert.Kernel2Ideal Cert.Kernel2Ideal.Gen Idealize.ShloMosaic Idealize.ShloMosaic.TcCoe Idealize.SL.Sem
open Idealize.ShloMosaic.ValueIdx AttGrad

/-- The product of two blocks, at an entry. -/
theorem product_apply (x0 : Vec Ideal S1x1088x704 .bf16) (x1 : Vec Ideal S1x1x1024x704 .bf16) (r : Fin 1088) (q : Fin 1024) :
    k0_pay1 x0 x1 (ix2 r q) = ∑ k : Fin 704, x0 (ix3 (0 : Fin 1) r k) * x1 (ix4 (0 : Fin 1) (0 : Fin 1) q k) := by
  unfold k0_pay1
  refine (dot_nt none (φ₁ := .bf16) (φ₂ := .bf16) _ _ r q).trans (Finset.sum_congr rfl fun k _ => ?_)
  exact congrArg₂ (· * ·) (drop_one _ _ _ _) (drop_two _ _ _ _)

/-! ## What a point leaves -/

section Point
variable (c : Dev nD) (i : grid0.Coords) (arg3 : Memref sig .tc .vmem S1x1088x704 .bf16) (harg3 : arg3.IsWhole) (arg4 : Memref sig .tc .vmem S1x1x1024x704 .bf16) (harg4 : arg4.IsWhole) (arg5 : Memref sig .tc .vmem S1088x1024 .bf16) (harg5 : arg5.IsWhole) (arg6 : Memref sig .tc .vmem S1088x1024 .f32) (harg6 : arg6.IsWhole)
  (x0 : Vec Ideal S1x1088x704 .bf16) (x1 : Vec Ideal S1x1x1024x704 .bf16)

/-- The first point of a block starts the accumulator. -/
theorem first_point (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  rw [View.canon_unit_zero starts2]
  simp only [View.readAt_eq_ld, harg3.read_unread, harg4.read_unread, harg5.read_unread, harg6.read_unread, View.ld_unit_zero (S := S1x1088x704) starts3, View.ld_unit_zero (S := S1x1x1024x704) starts4]
  all_goals rfl

/-- A point between adds to it. -/
theorem middle_point (h0 : ¬cond0_0 i) (h1 : cond0_1 i) (h2 : ¬cond0_2 i) (acc : Vec Ideal S1088x1024 .f32) :
    sout0_B_0 c i arg3 harg3 arg4 harg4 arg5 harg5 arg6 harg6 h0 h1 h2 x0 x1 acc = k0_pay3 x0 x1 acc := by
  unfold sout0_B_0
  rw [View.read_writes_eq_canon _ _ _ (scover0_B_0 c i arg3 harg3 arg4 harg4 arg5 harg5 arg6 harg6 h0 h1 h2 x0 x1 acc)]
  unfold kernelRun0_B
  dsimp only
  sl_unfold_words
  rw [View.canon_unit_zero starts2]
  simp only [View.readAt_eq_ld, harg3.read_unread, harg4.read_unread, harg5.read_unread, harg6.read_unread, View.ld_unit_zero (S := S1x1088x704) starts3, View.ld_unit_zero (S := S1x1x1024x704) starts4, View.ld_unit_zero (S := S1088x1024) starts2]
  all_goals rfl

/-- So does the last one. -/
theorem last_point (h0 : ¬cond0_0 i) (h1 : cond0_1 i) (h2 : cond0_2 i) (acc : Vec Ideal S1088x1024 .f32) :
    sout0_C_0 c i arg3 harg3 arg4 harg4 arg5 harg5 arg6 harg6 h0 h1 h2 x0 x1 acc = k0_pay3 x0 x1 acc := by
  unfold sout0_C_0
  rw [View.read_writes_eq_canon _ _ _ (scover0_C_0 c i arg3 harg3 arg4 harg4 arg5 harg5 arg6 harg6 h0 h1 h2 x0 x1 acc)]
  unfold kernelRun0_C
  dsimp only
  sl_unfold_words
  rw [View.canon_unit_zero starts2]
  simp only [View.readAt_eq_ld, harg3.read_unread, harg4.read_unread, harg5.read_unread, harg6.read_unread, View.ld_unit_zero (S := S1x1088x704) starts3, View.ld_unit_zero (S := S1x1x1024x704) starts4, View.ld_unit_zero (S := S1088x1024) starts2]
  all_goals rfl

/-- And it writes the block. -/
theorem last_block (h0 : ¬cond0_0 i) (h1 : cond0_1 i) (h2 : cond0_2 i) (acc : Vec Ideal S1088x1024 .f32) :
    out0_C_2 c i arg3 harg3 arg4 harg4 arg5 harg5 arg6 harg6 h0 h1 h2 x0 x1 acc = k0_pay4 (k0_pay3 x0 x1 acc) := by
  unfold out0_C_2
  rw [View.read_writes_eq_canon _ _ _ (cover0_C_2 c i arg3 harg3 arg4 harg4 arg5 harg5 arg6 harg6 h0 h1 h2 x0 x1 acc)]
  unfold kernelRun0_C
  dsimp only
  sl_unfold_words
  rw [View.canon_unit_zero starts2, View.readCov_unit_zero (S := S1088x1024) _ starts2]
  simp only [View.readAt_eq_ld, harg3.read_unread, harg4.read_unread, harg5.read_unread, harg6.read_unread, View.ld_unit_zero (S := S1x1088x704) starts3, View.ld_unit_zero (S := S1x1x1024x704) starts4, View.ld_unit_zero (S := S1088x1024) starts2]
  all_goals rfl

end Point

/-! ## The operands and their blocks -/

variable (m : (ℓ : Loc nD τ sig) → Buf (Elt Ideal) ℓ) (c : Dev nD)

/-- The left operand. -/
abbrev left : Vec Ideal S4352x5632 .f32 := m ((c : Thread nD τ).loc main_arg2)

/-- The right operand. -/
abbrev right : Vec Ideal S2048x5632 .f32 := m ((c : Thread nD τ).loc main_arg1)

theorem left_value : V m c main_v2 = transpose S8x4352x704 [1, 0, 2] (shapeCast S4352x8x704 (truncf (F := Ideal) (φ := .f32) .bf16 (left m c) bitsLt_bf16_f32) shapeCasts_S4352x5632_S4352x8x704) transposes_S4352x8x704_S8x4352x704_1_0_2 := by
  unfold V
  simp only [hostOps0, List.flatten_cons, List.flatten_nil, List.append_nil, List.cons_append, List.nil_append]
  after_results_simp
  rfl
theorem left_array (e : Fin 8) (x : Fin 4352) (y : Fin 704) : V m c main_v2 (ix3 e x y) = left m c (ix2 x (inSlab (w := 704) (d := 8) (n := 5632) rfl e y)) := by
  rw [left_value]; exact column_slabs (w := 704) (d := 8) (n := 5632) rfl (truncf (F := Ideal) (φ := .f32) .bf16 (left m c) bitsLt_bf16_f32) _ _ e x y

theorem right_value : V m c main_v6 = broadcastInDim S8x1x2048x704 ![0, 2, 3] bcast_S8x2048x704_S8x1x2048x704_0_2_3 (transpose S8x2048x704 [1, 0, 2] (shapeCast S2048x8x704 (truncf (F := Ideal) (φ := .f32) .bf16 (right m c) bitsLt_bf16_f32) shapeCasts_S2048x5632_S2048x8x704) transposes_S2048x8x704_S8x2048x704_1_0_2) := by
  unfold V
  simp only [hostOps0, List.flatten_cons, List.flatten_nil, List.append_nil, List.cons_append, List.nil_append]
  after_results_simp
  rfl
theorem right_array (e : Fin 8) (x : Fin 2048) (y : Fin 704) : V m c main_v6 (ix4 e (0 : Fin 1) x y) = right m c (ix2 x (inSlab (w := 704) (d := 8) (n := 5632) rfl e y)) := by
  rw [right_value]
  refine (column_slabs_one _ _ (by decide) (by decide) (by decide) e x y).trans ?_
  exact column_slabs (w := 704) (d := 8) (n := 5632) rfl (truncf (F := Ideal) (φ := .f32) .bf16 (right m c) bitsLt_bf16_f32) _ _ e x y

/-- The points of a block. -/
def pt (i : Fin 4) (j : Fin 2) (s : Fin 8) : Fin cfg0.N := ⟨(2 * i.val + j.val) * 8 + s.val, by show (2 * i.val + j.val) * 8 + s.val < 64; omega⟩

theorem pt_i (i : Fin 4) (j : Fin 2) (s : Fin 8) : (pt i j s).val / 16 = i.val := by show ((2 * i.val + j.val) * 8 + s.val) / 16 = i.val; omega
theorem pt_j (i : Fin 4) (j : Fin 2) (s : Fin 8) : (pt i j s).val / 8 % 2 = j.val := by show ((2 * i.val + j.val) * 8 + s.val) / 8 % 2 = j.val; omega
theorem pt_s (i : Fin 4) (j : Fin 2) (s : Fin 8) : (pt i j s).val % 8 = s.val := by show ((2 * i.val + j.val) * 8 + s.val) % 8 = s.val; omega

theorem index_in : ∀ t : Fin cfg0.N, win0_0.index t = ![t.val % 8, t.val / 16, 0] ∧ win0_1.index t = ![t.val % 8, 0, t.val / 8 % 2, 0] :=
  (by decide +kernel : ∀ t : Fin grid0.N, win0_0.index t = ![t.val % 8, t.val / 16, 0] ∧ win0_1.index t = ![t.val % 8, 0, t.val / 8 % 2, 0])

theorem left_block (i : Fin 4) (j : Fin 2) (s : Fin 8) (r : Fin 1088) (k : Fin 704) :
    (iblk m c 0 (pt i j s) : Vec Ideal S1x1088x704 .bf16) (ix3 (0 : Fin 1) r k) = left m c (ix2 (inSlab (w := 1088) (d := 4) (n := 4352) rfl i r) (inSlab (w := 704) (d := 8) (n := 5632) rfl s k)) := by
  unfold iblk
  rw [View.read_apply]
  refine Eq.trans ?_ (left_array m c s (inSlab (w := 1088) (d := 4) (n := 4352) rfl i r) k)
  show V m c main_v2 _ = V m c main_v2 _
  congr 1
  funext x
  apply Fin.ext
  match x with
  | ⟨0, _⟩ => show win0_0.index (pt i j s) 0 * 1 + 1 * 0 = s.val; rw [(index_in (pt i j s)).1]; show (pt i j s).val % 8 * 1 + 1 * 0 = s.val; rw [pt_s]; omega
  | ⟨1, _⟩ => show win0_0.index (pt i j s) 1 * 1088 + 1 * r.val = 1088 * i.val + r.val; rw [(index_in (pt i j s)).1]; show (pt i j s).val / 16 * 1088 + 1 * r.val = 1088 * i.val + r.val; rw [pt_i]; omega
  | ⟨2, _⟩ => show win0_0.index (pt i j s) 2 * 704 + 1 * k.val = k.val; rw [(index_in (pt i j s)).1]; show 0 * 704 + 1 * k.val = k.val; omega

theorem right_block (i : Fin 4) (j : Fin 2) (s : Fin 8) (q : Fin 1024) (k : Fin 704) :
    (iblk m c 1 (pt i j s) : Vec Ideal S1x1x1024x704 .bf16) (ix4 (0 : Fin 1) (0 : Fin 1) q k) = right m c (ix2 (inSlab (w := 1024) (d := 2) (n := 2048) rfl j q) (inSlab (w := 704) (d := 8) (n := 5632) rfl s k)) := by
  unfold iblk
  rw [View.read_apply]
  refine Eq.trans ?_ (right_array m c s (inSlab (w := 1024) (d := 2) (n := 2048) rfl j q) k)
  show V m c main_v6 _ = V m c main_v6 _
  congr 1
  funext x
  apply Fin.ext
  match x with
  | ⟨0, _⟩ => show win0_1.index (pt i j s) 0 * 1 + 1 * 0 = s.val; rw [(index_in (pt i j s)).2]; show (pt i j s).val % 8 * 1 + 1 * 0 = s.val; rw [pt_s]; omega
  | ⟨1, _⟩ => show win0_1.index (pt i j s) 1 * 1 + 1 * 0 = 0; rw [(index_in (pt i j s)).2]; show 0 * 1 + 1 * 0 = 0; omega
  | ⟨2, _⟩ => show win0_1.index (pt i j s) 2 * 1024 + 1 * q.val = 1024 * j.val + q.val; rw [(index_in (pt i j s)).2]; show (pt i j s).val / 8 % 2 * 1024 + 1 * q.val = 1024 * j.val + q.val; rw [pt_j]; omega
  | ⟨3, _⟩ => show win0_1.index (pt i j s) 3 * 704 + 1 * k.val = k.val; rw [(index_in (pt i j s)).2]; show 0 * 704 + 1 * k.val = k.val; omega

/-- The summands of the result's entry. -/
def term (i : Fin 4352) (j : Fin 2048) (k : Fin 5632) : EReal := left m c (ix2 i k) * right m c (ix2 j k)

theorem tile_apply (i : Fin 4) (j : Fin 2) (s : Fin 8) (r : Fin 1088) (q : Fin 1024) :
    k0_pay1 (F := Ideal) (iblk m c 0 (pt i j s)) (iblk m c 1 (pt i j s)) (ix2 r q) = tile 704 (term m c (inSlab (w := 1088) (d := 4) (n := 4352) rfl i r) (inSlab (w := 1024) (d := 2) (n := 2048) rfl j q)) s.val := by
  rw [tile_of _ _ (fun k => (inSlab (w := 704) (d := 8) (n := 5632) rfl s k).isLt)]
  refine (product_apply _ _ r q).trans (Finset.sum_congr rfl fun k _ => ?_)
  exact congrArg₂ (· * ·) (left_block m c i j s r k) (right_block m c i j s q k)

/-! ## The accumulator -/

theorem same_state (n n' : ℕ) (h : n = n') (hn : n < cfg0.N) (hn' : n' < cfg0.N) : outsAt0 m c n hn = outsAt0 m c n' hn' := by subst h; rfl

theorem before (t : Fin cfg0.N) : t.val - 1 < cfg0.N := Nat.lt_of_le_of_lt (Nat.sub_le _ _) t.isLt

theorem state_first (t : Fin cfg0.N) (h : t.val % 8 = 0) : (outsAt0 m c t.val t.isLt).2 = k0_pay2 (iblk m c 0 t) (iblk m c 1 t) := by
  have h1 : ¬1 ≤ t.val % 8 := by omega
  have h2 : ¬t.val % 8 = 7 := by omega
  simp only [outsAt0_A m c t h h1 h2]
  exact first_point c (grid0.coords t) (ms0_0 t) (hs0_0 t) (ms0_1 t) (hs0_1 t) (ms0_2 t) (hs0_2 t) scM0_0 (Memref.isWhole_whole _) (iblk m c 0 t) (iblk m c 1 t) ((hcond0_0 t).mpr h) (fun h => h1 ((hcond0_1 t).mp h)) (fun h => h2 ((hcond0_2 t).mp h))

theorem state_next (t : Fin cfg0.N) (h : ¬t.val % 8 = 0) :
    (outsAt0 m c t.val t.isLt).2 = k0_pay3 (iblk m c 0 t) (iblk m c 1 t) (outsAt0 m c (t.val - 1) (before t)).2 := by
  have h1 : 1 ≤ t.val % 8 := by omega
  by_cases h2 : t.val % 8 = 7
  · simp only [outsAt0_C m c t h h1 h2]
    exact last_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2
  · simp only [outsAt0_B m c t h h1 h2]
    exact middle_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) (fun h' => h2 ((hcond0_2 t).mp h')) (outsAt0 m c (t.val - 1) (before t)).2

theorem block_last (t : Fin cfg0.N) (h2 : t.val % 8 = 7) :
    (outsAt0 m c t.val t.isLt).1 = k0_pay4 (outsAt0 m c t.val t.isLt).2 := by
  have h : ¬t.val % 8 = 0 := by omega
  have h1 : 1 ≤ t.val % 8 := by omega
  rw [state_next m c t h]
  simp only [outsAt0_C m c t h h1 h2]
  exact last_block c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2

theorem start_apply (i : Fin 4) (j : Fin 2) (s : Fin 8) (h : s.val = 0) (r : Fin 1088) (q : Fin 1024) :
    (outsAt0 m c (pt i j s).val (pt i j s).isLt).2 (ix2 r q) = tile 704 (term m c (inSlab (w := 1088) (d := 4) (n := 4352) rfl i r) (inSlab (w := 1024) (d := 2) (n := 2048) rfl j q)) s.val := by
  rw [state_first m c (pt i j s) ((pt_s i j s).trans h)]
  unfold k0_pay2
  exact (congrFun (shapeCast_self _ _) _).trans (tile_apply m c i j s r q)

theorem step_apply (i : Fin 4) (j : Fin 2) (s : ℕ) (hs : s + 1 < 8) (r : Fin 1088) (q : Fin 1024) :
    (outsAt0 m c (pt i j ⟨s + 1, hs⟩).val (pt i j ⟨s + 1, hs⟩).isLt).2 (ix2 r q)
      = (outsAt0 m c (pt i j ⟨s, Nat.lt_of_succ_lt hs⟩).val (pt i j ⟨s, Nat.lt_of_succ_lt hs⟩).isLt).2 (ix2 r q) + tile 704 (term m c (inSlab (w := 1088) (d := 4) (n := 4352) rfl i r) (inSlab (w := 1024) (d := 2) (n := 2048) rfl j q)) (s + 1) := by
  rw [state_next m c (pt i j ⟨s + 1, hs⟩) (by rw [pt_s]; exact Nat.succ_ne_zero s),
    same_state m c ((pt i j ⟨s + 1, hs⟩).val - 1) (pt i j ⟨s, Nat.lt_of_succ_lt hs⟩).val rfl _ (pt i j ⟨s, Nat.lt_of_succ_lt hs⟩).isLt]
  unfold k0_pay3
  exact (congrFun (shapeCast_self _ _) _).trans (congrArg ((outsAt0 m c (pt i j ⟨s, Nat.lt_of_succ_lt hs⟩).val (pt i j ⟨s, Nat.lt_of_succ_lt hs⟩).isLt).2 (ix2 r q) + ·) (tile_apply m c i j ⟨s + 1, hs⟩ r q))

/-- The accumulator at the block's last point is the whole product. -/
theorem total (i : Fin 4) (j : Fin 2) (r : Fin 1088) (q : Fin 1024) :
    (outsAt0 m c (pt i j 7).val (pt i j 7).isLt).2 (ix2 r q) = ∑ k : Fin 5632, term m c (inSlab (w := 1088) (d := 4) (n := 4352) rfl i r) (inSlab (w := 1024) (d := 2) (n := 2048) rfl j q) k :=
  accumulated (w := 704) (p := 7) (term m c (inSlab (w := 1088) (d := 4) (n := 4352) rfl i r) (inSlab (w := 1024) (d := 2) (n := 2048) rfl j q)) (fun s hs => (outsAt0 m c (pt i j ⟨s, hs⟩).val (pt i j ⟨s, hs⟩).isLt).2 (ix2 r q)) rfl
    (start_apply m c i j 0 rfl r q) (fun s hs => step_apply m c i j s hs r q)

/-! ## The result -/

/-- The array the run leaves, at an entry. -/
theorem result_apply (i : Fin 4) (j : Fin 2) (r : Fin 1088) (q : Fin 1024) :
    (Cert.Kernel2Ideal.Value.G2 m c : Vec Ideal S4352x2048 .bf16) (ix2 (inSlab (w := 1088) (d := 4) (n := 4352) rfl i r) (inSlab (w := 1024) (d := 2) (n := 2048) rfl j q)) = ∑ k : Fin 5632, term m c (inSlab (w := 1088) (d := 4) (n := 4352) rfl i r) (inSlab (w := 1024) (d := 2) (n := 2048) rfl j q) k := by
  have hp : Cert.Kernel2Ideal.Value.pt2Of (ix2 (inSlab (w := 1088) (d := 4) (n := 4352) rfl i r) (inSlab (w := 1024) (d := 2) (n := 2048) rfl j q)) = (pt i j 7).val := by
    show 8 * (2 * ((1088 * i.val + r.val) / 1088 - 0) + 1 * ((1024 * j.val + q.val) / 1024 - 0)) + 7 = (2 * i.val + j.val) * 8 + 7
    omega
  have hl : Cert.Kernel2Ideal.Value.loc2Of (ix2 (inSlab (w := 1088) (d := 4) (n := 4352) rfl i r) (inSlab (w := 1024) (d := 2) (n := 2048) rfl j q)) = ix2 r q := by
    funext x
    apply Fin.ext
    match x with
    | ⟨0, _⟩ => show (1088 * i.val + r.val) % 1088 = r.val; omega
    | ⟨1, _⟩ => show (1024 * j.val + q.val) % 1024 = q.val; omega
  have hlt : Cert.Kernel2Ideal.Value.pt2Of (ix2 (inSlab (w := 1088) (d := 4) (n := 4352) rfl i r) (inSlab (w := 1024) (d := 2) (n := 2048) rfl j q)) < cfg0.N := by rw [hp]; exact (pt i j 7).isLt
  unfold Cert.Kernel2Ideal.Value.G2
  rw [dif_pos hlt, ← Cert.Kernel2Ideal.Value.outsAt0_sweep m c _ hlt, hl, same_state m c _ _ hp hlt (pt i j 7).isLt,
    block_last m c (pt i j 7) (pt_s i j 7)]
  exact total m c i j r q

/-! ## The equation -/

/-- The reference's product, at an entry. -/
theorem reference_apply (i : Fin 4352) (j : Fin 2048) : Cert.Reference2Ideal.Read.val_main_v3 (F := Ideal) (m ((c : Thread nD τ).loc main_arg1)) (m ((c : Thread nD τ).loc main_arg2)) (ix2 i j) = ∑ k : Fin 5632, term m c i j k := by
  rw [Cert.Reference2Ideal.Read.val_main_v3_apply]
  refine Finset.sum_congr rfl fun k _ => ?_
  unfold term
  congr 2
  · funext x
    match x with
    | ⟨0, _⟩ => rfl
    | ⟨1, _⟩ => rfl
  · funext x
    match x with
    | ⟨0, _⟩ => rfl
    | ⟨1, _⟩ => rfl

/-- What the kernel leaves is what the reference computes. -/
theorem equation : (Cert.Kernel2Ideal.Value.G2 m c : Vec Ideal S4352x2048 .bf16) = Cert.Reference2Ideal.Read.val_main_v4 (F := Ideal) (m ((c : Thread nD τ).loc main_arg1)) (m ((c : Thread nD τ).loc main_arg2)) := by
  funext z
  obtain ⟨x, y, rfl⟩ := cases2 z
  obtain ⟨i, r, rfl⟩ := slab_cases (w := 1088) (d := 4) (n := 4352) rfl (by decide) x
  obtain ⟨j, q, rfl⟩ := slab_cases (w := 1024) (d := 2) (n := 2048) rfl (by decide) y
  exact (result_apply m c i j r q).trans (reference_apply m c (inSlab (w := 1088) (d := 4) (n := 4352) rfl i r) (inSlab (w := 1024) (d := 2) (n := 2048) rfl j q)).symm

end Products.K2

end
-- ==== Proof.Prod3.lean ====
/- The weight gradient of the feed-forward up projection: the input transposed times the cotangent, slab by slab of columns. -/
module

public import proofs.«01_k».proof.Proof.Sums
public import proofs.«01_k».proof.Proof.Gen.Kernel3Ideal.Value
public import proofs.«01_k».proof.Proof.Gen.Reference3Ideal.Read
public import Idealize.ShloMosaic.Lib.StableHlo.Run
public import Idealize.ShloMosaic.Lib.KernelVsHost

@[expose] public section

set_option maxRecDepth 16384

noncomputable section

namespace Products.K3

open Cert.Kernel3Ideal Cert.Kernel3Ideal.Gen Idealize.ShloMosaic Idealize.ShloMosaic.TcCoe Idealize.SL.Sem
open Idealize.ShloMosaic.ValueIdx AttGrad

/-- The product of two blocks, at an entry. -/
theorem product_apply (x0 : Vec Ideal S1088x2048 .bf16) (x1 : Vec Ideal S1x1088x704 .bf16) (r : Fin 2048) (q : Fin 704) :
    k0_pay1 x0 x1 (ix2 r q) = ∑ k : Fin 1088, x0 (ix2 k r) * x1 (ix3 (0 : Fin 1) k q) := by
  unfold k0_pay1
  refine (dot_tn none (φ₁ := .bf16) (φ₂ := .bf16) _ _ r q).trans (Finset.sum_congr rfl fun k _ => ?_)
  exact congrArg₂ (· * ·) (congrFun (shapeCast_self _ _) _) (drop_one _ _ _ _)

/-! ## What a point leaves -/

section Point
variable (c : Dev nD) (i : grid0.Coords) (arg3 : Memref sig .tc .vmem S1088x2048 .bf16) (harg3 : arg3.IsWhole) (arg4 : Memref sig .tc .vmem S1x1088x704 .bf16) (harg4 : arg4.IsWhole) (arg5 : Memref sig .tc .vmem S1x2048x704 .bf16) (harg5 : arg5.IsWhole) (arg6 : Memref sig .tc .vmem S2048x704 .f32) (harg6 : arg6.IsWhole)
  (x0 : Vec Ideal S1088x2048 .bf16) (x1 : Vec Ideal S1x1088x704 .bf16)

/-- The first point of a block starts the accumulator. -/
theorem first_point (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  rw [View.canon_unit_zero starts2]
  simp only [View.readAt_eq_ld, harg3.read_unread, harg4.read_unread, harg5.read_unread, harg6.read_unread, View.ld_unit_zero (S := S1088x2048) starts2, View.ld_unit_zero (S := S1x1088x704) starts3]
  all_goals rfl

/-- A point between adds to it. -/
theorem middle_point (h0 : ¬cond0_0 i) (h1 : cond0_1 i) (h2 : ¬cond0_2 i) (acc : Vec Ideal S2048x704 .f32) :
    sout0_B_0 c i arg3 harg3 arg4 harg4 arg5 harg5 arg6 harg6 h0 h1 h2 x0 x1 acc = k0_pay3 x0 x1 acc := by
  unfold sout0_B_0
  rw [View.read_writes_eq_canon _ _ _ (scover0_B_0 c i arg3 harg3 arg4 harg4 arg5 harg5 arg6 harg6 h0 h1 h2 x0 x1 acc)]
  unfold kernelRun0_B
  dsimp only
  sl_unfold_words
  rw [View.canon_unit_zero starts2]
  simp only [View.readAt_eq_ld, harg3.read_unread, harg4.read_unread, harg5.read_unread, harg6.read_unread, View.ld_unit_zero (S := S1088x2048) starts2, View.ld_unit_zero (S := S1x1088x704) starts3, View.ld_unit_zero (S := S2048x704) starts2]
  all_goals rfl

/-- So does the last one. -/
theorem last_point (h0 : ¬cond0_0 i) (h1 : cond0_1 i) (h2 : cond0_2 i) (acc : Vec Ideal S2048x704 .f32) :
    sout0_C_0 c i arg3 harg3 arg4 harg4 arg5 harg5 arg6 harg6 h0 h1 h2 x0 x1 acc = k0_pay3 x0 x1 acc := by
  unfold sout0_C_0
  rw [View.read_writes_eq_canon _ _ _ (scover0_C_0 c i arg3 harg3 arg4 harg4 arg5 harg5 arg6 harg6 h0 h1 h2 x0 x1 acc)]
  unfold kernelRun0_C
  dsimp only
  sl_unfold_words
  rw [View.canon_unit_zero starts2]
  simp only [View.readAt_eq_ld, harg3.read_unread, harg4.read_unread, harg5.read_unread, harg6.read_unread, View.ld_unit_zero (S := S1088x2048) starts2, View.ld_unit_zero (S := S1x1088x704) starts3, View.ld_unit_zero (S := S2048x704) starts2]
  all_goals rfl

/-- And it writes the block. -/
theorem last_block (h0 : ¬cond0_0 i) (h1 : cond0_1 i) (h2 : cond0_2 i) (acc : Vec Ideal S2048x704 .f32) :
    out0_C_2 c i arg3 harg3 arg4 harg4 arg5 harg5 arg6 harg6 h0 h1 h2 x0 x1 acc = k0_pay4 (k0_pay3 x0 x1 acc) := by
  unfold out0_C_2
  rw [View.read_writes_eq_canon _ _ _ (cover0_C_2 c i arg3 harg3 arg4 harg4 arg5 harg5 arg6 harg6 h0 h1 h2 x0 x1 acc)]
  unfold kernelRun0_C
  dsimp only
  sl_unfold_words
  rw [View.canon_unit_zero starts3, View.readCov_unit_zero (S := S2048x704) _ starts2]
  simp only [View.readAt_eq_ld, harg3.read_unread, harg4.read_unread, harg5.read_unread, harg6.read_unread, View.ld_unit_zero (S := S1088x2048) starts2, View.ld_unit_zero (S := S1x1088x704) starts3, View.ld_unit_zero (S := S2048x704) starts2]
  all_goals rfl

end Point

/-! ## The operands and their blocks -/

variable (m : (ℓ : Loc nD τ sig) → Buf (Elt Ideal) ℓ) (c : Dev nD)

/-- The left operand. -/
abbrev left : Vec Ideal S4352x2048 .f32 := m ((c : Thread nD τ).loc main_arg0)

/-- The right operand. -/
abbrev right : Vec Ideal S4352x5632 .f32 := m ((c : Thread nD τ).loc main_arg2)

theorem left_value : V m c main_v0 = (truncf (F := Ideal) (φ := .f32) .bf16 (left m c) bitsLt_bf16_f32) := by
  unfold V
  simp only [hostOps0, List.flatten_cons, List.flatten_nil, List.append_nil, List.cons_append, List.nil_append]
  after_results_simp
theorem left_array (x : Fin 4352) (y : Fin 2048) : V m c main_v0 (ix2 x y) = left m c (ix2 x y) := by rw [left_value]; rfl

theorem right_value : V m c main_v3 = transpose S8x4352x704 [1, 0, 2] (shapeCast S4352x8x704 (truncf (F := Ideal) (φ := .f32) .bf16 (right m c) bitsLt_bf16_f32) shapeCasts_S4352x5632_S4352x8x704) transposes_S4352x8x704_S8x4352x704_1_0_2 := by
  unfold V
  simp only [hostOps0, List.flatten_cons, List.flatten_nil, List.append_nil, List.cons_append, List.nil_append]
  after_results_simp
  rfl
theorem right_array (e : Fin 8) (x : Fin 4352) (y : Fin 704) : V m c main_v3 (ix3 e x y) = right m c (ix2 x (inSlab (w := 704) (d := 8) (n := 5632) rfl e y)) := by
  rw [right_value]; exact column_slabs (w := 704) (d := 8) (n := 5632) rfl (truncf (F := Ideal) (φ := .f32) .bf16 (right m c) bitsLt_bf16_f32) _ _ e x y

/-- The points of a block. -/
def pt (j : Fin 8) (s : Fin 4) : Fin cfg0.N := ⟨(j.val) * 4 + s.val, by show (j.val) * 4 + s.val < 32; omega⟩

theorem pt_j (j : Fin 8) (s : Fin 4) : (pt j s).val / 4 = j.val := by show ((j.val) * 4 + s.val) / 4 = j.val; omega
theorem pt_s (j : Fin 8) (s : Fin 4) : (pt j s).val % 4 = s.val := by show ((j.val) * 4 + s.val) % 4 = s.val; omega

theorem index_in : ∀ t : Fin cfg0.N, win0_0.index t = ![t.val % 4, 0] ∧ win0_1.index t = ![t.val / 4, t.val % 4, 0] :=
  (by decide +kernel : ∀ t : Fin grid0.N, win0_0.index t = ![t.val % 4, 0] ∧ win0_1.index t = ![t.val / 4, t.val % 4, 0])

theorem left_block (j : Fin 8) (s : Fin 4) (k : Fin 1088) (r : Fin 2048) :
    (iblk m c 0 (pt j s) : Vec Ideal S1088x2048 .bf16) (ix2 k r) = left m c (ix2 (inSlab (w := 1088) (d := 4) (n := 4352) rfl s k) r) := by
  unfold iblk
  rw [View.read_apply]
  refine Eq.trans ?_ (left_array m c (inSlab (w := 1088) (d := 4) (n := 4352) rfl s k) r)
  show V m c main_v0 _ = V m c main_v0 _
  congr 1
  funext x
  apply Fin.ext
  match x with
  | ⟨0, _⟩ => show win0_0.index (pt j s) 0 * 1088 + 1 * k.val = 1088 * s.val + k.val; rw [(index_in (pt j s)).1]; show (pt j s).val % 4 * 1088 + 1 * k.val = 1088 * s.val + k.val; rw [pt_s]; omega
  | ⟨1, _⟩ => show win0_0.index (pt j s) 1 * 2048 + 1 * r.val = r.val; rw [(index_in (pt j s)).1]; show 0 * 2048 + 1 * r.val = r.val; omega

theorem right_block (j : Fin 8) (s : Fin 4) (k : Fin 1088) (q : Fin 704) :
    (iblk m c 1 (pt j s) : Vec Ideal S1x1088x704 .bf16) (ix3 (0 : Fin 1) k q) = right m c (ix2 (inSlab (w := 1088) (d := 4) (n := 4352) rfl s k) (inSlab (w := 704) (d := 8) (n := 5632) rfl j q)) := by
  unfold iblk
  rw [View.read_apply]
  refine Eq.trans ?_ (right_array m c j (inSlab (w := 1088) (d := 4) (n := 4352) rfl s k) q)
  show V m c main_v3 _ = V m c main_v3 _
  congr 1
  funext x
  apply Fin.ext
  match x with
  | ⟨0, _⟩ => show win0_1.index (pt j s) 0 * 1 + 1 * 0 = j.val; rw [(index_in (pt j s)).2]; show (pt j s).val / 4 * 1 + 1 * 0 = j.val; rw [pt_j]; omega
  | ⟨1, _⟩ => show win0_1.index (pt j s) 1 * 1088 + 1 * k.val = 1088 * s.val + k.val; rw [(index_in (pt j s)).2]; show (pt j s).val % 4 * 1088 + 1 * k.val = 1088 * s.val + k.val; rw [pt_s]; omega
  | ⟨2, _⟩ => show win0_1.index (pt j s) 2 * 704 + 1 * q.val = q.val; rw [(index_in (pt j s)).2]; show 0 * 704 + 1 * q.val = q.val; omega

/-- The summands of the result's entry. -/
def term (i : Fin 2048) (j : Fin 5632) (k : Fin 4352) : EReal := left m c (ix2 k i) * right m c (ix2 k j)

theorem tile_apply (j : Fin 8) (s : Fin 4) (r : Fin 2048) (q : Fin 704) :
    k0_pay1 (F := Ideal) (iblk m c 0 (pt j s)) (iblk m c 1 (pt j s)) (ix2 r q) = tile 1088 (term m c r (inSlab (w := 704) (d := 8) (n := 5632) rfl j q)) s.val := by
  rw [tile_of _ _ (fun k => (inSlab (w := 1088) (d := 4) (n := 4352) rfl s k).isLt)]
  refine (product_apply _ _ r q).trans (Finset.sum_congr rfl fun k _ => ?_)
  exact congrArg₂ (· * ·) (left_block m c j s k r) (right_block m c j s k q)

/-! ## The accumulator -/

theorem same_state (n n' : ℕ) (h : n = n') (hn : n < cfg0.N) (hn' : n' < cfg0.N) : outsAt0 m c n hn = outsAt0 m c n' hn' := by subst h; rfl

theorem before (t : Fin cfg0.N) : t.val - 1 < cfg0.N := Nat.lt_of_le_of_lt (Nat.sub_le _ _) t.isLt

theorem state_first (t : Fin cfg0.N) (h : t.val % 4 = 0) : (outsAt0 m c t.val t.isLt).2 = k0_pay2 (iblk m c 0 t) (iblk m c 1 t) := by
  have h1 : ¬1 ≤ t.val % 4 := by omega
  have h2 : ¬t.val % 4 = 3 := by omega
  simp only [outsAt0_A m c t h h1 h2]
  exact first_point c (grid0.coords t) (ms0_0 t) (hs0_0 t) (ms0_1 t) (hs0_1 t) (ms0_2 t) (hs0_2 t) scM0_0 (Memref.isWhole_whole _) (iblk m c 0 t) (iblk m c 1 t) ((hcond0_0 t).mpr h) (fun h => h1 ((hcond0_1 t).mp h)) (fun h => h2 ((hcond0_2 t).mp h))

theorem state_next (t : Fin cfg0.N) (h : ¬t.val % 4 = 0) :
    (outsAt0 m c t.val t.isLt).2 = k0_pay3 (iblk m c 0 t) (iblk m c 1 t) (outsAt0 m c (t.val - 1) (before t)).2 := by
  have h1 : 1 ≤ t.val % 4 := by omega
  by_cases h2 : t.val % 4 = 3
  · simp only [outsAt0_C m c t h h1 h2]
    exact last_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2
  · simp only [outsAt0_B m c t h h1 h2]
    exact middle_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) (fun h' => h2 ((hcond0_2 t).mp h')) (outsAt0 m c (t.val - 1) (before t)).2

theorem block_last (t : Fin cfg0.N) (h2 : t.val % 4 = 3) :
    (outsAt0 m c t.val t.isLt).1 = k0_pay4 (outsAt0 m c t.val t.isLt).2 := by
  have h : ¬t.val % 4 = 0 := by omega
  have h1 : 1 ≤ t.val % 4 := by omega
  rw [state_next m c t h]
  simp only [outsAt0_C m c t h h1 h2]
  exact last_block c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2

theorem start_apply (j : Fin 8) (s : Fin 4) (h : s.val = 0) (r : Fin 2048) (q : Fin 704) :
    (outsAt0 m c (pt j s).val (pt j s).isLt).2 (ix2 r q) = tile 1088 (term m c r (inSlab (w := 704) (d := 8) (n := 5632) rfl j q)) s.val := by
  rw [state_first m c (pt j s) ((pt_s j s).trans h)]
  unfold k0_pay2
  exact (congrFun (shapeCast_self _ _) _).trans (tile_apply m c j s r q)

theorem step_apply (j : Fin 8) (s : ℕ) (hs : s + 1 < 4) (r : Fin 2048) (q : Fin 704) :
    (outsAt0 m c (pt j ⟨s + 1, hs⟩).val (pt j ⟨s + 1, hs⟩).isLt).2 (ix2 r q)
      = (outsAt0 m c (pt j ⟨s, Nat.lt_of_succ_lt hs⟩).val (pt j ⟨s, Nat.lt_of_succ_lt hs⟩).isLt).2 (ix2 r q) + tile 1088 (term m c r (inSlab (w := 704) (d := 8) (n := 5632) rfl j q)) (s + 1) := by
  rw [state_next m c (pt j ⟨s + 1, hs⟩) (by rw [pt_s]; exact Nat.succ_ne_zero s),
    same_state m c ((pt j ⟨s + 1, hs⟩).val - 1) (pt j ⟨s, Nat.lt_of_succ_lt hs⟩).val rfl _ (pt j ⟨s, Nat.lt_of_succ_lt hs⟩).isLt]
  unfold k0_pay3
  exact (congrFun (shapeCast_self _ _) _).trans (congrArg ((outsAt0 m c (pt j ⟨s, Nat.lt_of_succ_lt hs⟩).val (pt j ⟨s, Nat.lt_of_succ_lt hs⟩).isLt).2 (ix2 r q) + ·) (tile_apply m c j ⟨s + 1, hs⟩ r q))

/-- The accumulator at the block's last point is the whole product. -/
theorem total (j : Fin 8) (r : Fin 2048) (q : Fin 704) :
    (outsAt0 m c (pt j 3).val (pt j 3).isLt).2 (ix2 r q) = ∑ k : Fin 4352, term m c r (inSlab (w := 704) (d := 8) (n := 5632) rfl j q) k :=
  accumulated (w := 1088) (p := 3) (term m c r (inSlab (w := 704) (d := 8) (n := 5632) rfl j q)) (fun s hs => (outsAt0 m c (pt j ⟨s, hs⟩).val (pt j ⟨s, hs⟩).isLt).2 (ix2 r q)) rfl
    (start_apply m c j 0 rfl r q) (fun s hs => step_apply m c j s hs r q)

/-! ## The result -/

/-- The array the run leaves, at an entry. -/
theorem result_apply (j : Fin 8) (r : Fin 2048) (q : Fin 704) :
    (Cert.Kernel3Ideal.Value.G2 m c : Vec Ideal S8x2048x704 .bf16) (ix3 j r q) = ∑ k : Fin 4352, term m c r (inSlab (w := 704) (d := 8) (n := 5632) rfl j q) k := by
  have hp : Cert.Kernel3Ideal.Value.pt2Of (ix3 j r q) = (pt j 3).val := by
    show 4 * (1 * (j.val / 1 - 0) + 1 * (r.val / 2048 - 0) + 1 * (q.val / 704 - 0)) + 3 = (j.val) * 4 + 3
    omega
  have hl : Cert.Kernel3Ideal.Value.loc2Of (ix3 j r q) = ix3 (0 : Fin 1) r q := by
    funext x
    apply Fin.ext
    match x with
    | ⟨0, _⟩ => show j.val % 1 = 0; omega
    | ⟨1, _⟩ => show r.val % 2048 = r.val; omega
    | ⟨2, _⟩ => show q.val % 704 = q.val; omega
  have hlt : Cert.Kernel3Ideal.Value.pt2Of (ix3 j r q) < cfg0.N := by rw [hp]; exact (pt j 3).isLt
  unfold Cert.Kernel3Ideal.Value.G2
  rw [dif_pos hlt, ← Cert.Kernel3Ideal.Value.outsAt0_sweep m c _ hlt, hl, same_state m c _ _ hp hlt (pt j 3).isLt,
    block_last m c (pt j 3) (pt_s j 3)]
  exact (add_one_axis _ _ r q).trans (total m c j r q)

/-! ## The equation -/

/-- The reference's product, at an entry. -/
theorem reference_apply (i : Fin 2048) (j : Fin 5632) : Cert.Reference3Ideal.Read.val_main_v2 (F := Ideal) (m ((c : Thread nD τ).loc main_arg0)) (m ((c : Thread nD τ).loc main_arg2)) (ix2 i j) = ∑ k : Fin 4352, term m c i j k := by
  rw [Cert.Reference3Ideal.Read.val_main_v2_apply, Cert.Reference3Ideal.Read.val_main_v1_apply]
  refine Finset.sum_congr rfl fun k _ => ?_
  refine (mul_comm _ _).trans ?_
  unfold term
  congr 2
  · funext x
    match x with
    | ⟨0, _⟩ => rfl
    | ⟨1, _⟩ => rfl
  · funext x
    match x with
    | ⟨0, _⟩ => rfl
    | ⟨1, _⟩ => rfl

/-- What the kernel leaves is what the reference computes. -/
theorem equation : (Cert.Kernel3Ideal.Value.G2 m c : Vec Ideal S8x2048x704 .bf16) = Cert.Reference3Ideal.Read.val_main_v6 (F := Ideal) (m ((c : Thread nD τ).loc main_arg0)) (m ((c : Thread nD τ).loc main_arg2)) := by
  funext z
  obtain ⟨j, r, q, rfl⟩ := cases3 z
  refine (result_apply m c j r q).trans ((reference_apply m c r (inSlab (w := 704) (d := 8) (n := 5632) rfl j q)).symm.trans ?_)
  exact (column_slabs (w := 704) (d := 8) (n := 5632) rfl (Cert.Reference3Ideal.Read.val_main_v4 (F := Ideal) (m ((c : Thread nD τ).loc main_arg0)) (m ((c : Thread nD τ).loc main_arg2))) _ _ j r q).symm

end Products.K3

end
-- ==== Proof.Prod4.lean ====
/- The input gradient of the feed-forward down projection: the cotangent times the weights transposed, slab by slab of columns. -/
module

public import proofs.«01_k».proof.Proof.Sums
public import proofs.«01_k».proof.Proof.Gen.Kernel4Ideal.Value
public import proofs.«01_k».proof.Proof.Gen.Reference4Ideal.Read
public import Idealize.ShloMosaic.Lib.StableHlo.Run
public import Idealize.ShloMosaic.Lib.KernelVsHost

@[expose] public section

set_option maxRecDepth 16384

noncomputable section

namespace Products.K4

open Cert.Kernel4Ideal Cert.Kernel4Ideal.Gen Idealize.ShloMosaic Idealize.ShloMosaic.TcCoe Idealize.SL.Sem
open Idealize.ShloMosaic.ValueIdx AttGrad

/-- The product of two blocks, at an entry. -/
theorem product_apply (x0 : Vec Ideal S1088x2048 .bf16) (x1 : Vec Ideal S1x1x704x2048 .bf16) (r : Fin 1088) (q : Fin 704) :
    k0_pay1 x0 x1 (ix3 (0 : Fin 1) r q) = ∑ k : Fin 2048, x0 (ix2 r k) * x1 (ix4 (0 : Fin 1) (0 : Fin 1) q k) := by
  unfold k0_pay1
  refine (add_one_axis _ _ r q).trans ?_
  refine (dot_nt none (φ₁ := .bf16) (φ₂ := .bf16) _ _ r q).trans (Finset.sum_congr rfl fun k _ => ?_)
  exact congrArg₂ (· * ·) (congrFun (shapeCast_self _ _) _) (drop_two _ _ _ _)

/-- What a point leaves. -/
theorem block_value (x0 : Vec Ideal S1088x2048 .bf16) (x1 : Vec Ideal S1x1x704x2048 .bf16) : out0_2 x0 x1 = k0_pay1 x0 x1 := by
  unfold out0_2
  rw [View.canon_unit_zero starts3]
  congr 1
  · exact View.ld_unit_zero (S := S1088x2048) starts2 _ x0
  · exact View.ld_unit_zero (S := S1x1x704x2048) starts4 _ x1

/-! ## The operands and their blocks -/

variable (m : (ℓ : Loc nD τ sig) → Buf (Elt Ideal) ℓ) (c : Dev nD)

/-- The left operand. -/
abbrev left : Vec Ideal S4352x2048 .f32 := m ((c : Thread nD τ).loc main_arg2)

/-- The right operand. -/
abbrev right : Vec Ideal S5632x2048 .f32 := m ((c : Thread nD τ).loc main_arg1)

theorem left_value : V m c main_v0 = (truncf (F := Ideal) (φ := .f32) .bf16 (left m c) bitsLt_bf16_f32) := by
  unfold V
  simp only [hostOps0, List.flatten_cons, List.flatten_nil, List.append_nil, List.cons_append, List.nil_append]
  after_results_simp
theorem left_array (x : Fin 4352) (y : Fin 2048) : V m c main_v0 (ix2 x y) = left m c (ix2 x y) := by rw [left_value]; rfl

theorem right_value : V m c main_v2 = shapeCast S8x1x704x2048 (truncf (F := Ideal) (φ := .f32) .bf16 (right m c) bitsLt_bf16_f32) shapeCasts_S5632x2048_S8x1x704x2048 := by
  unfold V
  simp only [hostOps0, List.flatten_cons, List.flatten_nil, List.append_nil, List.cons_append, List.nil_append]
  after_results_simp
  rfl
theorem right_array (e : Fin 8) (x : Fin 704) (y : Fin 2048) : V m c main_v2 (ix4 e (0 : Fin 1) x y) = right m c (ix2 (inSlab (w := 704) (d := 8) (n := 5632) rfl e x) y) := by
  rw [right_value]; exact row_slabs_one (w := 704) (d := 8) (n := 5632) rfl (truncf (F := Ideal) (φ := .f32) .bf16 (right m c) bitsLt_bf16_f32) _ e x y

/-- The points of a block. -/
def pt (i : Fin 4) (j : Fin 8) : Fin cfg0.N := ⟨8 * i.val + j.val, by show 8 * i.val + j.val < 32; omega⟩

theorem pt_i (i : Fin 4) (j : Fin 8) : (pt i j).val / 8 = i.val := by show (8 * i.val + j.val) / 8 = i.val; omega
theorem pt_j (i : Fin 4) (j : Fin 8) : (pt i j).val / 1 % 8 = j.val := by show (8 * i.val + j.val) / 1 % 8 = j.val; omega

theorem index_in : ∀ t : Fin cfg0.N, win0_0.index t = ![t.val / 8, 0] ∧ win0_1.index t = ![t.val / 1 % 8, 0, 0, 0] :=
  (by decide +kernel : ∀ t : Fin grid0.N, win0_0.index t = ![t.val / 8, 0] ∧ win0_1.index t = ![t.val / 1 % 8, 0, 0, 0])

theorem left_block (i : Fin 4) (j : Fin 8) (r : Fin 1088) (k : Fin 2048) :
    (iblk m c 0 (pt i j) : Vec Ideal S1088x2048 .bf16) (ix2 r k) = left m c (ix2 (inSlab (w := 1088) (d := 4) (n := 4352) rfl i r) k) := by
  unfold iblk
  rw [View.read_apply]
  refine Eq.trans ?_ (left_array m c (inSlab (w := 1088) (d := 4) (n := 4352) rfl i r) k)
  show V m c main_v0 _ = V m c main_v0 _
  congr 1
  funext x
  apply Fin.ext
  match x with
  | ⟨0, _⟩ => show win0_0.index (pt i j) 0 * 1088 + 1 * r.val = 1088 * i.val + r.val; rw [(index_in (pt i j)).1]; show (pt i j).val / 8 * 1088 + 1 * r.val = 1088 * i.val + r.val; rw [pt_i]; omega
  | ⟨1, _⟩ => show win0_0.index (pt i j) 1 * 2048 + 1 * k.val = k.val; rw [(index_in (pt i j)).1]; show 0 * 2048 + 1 * k.val = k.val; omega

theorem right_block (i : Fin 4) (j : Fin 8) (q : Fin 704) (k : Fin 2048) :
    (iblk m c 1 (pt i j) : Vec Ideal S1x1x704x2048 .bf16) (ix4 (0 : Fin 1) (0 : Fin 1) q k) = right m c (ix2 (inSlab (w := 704) (d := 8) (n := 5632) rfl j q) k) := by
  unfold iblk
  rw [View.read_apply]
  refine Eq.trans ?_ (right_array m c j q k)
  show V m c main_v2 _ = V m c main_v2 _
  congr 1
  funext x
  apply Fin.ext
  match x with
  | ⟨0, _⟩ => show win0_1.index (pt i j) 0 * 1 + 1 * 0 = j.val; rw [(index_in (pt i j)).2]; show (pt i j).val / 1 % 8 * 1 + 1 * 0 = j.val; rw [pt_j]; omega
  | ⟨1, _⟩ => show win0_1.index (pt i j) 1 * 1 + 1 * 0 = 0; rw [(index_in (pt i j)).2]; show 0 * 1 + 1 * 0 = 0; omega
  | ⟨2, _⟩ => show win0_1.index (pt i j) 2 * 704 + 1 * q.val = q.val; rw [(index_in (pt i j)).2]; show 0 * 704 + 1 * q.val = q.val; omega
  | ⟨3, _⟩ => show win0_1.index (pt i j) 3 * 2048 + 1 * k.val = k.val; rw [(index_in (pt i j)).2]; show 0 * 2048 + 1 * k.val = k.val; omega

/-- The summands of the result's entry. -/
def term (i : Fin 4352) (j : Fin 5632) (k : Fin 2048) : EReal := left m c (ix2 i k) * right m c (ix2 j k)

/-! ## The result -/

theorem index_out : ∀ t : Fin cfg0.N, win0_2.index t = ![t.val / 1 % 8, t.val / 8, 0] :=
  (by decide +kernel : ∀ t : Fin grid0.N, win0_2.index t = ![t.val / 1 % 8, t.val / 8, 0])

/-- The array the run leaves, at an entry. -/
theorem result_apply (i : Fin 4) (j : Fin 8) (r : Fin 1088) (q : Fin 704) :
    ((dats m 0 c).arrAt 2 cfg0.N : Vec Ideal S8x4352x704 .bf16) (ix3 j (inSlab (w := 1088) (d := 4) (n := 4352) rfl i r) q) = ∑ k : Fin 2048, term m c (inSlab (w := 1088) (d := 4) (n := 4352) rfl i r) (inSlab (w := 704) (d := 8) (n := 5632) rfl j q) k := by
  have b := congrFun (Cert.Kernel4Ideal.Value.blocks2 m c (pt i j) (flush0_2 _)) (ix3 (0 : Fin 1) r q)
  rw [View.read_apply, Cert.Kernel4Ideal.Value.flushed2] at b
  have l : (((cfg0.win 2).blk (pt i j)).view.emb (ix3 (0 : Fin 1) r q) : S8x4352x704.Idx) = ix3 j (inSlab (w := 1088) (d := 4) (n := 4352) rfl i r) q := by
    funext x
    apply Fin.ext
    match x with
    | ⟨0, _⟩ => show win0_2.index (pt i j) 0 * 1 + 1 * 0 = j.val; rw [index_out (pt i j)]; show (pt i j).val / 1 % 8 * 1 + 1 * 0 = j.val; rw [pt_j]; omega
    | ⟨1, _⟩ => show win0_2.index (pt i j) 1 * 1088 + 1 * r.val = 1088 * i.val + r.val; rw [index_out (pt i j)]; show (pt i j).val / 8 * 1088 + 1 * r.val = 1088 * i.val + r.val; rw [pt_i]; omega
    | ⟨2, _⟩ => show win0_2.index (pt i j) 2 * 704 + 1 * q.val = q.val; rw [index_out (pt i j)]; show 0 * 704 + 1 * q.val = q.val; omega
  rw [← l]
  refine b.trans ((congrFun (block_value (iblk m c 0 (pt i j)) (iblk m c 1 (pt i j))) (ix3 (0 : Fin 1) r q)).trans ?_)
  refine (product_apply (iblk m c 0 (pt i j)) (iblk m c 1 (pt i j)) r q).trans (Finset.sum_congr rfl fun k _ => ?_)
  exact congrArg₂ (· * ·) (left_block m c i j r k) (right_block m c i j q k)

/-! ## The equation -/

/-- The reference's product, at an entry. -/
theorem reference_apply (i : Fin 4352) (j : Fin 5632) : Cert.Reference4Ideal.Read.val_main_v3 (F := Ideal) (m ((c : Thread nD τ).loc main_arg1)) (m ((c : Thread nD τ).loc main_arg2)) (ix2 i j) = ∑ k : Fin 2048, term m c i j k := by
  rw [Cert.Reference4Ideal.Read.val_main_v3_apply]
  refine Finset.sum_congr rfl fun k _ => ?_
  unfold term
  congr 2
  · funext x
    match x with
    | ⟨0, _⟩ => rfl
    | ⟨1, _⟩ => rfl
  · funext x
    match x with
    | ⟨0, _⟩ => rfl
    | ⟨1, _⟩ => rfl

/-- What the kernel leaves is what the reference computes. -/
theorem equation : ((dats m 0 c).arrAt 2 cfg0.N : Vec Ideal S8x4352x704 .bf16) = Cert.Reference4Ideal.Read.val_main_v6 (F := Ideal) (m ((c : Thread nD τ).loc main_arg1)) (m ((c : Thread nD τ).loc main_arg2)) := by
  funext z
  obtain ⟨j, x, q, rfl⟩ := cases3 z
  obtain ⟨i, r, rfl⟩ := slab_cases (w := 1088) (d := 4) (n := 4352) rfl (by decide) x
  refine (result_apply m c i j r q).trans ((reference_apply m c (inSlab (w := 1088) (d := 4) (n := 4352) rfl i r) (inSlab (w := 704) (d := 8) (n := 5632) rfl j q)).symm.trans ?_)
  exact (column_slabs (w := 704) (d := 8) (n := 5632) rfl (Cert.Reference4Ideal.Read.val_main_v4 (F := Ideal) (m ((c : Thread nD τ).loc main_arg1)) (m ((c : Thread nD τ).loc main_arg2))) _ _ j (inSlab (w := 1088) (d := 4) (n := 4352) rfl i r) q).symm

end Products.K4

end
-- ==== Proof.Prod5.lean ====
/- The weight gradient of the feed-forward down projection: the activations transposed times the cotangent, slab by slab of rows. -/
module

public import proofs.«01_k».proof.Proof.Sums
public import proofs.«01_k».proof.Proof.Gen.Kernel5Ideal.Value
public import proofs.«01_k».proof.Proof.Gen.Reference5Ideal.Read
public import Idealize.ShloMosaic.Lib.StableHlo.Run
public import Idealize.ShloMosaic.Lib.KernelVsHost

@[expose] public section

set_option maxRecDepth 16384

noncomputable section

namespace Products.K5

open Cert.Kernel5Ideal Cert.Kernel5Ideal.Gen Idealize.ShloMosaic Idealize.ShloMosaic.TcCoe Idealize.SL.Sem
open Idealize.ShloMosaic.ValueIdx AttGrad

/-- The product of two blocks, at an entry. -/
theorem product_apply (x0 : Vec Ideal S1x1088x704 .bf16) (x1 : Vec Ideal S1088x2048 .bf16) (r : Fin 704) (q : Fin 2048) :
    k0_pay1 x0 x1 (ix2 r q) = ∑ k : Fin 1088, x0 (ix3 (0 : Fin 1) k r) * x1 (ix2 k q) := by
  unfold k0_pay1
  refine (dot_tn none (φ₁ := .bf16) (φ₂ := .bf16) _ _ r q).trans (Finset.sum_congr rfl fun k _ => ?_)
  exact congrArg₂ (· * ·) (drop_one _ _ _ _) (congrFun (shapeCast_self _ _) _)

/-! ## What a point leaves -/

section Point
variable (c : Dev nD) (i : grid0.Coords) (arg3 : Memref sig .tc .vmem S1x1088x704 .bf16) (harg3 : arg3.IsWhole) (arg4 : Memref sig .tc .vmem S1088x2048 .bf16) (harg4 : arg4.IsWhole) (arg5 : Memref sig .tc .vmem S1x704x2048 .bf16) (harg5 : arg5.IsWhole) (arg6 : Memref sig .tc .vmem S704x2048 .f32) (harg6 : arg6.IsWhole)
  (x0 : Vec Ideal S1x1088x704 .bf16) (x1 : Vec Ideal S1088x2048 .bf16)

/-- The first point of a block starts the accumulator. -/
theorem first_point (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  rw [View.canon_unit_zero starts2]
  simp only [View.readAt_eq_ld, harg3.read_unread, harg4.read_unread, harg5.read_unread, harg6.read_unread, View.ld_unit_zero (S := S1x1088x704) starts3, View.ld_unit_zero (S := S1088x2048) starts2]
  all_goals rfl

/-- A point between adds to it. -/
theorem middle_point (h0 : ¬cond0_0 i) (h1 : cond0_1 i) (h2 : ¬cond0_2 i) (acc : Vec Ideal S704x2048 .f32) :
    sout0_B_0 c i arg3 harg3 arg4 harg4 arg5 harg5 arg6 harg6 h0 h1 h2 x0 x1 acc = k0_pay3 x0 x1 acc := by
  unfold sout0_B_0
  rw [View.read_writes_eq_canon _ _ _ (scover0_B_0 c i arg3 harg3 arg4 harg4 arg5 harg5 arg6 harg6 h0 h1 h2 x0 x1 acc)]
  unfold kernelRun0_B
  dsimp only
  sl_unfold_words
  rw [View.canon_unit_zero starts2]
  simp only [View.readAt_eq_ld, harg3.read_unread, harg4.read_unread, harg5.read_unread, harg6.read_unread, View.ld_unit_zero (S := S1x1088x704) starts3, View.ld_unit_zero (S := S1088x2048) starts2, View.ld_unit_zero (S := S704x2048) starts2]
  all_goals rfl

/-- So does the last one. -/
theorem last_point (h0 : ¬cond0_0 i) (h1 : cond0_1 i) (h2 : cond0_2 i) (acc : Vec Ideal S704x2048 .f32) :
    sout0_C_0 c i arg3 harg3 arg4 harg4 arg5 harg5 arg6 harg6 h0 h1 h2 x0 x1 acc = k0_pay3 x0 x1 acc := by
  unfold sout0_C_0
  rw [View.read_writes_eq_canon _ _ _ (scover0_C_0 c i arg3 harg3 arg4 harg4 arg5 harg5 arg6 harg6 h0 h1 h2 x0 x1 acc)]
  unfold kernelRun0_C
  dsimp only
  sl_unfold_words
  rw [View.canon_unit_zero starts2]
  simp only [View.readAt_eq_ld, harg3.read_unread, harg4.read_unread, harg5.read_unread, harg6.read_unread, View.ld_unit_zero (S := S1x1088x704) starts3, View.ld_unit_zero (S := S1088x2048) starts2, View.ld_unit_zero (S := S704x2048) starts2]
  all_goals rfl

/-- And it writes the block. -/
theorem last_block (h0 : ¬cond0_0 i) (h1 : cond0_1 i) (h2 : cond0_2 i) (acc : Vec Ideal S704x2048 .f32) :
    out0_C_2 c i arg3 harg3 arg4 harg4 arg5 harg5 arg6 harg6 h0 h1 h2 x0 x1 acc = k0_pay4 (k0_pay3 x0 x1 acc) := by
  unfold out0_C_2
  rw [View.read_writes_eq_canon _ _ _ (cover0_C_2 c i arg3 harg3 arg4 harg4 arg5 harg5 arg6 harg6 h0 h1 h2 x0 x1 acc)]
  unfold kernelRun0_C
  dsimp only
  sl_unfold_words
  rw [View.canon_unit_zero starts3, View.readCov_unit_zero (S := S704x2048) _ starts2]
  simp only [View.readAt_eq_ld, harg3.read_unread, harg4.read_unread, harg5.read_unread, harg6.read_unread, View.ld_unit_zero (S := S1x1088x704) starts3, View.ld_unit_zero (S := S1088x2048) starts2, View.ld_unit_zero (S := S704x2048) starts2]
  all_goals rfl

end Point

/-! ## The operands and their blocks -/

variable (m : (ℓ : Loc nD τ sig) → Buf (Elt Ideal) ℓ) (c : Dev nD)

/-- The left operand. -/
abbrev left : Vec Ideal S4352x5632 .f32 := m ((c : Thread nD τ).loc main_arg0)

/-- The right operand. -/
abbrev right : Vec Ideal S4352x2048 .f32 := m ((c : Thread nD τ).loc main_arg2)

theorem left_value : V m c main_v2 = transpose S8x4352x704 [1, 0, 2] (shapeCast S4352x8x704 (truncf (F := Ideal) (φ := .f32) .bf16 (left m c) bitsLt_bf16_f32) shapeCasts_S4352x5632_S4352x8x704) transposes_S4352x8x704_S8x4352x704_1_0_2 := by
  unfold V
  simp only [hostOps0, List.flatten_cons, List.flatten_nil, List.append_nil, List.cons_append, List.nil_append]
  after_results_simp
  rfl
theorem left_array (e : Fin 8) (x : Fin 4352) (y : Fin 704) : V m c main_v2 (ix3 e x y) = left m c (ix2 x (inSlab (w := 704) (d := 8) (n := 5632) rfl e y)) := by
  rw [left_value]; exact column_slabs (w := 704) (d := 8) (n := 5632) rfl (truncf (F := Ideal) (φ := .f32) .bf16 (left m c) bitsLt_bf16_f32) _ _ e x y

theorem right_value : V m c main_v3 = (truncf (F := Ideal) (φ := .f32) .bf16 (right m c) bitsLt_bf16_f32) := by
  unfold V
  simp only [hostOps0, List.flatten_cons, List.flatten_nil, List.append_nil, List.cons_append, List.nil_append]
  after_results_simp
theorem right_array (x : Fin 4352) (y : Fin 2048) : V m c main_v3 (ix2 x y) = right m c (ix2 x y) := by rw [right_value]; rfl

/-- The points of a block. -/
def pt (i : Fin 8) (s : Fin 4) : Fin cfg0.N := ⟨(i.val) * 4 + s.val, by show (i.val) * 4 + s.val < 32; omega⟩

theorem pt_i (i : Fin 8) (s : Fin 4) : (pt i s).val / 4 = i.val := by show ((i.val) * 4 + s.val) / 4 = i.val; omega
theorem pt_s (i : Fin 8) (s : Fin 4) : (pt i s).val % 4 = s.val := by show ((i.val) * 4 + s.val) % 4 = s.val; omega

theorem index_in : ∀ t : Fin cfg0.N, win0_0.index t = ![t.val / 4, t.val % 4, 0] ∧ win0_1.index t = ![t.val % 4, 0] :=
  (by decide +kernel : ∀ t : Fin grid0.N, win0_0.index t = ![t.val / 4, t.val % 4, 0] ∧ win0_1.index t = ![t.val % 4, 0])

theorem left_block (i : Fin 8) (s : Fin 4) (k : Fin 1088) (r : Fin 704) :
    (iblk m c 0 (pt i s) : Vec Ideal S1x1088x704 .bf16) (ix3 (0 : Fin 1) k r) = left m c (ix2 (inSlab (w := 1088) (d := 4) (n := 4352) rfl s k) (inSlab (w := 704) (d := 8) (n := 5632) rfl i r)) := by
  unfold iblk
  rw [View.read_apply]
  refine Eq.trans ?_ (left_array m c i (inSlab (w := 1088) (d := 4) (n := 4352) rfl s k) r)
  show V m c main_v2 _ = V m c main_v2 _
  congr 1
  funext x
  apply Fin.ext
  match x with
  | ⟨0, _⟩ => show win0_0.index (pt i s) 0 * 1 + 1 * 0 = i.val; rw [(index_in (pt i s)).1]; show (pt i s).val / 4 * 1 + 1 * 0 = i.val; rw [pt_i]; omega
  | ⟨1, _⟩ => show win0_0.index (pt i s) 1 * 1088 + 1 * k.val = 1088 * s.val + k.val; rw [(index_in (pt i s)).1]; show (pt i s).val % 4 * 1088 + 1 * k.val = 1088 * s.val + k.val; rw [pt_s]; omega
  | ⟨2, _⟩ => show win0_0.index (pt i s) 2 * 704 + 1 * r.val = r.val; rw [(index_in (pt i s)).1]; show 0 * 704 + 1 * r.val = r.val; omega

theorem right_block (i : Fin 8) (s : Fin 4) (k : Fin 1088) (q : Fin 2048) :
    (iblk m c 1 (pt i s) : Vec Ideal S1088x2048 .bf16) (ix2 k q) = right m c (ix2 (inSlab (w := 1088) (d := 4) (n := 4352) rfl s k) q) := by
  unfold iblk
  rw [View.read_apply]
  refine Eq.trans ?_ (right_array m c (inSlab (w := 1088) (d := 4) (n := 4352) rfl s k) q)
  show V m c main_v3 _ = V m c main_v3 _
  congr 1
  funext x
  apply Fin.ext
  match x with
  | ⟨0, _⟩ => show win0_1.index (pt i s) 0 * 1088 + 1 * k.val = 1088 * s.val + k.val; rw [(index_in (pt i s)).2]; show (pt i s).val % 4 * 1088 + 1 * k.val = 1088 * s.val + k.val; rw [pt_s]; omega
  | ⟨1, _⟩ => show win0_1.index (pt i s) 1 * 2048 + 1 * q.val = q.val; rw [(index_in (pt i s)).2]; show 0 * 2048 + 1 * q.val = q.val; omega

/-- The summands of the result's entry. -/
def term (i : Fin 5632) (j : Fin 2048) (k : Fin 4352) : EReal := left m c (ix2 k i) * right m c (ix2 k j)

theorem tile_apply (i : Fin 8) (s : Fin 4) (r : Fin 704) (q : Fin 2048) :
    k0_pay1 (F := Ideal) (iblk m c 0 (pt i s)) (iblk m c 1 (pt i s)) (ix2 r q) = tile 1088 (term m c (inSlab (w := 704) (d := 8) (n := 5632) rfl i r) q) s.val := by
  rw [tile_of _ _ (fun k => (inSlab (w := 1088) (d := 4) (n := 4352) rfl s k).isLt)]
  refine (product_apply _ _ r q).trans (Finset.sum_congr rfl fun k _ => ?_)
  exact congrArg₂ (· * ·) (left_block m c i s k r) (right_block m c i s k q)

/-! ## The accumulator -/

theorem same_state (n n' : ℕ) (h : n = n') (hn : n < cfg0.N) (hn' : n' < cfg0.N) : outsAt0 m c n hn = outsAt0 m c n' hn' := by subst h; rfl

theorem before (t : Fin cfg0.N) : t.val - 1 < cfg0.N := Nat.lt_of_le_of_lt (Nat.sub_le _ _) t.isLt

theorem state_first (t : Fin cfg0.N) (h : t.val % 4 = 0) : (outsAt0 m c t.val t.isLt).2 = k0_pay2 (iblk m c 0 t) (iblk m c 1 t) := by
  have h1 : ¬1 ≤ t.val % 4 := by omega
  have h2 : ¬t.val % 4 = 3 := by omega
  simp only [outsAt0_A m c t h h1 h2]
  exact first_point c (grid0.coords t) (ms0_0 t) (hs0_0 t) (ms0_1 t) (hs0_1 t) (ms0_2 t) (hs0_2 t) scM0_0 (Memref.isWhole_whole _) (iblk m c 0 t) (iblk m c 1 t) ((hcond0_0 t).mpr h) (fun h => h1 ((hcond0_1 t).mp h)) (fun h => h2 ((hcond0_2 t).mp h))

theorem state_next (t : Fin cfg0.N) (h : ¬t.val % 4 = 0) :
    (outsAt0 m c t.val t.isLt).2 = k0_pay3 (iblk m c 0 t) (iblk m c 1 t) (outsAt0 m c (t.val - 1) (before t)).2 := by
  have h1 : 1 ≤ t.val % 4 := by omega
  by_cases h2 : t.val % 4 = 3
  · simp only [outsAt0_C m c t h h1 h2]
    exact last_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2
  · simp only [outsAt0_B m c t h h1 h2]
    exact middle_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) (fun h' => h2 ((hcond0_2 t).mp h')) (outsAt0 m c (t.val - 1) (before t)).2

theorem block_last (t : Fin cfg0.N) (h2 : t.val % 4 = 3) :
    (outsAt0 m c t.val t.isLt).1 = k0_pay4 (outsAt0 m c t.val t.isLt).2 := by
  have h : ¬t.val % 4 = 0 := by omega
  have h1 : 1 ≤ t.val % 4 := by omega
  rw [state_next m c t h]
  simp only [outsAt0_C m c t h h1 h2]
  exact last_block c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2

theorem start_apply (i : Fin 8) (s : Fin 4) (h : s.val = 0) (r : Fin 704) (q : Fin 2048) :
    (outsAt0 m c (pt i s).val (pt i s).isLt).2 (ix2 r q) = tile 1088 (term m c (inSlab (w := 704) (d := 8) (n := 5632) rfl i r) q) s.val := by
  rw [state_first m c (pt i s) ((pt_s i s).trans h)]
  unfold k0_pay2
  exact (congrFun (shapeCast_self _ _) _).trans (tile_apply m c i s r q)

theorem step_apply (i : Fin 8) (s : ℕ) (hs : s + 1 < 4) (r : Fin 704) (q : Fin 2048) :
    (outsAt0 m c (pt i ⟨s + 1, hs⟩).val (pt i ⟨s + 1, hs⟩).isLt).2 (ix2 r q)
      = (outsAt0 m c (pt i ⟨s, Nat.lt_of_succ_lt hs⟩).val (pt i ⟨s, Nat.lt_of_succ_lt hs⟩).isLt).2 (ix2 r q) + tile 1088 (term m c (inSlab (w := 704) (d := 8) (n := 5632) rfl i r) q) (s + 1) := by
  rw [state_next m c (pt i ⟨s + 1, hs⟩) (by rw [pt_s]; exact Nat.succ_ne_zero s),
    same_state m c ((pt i ⟨s + 1, hs⟩).val - 1) (pt i ⟨s, Nat.lt_of_succ_lt hs⟩).val rfl _ (pt i ⟨s, Nat.lt_of_succ_lt hs⟩).isLt]
  unfold k0_pay3
  exact (congrFun (shapeCast_self _ _) _).trans (congrArg ((outsAt0 m c (pt i ⟨s, Nat.lt_of_succ_lt hs⟩).val (pt i ⟨s, Nat.lt_of_succ_lt hs⟩).isLt).2 (ix2 r q) + ·) (tile_apply m c i ⟨s + 1, hs⟩ r q))

/-- The accumulator at the block's last point is the whole product. -/
theorem total (i : Fin 8) (r : Fin 704) (q : Fin 2048) :
    (outsAt0 m c (pt i 3).val (pt i 3).isLt).2 (ix2 r q) = ∑ k : Fin 4352, term m c (inSlab (w := 704) (d := 8) (n := 5632) rfl i r) q k :=
  accumulated (w := 1088) (p := 3) (term m c (inSlab (w := 704) (d := 8) (n := 5632) rfl i r) q) (fun s hs => (outsAt0 m c (pt i ⟨s, hs⟩).val (pt i ⟨s, hs⟩).isLt).2 (ix2 r q)) rfl
    (start_apply m c i 0 rfl r q) (fun s hs => step_apply m c i s hs r q)

/-! ## The result -/

/-- The array the run leaves, at an entry. -/
theorem result_apply (i : Fin 8) (r : Fin 704) (q : Fin 2048) :
    (Cert.Kernel5Ideal.Value.G2 m c : Vec Ideal S8x704x2048 .bf16) (ix3 i r q) = ∑ k : Fin 4352, term m c (inSlab (w := 704) (d := 8) (n := 5632) rfl i r) q k := by
  have hp : Cert.Kernel5Ideal.Value.pt2Of (ix3 i r q) = (pt i 3).val := by
    show 4 * (1 * (i.val / 1 - 0) + 1 * (r.val / 704 - 0) + 1 * (q.val / 2048 - 0)) + 3 = (i.val) * 4 + 3
    omega
  have hl : Cert.Kernel5Ideal.Value.loc2Of (ix3 i r q) = ix3 (0 : Fin 1) r q := by
    funext x
    apply Fin.ext
    match x with
    | ⟨0, _⟩ => show i.val % 1 = 0; omega
    | ⟨1, _⟩ => show r.val % 704 = r.val; omega
    | ⟨2, _⟩ => show q.val % 2048 = q.val; omega
  have hlt : Cert.Kernel5Ideal.Value.pt2Of (ix3 i r q) < cfg0.N := by rw [hp]; exact (pt i 3).isLt
  unfold Cert.Kernel5Ideal.Value.G2
  rw [dif_pos hlt, ← Cert.Kernel5Ideal.Value.outsAt0_sweep m c _ hlt, hl, same_state m c _ _ hp hlt (pt i 3).isLt,
    block_last m c (pt i 3) (pt_s i 3)]
  exact (add_one_axis _ _ r q).trans (total m c i r q)

/-! ## The equation -/

/-- The reference's product, at an entry. -/
theorem reference_apply (i : Fin 5632) (j : Fin 2048) : Cert.Reference5Ideal.Read.val_main_v2 (F := Ideal) (m ((c : Thread nD τ).loc main_arg0)) (m ((c : Thread nD τ).loc main_arg2)) (ix2 i j) = ∑ k : Fin 4352, term m c i j k := by
  rw [Cert.Reference5Ideal.Read.val_main_v2_apply, Cert.Reference5Ideal.Read.val_main_v1_apply]
  refine Finset.sum_congr rfl fun k _ => ?_
  refine (mul_comm _ _).trans ?_
  unfold term
  congr 2
  · funext x
    match x with
    | ⟨0, _⟩ => rfl
    | ⟨1, _⟩ => rfl
  · funext x
    match x with
    | ⟨0, _⟩ => rfl
    | ⟨1, _⟩ => rfl

/-- What the kernel leaves is what the reference computes. -/
theorem equation : (Cert.Kernel5Ideal.Value.G2 m c : Vec Ideal S8x704x2048 .bf16) = Cert.Reference5Ideal.Read.val_main_v5 (F := Ideal) (m ((c : Thread nD τ).loc main_arg0)) (m ((c : Thread nD τ).loc main_arg2)) := by
  funext z
  obtain ⟨i, r, q, rfl⟩ := cases3 z
  refine (result_apply m c i r q).trans ((reference_apply m c (inSlab (w := 704) (d := 8) (n := 5632) rfl i r) q).symm.trans ?_)
  exact (row_slabs (w := 704) (d := 8) (n := 5632) rfl (Cert.Reference5Ideal.Read.val_main_v4 (F := Ideal) (m ((c : Thread nD τ).loc main_arg0)) (m ((c : Thread nD τ).loc main_arg2))) _ i r q).symm

end Products.K5

end
-- ==== Proof.Gaps.lean ====
/- Columns spread out with zero columns between them: behind column 2080 there are 96 of them, and 64 at the end. Products and sums
over spread columns, and the two ways in which the programs write them. -/
module

public import proofs.«01_k».proof.Proof.Sums
public import Idealize.ShloMosaic.Lib.KernelVsHost
public import Idealize.ShloMosaic.Lib.IdealHost

@[expose] public section

set_option maxRecDepth 16384

noncomputable section

namespace Products

open Idealize.ShloMosaic Idealize.ShloMosaic.ValueIdx

/-- The integer zero, converted: the value that the reference pads with. -/
theorem integer_zero : (FloatOps.sitofp (F := Ideal) .f32 (0#32) : EReal) = 0 := by
  rw [show (FloatOps.sitofp (F := Ideal) .f32 (0#32) : EReal) = (((0#32 : BitVec 32).toInt : ℝ) : EReal) from rfl]
  simp

/-- A row of 5216 entries with zeros in the gaps. -/
def spreadRow (f : Fin 5216 → EReal) (j : Fin 5376) : EReal :=
  if h : j.val < 2080 then f ⟨j.val, by omega⟩
  else if j.val < 2176 then 0
  else if h : j.val < 5312 then f ⟨j.val - 96, by omega⟩
  else 0

/-- A matrix with zero columns in the gaps. -/
def spread {n : ℕ} (x : (⟨2, ![n, 5216]⟩ : Shape).Idx → EReal) : (⟨2, ![n, 5376]⟩ : Shape).Idx → EReal :=
  fun y => spreadRow (fun k => x (ix2 (y 0) k)) (y 1)

/-- Where a column goes. -/
def place (k : Fin 5216) : Fin 5376 := if k.val < 2080 then ⟨k.val, by omega⟩ else ⟨k.val + 96, by omega⟩

theorem place_val (k : Fin 5216) : (place k).val = if k.val < 2080 then k.val else k.val + 96 := by
  unfold place; split <;> rfl

theorem place_injective : Function.Injective place := by
  intro a b h
  have h := congrArg Fin.val h
  rw [place_val, place_val] at h
  apply Fin.ext
  split at h <;> split at h <;> omega

theorem spreadRow_place (f : Fin 5216 → EReal) (k : Fin 5216) : spreadRow f (place k) = f k := by
  have h := place_val k
  unfold spreadRow
  split at h
  · rw [dif_pos (by omega)]; exact congrArg f (Fin.ext h)
  · rw [dif_neg (by omega), if_neg (by omega), dif_pos (by omega)]
    exact congrArg f (Fin.ext (by show (place k).val - 96 = k.val; omega))

theorem spreadRow_gap (f : Fin 5216 → EReal) (j : Fin 5376) (h : j ∉ Set.range place) : spreadRow f j = 0 := by
  unfold spreadRow
  split
  · exact absurd ⟨⟨j.val, by omega⟩, Fin.ext (by rw [place_val]; exact if_pos (by assumption))⟩ h
  split
  · rfl
  split
  · refine absurd ⟨⟨j.val - 96, by omega⟩, Fin.ext ?_⟩ h
    rw [place_val, if_neg (by show ¬j.val - 96 < 2080; omega)]
    show j.val - 96 + 96 = j.val
    omega
  · rfl

/-- The zeros do not count in a sum. -/
theorem sum_spread (f : Fin 5216 → EReal) : ∑ j : Fin 5376, spreadRow f j = ∑ k : Fin 5216, f k :=
  (Fintype.sum_of_injective place place_injective f (spreadRow f) (fun j h => spreadRow_gap f j h) fun k => (spreadRow_place f k).symm).symm

theorem spreadRow_mul (f g : Fin 5216 → EReal) (j : Fin 5376) : spreadRow f j * spreadRow g j = spreadRow (fun k => f k * g k) j := by
  by_cases h : j ∈ Set.range place
  · obtain ⟨k, rfl⟩ := h; simp only [spreadRow_place]
  · simp only [spreadRow_gap _ j h, mul_zero]

theorem spreadRow_sum {n : ℕ} (a : Fin n → EReal) (f : Fin n → Fin 5216 → EReal) (j : Fin 5376) :
    ∑ k : Fin n, a k * spreadRow (f k) j = spreadRow (fun l => ∑ k : Fin n, a k * f k l) j := by
  by_cases h : j ∈ Set.range place
  · obtain ⟨l, rfl⟩ := h; simp only [spreadRow_place]
  · simp only [spreadRow_gap _ j h, mul_zero, Finset.sum_const_zero]

/-- Matrices side by side, read in piece number `k`. -/
theorem in_piece {n w p : ℕ} (xs : List ((s : Shape) × (s.Idx → EReal))) (h : Shape.Concatenates (xs.map (·.1)) ⟨2, ![n, w]⟩ (1 : Fin 2))
    (k : ℕ) (hk : k < xs.length) (x : (⟨2, ![n, p]⟩ : Shape).Idx → EReal) (hx : xs[k] = ⟨⟨2, ![n, p]⟩, x⟩) (pre : ℕ)
    (hp : (((xs.take k).map (·.1)).map fun s => if h : s.rank = 2 then s.size ((1 : Fin 2).cast h.symm) else 0).sum = pre)
    (i : Fin n) (j : Fin w) (c : Fin p) (hc : pre + c.val = j.val) : concatenate ⟨2, ![n, w]⟩ (1 : Fin 2) xs h (ix2 i j) = x (ix2 i c) :=
  concatenate_apply_piece (t := ⟨2, ![n, w]⟩) (1 : Fin 2) xs h (ix2 i j) k hk ⟨2, ![n, p]⟩ x hx rfl pre hp (ix2 i c)
    (fun b hb => match b, hb with
      | ⟨0, _⟩, _ => rfl
      | ⟨1, _⟩, hb => absurd rfl hb) hc

/-- A slice of columns. -/
theorem sliced {n p : ℕ} (o : ℕ) (x : (⟨2, ![n, 5216]⟩ : Shape).Idx → EReal) (h : (⟨2, ![n, 5216]⟩ : Shape).Slices ![0, o] ⟨2, ![n, p]⟩)
    (i : Fin n) (c : Fin p) (k : Fin 5216) (e : k.val = o + c.val) : extractStridedSlice ⟨2, ![n, p]⟩ ![0, o] x h (ix2 i c) = x (ix2 i k) :=
  extractStridedSlice_apply _ x h _ _ fun b => match b with
    | ⟨0, _⟩ => (Nat.zero_add i.val).symm
    | ⟨1, _⟩ => e

/-- Four pieces: columns, zeros, columns, zeros. -/
theorem four_pieces {n : ℕ} (x : (⟨2, ![n, 5216]⟩ : Shape).Idx → EReal) (h1 : (⟨2, ![n, 5216]⟩ : Shape).Slices ![0, 0] ⟨2, ![n, 2080]⟩)
    (z1 : (⟨2, ![n, 96]⟩ : Shape).Idx → EReal) (e1 : ∀ y, z1 y = 0) (h2 : (⟨2, ![n, 5216]⟩ : Shape).Slices ![0, 2080] ⟨2, ![n, 3136]⟩)
    (z2 : (⟨2, ![n, 64]⟩ : Shape).Idx → EReal) (e2 : ∀ y, z2 y = 0)
    (hc : Shape.Concatenates [⟨2, ![n, 2080]⟩, ⟨2, ![n, 96]⟩, ⟨2, ![n, 3136]⟩, ⟨2, ![n, 64]⟩] ⟨2, ![n, 5376]⟩ (1 : Fin 2)) (i : Fin n) (j : Fin 5376) :
    concatenate ⟨2, ![n, 5376]⟩ (1 : Fin 2) [⟨⟨2, ![n, 2080]⟩, extractStridedSlice ⟨2, ![n, 2080]⟩ ![0, 0] x h1⟩, ⟨⟨2, ![n, 96]⟩, z1⟩,
      ⟨⟨2, ![n, 3136]⟩, extractStridedSlice ⟨2, ![n, 3136]⟩ ![0, 2080] x h2⟩, ⟨⟨2, ![n, 64]⟩, z2⟩] hc (ix2 i j) = spread x (ix2 i j) := by
  show _ = spreadRow (fun k => x (ix2 i k)) j
  unfold spreadRow
  have l := j.isLt
  let xs : List ((s : Shape) × (s.Idx → EReal)) := [⟨⟨2, ![n, 2080]⟩, extractStridedSlice ⟨2, ![n, 2080]⟩ ![0, 0] x h1⟩, ⟨⟨2, ![n, 96]⟩, z1⟩,
    ⟨⟨2, ![n, 3136]⟩, extractStridedSlice ⟨2, ![n, 3136]⟩ ![0, 2080] x h2⟩, ⟨⟨2, ![n, 64]⟩, z2⟩]
  split
  · refine (in_piece xs hc 0 (Nat.succ_pos _) _ rfl 0 rfl i j ⟨j.val, by assumption⟩ (Nat.zero_add _)).trans ?_
    exact sliced 0 x h1 i _ _ (Nat.zero_add _).symm
  split
  · exact (in_piece xs hc 1 (Nat.succ_lt_succ (Nat.succ_pos _)) _ rfl 2080 rfl i j ⟨j.val - 2080, by omega⟩ (by show 2080 + (j.val - 2080) = j.val; omega)).trans (e1 _)
  split
  · refine (in_piece xs hc 2 (Nat.succ_lt_succ (Nat.succ_lt_succ (Nat.succ_pos _))) _ rfl 2176 rfl i j ⟨j.val - 2176, by omega⟩ (by show 2176 + (j.val - 2176) = j.val; omega)).trans ?_
    exact sliced 2080 x h2 i _ _ (by show j.val - 96 = 2080 + (j.val - 2176); omega)
  · exact (in_piece xs hc 3 (Nat.succ_lt_succ (Nat.succ_lt_succ (Nat.succ_lt_succ (Nat.succ_pos _)))) _ rfl 5312 rfl i j ⟨j.val - 5312, by omega⟩ (by show 5312 + (j.val - 5312) = j.val; omega)).trans (e2 _)

/-- A matrix padded with columns at its end, among its own columns. -/
theorem padded_inside {n p q g : ℕ} {u : Shape} (x : (⟨2, ![n, p]⟩ : Shape).Idx → EReal) (v : u.Idx → EReal)
    (w : (⟨2, ![n, p]⟩ : Shape).Pads ![0, 0] ![0, g] ![0, 0] ⟨2, ![n, q]⟩) (hu : 0 < u.numel) (i : Fin n) (c : Fin q) (k : Fin p) (e : k.val = c.val) :
    pad ⟨2, ![n, q]⟩ ![0, 0] ![0, g] ![0, 0] x v w hu (ix2 i c) = x (ix2 i k) :=
  pad_apply_of_inside _ _ _ _ _ _ _ _ _ fun b => match b with
    | ⟨0, _⟩ => show i.val = 0 + i.val * (0 + 1) by omega
    | ⟨1, _⟩ => show c.val = 0 + k.val * (0 + 1) by omega

/-- And behind them. -/
theorem padded_behind {n p q g : ℕ} {u : Shape} (x : (⟨2, ![n, p]⟩ : Shape).Idx → EReal) (v : u.Idx → EReal) (hv : ∀ y, v y = 0)
    (w : (⟨2, ![n, p]⟩ : Shape).Pads ![0, 0] ![0, g] ![0, 0] ⟨2, ![n, q]⟩) (hu : 0 < u.numel) (i : Fin n) (c : Fin q) (e : p ≤ c.val) :
    pad ⟨2, ![n, q]⟩ ![0, 0] ![0, g] ![0, 0] x v w hu (ix2 i c) = 0 := by
  rw [pad_apply_of_not_inside _ _ _ _ _ _ _ _ (1 : Fin 2) (by
    rintro ⟨_, _, h⟩
    have h : (c.val - 0) / (0 + 1) < p := h
    omega)]
  exact hv _

/-- Two pieces, each padded with zeros at its end. -/
theorem two_pieces {n : ℕ} {s u : Shape} (x : (⟨2, ![n, 5216]⟩ : Shape).Idx → EReal) (h1 : (⟨2, ![n, 5216]⟩ : Shape).Slices ![0, 0] ⟨2, ![n, 2080]⟩)
    (v1 : s.Idx → EReal) (e1 : ∀ y, v1 y = 0) (h2 : (⟨2, ![n, 5216]⟩ : Shape).Slices ![0, 2080] ⟨2, ![n, 3136]⟩)
    (v2 : u.Idx → EReal) (e2 : ∀ y, v2 y = 0) (w1 : (⟨2, ![n, 2080]⟩ : Shape).Pads ![0, 0] ![0, 96] ![0, 0] ⟨2, ![n, 2176]⟩) (r1 : 0 < s.numel)
    (w2 : (⟨2, ![n, 3136]⟩ : Shape).Pads ![0, 0] ![0, 64] ![0, 0] ⟨2, ![n, 3200]⟩) (r2 : 0 < u.numel)
    (hc : Shape.Concatenates [⟨2, ![n, 2176]⟩, ⟨2, ![n, 3200]⟩] ⟨2, ![n, 5376]⟩ (1 : Fin 2)) (i : Fin n) (j : Fin 5376) :
    concatenate ⟨2, ![n, 5376]⟩ (1 : Fin 2)
      [⟨⟨2, ![n, 2176]⟩, pad ⟨2, ![n, 2176]⟩ ![0, 0] ![0, 96] ![0, 0] (extractStridedSlice ⟨2, ![n, 2080]⟩ ![0, 0] x h1) v1 w1 r1⟩,
        ⟨⟨2, ![n, 3200]⟩, pad ⟨2, ![n, 3200]⟩ ![0, 0] ![0, 64] ![0, 0] (extractStridedSlice ⟨2, ![n, 3136]⟩ ![0, 2080] x h2) v2 w2 r2⟩] hc (ix2 i j)
      = spread x (ix2 i j) := by
  show _ = spreadRow (fun k => x (ix2 i k)) j
  unfold spreadRow
  have l := j.isLt
  let xs : List ((s : Shape) × (s.Idx → EReal)) :=
    [⟨⟨2, ![n, 2176]⟩, pad ⟨2, ![n, 2176]⟩ ![0, 0] ![0, 96] ![0, 0] (extractStridedSlice ⟨2, ![n, 2080]⟩ ![0, 0] x h1) v1 w1 r1⟩,
      ⟨⟨2, ![n, 3200]⟩, pad ⟨2, ![n, 3200]⟩ ![0, 0] ![0, 64] ![0, 0] (extractStridedSlice ⟨2, ![n, 3136]⟩ ![0, 2080] x h2) v2 w2 r2⟩]
  have first (h : j.val < 2176) := in_piece xs hc 0 (Nat.succ_pos _) _ rfl 0 rfl i j ⟨j.val, h⟩ (Nat.zero_add _)
  have second (h : ¬j.val < 2176) :=
    in_piece xs hc 1 (Nat.succ_lt_succ (Nat.succ_pos _)) _ rfl 2176 rfl i j ⟨j.val - 2176, by omega⟩ (by show 2176 + (j.val - 2176) = j.val; omega)
  split
  · refine (first (by omega)).trans ((padded_inside (p := 2080) (q := 2176) _ _ _ _ i ⟨j.val, by omega⟩ ⟨j.val, by assumption⟩ rfl).trans ?_)
    exact sliced 0 x h1 i _ _ (Nat.zero_add _).symm
  split
  · exact (first (by assumption)).trans (padded_behind (p := 2080) (q := 2176) _ _ e1 _ _ i ⟨j.val, by omega⟩ (by show 2080 ≤ j.val; omega))
  split
  · refine (second (by assumption)).trans ((padded_inside (p := 3136) (q := 3200) _ _ _ _ i ⟨j.val - 2176, by omega⟩ ⟨j.val - 2176, by omega⟩ rfl).trans ?_)
    exact sliced 2080 x h2 i _ _ (by show j.val - 96 = 2080 + (j.val - 2176); omega)
  · exact (second (by assumption)).trans (padded_behind (p := 3136) (q := 3200) _ _ e2 _ _ i ⟨j.val - 2176, by omega⟩ (by show 3136 ≤ j.val - 2176; omega))

end Products

end
-- ==== Proof.Prod6.lean ====
/- The input gradient of the input projection: the cotangent times the weights transposed. -/
module

public import proofs.«01_k».proof.Proof.Gaps
public import proofs.«01_k».proof.Proof.Gen.Kernel6Ideal.Value
public import proofs.«01_k».proof.Proof.Gen.Reference6Ideal.Read
public import Idealize.ShloMosaic.Lib.StableHlo.Run
public import Idealize.ShloMosaic.Lib.KernelVsHost

@[expose] public section

set_option maxRecDepth 16384

noncomputable section

namespace Products.K6

open Cert.Kernel6Ideal Cert.Kernel6Ideal.Gen Idealize.ShloMosaic Idealize.ShloMosaic.TcCoe Idealize.SL.Sem
open Idealize.ShloMosaic.ValueIdx AttGrad

/-- The product of two blocks, at an entry. -/
theorem product_apply (x0 : Vec Ideal S1088x896 .f32) (x1 : Vec Ideal S2048x896 .bf16) (r : Fin 1088) (q : Fin 2048) :
    k0_pay1 x0 x1 (ix2 r q) = ∑ k : Fin 896, x0 (ix2 r k) * x1 (ix2 q k) := by
  unfold k0_pay1
  refine (dot_nt none (φ₁ := .bf16) (φ₂ := .bf16) _ _ r q).trans (Finset.sum_congr rfl fun k _ => ?_)
  exact congrArg₂ (· * ·) (congrFun (shapeCast_self _ _) _) (congrFun (shapeCast_self _ _) _)

/-! ## What a point leaves -/

section Point
variable (c : Dev nD) (i : grid0.Coords) (arg3 : Memref sig .tc .vmem S1088x896 .f32) (harg3 : arg3.IsWhole) (arg4 : Memref sig .tc .vmem S2048x896 .bf16) (harg4 : arg4.IsWhole) (arg5 : Memref sig .tc .vmem S1088x2048 .bf16) (harg5 : arg5.IsWhole) (arg6 : Memref sig .tc .vmem S1088x2048 .f32) (harg6 : arg6.IsWhole)
  (x0 : Vec Ideal S1088x896 .f32) (x1 : Vec Ideal S2048x896 .bf16)

/-- The first point of a block starts the accumulator. -/
theorem first_point (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  rw [View.canon_unit_zero starts2]
  simp only [View.readAt_eq_ld, harg3.read_unread, harg4.read_unread, harg5.read_unread, harg6.read_unread, View.ld_unit_zero (S := S1088x896) starts2, View.ld_unit_zero (S := S2048x896) starts2]
  all_goals rfl

/-- A point between adds to it. -/
theorem middle_point (h0 : ¬cond0_0 i) (h1 : cond0_1 i) (h2 : ¬cond0_2 i) (acc : Vec Ideal S1088x2048 .f32) :
    sout0_B_0 c i arg3 harg3 arg4 harg4 arg5 harg5 arg6 harg6 h0 h1 h2 x0 x1 acc = k0_pay3 x0 x1 acc := by
  unfold sout0_B_0
  rw [View.read_writes_eq_canon _ _ _ (scover0_B_0 c i arg3 harg3 arg4 harg4 arg5 harg5 arg6 harg6 h0 h1 h2 x0 x1 acc)]
  unfold kernelRun0_B
  dsimp only
  sl_unfold_words
  rw [View.canon_unit_zero starts2]
  simp only [View.readAt_eq_ld, harg3.read_unread, harg4.read_unread, harg5.read_unread, harg6.read_unread, View.ld_unit_zero (S := S1088x896) starts2, View.ld_unit_zero (S := S2048x896) starts2, View.ld_unit_zero (S := S1088x2048) starts2]
  all_goals rfl

/-- So does the last one. -/
theorem last_point (h0 : ¬cond0_0 i) (h1 : cond0_1 i) (h2 : cond0_2 i) (acc : Vec Ideal S1088x2048 .f32) :
    sout0_C_0 c i arg3 harg3 arg4 harg4 arg5 harg5 arg6 harg6 h0 h1 h2 x0 x1 acc = k0_pay3 x0 x1 acc := by
  unfold sout0_C_0
  rw [View.read_writes_eq_canon _ _ _ (scover0_C_0 c i arg3 harg3 arg4 harg4 arg5 harg5 arg6 harg6 h0 h1 h2 x0 x1 acc)]
  unfold kernelRun0_C
  dsimp only
  sl_unfold_words
  rw [View.canon_unit_zero starts2]
  simp only [View.readAt_eq_ld, harg3.read_unread, harg4.read_unread, harg5.read_unread, harg6.read_unread, View.ld_unit_zero (S := S1088x896) starts2, View.ld_unit_zero (S := S2048x896) starts2, View.ld_unit_zero (S := S1088x2048) starts2]
  all_goals rfl

/-- And it writes the block. -/
theorem last_block (h0 : ¬cond0_0 i) (h1 : cond0_1 i) (h2 : cond0_2 i) (acc : Vec Ideal S1088x2048 .f32) :
    out0_C_2 c i arg3 harg3 arg4 harg4 arg5 harg5 arg6 harg6 h0 h1 h2 x0 x1 acc = k0_pay4 (k0_pay3 x0 x1 acc) := by
  unfold out0_C_2
  rw [View.read_writes_eq_canon _ _ _ (cover0_C_2 c i arg3 harg3 arg4 harg4 arg5 harg5 arg6 harg6 h0 h1 h2 x0 x1 acc)]
  unfold kernelRun0_C
  dsimp only
  sl_unfold_words
  rw [View.canon_unit_zero starts2, View.readCov_unit_zero (S := S1088x2048) _ starts2]
  simp only [View.readAt_eq_ld, harg3.read_unread, harg4.read_unread, harg5.read_unread, harg6.read_unread, View.ld_unit_zero (S := S1088x896) starts2, View.ld_unit_zero (S := S2048x896) starts2, View.ld_unit_zero (S := S1088x2048) starts2]
  all_goals rfl

end Point

/-! ## The operands and their blocks -/

variable (m : (ℓ : Loc nD τ sig) → Buf (Elt Ideal) ℓ) (c : Dev nD)

/-- The left operand, spread out. -/
abbrev left : Vec Ideal S4352x5376 .f32 := spread (n := 4352) (m ((c : Thread nD τ).loc main_arg2))

/-- The right operand, spread out. -/
abbrev right : Vec Ideal S2048x5376 .f32 := spread (n := 2048) (m ((c : Thread nD τ).loc main_arg1))

theorem left_array (x : Fin 4352) (y : Fin 5376) : V m c main_v4 (ix2 x y) = left m c (ix2 x y) := by
  have e : V m c main_v4 = concatenate S4352x5376 1 [⟨S4352x2080, extractStridedSlice S4352x2080 ![0, 0] (m ((c : Thread nD τ).loc main_arg2) : Vec Ideal S4352x5216 .f32) slices_S4352x5216_S4352x2080_0_0⟩,
      ⟨S4352x96, broadcastInDim S4352x96 ![] bcast_S_S4352x96 (constant (F := Ideal) S_ .f32 0x00000000#32)⟩,
      ⟨S4352x3136, extractStridedSlice S4352x3136 ![0, 2080] (m ((c : Thread nD τ).loc main_arg2) : Vec Ideal S4352x5216 .f32) slices_S4352x5216_S4352x3136_0_2080⟩,
      ⟨S4352x64, broadcastInDim S4352x64 ![] bcast_S_S4352x64 (constant (F := Ideal) S_ .f32 0x00000000#32)⟩] concatenates_S4352x2080_S4352x96_S4352x3136_S4352x64_S4352x5376_d1 := by
    unfold V
    simp only [hostOps0, List.flatten_cons, List.flatten_nil, List.append_nil, List.cons_append, List.nil_append]
    after_results_simp
    rfl
  rw [e]
  exact four_pieces (m ((c : Thread nD τ).loc main_arg2) : Vec Ideal S4352x5216 .f32) _ _ (fun _ => Ideal.ofBits_zero_f32) _ _ (fun _ => Ideal.ofBits_zero_f32) _ x y

theorem right_array (x : Fin 2048) (y : Fin 5376) : V m c main_v10 (ix2 x y) = right m c (ix2 x y) := by
  have e : V m c main_v10 = concatenate S2048x5376 1 [⟨S2048x2080, extractStridedSlice S2048x2080 ![0, 0] (truncf (F := Ideal) (φ := .f32) .bf16 (m ((c : Thread nD τ).loc main_arg1) : Vec Ideal S2048x5216 .f32) bitsLt_bf16_f32) slices_S2048x5216_S2048x2080_0_0⟩,
      ⟨S2048x96, broadcastInDim S2048x96 ![] bcast_S_S2048x96 (constant (F := Ideal) S_ .bf16 0x0000#16)⟩,
      ⟨S2048x3136, extractStridedSlice S2048x3136 ![0, 2080] (truncf (F := Ideal) (φ := .f32) .bf16 (m ((c : Thread nD τ).loc main_arg1) : Vec Ideal S2048x5216 .f32) bitsLt_bf16_f32) slices_S2048x5216_S2048x3136_0_2080⟩,
      ⟨S2048x64, broadcastInDim S2048x64 ![] bcast_S_S2048x64 (constant (F := Ideal) S_ .bf16 0x0000#16)⟩] concatenates_S2048x2080_S2048x96_S2048x3136_S2048x64_S2048x5376_d1 := by
    unfold V
    simp only [hostOps0, List.flatten_cons, List.flatten_nil, List.append_nil, List.cons_append, List.nil_append]
    after_results_simp
    rfl
  rw [e]
  exact four_pieces (truncf (F := Ideal) (φ := .f32) .bf16 (m ((c : Thread nD τ).loc main_arg1) : Vec Ideal S2048x5216 .f32) bitsLt_bf16_f32) _ _ (fun _ => Ideal.ofBits_zero_bf16) _ _ (fun _ => Ideal.ofBits_zero_bf16) _ x y

/-- The points of a block. -/
def pt (i : Fin 4) (s : Fin 6) : Fin cfg0.N := ⟨(i.val) * 6 + s.val, by show (i.val) * 6 + s.val < 24; omega⟩

theorem pt_i (i : Fin 4) (s : Fin 6) : (pt i s).val / 6 = i.val := by show ((i.val) * 6 + s.val) / 6 = i.val; omega
theorem pt_s (i : Fin 4) (s : Fin 6) : (pt i s).val % 6 = s.val := by show ((i.val) * 6 + s.val) % 6 = s.val; omega

theorem index_in : ∀ t : Fin cfg0.N, win0_0.index t = ![t.val / 6, t.val % 6] ∧ win0_1.index t = ![0, t.val % 6] :=
  (by decide +kernel : ∀ t : Fin grid0.N, win0_0.index t = ![t.val / 6, t.val % 6] ∧ win0_1.index t = ![0, t.val % 6])

theorem left_block (i : Fin 4) (s : Fin 6) (r : Fin 1088) (k : Fin 896) :
    (iblk m c 0 (pt i s) : Vec Ideal S1088x896 .f32) (ix2 r k) = left m c (ix2 (inSlab (w := 1088) (d := 4) (n := 4352) rfl i r) (inSlab (w := 896) (d := 6) (n := 5376) rfl s k)) := by
  unfold iblk
  rw [View.read_apply]
  refine Eq.trans ?_ (left_array m c (inSlab (w := 1088) (d := 4) (n := 4352) rfl i r) (inSlab (w := 896) (d := 6) (n := 5376) rfl s k))
  show V m c main_v4 _ = V m c main_v4 _
  congr 1
  funext x
  apply Fin.ext
  match x with
  | ⟨0, _⟩ => show win0_0.index (pt i s) 0 * 1088 + 1 * r.val = 1088 * i.val + r.val; rw [(index_in (pt i s)).1]; show (pt i s).val / 6 * 1088 + 1 * r.val = 1088 * i.val + r.val; rw [pt_i]; omega
  | ⟨1, _⟩ => show win0_0.index (pt i s) 1 * 896 + 1 * k.val = 896 * s.val + k.val; rw [(index_in (pt i s)).1]; show (pt i s).val % 6 * 896 + 1 * k.val = 896 * s.val + k.val; rw [pt_s]; omega

theorem right_block (i : Fin 4) (s : Fin 6) (q : Fin 2048) (k : Fin 896) :
    (iblk m c 1 (pt i s) : Vec Ideal S2048x896 .bf16) (ix2 q k) = right m c (ix2 q (inSlab (w := 896) (d := 6) (n := 5376) rfl s k)) := by
  unfold iblk
  rw [View.read_apply]
  refine Eq.trans ?_ (right_array m c q (inSlab (w := 896) (d := 6) (n := 5376) rfl s k))
  show V m c main_v10 _ = V m c main_v10 _
  congr 1
  funext x
  apply Fin.ext
  match x with
  | ⟨0, _⟩ => show win0_1.index (pt i s) 0 * 2048 + 1 * q.val = q.val; rw [(index_in (pt i s)).2]; show 0 * 2048 + 1 * q.val = q.val; omega
  | ⟨1, _⟩ => show win0_1.index (pt i s) 1 * 896 + 1 * k.val = 896 * s.val + k.val; rw [(index_in (pt i s)).2]; show (pt i s).val % 6 * 896 + 1 * k.val = 896 * s.val + k.val; rw [pt_s]; omega

/-- The summands of the result's entry. -/
def term (i : Fin 4352) (j : Fin 2048) (k : Fin 5376) : EReal := left m c (ix2 i k) * right m c (ix2 j k)

theorem tile_apply (i : Fin 4) (s : Fin 6) (r : Fin 1088) (q : Fin 2048) :
    k0_pay1 (F := Ideal) (iblk m c 0 (pt i s)) (iblk m c 1 (pt i s)) (ix2 r q) = tile 896 (term m c (inSlab (w := 1088) (d := 4) (n := 4352) rfl i r) q) s.val := by
  rw [tile_of _ _ (fun k => (inSlab (w := 896) (d := 6) (n := 5376) rfl s k).isLt)]
  refine (product_apply _ _ r q).trans (Finset.sum_congr rfl fun k _ => ?_)
  exact congrArg₂ (· * ·) (left_block m c i s r k) (right_block m c i s q k)

/-! ## The accumulator -/

theorem same_state (n n' : ℕ) (h : n = n') (hn : n < cfg0.N) (hn' : n' < cfg0.N) : outsAt0 m c n hn = outsAt0 m c n' hn' := by subst h; rfl

theorem before (t : Fin cfg0.N) : t.val - 1 < cfg0.N := Nat.lt_of_le_of_lt (Nat.sub_le _ _) t.isLt

theorem state_first (t : Fin cfg0.N) (h : t.val % 6 = 0) : (outsAt0 m c t.val t.isLt).2 = k0_pay2 (iblk m c 0 t) (iblk m c 1 t) := by
  have h1 : ¬1 ≤ t.val % 6 := by omega
  have h2 : ¬t.val % 6 = 5 := by omega
  simp only [outsAt0_A m c t h h1 h2]
  exact first_point c (grid0.coords t) (ms0_0 t) (hs0_0 t) (ms0_1 t) (hs0_1 t) (ms0_2 t) (hs0_2 t) scM0_0 (Memref.isWhole_whole _) (iblk m c 0 t) (iblk m c 1 t) ((hcond0_0 t).mpr h) (fun h => h1 ((hcond0_1 t).mp h)) (fun h => h2 ((hcond0_2 t).mp h))

theorem state_next (t : Fin cfg0.N) (h : ¬t.val % 6 = 0) :
    (outsAt0 m c t.val t.isLt).2 = k0_pay3 (iblk m c 0 t) (iblk m c 1 t) (outsAt0 m c (t.val - 1) (before t)).2 := by
  have h1 : 1 ≤ t.val % 6 := by omega
  by_cases h2 : t.val % 6 = 5
  · simp only [outsAt0_C m c t h h1 h2]
    exact last_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2
  · simp only [outsAt0_B m c t h h1 h2]
    exact middle_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) (fun h' => h2 ((hcond0_2 t).mp h')) (outsAt0 m c (t.val - 1) (before t)).2

theorem block_last (t : Fin cfg0.N) (h2 : t.val % 6 = 5) :
    (outsAt0 m c t.val t.isLt).1 = k0_pay4 (outsAt0 m c t.val t.isLt).2 := by
  have h : ¬t.val % 6 = 0 := by omega
  have h1 : 1 ≤ t.val % 6 := by omega
  rw [state_next m c t h]
  simp only [outsAt0_C m c t h h1 h2]
  exact last_block c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2

theorem start_apply (i : Fin 4) (s : Fin 6) (h : s.val = 0) (r : Fin 1088) (q : Fin 2048) :
    (outsAt0 m c (pt i s).val (pt i s).isLt).2 (ix2 r q) = tile 896 (term m c (inSlab (w := 1088) (d := 4) (n := 4352) rfl i r) q) s.val := by
  rw [state_first m c (pt i s) ((pt_s i s).trans h)]
  unfold k0_pay2
  exact (congrFun (shapeCast_self _ _) _).trans (tile_apply m c i s r q)

theorem step_apply (i : Fin 4) (s : ℕ) (hs : s + 1 < 6) (r : Fin 1088) (q : Fin 2048) :
    (outsAt0 m c (pt i ⟨s + 1, hs⟩).val (pt i ⟨s + 1, hs⟩).isLt).2 (ix2 r q)
      = (outsAt0 m c (pt i ⟨s, Nat.lt_of_succ_lt hs⟩).val (pt i ⟨s, Nat.lt_of_succ_lt hs⟩).isLt).2 (ix2 r q) + tile 896 (term m c (inSlab (w := 1088) (d := 4) (n := 4352) rfl i r) q) (s + 1) := by
  rw [state_next m c (pt i ⟨s + 1, hs⟩) (by rw [pt_s]; exact Nat.succ_ne_zero s),
    same_state m c ((pt i ⟨s + 1, hs⟩).val - 1) (pt i ⟨s, Nat.lt_of_succ_lt hs⟩).val rfl _ (pt i ⟨s, Nat.lt_of_succ_lt hs⟩).isLt]
  unfold k0_pay3
  exact (congrFun (shapeCast_self _ _) _).trans (congrArg ((outsAt0 m c (pt i ⟨s, Nat.lt_of_succ_lt hs⟩).val (pt i ⟨s, Nat.lt_of_succ_lt hs⟩).isLt).2 (ix2 r q) + ·) (tile_apply m c i ⟨s + 1, hs⟩ r q))

/-- The accumulator at the block's last point is the whole product. -/
theorem total (i : Fin 4) (r : Fin 1088) (q : Fin 2048) :
    (outsAt0 m c (pt i 5).val (pt i 5).isLt).2 (ix2 r q) = ∑ k : Fin 5376, term m c (inSlab (w := 1088) (d := 4) (n := 4352) rfl i r) q k :=
  accumulated (w := 896) (p := 5) (term m c (inSlab (w := 1088) (d := 4) (n := 4352) rfl i r) q) (fun s hs => (outsAt0 m c (pt i ⟨s, hs⟩).val (pt i ⟨s, hs⟩).isLt).2 (ix2 r q)) rfl
    (start_apply m c i 0 rfl r q) (fun s hs => step_apply m c i s hs r q)

/-! ## The result -/

/-- The array the run leaves, at an entry. -/
theorem result_apply (i : Fin 4) (r : Fin 1088) (q : Fin 2048) :
    (Cert.Kernel6Ideal.Value.G2 m c : Vec Ideal S4352x2048 .bf16) (ix2 (inSlab (w := 1088) (d := 4) (n := 4352) rfl i r) q) = ∑ k : Fin 5376, term m c (inSlab (w := 1088) (d := 4) (n := 4352) rfl i r) q k := by
  have hp : Cert.Kernel6Ideal.Value.pt2Of (ix2 (inSlab (w := 1088) (d := 4) (n := 4352) rfl i r) q) = (pt i 5).val := by
    show 6 * (1 * ((1088 * i.val + r.val) / 1088 - 0) + 1 * ((q.val) / 2048 - 0)) + 5 = (i.val) * 6 + 5
    omega
  have hl : Cert.Kernel6Ideal.Value.loc2Of (ix2 (inSlab (w := 1088) (d := 4) (n := 4352) rfl i r) q) = ix2 r q := by
    funext x
    apply Fin.ext
    match x with
    | ⟨0, _⟩ => show (1088 * i.val + r.val) % 1088 = r.val; omega
    | ⟨1, _⟩ => show (q.val) % 2048 = q.val; omega
  have hlt : Cert.Kernel6Ideal.Value.pt2Of (ix2 (inSlab (w := 1088) (d := 4) (n := 4352) rfl i r) q) < cfg0.N := by rw [hp]; exact (pt i 5).isLt
  unfold Cert.Kernel6Ideal.Value.G2
  rw [dif_pos hlt, ← Cert.Kernel6Ideal.Value.outsAt0_sweep m c _ hlt, hl, same_state m c _ _ hp hlt (pt i 5).isLt,
    block_last m c (pt i 5) (pt_s i 5)]
  exact total m c i r q

/-! ## The equation -/

/-- The first array. -/
abbrev first : S4352x5216.Idx → EReal := m ((c : Thread nD τ).loc main_arg2)

/-- The second array. -/
abbrev second : S2048x5216.Idx → EReal := m ((c : Thread nD τ).loc main_arg1)

/-- The reference's product, at an entry. -/
theorem reference_apply (i : Fin 4352) (j : Fin 2048) : Cert.Reference6Ideal.Read.val_main_v3 (F := Ideal) (m ((c : Thread nD τ).loc main_arg1)) (m ((c : Thread nD τ).loc main_arg2)) (ix2 i j) = ∑ k : Fin 5376, term m c i j k := by
  have e : Cert.Reference6Ideal.Read.val_main_v3 (F := Ideal) (m ((c : Thread nD τ).loc main_arg1)) (m ((c : Thread nD τ).loc main_arg2)) (ix2 i j) = ∑ k : Fin 5216, first m c (ix2 i k) * second m c (ix2 j k) := by
    rw [Cert.Reference6Ideal.Read.val_main_v3_apply]
    refine Finset.sum_congr rfl fun k _ => ?_
    congr 2
    · funext x
      match x with
      | ⟨0, _⟩ => rfl
      | ⟨1, _⟩ => rfl
    · funext x
      match x with
      | ⟨0, _⟩ => rfl
      | ⟨1, _⟩ => rfl
  rw [e, ← sum_spread]
  exact Finset.sum_congr rfl fun k _ => (spreadRow_mul _ _ k).symm

/-- What the kernel leaves is what the reference computes. -/
theorem equation : (Cert.Kernel6Ideal.Value.G2 m c : Vec Ideal S4352x2048 .bf16) = Cert.Reference6Ideal.Read.val_main_v4 (F := Ideal) (m ((c : Thread nD τ).loc main_arg1)) (m ((c : Thread nD τ).loc main_arg2)) := by
  funext z
  obtain ⟨x, y, rfl⟩ := cases2 z
  obtain ⟨i, r, rfl⟩ := slab_cases (w := 1088) (d := 4) (n := 4352) rfl (by decide) x
  exact (result_apply m c i r y).trans (reference_apply m c (inSlab (w := 1088) (d := 4) (n := 4352) rfl i r) y).symm

end Products.K6

end
-- ==== Proof.Prod7.lean ====
/- The weight gradient of the input projection: the input transposed times the cotangent. -/
module

public import proofs.«01_k».proof.Proof.Gaps
public import proofs.«01_k».proof.Proof.Gen.Kernel7Ideal.Value
public import proofs.«01_k».proof.Proof.Gen.Reference7Ideal.Read
public import Idealize.ShloMosaic.Lib.StableHlo.Run
public import Idealize.ShloMosaic.Lib.KernelVsHost

@[expose] public section

set_option maxRecDepth 16384

noncomputable section

namespace Products.K7

open Cert.Kernel7Ideal Cert.Kernel7Ideal.Gen Idealize.ShloMosaic Idealize.ShloMosaic.TcCoe Idealize.SL.Sem
open Idealize.ShloMosaic.ValueIdx AttGrad

/-- The product of two blocks, at an entry. -/
theorem product_apply (x0 : Vec Ideal S1088x2048 .bf16) (x1 : Vec Ideal S1088x768 .f32) (r : Fin 2048) (q : Fin 768) :
    k0_pay1 x0 x1 (ix2 r q) = ∑ k : Fin 1088, x0 (ix2 k r) * x1 (ix2 k q) := by
  unfold k0_pay1
  refine (dot_tn none (φ₁ := .bf16) (φ₂ := .bf16) _ _ r q).trans (Finset.sum_congr rfl fun k _ => ?_)
  exact congrArg₂ (· * ·) (congrFun (shapeCast_self _ _) _) (congrFun (shapeCast_self _ _) _)

/-! ## What a point leaves -/

section Point
variable (c : Dev nD) (i : grid0.Coords) (arg3 : Memref sig .tc .vmem S1088x2048 .bf16) (harg3 : arg3.IsWhole) (arg4 : Memref sig .tc .vmem S1088x768 .f32) (harg4 : arg4.IsWhole) (arg5 : Memref sig .tc .vmem S2048x768 .bf16) (harg5 : arg5.IsWhole) (arg6 : Memref sig .tc .vmem S2048x768 .f32) (harg6 : arg6.IsWhole)
  (x0 : Vec Ideal S1088x2048 .bf16) (x1 : Vec Ideal S1088x768 .f32)

/-- The first point of a block starts the accumulator. -/
theorem first_point (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  rw [View.canon_unit_zero starts2]
  simp only [View.readAt_eq_ld, harg3.read_unread, harg4.read_unread, harg5.read_unread, harg6.read_unread, View.ld_unit_zero (S := S1088x2048) starts2, View.ld_unit_zero (S := S1088x768) starts2]
  all_goals rfl

/-- A point between adds to it. -/
theorem middle_point (h0 : ¬cond0_0 i) (h1 : cond0_1 i) (h2 : ¬cond0_2 i) (acc : Vec Ideal S2048x768 .f32) :
    sout0_B_0 c i arg3 harg3 arg4 harg4 arg5 harg5 arg6 harg6 h0 h1 h2 x0 x1 acc = k0_pay3 x0 x1 acc := by
  unfold sout0_B_0
  rw [View.read_writes_eq_canon _ _ _ (scover0_B_0 c i arg3 harg3 arg4 harg4 arg5 harg5 arg6 harg6 h0 h1 h2 x0 x1 acc)]
  unfold kernelRun0_B
  dsimp only
  sl_unfold_words
  rw [View.canon_unit_zero starts2]
  simp only [View.readAt_eq_ld, harg3.read_unread, harg4.read_unread, harg5.read_unread, harg6.read_unread, View.ld_unit_zero (S := S1088x2048) starts2, View.ld_unit_zero (S := S1088x768) starts2, View.ld_unit_zero (S := S2048x768) starts2]
  all_goals rfl

/-- So does the last one. -/
theorem last_point (h0 : ¬cond0_0 i) (h1 : cond0_1 i) (h2 : cond0_2 i) (acc : Vec Ideal S2048x768 .f32) :
    sout0_C_0 c i arg3 harg3 arg4 harg4 arg5 harg5 arg6 harg6 h0 h1 h2 x0 x1 acc = k0_pay3 x0 x1 acc := by
  unfold sout0_C_0
  rw [View.read_writes_eq_canon _ _ _ (scover0_C_0 c i arg3 harg3 arg4 harg4 arg5 harg5 arg6 harg6 h0 h1 h2 x0 x1 acc)]
  unfold kernelRun0_C
  dsimp only
  sl_unfold_words
  rw [View.canon_unit_zero starts2]
  simp only [View.readAt_eq_ld, harg3.read_unread, harg4.read_unread, harg5.read_unread, harg6.read_unread, View.ld_unit_zero (S := S1088x2048) starts2, View.ld_unit_zero (S := S1088x768) starts2, View.ld_unit_zero (S := S2048x768) starts2]
  all_goals rfl

/-- And it writes the block. -/
theorem last_block (h0 : ¬cond0_0 i) (h1 : cond0_1 i) (h2 : cond0_2 i) (acc : Vec Ideal S2048x768 .f32) :
    out0_C_2 c i arg3 harg3 arg4 harg4 arg5 harg5 arg6 harg6 h0 h1 h2 x0 x1 acc = k0_pay4 (k0_pay3 x0 x1 acc) := by
  unfold out0_C_2
  rw [View.read_writes_eq_canon _ _ _ (cover0_C_2 c i arg3 harg3 arg4 harg4 arg5 harg5 arg6 harg6 h0 h1 h2 x0 x1 acc)]
  unfold kernelRun0_C
  dsimp only
  sl_unfold_words
  rw [View.canon_unit_zero starts2, View.readCov_unit_zero (S := S2048x768) _ starts2]
  simp only [View.readAt_eq_ld, harg3.read_unread, harg4.read_unread, harg5.read_unread, harg6.read_unread, View.ld_unit_zero (S := S1088x2048) starts2, View.ld_unit_zero (S := S1088x768) starts2, View.ld_unit_zero (S := S2048x768) starts2]
  all_goals rfl

end Point

/-! ## The operands and their blocks -/

variable (m : (ℓ : Loc nD τ sig) → Buf (Elt Ideal) ℓ) (c : Dev nD)

/-- The left operand. -/
abbrev left : Vec Ideal S4352x2048 .f32 := m ((c : Thread nD τ).loc main_arg0)

/-- The right operand, spread out. -/
abbrev right : Vec Ideal S4352x5376 .f32 := spread (n := 4352) (m ((c : Thread nD τ).loc main_arg2))

theorem left_value : V m c main_v0 = (truncf (F := Ideal) (φ := .f32) .bf16 (left m c) bitsLt_bf16_f32) := by
  unfold V
  simp only [hostOps0, List.flatten_cons, List.flatten_nil, List.append_nil, List.cons_append, List.nil_append]
  after_results_simp
theorem left_array (x : Fin 4352) (y : Fin 2048) : V m c main_v0 (ix2 x y) = left m c (ix2 x y) := by rw [left_value]; rfl

theorem right_array (x : Fin 4352) (y : Fin 5376) : V m c main_v5 (ix2 x y) = right m c (ix2 x y) := by
  have e : V m c main_v5 = concatenate S4352x5376 1 [⟨S4352x2080, extractStridedSlice S4352x2080 ![0, 0] (m ((c : Thread nD τ).loc main_arg2) : Vec Ideal S4352x5216 .f32) slices_S4352x5216_S4352x2080_0_0⟩,
      ⟨S4352x96, broadcastInDim S4352x96 ![] bcast_S_S4352x96 (constant (F := Ideal) S_ .f32 0x00000000#32)⟩,
      ⟨S4352x3136, extractStridedSlice S4352x3136 ![0, 2080] (m ((c : Thread nD τ).loc main_arg2) : Vec Ideal S4352x5216 .f32) slices_S4352x5216_S4352x3136_0_2080⟩,
      ⟨S4352x64, broadcastInDim S4352x64 ![] bcast_S_S4352x64 (constant (F := Ideal) S_ .f32 0x00000000#32)⟩] concatenates_S4352x2080_S4352x96_S4352x3136_S4352x64_S4352x5376_d1 := by
    unfold V
    simp only [hostOps0, List.flatten_cons, List.flatten_nil, List.append_nil, List.cons_append, List.nil_append]
    after_results_simp
    rfl
  rw [e]
  exact four_pieces (m ((c : Thread nD τ).loc main_arg2) : Vec Ideal S4352x5216 .f32) _ _ (fun _ => Ideal.ofBits_zero_f32) _ _ (fun _ => Ideal.ofBits_zero_f32) _ x y

/-- The points of a block. -/
def pt (j : Fin 7) (s : Fin 4) : Fin cfg0.N := ⟨(j.val) * 4 + s.val, by show (j.val) * 4 + s.val < 28; omega⟩

theorem pt_j (j : Fin 7) (s : Fin 4) : (pt j s).val / 4 = j.val := by show ((j.val) * 4 + s.val) / 4 = j.val; omega
theorem pt_s (j : Fin 7) (s : Fin 4) : (pt j s).val % 4 = s.val := by show ((j.val) * 4 + s.val) % 4 = s.val; omega

theorem index_in : ∀ t : Fin cfg0.N, win0_0.index t = ![t.val % 4, 0] ∧ win0_1.index t = ![t.val % 4, t.val / 4] :=
  (by decide +kernel : ∀ t : Fin grid0.N, win0_0.index t = ![t.val % 4, 0] ∧ win0_1.index t = ![t.val % 4, t.val / 4])

theorem left_block (j : Fin 7) (s : Fin 4) (k : Fin 1088) (r : Fin 2048) :
    (iblk m c 0 (pt j s) : Vec Ideal S1088x2048 .bf16) (ix2 k r) = left m c (ix2 (inSlab (w := 1088) (d := 4) (n := 4352) rfl s k) r) := by
  unfold iblk
  rw [View.read_apply]
  refine Eq.trans ?_ (left_array m c (inSlab (w := 1088) (d := 4) (n := 4352) rfl s k) r)
  show V m c main_v0 _ = V m c main_v0 _
  congr 1
  funext x
  apply Fin.ext
  match x with
  | ⟨0, _⟩ => show win0_0.index (pt j s) 0 * 1088 + 1 * k.val = 1088 * s.val + k.val; rw [(index_in (pt j s)).1]; show (pt j s).val % 4 * 1088 + 1 * k.val = 1088 * s.val + k.val; rw [pt_s]; omega
  | ⟨1, _⟩ => show win0_0.index (pt j s) 1 * 2048 + 1 * r.val = r.val; rw [(index_in (pt j s)).1]; show 0 * 2048 + 1 * r.val = r.val; omega

theorem right_block (j : Fin 7) (s : Fin 4) (k : Fin 1088) (q : Fin 768) :
    (iblk m c 1 (pt j s) : Vec Ideal S1088x768 .f32) (ix2 k q) = right m c (ix2 (inSlab (w := 1088) (d := 4) (n := 4352) rfl s k) (inSlab (w := 768) (d := 7) (n := 5376) rfl j q)) := by
  unfold iblk
  rw [View.read_apply]
  refine Eq.trans ?_ (right_array m c (inSlab (w := 1088) (d := 4) (n := 4352) rfl s k) (inSlab (w := 768) (d := 7) (n := 5376) rfl j q))
  show V m c main_v5 _ = V m c main_v5 _
  congr 1
  funext x
  apply Fin.ext
  match x with
  | ⟨0, _⟩ => show win0_1.index (pt j s) 0 * 1088 + 1 * k.val = 1088 * s.val + k.val; rw [(index_in (pt j s)).2]; show (pt j s).val % 4 * 1088 + 1 * k.val = 1088 * s.val + k.val; rw [pt_s]; omega
  | ⟨1, _⟩ => show win0_1.index (pt j s) 1 * 768 + 1 * q.val = 768 * j.val + q.val; rw [(index_in (pt j s)).2]; show (pt j s).val / 4 * 768 + 1 * q.val = 768 * j.val + q.val; rw [pt_j]; omega

/-- The summands of the result's entry. -/
def term (i : Fin 2048) (j : Fin 5376) (k : Fin 4352) : EReal := left m c (ix2 k i) * right m c (ix2 k j)

theorem tile_apply (j : Fin 7) (s : Fin 4) (r : Fin 2048) (q : Fin 768) :
    k0_pay1 (F := Ideal) (iblk m c 0 (pt j s)) (iblk m c 1 (pt j s)) (ix2 r q) = tile 1088 (term m c r (inSlab (w := 768) (d := 7) (n := 5376) rfl j q)) s.val := by
  rw [tile_of _ _ (fun k => (inSlab (w := 1088) (d := 4) (n := 4352) rfl s k).isLt)]
  refine (product_apply _ _ r q).trans (Finset.sum_congr rfl fun k _ => ?_)
  exact congrArg₂ (· * ·) (left_block m c j s k r) (right_block m c j s k q)

/-! ## The accumulator -/

theorem same_state (n n' : ℕ) (h : n = n') (hn : n < cfg0.N) (hn' : n' < cfg0.N) : outsAt0 m c n hn = outsAt0 m c n' hn' := by subst h; rfl

theorem before (t : Fin cfg0.N) : t.val - 1 < cfg0.N := Nat.lt_of_le_of_lt (Nat.sub_le _ _) t.isLt

theorem state_first (t : Fin cfg0.N) (h : t.val % 4 = 0) : (outsAt0 m c t.val t.isLt).2 = k0_pay2 (iblk m c 0 t) (iblk m c 1 t) := by
  have h1 : ¬1 ≤ t.val % 4 := by omega
  have h2 : ¬t.val % 4 = 3 := by omega
  simp only [outsAt0_A m c t h h1 h2]
  exact first_point c (grid0.coords t) (ms0_0 t) (hs0_0 t) (ms0_1 t) (hs0_1 t) (ms0_2 t) (hs0_2 t) scM0_0 (Memref.isWhole_whole _) (iblk m c 0 t) (iblk m c 1 t) ((hcond0_0 t).mpr h) (fun h => h1 ((hcond0_1 t).mp h)) (fun h => h2 ((hcond0_2 t).mp h))

theorem state_next (t : Fin cfg0.N) (h : ¬t.val % 4 = 0) :
    (outsAt0 m c t.val t.isLt).2 = k0_pay3 (iblk m c 0 t) (iblk m c 1 t) (outsAt0 m c (t.val - 1) (before t)).2 := by
  have h1 : 1 ≤ t.val % 4 := by omega
  by_cases h2 : t.val % 4 = 3
  · simp only [outsAt0_C m c t h h1 h2]
    exact last_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2
  · simp only [outsAt0_B m c t h h1 h2]
    exact middle_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) (fun h' => h2 ((hcond0_2 t).mp h')) (outsAt0 m c (t.val - 1) (before t)).2

theorem block_last (t : Fin cfg0.N) (h2 : t.val % 4 = 3) :
    (outsAt0 m c t.val t.isLt).1 = k0_pay4 (outsAt0 m c t.val t.isLt).2 := by
  have h : ¬t.val % 4 = 0 := by omega
  have h1 : 1 ≤ t.val % 4 := by omega
  rw [state_next m c t h]
  simp only [outsAt0_C m c t h h1 h2]
  exact last_block c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2

theorem start_apply (j : Fin 7) (s : Fin 4) (h : s.val = 0) (r : Fin 2048) (q : Fin 768) :
    (outsAt0 m c (pt j s).val (pt j s).isLt).2 (ix2 r q) = tile 1088 (term m c r (inSlab (w := 768) (d := 7) (n := 5376) rfl j q)) s.val := by
  rw [state_first m c (pt j s) ((pt_s j s).trans h)]
  unfold k0_pay2
  exact (congrFun (shapeCast_self _ _) _).trans (tile_apply m c j s r q)

theorem step_apply (j : Fin 7) (s : ℕ) (hs : s + 1 < 4) (r : Fin 2048) (q : Fin 768) :
    (outsAt0 m c (pt j ⟨s + 1, hs⟩).val (pt j ⟨s + 1, hs⟩).isLt).2 (ix2 r q)
      = (outsAt0 m c (pt j ⟨s, Nat.lt_of_succ_lt hs⟩).val (pt j ⟨s, Nat.lt_of_succ_lt hs⟩).isLt).2 (ix2 r q) + tile 1088 (term m c r (inSlab (w := 768) (d := 7) (n := 5376) rfl j q)) (s + 1) := by
  rw [state_next m c (pt j ⟨s + 1, hs⟩) (by rw [pt_s]; exact Nat.succ_ne_zero s),
    same_state m c ((pt j ⟨s + 1, hs⟩).val - 1) (pt j ⟨s, Nat.lt_of_succ_lt hs⟩).val rfl _ (pt j ⟨s, Nat.lt_of_succ_lt hs⟩).isLt]
  unfold k0_pay3
  exact (congrFun (shapeCast_self _ _) _).trans (congrArg ((outsAt0 m c (pt j ⟨s, Nat.lt_of_succ_lt hs⟩).val (pt j ⟨s, Nat.lt_of_succ_lt hs⟩).isLt).2 (ix2 r q) + ·) (tile_apply m c j ⟨s + 1, hs⟩ r q))

/-- The accumulator at the block's last point is the whole product. -/
theorem total (j : Fin 7) (r : Fin 2048) (q : Fin 768) :
    (outsAt0 m c (pt j 3).val (pt j 3).isLt).2 (ix2 r q) = ∑ k : Fin 4352, term m c r (inSlab (w := 768) (d := 7) (n := 5376) rfl j q) k :=
  accumulated (w := 1088) (p := 3) (term m c r (inSlab (w := 768) (d := 7) (n := 5376) rfl j q)) (fun s hs => (outsAt0 m c (pt j ⟨s, hs⟩).val (pt j ⟨s, hs⟩).isLt).2 (ix2 r q)) rfl
    (start_apply m c j 0 rfl r q) (fun s hs => step_apply m c j s hs r q)

/-! ## The result -/

/-- The array the run leaves, at an entry. -/
theorem result_apply (j : Fin 7) (r : Fin 2048) (q : Fin 768) :
    (Cert.Kernel7Ideal.Value.G2 m c : Vec Ideal S2048x5376 .bf16) (ix2 r (inSlab (w := 768) (d := 7) (n := 5376) rfl j q)) = ∑ k : Fin 4352, term m c r (inSlab (w := 768) (d := 7) (n := 5376) rfl j q) k := by
  have hp : Cert.Kernel7Ideal.Value.pt2Of (ix2 r (inSlab (w := 768) (d := 7) (n := 5376) rfl j q)) = (pt j 3).val := by
    show 4 * (7 * ((r.val) / 2048 - 0) + 1 * ((768 * j.val + q.val) / 768 - 0)) + 3 = (j.val) * 4 + 3
    omega
  have hl : Cert.Kernel7Ideal.Value.loc2Of (ix2 r (inSlab (w := 768) (d := 7) (n := 5376) rfl j q)) = ix2 r q := by
    funext x
    apply Fin.ext
    match x with
    | ⟨0, _⟩ => show (r.val) % 2048 = r.val; omega
    | ⟨1, _⟩ => show (768 * j.val + q.val) % 768 = q.val; omega
  have hlt : Cert.Kernel7Ideal.Value.pt2Of (ix2 r (inSlab (w := 768) (d := 7) (n := 5376) rfl j q)) < cfg0.N := by rw [hp]; exact (pt j 3).isLt
  unfold Cert.Kernel7Ideal.Value.G2
  rw [dif_pos hlt, ← Cert.Kernel7Ideal.Value.outsAt0_sweep m c _ hlt, hl, same_state m c _ _ hp hlt (pt j 3).isLt,
    block_last m c (pt j 3) (pt_s j 3)]
  exact total m c j r q

/-! ## The equation -/

/-- The first array. -/
abbrev first : S4352x2048.Idx → EReal := m ((c : Thread nD τ).loc main_arg0)

/-- The second array. -/
abbrev second : S4352x5216.Idx → EReal := m ((c : Thread nD τ).loc main_arg2)

/-- The reference's product, at an entry. -/
theorem reference_apply (i : Fin 2048) (j : Fin 5376) : Cert.Reference7Ideal.Read.val_main_v9 (F := Ideal) (m ((c : Thread nD τ).loc main_arg0)) (m ((c : Thread nD τ).loc main_arg2)) (ix2 i j) = ∑ k : Fin 4352, term m c i j k := by
  have e (l : Fin 5216) : Cert.Reference7Ideal.Read.val_main_v2 (F := Ideal) (m ((c : Thread nD τ).loc main_arg0)) (m ((c : Thread nD τ).loc main_arg2)) (ix2 i l) = ∑ k : Fin 4352, first m c (ix2 k i) * second m c (ix2 k l) := by
    rw [Cert.Reference7Ideal.Read.val_main_v2_apply, Cert.Reference7Ideal.Read.val_main_v1_apply]
    refine Finset.sum_congr rfl fun k _ => ?_
    refine (mul_comm _ _).trans ?_
    congr 2
    · funext x
      match x with
      | ⟨0, _⟩ => rfl
      | ⟨1, _⟩ => rfl
    · funext x
      match x with
      | ⟨0, _⟩ => rfl
      | ⟨1, _⟩ => rfl
  show Cert.Reference7Ideal.Read.val_main_v8 (F := Ideal) (m ((c : Thread nD τ).loc main_arg0)) (m ((c : Thread nD τ).loc main_arg2)) (ix2 i j) = _
  refine (two_pieces (Cert.Reference7Ideal.Read.val_main_v2 (F := Ideal) (m ((c : Thread nD τ).loc main_arg0)) (m ((c : Thread nD τ).loc main_arg2))) _ _ (fun _ => integer_zero) _ _ (fun _ => integer_zero) _ _ _ _ _ i j).trans ?_
  show spreadRow (fun l => Cert.Reference7Ideal.Read.val_main_v2 (F := Ideal) (m ((c : Thread nD τ).loc main_arg0)) (m ((c : Thread nD τ).loc main_arg2)) (ix2 i l)) j = _
  simp only [e]
  exact (spreadRow_sum _ _ j).symm

/-- What the kernel leaves is what the reference computes. -/
theorem equation : (Cert.Kernel7Ideal.Value.G2 m c : Vec Ideal S2048x5376 .bf16) = Cert.Reference7Ideal.Read.val_main_v9 (F := Ideal) (m ((c : Thread nD τ).loc main_arg0)) (m ((c : Thread nD τ).loc main_arg2)) := by
  funext z
  obtain ⟨x, y, rfl⟩ := cases2 z
  obtain ⟨j, q, rfl⟩ := slab_cases (w := 768) (d := 7) (n := 5376) rfl (by decide) y
  exact (result_apply m c j x q).trans (reference_apply m c x (inSlab (w := 768) (d := 7) (n := 5376) rfl j q)).symm

end Products.K7

end
-- ==== Proof.Prod8.lean ====
/- The feed-forward up projection: the input times the weights, slab by slab of columns. -/
module

public import proofs.«01_k».proof.Proof.Sums
public import proofs.«01_k».proof.Proof.Gen.Kernel8Ideal.Value
public import proofs.«01_k».proof.Proof.Gen.Reference8Ideal.Read
public import Idealize.ShloMosaic.Lib.StableHlo.Run
public import Idealize.ShloMosaic.Lib.KernelVsHost

@[expose] public section

set_option maxRecDepth 16384

noncomputable section

namespace Products.K8

open Cert.Kernel8Ideal Cert.Kernel8Ideal.Gen Idealize.ShloMosaic Idealize.ShloMosaic.TcCoe Idealize.SL.Sem
open Idealize.ShloMosaic.ValueIdx AttGrad

/-- The product of two blocks, at an entry. -/
theorem product_apply (x0 : Vec Ideal S1088x2048 .bf16) (x1 : Vec Ideal S1x1x2048x704 .bf16) (r : Fin 1088) (q : Fin 704) :
    k0_pay1 x0 x1 (ix3 (0 : Fin 1) r q) = ∑ k : Fin 2048, x0 (ix2 r k) * x1 (ix4 (0 : Fin 1) (0 : Fin 1) k q) := by
  unfold k0_pay1
  refine (add_one_axis _ _ r q).trans ?_
  refine (dot_nn none (φ₁ := .bf16) (φ₂ := .bf16) _ _ r q).trans (Finset.sum_congr rfl fun k _ => ?_)
  exact congrArg₂ (· * ·) (congrFun (shapeCast_self _ _) _) (drop_two _ _ _ _)

/-- What a point leaves. -/
theorem block_value (x0 : Vec Ideal S1088x2048 .bf16) (x1 : Vec Ideal S1x1x2048x704 .bf16) : out0_2 x0 x1 = k0_pay1 x0 x1 := by
  unfold out0_2
  rw [View.canon_unit_zero starts3]
  congr 1
  · exact View.ld_unit_zero (S := S1088x2048) starts2 _ x0
  · exact View.ld_unit_zero (S := S1x1x2048x704) starts4 _ x1

/-! ## The operands and their blocks -/

variable (m : (ℓ : Loc nD τ sig) → Buf (Elt Ideal) ℓ) (c : Dev nD)

/-- The left operand. -/
abbrev left : Vec Ideal S4352x2048 .f32 := m ((c : Thread nD τ).loc main_arg0)

/-- The right operand. -/
abbrev right : Vec Ideal S2048x5632 .f32 := m ((c : Thread nD τ).loc main_arg1)

theorem left_value : V m c main_v0 = (truncf (F := Ideal) (φ := .f32) .bf16 (left m c) bitsLt_bf16_f32) := by
  unfold V
  simp only [hostOps0, List.flatten_cons, List.flatten_nil, List.append_nil, List.cons_append, List.nil_append]
  after_results_simp
theorem left_array (x : Fin 4352) (y : Fin 2048) : V m c main_v0 (ix2 x y) = left m c (ix2 x y) := by rw [left_value]; rfl

theorem right_value : V m c main_v4 = broadcastInDim S8x1x2048x704 ![0, 2, 3] bcast_S8x2048x704_S8x1x2048x704_0_2_3 (transpose S8x2048x704 [1, 0, 2] (shapeCast S2048x8x704 (truncf (F := Ideal) (φ := .f32) .bf16 (right m c) bitsLt_bf16_f32) shapeCasts_S2048x5632_S2048x8x704) transposes_S2048x8x704_S8x2048x704_1_0_2) := by
  unfold V
  simp only [hostOps0, List.flatten_cons, List.flatten_nil, List.append_nil, List.cons_append, List.nil_append]
  after_results_simp
  rfl
theorem right_array (e : Fin 8) (x : Fin 2048) (y : Fin 704) : V m c main_v4 (ix4 e (0 : Fin 1) x y) = right m c (ix2 x (inSlab (w := 704) (d := 8) (n := 5632) rfl e y)) := by
  rw [right_value]
  refine (column_slabs_one _ _ (by decide) (by decide) (by decide) e x y).trans ?_
  exact column_slabs (w := 704) (d := 8) (n := 5632) rfl (truncf (F := Ideal) (φ := .f32) .bf16 (right m c) bitsLt_bf16_f32) _ _ e x y

/-- The points of a block. -/
def pt (i : Fin 4) (j : Fin 8) : Fin cfg0.N := ⟨8 * i.val + j.val, by show 8 * i.val + j.val < 32; omega⟩

theorem pt_i (i : Fin 4) (j : Fin 8) : (pt i j).val / 8 = i.val := by show (8 * i.val + j.val) / 8 = i.val; omega
theorem pt_j (i : Fin 4) (j : Fin 8) : (pt i j).val / 1 % 8 = j.val := by show (8 * i.val + j.val) / 1 % 8 = j.val; omega

theorem index_in : ∀ t : Fin cfg0.N, win0_0.index t = ![t.val / 8, 0] ∧ win0_1.index t = ![t.val / 1 % 8, 0, 0, 0] :=
  (by decide +kernel : ∀ t : Fin grid0.N, win0_0.index t = ![t.val / 8, 0] ∧ win0_1.index t = ![t.val / 1 % 8, 0, 0, 0])

theorem left_block (i : Fin 4) (j : Fin 8) (r : Fin 1088) (k : Fin 2048) :
    (iblk m c 0 (pt i j) : Vec Ideal S1088x2048 .bf16) (ix2 r k) = left m c (ix2 (inSlab (w := 1088) (d := 4) (n := 4352) rfl i r) k) := by
  unfold iblk
  rw [View.read_apply]
  refine Eq.trans ?_ (left_array m c (inSlab (w := 1088) (d := 4) (n := 4352) rfl i r) k)
  show V m c main_v0 _ = V m c main_v0 _
  congr 1
  funext x
  apply Fin.ext
  match x with
  | ⟨0, _⟩ => show win0_0.index (pt i j) 0 * 1088 + 1 * r.val = 1088 * i.val + r.val; rw [(index_in (pt i j)).1]; show (pt i j).val / 8 * 1088 + 1 * r.val = 1088 * i.val + r.val; rw [pt_i]; omega
  | ⟨1, _⟩ => show win0_0.index (pt i j) 1 * 2048 + 1 * k.val = k.val; rw [(index_in (pt i j)).1]; show 0 * 2048 + 1 * k.val = k.val; omega

theorem right_block (i : Fin 4) (j : Fin 8) (k : Fin 2048) (q : Fin 704) :
    (iblk m c 1 (pt i j) : Vec Ideal S1x1x2048x704 .bf16) (ix4 (0 : Fin 1) (0 : Fin 1) k q) = right m c (ix2 k (inSlab (w := 704) (d := 8) (n := 5632) rfl j q)) := by
  unfold iblk
  rw [View.read_apply]
  refine Eq.trans ?_ (right_array m c j k q)
  show V m c main_v4 _ = V m c main_v4 _
  congr 1
  funext x
  apply Fin.ext
  match x with
  | ⟨0, _⟩ => show win0_1.index (pt i j) 0 * 1 + 1 * 0 = j.val; rw [(index_in (pt i j)).2]; show (pt i j).val / 1 % 8 * 1 + 1 * 0 = j.val; rw [pt_j]; omega
  | ⟨1, _⟩ => show win0_1.index (pt i j) 1 * 1 + 1 * 0 = 0; rw [(index_in (pt i j)).2]; show 0 * 1 + 1 * 0 = 0; omega
  | ⟨2, _⟩ => show win0_1.index (pt i j) 2 * 2048 + 1 * k.val = k.val; rw [(index_in (pt i j)).2]; show 0 * 2048 + 1 * k.val = k.val; omega
  | ⟨3, _⟩ => show win0_1.index (pt i j) 3 * 704 + 1 * q.val = q.val; rw [(index_in (pt i j)).2]; show 0 * 704 + 1 * q.val = q.val; omega

/-- The summands of the result's entry. -/
def term (i : Fin 4352) (j : Fin 5632) (k : Fin 2048) : EReal := left m c (ix2 i k) * right m c (ix2 k j)

/-! ## The result -/

theorem index_out : ∀ t : Fin cfg0.N, win0_2.index t = ![t.val / 1 % 8, t.val / 8, 0] :=
  (by decide +kernel : ∀ t : Fin grid0.N, win0_2.index t = ![t.val / 1 % 8, t.val / 8, 0])

/-- The array the run leaves, at an entry. -/
theorem result_apply (i : Fin 4) (j : Fin 8) (r : Fin 1088) (q : Fin 704) :
    ((dats m 0 c).arrAt 2 cfg0.N : Vec Ideal S8x4352x704 .bf16) (ix3 j (inSlab (w := 1088) (d := 4) (n := 4352) rfl i r) q) = ∑ k : Fin 2048, term m c (inSlab (w := 1088) (d := 4) (n := 4352) rfl i r) (inSlab (w := 704) (d := 8) (n := 5632) rfl j q) k := by
  have b := congrFun (Cert.Kernel8Ideal.Value.blocks2 m c (pt i j) (flush0_2 _)) (ix3 (0 : Fin 1) r q)
  rw [View.read_apply, Cert.Kernel8Ideal.Value.flushed2] at b
  have l : (((cfg0.win 2).blk (pt i j)).view.emb (ix3 (0 : Fin 1) r q) : S8x4352x704.Idx) = ix3 j (inSlab (w := 1088) (d := 4) (n := 4352) rfl i r) q := by
    funext x
    apply Fin.ext
    match x with
    | ⟨0, _⟩ => show win0_2.index (pt i j) 0 * 1 + 1 * 0 = j.val; rw [index_out (pt i j)]; show (pt i j).val / 1 % 8 * 1 + 1 * 0 = j.val; rw [pt_j]; omega
    | ⟨1, _⟩ => show win0_2.index (pt i j) 1 * 1088 + 1 * r.val = 1088 * i.val + r.val; rw [index_out (pt i j)]; show (pt i j).val / 8 * 1088 + 1 * r.val = 1088 * i.val + r.val; rw [pt_i]; omega
    | ⟨2, _⟩ => show win0_2.index (pt i j) 2 * 704 + 1 * q.val = q.val; rw [index_out (pt i j)]; show 0 * 704 + 1 * q.val = q.val; omega
  rw [← l]
  refine b.trans ((congrFun (block_value (iblk m c 0 (pt i j)) (iblk m c 1 (pt i j))) (ix3 (0 : Fin 1) r q)).trans ?_)
  refine (product_apply (iblk m c 0 (pt i j)) (iblk m c 1 (pt i j)) r q).trans (Finset.sum_congr rfl fun k _ => ?_)
  exact congrArg₂ (· * ·) (left_block m c i j r k) (right_block m c i j k q)

/-! ## The equation -/

/-- The reference's product, at an entry. -/
theorem reference_apply (i : Fin 4352) (j : Fin 5632) : Cert.Reference8Ideal.Read.val_main_v0 (F := Ideal) (m ((c : Thread nD τ).loc main_arg0)) (m ((c : Thread nD τ).loc main_arg1)) (ix2 i j) = ∑ k : Fin 2048, term m c i j k := by
  rw [Cert.Reference8Ideal.Read.val_main_v0_apply]
  refine Finset.sum_congr rfl fun k _ => ?_
  unfold term
  congr 2
  · funext x
    match x with
    | ⟨0, _⟩ => rfl
    | ⟨1, _⟩ => rfl
  · funext x
    match x with
    | ⟨0, _⟩ => rfl
    | ⟨1, _⟩ => rfl

/-- What the kernel leaves is what the reference computes. -/
theorem equation : ((dats m 0 c).arrAt 2 cfg0.N : Vec Ideal S8x4352x704 .bf16) = Cert.Reference8Ideal.Read.val_main_v3 (F := Ideal) (m ((c : Thread nD τ).loc main_arg0)) (m ((c : Thread nD τ).loc main_arg1)) := by
  funext z
  obtain ⟨j, x, q, rfl⟩ := cases3 z
  obtain ⟨i, r, rfl⟩ := slab_cases (w := 1088) (d := 4) (n := 4352) rfl (by decide) x
  refine (result_apply m c i j r q).trans ((reference_apply m c (inSlab (w := 1088) (d := 4) (n := 4352) rfl i r) (inSlab (w := 704) (d := 8) (n := 5632) rfl j q)).symm.trans ?_)
  exact (column_slabs (w := 704) (d := 8) (n := 5632) rfl (Cert.Reference8Ideal.Read.val_main_v1 (F := Ideal) (m ((c : Thread nD τ).loc main_arg0)) (m ((c : Thread nD τ).loc main_arg1))) _ _ j (inSlab (w := 1088) (d := 4) (n := 4352) rfl i r) q).symm

end Products.K8

end
-- ==== Proof.Prod9.lean ====
/- The feed-forward down projection: activations times weights, over eight slabs of the contracted axis. -/
module

public import proofs.«01_k».proof.Proof.Sums
public import proofs.«01_k».proof.Proof.Gen.Kernel9Ideal.Value
public import proofs.«01_k».proof.Proof.Gen.Reference9Ideal.Read
public import Idealize.ShloMosaic.Lib.StableHlo.Run
public import Idealize.ShloMosaic.Lib.KernelVsHost

@[expose] public section

set_option maxRecDepth 16384

noncomputable section

namespace Products.K9

open Cert.Kernel9Ideal Cert.Kernel9Ideal.Gen Idealize.ShloMosaic Idealize.ShloMosaic.TcCoe Idealize.SL.Sem
open Idealize.ShloMosaic.ValueIdx AttGrad

/-- The product of two blocks, at an entry. -/
theorem product_apply (x0 : Vec Ideal S1x1088x704 .bf16) (x1 : Vec Ideal S1x1x704x1024 .bf16) (r : Fin 1088) (q : Fin 1024) :
    k0_pay1 x0 x1 (ix2 r q) = ∑ k : Fin 704, x0 (ix3 (0 : Fin 1) r k) * x1 (ix4 (0 : Fin 1) (0 : Fin 1) k q) := by
  unfold k0_pay1
  refine (dot_nn none (φ₁ := .bf16) (φ₂ := .bf16) _ _ r q).trans (Finset.sum_congr rfl fun k _ => ?_)
  exact congrArg₂ (· * ·) (drop_one _ _ _ _) (drop_two _ _ _ _)

/-! ## What a point leaves -/

section Point
variable (c : Dev nD) (i : grid0.Coords) (arg3 : Memref sig .tc .vmem S1x1088x704 .bf16) (harg3 : arg3.IsWhole) (arg4 : Memref sig .tc .vmem S1x1x704x1024 .bf16) (harg4 : arg4.IsWhole) (arg5 : Memref sig .tc .vmem S1088x1024 .f32) (harg5 : arg5.IsWhole) (arg6 : Memref sig .tc .vmem S1088x1024 .f32) (harg6 : arg6.IsWhole)
  (x0 : Vec Ideal S1x1088x704 .bf16) (x1 : Vec Ideal S1x1x704x1024 .bf16)

/-- The first point of a block starts the accumulator. -/
theorem first_point (h0 : cond0_0 i) (h1 : ¬cond0_1 i) (h2 : ¬cond0_2 i) :
    sout0_A_0 c i arg3 harg3 arg4 harg4 arg5 harg5 arg6 harg6 h0 h1 h2 x0 x1 = k0_pay2 x0 x1 := by
  unfold sout0_A_0
  rw [View.read_writes_eq_canon _ _ _ (scover0_A_0 c i arg3 harg3 arg4 harg4 arg5 harg5 arg6 harg6 h0 h1 h2 x0 x1)]
  unfold kernelRun0_A
  dsimp only
  sl_unfold_words
  rw [View.canon_unit_zero starts2]
  simp only [View.readAt_eq_ld, harg3.read_unread, harg4.read_unread, harg5.read_unread, harg6.read_unread, View.ld_unit_zero (S := S1x1088x704) starts3, View.ld_unit_zero (S := S1x1x704x1024) starts4]
  all_goals rfl

/-- A point between adds to it. -/
theorem middle_point (h0 : ¬cond0_0 i) (h1 : cond0_1 i) (h2 : ¬cond0_2 i) (acc : Vec Ideal S1088x1024 .f32) :
    sout0_B_0 c i arg3 harg3 arg4 harg4 arg5 harg5 arg6 harg6 h0 h1 h2 x0 x1 acc = k0_pay3 x0 x1 acc := by
  unfold sout0_B_0
  rw [View.read_writes_eq_canon _ _ _ (scover0_B_0 c i arg3 harg3 arg4 harg4 arg5 harg5 arg6 harg6 h0 h1 h2 x0 x1 acc)]
  unfold kernelRun0_B
  dsimp only
  sl_unfold_words
  rw [View.canon_unit_zero starts2]
  simp only [View.readAt_eq_ld, harg3.read_unread, harg4.read_unread, harg5.read_unread, harg6.read_unread, View.ld_unit_zero (S := S1x1088x704) starts3, View.ld_unit_zero (S := S1x1x704x1024) starts4, View.ld_unit_zero (S := S1088x1024) starts2]
  all_goals rfl

/-- So does the last one. -/
theorem last_point (h0 : ¬cond0_0 i) (h1 : cond0_1 i) (h2 : cond0_2 i) (acc : Vec Ideal S1088x1024 .f32) :
    sout0_C_0 c i arg3 harg3 arg4 harg4 arg5 harg5 arg6 harg6 h0 h1 h2 x0 x1 acc = k0_pay3 x0 x1 acc := by
  unfold sout0_C_0
  rw [View.read_writes_eq_canon _ _ _ (scover0_C_0 c i arg3 harg3 arg4 harg4 arg5 harg5 arg6 harg6 h0 h1 h2 x0 x1 acc)]
  unfold kernelRun0_C
  dsimp only
  sl_unfold_words
  rw [View.canon_unit_zero starts2]
  simp only [View.readAt_eq_ld, harg3.read_unread, harg4.read_unread, harg5.read_unread, harg6.read_unread, View.ld_unit_zero (S := S1x1088x704) starts3, View.ld_unit_zero (S := S1x1x704x1024) starts4, View.ld_unit_zero (S := S1088x1024) starts2]
  all_goals rfl

/-- And it writes the block. -/
theorem last_block (h0 : ¬cond0_0 i) (h1 : cond0_1 i) (h2 : cond0_2 i) (acc : Vec Ideal S1088x1024 .f32) :
    out0_C_2 c i arg3 harg3 arg4 harg4 arg5 harg5 arg6 harg6 h0 h1 h2 x0 x1 acc = (k0_pay3 x0 x1 acc) := by
  unfold out0_C_2
  rw [View.read_writes_eq_canon _ _ _ (cover0_C_2 c i arg3 harg3 arg4 harg4 arg5 harg5 arg6 harg6 h0 h1 h2 x0 x1 acc)]
  unfold kernelRun0_C
  dsimp only
  sl_unfold_words
  rw [View.canon_unit_zero starts2, View.readCov_unit_zero (S := S1088x1024) _ starts2]
  simp only [View.readAt_eq_ld, harg3.read_unread, harg4.read_unread, harg5.read_unread, harg6.read_unread, View.ld_unit_zero (S := S1x1088x704) starts3, View.ld_unit_zero (S := S1x1x704x1024) starts4, View.ld_unit_zero (S := S1088x1024) starts2]
  all_goals rfl

end Point

/-! ## The operands and their blocks -/

variable (m : (ℓ : Loc nD τ sig) → Buf (Elt Ideal) ℓ) (c : Dev nD)

/-- The left operand. -/
abbrev left : Vec Ideal S4352x5632 .f32 := m ((c : Thread nD τ).loc main_arg0)

/-- The right operand. -/
abbrev right : Vec Ideal S5632x2048 .f32 := m ((c : Thread nD τ).loc main_arg1)

theorem left_value : V m c main_v2 = transpose S8x4352x704 [1, 0, 2] (shapeCast S4352x8x704 (truncf (F := Ideal) (φ := .f32) .bf16 (left m c) bitsLt_bf16_f32) shapeCasts_S4352x5632_S4352x8x704) transposes_S4352x8x704_S8x4352x704_1_0_2 := by
  unfold V
  simp only [hostOps0, List.flatten_cons, List.flatten_nil, List.append_nil, List.cons_append, List.nil_append]
  after_results_simp
  rfl
theorem left_array (e : Fin 8) (x : Fin 4352) (y : Fin 704) : V m c main_v2 (ix3 e x y) = left m c (ix2 x (inSlab (w := 704) (d := 8) (n := 5632) rfl e y)) := by
  rw [left_value]; exact column_slabs (w := 704) (d := 8) (n := 5632) rfl (truncf (F := Ideal) (φ := .f32) .bf16 (left m c) bitsLt_bf16_f32) _ _ e x y

theorem right_value : V m c main_v4 = shapeCast S8x1x704x2048 (truncf (F := Ideal) (φ := .f32) .bf16 (right m c) bitsLt_bf16_f32) shapeCasts_S5632x2048_S8x1x704x2048 := by
  unfold V
  simp only [hostOps0, List.flatten_cons, List.flatten_nil, List.append_nil, List.cons_append, List.nil_append]
  after_results_simp
  rfl
theorem right_array (e : Fin 8) (x : Fin 704) (y : Fin 2048) : V m c main_v4 (ix4 e (0 : Fin 1) x y) = right m c (ix2 (inSlab (w := 704) (d := 8) (n := 5632) rfl e x) y) := by
  rw [right_value]; exact row_slabs_one (w := 704) (d := 8) (n := 5632) rfl (truncf (F := Ideal) (φ := .f32) .bf16 (right m c) bitsLt_bf16_f32) _ e x y

/-- The points of a block. -/
def pt (i : Fin 4) (j : Fin 2) (s : Fin 8) : Fin cfg0.N := ⟨(2 * i.val + j.val) * 8 + s.val, by show (2 * i.val + j.val) * 8 + s.val < 64; omega⟩

theorem pt_i (i : Fin 4) (j : Fin 2) (s : Fin 8) : (pt i j s).val / 16 = i.val := by show ((2 * i.val + j.val) * 8 + s.val) / 16 = i.val; omega
theorem pt_j (i : Fin 4) (j : Fin 2) (s : Fin 8) : (pt i j s).val / 8 % 2 = j.val := by show ((2 * i.val + j.val) * 8 + s.val) / 8 % 2 = j.val; omega
theorem pt_s (i : Fin 4) (j : Fin 2) (s : Fin 8) : (pt i j s).val % 8 = s.val := by show ((2 * i.val + j.val) * 8 + s.val) % 8 = s.val; omega

theorem index_in : ∀ t : Fin cfg0.N, win0_0.index t = ![t.val % 8, t.val / 16, 0] ∧ win0_1.index t = ![t.val % 8, 0, 0, t.val / 8 % 2] :=
  (by decide +kernel : ∀ t : Fin grid0.N, win0_0.index t = ![t.val % 8, t.val / 16, 0] ∧ win0_1.index t = ![t.val % 8, 0, 0, t.val / 8 % 2])

theorem left_block (i : Fin 4) (j : Fin 2) (s : Fin 8) (r : Fin 1088) (k : Fin 704) :
    (iblk m c 0 (pt i j s) : Vec Ideal S1x1088x704 .bf16) (ix3 (0 : Fin 1) r k) = left m c (ix2 (inSlab (w := 1088) (d := 4) (n := 4352) rfl i r) (inSlab (w := 704) (d := 8) (n := 5632) rfl s k)) := by
  unfold iblk
  rw [View.read_apply]
  refine Eq.trans ?_ (left_array m c s (inSlab (w := 1088) (d := 4) (n := 4352) rfl i r) k)
  show V m c main_v2 _ = V m c main_v2 _
  congr 1
  funext x
  apply Fin.ext
  match x with
  | ⟨0, _⟩ => show win0_0.index (pt i j s) 0 * 1 + 1 * 0 = s.val; rw [(index_in (pt i j s)).1]; show (pt i j s).val % 8 * 1 + 1 * 0 = s.val; rw [pt_s]; omega
  | ⟨1, _⟩ => show win0_0.index (pt i j s) 1 * 1088 + 1 * r.val = 1088 * i.val + r.val; rw [(index_in (pt i j s)).1]; show (pt i j s).val / 16 * 1088 + 1 * r.val = 1088 * i.val + r.val; rw [pt_i]; omega
  | ⟨2, _⟩ => show win0_0.index (pt i j s) 2 * 704 + 1 * k.val = k.val; rw [(index_in (pt i j s)).1]; show 0 * 704 + 1 * k.val = k.val; omega

theorem right_block (i : Fin 4) (j : Fin 2) (s : Fin 8) (k : Fin 704) (q : Fin 1024) :
    (iblk m c 1 (pt i j s) : Vec Ideal S1x1x704x1024 .bf16) (ix4 (0 : Fin 1) (0 : Fin 1) k q) = right m c (ix2 (inSlab (w := 704) (d := 8) (n := 5632) rfl s k) (inSlab (w := 1024) (d := 2) (n := 2048) rfl j q)) := by
  unfold iblk
  rw [View.read_apply]
  refine Eq.trans ?_ (right_array m c s k (inSlab (w := 1024) (d := 2) (n := 2048) rfl j q))
  show V m c main_v4 _ = V m c main_v4 _
  congr 1
  funext x
  apply Fin.ext
  match x with
  | ⟨0, _⟩ => show win0_1.index (pt i j s) 0 * 1 + 1 * 0 = s.val; rw [(index_in (pt i j s)).2]; show (pt i j s).val % 8 * 1 + 1 * 0 = s.val; rw [pt_s]; omega
  | ⟨1, _⟩ => show win0_1.index (pt i j s) 1 * 1 + 1 * 0 = 0; rw [(index_in (pt i j s)).2]; show 0 * 1 + 1 * 0 = 0; omega
  | ⟨2, _⟩ => show win0_1.index (pt i j s) 2 * 704 + 1 * k.val = k.val; rw [(index_in (pt i j s)).2]; show 0 * 704 + 1 * k.val = k.val; omega
  | ⟨3, _⟩ => show win0_1.index (pt i j s) 3 * 1024 + 1 * q.val = 1024 * j.val + q.val; rw [(index_in (pt i j s)).2]; show (pt i j s).val / 8 % 2 * 1024 + 1 * q.val = 1024 * j.val + q.val; rw [pt_j]; omega

/-- The summands of the result's entry. -/
def term (i : Fin 4352) (j : Fin 2048) (k : Fin 5632) : EReal := left m c (ix2 i k) * right m c (ix2 k j)

theorem tile_apply (i : Fin 4) (j : Fin 2) (s : Fin 8) (r : Fin 1088) (q : Fin 1024) :
    k0_pay1 (F := Ideal) (iblk m c 0 (pt i j s)) (iblk m c 1 (pt i j s)) (ix2 r q) = tile 704 (term m c (inSlab (w := 1088) (d := 4) (n := 4352) rfl i r) (inSlab (w := 1024) (d := 2) (n := 2048) rfl j q)) s.val := by
  rw [tile_of _ _ (fun k => (inSlab (w := 704) (d := 8) (n := 5632) rfl s k).isLt)]
  refine (product_apply _ _ r q).trans (Finset.sum_congr rfl fun k _ => ?_)
  exact congrArg₂ (· * ·) (left_block m c i j s r k) (right_block m c i j s k q)

/-! ## The accumulator -/

theorem same_state (n n' : ℕ) (h : n = n') (hn : n < cfg0.N) (hn' : n' < cfg0.N) : outsAt0 m c n hn = outsAt0 m c n' hn' := by subst h; rfl

theorem before (t : Fin cfg0.N) : t.val - 1 < cfg0.N := Nat.lt_of_le_of_lt (Nat.sub_le _ _) t.isLt

theorem state_first (t : Fin cfg0.N) (h : t.val % 8 = 0) : (outsAt0 m c t.val t.isLt).2 = k0_pay2 (iblk m c 0 t) (iblk m c 1 t) := by
  have h1 : ¬1 ≤ t.val % 8 := by omega
  have h2 : ¬t.val % 8 = 7 := by omega
  simp only [outsAt0_A m c t h h1 h2]
  exact first_point c (grid0.coords t) (ms0_0 t) (hs0_0 t) (ms0_1 t) (hs0_1 t) (ms0_2 t) (hs0_2 t) scM0_0 (Memref.isWhole_whole _) (iblk m c 0 t) (iblk m c 1 t) ((hcond0_0 t).mpr h) (fun h => h1 ((hcond0_1 t).mp h)) (fun h => h2 ((hcond0_2 t).mp h))

theorem state_next (t : Fin cfg0.N) (h : ¬t.val % 8 = 0) :
    (outsAt0 m c t.val t.isLt).2 = k0_pay3 (iblk m c 0 t) (iblk m c 1 t) (outsAt0 m c (t.val - 1) (before t)).2 := by
  have h1 : 1 ≤ t.val % 8 := by omega
  by_cases h2 : t.val % 8 = 7
  · simp only [outsAt0_C m c t h h1 h2]
    exact last_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2
  · simp only [outsAt0_B m c t h h1 h2]
    exact middle_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) (fun h' => h2 ((hcond0_2 t).mp h')) (outsAt0 m c (t.val - 1) (before t)).2

theorem block_last (t : Fin cfg0.N) (h2 : t.val % 8 = 7) :
    (outsAt0 m c t.val t.isLt).1 = (outsAt0 m c t.val t.isLt).2 := by
  have h : ¬t.val % 8 = 0 := by omega
  have h1 : 1 ≤ t.val % 8 := by omega
  rw [state_next m c t h]
  simp only [outsAt0_C m c t h h1 h2]
  exact last_block c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2

theorem start_apply (i : Fin 4) (j : Fin 2) (s : Fin 8) (h : s.val = 0) (r : Fin 1088) (q : Fin 1024) :
    (outsAt0 m c (pt i j s).val (pt i j s).isLt).2 (ix2 r q) = tile 704 (term m c (inSlab (w := 1088) (d := 4) (n := 4352) rfl i r) (inSlab (w := 1024) (d := 2) (n := 2048) rfl j q)) s.val := by
  rw [state_first m c (pt i j s) ((pt_s i j s).trans h)]
  unfold k0_pay2
  exact (congrFun (shapeCast_self _ _) _).trans (tile_apply m c i j s r q)

theorem step_apply (i : Fin 4) (j : Fin 2) (s : ℕ) (hs : s + 1 < 8) (r : Fin 1088) (q : Fin 1024) :
    (outsAt0 m c (pt i j ⟨s + 1, hs⟩).val (pt i j ⟨s + 1, hs⟩).isLt).2 (ix2 r q)
      = (outsAt0 m c (pt i j ⟨s, Nat.lt_of_succ_lt hs⟩).val (pt i j ⟨s, Nat.lt_of_succ_lt hs⟩).isLt).2 (ix2 r q) + tile 704 (term m c (inSlab (w := 1088) (d := 4) (n := 4352) rfl i r) (inSlab (w := 1024) (d := 2) (n := 2048) rfl j q)) (s + 1) := by
  rw [state_next m c (pt i j ⟨s + 1, hs⟩) (by rw [pt_s]; exact Nat.succ_ne_zero s),
    same_state m c ((pt i j ⟨s + 1, hs⟩).val - 1) (pt i j ⟨s, Nat.lt_of_succ_lt hs⟩).val rfl _ (pt i j ⟨s, Nat.lt_of_succ_lt hs⟩).isLt]
  unfold k0_pay3
  exact (congrFun (shapeCast_self _ _) _).trans (congrArg ((outsAt0 m c (pt i j ⟨s, Nat.lt_of_succ_lt hs⟩).val (pt i j ⟨s, Nat.lt_of_succ_lt hs⟩).isLt).2 (ix2 r q) + ·) (tile_apply m c i j ⟨s + 1, hs⟩ r q))

/-- The accumulator at the block's last point is the whole product. -/
theorem total (i : Fin 4) (j : Fin 2) (r : Fin 1088) (q : Fin 1024) :
    (outsAt0 m c (pt i j 7).val (pt i j 7).isLt).2 (ix2 r q) = ∑ k : Fin 5632, term m c (inSlab (w := 1088) (d := 4) (n := 4352) rfl i r) (inSlab (w := 1024) (d := 2) (n := 2048) rfl j q) k :=
  accumulated (w := 704) (p := 7) (term m c (inSlab (w := 1088) (d := 4) (n := 4352) rfl i r) (inSlab (w := 1024) (d := 2) (n := 2048) rfl j q)) (fun s hs => (outsAt0 m c (pt i j ⟨s, hs⟩).val (pt i j ⟨s, hs⟩).isLt).2 (ix2 r q)) rfl
    (start_apply m c i j 0 rfl r q) (fun s hs => step_apply m c i j s hs r q)

/-! ## The result -/

/-- The array the run leaves, at an entry. -/
theorem result_apply (i : Fin 4) (j : Fin 2) (r : Fin 1088) (q : Fin 1024) :
    (Cert.Kernel9Ideal.Value.G2 m c : Vec Ideal S4352x2048 .f32) (ix2 (inSlab (w := 1088) (d := 4) (n := 4352) rfl i r) (inSlab (w := 1024) (d := 2) (n := 2048) rfl j q)) = ∑ k : Fin 5632, term m c (inSlab (w := 1088) (d := 4) (n := 4352) rfl i r) (inSlab (w := 1024) (d := 2) (n := 2048) rfl j q) k := by
  have hp : Cert.Kernel9Ideal.Value.pt2Of (ix2 (inSlab (w := 1088) (d := 4) (n := 4352) rfl i r) (inSlab (w := 1024) (d := 2) (n := 2048) rfl j q)) = (pt i j 7).val := by
    show 8 * (2 * ((1088 * i.val + r.val) / 1088 - 0) + 1 * ((1024 * j.val + q.val) / 1024 - 0)) + 7 = (2 * i.val + j.val) * 8 + 7
    omega
  have hl : Cert.Kernel9Ideal.Value.loc2Of (ix2 (inSlab (w := 1088) (d := 4) (n := 4352) rfl i r) (inSlab (w := 1024) (d := 2) (n := 2048) rfl j q)) = ix2 r q := by
    funext x
    apply Fin.ext
    match x with
    | ⟨0, _⟩ => show (1088 * i.val + r.val) % 1088 = r.val; omega
    | ⟨1, _⟩ => show (1024 * j.val + q.val) % 1024 = q.val; omega
  have hlt : Cert.Kernel9Ideal.Value.pt2Of (ix2 (inSlab (w := 1088) (d := 4) (n := 4352) rfl i r) (inSlab (w := 1024) (d := 2) (n := 2048) rfl j q)) < cfg0.N := by rw [hp]; exact (pt i j 7).isLt
  unfold Cert.Kernel9Ideal.Value.G2
  rw [dif_pos hlt, ← Cert.Kernel9Ideal.Value.outsAt0_sweep m c _ hlt, hl, same_state m c _ _ hp hlt (pt i j 7).isLt,
    block_last m c (pt i j 7) (pt_s i j 7)]
  exact total m c i j r q

/-! ## The equation -/

/-- The reference's product, at an entry. -/
theorem reference_apply (i : Fin 4352) (j : Fin 2048) : Cert.Reference9Ideal.Read.val_main_v0 (F := Ideal) (m ((c : Thread nD τ).loc main_arg0)) (m ((c : Thread nD τ).loc main_arg1)) (ix2 i j) = ∑ k : Fin 5632, term m c i j k := by
  rw [Cert.Reference9Ideal.Read.val_main_v0_apply]
  refine Finset.sum_congr rfl fun k _ => ?_
  unfold term
  congr 2
  · funext x
    match x with
    | ⟨0, _⟩ => rfl
    | ⟨1, _⟩ => rfl
  · funext x
    match x with
    | ⟨0, _⟩ => rfl
    | ⟨1, _⟩ => rfl

/-- What the kernel leaves is what the reference computes. -/
theorem equation : (Cert.Kernel9Ideal.Value.G2 m c : Vec Ideal S4352x2048 .f32) = Cert.Reference9Ideal.Read.val_main_v0 (F := Ideal) (m ((c : Thread nD τ).loc main_arg0)) (m ((c : Thread nD τ).loc main_arg1)) := by
  funext z
  obtain ⟨x, y, rfl⟩ := cases2 z
  obtain ⟨i, r, rfl⟩ := slab_cases (w := 1088) (d := 4) (n := 4352) rfl (by decide) x
  obtain ⟨j, q, rfl⟩ := slab_cases (w := 1024) (d := 2) (n := 2048) rfl (by decide) y
  exact (result_apply m c i j r q).trans (reference_apply m c (inSlab (w := 1088) (d := 4) (n := 4352) rfl i r) (inSlab (w := 1024) (d := 2) (n := 2048) rfl j q)).symm

end Products.K9

end
-- ==== Proof.Prod10.lean ====
/- The input projection: its input times the weights. -/
module

public import proofs.«01_k».proof.Proof.Gaps
public import proofs.«01_k».proof.Proof.Gen.Kernel10Ideal.Value
public import proofs.«01_k».proof.Proof.Gen.Reference10Ideal.Read
public import Idealize.ShloMosaic.Lib.StableHlo.Run
public import Idealize.ShloMosaic.Lib.KernelVsHost

@[expose] public section

set_option maxRecDepth 16384

noncomputable section

namespace Products.K10

open Cert.Kernel10Ideal Cert.Kernel10Ideal.Gen Idealize.ShloMosaic Idealize.ShloMosaic.TcCoe Idealize.SL.Sem
open Idealize.ShloMosaic.ValueIdx AttGrad

/-- The product of two blocks, at an entry. -/
theorem product_apply (x0 : Vec Ideal S1088x2048 .bf16) (x1 : Vec Ideal S2048x768 .bf16) (r : Fin 1088) (q : Fin 768) :
    k0_pay1 x0 x1 (ix2 r q) = ∑ k : Fin 2048, x0 (ix2 r k) * x1 (ix2 k q) := by
  unfold k0_pay1
  refine (dot_nn none (φ₁ := .bf16) (φ₂ := .bf16) _ _ r q).trans (Finset.sum_congr rfl fun k _ => ?_)
  exact congrArg₂ (· * ·) (congrFun (shapeCast_self _ _) _) (congrFun (shapeCast_self _ _) _)

/-- What a point leaves: the accumulator's one value. -/
theorem block_value (c : Dev nD) (i : grid0.Coords) (arg3 : Memref sig .tc .vmem S1088x2048 .bf16) (harg3 : arg3.IsWhole) (arg4 : Memref sig .tc .vmem S2048x768 .bf16) (harg4 : arg4.IsWhole) (arg5 : Memref sig .tc .vmem S1088x768 .f32) (harg5 : arg5.IsWhole) (arg6 : Memref sig .tc .vmem S1088x768 .f32) (harg6 : arg6.IsWhole)
    (h0 : cond0_0 i) (h1 : ¬cond0_1 i) (h2 : cond0_2 i) (x0 : Vec Ideal S1088x2048 .bf16) (x1 : Vec Ideal S2048x768 .bf16) :
    out0_A_2 c i arg3 harg3 arg4 harg4 arg5 harg5 arg6 harg6 h0 h1 h2 x0 x1 = k0_pay2 x0 x1 := by
  unfold out0_A_2
  rw [View.read_writes_eq_canon _ _ _ (cover0_A_2 c i arg3 harg3 arg4 harg4 arg5 harg5 arg6 harg6 h0 h1 h2 x0 x1)]
  unfold kernelRun0_A
  dsimp only
  sl_unfold_words
  rw [View.canon_unit_zero starts2, View.readCov_unit_zero (S := S1088x768) _ starts2]
  simp only [View.readAt_eq_ld, harg3.read_unread, harg4.read_unread, harg5.read_unread, harg6.read_unread, View.ld_unit_zero (S := S1088x2048) starts2, View.ld_unit_zero (S := S2048x768) starts2]
  all_goals rfl

/-! ## The operands and their blocks -/

variable (m : (ℓ : Loc nD τ sig) → Buf (Elt Ideal) ℓ) (c : Dev nD)

/-- The left operand. -/
abbrev left : Vec Ideal S4352x2048 .f32 := m ((c : Thread nD τ).loc main_arg0)

/-- The right operand, spread out. -/
abbrev right : Vec Ideal S2048x5376 .f32 := spread (n := 2048) (m ((c : Thread nD τ).loc main_arg1))

theorem left_value : V m c main_v0 = (truncf (F := Ideal) (φ := .f32) .bf16 (left m c) bitsLt_bf16_f32) := by
  unfold V
  simp only [hostOps0, List.flatten_cons, List.flatten_nil, List.append_nil, List.cons_append, List.nil_append]
  after_results_simp
theorem left_array (x : Fin 4352) (y : Fin 2048) : V m c main_v0 (ix2 x y) = left m c (ix2 x y) := by rw [left_value]; rfl

theorem right_array (x : Fin 2048) (y : Fin 5376) : V m c main_v6 (ix2 x y) = right m c (ix2 x y) := by
  have e : V m c main_v6 = concatenate S2048x5376 1 [⟨S2048x2080, extractStridedSlice S2048x2080 ![0, 0] (truncf (F := Ideal) (φ := .f32) .bf16 (m ((c : Thread nD τ).loc main_arg1) : Vec Ideal S2048x5216 .f32) bitsLt_bf16_f32) slices_S2048x5216_S2048x2080_0_0⟩,
      ⟨S2048x96, broadcastInDim S2048x96 ![] bcast_S_S2048x96 (constant (F := Ideal) S_ .bf16 0x0000#16)⟩,
      ⟨S2048x3136, extractStridedSlice S2048x3136 ![0, 2080] (truncf (F := Ideal) (φ := .f32) .bf16 (m ((c : Thread nD τ).loc main_arg1) : Vec Ideal S2048x5216 .f32) bitsLt_bf16_f32) slices_S2048x5216_S2048x3136_0_2080⟩,
      ⟨S2048x64, broadcastInDim S2048x64 ![] bcast_S_S2048x64 (constant (F := Ideal) S_ .bf16 0x0000#16)⟩] concatenates_S2048x2080_S2048x96_S2048x3136_S2048x64_S2048x5376_d1 := by
    unfold V
    simp only [hostOps0, List.flatten_cons, List.flatten_nil, List.append_nil, List.cons_append, List.nil_append]
    after_results_simp
    rfl
  rw [e]
  exact four_pieces (truncf (F := Ideal) (φ := .f32) .bf16 (m ((c : Thread nD τ).loc main_arg1) : Vec Ideal S2048x5216 .f32) bitsLt_bf16_f32) _ _ (fun _ => Ideal.ofBits_zero_bf16) _ _ (fun _ => Ideal.ofBits_zero_bf16) _ x y

/-- The points of a block. -/
def pt (i : Fin 4) (j : Fin 7) : Fin cfg0.N := ⟨7 * i.val + j.val, by show 7 * i.val + j.val < 28; omega⟩

theorem pt_i (i : Fin 4) (j : Fin 7) : (pt i j).val / 7 = i.val := by show (7 * i.val + j.val) / 7 = i.val; omega
theorem pt_j (i : Fin 4) (j : Fin 7) : (pt i j).val / 1 % 7 = j.val := by show (7 * i.val + j.val) / 1 % 7 = j.val; omega

theorem index_in : ∀ t : Fin cfg0.N, win0_0.index t = ![t.val / 7, 0] ∧ win0_1.index t = ![0, t.val / 1 % 7] :=
  (by decide +kernel : ∀ t : Fin grid0.N, win0_0.index t = ![t.val / 7, 0] ∧ win0_1.index t = ![0, t.val / 1 % 7])

theorem left_block (i : Fin 4) (j : Fin 7) (r : Fin 1088) (k : Fin 2048) :
    (iblk m c 0 (pt i j) : Vec Ideal S1088x2048 .bf16) (ix2 r k) = left m c (ix2 (inSlab (w := 1088) (d := 4) (n := 4352) rfl i r) k) := by
  unfold iblk
  rw [View.read_apply]
  refine Eq.trans ?_ (left_array m c (inSlab (w := 1088) (d := 4) (n := 4352) rfl i r) k)
  show V m c main_v0 _ = V m c main_v0 _
  congr 1
  funext x
  apply Fin.ext
  match x with
  | ⟨0, _⟩ => show win0_0.index (pt i j) 0 * 1088 + 1 * r.val = 1088 * i.val + r.val; rw [(index_in (pt i j)).1]; show (pt i j).val / 7 * 1088 + 1 * r.val = 1088 * i.val + r.val; rw [pt_i]; omega
  | ⟨1, _⟩ => show win0_0.index (pt i j) 1 * 2048 + 1 * k.val = k.val; rw [(index_in (pt i j)).1]; show 0 * 2048 + 1 * k.val = k.val; omega

theorem right_block (i : Fin 4) (j : Fin 7) (k : Fin 2048) (q : Fin 768) :
    (iblk m c 1 (pt i j) : Vec Ideal S2048x768 .bf16) (ix2 k q) = right m c (ix2 k (inSlab (w := 768) (d := 7) (n := 5376) rfl j q)) := by
  unfold iblk
  rw [View.read_apply]
  refine Eq.trans ?_ (right_array m c k (inSlab (w := 768) (d := 7) (n := 5376) rfl j q))
  show V m c main_v6 _ = V m c main_v6 _
  congr 1
  funext x
  apply Fin.ext
  match x with
  | ⟨0, _⟩ => show win0_1.index (pt i j) 0 * 2048 + 1 * k.val = k.val; rw [(index_in (pt i j)).2]; show 0 * 2048 + 1 * k.val = k.val; omega
  | ⟨1, _⟩ => show win0_1.index (pt i j) 1 * 768 + 1 * q.val = 768 * j.val + q.val; rw [(index_in (pt i j)).2]; show (pt i j).val / 1 % 7 * 768 + 1 * q.val = 768 * j.val + q.val; rw [pt_j]; omega

/-- The summands of the result's entry. -/
def term (i : Fin 4352) (j : Fin 5376) (k : Fin 2048) : EReal := left m c (ix2 i k) * right m c (ix2 k j)

/-! ## The result -/

theorem index_out : ∀ t : Fin cfg0.N, win0_2.index t = ![t.val / 7, t.val / 1 % 7] :=
  (by decide +kernel : ∀ t : Fin grid0.N, win0_2.index t = ![t.val / 7, t.val / 1 % 7])

/-- The array the run leaves, at an entry. -/
theorem result_apply (i : Fin 4) (j : Fin 7) (r : Fin 1088) (q : Fin 768) :
    ((dats m 0 c).arrAt 2 cfg0.N : Vec Ideal S4352x5376 .f32) (ix2 (inSlab (w := 1088) (d := 4) (n := 4352) rfl i r) (inSlab (w := 768) (d := 7) (n := 5376) rfl j q)) = ∑ k : Fin 2048, term m c (inSlab (w := 1088) (d := 4) (n := 4352) rfl i r) (inSlab (w := 768) (d := 7) (n := 5376) rfl j q) k := by
  have b := congrFun (Cert.Kernel10Ideal.Value.blocks2 m c (pt i j) (flush0_2 _)) (ix2 r q)
  rw [View.read_apply, Cert.Kernel10Ideal.Value.flushed2_A] at b
  have l : (((cfg0.win 2).blk (pt i j)).view.emb (ix2 r q) : S4352x5376.Idx) = ix2 (inSlab (w := 1088) (d := 4) (n := 4352) rfl i r) (inSlab (w := 768) (d := 7) (n := 5376) rfl j q) := by
    funext x
    apply Fin.ext
    match x with
    | ⟨0, _⟩ => show win0_2.index (pt i j) 0 * 1088 + 1 * r.val = 1088 * i.val + r.val; rw [index_out (pt i j)]; show (pt i j).val / 7 * 1088 + 1 * r.val = 1088 * i.val + r.val; rw [pt_i]; omega
    | ⟨1, _⟩ => show win0_2.index (pt i j) 1 * 768 + 1 * q.val = 768 * j.val + q.val; rw [index_out (pt i j)]; show (pt i j).val / 1 % 7 * 768 + 1 * q.val = 768 * j.val + q.val; rw [pt_j]; omega
  rw [← l]
  refine b.trans ((congrFun (block_value c (grid0.coords (pt i j)) (ms0_0 (pt i j)) (hs0_0 (pt i j)) (ms0_1 (pt i j)) (hs0_1 (pt i j)) (ms0_2 (pt i j)) (hs0_2 (pt i j)) scM0_0 (Memref.isWhole_whole _) (hcond0_0 (pt i j)) (hcond0_1 (pt i j)) (hcond0_2 (pt i j)) (iblk m c 0 (pt i j)) (iblk m c 1 (pt i j))) (ix2 r q)).trans ?_)
  refine ((congrFun (shapeCast_self _ _) _).trans (product_apply (iblk m c 0 (pt i j)) (iblk m c 1 (pt i j)) r q)).trans (Finset.sum_congr rfl fun k _ => ?_)
  exact congrArg₂ (· * ·) (left_block m c i j r k) (right_block m c i j k q)

/-! ## The equation -/

/-- The first array. -/
abbrev first : S4352x2048.Idx → EReal := m ((c : Thread nD τ).loc main_arg0)

/-- The second array. -/
abbrev second : S2048x5216.Idx → EReal := m ((c : Thread nD τ).loc main_arg1)

/-- The reference's product, at an entry. -/
theorem reference_apply (i : Fin 4352) (j : Fin 5376) : Cert.Reference10Ideal.Read.val_main_v5 (F := Ideal) (m ((c : Thread nD τ).loc main_arg0)) (m ((c : Thread nD τ).loc main_arg1)) (ix2 i j) = ∑ k : Fin 2048, term m c i j k := by
  have e (l : Fin 5216) : Cert.Reference10Ideal.Read.val_main_v0 (F := Ideal) (m ((c : Thread nD τ).loc main_arg0)) (m ((c : Thread nD τ).loc main_arg1)) (ix2 i l) = ∑ k : Fin 2048, first m c (ix2 i k) * second m c (ix2 k l) := by
    rw [Cert.Reference10Ideal.Read.val_main_v0_apply]
    refine Finset.sum_congr rfl fun k _ => ?_
    congr 2
    · funext x
      match x with
      | ⟨0, _⟩ => rfl
      | ⟨1, _⟩ => rfl
    · funext x
      match x with
      | ⟨0, _⟩ => rfl
      | ⟨1, _⟩ => rfl
  refine (two_pieces (Cert.Reference10Ideal.Read.val_main_v0 (F := Ideal) (m ((c : Thread nD τ).loc main_arg0)) (m ((c : Thread nD τ).loc main_arg1))) _ _ (fun _ => integer_zero) _ _ (fun _ => integer_zero) _ _ _ _ _ i j).trans ?_
  show spreadRow (fun l => Cert.Reference10Ideal.Read.val_main_v0 (F := Ideal) (m ((c : Thread nD τ).loc main_arg0)) (m ((c : Thread nD τ).loc main_arg1)) (ix2 i l)) j = _
  simp only [e]
  exact (spreadRow_sum _ _ j).symm

/-- What the kernel leaves is what the reference computes. -/
theorem equation : ((dats m 0 c).arrAt 2 cfg0.N : Vec Ideal S4352x5376 .f32) = Cert.Reference10Ideal.Read.val_main_v5 (F := Ideal) (m ((c : Thread nD τ).loc main_arg0)) (m ((c : Thread nD τ).loc main_arg1)) := by
  funext z
  obtain ⟨x, y, rfl⟩ := cases2 z
  obtain ⟨i, r, rfl⟩ := slab_cases (w := 1088) (d := 4) (n := 4352) rfl (by decide) x
  obtain ⟨j, q, rfl⟩ := slab_cases (w := 768) (d := 7) (n := 5376) rfl (by decide) y
  exact (result_apply m c i j r q).trans (reference_apply m c (inSlab (w := 1088) (d := 4) (n := 4352) rfl i r) (inSlab (w := 768) (d := 7) (n := 5376) rfl j q)).symm

end Products.K10

end
-- ==== Proof.Prod11.lean ====
/- The output projection: its input times the weights. -/
module

public import proofs.«01_k».proof.Proof.Sums
public import proofs.«01_k».proof.Proof.Gen.Kernel11Ideal.Value
public import proofs.«01_k».proof.Proof.Gen.Reference11Ideal.Read
public import Idealize.ShloMosaic.Lib.StableHlo.Run
public import Idealize.ShloMosaic.Lib.KernelVsHost

@[expose] public section

set_option maxRecDepth 16384

noncomputable section

namespace Products.K11

open Cert.Kernel11Ideal Cert.Kernel11Ideal.Gen Idealize.ShloMosaic Idealize.ShloMosaic.TcCoe Idealize.SL.Sem
open Idealize.ShloMosaic.ValueIdx AttGrad

/-- The product of two blocks, at an entry; the right one is a matrix in slabs of rows. -/
theorem product_apply (x0 : Vec Ideal S1088x2048 .bf16) (x1 : Vec Ideal S8x1x256x1024 .bf16) (y : Fin 2048 → Fin 1024 → EReal)
    (h : ∀ (e : Fin 8) (u : Fin 256) (v : Fin 1024), x1 (ix4 e (0 : Fin 1) u v) = y (inSlab (w := 256) (d := 8) (n := 2048) rfl e u) v) (r : Fin 1088) (q : Fin 1024) :
    k0_pay1 x0 x1 (ix2 r q) = ∑ k : Fin 2048, x0 (ix2 r k) * y k q := by
  have hy : ∀ (u : Fin 2048) (v : Fin 1024), shapeCast S2048x1024 (shapeCast S8x256x1024 x1 shapeCasts_S8x1x256x1024_S8x256x1024) shapeCasts_S8x256x1024_S2048x1024 (ix2 u v) = y u v := by
    intro u v
    obtain ⟨e, u, rfl⟩ := slab_cases (w := 256) (d := 8) (n := 2048) rfl (by decide) u
    exact (stacked_slabs (w := 256) (d := 8) (n := 2048) rfl x1 _ _ e u v).trans (h e u v)
  unfold k0_pay1
  refine (dot_nn none (φ₁ := .bf16) (φ₂ := .bf16) _ _ r q).trans (Finset.sum_congr rfl fun k _ => ?_)
  exact congrArg₂ (· * ·) (congrFun (shapeCast_self _ _) _) (hy k q)

/-- What a point leaves. -/
theorem block_value (x0 : Vec Ideal S1088x2048 .bf16) (x1 : Vec Ideal S8x1x256x1024 .bf16) : out0_2 x0 x1 = k0_pay1 x0 x1 := by
  unfold out0_2
  rw [View.canon_unit_zero starts2]
  congr 1
  · exact View.ld_unit_zero (S := S1088x2048) starts2 _ x0
  · exact View.ld_unit_zero (S := S8x1x256x1024) starts4 _ x1

/-! ## The operands and their blocks -/

variable (m : (ℓ : Loc nD τ sig) → Buf (Elt Ideal) ℓ) (c : Dev nD)

/-- The left operand. -/
abbrev left : Vec Ideal S4352x2048 .f32 := m ((c : Thread nD τ).loc main_arg0)

/-- The right operand. -/
abbrev right : Vec Ideal S2048x2048 .f32 := m ((c : Thread nD τ).loc main_arg1)

theorem left_value : V m c main_v0 = (truncf (F := Ideal) (φ := .f32) .bf16 (left m c) bitsLt_bf16_f32) := by
  unfold V
  simp only [hostOps0, List.flatten_cons, List.flatten_nil, List.append_nil, List.cons_append, List.nil_append]
  after_results_simp
theorem left_array (x : Fin 4352) (y : Fin 2048) : V m c main_v0 (ix2 x y) = left m c (ix2 x y) := by rw [left_value]; rfl

theorem right_value : V m c main_v2 = shapeCast S8x1x256x2048 (truncf (F := Ideal) (φ := .f32) .bf16 (right m c) bitsLt_bf16_f32) shapeCasts_S2048x2048_S8x1x256x2048 := by
  unfold V
  simp only [hostOps0, List.flatten_cons, List.flatten_nil, List.append_nil, List.cons_append, List.nil_append]
  after_results_simp
  rfl
theorem right_array (e : Fin 8) (x : Fin 256) (y : Fin 2048) : V m c main_v2 (ix4 e (0 : Fin 1) x y) = right m c (ix2 (inSlab (w := 256) (d := 8) (n := 2048) rfl e x) y) := by
  rw [right_value]; exact row_slabs_one (w := 256) (d := 8) (n := 2048) rfl (truncf (F := Ideal) (φ := .f32) .bf16 (right m c) bitsLt_bf16_f32) _ e x y

/-- The points of a block. -/
def pt (i : Fin 4) (j : Fin 2) : Fin cfg0.N := ⟨2 * i.val + j.val, by show 2 * i.val + j.val < 8; omega⟩

theorem pt_i (i : Fin 4) (j : Fin 2) : (pt i j).val / 2 = i.val := by show (2 * i.val + j.val) / 2 = i.val; omega
theorem pt_j (i : Fin 4) (j : Fin 2) : (pt i j).val / 1 % 2 = j.val := by show (2 * i.val + j.val) / 1 % 2 = j.val; omega

theorem index_in : ∀ t : Fin cfg0.N, win0_0.index t = ![t.val / 2, 0] ∧ win0_1.index t = ![0, 0, 0, t.val / 1 % 2] :=
  (by decide +kernel : ∀ t : Fin grid0.N, win0_0.index t = ![t.val / 2, 0] ∧ win0_1.index t = ![0, 0, 0, t.val / 1 % 2])

theorem left_block (i : Fin 4) (j : Fin 2) (r : Fin 1088) (k : Fin 2048) :
    (iblk m c 0 (pt i j) : Vec Ideal S1088x2048 .bf16) (ix2 r k) = left m c (ix2 (inSlab (w := 1088) (d := 4) (n := 4352) rfl i r) k) := by
  unfold iblk
  rw [View.read_apply]
  refine Eq.trans ?_ (left_array m c (inSlab (w := 1088) (d := 4) (n := 4352) rfl i r) k)
  show V m c main_v0 _ = V m c main_v0 _
  congr 1
  funext x
  apply Fin.ext
  match x with
  | ⟨0, _⟩ => show win0_0.index (pt i j) 0 * 1088 + 1 * r.val = 1088 * i.val + r.val; rw [(index_in (pt i j)).1]; show (pt i j).val / 2 * 1088 + 1 * r.val = 1088 * i.val + r.val; rw [pt_i]; omega
  | ⟨1, _⟩ => show win0_0.index (pt i j) 1 * 2048 + 1 * k.val = k.val; rw [(index_in (pt i j)).1]; show 0 * 2048 + 1 * k.val = k.val; omega

theorem right_block (i : Fin 4) (j : Fin 2) (e : Fin 8) (u : Fin 256) (v : Fin 1024) :
    (iblk m c 1 (pt i j) : Vec Ideal S8x1x256x1024 .bf16) (ix4 e (0 : Fin 1) u v) = right m c (ix2 (inSlab (w := 256) (d := 8) (n := 2048) rfl e u) (inSlab (w := 1024) (d := 2) (n := 2048) rfl j v)) := by
  unfold iblk
  rw [View.read_apply]
  refine Eq.trans ?_ (right_array m c e u (inSlab (w := 1024) (d := 2) (n := 2048) rfl j v))
  show V m c main_v2 _ = V m c main_v2 _
  congr 1
  funext x
  apply Fin.ext
  match x with
  | ⟨0, _⟩ => show win0_1.index (pt i j) 0 * 8 + 1 * e.val = e.val; rw [(index_in (pt i j)).2]; show 0 * 8 + 1 * e.val = e.val; omega
  | ⟨1, _⟩ => show win0_1.index (pt i j) 1 * 1 + 1 * 0 = 0; rw [(index_in (pt i j)).2]; rfl
  | ⟨2, _⟩ => show win0_1.index (pt i j) 2 * 256 + 1 * u.val = u.val; rw [(index_in (pt i j)).2]; show 0 * 256 + 1 * u.val = u.val; omega
  | ⟨3, _⟩ => show win0_1.index (pt i j) 3 * 1024 + 1 * v.val = 1024 * j.val + v.val; rw [(index_in (pt i j)).2]; show ((pt i j).val / 1 % 2) * 1024 + 1 * v.val = 1024 * j.val + v.val; rw [pt_j]; omega

/-- The summands of the result's entry. -/
def term (i : Fin 4352) (j : Fin 2048) (k : Fin 2048) : EReal := left m c (ix2 i k) * right m c (ix2 k j)

/-! ## The result -/

theorem index_out : ∀ t : Fin cfg0.N, win0_2.index t = ![t.val / 2, t.val / 1 % 2] :=
  (by decide +kernel : ∀ t : Fin grid0.N, win0_2.index t = ![t.val / 2, t.val / 1 % 2])

/-- The array the run leaves, at an entry. -/
theorem result_apply (i : Fin 4) (j : Fin 2) (r : Fin 1088) (q : Fin 1024) :
    ((dats m 0 c).arrAt 2 cfg0.N : Vec Ideal S4352x2048 .f32) (ix2 (inSlab (w := 1088) (d := 4) (n := 4352) rfl i r) (inSlab (w := 1024) (d := 2) (n := 2048) rfl j q)) = ∑ k : Fin 2048, term m c (inSlab (w := 1088) (d := 4) (n := 4352) rfl i r) (inSlab (w := 1024) (d := 2) (n := 2048) rfl j q) k := by
  have b := congrFun (Cert.Kernel11Ideal.Value.blocks2 m c (pt i j) (flush0_2 _)) (ix2 r q)
  rw [View.read_apply, Cert.Kernel11Ideal.Value.flushed2] at b
  have l : (((cfg0.win 2).blk (pt i j)).view.emb (ix2 r q) : S4352x2048.Idx) = ix2 (inSlab (w := 1088) (d := 4) (n := 4352) rfl i r) (inSlab (w := 1024) (d := 2) (n := 2048) rfl j q) := by
    funext x
    apply Fin.ext
    match x with
    | ⟨0, _⟩ => show win0_2.index (pt i j) 0 * 1088 + 1 * r.val = 1088 * i.val + r.val; rw [index_out (pt i j)]; show (pt i j).val / 2 * 1088 + 1 * r.val = 1088 * i.val + r.val; rw [pt_i]; omega
    | ⟨1, _⟩ => show win0_2.index (pt i j) 1 * 1024 + 1 * q.val = 1024 * j.val + q.val; rw [index_out (pt i j)]; show (pt i j).val / 1 % 2 * 1024 + 1 * q.val = 1024 * j.val + q.val; rw [pt_j]; omega
  rw [← l]
  refine b.trans ((congrFun (block_value (iblk m c 0 (pt i j)) (iblk m c 1 (pt i j))) (ix2 r q)).trans ?_)
  refine (product_apply (iblk m c 0 (pt i j)) (iblk m c 1 (pt i j)) (fun u v => right m c (ix2 u (inSlab (w := 1024) (d := 2) (n := 2048) rfl j v))) (right_block m c i j) r q).trans (Finset.sum_congr rfl fun k _ => ?_)
  exact congrArg (· * _) (left_block m c i j r k)

/-! ## The equation -/

/-- The reference's product, at an entry. -/
theorem reference_apply (i : Fin 4352) (j : Fin 2048) : Cert.Reference11Ideal.Read.val_main_v0 (F := Ideal) (m ((c : Thread nD τ).loc main_arg0)) (m ((c : Thread nD τ).loc main_arg1)) (ix2 i j) = ∑ k : Fin 2048, term m c i j k := by
  rw [Cert.Reference11Ideal.Read.val_main_v0_apply]
  refine Finset.sum_congr rfl fun k _ => ?_
  unfold term
  congr 2
  · funext x
    match x with
    | ⟨0, _⟩ => rfl
    | ⟨1, _⟩ => rfl
  · funext x
    match x with
    | ⟨0, _⟩ => rfl
    | ⟨1, _⟩ => rfl

/-- What the kernel leaves is what the reference computes. -/
theorem equation : ((dats m 0 c).arrAt 2 cfg0.N : Vec Ideal S4352x2048 .f32) = Cert.Reference11Ideal.Read.val_main_v0 (F := Ideal) (m ((c : Thread nD τ).loc main_arg0)) (m ((c : Thread nD τ).loc main_arg1)) := by
  funext z
  obtain ⟨x, y, rfl⟩ := cases2 z
  obtain ⟨i, r, rfl⟩ := slab_cases (w := 1088) (d := 4) (n := 4352) rfl (by decide) x
  obtain ⟨j, q, rfl⟩ := slab_cases (w := 1024) (d := 2) (n := 2048) rfl (by decide) y
  exact (result_apply m c i j r q).trans (reference_apply m c (inSlab (w := 1088) (d := 4) (n := 4352) rfl i r) (inSlab (w := 1024) (d := 2) (n := 2048) rfl j q)).symm

end Products.K11

end
-- ==== Proof.Prod12.lean ====
/- The input gradient of the output projection: the cotangent times the weights transposed. -/
module

public import proofs.«01_k».proof.Proof.Sums
public import proofs.«01_k».proof.Proof.Gen.Kernel12Ideal.Value
public import proofs.«01_k».proof.Proof.Gen.Reference12Ideal.Read
public import Idealize.ShloMosaic.Lib.StableHlo.Run
public import Idealize.ShloMosaic.Lib.KernelVsHost

@[expose] public section

set_option maxRecDepth 16384

noncomputable section

namespace Products.K12

open Cert.Kernel12Ideal Cert.Kernel12Ideal.Gen Idealize.ShloMosaic Idealize.ShloMosaic.TcCoe Idealize.SL.Sem
open Idealize.ShloMosaic.ValueIdx AttGrad

/-- The product of two blocks, at an entry; the right one is a matrix in slabs of rows. -/
theorem product_apply (x0 : Vec Ideal S1088x2048 .bf16) (x1 : Vec Ideal S8x1x256x2048 .bf16) (y : Fin 2048 → Fin 2048 → EReal)
    (h : ∀ (e : Fin 8) (u : Fin 256) (v : Fin 2048), x1 (ix4 e (0 : Fin 1) u v) = y (inSlab (w := 256) (d := 8) (n := 2048) rfl e u) v) (r : Fin 1088) (q : Fin 2048) :
    k0_pay1 x0 x1 (ix2 r q) = ∑ k : Fin 2048, x0 (ix2 r k) * y q k := by
  have hy : ∀ (u : Fin 2048) (v : Fin 2048), shapeCast S2048x2048 (shapeCast S8x256x2048 x1 shapeCasts_S8x1x256x2048_S8x256x2048) shapeCasts_S8x256x2048_S2048x2048 (ix2 u v) = y u v := by
    intro u v
    obtain ⟨e, u, rfl⟩ := slab_cases (w := 256) (d := 8) (n := 2048) rfl (by decide) u
    exact (stacked_slabs (w := 256) (d := 8) (n := 2048) rfl x1 _ _ e u v).trans (h e u v)
  unfold k0_pay1
  refine (dot_nt none (φ₁ := .bf16) (φ₂ := .bf16) _ _ r q).trans (Finset.sum_congr rfl fun k _ => ?_)
  exact congrArg₂ (· * ·) (congrFun (shapeCast_self _ _) _) (hy q k)

/-- What a point leaves. -/
theorem block_value (x0 : Vec Ideal S1088x2048 .bf16) (x1 : Vec Ideal S8x1x256x2048 .bf16) : out0_2 x0 x1 = k0_pay1 x0 x1 := by
  unfold out0_2
  rw [View.canon_unit_zero starts2]
  congr 1
  · exact View.ld_unit_zero (S := S1088x2048) starts2 _ x0
  · exact View.ld_unit_zero (S := S8x1x256x2048) starts4 _ x1

/-! ## The operands and their blocks -/

variable (m : (ℓ : Loc nD τ sig) → Buf (Elt Ideal) ℓ) (c : Dev nD)

/-- The left operand. -/
abbrev left : Vec Ideal S4352x2048 .f32 := m ((c : Thread nD τ).loc main_arg2)

/-- The right operand. -/
abbrev right : Vec Ideal S2048x2048 .f32 := m ((c : Thread nD τ).loc main_arg1)

theorem left_value : V m c main_v0 = (truncf (F := Ideal) (φ := .f32) .bf16 (left m c) bitsLt_bf16_f32) := by
  unfold V
  simp only [hostOps0, List.flatten_cons, List.flatten_nil, List.append_nil, List.cons_append, List.nil_append]
  after_results_simp
theorem left_array (x : Fin 4352) (y : Fin 2048) : V m c main_v0 (ix2 x y) = left m c (ix2 x y) := by rw [left_value]; rfl

theorem right_value : V m c main_v2 = shapeCast S8x1x256x2048 (truncf (F := Ideal) (φ := .f32) .bf16 (right m c) bitsLt_bf16_f32) shapeCasts_S2048x2048_S8x1x256x2048 := by
  unfold V
  simp only [hostOps0, List.flatten_cons, List.flatten_nil, List.append_nil, List.cons_append, List.nil_append]
  after_results_simp
  rfl
theorem right_array (e : Fin 8) (x : Fin 256) (y : Fin 2048) : V m c main_v2 (ix4 e (0 : Fin 1) x y) = right m c (ix2 (inSlab (w := 256) (d := 8) (n := 2048) rfl e x) y) := by
  rw [right_value]; exact row_slabs_one (w := 256) (d := 8) (n := 2048) rfl (truncf (F := Ideal) (φ := .f32) .bf16 (right m c) bitsLt_bf16_f32) _ e x y

/-- The points of a block. -/
def pt (i : Fin 4) : Fin cfg0.N := ⟨i.val, by show i.val < 4; omega⟩

theorem pt_i (i : Fin 4) : (pt i).val / 1 = i.val := by show (i.val) / 1 = i.val; omega

theorem index_in : ∀ t : Fin cfg0.N, win0_0.index t = ![t.val / 1, 0] ∧ win0_1.index t = ![0, 0, 0, 0] :=
  (by decide +kernel : ∀ t : Fin grid0.N, win0_0.index t = ![t.val / 1, 0] ∧ win0_1.index t = ![0, 0, 0, 0])

theorem left_block (i : Fin 4) (r : Fin 1088) (k : Fin 2048) :
    (iblk m c 0 (pt i) : Vec Ideal S1088x2048 .bf16) (ix2 r k) = left m c (ix2 (inSlab (w := 1088) (d := 4) (n := 4352) rfl i r) k) := by
  unfold iblk
  rw [View.read_apply]
  refine Eq.trans ?_ (left_array m c (inSlab (w := 1088) (d := 4) (n := 4352) rfl i r) k)
  show V m c main_v0 _ = V m c main_v0 _
  congr 1
  funext x
  apply Fin.ext
  match x with
  | ⟨0, _⟩ => show win0_0.index (pt i) 0 * 1088 + 1 * r.val = 1088 * i.val + r.val; rw [(index_in (pt i)).1]; show (pt i).val / 1 * 1088 + 1 * r.val = 1088 * i.val + r.val; rw [pt_i]; omega
  | ⟨1, _⟩ => show win0_0.index (pt i) 1 * 2048 + 1 * k.val = k.val; rw [(index_in (pt i)).1]; show 0 * 2048 + 1 * k.val = k.val; omega

theorem right_block (i : Fin 4) (e : Fin 8) (u : Fin 256) (v : Fin 2048) :
    (iblk m c 1 (pt i) : Vec Ideal S8x1x256x2048 .bf16) (ix4 e (0 : Fin 1) u v) = right m c (ix2 (inSlab (w := 256) (d := 8) (n := 2048) rfl e u) v) := by
  unfold iblk
  rw [View.read_apply]
  refine Eq.trans ?_ (right_array m c e u v)
  show V m c main_v2 _ = V m c main_v2 _
  congr 1
  funext x
  apply Fin.ext
  match x with
  | ⟨0, _⟩ => show win0_1.index (pt i) 0 * 8 + 1 * e.val = e.val; rw [(index_in (pt i)).2]; show 0 * 8 + 1 * e.val = e.val; omega
  | ⟨1, _⟩ => show win0_1.index (pt i) 1 * 1 + 1 * 0 = 0; rw [(index_in (pt i)).2]; rfl
  | ⟨2, _⟩ => show win0_1.index (pt i) 2 * 256 + 1 * u.val = u.val; rw [(index_in (pt i)).2]; show 0 * 256 + 1 * u.val = u.val; omega
  | ⟨3, _⟩ => show win0_1.index (pt i) 3 * 2048 + 1 * v.val = v.val; rw [(index_in (pt i)).2]; show 0 * 2048 + 1 * v.val = v.val; omega

/-- The summands of the result's entry. -/
def term (i : Fin 4352) (j : Fin 2048) (k : Fin 2048) : EReal := left m c (ix2 i k) * right m c (ix2 j k)

/-! ## The result -/

theorem index_out : ∀ t : Fin cfg0.N, win0_2.index t = ![t.val / 1, 0] :=
  (by decide +kernel : ∀ t : Fin grid0.N, win0_2.index t = ![t.val / 1, 0])

/-- The array the run leaves, at an entry. -/
theorem result_apply (i : Fin 4) (r : Fin 1088) (q : Fin 2048) :
    ((dats m 0 c).arrAt 2 cfg0.N : Vec Ideal S4352x2048 .bf16) (ix2 (inSlab (w := 1088) (d := 4) (n := 4352) rfl i r) q) = ∑ k : Fin 2048, term m c (inSlab (w := 1088) (d := 4) (n := 4352) rfl i r) q k := by
  have b := congrFun (Cert.Kernel12Ideal.Value.blocks2 m c (pt i) (flush0_2 _)) (ix2 r q)
  rw [View.read_apply, Cert.Kernel12Ideal.Value.flushed2] at b
  have l : (((cfg0.win 2).blk (pt i)).view.emb (ix2 r q) : S4352x2048.Idx) = ix2 (inSlab (w := 1088) (d := 4) (n := 4352) rfl i r) q := by
    funext x
    apply Fin.ext
    match x with
    | ⟨0, _⟩ => show win0_2.index (pt i) 0 * 1088 + 1 * r.val = 1088 * i.val + r.val; rw [index_out (pt i)]; show (pt i).val / 1 * 1088 + 1 * r.val = 1088 * i.val + r.val; rw [pt_i]; omega
    | ⟨1, _⟩ => show win0_2.index (pt i) 1 * 2048 + 1 * q.val = q.val; rw [index_out (pt i)]; show 0 * 2048 + 1 * q.val = q.val; omega
  rw [← l]
  refine b.trans ((congrFun (block_value (iblk m c 0 (pt i)) (iblk m c 1 (pt i))) (ix2 r q)).trans ?_)
  refine (product_apply (iblk m c 0 (pt i)) (iblk m c 1 (pt i)) (fun u v => right m c (ix2 u v)) (right_block m c i) r q).trans (Finset.sum_congr rfl fun k _ => ?_)
  exact congrArg (· * _) (left_block m c i r k)

/-! ## The equation -/

/-- The reference's product, at an entry. -/
theorem reference_apply (i : Fin 4352) (j : Fin 2048) : Cert.Reference12Ideal.Read.val_main_v3 (F := Ideal) (m ((c : Thread nD τ).loc main_arg1)) (m ((c : Thread nD τ).loc main_arg2)) (ix2 i j) = ∑ k : Fin 2048, term m c i j k := by
  rw [Cert.Reference12Ideal.Read.val_main_v3_apply]
  refine Finset.sum_congr rfl fun k _ => ?_
  unfold term
  congr 2
  · funext x
    match x with
    | ⟨0, _⟩ => rfl
    | ⟨1, _⟩ => rfl
  · funext x
    match x with
    | ⟨0, _⟩ => rfl
    | ⟨1, _⟩ => rfl

/-- What the kernel leaves is what the reference computes. -/
theorem equation : ((dats m 0 c).arrAt 2 cfg0.N : Vec Ideal S4352x2048 .bf16) = Cert.Reference12Ideal.Read.val_main_v4 (F := Ideal) (m ((c : Thread nD τ).loc main_arg1)) (m ((c : Thread nD τ).loc main_arg2)) := by
  funext z
  obtain ⟨x, y, rfl⟩ := cases2 z
  obtain ⟨i, r, rfl⟩ := slab_cases (w := 1088) (d := 4) (n := 4352) rfl (by decide) x
  exact (result_apply m c i r y).trans (reference_apply m c (inSlab (w := 1088) (d := 4) (n := 4352) rfl i r) y).symm

end Products.K12

end
-- ==== Proof.Prod13.lean ====
/- The weight gradient of the output projection: its input transposed times the cotangent, in eight slabs of rows. -/
module

public import proofs.«01_k».proof.Proof.Sums
public import proofs.«01_k».proof.Proof.Gen.Kernel13Ideal.Value
public import proofs.«01_k».proof.Proof.Gen.Reference13Ideal.Read
public import Idealize.ShloMosaic.Lib.StableHlo.Run
public import Idealize.ShloMosaic.Lib.KernelVsHost

@[expose] public section

set_option maxRecDepth 16384

noncomputable section

namespace Products.K13

open Cert.Kernel13Ideal Cert.Kernel13Ideal.Gen Idealize.ShloMosaic Idealize.ShloMosaic.TcCoe Idealize.SL.Sem
open Idealize.ShloMosaic.ValueIdx AttGrad

/-- The product of two blocks, at an entry. -/
theorem product_apply (x0 : Vec Ideal S1088x2048 .bf16) (x1 : Vec Ideal S1088x1024 .bf16) (r : Fin 2048) (q : Fin 1024) :
    k0_pay1 x0 x1 (ix2 r q) = ∑ k : Fin 1088, x0 (ix2 k r) * x1 (ix2 k q) := by
  unfold k0_pay1
  refine (dot_tn none (φ₁ := .bf16) (φ₂ := .bf16) _ _ r q).trans (Finset.sum_congr rfl fun k _ => ?_)
  exact congrArg₂ (· * ·) (congrFun (shapeCast_self _ _) _) (congrFun (shapeCast_self _ _) _)

/-! ## What a point leaves -/

section Point
variable (c : Dev nD) (i : grid0.Coords) (arg2 : Memref sig .tc .vmem S1088x2048 .bf16) (harg2 : arg2.IsWhole) (arg3 : Memref sig .tc .vmem S1088x1024 .bf16) (harg3 : arg3.IsWhole) (arg4 : Memref sig .tc .vmem S8x256x1024 .bf16) (harg4 : arg4.IsWhole) (arg5 : Memref sig .tc .vmem S2048x1024 .f32) (harg5 : arg5.IsWhole)
  (x0 : Vec Ideal S1088x2048 .bf16) (x1 : Vec Ideal S1088x1024 .bf16)

/-- The first point of a block starts the accumulator. -/
theorem first_point (h0 : cond0_0 i) (h1 : ¬cond0_1 i) (h2 : ¬cond0_2 i) :
    sout0_A_0 c i arg2 harg2 arg3 harg3 arg4 harg4 arg5 harg5 h0 h1 h2 x0 x1 = k0_pay2 x0 x1 := by
  unfold sout0_A_0
  rw [View.read_writes_eq_canon _ _ _ (scover0_A_0 c i arg2 harg2 arg3 harg3 arg4 harg4 arg5 harg5 h0 h1 h2 x0 x1)]
  unfold kernelRun0_A
  dsimp only
  sl_unfold_words
  rw [View.canon_unit_zero starts2]
  simp only [View.readAt_eq_ld, harg2.read_unread, harg3.read_unread, harg4.read_unread, harg5.read_unread, View.ld_unit_zero (S := S1088x2048) starts2, View.ld_unit_zero (S := S1088x1024) starts2]
  all_goals rfl

/-- A point between adds to it. -/
theorem middle_point (h0 : ¬cond0_0 i) (h1 : cond0_1 i) (h2 : ¬cond0_2 i) (acc : Vec Ideal S2048x1024 .f32) :
    sout0_B_0 c i arg2 harg2 arg3 harg3 arg4 harg4 arg5 harg5 h0 h1 h2 x0 x1 acc = k0_pay3 x0 x1 acc := by
  unfold sout0_B_0
  rw [View.read_writes_eq_canon _ _ _ (scover0_B_0 c i arg2 harg2 arg3 harg3 arg4 harg4 arg5 harg5 h0 h1 h2 x0 x1 acc)]
  unfold kernelRun0_B
  dsimp only
  sl_unfold_words
  rw [View.canon_unit_zero starts2]
  simp only [View.readAt_eq_ld, harg2.read_unread, harg3.read_unread, harg4.read_unread, harg5.read_unread, View.ld_unit_zero (S := S1088x2048) starts2, View.ld_unit_zero (S := S1088x1024) starts2, View.ld_unit_zero (S := S2048x1024) starts2]
  all_goals rfl

/-- So does the last one. -/
theorem last_point (h0 : ¬cond0_0 i) (h1 : cond0_1 i) (h2 : cond0_2 i) (acc : Vec Ideal S2048x1024 .f32) :
    sout0_C_0 c i arg2 harg2 arg3 harg3 arg4 harg4 arg5 harg5 h0 h1 h2 x0 x1 acc = k0_pay3 x0 x1 acc := by
  unfold sout0_C_0
  rw [View.read_writes_eq_canon _ _ _ (scover0_C_0 c i arg2 harg2 arg3 harg3 arg4 harg4 arg5 harg5 h0 h1 h2 x0 x1 acc)]
  unfold kernelRun0_C
  dsimp only
  sl_unfold_words
  rw [View.canon_unit_zero starts2]
  simp only [View.readAt_eq_ld, harg2.read_unread, harg3.read_unread, harg4.read_unread, harg5.read_unread, View.ld_unit_zero (S := S1088x2048) starts2, View.ld_unit_zero (S := S1088x1024) starts2, View.ld_unit_zero (S := S2048x1024) starts2]
  all_goals rfl

/-- And it writes the block. -/
theorem last_block (h0 : ¬cond0_0 i) (h1 : cond0_1 i) (h2 : cond0_2 i) (acc : Vec Ideal S2048x1024 .f32) :
    out0_C_2 c i arg2 harg2 arg3 harg3 arg4 harg4 arg5 harg5 h0 h1 h2 x0 x1 acc = k0_pay4 (k0_pay3 x0 x1 acc) := by
  unfold out0_C_2
  rw [View.read_writes_eq_canon _ _ _ (cover0_C_2 c i arg2 harg2 arg3 harg3 arg4 harg4 arg5 harg5 h0 h1 h2 x0 x1 acc)]
  unfold kernelRun0_C
  dsimp only
  sl_unfold_words
  rw [View.canon_unit_zero starts3, View.readCov_unit_zero (S := S2048x1024) _ starts2]
  simp only [View.readAt_eq_ld, harg2.read_unread, harg3.read_unread, harg4.read_unread, harg5.read_unread, View.ld_unit_zero (S := S1088x2048) starts2, View.ld_unit_zero (S := S1088x1024) starts2, View.ld_unit_zero (S := S2048x1024) starts2]
  all_goals rfl

end Point

/-! ## The operands and their blocks -/

variable (m : (ℓ : Loc nD τ sig) → Buf (Elt Ideal) ℓ) (c : Dev nD)

/-- The left operand. -/
abbrev left : Vec Ideal S4352x2048 .f32 := m ((c : Thread nD τ).loc main_arg0)

/-- The right operand. -/
abbrev right : Vec Ideal S4352x2048 .f32 := m ((c : Thread nD τ).loc main_arg2)

theorem left_value : V m c main_v0 = (truncf (F := Ideal) (φ := .f32) .bf16 (left m c) bitsLt_bf16_f32) := by
  unfold V
  simp only [hostOps0, List.flatten_cons, List.flatten_nil, List.append_nil, List.cons_append, List.nil_append]
  after_results_simp
theorem left_array (x : Fin 4352) (y : Fin 2048) : V m c main_v0 (ix2 x y) = left m c (ix2 x y) := by rw [left_value]; rfl

theorem right_value : V m c main_v1 = (truncf (F := Ideal) (φ := .f32) .bf16 (right m c) bitsLt_bf16_f32) := by
  unfold V
  simp only [hostOps0, List.flatten_cons, List.flatten_nil, List.append_nil, List.cons_append, List.nil_append]
  after_results_simp
theorem right_array (x : Fin 4352) (y : Fin 2048) : V m c main_v1 (ix2 x y) = right m c (ix2 x y) := by rw [right_value]; rfl

/-- The points of a block. -/
def pt (j : Fin 2) (s : Fin 4) : Fin cfg0.N := ⟨(j.val) * 4 + s.val, by show (j.val) * 4 + s.val < 8; omega⟩

theorem pt_j (j : Fin 2) (s : Fin 4) : (pt j s).val / 4 = j.val := by show ((j.val) * 4 + s.val) / 4 = j.val; omega
theorem pt_s (j : Fin 2) (s : Fin 4) : (pt j s).val % 4 = s.val := by show ((j.val) * 4 + s.val) % 4 = s.val; omega

theorem index_in : ∀ t : Fin cfg0.N, win0_0.index t = ![t.val % 4, 0] ∧ win0_1.index t = ![t.val % 4, t.val / 4] :=
  (by decide +kernel : ∀ t : Fin grid0.N, win0_0.index t = ![t.val % 4, 0] ∧ win0_1.index t = ![t.val % 4, t.val / 4])

theorem left_block (j : Fin 2) (s : Fin 4) (k : Fin 1088) (r : Fin 2048) :
    (iblk m c 0 (pt j s) : Vec Ideal S1088x2048 .bf16) (ix2 k r) = left m c (ix2 (inSlab (w := 1088) (d := 4) (n := 4352) rfl s k) r) := by
  unfold iblk
  rw [View.read_apply]
  refine Eq.trans ?_ (left_array m c (inSlab (w := 1088) (d := 4) (n := 4352) rfl s k) r)
  show V m c main_v0 _ = V m c main_v0 _
  congr 1
  funext x
  apply Fin.ext
  match x with
  | ⟨0, _⟩ => show win0_0.index (pt j s) 0 * 1088 + 1 * k.val = 1088 * s.val + k.val; rw [(index_in (pt j s)).1]; show (pt j s).val % 4 * 1088 + 1 * k.val = 1088 * s.val + k.val; rw [pt_s]; omega
  | ⟨1, _⟩ => show win0_0.index (pt j s) 1 * 2048 + 1 * r.val = r.val; rw [(index_in (pt j s)).1]; show 0 * 2048 + 1 * r.val = r.val; omega

theorem right_block (j : Fin 2) (s : Fin 4) (k : Fin 1088) (q : Fin 1024) :
    (iblk m c 1 (pt j s) : Vec Ideal S1088x1024 .bf16) (ix2 k q) = right m c (ix2 (inSlab (w := 1088) (d := 4) (n := 4352) rfl s k) (inSlab (w := 1024) (d := 2) (n := 2048) rfl j q)) := by
  unfold iblk
  rw [View.read_apply]
  refine Eq.trans ?_ (right_array m c (inSlab (w := 1088) (d := 4) (n := 4352) rfl s k) (inSlab (w := 1024) (d := 2) (n := 2048) rfl j q))
  show V m c main_v1 _ = V m c main_v1 _
  congr 1
  funext x
  apply Fin.ext
  match x with
  | ⟨0, _⟩ => show win0_1.index (pt j s) 0 * 1088 + 1 * k.val = 1088 * s.val + k.val; rw [(index_in (pt j s)).2]; show (pt j s).val % 4 * 1088 + 1 * k.val = 1088 * s.val + k.val; rw [pt_s]; omega
  | ⟨1, _⟩ => show win0_1.index (pt j s) 1 * 1024 + 1 * q.val = 1024 * j.val + q.val; rw [(index_in (pt j s)).2]; show (pt j s).val / 4 * 1024 + 1 * q.val = 1024 * j.val + q.val; rw [pt_j]; omega

/-- The summands of the result's entry. -/
def term (i : Fin 2048) (j : Fin 2048) (k : Fin 4352) : EReal := left m c (ix2 k i) * right m c (ix2 k j)

theorem tile_apply (j : Fin 2) (s : Fin 4) (r : Fin 2048) (q : Fin 1024) :
    k0_pay1 (F := Ideal) (iblk m c 0 (pt j s)) (iblk m c 1 (pt j s)) (ix2 r q) = tile 1088 (term m c r (inSlab (w := 1024) (d := 2) (n := 2048) rfl j q)) s.val := by
  rw [tile_of _ _ (fun k => (inSlab (w := 1088) (d := 4) (n := 4352) rfl s k).isLt)]
  refine (product_apply _ _ r q).trans (Finset.sum_congr rfl fun k _ => ?_)
  exact congrArg₂ (· * ·) (left_block m c j s k r) (right_block m c j s k q)

/-! ## The accumulator -/

theorem same_state (n n' : ℕ) (h : n = n') (hn : n < cfg0.N) (hn' : n' < cfg0.N) : outsAt0 m c n hn = outsAt0 m c n' hn' := by subst h; rfl

theorem before (t : Fin cfg0.N) : t.val - 1 < cfg0.N := Nat.lt_of_le_of_lt (Nat.sub_le _ _) t.isLt

theorem state_first (t : Fin cfg0.N) (h : t.val % 4 = 0) : (outsAt0 m c t.val t.isLt).2 = k0_pay2 (iblk m c 0 t) (iblk m c 1 t) := by
  have h1 : ¬1 ≤ t.val % 4 := by omega
  have h2 : ¬t.val % 4 = 3 := by omega
  simp only [outsAt0_A m c t h h1 h2]
  exact first_point c (grid0.coords t) (ms0_0 t) (hs0_0 t) (ms0_1 t) (hs0_1 t) (ms0_2 t) (hs0_2 t) scM0_0 (Memref.isWhole_whole _) (iblk m c 0 t) (iblk m c 1 t) ((hcond0_0 t).mpr h) (fun h => h1 ((hcond0_1 t).mp h)) (fun h => h2 ((hcond0_2 t).mp h))

theorem state_next (t : Fin cfg0.N) (h : ¬t.val % 4 = 0) :
    (outsAt0 m c t.val t.isLt).2 = k0_pay3 (iblk m c 0 t) (iblk m c 1 t) (outsAt0 m c (t.val - 1) (before t)).2 := by
  have h1 : 1 ≤ t.val % 4 := by omega
  by_cases h2 : t.val % 4 = 3
  · simp only [outsAt0_C m c t h h1 h2]
    exact last_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2
  · simp only [outsAt0_B m c t h h1 h2]
    exact middle_point c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) (fun h' => h2 ((hcond0_2 t).mp h')) (outsAt0 m c (t.val - 1) (before t)).2

theorem block_last (t : Fin cfg0.N) (h2 : t.val % 4 = 3) :
    (outsAt0 m c t.val t.isLt).1 = k0_pay4 (outsAt0 m c t.val t.isLt).2 := by
  have h : ¬t.val % 4 = 0 := by omega
  have h1 : 1 ≤ t.val % 4 := by omega
  rw [state_next m c t h]
  simp only [outsAt0_C m c t h h1 h2]
  exact last_block c (grid0.coords t) (ms0_0 t) (hs0_0 t) (ms0_1 t) (hs0_1 t) (ms0_2 t) (hs0_2 t) scM0_0 (Memref.isWhole_whole _) (iblk m c 0 t) (iblk m c 1 t) (fun h' => h ((hcond0_0 t).mp h')) ((hcond0_1 t).mpr h1) ((hcond0_2 t).mpr h2) (outsAt0 m c (t.val - 1) (before t)).2

theorem start_apply (j : Fin 2) (s : Fin 4) (h : s.val = 0) (r : Fin 2048) (q : Fin 1024) :
    (outsAt0 m c (pt j s).val (pt j s).isLt).2 (ix2 r q) = tile 1088 (term m c r (inSlab (w := 1024) (d := 2) (n := 2048) rfl j q)) s.val := by
  rw [state_first m c (pt j s) ((pt_s j s).trans h)]
  unfold k0_pay2
  exact (congrFun (shapeCast_self _ _) _).trans (tile_apply m c j s r q)

theorem step_apply (j : Fin 2) (s : ℕ) (hs : s + 1 < 4) (r : Fin 2048) (q : Fin 1024) :
    (outsAt0 m c (pt j ⟨s + 1, hs⟩).val (pt j ⟨s + 1, hs⟩).isLt).2 (ix2 r q)
      = (outsAt0 m c (pt j ⟨s, Nat.lt_of_succ_lt hs⟩).val (pt j ⟨s, Nat.lt_of_succ_lt hs⟩).isLt).2 (ix2 r q) + tile 1088 (term m c r (inSlab (w := 1024) (d := 2) (n := 2048) rfl j q)) (s + 1) := by
  rw [state_next m c (pt j ⟨s + 1, hs⟩) (by rw [pt_s]; exact Nat.succ_ne_zero s),
    same_state m c ((pt j ⟨s + 1, hs⟩).val - 1) (pt j ⟨s, Nat.lt_of_succ_lt hs⟩).val rfl _ (pt j ⟨s, Nat.lt_of_succ_lt hs⟩).isLt]
  unfold k0_pay3
  exact (congrFun (shapeCast_self _ _) _).trans (congrArg ((outsAt0 m c (pt j ⟨s, Nat.lt_of_succ_lt hs⟩).val (pt j ⟨s, Nat.lt_of_succ_lt hs⟩).isLt).2 (ix2 r q) + ·) (tile_apply m c j ⟨s + 1, hs⟩ r q))

/-- The accumulator at the block's last point is the whole product. -/
theorem total (j : Fin 2) (r : Fin 2048) (q : Fin 1024) :
    (outsAt0 m c (pt j 3).val (pt j 3).isLt).2 (ix2 r q) = ∑ k : Fin 4352, term m c r (inSlab (w := 1024) (d := 2) (n := 2048) rfl j q) k :=
  accumulated (w := 1088) (p := 3) (term m c r (inSlab (w := 1024) (d := 2) (n := 2048) rfl j q)) (fun s hs => (outsAt0 m c (pt j ⟨s, hs⟩).val (pt j ⟨s, hs⟩).isLt).2 (ix2 r q)) rfl
    (start_apply m c j 0 rfl r q) (fun s hs => step_apply m c j s hs r q)

/-! ## The result -/

/-- The array the run leaves, at an entry. -/
theorem result_apply (j : Fin 2) (e : Fin 8) (r : Fin 256) (q : Fin 1024) :
    (Cert.Kernel13Ideal.Value.G2 m c : Vec Ideal S8x256x2048 .bf16) (ix3 e r (inSlab (w := 1024) (d := 2) (n := 2048) rfl j q)) = ∑ k : Fin 4352, term m c (inSlab (w := 256) (d := 8) (n := 2048) rfl e r) (inSlab (w := 1024) (d := 2) (n := 2048) rfl j q) k := by
  have hp : Cert.Kernel13Ideal.Value.pt2Of (ix3 e r (inSlab (w := 1024) (d := 2) (n := 2048) rfl j q)) = (pt j 3).val := by
    show 4 * (2 * (e.val / 8 - 0) + 2 * (r.val / 256 - 0) + 1 * ((1024 * j.val + q.val) / 1024 - 0)) + 3 = (j.val) * 4 + 3
    omega
  have hl : Cert.Kernel13Ideal.Value.loc2Of (ix3 e r (inSlab (w := 1024) (d := 2) (n := 2048) rfl j q)) = ix3 e r q := by
    funext x
    apply Fin.ext
    match x with
    | ⟨0, _⟩ => show e.val % 8 = e.val; omega
    | ⟨1, _⟩ => show r.val % 256 = r.val; omega
    | ⟨2, _⟩ => show (1024 * j.val + q.val) % 1024 = q.val; omega
  have hlt : Cert.Kernel13Ideal.Value.pt2Of (ix3 e r (inSlab (w := 1024) (d := 2) (n := 2048) rfl j q)) < cfg0.N := by rw [hp]; exact (pt j 3).isLt
  unfold Cert.Kernel13Ideal.Value.G2
  rw [dif_pos hlt, ← Cert.Kernel13Ideal.Value.outsAt0_sweep m c _ hlt, hl, same_state m c _ _ hp hlt (pt j 3).isLt,
    block_last m c (pt j 3) (pt_s j 3)]
  exact (row_slabs (w := 256) (d := 8) (n := 2048) rfl _ _ e r q).trans (total m c j (inSlab (w := 256) (d := 8) (n := 2048) rfl e r) q)

/-! ## The equation -/

/-- The reference's product, at an entry. -/
theorem reference_apply (i : Fin 2048) (j : Fin 2048) : Cert.Reference13Ideal.Read.val_main_v2 (F := Ideal) (m ((c : Thread nD τ).loc main_arg0)) (m ((c : Thread nD τ).loc main_arg2)) (ix2 i j) = ∑ k : Fin 4352, term m c i j k := by
  rw [Cert.Reference13Ideal.Read.val_main_v2_apply, Cert.Reference13Ideal.Read.val_main_v1_apply]
  refine Finset.sum_congr rfl fun k _ => ?_
  refine (mul_comm _ _).trans ?_
  unfold term
  congr 2
  · funext x
    match x with
    | ⟨0, _⟩ => rfl
    | ⟨1, _⟩ => rfl
  · funext x
    match x with
    | ⟨0, _⟩ => rfl
    | ⟨1, _⟩ => rfl

/-- What the kernel leaves is what the reference computes. -/
theorem equation : (Cert.Kernel13Ideal.Value.G2 m c : Vec Ideal S8x256x2048 .bf16) = Cert.Reference13Ideal.Read.val_main_v5 (F := Ideal) (m ((c : Thread nD τ).loc main_arg0)) (m ((c : Thread nD τ).loc main_arg2)) := by
  funext z
  obtain ⟨e, r, y, rfl⟩ := cases3 z
  obtain ⟨j, q, rfl⟩ := slab_cases (w := 1024) (d := 2) (n := 2048) rfl (by decide) y
  refine (result_apply m c j e r q).trans ((reference_apply m c (inSlab (w := 256) (d := 8) (n := 2048) rfl e r) (inSlab (w := 1024) (d := 2) (n := 2048) rfl j q)).symm.trans ?_)
  exact (row_slabs (w := 256) (d := 8) (n := 2048) rfl (Cert.Reference13Ideal.Read.val_main_v4 (F := Ideal) (m ((c : Thread nD τ).loc main_arg0)) (m ((c : Thread nD τ).loc main_arg2))) _ e r (inSlab (w := 1024) (d := 2) (n := 2048) rfl j q)).symm

end Products.K13

end
-- ==== Proof.Accum.lean ====
/- What the points of the grid leave in the five output blocks, over the extended reals: the two query gradients of the point's
   own rows, and the three key gradients of all rows so far. -/
module

public import proofs.«01_k».proof.Proof.Entry

@[expose] public section

set_option maxRecDepth 16384

noncomputable section

namespace AttGrad

open Cert.KernelIdeal Cert.KernelIdeal.Gen Idealize.ShloMosaic Idealize.ShloMosaic.TcCoe Idealize.SL.Sem
open Idealize.ShloMosaic.ValueIdx Finset

variable (m : (ℓ : Loc nD τ sig) → Buf (Elt Ideal) ℓ) (c : Dev nD) (t : Fin cfg0.N)

/-- The scores of the point's rows are the operands'. -/
theorem score_eq (r : Fin 256) : rowScore (grid0.coords t) (iblk m c 0 t) (iblk m c 1 t) (iblk m c 2 t) (iblk m c 3 t) r
    = (ops m c).score (hd t) (row t r) := by
  funext j
  unfold rowScore Ops.score tileMask Ops.msk
  have e : ((grid0.coords t 1).val = 0 ∧ 256 ≤ j.val) ↔ ((row t r).val < 256 ∧ 256 ≤ j.val) := by
    rw [coord1]
    show _ ↔ (256 * (t.val % 17) + r.val < 256 ∧ _)
    have := r.isLt
    constructor <;> rintro ⟨h1, h2⟩ <;> exact ⟨by omega, h2⟩
  rw [if_congr e rfl rfl]
  refine congrArg (· + _) (congrArg₂ (· + ·) (sum_congr rfl fun d _ => ?_) (sum_congr rfl fun d _ => ?_))
  · rw [blk_q, blk_k]
  · rw [blk_qr, blk_kr]

theorem dp_eq (r : Fin 256) : rowDp (iblk m c 5 t) (iblk m c 4 t) r = (ops m c).dp (hd t) (row t r) := by
  funext j
  unfold rowDp Ops.dp
  exact sum_congr rfl fun d _ => by rw [blk_g, blk_v]

/-- The point's rows of the queries' gradient. -/
theorem q_tile (r : Fin 256) (d : Fin 128) :
    tQ (grid0.coords t) (iblk m c 0 t) (iblk m c 1 t) (iblk m c 5 t) (iblk m c 2 t) (iblk m c 3 t) (iblk m c 4 t) (ix2 r d)
      = (ops m c).outQ (hd t) (row t r) d := by
  rw [tQ_apply, score_eq, dp_eq]
  exact congrArg (· * sc) (sum_congr rfl fun j _ => by rw [blk_k]; rfl)

/-- The point's rows of the rotary queries' gradient. -/
theorem qr_tile (r : Fin 256) (d : Fin 128) :
    tQr (grid0.coords t) (iblk m c 0 t) (iblk m c 1 t) (iblk m c 5 t) (iblk m c 2 t) (iblk m c 3 t) (iblk m c 4 t) (ix2 r d)
      = (ops m c).outQr (hd t) (row t r) d := by
  rw [tQr_apply, score_eq, dp_eq]
  exact congrArg (· * sc) (sum_congr rfl fun j _ => by rw [blk_kr]; rfl)

/-- What the point adds to the keys' gradient: its rows' terms. -/
theorem k_tile (acc : Vec Ideal S4352x128 .f32) (j : Fin 4352) (d : Fin 128) :
    tK (grid0.coords t) (iblk m c 0 t) (iblk m c 1 t) (iblk m c 5 t) (iblk m c 2 t) (iblk m c 3 t) (iblk m c 4 t) acc (ix2 j d)
      = acc (ix2 j d) + ∑ r : Fin 256, ext ((ops m c).termK (hd t) j d) (256 * (t.val % 17) + r.val) := by
  rw [tK_apply]
  exact congrArg (_ + ·) (sum_congr rfl fun r _ => by rw [score_eq, dp_eq, blk_q]; exact (ext_of ((ops m c).termK (hd t) j d) _ (row t r).isLt).symm)

/-- What it adds to the rotary keys' gradient. -/
theorem kr_tile (acc : Vec Ideal S4352x128 .f32) (j : Fin 4352) (d : Fin 128) :
    tKr (grid0.coords t) (iblk m c 0 t) (iblk m c 1 t) (iblk m c 5 t) (iblk m c 2 t) (iblk m c 3 t) (iblk m c 4 t) acc (ix2 j d)
      = acc (ix2 j d) + ∑ r : Fin 256, ext ((ops m c).termKr (hd t) j d) (256 * (t.val % 17) + r.val) := by
  rw [tKr_apply]
  exact congrArg (_ + ·) (sum_congr rfl fun r _ => by rw [score_eq, dp_eq, blk_qr]; exact (ext_of ((ops m c).termKr (hd t) j d) _ (row t r).isLt).symm)

/-- What it adds to the values' gradient. -/
theorem v_tile (acc : Vec Ideal S4352x128 .f32) (j : Fin 4352) (d : Fin 128) :
    tV (grid0.coords t) (iblk m c 0 t) (iblk m c 1 t) (iblk m c 5 t) (iblk m c 2 t) (iblk m c 3 t) acc (ix2 j d)
      = acc (ix2 j d) + ∑ r : Fin 256, ext ((ops m c).termV (hd t) j d) (256 * (t.val % 17) + r.val) := by
  rw [tV_apply]
  exact congrArg (_ + ·) (sum_congr rfl fun r _ => by rw [score_eq, blk_g]; exact (ext_of ((ops m c).termV (hd t) j d) _ (row t r).isLt).symm)

/-! ## The blocks after a point -/

/-- The zero block of a reset. -/
theorem zero16 (x : S4352x128.Idx) : (k0_pay16 : FVec Ideal S4352x128 .f32) x = 0 := Ideal.ofBits_zero_f32
theorem zero17 (x : S4352x128.Idx) : (k0_pay17 : FVec Ideal S4352x128 .f32) x = 0 := Ideal.ofBits_zero_f32
theorem zero18 (x : S4352x128.Idx) : (k0_pay18 : FVec Ideal S4352x128 .f32) x = 0 := Ideal.ofBits_zero_f32

/-- The block of window `8` after point `n`, and likewise of the others. -/
def acc8 (n : ℕ) (hn : n < cfg0.N) : Vec Ideal S4352x128 .f32 := (outsAt0 m c n hn).2.2.1
def acc9 (n : ℕ) (hn : n < cfg0.N) : Vec Ideal S4352x128 .f32 := (outsAt0 m c n hn).2.2.2.1
def acc10 (n : ℕ) (hn : n < cfg0.N) : Vec Ideal S4352x128 .f32 := (outsAt0 m c n hn).2.2.2.2

/-- The point before. -/
theorem before_lt : t.val - 1 < cfg0.N := Nat.lt_of_le_of_lt (Nat.sub_le _ _) t.isLt

theorem out6 : (outsAt0 m c t.val t.isLt).1 = tQ (grid0.coords t) (iblk m c 0 t) (iblk m c 1 t) (iblk m c 5 t) (iblk m c 2 t) (iblk m c 3 t) (iblk m c 4 t) := by
  by_cases h0 : t.val % 17 = 0
  · by_cases h1 : t.val % 68 = 0
    · simp only [outsAt0_A m c t h0 h1]; exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) ((hcond0_1 t).mpr h1)
    · simp only [outsAt0_C m c t h0 h1]; exact out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) (fun h => h1 ((hcond0_1 t).mp h)) (outsAt0 m c (t.val - 1) (before_lt t)).2.2.2.1
  · have h1 : ¬t.val % 68 = 0 := by omega
    simp only [outsAt0_B m c t h0 h1]; exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (fun h => h0 ((hcond0_0 t).mp h)) (fun h => h1 ((hcond0_1 t).mp h)) (outsAt0 m c (t.val - 1) (before_lt t)).2.2.1 (outsAt0 m c (t.val - 1) (before_lt t)).2.2.2.1 (outsAt0 m c (t.val - 1) (before_lt t)).2.2.2.2

theorem out7 : (outsAt0 m c t.val t.isLt).2.1 = tQr (grid0.coords t) (iblk m c 0 t) (iblk m c 1 t) (iblk m c 5 t) (iblk m c 2 t) (iblk m c 3 t) (iblk m c 4 t) := by
  by_cases h0 : t.val % 17 = 0
  · by_cases h1 : t.val % 68 = 0
    · simp only [outsAt0_A m c t h0 h1]; exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) ((hcond0_1 t).mpr h1)
    · simp only [outsAt0_C m c t h0 h1]; exact out_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) (fun h => h1 ((hcond0_1 t).mp h)) (outsAt0 m c (t.val - 1) (before_lt t)).2.2.2.1
  · have h1 : ¬t.val % 68 = 0 := by omega
    simp only [outsAt0_B m c t h0 h1]; exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (fun h => h0 ((hcond0_0 t).mp h)) (fun h => h1 ((hcond0_1 t).mp h)) (outsAt0 m c (t.val - 1) (before_lt t)).2.2.1 (outsAt0 m c (t.val - 1) (before_lt t)).2.2.2.1 (outsAt0 m c (t.val - 1) (before_lt t)).2.2.2.2

theorem acc8_first (h0 : t.val % 17 = 0) : acc8 m c t.val t.isLt = tK (grid0.coords t) (iblk m c 0 t) (iblk m c 1 t) (iblk m c 5 t) (iblk m c 2 t) (iblk m c 3 t) (iblk m c 4 t) (k0_pay16 (F := Ideal)) := by
  by_cases h1 : t.val % 68 = 0
  · simp only [acc8, outsAt0_A m c t h0 h1]; exact out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) ((hcond0_1 t).mpr h1)
  · simp only [acc8, outsAt0_C m c t h0 h1]; exact out_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) (fun h => h1 ((hcond0_1 t).mp h)) (outsAt0 m c (t.val - 1) (before_lt t)).2.2.2.1
theorem acc8_next (h0 : ¬t.val % 17 = 0) : acc8 m c t.val t.isLt = tK (grid0.coords t) (iblk m c 0 t) (iblk m c 1 t) (iblk m c 5 t) (iblk m c 2 t) (iblk m c 3 t) (iblk m c 4 t) (acc8 m c (t.val - 1) (before_lt t)) := by
  have h1 : ¬t.val % 68 = 0 := by omega
  simp only [acc8, outsAt0_B m c t h0 h1]; exact out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (fun h => h0 ((hcond0_0 t).mp h)) (fun h => h1 ((hcond0_1 t).mp h)) (outsAt0 m c (t.val - 1) (before_lt t)).2.2.1 (outsAt0 m c (t.val - 1) (before_lt t)).2.2.2.1 (outsAt0 m c (t.val - 1) (before_lt t)).2.2.2.2

theorem acc10_first (h0 : t.val % 17 = 0) : acc10 m c t.val t.isLt = tV (grid0.coords t) (iblk m c 0 t) (iblk m c 1 t) (iblk m c 5 t) (iblk m c 2 t) (iblk m c 3 t) (k0_pay17 (F := Ideal)) := by
  by_cases h1 : t.val % 68 = 0
  · simp only [acc10, outsAt0_A m c t h0 h1]; exact out_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) ((hcond0_1 t).mpr h1)
  · simp only [acc10, outsAt0_C m c t h0 h1]; exact out_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) (fun h => h1 ((hcond0_1 t).mp h)) (outsAt0 m c (t.val - 1) (before_lt t)).2.2.2.1
theorem acc10_next (h0 : ¬t.val % 17 = 0) : acc10 m c t.val t.isLt = tV (grid0.coords t) (iblk m c 0 t) (iblk m c 1 t) (iblk m c 5 t) (iblk m c 2 t) (iblk m c 3 t) (acc10 m c (t.val - 1) (before_lt t)) := by
  have h1 : ¬t.val % 68 = 0 := by omega
  simp only [acc10, outsAt0_B m c t h0 h1]; exact out_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (fun h => h0 ((hcond0_0 t).mp h)) (fun h => h1 ((hcond0_1 t).mp h)) (outsAt0 m c (t.val - 1) (before_lt t)).2.2.1 (outsAt0 m c (t.val - 1) (before_lt t)).2.2.2.1 (outsAt0 m c (t.val - 1) (before_lt t)).2.2.2.2

theorem acc9_first (h1 : t.val % 68 = 0) : acc9 m c t.val t.isLt = tKr (grid0.coords t) (iblk m c 0 t) (iblk m c 1 t) (iblk m c 5 t) (iblk m c 2 t) (iblk m c 3 t) (iblk m c 4 t) (k0_pay18 (F := Ideal)) := by
  have h0 : t.val % 17 = 0 := by omega
  simp only [acc9, outsAt0_A m c t h0 h1]; exact out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) ((hcond0_1 t).mpr h1)
theorem acc9_next (h1 : ¬t.val % 68 = 0) : acc9 m c t.val t.isLt = tKr (grid0.coords t) (iblk m c 0 t) (iblk m c 1 t) (iblk m c 5 t) (iblk m c 2 t) (iblk m c 3 t) (iblk m c 4 t) (acc9 m c (t.val - 1) (before_lt t)) := by
  by_cases h0 : t.val % 17 = 0
  · simp only [acc9, outsAt0_C m c t h0 h1]; exact out_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) (fun h => h1 ((hcond0_1 t).mp h)) (outsAt0 m c (t.val - 1) (before_lt t)).2.2.2.1
  · simp only [acc9, outsAt0_B m c t h0 h1]; exact out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (fun h => h0 ((hcond0_0 t).mp h)) (fun h => h1 ((hcond0_1 t).mp h)) (outsAt0 m c (t.val - 1) (before_lt t)).2.2.1 (outsAt0 m c (t.val - 1) (before_lt t)).2.2.2.1 (outsAt0 m c (t.val - 1) (before_lt t)).2.2.2.2

/-! ## The accumulated sums -/

/-- The head of point `n`, on the numbers. -/
theorem hd_eq (n : ℕ) (hn : n < cfg0.N) (h : Fin 4) (e : n / 17 = h.val) : hd ⟨n, hn⟩ = h := Fin.ext e

/-- After point `n` of head `h` the block holds the terms of all rows of the head's tiles so far. -/
theorem acc8_eq (h : Fin 4) (j : Fin 4352) (d : Fin 128) : ∀ (n : ℕ) (hn : n < cfg0.N), n / 17 = h.val →
    acc8 m c n hn (ix2 j d) = ∑ i ∈ range (256 * (n % 17 + 1)), ext ((ops m c).termK h j d) i := by
  intro n
  induction n with
  | zero =>
    intro hn e
    rw [acc8_first m c ⟨0, hn⟩ rfl, k_tile, zero16, hd_eq 0 hn h e, sum_tile, Nat.zero_mod, Nat.mul_zero, range_zero, sum_empty]
  | succ n ih =>
    intro hn e
    by_cases h0 : (n + 1) % 17 = 0
    · rw [acc8_first m c ⟨n + 1, hn⟩ h0, k_tile, zero16, hd_eq (n + 1) hn h e, sum_tile, h0, Nat.mul_zero, range_zero, sum_empty]
    · rw [acc8_next m c ⟨n + 1, hn⟩ h0, k_tile, hd_eq (n + 1) hn h e, sum_tile]
      have e' : (n + 1) % 17 = n % 17 + 1 := by omega
      refine congrArg (· + _) ?_
      rw [e']
      exact ih (by omega) (by omega)

/-- After point `n` of head `h` the block holds the terms of all rows of the head's tiles so far. -/
theorem acc10_eq (h : Fin 4) (j : Fin 4352) (d : Fin 128) : ∀ (n : ℕ) (hn : n < cfg0.N), n / 17 = h.val →
    acc10 m c n hn (ix2 j d) = ∑ i ∈ range (256 * (n % 17 + 1)), ext ((ops m c).termV h j d) i := by
  intro n
  induction n with
  | zero =>
    intro hn e
    rw [acc10_first m c ⟨0, hn⟩ rfl, v_tile, zero17, hd_eq 0 hn h e, sum_tile, Nat.zero_mod, Nat.mul_zero, range_zero, sum_empty]
  | succ n ih =>
    intro hn e
    by_cases h0 : (n + 1) % 17 = 0
    · rw [acc10_first m c ⟨n + 1, hn⟩ h0, v_tile, zero17, hd_eq (n + 1) hn h e, sum_tile, h0, Nat.mul_zero, range_zero, sum_empty]
    · rw [acc10_next m c ⟨n + 1, hn⟩ h0, v_tile, hd_eq (n + 1) hn h e, sum_tile]
      have e' : (n + 1) % 17 = n % 17 + 1 := by omega
      refine congrArg (· + _) ?_
      rw [e']
      exact ih (by omega) (by omega)

/-- After point `n` of head `h` the block of the rotary keys holds the terms of all heads before and of the rows of the
    head's tiles so far. -/
theorem acc9_eq (j : Fin 4352) (d : Fin 128) : ∀ (n : ℕ) (hn : n < cfg0.N),
    acc9 m c n hn (ix2 j d) = ∑ h ∈ range (n / 17), ext (fun h => ∑ i : Fin 4352, (ops m c).termKr h j d i) h
      + ∑ i ∈ range (256 * (n % 17 + 1)), ext ((ops m c).termKr (hd ⟨n, hn⟩) j d) i := by
  intro n
  induction n with
  | zero =>
    intro hn
    rw [acc9_first m c ⟨0, hn⟩ rfl, kr_tile, zero18, sum_tile]
    simp only [Nat.zero_mod, Nat.mul_zero, Nat.zero_div, range_zero, sum_empty, zero_add]
  | succ n ih =>
    intro hn
    have hn' : n + 1 < 68 := hn
    have h1 : ¬(n + 1) % 68 = 0 := by omega
    rw [acc9_next m c ⟨n + 1, hn⟩ h1, kr_tile, sum_tile, ← add_assoc]
    refine congrArg (· + _) ((ih (Nat.lt_of_succ_lt hn)).trans ?_)
    by_cases h0 : (n + 1) % 17 = 0
    · have e1 : n % 17 + 1 = 17 := by omega
      have e2 : (n + 1) / 17 = n / 17 + 1 := by omega
      rw [h0, e1, e2, sum_range_succ _ (n / 17), Nat.mul_zero, range_zero, sum_empty, add_zero, ext_of _ _ (show n / 17 < 4 by omega)]
      exact congrArg (_ + ·) (sum_ext _)
    · have e1 : (n + 1) % 17 = n % 17 + 1 := by omega
      have e2 : (n + 1) / 17 = n / 17 := by omega
      have e3 : hd ⟨n, Nat.lt_of_succ_lt hn⟩ = hd ⟨n + 1, hn⟩ := Fin.ext e2.symm
      rw [e1, e2, e3]

end AttGrad
-- ==== Proof.Arrays.lean ====
/- The five result arrays after the run, entry by entry. -/
module

public import proofs.«01_k».proof.Proof.Accum

@[expose] public section

set_option maxRecDepth 16384

noncomputable section

namespace AttGrad

open Cert.KernelIdeal Cert.KernelIdeal.Gen Idealize.ShloMosaic Idealize.ShloMosaic.TcCoe Idealize.SL.Sem
open Idealize.ShloMosaic.ValueIdx Finset

variable (m : (ℓ : Loc nD τ sig) → Buf (Elt Ideal) ℓ) (c : Dev nD)

/-- The point of head `h` whose tile is number `s`. -/
def pt (h : Fin 4) (s : Fin 17) : Fin cfg0.N := ⟨17 * h.val + s.val, by show 17 * h.val + s.val < 68; omega⟩

theorem pt_mod (h : Fin 4) (s : Fin 17) : (pt h s).val % 17 = s.val := by show (17 * h.val + s.val) % 17 = s.val; omega
theorem pt_div (h : Fin 4) (s : Fin 17) : (pt h s).val / 17 = h.val := by show (17 * h.val + s.val) / 17 = h.val; omega

theorem index_out : ∀ t : Fin cfg0.N, win0_6.index t = ![t.val % 17, t.val / 17] ∧ win0_7.index t = ![t.val % 17, t.val / 17]
    ∧ win0_8.index t = ![0, t.val / 17] ∧ win0_9.index t = ![0, 0] ∧ win0_10.index t = ![0, t.val / 17] :=
  (by decide +kernel : ∀ t : Fin grid0.N, win0_6.index t = ![t.val % 17, t.val / 17] ∧ win0_7.index t = ![t.val % 17, t.val / 17]
    ∧ win0_8.index t = ![0, t.val / 17] ∧ win0_9.index t = ![0, 0] ∧ win0_10.index t = ![0, t.val / 17])

/-- The last tile. -/
def last : Fin 17 := 16
theorem pt_last (h : Fin 4) : (pt h last).val % 17 = 16 := pt_mod h last

theorem emb6 (t : Fin cfg0.N) (r : Fin 256) (d : Fin 128) :
    (((cfg0.win 6).blk t).view.emb (ix2 r d) : S4352x512.Idx) = ix2 (row t r) (col (hd t) d) := by
  funext a
  apply Fin.ext
  match a with
  | ⟨0, _⟩ => show win0_6.index t 0 * 256 + 1 * r.val = 256 * (t.val % 17) + r.val; rw [(index_out t).1]; show t.val % 17 * 256 + 1 * r.val = _; ring
  | ⟨1, _⟩ => show win0_6.index t 1 * 128 + 1 * d.val = 128 * (t.val / 17) + d.val; rw [(index_out t).1]; show t.val / 17 * 128 + 1 * d.val = _; ring

theorem res6 (i : Fin 4352) (h : Fin 4) (d : Fin 128) :
    ((dats m 0 c).arrAt 6 cfg0.N : Vec Ideal S4352x512 .f32) (ix2 i (col h d)) = (ops m c).outQ h i d := by
  have hi := i.isLt
  have e1 : row (pt h ⟨i.val / 256, by omega⟩) ⟨i.val % 256, by omega⟩ = i := Fin.ext (by
    show 256 * ((pt h ⟨i.val / 256, _⟩).val % 17) + i.val % 256 = i.val
    rw [pt_mod]; show 256 * (i.val / 256) + i.val % 256 = i.val; omega)
  have e2 : hd (pt h ⟨i.val / 256, by omega⟩) = h := Fin.ext (pt_div _ _)
  have b := congrFun (Cert.KernelIdeal.Value.blocks6 m c (pt h ⟨i.val / 256, by omega⟩) (flush0_6 _)) (ix2 (⟨i.val % 256, by omega⟩ : Fin 256) d)
  rw [View.read_apply, Cert.KernelIdeal.Value.flushed6] at b
  have l := emb6 (pt h ⟨i.val / 256, by omega⟩) ⟨i.val % 256, by omega⟩ d
  rw [e1, e2] at l
  rw [← l]
  refine b.trans ?_
  refine (congrFun (out6 m c (pt h ⟨i.val / 256, by omega⟩)) (ix2 (⟨i.val % 256, by omega⟩ : Fin 256) d)).trans ?_
  rw [q_tile, e1, e2]

theorem emb7 (t : Fin cfg0.N) (r : Fin 256) (d : Fin 128) :
    (((cfg0.win 7).blk t).view.emb (ix2 r d) : S4352x512.Idx) = ix2 (row t r) (col (hd t) d) := by
  funext a
  apply Fin.ext
  match a with
  | ⟨0, _⟩ => show win0_7.index t 0 * 256 + 1 * r.val = 256 * (t.val % 17) + r.val; rw [(index_out t).2.1]; show t.val % 17 * 256 + 1 * r.val = _; ring
  | ⟨1, _⟩ => show win0_7.index t 1 * 128 + 1 * d.val = 128 * (t.val / 17) + d.val; rw [(index_out t).2.1]; show t.val / 17 * 128 + 1 * d.val = _; ring

theorem res7 (i : Fin 4352) (h : Fin 4) (d : Fin 128) :
    ((dats m 0 c).arrAt 7 cfg0.N : Vec Ideal S4352x512 .f32) (ix2 i (col h d)) = (ops m c).outQr h i d := by
  have hi := i.isLt
  have e1 : row (pt h ⟨i.val / 256, by omega⟩) ⟨i.val % 256, by omega⟩ = i := Fin.ext (by
    show 256 * ((pt h ⟨i.val / 256, _⟩).val % 17) + i.val % 256 = i.val
    rw [pt_mod]; show 256 * (i.val / 256) + i.val % 256 = i.val; omega)
  have e2 : hd (pt h ⟨i.val / 256, by omega⟩) = h := Fin.ext (pt_div _ _)
  have b := congrFun (Cert.KernelIdeal.Value.blocks7 m c (pt h ⟨i.val / 256, by omega⟩) (flush0_7 _)) (ix2 (⟨i.val % 256, by omega⟩ : Fin 256) d)
  rw [View.read_apply, Cert.KernelIdeal.Value.flushed7] at b
  have l := emb7 (pt h ⟨i.val / 256, by omega⟩) ⟨i.val % 256, by omega⟩ d
  rw [e1, e2] at l
  rw [← l]
  refine b.trans ?_
  refine (congrFun (out7 m c (pt h ⟨i.val / 256, by omega⟩)) (ix2 (⟨i.val % 256, by omega⟩ : Fin 256) d)).trans ?_
  rw [qr_tile, e1, e2]

theorem emb8 (t : Fin cfg0.N) (j : Fin 4352) (d : Fin 128) :
    (((cfg0.win 8).blk t).view.emb (ix2 j d) : S4352x512.Idx) = ix2 j (col (hd t) d) := by
  funext a
  apply Fin.ext
  match a with
  | ⟨0, _⟩ => show win0_8.index t 0 * 4352 + 1 * j.val = j.val; rw [(index_out t).2.2.1]; show 0 * 4352 + 1 * j.val = _; ring
  | ⟨1, _⟩ => show win0_8.index t 1 * 128 + 1 * d.val = 128 * (t.val / 17) + d.val; rw [(index_out t).2.2.1]; show t.val / 17 * 128 + 1 * d.val = _; ring

/-- Two write-backs of the window meet no common entry: each is another head's. -/
theorem apart8 : ∀ t t' : Fin cfg0.N, (cfg0.win 8).flush t = true → (cfg0.win 8).flush t' = true → t ≠ t' →
    Disjoint ((cfg0.win 8).blk t).view.set ((cfg0.win 8).blk t').view.set := by
  intro t t' f f' hne
  refine (cfg0.win 8).disjoint_blk fun e => hne (Fin.ext ?_)
  have g := (flush0_8 t).mp f
  have g' := (flush0_8 t').mp f'
  have e' : win0_8.index t = win0_8.index t' := e
  rw [(index_out t).2.2.1, (index_out t').2.2.1] at e'
  have e1 : t.val / 17 = t'.val / 17 := congrFun e' 1
  omega

theorem res8 (j : Fin 4352) (h : Fin 4) (d : Fin 128) :
    ((dats m 0 c).arrAt 8 cfg0.N : Vec Ideal S4352x512 .f32) (ix2 j (col h d)) = ∑ i : Fin 4352, (ops m c).termK h j d i := by
  have e2 : hd (pt h last) = h := Fin.ext (pt_div _ _)
  have b := congrFun ((dats m 0 c).read_blk_arrAt_eq_flushed 8 apart8 cfg0.N (pt h last) (pt h last).isLt ((flush0_8 _).mpr (pt_last h)))
    (ix2 j d)
  rw [View.read_apply, Cert.KernelIdeal.Value.flushed8] at b
  have l := emb8 (pt h last) j d
  rw [e2] at l
  rw [← l]
  refine b.trans ?_
  refine (acc8_eq m c h j d (pt h last).val (pt h last).isLt (pt_div h last)).trans ?_
  rw [pt_last]
  exact sum_ext _

theorem emb10 (t : Fin cfg0.N) (j : Fin 4352) (d : Fin 128) :
    (((cfg0.win 10).blk t).view.emb (ix2 j d) : S4352x512.Idx) = ix2 j (col (hd t) d) := by
  funext a
  apply Fin.ext
  match a with
  | ⟨0, _⟩ => show win0_10.index t 0 * 4352 + 1 * j.val = j.val; rw [(index_out t).2.2.2.2]; show 0 * 4352 + 1 * j.val = _; ring
  | ⟨1, _⟩ => show win0_10.index t 1 * 128 + 1 * d.val = 128 * (t.val / 17) + d.val; rw [(index_out t).2.2.2.2]; show t.val / 17 * 128 + 1 * d.val = _; ring

/-- Two write-backs of the window meet no common entry: each is another head's. -/
theorem apart10 : ∀ t t' : Fin cfg0.N, (cfg0.win 10).flush t = true → (cfg0.win 10).flush t' = true → t ≠ t' →
    Disjoint ((cfg0.win 10).blk t).view.set ((cfg0.win 10).blk t').view.set := by
  intro t t' f f' hne
  refine (cfg0.win 10).disjoint_blk fun e => hne (Fin.ext ?_)
  have g := (flush0_10 t).mp f
  have g' := (flush0_10 t').mp f'
  have e' : win0_10.index t = win0_10.index t' := e
  rw [(index_out t).2.2.2.2, (index_out t').2.2.2.2] at e'
  have e1 : t.val / 17 = t'.val / 17 := congrFun e' 1
  omega

theorem res10 (j : Fin 4352) (h : Fin 4) (d : Fin 128) :
    ((dats m 0 c).arrAt 10 cfg0.N : Vec Ideal S4352x512 .f32) (ix2 j (col h d)) = ∑ i : Fin 4352, (ops m c).termV h j d i := by
  have e2 : hd (pt h last) = h := Fin.ext (pt_div _ _)
  have b := congrFun ((dats m 0 c).read_blk_arrAt_eq_flushed 10 apart10 cfg0.N (pt h last) (pt h last).isLt ((flush0_10 _).mpr (pt_last h)))
    (ix2 j d)
  rw [View.read_apply, Cert.KernelIdeal.Value.flushed10] at b
  have l := emb10 (pt h last) j d
  rw [e2] at l
  rw [← l]
  refine b.trans ?_
  refine (acc10_eq m c h j d (pt h last).val (pt h last).isLt (pt_div h last)).trans ?_
  rw [pt_last]
  exact sum_ext _

theorem emb9 (t : Fin cfg0.N) (j : Fin 4352) (d : Fin 128) :
    (((cfg0.win 9).blk t).view.emb (ix2 j d) : S4352x128.Idx) = ix2 j d := by
  funext a
  apply Fin.ext
  match a with
  | ⟨0, _⟩ => show win0_9.index t 0 * 4352 + 1 * j.val = j.val; rw [(index_out t).2.2.2.1]; show 0 * 4352 + 1 * j.val = _; ring
  | ⟨1, _⟩ => show win0_9.index t 1 * 128 + 1 * d.val = d.val; rw [(index_out t).2.2.2.1]; show 0 * 128 + 1 * d.val = _; ring

/-- The rotary keys' gradient is written back once. -/
theorem apart9 : ∀ t t' : Fin cfg0.N, (cfg0.win 9).flush t = true → (cfg0.win 9).flush t' = true → t ≠ t' →
    Disjoint ((cfg0.win 9).blk t).view.set ((cfg0.win 9).blk t').view.set := by
  intro t t' f f' hne
  have h1 : t.val < 68 := t.isLt
  have h2 : t'.val < 68 := t'.isLt
  have g := (flush0_9 t).mp f
  have g' := (flush0_9 t').mp f'
  exact absurd (Fin.ext (by omega)) hne

theorem res9 (j : Fin 4352) (d : Fin 128) :
    ((dats m 0 c).arrAt 9 cfg0.N : Vec Ideal S4352x128 .f32) (ix2 j d) = ∑ h : Fin 4, ∑ i : Fin 4352, (ops m c).termKr h j d i := by
  have b := congrFun ((dats m 0 c).read_blk_arrAt_eq_flushed 9 apart9 cfg0.N (pt 3 last) (pt 3 last).isLt ((flush0_9 _).mpr (by decide)))
    (ix2 j d)
  rw [View.read_apply, Cert.KernelIdeal.Value.flushed9] at b
  rw [← emb9 (pt 3 last) j d]
  refine b.trans ?_
  refine (acc9_eq m c j d (pt 3 last).val (pt 3 last).isLt).trans ?_
  have e1 : (pt 3 last).val / 17 = 3 := pt_div 3 last
  have e2 : hd (pt 3 last) = 3 := Fin.ext (pt_div _ _)
  rw [pt_last, e1, e2, ← sum_ext (fun h => ∑ i : Fin 4352, (ops m c).termKr h j d i), sum_range_succ _ 3]
  refine congrArg (_ + ·) ((sum_ext _).trans ?_)
  exact (ext_of (fun h : Fin 4 => ∑ i : Fin 4352, (ops m c).termKr h j d i) 3 (by decide)).symm

end AttGrad
-- ==== Proof.Results.lean ====
/- The five results of the kernel, as sums, are the reference's. -/
module

public import proofs.«01_k».proof.Proof.Equation

@[expose] public section

set_option maxRecDepth 16384

noncomputable section

namespace AttGrad

open Cert.ReferenceIdeal Cert.ReferenceIdeal.Gen Cert.ReferenceIdeal.Read Idealize.ShloMosaic Idealize.ShloMosaic.TcCoe Idealize.SL.Sem
open Idealize.ShloMosaic.ValueIdx Finset

variable (x0 : (⟨S1x4352x4x128, .f32⟩ : BufTy).Contents (Elt Ideal)) (x1 : (⟨S1x4352x4x64, .f32⟩ : BufTy).Contents (Elt Ideal))
  (x2 : (⟨S1x4352x4x128, .f32⟩ : BufTy).Contents (Elt Ideal)) (x3 : (⟨S1x4352x64, .f32⟩ : BufTy).Contents (Elt Ideal))
  (x4 x5 : (⟨S1x4352x4x128, .f32⟩ : BufTy).Contents (Elt Ideal)) (H : Finite x0 x1 x2 x3)
include H

/-- The queries' gradient. -/
theorem out_q (i : Fin 4352) (h : Fin 4) (d : Fin 128) : (opsOf x0 x1 x2 x3 x4 x5).outQ h i d = val_main_v146 (F := Ideal) x0 x1 x2 x3 x4 x5 (ix2 i (col h d)) := by
  rw [flatQ, Ops.outQ, sum_mul _ _ sc_nonneg sc_ne_top]
  rcases ctx_or_lat i with ⟨k, rfl⟩ | ⟨q, rfl⟩
  · rw [dqn_ctx, dqC]
    refine sum_ctx _ _ (fun j hj => by rw [G_out x0 x1 x2 x3 x4 x5 h k j hj, zero_mul, zero_mul]) fun j => ?_
    rw [← G_ctx x4 x5 H, mul_right_comm]; rfl
  · rw [dqn_lat, dqL]
    refine sum_congr rfl fun j _ => ?_
    rw [← G_lat x4 x5 H, mul_right_comm]; rfl

/-- The rotary queries' gradient. -/
theorem out_qr (i : Fin 4352) (h : Fin 4) (d : Fin 128) : (opsOf x0 x1 x2 x3 x4 x5).outQr h i d = val_main_v148 (F := Ideal) x0 x1 x2 x3 x4 x5 (ix2 i (col h d)) := by
  rw [flatQr, Ops.outQr, sum_mul _ _ sc_nonneg sc_ne_top]
  by_cases hd : d.val < 64
  · rw [wide, dif_pos hd]
    have e : ∀ j, (opsOf x0 x1 x2 x3 x4 x5).kr j d = x3 (ix3 (0 : Fin 1) j (⟨d.val, hd⟩ : Fin 64)) := fun j => dif_pos hd
    rcases ctx_or_lat i with ⟨k, rfl⟩ | ⟨q, rfl⟩
    · rw [dqrp_ctx, dqrC]
      refine sum_ctx _ _ (fun j hj => by rw [G_out x0 x1 x2 x3 x4 x5 h k j hj, zero_mul, zero_mul]) fun j => ?_
      rw [← G_ctx x4 x5 H, mul_right_comm, e]
    · rw [dqrp_lat, dqrL]
      refine sum_congr rfl fun j _ => ?_
      rw [← G_lat x4 x5 H, mul_right_comm, e]
  · rw [wide_out _ hd]
    refine sum_eq_zero fun j _ => ?_
    have e : (opsOf x0 x1 x2 x3 x4 x5).kr j d = 0 := dif_neg hd
    rw [e, mul_zero, zero_mul]

/-- The keys' gradient. -/
theorem out_k (j : Fin 4352) (h : Fin 4) (d : Fin 128) : ∑ i, (opsOf x0 x1 x2 x3 x4 x5).termK h j d i = val_main_v149 (F := Ideal) x0 x1 x2 x3 x4 x5 (ix2 j (col h d)) := by
  rw [flatK, sum_split]
  have L : ∑ q : Fin 4096, (opsOf x0 x1 x2 x3 x4 x5).termK h j d (lat q) = val_main_v138 (F := Ideal) x0 x1 x2 x3 x4 x5 (ix4 (0 : Fin 1) j h d) := by
    rw [dkL]
    refine sum_congr rfl fun q _ => ?_
    rw [← G_lat x4 x5 H, Ops.termK, mul_comm (Ops.q _ _ _ _), ← mul_assoc]; rfl
  rw [L]
  rcases ctx_or_lat j with ⟨k, rfl⟩ | ⟨q, rfl⟩
  · rw [dkn_ctx, dkC]
    congr 1
    refine sum_congr rfl fun i _ => ?_
    rw [← G_ctx x4 x5 H, Ops.termK, mul_comm (Ops.q _ _ _ _), ← mul_assoc]; rfl
  · rw [dkn_lat, sum_eq_zero (fun i _ => by rw [Ops.termK, G_out x0 x1 x2 x3 x4 x5 h i _ (lat_out q), zero_mul]), zero_add]

/-- The values' gradient. -/
theorem out_v (j : Fin 4352) (h : Fin 4) (d : Fin 128) : ∑ i, (opsOf x0 x1 x2 x3 x4 x5).termV h j d i = val_main_v152 (F := Ideal) x0 x1 x2 x3 x5 (ix2 j (col h d)) := by
  rw [flatV, sum_split]
  have L : ∑ q : Fin 4096, (opsOf x0 x1 x2 x3 x4 x5).termV h j d (lat q) = val_main_v116 (F := Ideal) x0 x1 x2 x3 x5 (ix4 (0 : Fin 1) j h d) := by
    rw [dvL]
    refine sum_congr rfl fun q _ => ?_
    rw [Ops.termV, P_lat x4 x5 H, mul_comm]; rfl
  rw [L]
  rcases ctx_or_lat j with ⟨k, rfl⟩ | ⟨q, rfl⟩
  · rw [dvv_ctx, dvC]
    congr 1
    refine sum_congr rfl fun i _ => ?_
    rw [Ops.termV, P_ctx x4 x5 H, mul_comm]; rfl
  · rw [dvv_lat, sum_eq_zero (fun i _ => by rw [Ops.termV, P_out x0 x1 x2 x3 x4 x5 h i _ (lat_out q), zero_mul]), zero_add]

/-- The rotary keys' gradient, summed over the heads. -/
theorem out_kr (j : Fin 4352) (d : Fin 128) : ∑ h : Fin 4, ∑ i, (opsOf x0 x1 x2 x3 x4 x5).termKr h j d i = val_main_v151 (F := Ideal) x0 x1 x2 x3 x4 x5 (ix2 j d) := by
  rw [flatKr]
  by_cases hd : d.val < 64
  · rw [wide, dif_pos hd]
    have e : ∀ h i, (opsOf x0 x1 x2 x3 x4 x5).qr i h d = x1 (ix4 (0 : Fin 1) i h (⟨d.val, hd⟩ : Fin 64)) := fun h i => dif_pos hd
    rw [sum_comm, sum_split]
    have L : ∑ q : Fin 4096, ∑ h : Fin 4, (opsOf x0 x1 x2 x3 x4 x5).termKr h j d (lat q) = val_main_v135 (F := Ideal) x0 x1 x2 x3 x4 x5 (ix3 (0 : Fin 1) j (⟨d.val, hd⟩ : Fin 64)) := by
      rw [dkrL]
      refine sum_congr rfl fun q _ => sum_congr rfl fun h _ => ?_
      rw [← G_lat x4 x5 H, Ops.termKr, mul_comm (Ops.qr _ _ _ _), ← mul_assoc, e]
    rw [L]
    rcases ctx_or_lat j with ⟨k, rfl⟩ | ⟨q, rfl⟩
    · rw [dkrp_ctx, dkrC]
      congr 1
      refine sum_congr rfl fun i _ => sum_congr rfl fun h _ => ?_
      rw [← G_ctx x4 x5 H, Ops.termKr, mul_comm (Ops.qr _ _ _ _), ← mul_assoc, e]
    · rw [dkrp_lat, sum_eq_zero (fun i _ => sum_eq_zero fun h _ => by rw [Ops.termKr, G_out x0 x1 x2 x3 x4 x5 h i _ (lat_out q), zero_mul]), zero_add]
  · rw [wide_out _ hd]
    refine sum_eq_zero fun h _ => sum_eq_zero fun i _ => ?_
    have e : (opsOf x0 x1 x2 x3 x4 x5).qr i h d = 0 := dif_neg hd
    rw [Ops.termKr, e, zero_mul, mul_zero]

end AttGrad
-- ==== Proof.lean ====
/- The gradient of the step's attention: the kernel's frames, the named mask, and its five results against the
   reference's derivative; the step's large matrix products with their
   gradients; and the gradients of the gate and of the convolution. The parts lie under Proof/. -/
module

public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.FwdResult
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gate15
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Conv16
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Conv17
public import proofs.«01_k».proof.Proof.Conv18
public import proofs.«01_k».proof.Proof.Norm21
public import proofs.«01_k».proof.Proof.Conv22
public import proofs.«01_k».proof.Proof.Conv23
public import proofs.«01_k».proof.Proof.Conv24
public import proofs.«01_k».proof.Proof.Gate19
public import proofs.«01_k».proof.Proof.Glu20
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Prod2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Prod3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Prod4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Prod5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Prod6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Prod7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Prod8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Prod9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Prod10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Prod11
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Prod12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Prod13
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Results
public import proofs.«01_k».proof.Proof.Precond
public import Idealize.ShloMosaic.Adequacy
public import Idealize.ShloMosaic.Init

@[expose] public section

noncomputable section

namespace Cert.Proof

open Idealize.ShloMosaic Idealize.SL.Sem AttGrad
open Idealize.ShloMosaic.ValueIdx

/-- The reference is a host program without semaphores. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- Every index of a result with the heads side by side is a column of a head. -/
theorem index_col (i : Cert.KernelIdeal.S4352x512.Idx) : ∃ (a : Fin 4352) (h : Fin 4) (d : Fin 128), i = ix2 a (col h d) := by
  have h1 : (i 1).val < 512 := (i 1).isLt
  refine ⟨i 0, ⟨(i 1).val / 128, by omega⟩, ⟨(i 1).val % 128, by omega⟩, funext fun a => Fin.ext ?_⟩
  match a with
  | ⟨0, _⟩ => rfl
  | ⟨1, _⟩ => show (i 1).val = 128 * ((i 1).val / 128) + (i 1).val % 128; omega

theorem index_two (i : Cert.KernelIdeal.S4352x128.Idx) : ∃ (a : Fin 4352) (d : Fin 128), i = ix2 a d :=
  ⟨i 0, i 1, funext fun a => Fin.ext (by match a with | ⟨0, _⟩ => rfl | ⟨1, _⟩ => rfl)⟩

/-- The five results are the reference's. -/
theorem algebraic : Cert.algebraic_KernelIdeal_ReferenceIdeal_pre_finite (hPre_finite := preFacts) := by
  intro m ρ m' ρ' hpre hag
  refine ⟨_, _, _, _, _, Cert.KernelIdeal.Value.run_blocks (F := Ideal) m ρ, ?_⟩
  refine (θ_run Cert.ReferenceIdeal.defs _ _).mono (fun r h c => ?_) (Cert.ReferenceIdeal.Value.run (F := Ideal) m' ρ')
  have H := finite_of_pre m hpre c
  obtain ⟨e0, e1, e2, e3, e4, e5⟩ := hag c
  obtain ⟨h0, h1, h2, h3, h4, hk⟩ := h c
  refine ⟨h0.trans ((Cert.ReferenceIdeal.Read.val_main_v146_eq _).trans ?_), h1.trans ((Cert.ReferenceIdeal.Read.val_main_v148_eq _).trans ?_),
    h2.trans ((Cert.ReferenceIdeal.Read.val_main_v149_eq _).trans ?_), h3.trans ((Cert.ReferenceIdeal.Read.val_main_v151_eq _).trans ?_),
    h4.trans ((Cert.ReferenceIdeal.Read.val_main_v152_eq _).trans ?_), hk⟩
  · refine Eq.trans (b := Cert.ReferenceIdeal.Read.val_main_v146 (F := Ideal) _ _ _ _ _ _) (congr (congr (congr (congr (congr (congrArg _ e0) e1) e2) e3) e4) e5) ?_
    funext i
    obtain ⟨a, h, d, rfl⟩ := index_col i
    exact (out_q _ _ _ _ _ _ H a h d).symm.trans (res6 m c a h d).symm
  · refine Eq.trans (b := Cert.ReferenceIdeal.Read.val_main_v148 (F := Ideal) _ _ _ _ _ _) (congr (congr (congr (congr (congr (congrArg _ e0) e1) e2) e3) e4) e5) ?_
    funext i
    obtain ⟨a, h, d, rfl⟩ := index_col i
    exact (out_qr _ _ _ _ _ _ H a h d).symm.trans (res7 m c a h d).symm
  · refine Eq.trans (b := Cert.ReferenceIdeal.Read.val_main_v149 (F := Ideal) _ _ _ _ _ _) (congr (congr (congr (congr (congr (congrArg _ e0) e1) e2) e3) e4) e5) ?_
    funext i
    obtain ⟨a, h, d, rfl⟩ := index_col i
    exact (out_k _ _ _ _ _ _ H a h d).symm.trans (res8 m c a h d).symm
  · refine Eq.trans (b := Cert.ReferenceIdeal.Read.val_main_v151 (F := Ideal) _ _ _ _ _ _) (congr (congr (congr (congr (congr (congrArg _ e0) e1) e2) e3) e4) e5) ?_
    funext i
    obtain ⟨a, d, rfl⟩ := index_two i
    exact (out_kr _ _ _ _ _ _ H a d).symm.trans (res9 m c a d).symm
  · refine Eq.trans (b := Cert.ReferenceIdeal.Read.val_main_v152 (F := Ideal) _ _ _ _ _) (congr (congr (congr (congr (congrArg _ e0) e1) e2) e3) e5) ?_
    funext i
    obtain ⟨a, h, d, rfl⟩ := index_col i
    exact (out_v _ _ _ _ _ _ H a h d).symm.trans (res10 m c a h d).symm

/-! ## The products -/

theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- The input gradient of the feed-forward up projection: the cotangent times the weights transposed, over eight slabs of columns. -/
theorem algebraic2 : Cert.algebraic_Kernel2Ideal_Reference2Ideal := by
  intro m ρ m' ρ' _ hag
  refine ⟨_, Cert.Kernel2Ideal.Value.run (F := Ideal) m ρ, ?_⟩
  refine (θ_run Cert.Reference2Ideal.defs _ _).mono (fun r h c => ?_) (Cert.Reference2Ideal.Value.run (F := Ideal) m' ρ')
  obtain ⟨e0, e1, e2⟩ := hag c
  exact ⟨(h c).1.trans ((Cert.Reference2Ideal.Read.val_main_v4_eq _ _).trans ((congrArg₂ (Cert.Reference2Ideal.Read.val_main_v4 (F := Ideal)) e1 e2).trans (Products.K2.equation m c).symm)), (h c).2⟩

theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The weight gradient of the feed-forward up projection: the input transposed times the cotangent, slab by slab of columns. -/
theorem algebraic3 : Cert.algebraic_Kernel3Ideal_Reference3Ideal := by
  intro m ρ m' ρ' _ hag
  refine ⟨_, Cert.Kernel3Ideal.Value.run (F := Ideal) m ρ, ?_⟩
  refine (θ_run Cert.Reference3Ideal.defs _ _).mono (fun r h c => ?_) (Cert.Reference3Ideal.Value.run (F := Ideal) m' ρ')
  obtain ⟨e0, e1, e2⟩ := hag c
  exact ⟨(h c).1.trans ((Cert.Reference3Ideal.Read.val_main_v6_eq _ _).trans ((congrArg₂ (Cert.Reference3Ideal.Read.val_main_v6 (F := Ideal)) e0 e2).trans (Products.K3.equation m c).symm)), (h c).2⟩

theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The input gradient of the feed-forward down projection: the cotangent times the weights transposed, slab by slab of columns. -/
theorem algebraic4 : Cert.algebraic_Kernel4Ideal_Reference4Ideal := by
  intro m ρ m' ρ' _ hag
  refine ⟨_, Cert.Kernel4Ideal.Value.run_blocks (F := Ideal) m ρ, ?_⟩
  refine (θ_run Cert.Reference4Ideal.defs _ _).mono (fun r h c => ?_) (Cert.Reference4Ideal.Value.run (F := Ideal) m' ρ')
  obtain ⟨e0, e1, e2⟩ := hag c
  exact ⟨(h c).1.trans ((Cert.Reference4Ideal.Read.val_main_v6_eq _ _).trans ((congrArg₂ (Cert.Reference4Ideal.Read.val_main_v6 (F := Ideal)) e1 e2).trans (Products.K4.equation m c).symm)), (h c).2⟩

theorem frame_reference5 : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- The weight gradient of the feed-forward down projection: the activations transposed times the cotangent, slab by slab of rows. -/
theorem algebraic5 : Cert.algebraic_Kernel5Ideal_Reference5Ideal := by
  intro m ρ m' ρ' _ hag
  refine ⟨_, Cert.Kernel5Ideal.Value.run (F := Ideal) m ρ, ?_⟩
  refine (θ_run Cert.Reference5Ideal.defs _ _).mono (fun r h c => ?_) (Cert.Reference5Ideal.Value.run (F := Ideal) m' ρ')
  obtain ⟨e0, e1, e2⟩ := hag c
  exact ⟨(h c).1.trans ((Cert.Reference5Ideal.Read.val_main_v5_eq _ _).trans ((congrArg₂ (Cert.Reference5Ideal.Read.val_main_v5 (F := Ideal)) e0 e2).trans (Products.K5.equation m c).symm)), (h c).2⟩

theorem frame_reference6 : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- The input gradient of the input projection: the cotangent times the weights transposed. -/
theorem algebraic6 : Cert.algebraic_Kernel6Ideal_Reference6Ideal := by
  intro m ρ m' ρ' _ hag
  refine ⟨_, Cert.Kernel6Ideal.Value.run (F := Ideal) m ρ, ?_⟩
  refine (θ_run Cert.Reference6Ideal.defs _ _).mono (fun r h c => ?_) (Cert.Reference6Ideal.Value.run (F := Ideal) m' ρ')
  obtain ⟨e0, e1, e2⟩ := hag c
  exact ⟨(h c).1.trans ((Cert.Reference6Ideal.Read.val_main_v4_eq _ _).trans ((congrArg₂ (Cert.Reference6Ideal.Read.val_main_v4 (F := Ideal)) e1 e2).trans (Products.K6.equation m c).symm)), (h c).2⟩

theorem frame_reference7 : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

/-- The weight gradient of the input projection: the input transposed times the cotangent. -/
theorem algebraic7 : Cert.algebraic_Kernel7Ideal_Reference7Ideal := by
  intro m ρ m' ρ' _ hag
  refine ⟨_, Cert.Kernel7Ideal.Value.run (F := Ideal) m ρ, ?_⟩
  refine (θ_run Cert.Reference7Ideal.defs _ _).mono (fun r h c => ?_) (Cert.Reference7Ideal.Value.run (F := Ideal) m' ρ')
  obtain ⟨e0, e1, e2⟩ := hag c
  exact ⟨(h c).1.trans ((Cert.Reference7Ideal.Read.val_main_v9_eq _ _).trans ((congrArg₂ (Cert.Reference7Ideal.Read.val_main_v9 (F := Ideal)) e0 e2).trans (Products.K7.equation m c).symm)), (h c).2⟩

theorem frame_reference8 : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

/-- The feed-forward up projection: the input times the weights, slab by slab of columns. -/
theorem algebraic8 : Cert.algebraic_Kernel8Ideal_Reference8Ideal := by
  intro m ρ m' ρ' _ hag
  refine ⟨_, Cert.Kernel8Ideal.Value.run_blocks (F := Ideal) m ρ, ?_⟩
  refine (θ_run Cert.Reference8Ideal.defs _ _).mono (fun r h c => ?_) (Cert.Reference8Ideal.Value.run (F := Ideal) m' ρ')
  obtain ⟨e0, e1⟩ := hag c
  exact ⟨(h c).1.trans ((Cert.Reference8Ideal.Read.val_main_v3_eq _ _).trans ((congrArg₂ (Cert.Reference8Ideal.Read.val_main_v3 (F := Ideal)) e0 e1).trans (Products.K8.equation m c).symm)), (h c).2⟩

theorem frame_reference9 : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

/-- The feed-forward down projection: activations times weights, over eight slabs of the contracted axis. -/
theorem algebraic9 : Cert.algebraic_Kernel9Ideal_Reference9Ideal := by
  intro m ρ m' ρ' _ hag
  refine ⟨_, Cert.Kernel9Ideal.Value.run (F := Ideal) m ρ, ?_⟩
  refine (θ_run Cert.Reference9Ideal.defs _ _).mono (fun r h c => ?_) (Cert.Reference9Ideal.Value.run (F := Ideal) m' ρ')
  obtain ⟨e0, e1⟩ := hag c
  exact ⟨(h c).1.trans ((Cert.Reference9Ideal.Read.val_main_v0_eq _ _).trans ((congrArg₂ (Cert.Reference9Ideal.Read.val_main_v0 (F := Ideal)) e0 e1).trans (Products.K9.equation m c).symm)), (h c).2⟩

theorem frame_reference10 : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)

/-- The input projection: its input times the weights. -/
theorem algebraic10 : Cert.algebraic_Kernel10Ideal_Reference10Ideal := by
  intro m ρ m' ρ' _ hag
  refine ⟨_, Cert.Kernel10Ideal.Value.run_blocks (F := Ideal) m ρ, ?_⟩
  refine (θ_run Cert.Reference10Ideal.defs _ _).mono (fun r h c => ?_) (Cert.Reference10Ideal.Value.run (F := Ideal) m' ρ')
  obtain ⟨e0, e1⟩ := hag c
  exact ⟨(h c).1.trans ((Cert.Reference10Ideal.Read.val_main_v5_eq _ _).trans ((congrArg₂ (Cert.Reference10Ideal.Read.val_main_v5 (F := Ideal)) e0 e1).trans (Products.K10.equation m c).symm)), (h c).2⟩

theorem frame_reference11 : Cert.quiescent_Reference11Ideal := fun m ρ _ =>
  (θ_run Cert.Reference11Ideal.defs _ _).mono (fun r h => ⟨fun c => (h c).2, sem_eq_zero_of_no_sems (by decide) r.2⟩) (Cert.Reference11Ideal.Value.run (F := Ideal) m ρ)

/-- The output projection: its input times the weights. -/
theorem algebraic11 : Cert.algebraic_Kernel11Ideal_Reference11Ideal := by
  intro m ρ m' ρ' _ hag
  refine ⟨_, Cert.Kernel11Ideal.Value.run_blocks (F := Ideal) m ρ, ?_⟩
  refine (θ_run Cert.Reference11Ideal.defs _ _).mono (fun r h c => ?_) (Cert.Reference11Ideal.Value.run (F := Ideal) m' ρ')
  obtain ⟨e0, e1⟩ := hag c
  exact ⟨(h c).1.trans ((Cert.Reference11Ideal.Read.val_main_v0_eq _ _).trans ((congrArg₂ (Cert.Reference11Ideal.Read.val_main_v0 (F := Ideal)) e0 e1).trans (Products.K11.equation m c).symm)), (h c).2⟩

theorem frame_reference12 : Cert.quiescent_Reference12Ideal := fun m ρ _ =>
  (θ_run Cert.Reference12Ideal.defs _ _).mono (fun r h => ⟨fun c => (h c).2, sem_eq_zero_of_no_sems (by decide) r.2⟩) (Cert.Reference12Ideal.Value.run (F := Ideal) m ρ)

/-- The input gradient of the output projection: the cotangent times the weights transposed. -/
theorem algebraic12 : Cert.algebraic_Kernel12Ideal_Reference12Ideal := by
  intro m ρ m' ρ' _ hag
  refine ⟨_, Cert.Kernel12Ideal.Value.run_blocks (F := Ideal) m ρ, ?_⟩
  refine (θ_run Cert.Reference12Ideal.defs _ _).mono (fun r h c => ?_) (Cert.Reference12Ideal.Value.run (F := Ideal) m' ρ')
  obtain ⟨e0, e1, e2⟩ := hag c
  exact ⟨(h c).1.trans ((Cert.Reference12Ideal.Read.val_main_v4_eq _ _).trans ((congrArg₂ (Cert.Reference12Ideal.Read.val_main_v4 (F := Ideal)) e1 e2).trans (Products.K12.equation m c).symm)), (h c).2⟩

theorem frame_reference13 : Cert.quiescent_Reference13Ideal := fun m ρ _ =>
  (θ_run Cert.Reference13Ideal.defs _ _).mono (fun r h => ⟨fun c => (h c).2, sem_eq_zero_of_no_sems (by decide) r.2⟩) (Cert.Reference13Ideal.Value.run (F := Ideal) m ρ)

/-- The weight gradient of the output projection: its input transposed times the cotangent, in eight slabs of rows. -/
theorem algebraic13 : Cert.algebraic_Kernel13Ideal_Reference13Ideal := by
  intro m ρ m' ρ' _ hag
  refine ⟨_, Cert.Kernel13Ideal.Value.run (F := Ideal) m ρ, ?_⟩
  refine (θ_run Cert.Reference13Ideal.defs _ _).mono (fun r h c => ?_) (Cert.Reference13Ideal.Value.run (F := Ideal) m' ρ')
  obtain ⟨e0, e1, e2⟩ := hag c
  exact ⟨(h c).1.trans ((Cert.Reference13Ideal.Read.val_main_v5_eq _ _).trans ((congrArg₂ (Cert.Reference13Ideal.Read.val_main_v5 (F := Ideal)) e0 e2).trans (Products.K13.equation m c).symm)), (h c).2⟩

/-! ## The forward attention -/

theorem frame_reference14 : Cert.quiescent_Reference14Ideal := fun m ρ _ =>
  (θ_run Cert.Reference14Ideal.defs _ _).mono (fun r h => ⟨fun c => (h c).2, sem_eq_zero_of_no_sems (by decide) r.2⟩) (Cert.Reference14Ideal.Value.run (F := Ideal) m ρ)

/-- The forward attention: the softmax against the values, over all keys or over the context keys. -/
theorem algebraic14 : Cert.algebraic_Kernel14Ideal_Reference14Ideal_pre_finite_forward (hPre_finite_forward := AttFwd.preFacts) := by
  intro m ρ m' ρ' hpre hag
  refine ⟨_, Cert.Kernel14Ideal.Value.run_blocks (F := Ideal) m ρ, ?_⟩
  refine (θ_run Cert.Reference14Ideal.defs _ _).mono (fun r h c => ?_) (Cert.Reference14Ideal.Value.run (F := Ideal) m' ρ')
  obtain ⟨e0, e1, e2, e3, e4⟩ := hag c
  refine ⟨(h c).1.trans ((Cert.Reference14Ideal.Read.val_main_v47_eq _ _).trans ?_), (h c).2⟩
  refine Eq.trans (b := Cert.Reference14Ideal.Read.val_main_v47 (F := Ideal) _ _ _ _ _) (congr (congr (congr (congr (congrArg _ e0) e1) e2) e3) e4) ?_
  exact (AttFwd.equation m c hpre).symm

/-! ## The gate -/

theorem frame_reference15 : Cert.quiescent_Reference15Ideal := fun m ρ _ =>
  (θ_run Cert.Reference15Ideal.defs _ _).mono (fun r h => ⟨fun c => (h c).2.2, sem_eq_zero_of_no_sems (by decide) r.2⟩) (Cert.Reference15Ideal.Value.run (F := Ideal) m ρ)

/-- The gradients of the gated product with respect to the gate's argument and to the gated value. -/
theorem algebraic15 : Cert.algebraic_Kernel15Ideal_Reference15Ideal := by
  intro m ρ m' ρ' _ hag
  refine ⟨_, _, Cert.Kernel15Ideal.Value.run_blocks (F := Ideal) m ρ, ?_⟩
  refine (θ_run Cert.Reference15Ideal.defs _ _).mono (fun r h c => ?_) (Cert.Reference15Ideal.Value.run (F := Ideal) m' ρ')
  obtain ⟨e0, e1, e2⟩ := hag c
  refine ⟨(h c).1.trans ((Cert.Reference15Ideal.Read.val_main_v8_eq _ _ _).trans ?_), (h c).2.1.trans ((Cert.Reference15Ideal.Read.val_main_v12_eq _ _).trans ?_), (h c).2.2⟩
  · refine Eq.trans (b := Cert.Reference15Ideal.Read.val_main_v8 (F := Ideal) _ _ _) (congr (congr (congrArg _ e0) e1) e2) ?_
    exact (Gate.equation_gate m c).symm
  · exact (congrArg₂ (Cert.Reference15Ideal.Read.val_main_v12 (F := Ideal)) e0 e2).trans (Gate.equation_value m c).symm

/-! ## The convolution -/

theorem frame_reference16 : Cert.quiescent_Reference16Ideal := fun m ρ _ =>
  (θ_run Cert.Reference16Ideal.defs _ _).mono (fun r h => ⟨fun c => (h c).2, sem_eq_zero_of_no_sems (by decide) r.2⟩) (Cert.Reference16Ideal.Value.run (F := Ideal) m ρ)

/-- The gradient of the convolution with respect to its input. -/
theorem algebraic16 : Cert.algebraic_Kernel16Ideal_Reference16Ideal := by
  intro m ρ m' ρ' _ hag
  refine ⟨_, Cert.Kernel16Ideal.Value.run_blocks (F := Ideal) m ρ, ?_⟩
  refine (θ_run Cert.Reference16Ideal.defs _ _).mono (fun r h c => ?_) (Cert.Reference16Ideal.Value.run (F := Ideal) m' ρ')
  obtain ⟨e0, e1, e2⟩ := hag c
  exact ⟨(h c).1.trans ((Cert.Reference16Ideal.Read.val_main_v39_eq _ _).trans ((congrArg₂ (Cert.Reference16Ideal.Read.val_main_v39 (F := Ideal)) e1 e2).trans (Conv.K16.equation m c).symm)), (h c).2⟩

theorem frame_reference17 : Cert.quiescent_Reference17Ideal := fun m ρ _ =>
  (θ_run Cert.Reference17Ideal.defs _ _).mono (fun r h => ⟨fun c => (h c).2, sem_eq_zero_of_no_sems (by decide) r.2⟩) (Cert.Reference17Ideal.Value.run (F := Ideal) m ρ)

/-- The gradient of the convolution with respect to its weights. -/
theorem algebraic17 : Cert.algebraic_Kernel17Ideal_Reference17Ideal := by
  intro m ρ m' ρ' _ hag
  refine ⟨_, Cert.Kernel17Ideal.Value.run_blocks (F := Ideal) m ρ, ?_⟩
  refine (θ_run Cert.Reference17Ideal.defs _ _).mono (fun r h c => ?_) (Cert.Reference17Ideal.Value.run (F := Ideal) m' ρ')
  obtain ⟨e0, e1, e2⟩ := hag c
  exact ⟨(h c).1.trans ((Cert.Reference17Ideal.Read.val_main_v37_eq _ _).trans ((congrArg₂ (Cert.Reference17Ideal.Read.val_main_v37 (F := Ideal)) e0 e2).trans (Conv.K17.equation m c).symm)), (h c).2⟩

theorem frame_reference18 : Cert.quiescent_Reference18Ideal := fun m ρ _ =>
  (θ_run Cert.Reference18Ideal.defs _ _).mono (fun r h => ⟨fun c => (h c).2, sem_eq_zero_of_no_sems (by decide) r.2⟩) (Cert.Reference18Ideal.Value.run (F := Ideal) m ρ)

/-- The convolution's forward pass. -/
theorem algebraic18 : Cert.algebraic_Kernel18Ideal_Reference18Ideal := by
  intro m ρ m' ρ' _ hag
  refine ⟨_, Cert.Kernel18Ideal.Value.run_blocks (F := Ideal) m ρ, ?_⟩
  refine (θ_run Cert.Reference18Ideal.defs _ _).mono (fun r h c => ?_) (Cert.Reference18Ideal.Value.run (F := Ideal) m' ρ')
  obtain ⟨e0, e1⟩ := hag c
  exact ⟨(h c).1.trans ((Cert.Reference18Ideal.Read.val_main_v30_eq _ _).trans ((congrArg₂ (Cert.Reference18Ideal.Read.val_main_v30 (F := Ideal)) e0 e1).trans (Conv.K18.equation m c).symm)), (h c).2⟩

theorem frame_reference19 : Cert.quiescent_Reference19Ideal := fun m ρ _ =>
  (θ_run Cert.Reference19Ideal.defs _ _).mono (fun r h => ⟨fun c => (h c).2, sem_eq_zero_of_no_sems (by decide) r.2⟩) (Cert.Reference19Ideal.Value.run (F := Ideal) m ρ)

/-- The gate's forward pass. -/
theorem algebraic19 : Cert.algebraic_Kernel19Ideal_Reference19Ideal := by
  intro m ρ m' ρ' _ hag
  refine ⟨_, Cert.Kernel19Ideal.Value.run_blocks (F := Ideal) m ρ, ?_⟩
  refine (θ_run Cert.Reference19Ideal.defs _ _).mono (fun r h c => ?_) (Cert.Reference19Ideal.Value.run (F := Ideal) m' ρ')
  obtain ⟨e0, e1⟩ := hag c
  exact ⟨(h c).1.trans ((Cert.Reference19Ideal.Read.val_main_v5_eq _ _).trans ((congrArg₂ (Cert.Reference19Ideal.Read.val_main_v5 (F := Ideal)) e0 e1).trans (Gate.F19.equation m c).symm)), (h c).2⟩

theorem frame_reference20 : Cert.quiescent_Reference20Ideal := fun m ρ _ =>
  (θ_run Cert.Reference20Ideal.defs _ _).mono (fun r h => ⟨fun c => (h c).2.2, sem_eq_zero_of_no_sems (by decide) r.2⟩) (Cert.Reference20Ideal.Value.run (F := Ideal) m ρ)

/-- The gated linear unit's backward pass. -/
theorem algebraic20 : Cert.algebraic_Kernel20Ideal_Reference20Ideal := by
  intro m ρ m' ρ' _ hag
  refine ⟨_, _, Cert.Kernel20Ideal.Value.run (F := Ideal) m ρ, ?_⟩
  refine (θ_run Cert.Reference20Ideal.defs _ _).mono (fun r h c => ?_) (Cert.Reference20Ideal.Value.run (F := Ideal) m' ρ')
  obtain ⟨e0, e1, e2⟩ := hag c
  refine ⟨(h c).1.trans ((Cert.Reference20Ideal.Read.val_main_v11_eq _ _).trans ?_), (h c).2.1.trans ((Cert.Reference20Ideal.Read.val_main_v12_eq _ _ _).trans ?_), (h c).2.2⟩
  · exact (congrArg₂ (Cert.Reference20Ideal.Read.val_main_v11 (F := Ideal)) e1 e2).trans (Glu.equation_value _ _).symm
  · refine Eq.trans (b := Cert.Reference20Ideal.Read.val_main_v12 (F := Ideal) _ _ _) (congr (congr (congrArg _ e0) e1) e2) ?_
    exact (Glu.equation_gate _ _ _).symm

theorem frame_reference21 : Cert.quiescent_Reference21Ideal := fun m ρ _ =>
  (θ_run Cert.Reference21Ideal.defs _ _).mono (fun r h => ⟨fun c => (h c).2.2, sem_eq_zero_of_no_sems (by decide) r.2⟩) (Cert.Reference21Ideal.Value.run (F := Ideal) m ρ)

/-- The root-mean-square norm's backward pass. -/
theorem algebraic21 : Cert.algebraic_Kernel21Ideal_Reference21Ideal := by
  intro m ρ m' ρ' _ hag
  refine ⟨_, _, Cert.Kernel21Ideal.Value.run_blocks (F := Ideal) m ρ, ?_⟩
  refine (θ_run Cert.Reference21Ideal.defs _ _).mono (fun r h c => ?_) (Cert.Reference21Ideal.Value.run (F := Ideal) m' ρ')
  obtain ⟨e0, e1, e2⟩ := hag c
  refine ⟨(h c).1.trans ((Cert.Reference21Ideal.Read.val_main_v35_eq _ _ _).trans ?_), (h c).2.1.trans ((Cert.Reference21Ideal.Read.val_main_v36_eq _ _).trans ?_), (h c).2.2⟩
  · refine Eq.trans (b := Cert.Reference21Ideal.Read.val_main_v35 (F := Ideal) _ _ _) (congr (congr (congrArg _ e0) e1) e2) ?_
    exact (Norm.K21.rows_equation m c).symm
  · exact (congrArg₂ (Cert.Reference21Ideal.Read.val_main_v36 (F := Ideal)) e0 e2).trans (Norm.K21.sum_equation m c).symm

theorem frame_reference22 : Cert.quiescent_Reference22Ideal := fun m ρ _ =>
  (θ_run Cert.Reference22Ideal.defs _ _).mono (fun r h => ⟨fun c => (h c).2, sem_eq_zero_of_no_sems (by decide) r.2⟩) (Cert.Reference22Ideal.Value.run (F := Ideal) m ρ)

/-- The gradient of the convolution with respect to its input. -/
theorem algebraic22 : Cert.algebraic_Kernel22Ideal_Reference22Ideal := by
  intro m ρ m' ρ' _ hag
  refine ⟨_, Cert.Kernel22Ideal.Value.run_blocks (F := Ideal) m ρ, ?_⟩
  refine (θ_run Cert.Reference22Ideal.defs _ _).mono (fun r h c => ?_) (Cert.Reference22Ideal.Value.run (F := Ideal) m' ρ')
  obtain ⟨e0, e1, e2⟩ := hag c
  exact ⟨(h c).1.trans ((Cert.Reference22Ideal.Read.val_main_v39_eq _ _).trans ((congrArg₂ (Cert.Reference22Ideal.Read.val_main_v39 (F := Ideal)) e1 e2).trans (Conv.K22.equation m c).symm)), (h c).2⟩

theorem frame_reference23 : Cert.quiescent_Reference23Ideal := fun m ρ _ =>
  (θ_run Cert.Reference23Ideal.defs _ _).mono (fun r h => ⟨fun c => (h c).2, sem_eq_zero_of_no_sems (by decide) r.2⟩) (Cert.Reference23Ideal.Value.run (F := Ideal) m ρ)

/-- The gradient of the convolution with respect to its weights. -/
theorem algebraic23 : Cert.algebraic_Kernel23Ideal_Reference23Ideal := by
  intro m ρ m' ρ' _ hag
  refine ⟨_, Cert.Kernel23Ideal.Value.run_blocks (F := Ideal) m ρ, ?_⟩
  refine (θ_run Cert.Reference23Ideal.defs _ _).mono (fun r h c => ?_) (Cert.Reference23Ideal.Value.run (F := Ideal) m' ρ')
  obtain ⟨e0, e1, e2⟩ := hag c
  exact ⟨(h c).1.trans ((Cert.Reference23Ideal.Read.val_main_v37_eq _ _).trans ((congrArg₂ (Cert.Reference23Ideal.Read.val_main_v37 (F := Ideal)) e0 e2).trans (Conv.K23.equation m c).symm)), (h c).2⟩

theorem frame_reference24 : Cert.quiescent_Reference24Ideal := fun m ρ _ =>
  (θ_run Cert.Reference24Ideal.defs _ _).mono (fun r h => ⟨fun c => (h c).2, sem_eq_zero_of_no_sems (by decide) r.2⟩) (Cert.Reference24Ideal.Value.run (F := Ideal) m ρ)

/-- The three-tap convolution's forward pass. -/
theorem algebraic24 : Cert.algebraic_Kernel24Ideal_Reference24Ideal := by
  intro m ρ m' ρ' _ hag
  refine ⟨_, Cert.Kernel24Ideal.Value.run_blocks (F := Ideal) m ρ, ?_⟩
  refine (θ_run Cert.Reference24Ideal.defs _ _).mono (fun r h c => ?_) (Cert.Reference24Ideal.Value.run (F := Ideal) m' ρ')
  obtain ⟨e0, e1⟩ := hag c
  exact ⟨(h c).1.trans ((Cert.Reference24Ideal.Read.val_main_v30_eq _ _).trans ((congrArg₂ (Cert.Reference24Ideal.Read.val_main_v30 (F := Ideal)) e0 e1).trans (Conv.K24.equation m c).symm)), (h c).2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  preFacts, AttFwd.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, fun m ρ _ => Cert.Kernel14Ideal.Gen.frame m ρ,
  frame_reference14, fun m ρ _ => frame_reference14 m ρ trivial,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  IdealRules.named_const.statement Cert.KernelIdeal.κ "mask" .f32 0xF149F2CA#32 ⊥ rfl, algebraic,
  trivial, algebraic2,
  trivial, algebraic3,
  trivial, algebraic4,
  trivial, algebraic5,
  trivial, algebraic6,
  trivial, algebraic7,
  trivial, algebraic8,
  trivial, algebraic9,
  trivial, algebraic10,
  trivial, algebraic11,
  trivial, algebraic12,
  trivial, algebraic13,
  IdealRules.named_const.statement Cert.Kernel14Ideal.κ "mask" .f32 0xF149F2CA#32 ⊥ rfl, algebraic14,
  trivial, algebraic15,
  trivial, algebraic16,
  trivial, algebraic17,
  trivial, algebraic18,
  trivial, algebraic19,
  trivial, algebraic20,
  trivial, algebraic21,
  trivial, algebraic22,
  trivial, algebraic23,
  trivial, algebraic24⟩

end Cert.Proof

end
